-- ==== Defs.lean ====
def Pre_Kernel [hPre_pixels : Cert.Pre_pixels.Facts] (m : (ℓ : Loc Cert.Kernel.nD Cert.Kernel.τ Cert.Kernel.sig) → Buf (Elt Bits) ℓ) : Prop :=
  ∀ c : Dev Cert.Kernel.nD,
    (Cert.Pre_pixels.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pixels : Cert.Pre_pixels.Facts] (m : (ℓ : Loc Cert.KernelIdeal.nD Cert.KernelIdeal.τ Cert.KernelIdeal.sig) → Buf (Elt Ideal) ℓ) : Prop :=
  ∀ c : Dev Cert.KernelIdeal.nD,
    (Cert.Pre_pixels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_square_blocks [hPre_square_blocks : Cert.Pre_square_blocks.Facts] (m : (ℓ : Loc Cert.KernelIdeal.nD Cert.KernelIdeal.τ Cert.KernelIdeal.sig) → Buf (Elt Ideal) ℓ) : Prop :=
  ∀ c : Dev Cert.KernelIdeal.nD,
    (Cert.Pre_square_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_square_blocks [hPre_square_blocks : Cert.Pre_square_blocks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_square_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pixels : Cert.Pre_pixels.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pixels : Cert.Pre_pixels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_square_blocks [hKernelIdeal : Cert.KernelIdeal.Facts] [hPre_square_blocks : Cert.Pre_square_blocks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_square_blocks m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_square_blocks [hReferenceIdeal : Cert.ReferenceIdeal.Facts] [hPre_square_blocks : Cert.Pre_square_blocks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_square_blocks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_square_blocks [hKernelIdeal : Cert.KernelIdeal.Facts] [hReferenceIdeal : Cert.ReferenceIdeal.Facts] [hPre_square_blocks : Cert.Pre_square_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_square_blocks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pixels : Cert.Pre_pixels.Facts) (hPre_square_blocks : Cert.Pre_square_blocks.Facts),
    quiescent_Kernel (hKernel := hKernel) (hPre_pixels := hPre_pixels)
    ∧ quiescent_KernelIdeal (hKernelIdeal := hKernelIdeal) (hPre_pixels := hPre_pixels)
    ∧ quiescent_KernelIdeal_pre_square_blocks (hKernelIdeal := hKernelIdeal) (hPre_square_blocks := hPre_square_blocks)
    ∧ quiescent_ReferenceIdeal (hReferenceIdeal := hReferenceIdeal)
    ∧ quiescent_ReferenceIdeal_pre_square_blocks (hReferenceIdeal := hReferenceIdeal) (hPre_square_blocks := hPre_square_blocks)
    ∧ preserves_Kernel_KernelIdeal
    ∧ algebraic_KernelIdeal_ReferenceIdeal_pre_square_blocks (hKernelIdeal := hKernelIdeal) (hReferenceIdeal := hReferenceIdeal) (hPre_square_blocks := hPre_square_blocks)
-- ==== Pre_pixels.lean ====
abbrev S2x512x512x96 : Shape := ⟨4, ![2, 512, 512, 96]⟩
abbrev S262144 : Shape := ⟨1, ![262144]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel

variable [Facts]

def fn {F : FTy → Type} [FloatOps F] (main_arg0 : FVec F S2x512x512x96 .f32) (main_arg1 : IVec S262144 32) : IVec S_ 1 :=
  let main_c : IVec S_ 32 := constantI S_ 32 0#32
  let main_v0 : IVec S262144 32 := broadcastInDim S262144 ![] bcast_S_S262144 main_c
  let main_v1 : IVec S262144 1 := cmpi .sge main_arg1 main_v0
  let main_c_0 : IVec S_ 32 := constantI S_ 32 262144#32
  let main_v2 : IVec S262144 32 := broadcastInDim S262144 ![] bcast_S_S262144 main_c_0
  let main_v3 : IVec S262144 1 := cmpi .slt main_arg1 main_v2
  let main_v4 : IVec S262144 1 := andi main_v1 main_v3
  let main_c_1 : IVec S_ 1 := constantI S_ 1 1#1
  let main_v5 : IVec S_ 1 := (fun x v => Host.reduce IntOp.andi x v reducesTo_S262144_S_d0 h_S_) main_v4 main_c_1
  main_v5
-- ==== Pre_square_blocks.lean ====
abbrev S2x512x512x96 : Shape := ⟨4, ![2, 512, 512, 96]⟩
abbrev S262144 : Shape := ⟨1, ![262144]⟩
abbrev S1024x256 : Shape := ⟨2, ![1024, 256]⟩
abbrev S1024x1 : Shape := ⟨2, ![1024, 1]⟩
abbrev S_ : Shape := ⟨0, ![]⟩

class Facts : Prop where
  shapeCasts_S262144_S1024x256 : S262144.ShapeCasts S1024x256
  slices_S1024x256_S1024x1_0_0 : S1024x256.Slices ![0, 0] S1024x1
  bcast_S_S1024x256 : S_.BroadcastsInDim S1024x256 (![] : Fin 0 → Fin S1024x256.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  reducesTo_S1024x256_S_d0_1 : S1024x256.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn_part1 {F : FTy → Type} [FloatOps F] (main_arg1 : IVec S262144 32) (main_v8 : IVec S_ 1) (main_v12 : IVec S1024x256 32) (main_v16 : IVec S1024x1 32) : IVec S_ 1 :=
  let main_v17 : IVec S1024x256 32 := broadcastInDim S1024x256 ![0, 1] bcast_S1024x1_S1024x256_0_1 main_v16
  let main_v18 : IVec S1024x256 1 := cmpi .eq main_v12 main_v17
  let main_c_6 : IVec S_ 1 := constantI S_ 1 1#1
  let main_v19 : IVec S_ 1 := (fun x v => Host.reduce IntOp.andi x v reducesTo_S1024x256_S_d0_1 h_S_) main_v18 main_c_6
  let main_c_7 : IVec S_ 32 := constantI S_ 32 0#32
  let main_v20 : IVec S262144 32 := broadcastInDim S262144 ![] bcast_S_S262144 main_c_7
  let main_v21 : IVec S262144 1 := cmpi .sge main_arg1 main_v20
  let main_c_8 : IVec S_ 32 := constantI S_ 32 262144#32
  let main_v22 : IVec S262144 32 := broadcastInDim S262144 ![] bcast_S_S262144 main_c_8
  let main_v23 : IVec S262144 1 := cmpi .slt main_arg1 main_v22
  let main_v24 : IVec S262144 1 := andi main_v21 main_v23
  let main_c_9 : IVec S_ 1 := constantI S_ 1 1#1
  let main_v25 : IVec S_ 1 := (fun x v => Host.reduce IntOp.andi x v reducesTo_S262144_S_d0 h_S_) main_v24 main_c_9
  let main_v26 : IVec S_ 1 := andi main_v25 main_v8
  let main_v27 : IVec S_ 1 := andi main_v26 main_v19
  main_v27

def fn {F : FTy → Type} [FloatOps F] (main_arg0 : FVec F S2x512x512x96 .f32) (main_arg1 : IVec S262144 32) : IVec S_ 1 :=
  let main_v0 : IVec S1024x256 32 := shapeCast S1024x256 main_arg1 shapeCasts_S262144_S1024x256
  let main_v1 : IVec S1024x1 32 := (extractStridedSlice S1024x1 ![0, 0] · slices_S1024x256_S1024x1_0_0) main_v0
  let main_c : IVec S_ 32 := constantI S_ 32 13#32
  let main_v2 : IVec S1024x256 32 := broadcastInDim S1024x256 ![] bcast_S_S1024x256 main_c
  let main_v3 : IVec S1024x256 32 := Host.shrsi main_v0 main_v2
  let main_c_0 : IVec S_ 32 := constantI S_ 32 13#32
  let main_v4 : IVec S1024x1 32 := broadcastInDim S1024x1 ![] bcast_S_S1024x1 main_c_0
  let main_v5 : IVec S1024x1 32 := Host.shrsi main_v1 main_v4
  let main_v6 : IVec S1024x256 32 := broadcastInDim S1024x256 ![0, 1] bcast_S1024x1_S1024x256_0_1 main_v5
  let main_v7 : IVec S1024x256 1 := cmpi .eq main_v3 main_v6
  let main_c_1 : IVec S_ 1 := constantI S_ 1 1#1
  let main_v8 : IVec S_ 1 := (fun x v => Host.reduce IntOp.andi x v reducesTo_S1024x256_S_d0_1 h_S_) main_v7 main_c_1
  let main_c_2 : IVec S_ 32 := constantI S_ 32 511#32
  let main_v9 : IVec S1024x256 32 := broadcastInDim S1024x256 ![] bcast_S_S1024x256 main_c_2
  let main_v10 : IVec S1024x256 32 := andi main_v0 main_v9
  let main_c_3 : IVec S_ 32 := constantI S_ 32 4#32
  let main_v11 : IVec S1024x256 32 := broadcastInDim S1024x256 ![] bcast_S_S1024x256 main_c_3
  let main_v12 : IVec S1024x256 32 := Host.shrsi main_v10 main_v11
  let main_c_4 : IVec S_ 32 := constantI S_ 32 511#32
  let main_v13 : IVec S1024x1 32 := broadcastInDim S1024x1 ![] bcast_S_S1024x1 main_c_4
  let main_v14 : IVec S1024x1 32 := andi main_v1 main_v13
  let main_c_5 : IVec S_ 32 := constantI S_ 32 4#32
  let main_v15 : IVec S1024x1 32 := broadcastInDim S1024x1 ![] bcast_S_S1024x1 main_c_5
  let main_v16 : IVec S1024x1 32 := Host.shrsi main_v14 main_v15
  fn_part1 (F := F) main_arg1 main_v8 main_v12 main_v16
-- ==== Kernel.lean ====
abbrev S2x512x512x96 : Shape := ⟨4, ![2, 512, 512, 96]⟩
abbrev S262144 : Shape := ⟨1, ![262144]⟩
abbrev S524288x96 : Shape := ⟨2, ![524288, 96]⟩
abbrev S2048x128 : Shape := ⟨2, ![2048, 128]⟩
abbrev S128x128 : Shape := ⟨2, ![128, 128]⟩
abbrev S2x16x16x96 : Shape := ⟨4, ![2, 16, 16, 96]⟩
abbrev S2x128x96 : Shape := ⟨3, ![2, 128, 96]⟩
abbrev S_ : Shape := ⟨0, ![]⟩
abbrev S1x16 : Shape := ⟨2, ![1, 16]⟩
abbrev S16 : Shape := ⟨1, ![16]⟩
abbrev S1 : Shape := ⟨1, ![1]⟩
abbrev S1x1x16x96 : Shape := ⟨4, ![1, 1, 16, 96]⟩
abbrev S16x96 : Shape := ⟨2, ![16, 96]⟩
abbrev S1x128x96 : Shape := ⟨3, ![1, 128, 96]⟩
abbrev S128x96 : Shape := ⟨2, ![128, 96]⟩
abbrev S1x1x1x16 : Shape := ⟨4, ![1, 1, 1, 16]⟩
abbrev S1x1x16 : Shape := ⟨3, ![1, 1, 16]⟩
abbrev S2x262144x96 : Shape := ⟨3, ![2, 262144, 96]⟩

abbrev nBuf : Table → Nat
  | .hbm => 6
  | .local .scVector .vmem => 3
  | _ => 0

abbrev bufTy : (tb : Table) → Fin (nBuf tb) → BufTy
  | .hbm, ⟨0, _⟩ => ⟨S2x512x512x96, .f32⟩
  | .hbm, ⟨1, _⟩ => ⟨S262144, .i32⟩
  | .hbm, ⟨2, _⟩ => ⟨S524288x96, .f32⟩
  | .hbm, ⟨3, _⟩ => ⟨S2048x128, .i32⟩
  | .hbm, ⟨4, _⟩ => ⟨S524288x96, .f32⟩
  | .hbm, ⟨5, _⟩ => ⟨S2x262144x96, .f32⟩
  | .local .scVector .vmem, ⟨0, _⟩ => ⟨S128x128, .i32⟩
  | .local .scVector .vmem, ⟨1, _⟩ => ⟨S2x16x16x96, .f32⟩
  | .local .scVector .vmem, ⟨2, _⟩ => ⟨S2x128x96, .f32⟩
  | _, _ => ⟨S2x512x512x96, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  let c0_i32_309_r0 : BitVec 32 := 0#32
  ![v30.toNat, 0]
def k0_mult1 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  v45

def k0_mult2 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c0_i32_14 : BitVec 32 := 0#32
  let v47 : BitVec 32 := Scalar.addi v46 c0_i32_14
  v47
def k0_off2 (i : grid0.Coords) (v35 : BitVec 32) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let v47 : BitVec 32 := Scalar.addi v46 c0_i32_14
  let v48 : BitVec 32 := v47
  let c0_i32_19 : BitVec 32 := 0#32
  ![v48.toNat, 0]
def k0_mult3 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c512_i32_23 : BitVec 32 := 512#32
  let v55 : BitVec 32 := Scalar.addi v46 c512_i32_23
  v55
def k0_mult4 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c1024_i32 : BitVec 32 := 1024#32
  let v63 : BitVec 32 := Scalar.addi v46 c1024_i32
  v63
def k0_mult5 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c1536_i32 : BitVec 32 := 1536#32
  let v71 : BitVec 32 := Scalar.addi v46 c1536_i32
  v71
def k0_mult6 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c2048_i32 : BitVec 32 := 2048#32
  let v79 : BitVec 32 := Scalar.addi v46 c2048_i32
  v79
def k0_mult7 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c2560_i32 : BitVec 32 := 2560#32
  let v87 : BitVec 32 := Scalar.addi v46 c2560_i32
  v87
def k0_mult8 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c3072_i32 : BitVec 32 := 3072#32
  let v95 : BitVec 32 := Scalar.addi v46 c3072_i32
  v95
def k0_mult9 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c3584_i32 : BitVec 32 := 3584#32
  let v103 : BitVec 32 := Scalar.addi v46 c3584_i32
  v103
def k0_mult10 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c4096_i32 : BitVec 32 := 4096#32
  let v111 : BitVec 32 := Scalar.addi v46 c4096_i32
  v111
def k0_mult11 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c4608_i32 : BitVec 32 := 4608#32
  let v119 : BitVec 32 := Scalar.addi v46 c4608_i32
  v119
def k0_mult12 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c5120_i32 : BitVec 32 := 5120#32
  let v127 : BitVec 32 := Scalar.addi v46 c5120_i32
  v127
def k0_mult13 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c5632_i32 : BitVec 32 := 5632#32
  let v135 : BitVec 32 := Scalar.addi v46 c5632_i32
  v135
def k0_mult14 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c6144_i32 : BitVec 32 := 6144#32
  let v143 : BitVec 32 := Scalar.addi v46 c6144_i32
  v143
def k0_mult15 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c6656_i32 : BitVec 32 := 6656#32
  let v151 : BitVec 32 := Scalar.addi v46 c6656_i32
  v151
def k0_mult16 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c7168_i32 : BitVec 32 := 7168#32
  let v159 : BitVec 32 := Scalar.addi v46 c7168_i32
  v159
def k0_mult17 (i : grid0.Coords) (v35 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32 : BitVec 32 := 262144#32
  let v42 : BitVec 32 := Scalar.muli v19 c262144_i32
  let c9_i32 : BitVec 32 := 9#32
  let v36 : BitVec 32 := Scalar.shrsi v35 c9_i32
  let c4_i32 : BitVec 32 := 4#32
  let v37 : BitVec 32 := Scalar.shrsi v36 c4_i32
  let c4_i32_11 : BitVec 32 := 4#32
  let v38 : BitVec 32 := Scalar.shli v37 c4_i32_11
  let c512_i32 : BitVec 32 := 512#32
  let v43 : BitVec 32 := Scalar.muli v38 c512_i32
  let v44 : BitVec 32 := Scalar.addi v42 v43
  let c511_i32 : BitVec 32 := 511#32
  let v39 : BitVec 32 := Scalar.andi v35 c511_i32
  let c4_i32_12 : BitVec 32 := 4#32
  let v40 : BitVec 32 := Scalar.shrsi v39 c4_i32_12
  let c4_i32_13 : BitVec 32 := 4#32
  let v41 : BitVec 32 := Scalar.shli v40 c4_i32_13
  let v45 : BitVec 32 := Scalar.addi v44 v41
  let v46 : BitVec 32 := v45
  let c7680_i32 : BitVec 32 := 7680#32
  let v167 : BitVec 32 := Scalar.addi v46 c7680_i32
  v167

def k0_chk1 (i : grid0.Coords) (v35 : BitVec 32) : Prop :=
  (16 ∣ (k0_mult1 i v35).toNat) ∧
  (16 ∣ (k0_mult2 i v35).toNat) ∧
  (∀ (r : Fin 16), ∀ a, (k0_off2 i v35 (BitVec.ofNat 32 (512 * r.val))) a + S16x96.size a ≤ S524288x96.size a) ∧
  (16 ∣ (k0_mult3 i v35).toNat) ∧
  (16 ∣ (k0_mult4 i v35).toNat) ∧
  (16 ∣ (k0_mult5 i v35).toNat) ∧
  (16 ∣ (k0_mult6 i v35).toNat) ∧
  (16 ∣ (k0_mult7 i v35).toNat) ∧
  (16 ∣ (k0_mult8 i v35).toNat) ∧
  (16 ∣ (k0_mult9 i v35).toNat) ∧
  (16 ∣ (k0_mult10 i v35).toNat) ∧
  (16 ∣ (k0_mult11 i v35).toNat) ∧
  (16 ∣ (k0_mult12 i v35).toNat) ∧
  (16 ∣ (k0_mult13 i v35).toNat) ∧
  (16 ∣ (k0_mult14 i v35).toNat) ∧
  (16 ∣ (k0_mult15 i v35).toNat) ∧
  (16 ∣ (k0_mult16 i v35).toNat) ∧
  (16 ∣ (k0_mult17 i v35).toNat)
theorem k0_mult1_dvd : ∀ (i : grid0.Coords) (v35 : BitVec 32) (k0_hw1 : k0_chk1 i v35), 16 ∣ (k0_mult1 i v35).toNat := fun i v35 k0_hw1 => k0_hw1.1
theorem k0_mult2_dvd : ∀ (i : grid0.Coords) (v35 : BitVec 32) (k0_hw1 : k0_chk1 i v35), 16 ∣ (k0_mult2 i v35).toNat := fun i v35 k0_hw1 => k0_hw1.2.1
theorem k0_off2_inb : ∀ (i : grid0.Coords) (v35 : BitVec 32) (k0_hw1 : k0_chk1 i v35), ∀ (r : Fin 16), ∀ a, (k0_off2 i v35 (BitVec.ofNat 32 (512 * r.val))) a + S16x96.size a ≤ S524288x96.size a := fun i v35 k0_hw1 r => k0_hw1.2.2.1 r
theorem k0_mult3_dvd : ∀ (i : grid0.Coords) (v35 : BitVec 32) (k0_hw1 : k0_chk1 i v35), 16 ∣ (k0_mult3 i v35).toNat := fun i v35 k0_hw1 => k0_hw1.2.2.2.1
theorem k0_mult4_dvd : ∀ (i : grid0.Coords) (v35 : BitVec 32) (k0_hw1 : k0_chk1 i v35), 16 ∣ (k0_mult4 i v35).toNat := fun i v35 k0_hw1 => k0_hw1.2.2.2.2.1
theorem k0_mult5_dvd : ∀ (i : grid0.Coords) (v35 : BitVec 32) (k0_hw1 : k0_chk1 i v35), 16 ∣ (k0_mult5 i v35).toNat := fun i v35 k0_hw1 => k0_hw1.2.2.2.2.2.1
theorem k0_mult6_dvd : ∀ (i : grid0.Coords) (v35 : BitVec 32) (k0_hw1 : k0_chk1 i v35), 16 ∣ (k0_mult6 i v35).toNat := fun i v35 k0_hw1 => k0_hw1.2.2.2.2.2.2.1
theorem k0_mult7_dvd : ∀ (i : grid0.Coords) (v35 : BitVec 32) (k0_hw1 : k0_chk1 i v35), 16 ∣ (k0_mult7 i v35).toNat := fun i v35 k0_hw1 => k0_hw1.2.2.2.2.2.2.2.1
theorem k0_mult8_dvd : ∀ (i : grid0.Coords) (v35 : BitVec 32) (k0_hw1 : k0_chk1 i v35), 16 ∣ (k0_mult8 i v35).toNat := fun i v35 k0_hw1 => k0_hw1.2.2.2.2.2.2.2.2.1
theorem k0_mult9_dvd : ∀ (i : grid0.Coords) (v35 : BitVec 32) (k0_hw1 : k0_chk1 i v35), 16 ∣ (k0_mult9 i v35).toNat := fun i v35 k0_hw1 => k0_hw1.2.2.2.2.2.2.2.2.2.1
theorem k0_mult10_dvd : ∀ (i : grid0.Coords) (v35 : BitVec 32) (k0_hw1 : k0_chk1 i v35), 16 ∣ (k0_mult10 i v35).toNat := fun i v35 k0_hw1 => k0_hw1.2.2.2.2.2.2.2.2.2.2.1
theorem k0_mult11_dvd : ∀ (i : grid0.Coords) (v35 : BitVec 32) (k0_hw1 : k0_chk1 i v35), 16 ∣ (k0_mult11 i v35).toNat := fun i v35 k0_hw1 => k0_hw1.2.2.2.2.2.2.2.2.2.2.2.1
theorem k0_mult12_dvd : ∀ (i : grid0.Coords) (v35 : BitVec 32) (k0_hw1 : k0_chk1 i v35), 16 ∣ (k0_mult12 i v35).toNat := fun i v35 k0_hw1 => k0_hw1.2.2.2.2.2.2.2.2.2.2.2.2.1
theorem k0_mult13_dvd : ∀ (i : grid0.Coords) (v35 : BitVec 32) (k0_hw1 : k0_chk1 i v35), 16 ∣ (k0_mult13 i v35).toNat := fun i v35 k0_hw1 => k0_hw1.2.2.2.2.2.2.2.2.2.2.2.2.2.1
theorem k0_mult14_dvd : ∀ (i : grid0.Coords) (v35 : BitVec 32) (k0_hw1 : k0_chk1 i v35), 16 ∣ (k0_mult14 i v35).toNat := fun i v35 k0_hw1 => k0_hw1.2.2.2.2.2.2.2.2.2.2.2.2.2.2.1
theorem k0_mult15_dvd : ∀ (i : grid0.Coords) (v35 : BitVec 32) (k0_hw1 : k0_chk1 i v35), 16 ∣ (k0_mult15 i v35).toNat := fun i v35 k0_hw1 => k0_hw1.2.2.2.2.2.2.2.2.2.2.2.2.2.2.2.1
theorem k0_mult16_dvd : ∀ (i : grid0.Coords) (v35 : BitVec 32) (k0_hw1 : k0_chk1 i v35), 16 ∣ (k0_mult16 i v35).toNat := fun i v35 k0_hw1 => k0_hw1.2.2.2.2.2.2.2.2.2.2.2.2.2.2.2.2.1
theorem k0_mult17_dvd : ∀ (i : grid0.Coords) (v35 : BitVec 32) (k0_hw1 : k0_chk1 i v35), 16 ∣ (k0_mult17 i v35).toNat := fun i v35 k0_hw1 => k0_hw1.2.2.2.2.2.2.2.2.2.2.2.2.2.2.2.2.2

def k0_mult18 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  v189

def k0_mult19 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c0_i32_143 : BitVec 32 := 0#32
  let v191 : BitVec 32 := Scalar.addi v190 c0_i32_143
  v191
def k0_off3 (i : grid0.Coords) (v179 : BitVec 32) (c0_i32_143 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let v191 : BitVec 32 := Scalar.addi v190 c0_i32_143
  let v192 : BitVec 32 := v191
  let c0_i32_148 : BitVec 32 := 0#32
  ![v192.toNat, 0]
def k0_mult20 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c512_i32_152 : BitVec 32 := 512#32
  let v199 : BitVec 32 := Scalar.addi v190 c512_i32_152
  v199
def k0_mult21 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c1024_i32_161 : BitVec 32 := 1024#32
  let v207 : BitVec 32 := Scalar.addi v190 c1024_i32_161
  v207
def k0_mult22 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c1536_i32_170 : BitVec 32 := 1536#32
  let v215 : BitVec 32 := Scalar.addi v190 c1536_i32_170
  v215
def k0_mult23 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c2048_i32_179 : BitVec 32 := 2048#32
  let v223 : BitVec 32 := Scalar.addi v190 c2048_i32_179
  v223
def k0_mult24 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c2560_i32_188 : BitVec 32 := 2560#32
  let v231 : BitVec 32 := Scalar.addi v190 c2560_i32_188
  v231
def k0_mult25 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c3072_i32_197 : BitVec 32 := 3072#32
  let v239 : BitVec 32 := Scalar.addi v190 c3072_i32_197
  v239
def k0_mult26 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c3584_i32_206 : BitVec 32 := 3584#32
  let v247 : BitVec 32 := Scalar.addi v190 c3584_i32_206
  v247
def k0_mult27 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c4096_i32_215 : BitVec 32 := 4096#32
  let v255 : BitVec 32 := Scalar.addi v190 c4096_i32_215
  v255
def k0_mult28 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c4608_i32_224 : BitVec 32 := 4608#32
  let v263 : BitVec 32 := Scalar.addi v190 c4608_i32_224
  v263
def k0_mult29 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c5120_i32_233 : BitVec 32 := 5120#32
  let v271 : BitVec 32 := Scalar.addi v190 c5120_i32_233
  v271
def k0_mult30 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c5632_i32_242 : BitVec 32 := 5632#32
  let v279 : BitVec 32 := Scalar.addi v190 c5632_i32_242
  v279
def k0_mult31 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c6144_i32_251 : BitVec 32 := 6144#32
  let v287 : BitVec 32 := Scalar.addi v190 c6144_i32_251
  v287
def k0_mult32 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c6656_i32_260 : BitVec 32 := 6656#32
  let v295 : BitVec 32 := Scalar.addi v190 c6656_i32_260
  v295
def k0_mult33 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c7168_i32_269 : BitVec 32 := 7168#32
  let v303 : BitVec 32 := Scalar.addi v190 c7168_i32_269
  v303
def k0_mult34 (i : grid0.Coords) (v179 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_141 : BitVec 32 := 262144#32
  let v186 : BitVec 32 := Scalar.muli v19 c262144_i32_141
  let c9_i32_135 : BitVec 32 := 9#32
  let v180 : BitVec 32 := Scalar.shrsi v179 c9_i32_135
  let c4_i32_136 : BitVec 32 := 4#32
  let v181 : BitVec 32 := Scalar.shrsi v180 c4_i32_136
  let c4_i32_137 : BitVec 32 := 4#32
  let v182 : BitVec 32 := Scalar.shli v181 c4_i32_137
  let c512_i32_142 : BitVec 32 := 512#32
  let v187 : BitVec 32 := Scalar.muli v182 c512_i32_142
  let v188 : BitVec 32 := Scalar.addi v186 v187
  let c511_i32_138 : BitVec 32 := 511#32
  let v183 : BitVec 32 := Scalar.andi v179 c511_i32_138
  let c4_i32_139 : BitVec 32 := 4#32
  let v184 : BitVec 32 := Scalar.shrsi v183 c4_i32_139
  let c4_i32_140 : BitVec 32 := 4#32
  let v185 : BitVec 32 := Scalar.shli v184 c4_i32_140
  let v189 : BitVec 32 := Scalar.addi v188 v185
  let v190 : BitVec 32 := v189
  let c7680_i32_278 : BitVec 32 := 7680#32
  let v311 : BitVec 32 := Scalar.addi v190 c7680_i32_278
  v311

def k0_chk2 (i : grid0.Coords) (v179 : BitVec 32) : Prop :=
  (16 ∣ (k0_mult18 i v179).toNat) ∧
  (16 ∣ (k0_mult19 i v179).toNat) ∧
  (∀ (r : Fin 16), ∀ a, (k0_off3 i v179 (BitVec.ofNat 32 (512 * r.val))) a + S16x96.size a ≤ S524288x96.size a) ∧
  (16 ∣ (k0_mult20 i v179).toNat) ∧
  (16 ∣ (k0_mult21 i v179).toNat) ∧
  (16 ∣ (k0_mult22 i v179).toNat) ∧
  (16 ∣ (k0_mult23 i v179).toNat) ∧
  (16 ∣ (k0_mult24 i v179).toNat) ∧
  (16 ∣ (k0_mult25 i v179).toNat) ∧
  (16 ∣ (k0_mult26 i v179).toNat) ∧
  (16 ∣ (k0_mult27 i v179).toNat) ∧
  (16 ∣ (k0_mult28 i v179).toNat) ∧
  (16 ∣ (k0_mult29 i v179).toNat) ∧
  (16 ∣ (k0_mult30 i v179).toNat) ∧
  (16 ∣ (k0_mult31 i v179).toNat) ∧
  (16 ∣ (k0_mult32 i v179).toNat) ∧
  (16 ∣ (k0_mult33 i v179).toNat) ∧
  (16 ∣ (k0_mult34 i v179).toNat)
theorem k0_mult18_dvd : ∀ (i : grid0.Coords) (v179 : BitVec 32) (k0_hw2 : k0_chk2 i v179), 16 ∣ (k0_mult18 i v179).toNat := fun i v179 k0_hw2 => k0_hw2.1
theorem k0_mult19_dvd : ∀ (i : grid0.Coords) (v179 : BitVec 32) (k0_hw2 : k0_chk2 i v179), 16 ∣ (k0_mult19 i v179).toNat := fun i v179 k0_hw2 => k0_hw2.2.1
theorem k0_off3_inb : ∀ (i : grid0.Coords) (v179 : BitVec 32) (k0_hw2 : k0_chk2 i v179), ∀ (r : Fin 16), ∀ a, (k0_off3 i v179 (BitVec.ofNat 32 (512 * r.val))) a + S16x96.size a ≤ S524288x96.size a := fun i v179 k0_hw2 r => k0_hw2.2.2.1 r
theorem k0_mult20_dvd : ∀ (i : grid0.Coords) (v179 : BitVec 32) (k0_hw2 : k0_chk2 i v179), 16 ∣ (k0_mult20 i v179).toNat := fun i v179 k0_hw2 => k0_hw2.2.2.2.1
theorem k0_mult21_dvd : ∀ (i : grid0.Coords) (v179 : BitVec 32) (k0_hw2 : k0_chk2 i v179), 16 ∣ (k0_mult21 i v179).toNat := fun i v179 k0_hw2 => k0_hw2.2.2.2.2.1
theorem k0_mult22_dvd : ∀ (i : grid0.Coords) (v179 : BitVec 32) (k0_hw2 : k0_chk2 i v179), 16 ∣ (k0_mult22 i v179).toNat := fun i v179 k0_hw2 => k0_hw2.2.2.2.2.2.1
theorem k0_mult23_dvd : ∀ (i : grid0.Coords) (v179 : BitVec 32) (k0_hw2 : k0_chk2 i v179), 16 ∣ (k0_mult23 i v179).toNat := fun i v179 k0_hw2 => k0_hw2.2.2.2.2.2.2.1
theorem k0_mult24_dvd : ∀ (i : grid0.Coords) (v179 : BitVec 32) (k0_hw2 : k0_chk2 i v179), 16 ∣ (k0_mult24 i v179).toNat := fun i v179 k0_hw2 => k0_hw2.2.2.2.2.2.2.2.1
theorem k0_mult25_dvd : ∀ (i : grid0.Coords) (v179 : BitVec 32) (k0_hw2 : k0_chk2 i v179), 16 ∣ (k0_mult25 i v179).toNat := fun i v179 k0_hw2 => k0_hw2.2.2.2.2.2.2.2.2.1
theorem k0_mult26_dvd : ∀ (i : grid0.Coords) (v179 : BitVec 32) (k0_hw2 : k0_chk2 i v179), 16 ∣ (k0_mult26 i v179).toNat := fun i v179 k0_hw2 => k0_hw2.2.2.2.2.2.2.2.2.2.1
theorem k0_mult27_dvd : ∀ (i : grid0.Coords) (v179 : BitVec 32) (k0_hw2 : k0_chk2 i v179), 16 ∣ (k0_mult27 i v179).toNat := fun i v179 k0_hw2 => k0_hw2.2.2.2.2.2.2.2.2.2.2.1
theorem k0_mult28_dvd : ∀ (i : grid0.Coords) (v179 : BitVec 32) (k0_hw2 : k0_chk2 i v179), 16 ∣ (k0_mult28 i v179).toNat := fun i v179 k0_hw2 => k0_hw2.2.2.2.2.2.2.2.2.2.2.2.1
theorem k0_mult29_dvd : ∀ (i : grid0.Coords) (v179 : BitVec 32) (k0_hw2 : k0_chk2 i v179), 16 ∣ (k0_mult29 i v179).toNat := fun i v179 k0_hw2 => k0_hw2.2.2.2.2.2.2.2.2.2.2.2.2.1
theorem k0_mult30_dvd : ∀ (i : grid0.Coords) (v179 : BitVec 32) (k0_hw2 : k0_chk2 i v179), 16 ∣ (k0_mult30 i v179).toNat := fun i v179 k0_hw2 => k0_hw2.2.2.2.2.2.2.2.2.2.2.2.2.2.1
theorem k0_mult31_dvd : ∀ (i : grid0.Coords) (v179 : BitVec 32) (k0_hw2 : k0_chk2 i v179), 16 ∣ (k0_mult31 i v179).toNat := fun i v179 k0_hw2 => k0_hw2.2.2.2.2.2.2.2.2.2.2.2.2.2.2.1
theorem k0_mult32_dvd : ∀ (i : grid0.Coords) (v179 : BitVec 32) (k0_hw2 : k0_chk2 i v179), 16 ∣ (k0_mult32 i v179).toNat := fun i v179 k0_hw2 => k0_hw2.2.2.2.2.2.2.2.2.2.2.2.2.2.2.2.1
theorem k0_mult33_dvd : ∀ (i : grid0.Coords) (v179 : BitVec 32) (k0_hw2 : k0_chk2 i v179), 16 ∣ (k0_mult33 i v179).toNat := fun i v179 k0_hw2 => k0_hw2.2.2.2.2.2.2.2.2.2.2.2.2.2.2.2.2.1
theorem k0_mult34_dvd : ∀ (i : grid0.Coords) (v179 : BitVec 32) (k0_hw2 : k0_chk2 i v179), 16 ∣ (k0_mult34 i v179).toNat := fun i v179 k0_hw2 => k0_hw2.2.2.2.2.2.2.2.2.2.2.2.2.2.2.2.2.2

@[reducible] def k0_t1_loop : Scf.Loop 32 :=
  let c0_i32_288 : BitVec 32 := 0#32
  let c32_i32 : BitVec 32 := 32#32
  let v319 : BitVec 32 := Scalar.addi c0_i32_288 c32_i32
  let c1_i32_289 : BitVec 32 := 1#32
  ⟨c0_i32_288, v319, c1_i32_289⟩
@[reducible] def k0_t2_loop : Scf.Loop 32 :=
  let c0_i32_475 : BitVec 32 := 0#32
  let c8_i32_476 : BitVec 32 := 8#32
  let v434 : BitVec 32 := Scalar.addi c0_i32_475 c8_i32_476
  let c1_i32_477 : BitVec 32 := 1#32
  ⟨c0_i32_475, v434, c1_i32_477⟩
def k0_off4 (k0_t1 : Fin k0_t1_loop.trips) (k0_t2 : Fin k0_t2_loop.trips) : Fin 2 → Nat :=
  let c2_i32_472 : BitVec 32 := 2#32
  let c2_i32_309 : BitVec 32 := 2#32
  let c0_i32_288 : BitVec 32 := 0#32
  let c1_i32_289 : BitVec 32 := 1#32
  let arg12 : BitVec 32 := Scf.iv c0_i32_288 c1_i32_289 k0_t1
  let v332 : BitVec 32 := Scalar.muli c2_i32_309 arg12
  let v432 : BitVec 32 := Scalar.muli c2_i32_472 v332
  let c0_i32_473 : BitVec 32 := 0#32
  let v433 : BitVec 32 := Scalar.addi v432 c0_i32_473
  let v598 : Index := Scalar.indexCast v433
  let c0_i32_475 : BitVec 32 := 0#32
  let c1_i32_477 : BitVec 32 := 1#32
  let arg13 : BitVec 32 := Scf.iv c0_i32_475 c1_i32_477 k0_t2
  let c16_i32_706 : BitVec 32 := 16#32
  let v597 : BitVec 32 := Scalar.muli arg13 c16_i32_706
  let v599 : Index := Scalar.indexCast v597
  ![v598.toNat, v599.toNat]
def k0_off5 (v603 : BitVec 32) : Fin 4 → Nat :=
  let c0_i32_710 : BitVec 32 := 0#32
  let v607 : Index := Scalar.indexCast c0_i32_710
  let c9_i32_707 : BitVec 32 := 9#32
  let v604 : BitVec 32 := Scalar.shrsi v603 c9_i32_707
  let c15_i32_708 : BitVec 32 := 15#32
  let v605 : BitVec 32 := Scalar.andi v604 c15_i32_708
  let v608 : Index := Scalar.indexCast v605
  let c15_i32_709 : BitVec 32 := 15#32
  let v606 : BitVec 32 := Scalar.andi v603 c15_i32_709
  let v609 : Index := Scalar.indexCast v606
  let c0_711 : Index := 0#32
  ![0, v608.toNat, v609.toNat, 0]

def k0_off6 (k0_t2 : Fin k0_t2_loop.trips) : Fin 3 → Nat :=
  let c0_i32_714 : BitVec 32 := 0#32
  let v614 : Index := Scalar.indexCast c0_i32_714
  let c0_i32_475 : BitVec 32 := 0#32
  let c1_i32_477 : BitVec 32 := 1#32
  let arg13 : BitVec 32 := Scf.iv c0_i32_475 c1_i32_477 k0_t2
  let c16_i32_712 : BitVec 32 := 16#32
  let v612 : BitVec 32 := Scalar.muli arg13 c16_i32_712
  let c0_i32_713 : BitVec 32 := 0#32
  let v613 : BitVec 32 := Scalar.addi v612 c0_i32_713
  let v615 : Index := Scalar.indexCast v613
  let c0_715 : Index := 0#32
  ![0, v615.toNat, 0]
def k0_off7 (v603 : BitVec 32) : Fin 4 → Nat :=
  let c0_i32_716 : BitVec 32 := 0#32
  let v619 : Index := Scalar.indexCast c0_i32_716
  let c9_i32_707 : BitVec 32 := 9#32
  let v604 : BitVec 32 := Scalar.shrsi v603 c9_i32_707
  let c15_i32_708 : BitVec 32 := 15#32
  let v605 : BitVec 32 := Scalar.andi v604 c15_i32_708
  let v620 : Index := Scalar.indexCast v605
  let c15_i32_709 : BitVec 32 := 15#32
  let v606 : BitVec 32 := Scalar.andi v603 c15_i32_709
  let v621 : Index := Scalar.indexCast v606
  let c16 : Index := 16#32
  ![0, v620.toNat, v621.toNat, 16]
def k0_off8 (k0_t2 : Fin k0_t2_loop.trips) : Fin 3 → Nat :=
  let c0_i32_719 : BitVec 32 := 0#32
  let v626 : Index := Scalar.indexCast c0_i32_719
  let c0_i32_475 : BitVec 32 := 0#32
  let c1_i32_477 : BitVec 32 := 1#32
  let arg13 : BitVec 32 := Scf.iv c0_i32_475 c1_i32_477 k0_t2
  let c16_i32_717 : BitVec 32 := 16#32
  let v624 : BitVec 32 := Scalar.muli arg13 c16_i32_717
  let c0_i32_718 : BitVec 32 := 0#32
  let v625 : BitVec 32 := Scalar.addi v624 c0_i32_718
  let v627 : Index := Scalar.indexCast v625
  let c16_720 : Index := 16#32
  ![0, v627.toNat, 16]
def k0_off9 (v603 : BitVec 32) : Fin 4 → Nat :=
  let c0_i32_721 : BitVec 32 := 0#32
  let v631 : Index := Scalar.indexCast c0_i32_721
  let c9_i32_707 : BitVec 32 := 9#32
  let v604 : BitVec 32 := Scalar.shrsi v603 c9_i32_707
  let c15_i32_708 : BitVec 32 := 15#32
  let v605 : BitVec 32 := Scalar.andi v604 c15_i32_708
  let v632 : Index := Scalar.indexCast v605
  let c15_i32_709 : BitVec 32 := 15#32
  let v606 : BitVec 32 := Scalar.andi v603 c15_i32_709
  let v633 : Index := Scalar.indexCast v606
  let c32 : Index := 32#32
  ![0, v632.toNat, v633.toNat, 32]
def k0_off10 (k0_t2 : Fin k0_t2_loop.trips) : Fin 3 → Nat :=
  let c0_i32_724 : BitVec 32 := 0#32
  let v638 : Index := Scalar.indexCast c0_i32_724
  let c0_i32_475 : BitVec 32 := 0#32
  let c1_i32_477 : BitVec 32 := 1#32
  let arg13 : BitVec 32 := Scf.iv c0_i32_475 c1_i32_477 k0_t2
  let c16_i32_722 : BitVec 32 := 16#32
  let v636 : BitVec 32 := Scalar.muli arg13 c16_i32_722
  let c0_i32_723 : BitVec 32 := 0#32
  let v637 : BitVec 32 := Scalar.addi v636 c0_i32_723
  let v639 : Index := Scalar.indexCast v637
  let c32_725 : Index := 32#32
  ![0, v639.toNat, 32]
def k0_off11 (v603 : BitVec 32) : Fin 4 → Nat :=
  let c0_i32_726 : BitVec 32 := 0#32
  let v643 : Index := Scalar.indexCast c0_i32_726
  let c9_i32_707 : BitVec 32 := 9#32
  let v604 : BitVec 32 := Scalar.shrsi v603 c9_i32_707
  let c15_i32_708 : BitVec 32 := 15#32
  let v605 : BitVec 32 := Scalar.andi v604 c15_i32_708
  let v644 : Index := Scalar.indexCast v605
  let c15_i32_709 : BitVec 32 := 15#32
  let v606 : BitVec 32 := Scalar.andi v603 c15_i32_709
  let v645 : Index := Scalar.indexCast v606
  let c48 : Index := 48#32
  ![0, v644.toNat, v645.toNat, 48]
def k0_off12 (k0_t2 : Fin k0_t2_loop.trips) : Fin 3 → Nat :=
  let c0_i32_729 : BitVec 32 := 0#32
  let v650 : Index := Scalar.indexCast c0_i32_729
  let c0_i32_475 : BitVec 32 := 0#32
  let c1_i32_477 : BitVec 32 := 1#32
  let arg13 : BitVec 32 := Scf.iv c0_i32_475 c1_i32_477 k0_t2
  let c16_i32_727 : BitVec 32 := 16#32
  let v648 : BitVec 32 := Scalar.muli arg13 c16_i32_727
  let c0_i32_728 : BitVec 32 := 0#32
  let v649 : BitVec 32 := Scalar.addi v648 c0_i32_728
  let v651 : Index := Scalar.indexCast v649
  let c48_730 : Index := 48#32
  ![0, v651.toNat, 48]
def k0_off13 (v603 : BitVec 32) : Fin 4 → Nat :=
  let c0_i32_731 : BitVec 32 := 0#32
  let v655 : Index := Scalar.indexCast c0_i32_731
  let c9_i32_707 : BitVec 32 := 9#32
  let v604 : BitVec 32 := Scalar.shrsi v603 c9_i32_707
  let c15_i32_708 : BitVec 32 := 15#32
  let v605 : BitVec 32 := Scalar.andi v604 c15_i32_708
  let v656 : Index := Scalar.indexCast v605
  let c15_i32_709 : BitVec 32 := 15#32
  let v606 : BitVec 32 := Scalar.andi v603 c15_i32_709
  let v657 : Index := Scalar.indexCast v606
  let c64 : Index := 64#32
  ![0, v656.toNat, v657.toNat, 64]
def k0_off14 (k0_t2 : Fin k0_t2_loop.trips) : Fin 3 → Nat :=
  let c0_i32_734 : BitVec 32 := 0#32
  let v662 : Index := Scalar.indexCast c0_i32_734
  let c0_i32_475 : BitVec 32 := 0#32
  let c1_i32_477 : BitVec 32 := 1#32
  let arg13 : BitVec 32 := Scf.iv c0_i32_475 c1_i32_477 k0_t2
  let c16_i32_732 : BitVec 32 := 16#32
  let v660 : BitVec 32 := Scalar.muli arg13 c16_i32_732
  let c0_i32_733 : BitVec 32 := 0#32
  let v661 : BitVec 32 := Scalar.addi v660 c0_i32_733
  let v663 : Index := Scalar.indexCast v661
  let c64_735 : Index := 64#32
  ![0, v663.toNat, 64]
def k0_off15 (v603 : BitVec 32) : Fin 4 → Nat :=
  let c0_i32_736 : BitVec 32 := 0#32
  let v667 : Index := Scalar.indexCast c0_i32_736
  let c9_i32_707 : BitVec 32 := 9#32
  let v604 : BitVec 32 := Scalar.shrsi v603 c9_i32_707
  let c15_i32_708 : BitVec 32 := 15#32
  let v605 : BitVec 32 := Scalar.andi v604 c15_i32_708
  let v668 : Index := Scalar.indexCast v605
  let c15_i32_709 : BitVec 32 := 15#32
  let v606 : BitVec 32 := Scalar.andi v603 c15_i32_709
  let v669 : Index := Scalar.indexCast v606
  let c80 : Index := 80#32
  ![0, v668.toNat, v669.toNat, 80]

def k0_chk3 (v603 : BitVec 32) : Prop :=
  (∀ a, (k0_off5 v603) a + S1x1x1x16.size a ≤ S2x16x16x96.size a) ∧
  (∀ a, (k0_off7 v603) a + S1x1x1x16.size a ≤ S2x16x16x96.size a) ∧
  (∀ a, (k0_off9 v603) a + S1x1x1x16.size a ≤ S2x16x16x96.size a) ∧
  (∀ a, (k0_off11 v603) a + S1x1x1x16.size a ≤ S2x16x16x96.size a) ∧
  (∀ a, (k0_off13 v603) a + S1x1x1x16.size a ≤ S2x16x16x96.size a) ∧
  (∀ a, (k0_off15 v603) a + S1x1x1x16.size a ≤ S2x16x16x96.size a)
theorem k0_off5_inb : ∀ (v603 : BitVec 32) (k0_hw3 : k0_chk3 v603), ∀ a, (k0_off5 v603) a + S1x1x1x16.size a ≤ S2x16x16x96.size a := fun v603 k0_hw3 => k0_hw3.1
theorem k0_off7_inb : ∀ (v603 : BitVec 32) (k0_hw3 : k0_chk3 v603), ∀ a, (k0_off7 v603) a + S1x1x1x16.size a ≤ S2x16x16x96.size a := fun v603 k0_hw3 => k0_hw3.2.1
theorem k0_off9_inb : ∀ (v603 : BitVec 32) (k0_hw3 : k0_chk3 v603), ∀ a, (k0_off9 v603) a + S1x1x1x16.size a ≤ S2x16x16x96.size a := fun v603 k0_hw3 => k0_hw3.2.2.1
theorem k0_off11_inb : ∀ (v603 : BitVec 32) (k0_hw3 : k0_chk3 v603), ∀ a, (k0_off11 v603) a + S1x1x1x16.size a ≤ S2x16x16x96.size a := fun v603 k0_hw3 => k0_hw3.2.2.2.1
theorem k0_off13_inb : ∀ (v603 : BitVec 32) (k0_hw3 : k0_chk3 v603), ∀ a, (k0_off13 v603) a + S1x1x1x16.size a ≤ S2x16x16x96.size a := fun v603 k0_hw3 => k0_hw3.2.2.2.2.1
theorem k0_off15_inb : ∀ (v603 : BitVec 32) (k0_hw3 : k0_chk3 v603), ∀ a, (k0_off15 v603) a + S1x1x1x16.size a ≤ S2x16x16x96.size a := fun v603 k0_hw3 => k0_hw3.2.2.2.2.2

def k0_off16 (k0_t2 : Fin k0_t2_loop.trips) : Fin 3 → Nat :=
  let c0_i32_739 : BitVec 32 := 0#32
  let v674 : Index := Scalar.indexCast c0_i32_739
  let c0_i32_475 : BitVec 32 := 0#32
  let c1_i32_477 : BitVec 32 := 1#32
  let arg13 : BitVec 32 := Scf.iv c0_i32_475 c1_i32_477 k0_t2
  let c16_i32_737 : BitVec 32 := 16#32
  let v672 : BitVec 32 := Scalar.muli arg13 c16_i32_737
  let c0_i32_738 : BitVec 32 := 0#32
  let v673 : BitVec 32 := Scalar.addi v672 c0_i32_738
  let v675 : Index := Scalar.indexCast v673
  let c80_740 : Index := 80#32
  ![0, v675.toNat, 80]
def k0_off17 (v680 : BitVec 32) : Fin 4 → Nat :=
  let c0_i32_744 : BitVec 32 := 0#32
  let v684 : Index := Scalar.indexCast c0_i32_744
  let c9_i32_741 : BitVec 32 := 9#32
  let v681 : BitVec 32 := Scalar.shrsi v680 c9_i32_741
  let c15_i32_742 : BitVec 32 := 15#32
  let v682 : BitVec 32 := Scalar.andi v681 c15_i32_742
  let v685 : Index := Scalar.indexCast v682
  let c15_i32_743 : BitVec 32 := 15#32
  let v683 : BitVec 32 := Scalar.andi v680 c15_i32_743
  let v686 : Index := Scalar.indexCast v683
  let c0_745 : Index := 0#32
  ![0, v685.toNat, v686.toNat, 0]

def k0_off18 (k0_t2 : Fin k0_t2_loop.trips) : Fin 3 → Nat :=
  let c0_i32_748 : BitVec 32 := 0#32
  let v691 : Index := Scalar.indexCast c0_i32_748
  let c0_i32_475 : BitVec 32 := 0#32
  let c1_i32_477 : BitVec 32 := 1#32
  let arg13 : BitVec 32 := Scf.iv c0_i32_475 c1_i32_477 k0_t2
  let c16_i32_746 : BitVec 32 := 16#32
  let v689 : BitVec 32 := Scalar.muli arg13 c16_i32_746
  let c1_i32_747 : BitVec 32 := 1#32
  let v690 : BitVec 32 := Scalar.addi v689 c1_i32_747
  let v692 : Index := Scalar.indexCast v690
  let c0_749 : Index := 0#32
  ![0, v692.toNat, 0]
def k0_off19 (v680 : BitVec 32) : Fin 4 → Nat :=
  let c0_i32_750 : BitVec 32 := 0#32
  let v696 : Index := Scalar.indexCast c0_i32_750
  let c9_i32_741 : BitVec 32 := 9#32
  let v681 : BitVec 32 := Scalar.shrsi v680 c9_i32_741
  let c15_i32_742 : BitVec 32 := 15#32
  let v682 : BitVec 32 := Scalar.andi v681 c15_i32_742
  let v697 : Index := Scalar.indexCast v682
  let c15_i32_743 : BitVec 32 := 15#32
  let v683 : BitVec 32 := Scalar.andi v680 c15_i32_743
  let v698 : Index := Scalar.indexCast v683
  let c16_751 : Index := 16#32
  ![0, v697.toNat, v698.toNat, 16]
def k0_off20 (k0_t2 : Fin k0_t2_loop.trips) : Fin 3 → Nat :=
  let c0_i32_754 : BitVec 32 := 0#32
  let v703 : Index := Scalar.indexCast c0_i32_754
  let c0_i32_475 : BitVec 32 := 0#32
  let c1_i32_477 : BitVec 32 := 1#32
  let arg13 : BitVec 32 := Scf.iv c0_i32_475 c1_i32_477 k0_t2
  let c16_i32_752 : BitVec 32 := 16#32
  let v701 : BitVec 32 := Scalar.muli arg13 c16_i32_752
  let c1_i32_753 : BitVec 32 := 1#32
  let v702 : BitVec 32 := Scalar.addi v701 c1_i32_753
  let v704 : Index := Scalar.indexCast v702
  let c16_755 : Index := 16#32
  ![0, v704.toNat, 16]
def k0_off21 (v680 : BitVec 32) : Fin 4 → Nat :=
  let c0_i32_756 : BitVec 32 := 0#32
  let v708 : Index := Scalar.indexCast c0_i32_756
  let c9_i32_741 : BitVec 32 := 9#32
  let v681 : BitVec 32 := Scalar.shrsi v680 c9_i32_741
  let c15_i32_742 : BitVec 32 := 15#32
  let v682 : BitVec 32 := Scalar.andi v681 c15_i32_742
  let v709 : Index := Scalar.indexCast v682
  let c15_i32_743 : BitVec 32 := 15#32
  let v683 : BitVec 32 := Scalar.andi v680 c15_i32_743
  let v710 : Index := Scalar.indexCast v683
  let c32_757 : Index := 32#32
  ![0, v709.toNat, v710.toNat, 32]
def k0_off22 (k0_t2 : Fin k0_t2_loop.trips) : Fin 3 → Nat :=
  let c0_i32_760 : BitVec 32 := 0#32
  let v715 : Index := Scalar.indexCast c0_i32_760
  let c0_i32_475 : BitVec 32 := 0#32
  let c1_i32_477 : BitVec 32 := 1#32
  let arg13 : BitVec 32 := Scf.iv c0_i32_475 c1_i32_477 k0_t2
  let c16_i32_758 : BitVec 32 := 16#32
  let v713 : BitVec 32 := Scalar.muli arg13 c16_i32_758
  let c1_i32_759 : BitVec 32 := 1#32
  let v714 : BitVec 32 := Scalar.addi v713 c1_i32_759
  let v716 : Index := Scalar.indexCast v714
  let c32_761 : Index := 32#32
  ![0, v716.toNat, 32]
def k0_off23 (v680 : BitVec 32) : Fin 4 → Nat :=
  let c0_i32_762 : BitVec 32 := 0#32
  let v720 : Index := Scalar.indexCast c0_i32_762
  let c9_i32_741 : BitVec 32 := 9#32
  let v681 : BitVec 32 := Scalar.shrsi v680 c9_i32_741
  let c15_i32_742 : BitVec 32 := 15#32
  let v682 : BitVec 32 := Scalar.andi v681 c15_i32_742
  let v721 : Index := Scalar.indexCast v682
  let c15_i32_743 : BitVec 32 := 15#32
  let v683 : BitVec 32 := Scalar.andi v680 c15_i32_743
  let v722 : Index := Scalar.indexCast v683
  let c48_763 : Index := 48#32
  ![0, v721.toNat, v722.toNat, 48]
def k0_off24 (k0_t2 : Fin k0_t2_loop.trips) : Fin 3 → Nat :=
  let c0_i32_766 : BitVec 32 := 0#32
  let v727 : Index := Scalar.indexCast c0_i32_766
  let c0_i32_475 : BitVec 32 := 0#32
  let c1_i32_477 : BitVec 32 := 1#32
  let arg13 : BitVec 32 := Scf.iv c0_i32_475 c1_i32_477 k0_t2
  let c16_i32_764 : BitVec 32 := 16#32
  let v725 : BitVec 32 := Scalar.muli arg13 c16_i32_764
  let c1_i32_765 : BitVec 32 := 1#32
  let v726 : BitVec 32 := Scalar.addi v725 c1_i32_765
  let v728 : Index := Scalar.indexCast v726
  let c48_767 : Index := 48#32
  ![0, v728.toNat, 48]
def k0_off25 (v680 : BitVec 32) : Fin 4 → Nat :=
  let c0_i32_768 : BitVec 32 := 0#32
  let v732 : Index := Scalar.indexCast c0_i32_768
  let c9_i32_741 : BitVec 32 := 9#32
  let v681 : BitVec 32 := Scalar.shrsi v680 c9_i32_741
  let c15_i32_742 : BitVec 32 := 15#32
  let v682 : BitVec 32 := Scalar.andi v681 c15_i32_742
  let v733 : Index := Scalar.indexCast v682
  let c15_i32_743 : BitVec 32 := 15#32
  let v683 : BitVec 32 := Scalar.andi v680 c15_i32_743
  let v734 : Index := Scalar.indexCast v683
  let c64_769 : Index := 64#32
  ![0, v733.toNat, v734.toNat, 64]
def k0_off26 (k0_t2 : Fin k0_t2_loop.trips) : Fin 3 → Nat :=
  let c0_i32_772 : BitVec 32 := 0#32
  let v739 : Index := Scalar.indexCast c0_i32_772
  let c0_i32_475 : BitVec 32 := 0#32
  let c1_i32_477 : BitVec 32 := 1#32
  let arg13 : BitVec 32 := Scf.iv c0_i32_475 c1_i32_477 k0_t2
  let c16_i32_770 : BitVec 32 := 16#32
  let v737 : BitVec 32 := Scalar.muli arg13 c16_i32_770
  let c1_i32_771 : BitVec 32 := 1#32
  let v738 : BitVec 32 := Scalar.addi v737 c1_i32_771
  let v740 : Index := Scalar.indexCast v738
  let c64_773 : Index := 64#32
  ![0, v740.toNat, 64]
def k0_off27 (v680 : BitVec 32) : Fin 4 → Nat :=
  let c0_i32_774 : BitVec 32 := 0#32
  let v744 : Index := Scalar.indexCast c0_i32_774
  let c9_i32_741 : BitVec 32 := 9#32
  let v681 : BitVec 32 := Scalar.shrsi v680 c9_i32_741
  let c15_i32_742 : BitVec 32 := 15#32
  let v682 : BitVec 32 := Scalar.andi v681 c15_i32_742
  let v745 : Index := Scalar.indexCast v682
  let c15_i32_743 : BitVec 32 := 15#32
  let v683 : BitVec 32 := Scalar.andi v680 c15_i32_743
  let v746 : Index := Scalar.indexCast v683
  let c80_775 : Index := 80#32
  ![0, v745.toNat, v746.toNat, 80]

def k0_chk4 (v680 : BitVec 32) : Prop :=
  (∀ a, (k0_off17 v680) a + S1x1x1x16.size a ≤ S2x16x16x96.size a) ∧
  (∀ a, (k0_off19 v680) a + S1x1x1x16.size a ≤ S2x16x16x96.size a) ∧
  (∀ a, (k0_off21 v680) a + S1x1x1x16.size a ≤ S2x16x16x96.size a) ∧
  (∀ a, (k0_off23 v680) a + S1x1x1x16.size a ≤ S2x16x16x96.size a) ∧
  (∀ a, (k0_off25 v680) a + S1x1x1x16.size a ≤ S2x16x16x96.size a) ∧
  (∀ a, (k0_off27 v680) a + S1x1x1x16.size a ≤ S2x16x16x96.size a)
theorem k0_off17_inb : ∀ (v680 : BitVec 32) (k0_hw4 : k0_chk4 v680), ∀ a, (k0_off17 v680) a + S1x1x1x16.size a ≤ S2x16x16x96.size a := fun v680 k0_hw4 => k0_hw4.1
theorem k0_off19_inb : ∀ (v680 : BitVec 32) (k0_hw4 : k0_chk4 v680), ∀ a, (k0_off19 v680) a + S1x1x1x16.size a ≤ S2x16x16x96.size a := fun v680 k0_hw4 => k0_hw4.2.1
theorem k0_off21_inb : ∀ (v680 : BitVec 32) (k0_hw4 : k0_chk4 v680), ∀ a, (k0_off21 v680) a + S1x1x1x16.size a ≤ S2x16x16x96.size a := fun v680 k0_hw4 => k0_hw4.2.2.1
theorem k0_off23_inb : ∀ (v680 : BitVec 32) (k0_hw4 : k0_chk4 v680), ∀ a, (k0_off23 v680) a + S1x1x1x16.size a ≤ S2x16x16x96.size a := fun v680 k0_hw4 => k0_hw4.2.2.2.1
theorem k0_off25_inb : ∀ (v680 : BitVec 32) (k0_hw4 : k0_chk4 v680), ∀ a, (k0_off25 v680) a + S1x1x1x16.size a ≤ S2x16x16x96.size a := fun v680 k0_hw4 => k0_hw4.2.2.2.2.1
theorem k0_off27_inb : ∀ (v680 : BitVec 32) (k0_hw4 : k0_chk4 v680), ∀ a, (k0_off27 v680) a + S1x1x1x16.size a ≤ S2x16x16x96.size a := fun v680 k0_hw4 => k0_hw4.2.2.2.2.2

def k0_off28 (k0_t2 : Fin k0_t2_loop.trips) : Fin 3 → Nat :=
  let c0_i32_778 : BitVec 32 := 0#32
  let v751 : Index := Scalar.indexCast c0_i32_778
  let c0_i32_475 : BitVec 32 := 0#32
  let c1_i32_477 : BitVec 32 := 1#32
  let arg13 : BitVec 32 := Scf.iv c0_i32_475 c1_i32_477 k0_t2
  let c16_i32_776 : BitVec 32 := 16#32
  let v749 : BitVec 32 := Scalar.muli arg13 c16_i32_776
  let c1_i32_777 : BitVec 32 := 1#32
  let v750 : BitVec 32 := Scalar.addi v749 c1_i32_777
  let v752 : Index := Scalar.indexCast v750
  let c80_779 : Index := 80#32
  ![0, v752.toNat, 80]
def k0_off29 (v757 : BitVec 32) : Fin 4 → Nat :=
  let c0_i32_783 : BitVec 32 := 0#32
  let v761 : Index := Scalar.indexCast c0_i32_783
  let c9_i32_780 : BitVec 32 := 9#32
  let v758 : BitVec 32 := Scalar.shrsi v757 c9_i32_780
  let c15_i32_781 : BitVec 32 := 15#32
  let v759 : BitVec 32 := Scalar.andi v758 c15_i32_781
  let v762 : Index := Scalar.indexCast v759
  let c15_i32_782 : BitVec 32 := 15#32
  let v760 : BitVec 32 := Scalar.andi v757 c15_i32_782
  let v763 : Index := Scalar.indexCast v760
  let c0_784 : Index := 0#32
  ![0, v762.toNat, v763.toNat, 0]

def k0_off30 (k0_t2 : Fin k0_t2_loop.trips) : Fin 3 → Nat :=
  let c0_i32_787 : BitVec 32 := 0#32
  let v768 : Index := Scalar.indexCast c0_i32_787
  let c0_i32_475 : BitVec 32 := 0#32
  let c1_i32_477 : BitVec 32 := 1#32
  let arg13 : BitVec 32 := Scf.iv c0_i32_475 c1_i32_477 k0_t2
  let c16_i32_785 : BitVec 32 := 16#32
  let v766 : BitVec 32 := Scalar.muli arg13 c16_i32_785
  let c2_i32_786 : BitVec 32 := 2#32
  let v767 : BitVec 32 := Scalar.addi v766 c2_i32_786
  let v769 : Index := Scalar.indexCast v767
  let c0_788 : Index := 0#32
  ![0, v769.toNat, 0]
def k0_off31 (v757 : BitVec 32) : Fin 4 → Nat :=
  let c0_i32_789 : BitVec 32 := 0#32
  let v773 : Index := Scalar.indexCast c0_i32_789
  let c9_i32_780 : BitVec 32 := 9#32
  let v758 : BitVec 32 := Scalar.shrsi v757 c9_i32_780
  let c15_i32_781 : BitVec 32 := 15#32
  let v759 : BitVec 32 := Scalar.andi v758 c15_i32_781
  let v774 : Index := Scalar.indexCast v759
  let c15_i32_782 : BitVec 32 := 15#32
  let v760 : BitVec 32 := Scalar.andi v757 c15_i32_782
  let v775 : Index := Scalar.indexCast v760
  let c16_790 : Index := 16#32
  ![0, v774.toNat, v775.toNat, 16]
def k0_off32 (k0_t2 : Fin k0_t2_loop.trips) : Fin 3 → Nat :=
  let c0_i32_793 : BitVec 32 := 0#32
  let v780 : Index := Scalar.indexCast c0_i32_793
  let c0_i32_475 : BitVec 32 := 0#32
  let c1_i32_477 : BitVec 32 := 1#32
  let arg13 : BitVec 32 := Scf.iv c0_i32_475 c1_i32_477 k0_t2
  let c16_i32_791 : BitVec 32 := 16#32
  let v778 : BitVec 32 := Scalar.muli arg13 c16_i32_791
  let c2_i32_792 : BitVec 32 := 2#32
  let v779 : BitVec 32 := Scalar.addi v778 c2_i32_792
  let v781 : Index := Scalar.indexCast v779
  let c16_794 : Index := 16#32
  ![0, v781.toNat, 16]
def k0_off33 (v757 : BitVec 32) : Fin 4 → Nat :=
  let c0_i32_795 : BitVec 32 := 0#32
  let v785 : Index := Scalar.indexCast c0_i32_795
  let c9_i32_780 : BitVec 32 := 9#32
  let v758 : BitVec 32 := Scalar.shrsi v757 c9_i32_780
  let c15_i32_781 : BitVec 32 := 15#32
  let v759 : BitVec 32 := Scalar.andi v758 c15_i32_781
  let v786 : Index := Scalar.indexCast v759
  let c15_i32_782 : BitVec 32 := 15#32
  let v760 : BitVec 32 := Scalar.andi v757 c15_i32_782
  let v787 : Index := Scalar.indexCast v760
  let c32_796 : Index := 32#32
  ![0, v786.toNat, v787.toNat, 32]
def k0_off34 (k0_t2 : Fin k0_t2_loop.trips) : Fin 3 → Nat :=
  let c0_i32_799 : BitVec 32 := 0#32
  let v792 : Index := Scalar.indexCast c0_i32_799
  let c0_i32_475 : BitVec 32 := 0#32
  let c1_i32_477 : BitVec 32 := 1#32
  let arg13 : BitVec 32 := Scf.iv c0_i32_475 c1_i32_477 k0_t2
  let c16_i32_797 : BitVec 32 := 16#32
  let v790 : BitVec 32 := Scalar.muli arg13 c16_i32_797
  let c2_i32_798 : BitVec 32 := 2#32
  let v791 : BitVec 32 := Scalar.addi v790 c2_i32_798
  let v793 : Index := Scalar.indexCast v791
  let c32_800 : Index := 32#32
  ![0, v793.toNat, 32]
def k0_off35 (v757 : BitVec 32) : Fin 4 → Nat :=
  let c0_i32_801 : BitVec 32 := 0#32
  let v797 : Index := Scalar.indexCast c0_i32_801
  let c9_i32_780 : BitVec 32 := 9#32
  let v758 : BitVec 32 := Scalar.shrsi v757 c9_i32_780
  let c15_i32_781 : BitVec 32 := 15#32
  let v759 : BitVec 32 := Scalar.andi v758 c15_i32_781
  let v798 : Index := Scalar.indexCast v759
  let c15_i32_782 : BitVec 32 := 15#32
  let v760 : BitVec 32 := Scalar.andi v757 c15_i32_782
  let v799 : Index := Scalar.indexCast v760
  let c48_802 : Index := 48#32
  ![0, v798.toNat, v799.toNat, 48]
def k0_off36 (k0_t2 : Fin k0_t2_loop.trips) : Fin 3 → Nat :=
  let c0_i32_805 : BitVec 32 := 0#32
  let v804 : Index := Scalar.indexCast c0_i32_805
  let c0_i32_475 : BitVec 32 := 0#32
  let c1_i32_477 : BitVec 32 := 1#32
  let arg13 : BitVec 32 := Scf.iv c0_i32_475 c1_i32_477 k0_t2
  let c16_i32_803 : BitVec 32 := 16#32
  let v802 : BitVec 32 := Scalar.muli arg13 c16_i32_803
  let c2_i32_804 : BitVec 32 := 2#32
  let v803 : BitVec 32 := Scalar.addi v802 c2_i32_804
  let v805 : Index := Scalar.indexCast v803
  let c48_806 : Index := 48#32
  ![0, v805.toNat, 48]
def k0_off37 (v757 : BitVec 32) : Fin 4 → Nat :=
  let c0_i32_807 : BitVec 32 := 0#32
  let v809 : Index := Scalar.indexCast c0_i32_807
  let c9_i32_780 : BitVec 32 := 9#32
  let v758 : BitVec 32 := Scalar.shrsi v757 c9_i32_780
  let c15_i32_781 : BitVec 32 := 15#32
  let v759 : BitVec 32 := Scalar.andi v758 c15_i32_781
  let v810 : Index := Scalar.indexCast v759
  let c15_i32_782 : BitVec 32 := 15#32
  let v760 : BitVec 32 := Scalar.andi v757 c15_i32_782
  let v811 : Index := Scalar.indexCast v760
  let c64_808 : Index := 64#32
  ![0, v810.toNat, v811.toNat, 64]
def k0_off38 (k0_t2 : Fin k0_t2_loop.trips) : Fin 3 → Nat :=
  let c0_i32_811 : BitVec 32 := 0#32
  let v816 : Index := Scalar.indexCast c0_i32_811
  let c0_i32_475 : BitVec 32 := 0#32
  let c1_i32_477 : BitVec 32 := 1#32
  let arg13 : BitVec 32 := Scf.iv c0_i32_475 c1_i32_477 k0_t2
  let c16_i32_809 : BitVec 32 := 16#32
  let v814 : BitVec 32 := Scalar.muli arg13 c16_i32_809
  let c2_i32_810 : BitVec 32 := 2#32
  let v815 : BitVec 32 := Scalar.addi v814 c2_i32_810
  let v817 : Index := Scalar.indexCast v815
  let c64_812 : Index := 64#32
  ![0, v817.toNat, 64]
def k0_off39 (v757 : BitVec 32) : Fin 4 → Nat :=
  let c0_i32_813 : BitVec 32 := 0#32
  let v821 : Index := Scalar.indexCast c0_i32_813
  let c9_i32_780 : BitVec 32 := 9#32
  let v758 : BitVec 32 := Scalar.shrsi v757 c9_i32_780
  let c15_i32_781 : BitVec 32 := 15#32
  let v759 : BitVec 32 := Scalar.andi v758 c15_i32_781
  let v822 : Index := Scalar.indexCast v759
  let c15_i32_782 : BitVec 32 := 15#32
  let v760 : BitVec 32 := Scalar.andi v757 c15_i32_782
  let v823 : Index := Scalar.indexCast v760
  let c80_814 : Index := 80#32
  ![0, v822.toNat, v823.toNat, 80]

def k0_chk5 (v757 : BitVec 32) : Prop :=
  (∀ a, (k0_off29 v757) a + S1x1x1x16.size a ≤ S2x16x16x96.size a) ∧
  (∀ a, (k0_off31 v757) a + S1x1x1x16.size a ≤ S2x16x16x96.size a) ∧
  (∀ a, (k0_off33 v757) a + S1x1x1x16.size a ≤ S2x16x16x96.size a) ∧
  (∀ a, (k0_off35 v757) a + S1x1x1x16.size a ≤ S2x16x16x96.size a) ∧
  (∀ a, (k0_off37 v757) a + S1x1x1x16.size a ≤ S2x16x16x96.size a) ∧
  (∀ a, (k0_off39 v757) a + S1x1x1x16.size a ≤ S2x16x16x96.size a)
theorem k0_off29_inb : ∀ (v757 : BitVec 32) (k0_hw5 : k0_chk5 v757), ∀ a, (k0_off29 v757) a + S1x1x1x16.size a ≤ S2x16x16x96.size a := fun v757 k0_hw5 => k0_hw5.1
theorem k0_off31_inb : ∀ (v757 : BitVec 32) (k0_hw5 : k0_chk5 v757), ∀ a, (k0_off31 v757) a + S1x1x1x16.size a ≤ S2x16x16x96.size a := fun v757 k0_hw5 => k0_hw5.2.1
theorem k0_off33_inb : ∀ (v757 : BitVec 32) (k0_hw5 : k0_chk5 v757), ∀ a, (k0_off33 v757) a + S1x1x1x16.size a ≤ S2x16x16x96.size a := fun v757 k0_hw5 => k0_hw5.2.2.1
theorem k0_off35_inb : ∀ (v757 : BitVec 32) (k0_hw5 : k0_chk5 v757), ∀ a, (k0_off35 v757) a + S1x1x1x16.size a ≤ S2x16x16x96.size a := fun v757 k0_hw5 => k0_hw5.2.2.2.1
theorem k0_off37_inb : ∀ (v757 : BitVec 32) (k0_hw5 : k0_chk5 v757), ∀ a, (k0_off37 v757) a + S1x1x1x16.size a ≤ S2x16x16x96.size a := fun v757 k0_hw5 => k0_hw5.2.2.2.2.1
theorem k0_off39_inb : ∀ (v757 : BitVec 32) (k0_hw5 : k0_chk5 v757), ∀ a, (k0_off39 v757) a + S1x1x1x16.size a ≤ S2x16x16x96.size a := fun v757 k0_hw5 => k0_hw5.2.2.2.2.2

def k0_off40 (k0_t2 : Fin k0_t2_loop.trips) : Fin 3 → Nat :=
  let c0_i32_817 : BitVec 32 := 0#32
  let v828 : Index := Scalar.indexCast c0_i32_817
  let c0_i32_475 : BitVec 32 := 0#32
  let c1_i32_477 : BitVec 32 := 1#32
  let arg13 : BitVec 32 := Scf.iv c0_i32_475 c1_i32_477 k0_t2
  let c16_i32_815 : BitVec 32 := 16#32
  let v826 : BitVec 32 := Scalar.muli arg13 c16_i32_815
  let c2_i32_816 : BitVec 32 := 2#32
  let v827 : BitVec 32 := Scalar.addi v826 c2_i32_816
  let v829 : Index := Scalar.indexCast v827
  let c80_818 : Index := 80#32
  ![0, v829.toNat, 80]
def k0_off41 (v834 : BitVec 32) : Fin 4 → Nat :=
  let c0_i32_822 : BitVec 32 := 0#32
  let v838 : Index := Scalar.indexCast c0_i32_822
  let c9_i32_819 : BitVec 32 := 9#32
  let v835 : BitVec 32 := Scalar.shrsi v834 c9_i32_819
  let c15_i32_820 : BitVec 32 := 15#32
  let v836 : BitVec 32 := Scalar.andi v835 c15_i32_820
  let v839 : Index := Scalar.indexCast v836
  let c15_i32_821 : BitVec 32 := 15#32
  let v837 : BitVec 32 := Scalar.andi v834 c15_i32_821
  let v840 : Index := Scalar.indexCast v837
  let c0_823 : Index := 0#32
  ![0, v839.toNat, v840.toNat, 0]

def k0_off42 (k0_t2 : Fin k0_t2_loop.trips) : Fin 3 → Nat :=
  let c0_i32_826 : BitVec 32 := 0#32
  let v845 : Index := Scalar.indexCast c0_i32_826
  let c0_i32_475 : BitVec 32 := 0#32
  let c1_i32_477 : BitVec 32 := 1#32
  let arg13 : BitVec 32 := Scf.iv c0_i32_475 c1_i32_477 k0_t2
  let c16_i32_824 : BitVec 32 := 16#32
  let v843 : BitVec 32 := Scalar.muli arg13 c16_i32_824
  let c3_i32_825 : BitVec 32 := 3#32
  let v844 : BitVec 32 := Scalar.addi v843 c3_i32_825
  let v846 : Index := Scalar.indexCast v844
  let c0_827 : Index := 0#32
  ![0, v846.toNat, 0]
def k0_off43 (v834 : BitVec 32) : Fin 4 → Nat :=
  let c0_i32_828 : BitVec 32 := 0#32
  let v850 : Index := Scalar.indexCast c0_i32_828
  let c9_i32_819 : BitVec 32 := 9#32
  let v835 : BitVec 32 := Scalar.shrsi v834 c9_i32_819
  let c15_i32_820 : BitVec 32 := 15#32
  let v836 : BitVec 32 := Scalar.andi v835 c15_i32_820
  let v851 : Index := Scalar.indexCast v836
  let c15_i32_821 : BitVec 32 := 15#32
  let v837 : BitVec 32 := Scalar.andi v834 c15_i32_821
  let v852 : Index := Scalar.indexCast v837
  let c16_829 : Index := 16#32
  ![0, v851.toNat, v852.toNat, 16]
def k0_off44 (k0_t2 : Fin k0_t2_loop.trips) : Fin 3 → Nat :=
  let c0_i32_832 : BitVec 32 := 0#32
  let v857 : Index := Scalar.indexCast c0_i32_832
  let c0_i32_475 : BitVec 32 := 0#32
  let c1_i32_477 : BitVec 32 := 1#32
  let arg13 : BitVec 32 := Scf.iv c0_i32_475 c1_i32_477 k0_t2
  let c16_i32_830 : BitVec 32 := 16#32
  let v855 : BitVec 32 := Scalar.muli arg13 c16_i32_830
  let c3_i32_831 : BitVec 32 := 3#32
  let v856 : BitVec 32 := Scalar.addi v855 c3_i32_831
  let v858 : Index := Scalar.indexCast v856
  let c16_833 : Index := 16#32
  ![0, v858.toNat, 16]
def k0_off45 (v834 : BitVec 32) : Fin 4 → Nat :=
  let c0_i32_834 : BitVec 32 := 0#32
  let v862 : Index := Scalar.indexCast c0_i32_834
  let c9_i32_819 : BitVec 32 := 9#32
  let v835 : BitVec 32 := Scalar.shrsi v834 c9_i32_819
  let c15_i32_820 : BitVec 32 := 15#32
  let v836 : BitVec 32 := Scalar.andi v835 c15_i32_820
  let v863 : Index := Scalar.indexCast v836
  let c15_i32_821 : BitVec 32 := 15#32
  let v837 : BitVec 32 := Scalar.andi v834 c15_i32_821
  let v864 : Index := Scalar.indexCast v837
  let c32_835 : Index := 32#32
  ![0, v863.toNat, v864.toNat, 32]
def k0_off46 (k0_t2 : Fin k0_t2_loop.trips) : Fin 3 → Nat :=
  let c0_i32_838 : BitVec 32 := 0#32
  let v869 : Index := Scalar.indexCast c0_i32_838
  let c0_i32_475 : BitVec 32 := 0#32
  let c1_i32_477 : BitVec 32 := 1#32
  let arg13 : BitVec 32 := Scf.iv c0_i32_475 c1_i32_477 k0_t2
  let c16_i32_836 : BitVec 32 := 16#32
  let v867 : BitVec 32 := Scalar.muli arg13 c16_i32_836
  let c3_i32_837 : BitVec 32 := 3#32
  let v868 : BitVec 32 := Scalar.addi v867 c3_i32_837
  let v870 : Index := Scalar.indexCast v868
  let c32_839 : Index := 32#32
  ![0, v870.toNat, 32]
def k0_off47 (v834 : BitVec 32) : Fin 4 → Nat :=
  let c0_i32_840 : BitVec 32 := 0#32
  let v874 : Index := Scalar.indexCast c0_i32_840
  let c9_i32_819 : BitVec 32 := 9#32
  let v835 : BitVec 32 := Scalar.shrsi v834 c9_i32_819
  let c15_i32_820 : BitVec 32 := 15#32
  let v836 : BitVec 32 := Scalar.andi v835 c15_i32_820
  let v875 : Index := Scalar.indexCast v836
  let c15_i32_821 : BitVec 32 := 15#32
  let v837 : BitVec 32 := Scalar.andi v834 c15_i32_821
  let v876 : Index := Scalar.indexCast v837
  let c48_841 : Index := 48#32
  ![0, v875.toNat, v876.toNat, 48]
def k0_off48 (k0_t2 : Fin k0_t2_loop.trips) : Fin 3 → Nat :=
  let c0_i32_844 : BitVec 32 := 0#32
  let v881 : Index := Scalar.indexCast c0_i32_844
  let c0_i32_475 : BitVec 32 := 0#32
  let c1_i32_477 : BitVec 32 := 1#32
  let arg13 : BitVec 32 := Scf.iv c0_i32_475 c1_i32_477 k0_t2
  let c16_i32_842 : BitVec 32 := 16#32
  let v879 : BitVec 32 := Scalar.muli arg13 c16_i32_842
  let c3_i32_843 : BitVec 32 := 3#32
  let v880 : BitVec 32 := Scalar.addi v879 c3_i32_843
  let v882 : Index := Scalar.indexCast v880
  let c48_845 : Index := 48#32
  ![0, v882.toNat, 48]
def k0_off49 (v834 : BitVec 32) : Fin 4 → Nat :=
  let c0_i32_846 : BitVec 32 := 0#32
  let v886 : Index := Scalar.indexCast c0_i32_846
  let c9_i32_819 : BitVec 32 := 9#32
  let v835 : BitVec 32 := Scalar.shrsi v834 c9_i32_819
  let c15_i32_820 : BitVec 32 := 15#32
  let v836 : BitVec 32 := Scalar.andi v835 c15_i32_820
  let v887 : Index := Scalar.indexCast v836
  let c15_i32_821 : BitVec 32 := 15#32
  let v837 : BitVec 32 := Scalar.andi v834 c15_i32_821
  let v888 : Index := Scalar.indexCast v837
  let c64_847 : Index := 64#32
  ![0, v887.toNat, v888.toNat, 64]
def k0_off50 (k0_t2 : Fin k0_t2_loop.trips) : Fin 3 → Nat :=
  let c0_i32_850 : BitVec 32 := 0#32
  let v893 : Index := Scalar.indexCast c0_i32_850
  let c0_i32_475 : BitVec 32 := 0#32
  let c1_i32_477 : BitVec 32 := 1#32
  let arg13 : BitVec 32 := Scf.iv c0_i32_475 c1_i32_477 k0_t2
  let c16_i32_848 : BitVec 32 := 16#32
  let v891 : BitVec 32 := Scalar.muli arg13 c16_i32_848
  let c3_i32_849 : BitVec 32 := 3#32
  let v892 : BitVec 32 := Scalar.addi v891 c3_i32_849
  let v894 : Index := Scalar.indexCast v892
  let c64_851 : Index := 64#32
  ![0, v894.toNat, 64]
def k0_off51 (v834 : BitVec 32) : Fin 4 → Nat :=
  let c0_i32_852 : BitVec 32 := 0#32
  let v898 : Index := Scalar.indexCast c0_i32_852
  let c9_i32_819 : BitVec 32 := 9#32
  let v835 : BitVec 32 := Scalar.shrsi v834 c9_i32_819
  let c15_i32_820 : BitVec 32 := 15#32
  let v836 : BitVec 32 := Scalar.andi v835 c15_i32_820
  let v899 : Index := Scalar.indexCast v836
  let c15_i32_821 : BitVec 32 := 15#32
  let v837 : BitVec 32 := Scalar.andi v834 c15_i32_821
  let v900 : Index := Scalar.indexCast v837
  let c80_853 : Index := 80#32
  ![0, v899.toNat, v900.toNat, 80]

def k0_chk6 (v834 : BitVec 32) : Prop :=
  (∀ a, (k0_off41 v834) a + S1x1x1x16.size a ≤ S2x16x16x96.size a) ∧
  (∀ a, (k0_off43 v834) a + S1x1x1x16.size a ≤ S2x16x16x96.size a) ∧
  (∀ a, (k0_off45 v834) a + S1x1x1x16.size a ≤ S2x16x16x96.size a) ∧
  (∀ a, (k0_off47 v834) a + S1x1x1x16.size a ≤ S2x16x16x96.size a) ∧
  (∀ a, (k0_off49 v834) a + S1x1x1x16.size a ≤ S2x16x16x96.size a) ∧
  (∀ a, (k0_off51 v834) a + S1x1x1x16.size a ≤ S2x16x16x96.size a)
theorem k0_off41_inb : ∀ (v834 : BitVec 32) (k0_hw6 : k0_chk6 v834), ∀ a, (k0_off41 v834) a + S1x1x1x16.size a ≤ S2x16x16x96.size a := fun v834 k0_hw6 => k0_hw6.1
theorem k0_off43_inb : ∀ (v834 : BitVec 32) (k0_hw6 : k0_chk6 v834), ∀ a, (k0_off43 v834) a + S1x1x1x16.size a ≤ S2x16x16x96.size a := fun v834 k0_hw6 => k0_hw6.2.1
theorem k0_off45_inb : ∀ (v834 : BitVec 32) (k0_hw6 : k0_chk6 v834), ∀ a, (k0_off45 v834) a + S1x1x1x16.size a ≤ S2x16x16x96.size a := fun v834 k0_hw6 => k0_hw6.2.2.1
theorem k0_off47_inb : ∀ (v834 : BitVec 32) (k0_hw6 : k0_chk6 v834), ∀ a, (k0_off47 v834) a + S1x1x1x16.size a ≤ S2x16x16x96.size a := fun v834 k0_hw6 => k0_hw6.2.2.2.1
theorem k0_off49_inb : ∀ (v834 : BitVec 32) (k0_hw6 : k0_chk6 v834), ∀ a, (k0_off49 v834) a + S1x1x1x16.size a ≤ S2x16x16x96.size a := fun v834 k0_hw6 => k0_hw6.2.2.2.2.1
theorem k0_off51_inb : ∀ (v834 : BitVec 32) (k0_hw6 : k0_chk6 v834), ∀ a, (k0_off51 v834) a + S1x1x1x16.size a ≤ S2x16x16x96.size a := fun v834 k0_hw6 => k0_hw6.2.2.2.2.2

def k0_off52 (k0_t2 : Fin k0_t2_loop.trips) : Fin 3 → Nat :=
  let c0_i32_856 : BitVec 32 := 0#32
  let v905 : Index := Scalar.indexCast c0_i32_856
  let c0_i32_475 : BitVec 32 := 0#32
  let c1_i32_477 : BitVec 32 := 1#32
  let arg13 : BitVec 32 := Scf.iv c0_i32_475 c1_i32_477 k0_t2
  let c16_i32_854 : BitVec 32 := 16#32
  let v903 : BitVec 32 := Scalar.muli arg13 c16_i32_854
  let c3_i32_855 : BitVec 32 := 3#32
  let v904 : BitVec 32 := Scalar.addi v903 c3_i32_855
  let v906 : Index := Scalar.indexCast v904
  let c80_857 : Index := 80#32
  ![0, v906.toNat, 80]
def k0_off53 (v911 : BitVec 32) : Fin 4 → Nat :=
  let c0_i32_861 : BitVec 32 := 0#32
  let v915 : Index := Scalar.indexCast c0_i32_861
  let c9_i32_858 : BitVec 32 := 9#32
  let v912 : BitVec 32 := Scalar.shrsi v911 c9_i32_858
  let c15_i32_859 : BitVec 32 := 15#32
  let v913 : BitVec 32 := Scalar.andi v912 c15_i32_859
  let v916 : Index := Scalar.indexCast v913
  let c15_i32_860 : BitVec 32 := 15#32
  let v914 : BitVec 32 := Scalar.andi v911 c15_i32_860
  let v917 : Index := Scalar.indexCast v914
  let c0_862 : Index := 0#32
  ![0, v916.toNat, v917.toNat, 0]

def k0_off54 (k0_t2 : Fin k0_t2_loop.trips) : Fin 3 → Nat :=
  let c0_i32_865 : BitVec 32 := 0#32
  let v922 : Index := Scalar.indexCast c0_i32_865
  let c0_i32_475 : BitVec 32 := 0#32
  let c1_i32_477 : BitVec 32 := 1#32
  let arg13 : BitVec 32 := Scf.iv c0_i32_475 c1_i32_477 k0_t2
  let c16_i32_863 : BitVec 32 := 16#32
  let v920 : BitVec 32 := Scalar.muli arg13 c16_i32_863
  let c4_i32_864 : BitVec 32 := 4#32
  let v921 : BitVec 32 := Scalar.addi v920 c4_i32_864
  let v923 : Index := Scalar.indexCast v921
  let c0_866 : Index := 0#32
  ![0, v923.toNat, 0]
def k0_off55 (v911 : BitVec 32) : Fin 4 → Nat :=
  let c0_i32_867 : BitVec 32 := 0#32
  let v927 : Index := Scalar.indexCast c0_i32_867
  let c9_i32_858 : BitVec 32 := 9#32
  let v912 : BitVec 32 := Scalar.shrsi v911 c9_i32_858
  let c15_i32_859 : BitVec 32 := 15#32
  let v913 : BitVec 32 := Scalar.andi v912 c15_i32_859
  let v928 : Index := Scalar.indexCast v913
  let c15_i32_860 : BitVec 32 := 15#32
  let v914 : BitVec 32 := Scalar.andi v911 c15_i32_860
  let v929 : Index := Scalar.indexCast v914
  let c16_868 : Index := 16#32
  ![0, v928.toNat, v929.toNat, 16]
def k0_off56 (k0_t2 : Fin k0_t2_loop.trips) : Fin 3 → Nat :=
  let c0_i32_871 : BitVec 32 := 0#32
  let v934 : Index := Scalar.indexCast c0_i32_871
  let c0_i32_475 : BitVec 32 := 0#32
  let c1_i32_477 : BitVec 32 := 1#32
  let arg13 : BitVec 32 := Scf.iv c0_i32_475 c1_i32_477 k0_t2
  let c16_i32_869 : BitVec 32 := 16#32
  let v932 : BitVec 32 := Scalar.muli arg13 c16_i32_869
  let c4_i32_870 : BitVec 32 := 4#32
  let v933 : BitVec 32 := Scalar.addi v932 c4_i32_870
  let v935 : Index := Scalar.indexCast v933
  let c16_872 : Index := 16#32
  ![0, v935.toNat, 16]
def k0_off57 (v911 : BitVec 32) : Fin 4 → Nat :=
  let c0_i32_873 : BitVec 32 := 0#32
  let v939 : Index := Scalar.indexCast c0_i32_873
  let c9_i32_858 : BitVec 32 := 9#32
  let v912 : BitVec 32 := Scalar.shrsi v911 c9_i32_858
  let c15_i32_859 : BitVec 32 := 15#32
  let v913 : BitVec 32 := Scalar.andi v912 c15_i32_859
  let v940 : Index := Scalar.indexCast v913
  let c15_i32_860 : BitVec 32 := 15#32
  let v914 : BitVec 32 := Scalar.andi v911 c15_i32_860
  let v941 : Index := Scalar.indexCast v914
  let c32_874 : Index := 32#32
  ![0, v940.toNat, v941.toNat, 32]
def k0_off58 (k0_t2 : Fin k0_t2_loop.trips) : Fin 3 → Nat :=
  let c0_i32_877 : BitVec 32 := 0#32
  let v946 : Index := Scalar.indexCast c0_i32_877
  let c0_i32_475 : BitVec 32 := 0#32
  let c1_i32_477 : BitVec 32 := 1#32
  let arg13 : BitVec 32 := Scf.iv c0_i32_475 c1_i32_477 k0_t2
  let c16_i32_875 : BitVec 32 := 16#32
  let v944 : BitVec 32 := Scalar.muli arg13 c16_i32_875
  let c4_i32_876 : BitVec 32 := 4#32
  let v945 : BitVec 32 := Scalar.addi v944 c4_i32_876
  let v947 : Index := Scalar.indexCast v945
  let c32_878 : Index := 32#32
  ![0, v947.toNat, 32]
def k0_off59 (v911 : BitVec 32) : Fin 4 → Nat :=
  let c0_i32_879 : BitVec 32 := 0#32
  let v951 : Index := Scalar.indexCast c0_i32_879
  let c9_i32_858 : BitVec 32 := 9#32
  let v912 : BitVec 32 := Scalar.shrsi v911 c9_i32_858
  let c15_i32_859 : BitVec 32 := 15#32
  let v913 : BitVec 32 := Scalar.andi v912 c15_i32_859
  let v952 : Index := Scalar.indexCast v913
  let c15_i32_860 : BitVec 32 := 15#32
  let v914 : BitVec 32 := Scalar.andi v911 c15_i32_860
  let v953 : Index := Scalar.indexCast v914
  let c48_880 : Index := 48#32
  ![0, v952.toNat, v953.toNat, 48]
def k0_off60 (k0_t2 : Fin k0_t2_loop.trips) : Fin 3 → Nat :=
  let c0_i32_883 : BitVec 32 := 0#32
  let v958 : Index := Scalar.indexCast c0_i32_883
  let c0_i32_475 : BitVec 32 := 0#32
  let c1_i32_477 : BitVec 32 := 1#32
  let arg13 : BitVec 32 := Scf.iv c0_i32_475 c1_i32_477 k0_t2
  let c16_i32_881 : BitVec 32 := 16#32
  let v956 : BitVec 32 := Scalar.muli arg13 c16_i32_881
  let c4_i32_882 : BitVec 32 := 4#32
  let v957 : BitVec 32 := Scalar.addi v956 c4_i32_882
  let v959 : Index := Scalar.indexCast v957
  let c48_884 : Index := 48#32
  ![0, v959.toNat, 48]
def k0_off61 (v911 : BitVec 32) : Fin 4 → Nat :=
  let c0_i32_885 : BitVec 32 := 0#32
  let v963 : Index := Scalar.indexCast c0_i32_885
  let c9_i32_858 : BitVec 32 := 9#32
  let v912 : BitVec 32 := Scalar.shrsi v911 c9_i32_858
  let c15_i32_859 : BitVec 32 := 15#32
  let v913 : BitVec 32 := Scalar.andi v912 c15_i32_859
  let v964 : Index := Scalar.indexCast v913
  let c15_i32_860 : BitVec 32 := 15#32
  let v914 : BitVec 32 := Scalar.andi v911 c15_i32_860
  let v965 : Index := Scalar.indexCast v914
  let c64_886 : Index := 64#32
  ![0, v964.toNat, v965.toNat, 64]
def k0_off62 (k0_t2 : Fin k0_t2_loop.trips) : Fin 3 → Nat :=
  let c0_i32_889 : BitVec 32 := 0#32
  let v970 : Index := Scalar.indexCast c0_i32_889
  let c0_i32_475 : BitVec 32 := 0#32
  let c1_i32_477 : BitVec 32 := 1#32
  let arg13 : BitVec 32 := Scf.iv c0_i32_475 c1_i32_477 k0_t2
  let c16_i32_887 : BitVec 32 := 16#32
  let v968 : BitVec 32 := Scalar.muli arg13 c16_i32_887
  let c4_i32_888 : BitVec 32 := 4#32
  let v969 : BitVec 32 := Scalar.addi v968 c4_i32_888
  let v971 : Index := Scalar.indexCast v969
  let c64_890 : Index := 64#32
  ![0, v971.toNat, 64]
def k0_off63 (v911 : BitVec 32) : Fin 4 → Nat :=
  let c0_i32_891 : BitVec 32 := 0#32
  let v975 : Index := Scalar.indexCast c0_i32_891
  let c9_i32_858 : BitVec 32 := 9#32
  let v912 : BitVec 32 := Scalar.shrsi v911 c9_i32_858
  let c15_i32_859 : BitVec 32 := 15#32
  let v913 : BitVec 32 := Scalar.andi v912 c15_i32_859
  let v976 : Index := Scalar.indexCast v913
  let c15_i32_860 : BitVec 32 := 15#32
  let v914 : BitVec 32 := Scalar.andi v911 c15_i32_860
  let v977 : Index := Scalar.indexCast v914
  let c80_892 : Index := 80#32
  ![0, v976.toNat, v977.toNat, 80]

def k0_chk7 (v911 : BitVec 32) : Prop :=
  (∀ a, (k0_off53 v911) a + S1x1x1x16.size a ≤ S2x16x16x96.size a) ∧
  (∀ a, (k0_off55 v911) a + S1x1x1x16.size a ≤ S2x16x16x96.size a) ∧
  (∀ a, (k0_off57 v911) a + S1x1x1x16.size a ≤ S2x16x16x96.size a) ∧
  (∀ a, (k0_off59 v911) a + S1x1x1x16.size a ≤ S2x16x16x96.size a) ∧
  (∀ a, (k0_off61 v911) a + S1x1x1x16.size a ≤ S2x16x16x96.size a) ∧
  (∀ a, (k0_off63 v911) a + S1x1x1x16.size a ≤ S2x16x16x96.size a)
theorem k0_off53_inb : ∀ (v911 : BitVec 32) (k0_hw7 : k0_chk7 v911), ∀ a, (k0_off53 v911) a + S1x1x1x16.size a ≤ S2x16x16x96.size a := fun v911 k0_hw7 => k0_hw7.1
theorem k0_off55_inb : ∀ (v911 : BitVec 32) (k0_hw7 : k0_chk7 v911), ∀ a, (k0_off55 v911) a + S1x1x1x16.size a ≤ S2x16x16x96.size a := fun v911 k0_hw7 => k0_hw7.2.1
theorem k0_off57_inb : ∀ (v911 : BitVec 32) (k0_hw7 : k0_chk7 v911), ∀ a, (k0_off57 v911) a + S1x1x1x16.size a ≤ S2x16x16x96.size a := fun v911 k0_hw7 => k0_hw7.2.2.1
theorem k0_off59_inb : ∀ (v911 : BitVec 32) (k0_hw7 : k0_chk7 v911), ∀ a, (k0_off59 v911) a + S1x1x1x16.size a ≤ S2x16x16x96.size a := fun v911 k0_hw7 => k0_hw7.2.2.2.1
theorem k0_off61_inb : ∀ (v911 : BitVec 32) (k0_hw7 : k0_chk7 v911), ∀ a, (k0_off61 v911) a + S1x1x1x16.size a ≤ S2x16x16x96.size a := fun v911 k0_hw7 => k0_hw7.2.2.2.2.1
theorem k0_off63_inb : ∀ (v911 : BitVec 32) (k0_hw7 : k0_chk7 v911), ∀ a, (k0_off63 v911) a + S1x1x1x16.size a ≤ S2x16x16x96.size a := fun v911 k0_hw7 => k0_hw7.2.2.2.2.2

def k0_off64 (k0_t2 : Fin k0_t2_loop.trips) : Fin 3 → Nat :=
  let c0_i32_895 : BitVec 32 := 0#32
  let v982 : Index := Scalar.indexCast c0_i32_895
  let c0_i32_475 : BitVec 32 := 0#32
  let c1_i32_477 : BitVec 32 := 1#32
  let arg13 : BitVec 32 := Scf.iv c0_i32_475 c1_i32_477 k0_t2
  let c16_i32_893 : BitVec 32 := 16#32
  let v980 : BitVec 32 := Scalar.muli arg13 c16_i32_893
  let c4_i32_894 : BitVec 32 := 4#32
  let v981 : BitVec 32 := Scalar.addi v980 c4_i32_894
  let v983 : Index := Scalar.indexCast v981
  let c80_896 : Index := 80#32
  ![0, v983.toNat, 80]
def k0_off65 (v988 : BitVec 32) : Fin 4 → Nat :=
  let c0_i32_900 : BitVec 32 := 0#32
  let v992 : Index := Scalar.indexCast c0_i32_900
  let c9_i32_897 : BitVec 32 := 9#32
  let v989 : BitVec 32 := Scalar.shrsi v988 c9_i32_897
  let c15_i32_898 : BitVec 32 := 15#32
  let v990 : BitVec 32 := Scalar.andi v989 c15_i32_898
  let v993 : Index := Scalar.indexCast v990
  let c15_i32_899 : BitVec 32 := 15#32
  let v991 : BitVec 32 := Scalar.andi v988 c15_i32_899
  let v994 : Index := Scalar.indexCast v991
  let c0_901 : Index := 0#32
  ![0, v993.toNat, v994.toNat, 0]

def k0_off66 (k0_t2 : Fin k0_t2_loop.trips) : Fin 3 → Nat :=
  let c0_i32_904 : BitVec 32 := 0#32
  let v999 : Index := Scalar.indexCast c0_i32_904
  let c0_i32_475 : BitVec 32 := 0#32
  let c1_i32_477 : BitVec 32 := 1#32
  let arg13 : BitVec 32 := Scf.iv c0_i32_475 c1_i32_477 k0_t2
  let c16_i32_902 : BitVec 32 := 16#32
  let v997 : BitVec 32 := Scalar.muli arg13 c16_i32_902
  let c5_i32_903 : BitVec 32 := 5#32
  let v998 : BitVec 32 := Scalar.addi v997 c5_i32_903
  let v1000 : Index := Scalar.indexCast v998
  let c0_905 : Index := 0#32
  ![0, v1000.toNat, 0]
def k0_off67 (v988 : BitVec 32) : Fin 4 → Nat :=
  let c0_i32_906 : BitVec 32 := 0#32
  let v1004 : Index := Scalar.indexCast c0_i32_906
  let c9_i32_897 : BitVec 32 := 9#32
  let v989 : BitVec 32 := Scalar.shrsi v988 c9_i32_897
  let c15_i32_898 : BitVec 32 := 15#32
  let v990 : BitVec 32 := Scalar.andi v989 c15_i32_898
  let v1005 : Index := Scalar.indexCast v990
  let c15_i32_899 : BitVec 32 := 15#32
  let v991 : BitVec 32 := Scalar.andi v988 c15_i32_899
  let v1006 : Index := Scalar.indexCast v991
  let c16_907 : Index := 16#32
  ![0, v1005.toNat, v1006.toNat, 16]
def k0_off68 (k0_t2 : Fin k0_t2_loop.trips) : Fin 3 → Nat :=
  let c0_i32_910 : BitVec 32 := 0#32
  let v1011 : Index := Scalar.indexCast c0_i32_910
  let c0_i32_475 : BitVec 32 := 0#32
  let c1_i32_477 : BitVec 32 := 1#32
  let arg13 : BitVec 32 := Scf.iv c0_i32_475 c1_i32_477 k0_t2
  let c16_i32_908 : BitVec 32 := 16#32
  let v1009 : BitVec 32 := Scalar.muli arg13 c16_i32_908
  let c5_i32_909 : BitVec 32 := 5#32
  let v1010 : BitVec 32 := Scalar.addi v1009 c5_i32_909
  let v1012 : Index := Scalar.indexCast v1010
  let c16_911 : Index := 16#32
  ![0, v1012.toNat, 16]
def k0_off69 (v988 : BitVec 32) : Fin 4 → Nat :=
  let c0_i32_912 : BitVec 32 := 0#32
  let v1016 : Index := Scalar.indexCast c0_i32_912
  let c9_i32_897 : BitVec 32 := 9#32
  let v989 : BitVec 32 := Scalar.shrsi v988 c9_i32_897
  let c15_i32_898 : BitVec 32 := 15#32
  let v990 : BitVec 32 := Scalar.andi v989 c15_i32_898
  let v1017 : Index := Scalar.indexCast v990
  let c15_i32_899 : BitVec 32 := 15#32
  let v991 : BitVec 32 := Scalar.andi v988 c15_i32_899
  let v1018 : Index := Scalar.indexCast v991
  let c32_913 : Index := 32#32
  ![0, v1017.toNat, v1018.toNat, 32]
def k0_off70 (k0_t2 : Fin k0_t2_loop.trips) : Fin 3 → Nat :=
  let c0_i32_916 : BitVec 32 := 0#32
  let v1023 : Index := Scalar.indexCast c0_i32_916
  let c0_i32_475 : BitVec 32 := 0#32
  let c1_i32_477 : BitVec 32 := 1#32
  let arg13 : BitVec 32 := Scf.iv c0_i32_475 c1_i32_477 k0_t2
  let c16_i32_914 : BitVec 32 := 16#32
  let v1021 : BitVec 32 := Scalar.muli arg13 c16_i32_914
  let c5_i32_915 : BitVec 32 := 5#32
  let v1022 : BitVec 32 := Scalar.addi v1021 c5_i32_915
  let v1024 : Index := Scalar.indexCast v1022
  let c32_917 : Index := 32#32
  ![0, v1024.toNat, 32]
def k0_off71 (v988 : BitVec 32) : Fin 4 → Nat :=
  let c0_i32_918 : BitVec 32 := 0#32
  let v1028 : Index := Scalar.indexCast c0_i32_918
  let c9_i32_897 : BitVec 32 := 9#32
  let v989 : BitVec 32 := Scalar.shrsi v988 c9_i32_897
  let c15_i32_898 : BitVec 32 := 15#32
  let v990 : BitVec 32 := Scalar.andi v989 c15_i32_898
  let v1029 : Index := Scalar.indexCast v990
  let c15_i32_899 : BitVec 32 := 15#32
  let v991 : BitVec 32 := Scalar.andi v988 c15_i32_899
  let v1030 : Index := Scalar.indexCast v991
  let c48_919 : Index := 48#32
  ![0, v1029.toNat, v1030.toNat, 48]
def k0_off72 (k0_t2 : Fin k0_t2_loop.trips) : Fin 3 → Nat :=
  let c0_i32_922 : BitVec 32 := 0#32
  let v1035 : Index := Scalar.indexCast c0_i32_922
  let c0_i32_475 : BitVec 32 := 0#32
  let c1_i32_477 : BitVec 32 := 1#32
  let arg13 : BitVec 32 := Scf.iv c0_i32_475 c1_i32_477 k0_t2
  let c16_i32_920 : BitVec 32 := 16#32
  let v1033 : BitVec 32 := Scalar.muli arg13 c16_i32_920
  let c5_i32_921 : BitVec 32 := 5#32
  let v1034 : BitVec 32 := Scalar.addi v1033 c5_i32_921
  let v1036 : Index := Scalar.indexCast v1034
  let c48_923 : Index := 48#32
  ![0, v1036.toNat, 48]
def k0_off73 (v988 : BitVec 32) : Fin 4 → Nat :=
  let c0_i32_924 : BitVec 32 := 0#32
  let v1040 : Index := Scalar.indexCast c0_i32_924
  let c9_i32_897 : BitVec 32 := 9#32
  let v989 : BitVec 32 := Scalar.shrsi v988 c9_i32_897
  let c15_i32_898 : BitVec 32 := 15#32
  let v990 : BitVec 32 := Scalar.andi v989 c15_i32_898
  let v1041 : Index := Scalar.indexCast v990
  let c15_i32_899 : BitVec 32 := 15#32
  let v991 : BitVec 32 := Scalar.andi v988 c15_i32_899
  let v1042 : Index := Scalar.indexCast v991
  let c64_925 : Index := 64#32
  ![0, v1041.toNat, v1042.toNat, 64]
def k0_off74 (k0_t2 : Fin k0_t2_loop.trips) : Fin 3 → Nat :=
  let c0_i32_928 : BitVec 32 := 0#32
  let v1047 : Index := Scalar.indexCast c0_i32_928
  let c0_i32_475 : BitVec 32 := 0#32
  let c1_i32_477 : BitVec 32 := 1#32
  let arg13 : BitVec 32 := Scf.iv c0_i32_475 c1_i32_477 k0_t2
  let c16_i32_926 : BitVec 32 := 16#32
  let v1045 : BitVec 32 := Scalar.muli arg13 c16_i32_926
  let c5_i32_927 : BitVec 32 := 5#32
  let v1046 : BitVec 32 := Scalar.addi v1045 c5_i32_927
  let v1048 : Index := Scalar.indexCast v1046
  let c64_929 : Index := 64#32
  ![0, v1048.toNat, 64]
def k0_off75 (v988 : BitVec 32) : Fin 4 → Nat :=
  let c0_i32_930 : BitVec 32 := 0#32
  let v1052 : Index := Scalar.indexCast c0_i32_930
  let c9_i32_897 : BitVec 32 := 9#32
  let v989 : BitVec 32 := Scalar.shrsi v988 c9_i32_897
  let c15_i32_898 : BitVec 32 := 15#32
  let v990 : BitVec 32 := Scalar.andi v989 c15_i32_898
  let v1053 : Index := Scalar.indexCast v990
  let c15_i32_899 : BitVec 32 := 15#32
  let v991 : BitVec 32 := Scalar.andi v988 c15_i32_899
  let v1054 : Index := Scalar.indexCast v991
  let c80_931 : Index := 80#32
  ![0, v1053.toNat, v1054.toNat, 80]

def k0_chk8 (v988 : BitVec 32) : Prop :=
  (∀ a, (k0_off65 v988) a + S1x1x1x16.size a ≤ S2x16x16x96.size a) ∧
  (∀ a, (k0_off67 v988) a + S1x1x1x16.size a ≤ S2x16x16x96.size a) ∧
  (∀ a, (k0_off69 v988) a + S1x1x1x16.size a ≤ S2x16x16x96.size a) ∧
  (∀ a, (k0_off71 v988) a + S1x1x1x16.size a ≤ S2x16x16x96.size a) ∧
  (∀ a, (k0_off73 v988) a + S1x1x1x16.size a ≤ S2x16x16x96.size a) ∧
  (∀ a, (k0_off75 v988) a + S1x1x1x16.size a ≤ S2x16x16x96.size a)
theorem k0_off65_inb : ∀ (v988 : BitVec 32) (k0_hw8 : k0_chk8 v988), ∀ a, (k0_off65 v988) a + S1x1x1x16.size a ≤ S2x16x16x96.size a := fun v988 k0_hw8 => k0_hw8.1
theorem k0_off67_inb : ∀ (v988 : BitVec 32) (k0_hw8 : k0_chk8 v988), ∀ a, (k0_off67 v988) a + S1x1x1x16.size a ≤ S2x16x16x96.size a := fun v988 k0_hw8 => k0_hw8.2.1
theorem k0_off69_inb : ∀ (v988 : BitVec 32) (k0_hw8 : k0_chk8 v988), ∀ a, (k0_off69 v988) a + S1x1x1x16.size a ≤ S2x16x16x96.size a := fun v988 k0_hw8 => k0_hw8.2.2.1
theorem k0_off71_inb : ∀ (v988 : BitVec 32) (k0_hw8 : k0_chk8 v988), ∀ a, (k0_off71 v988) a + S1x1x1x16.size a ≤ S2x16x16x96.size a := fun v988 k0_hw8 => k0_hw8.2.2.2.1
theorem k0_off73_inb : ∀ (v988 : BitVec 32) (k0_hw8 : k0_chk8 v988), ∀ a, (k0_off73 v988) a + S1x1x1x16.size a ≤ S2x16x16x96.size a := fun v988 k0_hw8 => k0_hw8.2.2.2.2.1
theorem k0_off75_inb : ∀ (v988 : BitVec 32) (k0_hw8 : k0_chk8 v988), ∀ a, (k0_off75 v988) a + S1x1x1x16.size a ≤ S2x16x16x96.size a := fun v988 k0_hw8 => k0_hw8.2.2.2.2.2

def k0_off76 (k0_t2 : Fin k0_t2_loop.trips) : Fin 3 → Nat :=
  let c0_i32_934 : BitVec 32 := 0#32
  let v1059 : Index := Scalar.indexCast c0_i32_934
  let c0_i32_475 : BitVec 32 := 0#32
  let c1_i32_477 : BitVec 32 := 1#32
  let arg13 : BitVec 32 := Scf.iv c0_i32_475 c1_i32_477 k0_t2
  let c16_i32_932 : BitVec 32 := 16#32
  let v1057 : BitVec 32 := Scalar.muli arg13 c16_i32_932
  let c5_i32_933 : BitVec 32 := 5#32
  let v1058 : BitVec 32 := Scalar.addi v1057 c5_i32_933
  let v1060 : Index := Scalar.indexCast v1058
  let c80_935 : Index := 80#32
  ![0, v1060.toNat, 80]
def k0_off77 (v1065 : BitVec 32) : Fin 4 → Nat :=
  let c0_i32_939 : BitVec 32 := 0#32
  let v1069 : Index := Scalar.indexCast c0_i32_939
  let c9_i32_936 : BitVec 32 := 9#32
  let v1066 : BitVec 32 := Scalar.shrsi v1065 c9_i32_936
  let c15_i32_937 : BitVec 32 := 15#32
  let v1067 : BitVec 32 := Scalar.andi v1066 c15_i32_937
  let v1070 : Index := Scalar.indexCast v1067
  let c15_i32_938 : BitVec 32 := 15#32
  let v1068 : BitVec 32 := Scalar.andi v1065 c15_i32_938
  let v1071 : Index := Scalar.indexCast v1068
  let c0_940 : Index := 0#32
  ![0, v1070.toNat, v1071.toNat, 0]

def k0_off78 (k0_t2 : Fin k0_t2_loop.trips) : Fin 3 → Nat :=
  let c0_i32_943 : BitVec 32 := 0#32
  let v1076 : Index := Scalar.indexCast c0_i32_943
  let c0_i32_475 : BitVec 32 := 0#32
  let c1_i32_477 : BitVec 32 := 1#32
  let arg13 : BitVec 32 := Scf.iv c0_i32_475 c1_i32_477 k0_t2
  let c16_i32_941 : BitVec 32 := 16#32
  let v1074 : BitVec 32 := Scalar.muli arg13 c16_i32_941
  let c6_i32_942 : BitVec 32 := 6#32
  let v1075 : BitVec 32 := Scalar.addi v1074 c6_i32_942
  let v1077 : Index := Scalar.indexCast v1075
  let c0_944 : Index := 0#32
  ![0, v1077.toNat, 0]
def k0_off79 (v1065 : BitVec 32) : Fin 4 → Nat :=
  let c0_i32_945 : BitVec 32 := 0#32
  let v1081 : Index := Scalar.indexCast c0_i32_945
  let c9_i32_936 : BitVec 32 := 9#32
  let v1066 : BitVec 32 := Scalar.shrsi v1065 c9_i32_936
  let c15_i32_937 : BitVec 32 := 15#32
  let v1067 : BitVec 32 := Scalar.andi v1066 c15_i32_937
  let v1082 : Index := Scalar.indexCast v1067
  let c15_i32_938 : BitVec 32 := 15#32
  let v1068 : BitVec 32 := Scalar.andi v1065 c15_i32_938
  let v1083 : Index := Scalar.indexCast v1068
  let c16_946 : Index := 16#32
  ![0, v1082.toNat, v1083.toNat, 16]
def k0_off80 (k0_t2 : Fin k0_t2_loop.trips) : Fin 3 → Nat :=
  let c0_i32_949 : BitVec 32 := 0#32
  let v1088 : Index := Scalar.indexCast c0_i32_949
  let c0_i32_475 : BitVec 32 := 0#32
  let c1_i32_477 : BitVec 32 := 1#32
  let arg13 : BitVec 32 := Scf.iv c0_i32_475 c1_i32_477 k0_t2
  let c16_i32_947 : BitVec 32 := 16#32
  let v1086 : BitVec 32 := Scalar.muli arg13 c16_i32_947
  let c6_i32_948 : BitVec 32 := 6#32
  let v1087 : BitVec 32 := Scalar.addi v1086 c6_i32_948
  let v1089 : Index := Scalar.indexCast v1087
  let c16_950 : Index := 16#32
  ![0, v1089.toNat, 16]
def k0_off81 (v1065 : BitVec 32) : Fin 4 → Nat :=
  let c0_i32_951 : BitVec 32 := 0#32
  let v1093 : Index := Scalar.indexCast c0_i32_951
  let c9_i32_936 : BitVec 32 := 9#32
  let v1066 : BitVec 32 := Scalar.shrsi v1065 c9_i32_936
  let c15_i32_937 : BitVec 32 := 15#32
  let v1067 : BitVec 32 := Scalar.andi v1066 c15_i32_937
  let v1094 : Index := Scalar.indexCast v1067
  let c15_i32_938 : BitVec 32 := 15#32
  let v1068 : BitVec 32 := Scalar.andi v1065 c15_i32_938
  let v1095 : Index := Scalar.indexCast v1068
  let c32_952 : Index := 32#32
  ![0, v1094.toNat, v1095.toNat, 32]
def k0_off82 (k0_t2 : Fin k0_t2_loop.trips) : Fin 3 → Nat :=
  let c0_i32_955 : BitVec 32 := 0#32
  let v1100 : Index := Scalar.indexCast c0_i32_955
  let c0_i32_475 : BitVec 32 := 0#32
  let c1_i32_477 : BitVec 32 := 1#32
  let arg13 : BitVec 32 := Scf.iv c0_i32_475 c1_i32_477 k0_t2
  let c16_i32_953 : BitVec 32 := 16#32
  let v1098 : BitVec 32 := Scalar.muli arg13 c16_i32_953
  let c6_i32_954 : BitVec 32 := 6#32
  let v1099 : BitVec 32 := Scalar.addi v1098 c6_i32_954
  let v1101 : Index := Scalar.indexCast v1099
  let c32_956 : Index := 32#32
  ![0, v1101.toNat, 32]
def k0_off83 (v1065 : BitVec 32) : Fin 4 → Nat :=
  let c0_i32_957 : BitVec 32 := 0#32
  let v1105 : Index := Scalar.indexCast c0_i32_957
  let c9_i32_936 : BitVec 32 := 9#32
  let v1066 : BitVec 32 := Scalar.shrsi v1065 c9_i32_936
  let c15_i32_937 : BitVec 32 := 15#32
  let v1067 : BitVec 32 := Scalar.andi v1066 c15_i32_937
  let v1106 : Index := Scalar.indexCast v1067
  let c15_i32_938 : BitVec 32 := 15#32
  let v1068 : BitVec 32 := Scalar.andi v1065 c15_i32_938
  let v1107 : Index := Scalar.indexCast v1068
  let c48_958 : Index := 48#32
  ![0, v1106.toNat, v1107.toNat, 48]
def k0_off84 (k0_t2 : Fin k0_t2_loop.trips) : Fin 3 → Nat :=
  let c0_i32_961 : BitVec 32 := 0#32
  let v1112 : Index := Scalar.indexCast c0_i32_961
  let c0_i32_475 : BitVec 32 := 0#32
  let c1_i32_477 : BitVec 32 := 1#32
  let arg13 : BitVec 32 := Scf.iv c0_i32_475 c1_i32_477 k0_t2
  let c16_i32_959 : BitVec 32 := 16#32
  let v1110 : BitVec 32 := Scalar.muli arg13 c16_i32_959
  let c6_i32_960 : BitVec 32 := 6#32
  let v1111 : BitVec 32 := Scalar.addi v1110 c6_i32_960
  let v1113 : Index := Scalar.indexCast v1111
  let c48_962 : Index := 48#32
  ![0, v1113.toNat, 48]
def k0_off85 (v1065 : BitVec 32) : Fin 4 → Nat :=
  let c0_i32_963 : BitVec 32 := 0#32
  let v1117 : Index := Scalar.indexCast c0_i32_963
  let c9_i32_936 : BitVec 32 := 9#32
  let v1066 : BitVec 32 := Scalar.shrsi v1065 c9_i32_936
  let c15_i32_937 : BitVec 32 := 15#32
  let v1067 : BitVec 32 := Scalar.andi v1066 c15_i32_937
  let v1118 : Index := Scalar.indexCast v1067
  let c15_i32_938 : BitVec 32 := 15#32
  let v1068 : BitVec 32 := Scalar.andi v1065 c15_i32_938
  let v1119 : Index := Scalar.indexCast v1068
  let c64_964 : Index := 64#32
  ![0, v1118.toNat, v1119.toNat, 64]
def k0_off86 (k0_t2 : Fin k0_t2_loop.trips) : Fin 3 → Nat :=
  let c0_i32_967 : BitVec 32 := 0#32
  let v1124 : Index := Scalar.indexCast c0_i32_967
  let c0_i32_475 : BitVec 32 := 0#32
  let c1_i32_477 : BitVec 32 := 1#32
  let arg13 : BitVec 32 := Scf.iv c0_i32_475 c1_i32_477 k0_t2
  let c16_i32_965 : BitVec 32 := 16#32
  let v1122 : BitVec 32 := Scalar.muli arg13 c16_i32_965
  let c6_i32_966 : BitVec 32 := 6#32
  let v1123 : BitVec 32 := Scalar.addi v1122 c6_i32_966
  let v1125 : Index := Scalar.indexCast v1123
  let c64_968 : Index := 64#32
  ![0, v1125.toNat, 64]
def k0_off87 (v1065 : BitVec 32) : Fin 4 → Nat :=
  let c0_i32_969 : BitVec 32 := 0#32
  let v1129 : Index := Scalar.indexCast c0_i32_969
  let c9_i32_936 : BitVec 32 := 9#32
  let v1066 : BitVec 32 := Scalar.shrsi v1065 c9_i32_936
  let c15_i32_937 : BitVec 32 := 15#32
  let v1067 : BitVec 32 := Scalar.andi v1066 c15_i32_937
  let v1130 : Index := Scalar.indexCast v1067
  let c15_i32_938 : BitVec 32 := 15#32
  let v1068 : BitVec 32 := Scalar.andi v1065 c15_i32_938
  let v1131 : Index := Scalar.indexCast v1068
  let c80_970 : Index := 80#32
  ![0, v1130.toNat, v1131.toNat, 80]

def k0_chk9 (v1065 : BitVec 32) : Prop :=
  (∀ a, (k0_off77 v1065) a + S1x1x1x16.size a ≤ S2x16x16x96.size a) ∧
  (∀ a, (k0_off79 v1065) a + S1x1x1x16.size a ≤ S2x16x16x96.size a) ∧
  (∀ a, (k0_off81 v1065) a + S1x1x1x16.size a ≤ S2x16x16x96.size a) ∧
  (∀ a, (k0_off83 v1065) a + S1x1x1x16.size a ≤ S2x16x16x96.size a) ∧
  (∀ a, (k0_off85 v1065) a + S1x1x1x16.size a ≤ S2x16x16x96.size a) ∧
  (∀ a, (k0_off87 v1065) a + S1x1x1x16.size a ≤ S2x16x16x96.size a)
theorem k0_off77_inb : ∀ (v1065 : BitVec 32) (k0_hw9 : k0_chk9 v1065), ∀ a, (k0_off77 v1065) a + S1x1x1x16.size a ≤ S2x16x16x96.size a := fun v1065 k0_hw9 => k0_hw9.1
theorem k0_off79_inb : ∀ (v1065 : BitVec 32) (k0_hw9 : k0_chk9 v1065), ∀ a, (k0_off79 v1065) a + S1x1x1x16.size a ≤ S2x16x16x96.size a := fun v1065 k0_hw9 => k0_hw9.2.1
theorem k0_off81_inb : ∀ (v1065 : BitVec 32) (k0_hw9 : k0_chk9 v1065), ∀ a, (k0_off81 v1065) a + S1x1x1x16.size a ≤ S2x16x16x96.size a := fun v1065 k0_hw9 => k0_hw9.2.2.1
theorem k0_off83_inb : ∀ (v1065 : BitVec 32) (k0_hw9 : k0_chk9 v1065), ∀ a, (k0_off83 v1065) a + S1x1x1x16.size a ≤ S2x16x16x96.size a := fun v1065 k0_hw9 => k0_hw9.2.2.2.1
theorem k0_off85_inb : ∀ (v1065 : BitVec 32) (k0_hw9 : k0_chk9 v1065), ∀ a, (k0_off85 v1065) a + S1x1x1x16.size a ≤ S2x16x16x96.size a := fun v1065 k0_hw9 => k0_hw9.2.2.2.2.1
theorem k0_off87_inb : ∀ (v1065 : BitVec 32) (k0_hw9 : k0_chk9 v1065), ∀ a, (k0_off87 v1065) a + S1x1x1x16.size a ≤ S2x16x16x96.size a := fun v1065 k0_hw9 => k0_hw9.2.2.2.2.2

def k0_off88 (k0_t2 : Fin k0_t2_loop.trips) : Fin 3 → Nat :=
  let c0_i32_973 : BitVec 32 := 0#32
  let v1136 : Index := Scalar.indexCast c0_i32_973
  let c0_i32_475 : BitVec 32 := 0#32
  let c1_i32_477 : BitVec 32 := 1#32
  let arg13 : BitVec 32 := Scf.iv c0_i32_475 c1_i32_477 k0_t2
  let c16_i32_971 : BitVec 32 := 16#32
  let v1134 : BitVec 32 := Scalar.muli arg13 c16_i32_971
  let c6_i32_972 : BitVec 32 := 6#32
  let v1135 : BitVec 32 := Scalar.addi v1134 c6_i32_972
  let v1137 : Index := Scalar.indexCast v1135
  let c80_974 : Index := 80#32
  ![0, v1137.toNat, 80]
def k0_off89 (v1142 : BitVec 32) : Fin 4 → Nat :=
  let c0_i32_978 : BitVec 32 := 0#32
  let v1146 : Index := Scalar.indexCast c0_i32_978
  let c9_i32_975 : BitVec 32 := 9#32
  let v1143 : BitVec 32 := Scalar.shrsi v1142 c9_i32_975
  let c15_i32_976 : BitVec 32 := 15#32
  let v1144 : BitVec 32 := Scalar.andi v1143 c15_i32_976
  let v1147 : Index := Scalar.indexCast v1144
  let c15_i32_977 : BitVec 32 := 15#32
  let v1145 : BitVec 32 := Scalar.andi v1142 c15_i32_977
  let v1148 : Index := Scalar.indexCast v1145
  let c0_979 : Index := 0#32
  ![0, v1147.toNat, v1148.toNat, 0]

def k0_off90 (k0_t2 : Fin k0_t2_loop.trips) : Fin 3 → Nat :=
  let c0_i32_982 : BitVec 32 := 0#32
  let v1153 : Index := Scalar.indexCast c0_i32_982
  let c0_i32_475 : BitVec 32 := 0#32
  let c1_i32_477 : BitVec 32 := 1#32
  let arg13 : BitVec 32 := Scf.iv c0_i32_475 c1_i32_477 k0_t2
  let c16_i32_980 : BitVec 32 := 16#32
  let v1151 : BitVec 32 := Scalar.muli arg13 c16_i32_980
  let c7_i32_981 : BitVec 32 := 7#32
  let v1152 : BitVec 32 := Scalar.addi v1151 c7_i32_981
  let v1154 : Index := Scalar.indexCast v1152
  let c0_983 : Index := 0#32
  ![0, v1154.toNat, 0]
def k0_off91 (v1142 : BitVec 32) : Fin 4 → Nat :=
  let c0_i32_984 : BitVec 32 := 0#32
  let v1158 : Index := Scalar.indexCast c0_i32_984
  let c9_i32_975 : BitVec 32 := 9#32
  let v1143 : BitVec 32 := Scalar.shrsi v1142 c9_i32_975
  let c15_i32_976 : BitVec 32 := 15#32
  let v1144 : BitVec 32 := Scalar.andi v1143 c15_i32_976
  let v1159 : Index := Scalar.indexCast v1144
  let c15_i32_977 : BitVec 32 := 15#32
  let v1145 : BitVec 32 := Scalar.andi v1142 c15_i32_977
  let v1160 : Index := Scalar.indexCast v1145
  let c16_985 : Index := 16#32
  ![0, v1159.toNat, v1160.toNat, 16]
def k0_off92 (k0_t2 : Fin k0_t2_loop.trips) : Fin 3 → Nat :=
  let c0_i32_988 : BitVec 32 := 0#32
  let v1165 : Index := Scalar.indexCast c0_i32_988
  let c0_i32_475 : BitVec 32 := 0#32
  let c1_i32_477 : BitVec 32 := 1#32
  let arg13 : BitVec 32 := Scf.iv c0_i32_475 c1_i32_477 k0_t2
  let c16_i32_986 : BitVec 32 := 16#32
  let v1163 : BitVec 32 := Scalar.muli arg13 c16_i32_986
  let c7_i32_987 : BitVec 32 := 7#32
  let v1164 : BitVec 32 := Scalar.addi v1163 c7_i32_987
  let v1166 : Index := Scalar.indexCast v1164
  let c16_989 : Index := 16#32
  ![0, v1166.toNat, 16]
def k0_off93 (v1142 : BitVec 32) : Fin 4 → Nat :=
  let c0_i32_990 : BitVec 32 := 0#32
  let v1170 : Index := Scalar.indexCast c0_i32_990
  let c9_i32_975 : BitVec 32 := 9#32
  let v1143 : BitVec 32 := Scalar.shrsi v1142 c9_i32_975
  let c15_i32_976 : BitVec 32 := 15#32
  let v1144 : BitVec 32 := Scalar.andi v1143 c15_i32_976
  let v1171 : Index := Scalar.indexCast v1144
  let c15_i32_977 : BitVec 32 := 15#32
  let v1145 : BitVec 32 := Scalar.andi v1142 c15_i32_977
  let v1172 : Index := Scalar.indexCast v1145
  let c32_991 : Index := 32#32
  ![0, v1171.toNat, v1172.toNat, 32]
def k0_off94 (k0_t2 : Fin k0_t2_loop.trips) : Fin 3 → Nat :=
  let c0_i32_994 : BitVec 32 := 0#32
  let v1177 : Index := Scalar.indexCast c0_i32_994
  let c0_i32_475 : BitVec 32 := 0#32
  let c1_i32_477 : BitVec 32 := 1#32
  let arg13 : BitVec 32 := Scf.iv c0_i32_475 c1_i32_477 k0_t2
  let c16_i32_992 : BitVec 32 := 16#32
  let v1175 : BitVec 32 := Scalar.muli arg13 c16_i32_992
  let c7_i32_993 : BitVec 32 := 7#32
  let v1176 : BitVec 32 := Scalar.addi v1175 c7_i32_993
  let v1178 : Index := Scalar.indexCast v1176
  let c32_995 : Index := 32#32
  ![0, v1178.toNat, 32]
def k0_off95 (v1142 : BitVec 32) : Fin 4 → Nat :=
  let c0_i32_996 : BitVec 32 := 0#32
  let v1182 : Index := Scalar.indexCast c0_i32_996
  let c9_i32_975 : BitVec 32 := 9#32
  let v1143 : BitVec 32 := Scalar.shrsi v1142 c9_i32_975
  let c15_i32_976 : BitVec 32 := 15#32
  let v1144 : BitVec 32 := Scalar.andi v1143 c15_i32_976
  let v1183 : Index := Scalar.indexCast v1144
  let c15_i32_977 : BitVec 32 := 15#32
  let v1145 : BitVec 32 := Scalar.andi v1142 c15_i32_977
  let v1184 : Index := Scalar.indexCast v1145
  let c48_997 : Index := 48#32
  ![0, v1183.toNat, v1184.toNat, 48]
def k0_off96 (k0_t2 : Fin k0_t2_loop.trips) : Fin 3 → Nat :=
  let c0_i32_1000 : BitVec 32 := 0#32
  let v1189 : Index := Scalar.indexCast c0_i32_1000
  let c0_i32_475 : BitVec 32 := 0#32
  let c1_i32_477 : BitVec 32 := 1#32
  let arg13 : BitVec 32 := Scf.iv c0_i32_475 c1_i32_477 k0_t2
  let c16_i32_998 : BitVec 32 := 16#32
  let v1187 : BitVec 32 := Scalar.muli arg13 c16_i32_998
  let c7_i32_999 : BitVec 32 := 7#32
  let v1188 : BitVec 32 := Scalar.addi v1187 c7_i32_999
  let v1190 : Index := Scalar.indexCast v1188
  let c48_1001 : Index := 48#32
  ![0, v1190.toNat, 48]
def k0_off97 (v1142 : BitVec 32) : Fin 4 → Nat :=
  let c0_i32_1002 : BitVec 32 := 0#32
  let v1194 : Index := Scalar.indexCast c0_i32_1002
  let c9_i32_975 : BitVec 32 := 9#32
  let v1143 : BitVec 32 := Scalar.shrsi v1142 c9_i32_975
  let c15_i32_976 : BitVec 32 := 15#32
  let v1144 : BitVec 32 := Scalar.andi v1143 c15_i32_976
  let v1195 : Index := Scalar.indexCast v1144
  let c15_i32_977 : BitVec 32 := 15#32
  let v1145 : BitVec 32 := Scalar.andi v1142 c15_i32_977
  let v1196 : Index := Scalar.indexCast v1145
  let c64_1003 : Index := 64#32
  ![0, v1195.toNat, v1196.toNat, 64]
def k0_off98 (k0_t2 : Fin k0_t2_loop.trips) : Fin 3 → Nat :=
  let c0_i32_1006 : BitVec 32 := 0#32
  let v1201 : Index := Scalar.indexCast c0_i32_1006
  let c0_i32_475 : BitVec 32 := 0#32
  let c1_i32_477 : BitVec 32 := 1#32
  let arg13 : BitVec 32 := Scf.iv c0_i32_475 c1_i32_477 k0_t2
  let c16_i32_1004 : BitVec 32 := 16#32
  let v1199 : BitVec 32 := Scalar.muli arg13 c16_i32_1004
  let c7_i32_1005 : BitVec 32 := 7#32
  let v1200 : BitVec 32 := Scalar.addi v1199 c7_i32_1005
  let v1202 : Index := Scalar.indexCast v1200
  let c64_1007 : Index := 64#32
  ![0, v1202.toNat, 64]
def k0_off99 (v1142 : BitVec 32) : Fin 4 → Nat :=
  let c0_i32_1008 : BitVec 32 := 0#32
  let v1206 : Index := Scalar.indexCast c0_i32_1008
  let c9_i32_975 : BitVec 32 := 9#32
  let v1143 : BitVec 32 := Scalar.shrsi v1142 c9_i32_975
  let c15_i32_976 : BitVec 32 := 15#32
  let v1144 : BitVec 32 := Scalar.andi v1143 c15_i32_976
  let v1207 : Index := Scalar.indexCast v1144
  let c15_i32_977 : BitVec 32 := 15#32
  let v1145 : BitVec 32 := Scalar.andi v1142 c15_i32_977
  let v1208 : Index := Scalar.indexCast v1145
  let c80_1009 : Index := 80#32
  ![0, v1207.toNat, v1208.toNat, 80]

def k0_chk10 (v1142 : BitVec 32) : Prop :=
  (∀ a, (k0_off89 v1142) a + S1x1x1x16.size a ≤ S2x16x16x96.size a) ∧
  (∀ a, (k0_off91 v1142) a + S1x1x1x16.size a ≤ S2x16x16x96.size a) ∧
  (∀ a, (k0_off93 v1142) a + S1x1x1x16.size a ≤ S2x16x16x96.size a) ∧
  (∀ a, (k0_off95 v1142) a + S1x1x1x16.size a ≤ S2x16x16x96.size a) ∧
  (∀ a, (k0_off97 v1142) a + S1x1x1x16.size a ≤ S2x16x16x96.size a) ∧
  (∀ a, (k0_off99 v1142) a + S1x1x1x16.size a ≤ S2x16x16x96.size a)
theorem k0_off89_inb : ∀ (v1142 : BitVec 32) (k0_hw10 : k0_chk10 v1142), ∀ a, (k0_off89 v1142) a + S1x1x1x16.size a ≤ S2x16x16x96.size a := fun v1142 k0_hw10 => k0_hw10.1
theorem k0_off91_inb : ∀ (v1142 : BitVec 32) (k0_hw10 : k0_chk10 v1142), ∀ a, (k0_off91 v1142) a + S1x1x1x16.size a ≤ S2x16x16x96.size a := fun v1142 k0_hw10 => k0_hw10.2.1
theorem k0_off93_inb : ∀ (v1142 : BitVec 32) (k0_hw10 : k0_chk10 v1142), ∀ a, (k0_off93 v1142) a + S1x1x1x16.size a ≤ S2x16x16x96.size a := fun v1142 k0_hw10 => k0_hw10.2.2.1
theorem k0_off95_inb : ∀ (v1142 : BitVec 32) (k0_hw10 : k0_chk10 v1142), ∀ a, (k0_off95 v1142) a + S1x1x1x16.size a ≤ S2x16x16x96.size a := fun v1142 k0_hw10 => k0_hw10.2.2.2.1
theorem k0_off97_inb : ∀ (v1142 : BitVec 32) (k0_hw10 : k0_chk10 v1142), ∀ a, (k0_off97 v1142) a + S1x1x1x16.size a ≤ S2x16x16x96.size a := fun v1142 k0_hw10 => k0_hw10.2.2.2.2.1
theorem k0_off99_inb : ∀ (v1142 : BitVec 32) (k0_hw10 : k0_chk10 v1142), ∀ a, (k0_off99 v1142) a + S1x1x1x16.size a ≤ S2x16x16x96.size a := fun v1142 k0_hw10 => k0_hw10.2.2.2.2.2

def k0_off100 (k0_t2 : Fin k0_t2_loop.trips) : Fin 3 → Nat :=
  let c0_i32_1012 : BitVec 32 := 0#32
  let v1213 : Index := Scalar.indexCast c0_i32_1012
  let c0_i32_475 : BitVec 32 := 0#32
  let c1_i32_477 : BitVec 32 := 1#32
  let arg13 : BitVec 32 := Scf.iv c0_i32_475 c1_i32_477 k0_t2
  let c16_i32_1010 : BitVec 32 := 16#32
  let v1211 : BitVec 32 := Scalar.muli arg13 c16_i32_1010
  let c7_i32_1011 : BitVec 32 := 7#32
  let v1212 : BitVec 32 := Scalar.addi v1211 c7_i32_1011
  let v1214 : Index := Scalar.indexCast v1212
  let c80_1013 : Index := 80#32
  ![0, v1214.toNat, 80]
def k0_off101 (v1219 : BitVec 32) : Fin 4 → Nat :=
  let c0_i32_1017 : BitVec 32 := 0#32
  let v1223 : Index := Scalar.indexCast c0_i32_1017
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1224 : Index := Scalar.indexCast v1221
  let c15_i32_1016 : BitVec 32 := 15#32
  let v1222 : BitVec 32 := Scalar.andi v1219 c15_i32_1016
  let v1225 : Index := Scalar.indexCast v1222
  let c0_1018 : Index := 0#32
  ![0, v1224.toNat, v1225.toNat, 0]

def k0_off102 (k0_t2 : Fin k0_t2_loop.trips) : Fin 3 → Nat :=
  let c0_i32_1021 : BitVec 32 := 0#32
  let v1230 : Index := Scalar.indexCast c0_i32_1021
  let c0_i32_475 : BitVec 32 := 0#32
  let c1_i32_477 : BitVec 32 := 1#32
  let arg13 : BitVec 32 := Scf.iv c0_i32_475 c1_i32_477 k0_t2
  let c16_i32_1019 : BitVec 32 := 16#32
  let v1228 : BitVec 32 := Scalar.muli arg13 c16_i32_1019
  let c8_i32_1020 : BitVec 32 := 8#32
  let v1229 : BitVec 32 := Scalar.addi v1228 c8_i32_1020
  let v1231 : Index := Scalar.indexCast v1229
  let c0_1022 : Index := 0#32
  ![0, v1231.toNat, 0]
def k0_off103 (v1219 : BitVec 32) : Fin 4 → Nat :=
  let c0_i32_1023 : BitVec 32 := 0#32
  let v1235 : Index := Scalar.indexCast c0_i32_1023
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1236 : Index := Scalar.indexCast v1221
  let c15_i32_1016 : BitVec 32 := 15#32
  let v1222 : BitVec 32 := Scalar.andi v1219 c15_i32_1016
  let v1237 : Index := Scalar.indexCast v1222
  let c16_1024 : Index := 16#32
  ![0, v1236.toNat, v1237.toNat, 16]
def k0_off104 (k0_t2 : Fin k0_t2_loop.trips) : Fin 3 → Nat :=
  let c0_i32_1027 : BitVec 32 := 0#32
  let v1242 : Index := Scalar.indexCast c0_i32_1027
  let c0_i32_475 : BitVec 32 := 0#32
  let c1_i32_477 : BitVec 32 := 1#32
  let arg13 : BitVec 32 := Scf.iv c0_i32_475 c1_i32_477 k0_t2
  let c16_i32_1025 : BitVec 32 := 16#32
  let v1240 : BitVec 32 := Scalar.muli arg13 c16_i32_1025
  let c8_i32_1026 : BitVec 32 := 8#32
  let v1241 : BitVec 32 := Scalar.addi v1240 c8_i32_1026
  let v1243 : Index := Scalar.indexCast v1241
  let c16_1028 : Index := 16#32
  ![0, v1243.toNat, 16]
def k0_off105 (v1219 : BitVec 32) : Fin 4 → Nat :=
  let c0_i32_1029 : BitVec 32 := 0#32
  let v1247 : Index := Scalar.indexCast c0_i32_1029
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1248 : Index := Scalar.indexCast v1221
  let c15_i32_1016 : BitVec 32 := 15#32
  let v1222 : BitVec 32 := Scalar.andi v1219 c15_i32_1016
  let v1249 : Index := Scalar.indexCast v1222
  let c32_1030 : Index := 32#32
  ![0, v1248.toNat, v1249.toNat, 32]
def k0_off106 (k0_t2 : Fin k0_t2_loop.trips) : Fin 3 → Nat :=
  let c0_i32_1033 : BitVec 32 := 0#32
  let v1254 : Index := Scalar.indexCast c0_i32_1033
  let c0_i32_475 : BitVec 32 := 0#32
  let c1_i32_477 : BitVec 32 := 1#32
  let arg13 : BitVec 32 := Scf.iv c0_i32_475 c1_i32_477 k0_t2
  let c16_i32_1031 : BitVec 32 := 16#32
  let v1252 : BitVec 32 := Scalar.muli arg13 c16_i32_1031
  let c8_i32_1032 : BitVec 32 := 8#32
  let v1253 : BitVec 32 := Scalar.addi v1252 c8_i32_1032
  let v1255 : Index := Scalar.indexCast v1253
  let c32_1034 : Index := 32#32
  ![0, v1255.toNat, 32]
def k0_off107 (v1219 : BitVec 32) : Fin 4 → Nat :=
  let c0_i32_1035 : BitVec 32 := 0#32
  let v1259 : Index := Scalar.indexCast c0_i32_1035
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1260 : Index := Scalar.indexCast v1221
  let c15_i32_1016 : BitVec 32 := 15#32
  let v1222 : BitVec 32 := Scalar.andi v1219 c15_i32_1016
  let v1261 : Index := Scalar.indexCast v1222
  let c48_1036 : Index := 48#32
  ![0, v1260.toNat, v1261.toNat, 48]
def k0_off108 (k0_t2 : Fin k0_t2_loop.trips) : Fin 3 → Nat :=
  let c0_i32_1039 : BitVec 32 := 0#32
  let v1266 : Index := Scalar.indexCast c0_i32_1039
  let c0_i32_475 : BitVec 32 := 0#32
  let c1_i32_477 : BitVec 32 := 1#32
  let arg13 : BitVec 32 := Scf.iv c0_i32_475 c1_i32_477 k0_t2
  let c16_i32_1037 : BitVec 32 := 16#32
  let v1264 : BitVec 32 := Scalar.muli arg13 c16_i32_1037
  let c8_i32_1038 : BitVec 32 := 8#32
  let v1265 : BitVec 32 := Scalar.addi v1264 c8_i32_1038
  let v1267 : Index := Scalar.indexCast v1265
  let c48_1040 : Index := 48#32
  ![0, v1267.toNat, 48]
def k0_off109 (v1219 : BitVec 32) : Fin 4 → Nat :=
  let c0_i32_1041 : BitVec 32 := 0#32
  let v1271 : Index := Scalar.indexCast c0_i32_1041
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1272 : Index := Scalar.indexCast v1221
  let c15_i32_1016 : BitVec 32 := 15#32
  let v1222 : BitVec 32 := Scalar.andi v1219 c15_i32_1016
  let v1273 : Index := Scalar.indexCast v1222
  let c64_1042 : Index := 64#32
  ![0, v1272.toNat, v1273.toNat, 64]
def k0_off110 (k0_t2 : Fin k0_t2_loop.trips) : Fin 3 → Nat :=
  let c0_i32_1045 : BitVec 32 := 0#32
  let v1278 : Index := Scalar.indexCast c0_i32_1045
  let c0_i32_475 : BitVec 32 := 0#32
  let c1_i32_477 : BitVec 32 := 1#32
  let arg13 : BitVec 32 := Scf.iv c0_i32_475 c1_i32_477 k0_t2
  let c16_i32_1043 : BitVec 32 := 16#32
  let v1276 : BitVec 32 := Scalar.muli arg13 c16_i32_1043
  let c8_i32_1044 : BitVec 32 := 8#32
  let v1277 : BitVec 32 := Scalar.addi v1276 c8_i32_1044
  let v1279 : Index := Scalar.indexCast v1277
  let c64_1046 : Index := 64#32
  ![0, v1279.toNat, 64]
def k0_off111 (v1219 : BitVec 32) : Fin 4 → Nat :=
  let c0_i32_1047 : BitVec 32 := 0#32
  let v1283 : Index := Scalar.indexCast c0_i32_1047
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1284 : Index := Scalar.indexCast v1221
  let c15_i32_1016 : BitVec 32 := 15#32
  let v1222 : BitVec 32 := Scalar.andi v1219 c15_i32_1016
  let v1285 : Index := Scalar.indexCast v1222
  let c80_1048 : Index := 80#32
  ![0, v1284.toNat, v1285.toNat, 80]

def k0_chk11 (v1219 : BitVec 32) : Prop :=
  (∀ a, (k0_off101 v1219) a + S1x1x1x16.size a ≤ S2x16x16x96.size a) ∧
  (∀ a, (k0_off103 v1219) a + S1x1x1x16.size a ≤ S2x16x16x96.size a) ∧
  (∀ a, (k0_off105 v1219) a + S1x1x1x16.size a ≤ S2x16x16x96.size a) ∧
  (∀ a, (k0_off107 v1219) a + S1x1x1x16.size a ≤ S2x16x16x96.size a) ∧
  (∀ a, (k0_off109 v1219) a + S1x1x1x16.size a ≤ S2x16x16x96.size a) ∧
  (∀ a, (k0_off111 v1219) a + S1x1x1x16.size a ≤ S2x16x16x96.size a)
theorem k0_off101_inb : ∀ (v1219 : BitVec 32) (k0_hw11 : k0_chk11 v1219), ∀ a, (k0_off101 v1219) a + S1x1x1x16.size a ≤ S2x16x16x96.size a := fun v1219 k0_hw11 => k0_hw11.1
theorem k0_off103_inb : ∀ (v1219 : BitVec 32) (k0_hw11 : k0_chk11 v1219), ∀ a, (k0_off103 v1219) a + S1x1x1x16.size a ≤ S2x16x16x96.size a := fun v1219 k0_hw11 => k0_hw11.2.1
theorem k0_off105_inb : ∀ (v1219 : BitVec 32) (k0_hw11 : k0_chk11 v1219), ∀ a, (k0_off105 v1219) a + S1x1x1x16.size a ≤ S2x16x16x96.size a := fun v1219 k0_hw11 => k0_hw11.2.2.1
theorem k0_off107_inb : ∀ (v1219 : BitVec 32) (k0_hw11 : k0_chk11 v1219), ∀ a, (k0_off107 v1219) a + S1x1x1x16.size a ≤ S2x16x16x96.size a := fun v1219 k0_hw11 => k0_hw11.2.2.2.1
theorem k0_off109_inb : ∀ (v1219 : BitVec 32) (k0_hw11 : k0_chk11 v1219), ∀ a, (k0_off109 v1219) a + S1x1x1x16.size a ≤ S2x16x16x96.size a := fun v1219 k0_hw11 => k0_hw11.2.2.2.2.1
theorem k0_off111_inb : ∀ (v1219 : BitVec 32) (k0_hw11 : k0_chk11 v1219), ∀ a, (k0_off111 v1219) a + S1x1x1x16.size a ≤ S2x16x16x96.size a := fun v1219 k0_hw11 => k0_hw11.2.2.2.2.2

def k0_off112 (k0_t2 : Fin k0_t2_loop.trips) : Fin 3 → Nat :=
  let c0_i32_1051 : BitVec 32 := 0#32
  let v1290 : Index := Scalar.indexCast c0_i32_1051
  let c0_i32_475 : BitVec 32 := 0#32
  let c1_i32_477 : BitVec 32 := 1#32
  let arg13 : BitVec 32 := Scf.iv c0_i32_475 c1_i32_477 k0_t2
  let c16_i32_1049 : BitVec 32 := 16#32
  let v1288 : BitVec 32 := Scalar.muli arg13 c16_i32_1049
  let c8_i32_1050 : BitVec 32 := 8#32
  let v1289 : BitVec 32 := Scalar.addi v1288 c8_i32_1050
  let v1291 : Index := Scalar.indexCast v1289
  let c80_1052 : Index := 80#32
  ![0, v1291.toNat, 80]
def k0_off113 (v1296 : BitVec 32) : Fin 4 → Nat :=
  let c0_i32_1056 : BitVec 32 := 0#32
  let v1300 : Index := Scalar.indexCast c0_i32_1056
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1301 : Index := Scalar.indexCast v1298
  let c15_i32_1055 : BitVec 32 := 15#32
  let v1299 : BitVec 32 := Scalar.andi v1296 c15_i32_1055
  let v1302 : Index := Scalar.indexCast v1299
  let c0_1057 : Index := 0#32
  ![0, v1301.toNat, v1302.toNat, 0]

def k0_off114 (k0_t2 : Fin k0_t2_loop.trips) : Fin 3 → Nat :=
  let c0_i32_1060 : BitVec 32 := 0#32
  let v1307 : Index := Scalar.indexCast c0_i32_1060
  let c0_i32_475 : BitVec 32 := 0#32
  let c1_i32_477 : BitVec 32 := 1#32
  let arg13 : BitVec 32 := Scf.iv c0_i32_475 c1_i32_477 k0_t2
  let c16_i32_1058 : BitVec 32 := 16#32
  let v1305 : BitVec 32 := Scalar.muli arg13 c16_i32_1058
  let c9_i32_1059 : BitVec 32 := 9#32
  let v1306 : BitVec 32 := Scalar.addi v1305 c9_i32_1059
  let v1308 : Index := Scalar.indexCast v1306
  let c0_1061 : Index := 0#32
  ![0, v1308.toNat, 0]
def k0_off115 (v1296 : BitVec 32) : Fin 4 → Nat :=
  let c0_i32_1062 : BitVec 32 := 0#32
  let v1312 : Index := Scalar.indexCast c0_i32_1062
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1313 : Index := Scalar.indexCast v1298
  let c15_i32_1055 : BitVec 32 := 15#32
  let v1299 : BitVec 32 := Scalar.andi v1296 c15_i32_1055
  let v1314 : Index := Scalar.indexCast v1299
  let c16_1063 : Index := 16#32
  ![0, v1313.toNat, v1314.toNat, 16]
def k0_off116 (k0_t2 : Fin k0_t2_loop.trips) : Fin 3 → Nat :=
  let c0_i32_1066 : BitVec 32 := 0#32
  let v1319 : Index := Scalar.indexCast c0_i32_1066
  let c0_i32_475 : BitVec 32 := 0#32
  let c1_i32_477 : BitVec 32 := 1#32
  let arg13 : BitVec 32 := Scf.iv c0_i32_475 c1_i32_477 k0_t2
  let c16_i32_1064 : BitVec 32 := 16#32
  let v1317 : BitVec 32 := Scalar.muli arg13 c16_i32_1064
  let c9_i32_1065 : BitVec 32 := 9#32
  let v1318 : BitVec 32 := Scalar.addi v1317 c9_i32_1065
  let v1320 : Index := Scalar.indexCast v1318
  let c16_1067 : Index := 16#32
  ![0, v1320.toNat, 16]
def k0_off117 (v1296 : BitVec 32) : Fin 4 → Nat :=
  let c0_i32_1068 : BitVec 32 := 0#32
  let v1324 : Index := Scalar.indexCast c0_i32_1068
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1325 : Index := Scalar.indexCast v1298
  let c15_i32_1055 : BitVec 32 := 15#32
  let v1299 : BitVec 32 := Scalar.andi v1296 c15_i32_1055
  let v1326 : Index := Scalar.indexCast v1299
  let c32_1069 : Index := 32#32
  ![0, v1325.toNat, v1326.toNat, 32]
def k0_off118 (k0_t2 : Fin k0_t2_loop.trips) : Fin 3 → Nat :=
  let c0_i32_1072 : BitVec 32 := 0#32
  let v1331 : Index := Scalar.indexCast c0_i32_1072
  let c0_i32_475 : BitVec 32 := 0#32
  let c1_i32_477 : BitVec 32 := 1#32
  let arg13 : BitVec 32 := Scf.iv c0_i32_475 c1_i32_477 k0_t2
  let c16_i32_1070 : BitVec 32 := 16#32
  let v1329 : BitVec 32 := Scalar.muli arg13 c16_i32_1070
  let c9_i32_1071 : BitVec 32 := 9#32
  let v1330 : BitVec 32 := Scalar.addi v1329 c9_i32_1071
  let v1332 : Index := Scalar.indexCast v1330
  let c32_1073 : Index := 32#32
  ![0, v1332.toNat, 32]
def k0_off119 (v1296 : BitVec 32) : Fin 4 → Nat :=
  let c0_i32_1074 : BitVec 32 := 0#32
  let v1336 : Index := Scalar.indexCast c0_i32_1074
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1337 : Index := Scalar.indexCast v1298
  let c15_i32_1055 : BitVec 32 := 15#32
  let v1299 : BitVec 32 := Scalar.andi v1296 c15_i32_1055
  let v1338 : Index := Scalar.indexCast v1299
  let c48_1075 : Index := 48#32
  ![0, v1337.toNat, v1338.toNat, 48]
def k0_off120 (k0_t2 : Fin k0_t2_loop.trips) : Fin 3 → Nat :=
  let c0_i32_1078 : BitVec 32 := 0#32
  let v1343 : Index := Scalar.indexCast c0_i32_1078
  let c0_i32_475 : BitVec 32 := 0#32
  let c1_i32_477 : BitVec 32 := 1#32
  let arg13 : BitVec 32 := Scf.iv c0_i32_475 c1_i32_477 k0_t2
  let c16_i32_1076 : BitVec 32 := 16#32
  let v1341 : BitVec 32 := Scalar.muli arg13 c16_i32_1076
  let c9_i32_1077 : BitVec 32 := 9#32
  let v1342 : BitVec 32 := Scalar.addi v1341 c9_i32_1077
  let v1344 : Index := Scalar.indexCast v1342
  let c48_1079 : Index := 48#32
  ![0, v1344.toNat, 48]
def k0_off121 (v1296 : BitVec 32) : Fin 4 → Nat :=
  let c0_i32_1080 : BitVec 32 := 0#32
  let v1348 : Index := Scalar.indexCast c0_i32_1080
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1349 : Index := Scalar.indexCast v1298
  let c15_i32_1055 : BitVec 32 := 15#32
  let v1299 : BitVec 32 := Scalar.andi v1296 c15_i32_1055
  let v1350 : Index := Scalar.indexCast v1299
  let c64_1081 : Index := 64#32
  ![0, v1349.toNat, v1350.toNat, 64]
def k0_off122 (k0_t2 : Fin k0_t2_loop.trips) : Fin 3 → Nat :=
  let c0_i32_1084 : BitVec 32 := 0#32
  let v1355 : Index := Scalar.indexCast c0_i32_1084
  let c0_i32_475 : BitVec 32 := 0#32
  let c1_i32_477 : BitVec 32 := 1#32
  let arg13 : BitVec 32 := Scf.iv c0_i32_475 c1_i32_477 k0_t2
  let c16_i32_1082 : BitVec 32 := 16#32
  let v1353 : BitVec 32 := Scalar.muli arg13 c16_i32_1082
  let c9_i32_1083 : BitVec 32 := 9#32
  let v1354 : BitVec 32 := Scalar.addi v1353 c9_i32_1083
  let v1356 : Index := Scalar.indexCast v1354
  let c64_1085 : Index := 64#32
  ![0, v1356.toNat, 64]
def k0_off123 (v1296 : BitVec 32) : Fin 4 → Nat :=
  let c0_i32_1086 : BitVec 32 := 0#32
  let v1360 : Index := Scalar.indexCast c0_i32_1086
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1361 : Index := Scalar.indexCast v1298
  let c15_i32_1055 : BitVec 32 := 15#32
  let v1299 : BitVec 32 := Scalar.andi v1296 c15_i32_1055
  let v1362 : Index := Scalar.indexCast v1299
  let c80_1087 : Index := 80#32
  ![0, v1361.toNat, v1362.toNat, 80]

def k0_chk12 (v1296 : BitVec 32) : Prop :=
  (∀ a, (k0_off113 v1296) a + S1x1x1x16.size a ≤ S2x16x16x96.size a) ∧
  (∀ a, (k0_off115 v1296) a + S1x1x1x16.size a ≤ S2x16x16x96.size a) ∧
  (∀ a, (k0_off117 v1296) a + S1x1x1x16.size a ≤ S2x16x16x96.size a) ∧
  (∀ a, (k0_off119 v1296) a + S1x1x1x16.size a ≤ S2x16x16x96.size a) ∧
  (∀ a, (k0_off121 v1296) a + S1x1x1x16.size a ≤ S2x16x16x96.size a) ∧
  (∀ a, (k0_off123 v1296) a + S1x1x1x16.size a ≤ S2x16x16x96.size a)
theorem k0_off113_inb : ∀ (v1296 : BitVec 32) (k0_hw12 : k0_chk12 v1296), ∀ a, (k0_off113 v1296) a + S1x1x1x16.size a ≤ S2x16x16x96.size a := fun v1296 k0_hw12 => k0_hw12.1
theorem k0_off115_inb : ∀ (v1296 : BitVec 32) (k0_hw12 : k0_chk12 v1296), ∀ a, (k0_off115 v1296) a + S1x1x1x16.size a ≤ S2x16x16x96.size a := fun v1296 k0_hw12 => k0_hw12.2.1
theorem k0_off117_inb : ∀ (v1296 : BitVec 32) (k0_hw12 : k0_chk12 v1296), ∀ a, (k0_off117 v1296) a + S1x1x1x16.size a ≤ S2x16x16x96.size a := fun v1296 k0_hw12 => k0_hw12.2.2.1
theorem k0_off119_inb : ∀ (v1296 : BitVec 32) (k0_hw12 : k0_chk12 v1296), ∀ a, (k0_off119 v1296) a + S1x1x1x16.size a ≤ S2x16x16x96.size a := fun v1296 k0_hw12 => k0_hw12.2.2.2.1
theorem k0_off121_inb : ∀ (v1296 : BitVec 32) (k0_hw12 : k0_chk12 v1296), ∀ a, (k0_off121 v1296) a + S1x1x1x16.size a ≤ S2x16x16x96.size a := fun v1296 k0_hw12 => k0_hw12.2.2.2.2.1
theorem k0_off123_inb : ∀ (v1296 : BitVec 32) (k0_hw12 : k0_chk12 v1296), ∀ a, (k0_off123 v1296) a + S1x1x1x16.size a ≤ S2x16x16x96.size a := fun v1296 k0_hw12 => k0_hw12.2.2.2.2.2

def k0_off124 (k0_t2 : Fin k0_t2_loop.trips) : Fin 3 → Nat :=
  let c0_i32_1090 : BitVec 32 := 0#32
  let v1367 : Index := Scalar.indexCast c0_i32_1090
  let c0_i32_475 : BitVec 32 := 0#32
  let c1_i32_477 : BitVec 32 := 1#32
  let arg13 : BitVec 32 := Scf.iv c0_i32_475 c1_i32_477 k0_t2
  let c16_i32_1088 : BitVec 32 := 16#32
  let v1365 : BitVec 32 := Scalar.muli arg13 c16_i32_1088
  let c9_i32_1089 : BitVec 32 := 9#32
  let v1366 : BitVec 32 := Scalar.addi v1365 c9_i32_1089
  let v1368 : Index := Scalar.indexCast v1366
  let c80_1091 : Index := 80#32
  ![0, v1368.toNat, 80]
def k0_off125 (v1373 : BitVec 32) : Fin 4 → Nat :=
  let c0_i32_1095 : BitVec 32 := 0#32
  let v1377 : Index := Scalar.indexCast c0_i32_1095
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1378 : Index := Scalar.indexCast v1375
  let c15_i32_1094 : BitVec 32 := 15#32
  let v1376 : BitVec 32 := Scalar.andi v1373 c15_i32_1094
  let v1379 : Index := Scalar.indexCast v1376
  let c0_1096 : Index := 0#32
  ![0, v1378.toNat, v1379.toNat, 0]

def k0_off126 (k0_t2 : Fin k0_t2_loop.trips) : Fin 3 → Nat :=
  let c0_i32_1099 : BitVec 32 := 0#32
  let v1384 : Index := Scalar.indexCast c0_i32_1099
  let c0_i32_475 : BitVec 32 := 0#32
  let c1_i32_477 : BitVec 32 := 1#32
  let arg13 : BitVec 32 := Scf.iv c0_i32_475 c1_i32_477 k0_t2
  let c16_i32_1097 : BitVec 32 := 16#32
  let v1382 : BitVec 32 := Scalar.muli arg13 c16_i32_1097
  let c10_i32_1098 : BitVec 32 := 10#32
  let v1383 : BitVec 32 := Scalar.addi v1382 c10_i32_1098
  let v1385 : Index := Scalar.indexCast v1383
  let c0_1100 : Index := 0#32
  ![0, v1385.toNat, 0]
def k0_off127 (v1373 : BitVec 32) : Fin 4 → Nat :=
  let c0_i32_1101 : BitVec 32 := 0#32
  let v1389 : Index := Scalar.indexCast c0_i32_1101
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1390 : Index := Scalar.indexCast v1375
  let c15_i32_1094 : BitVec 32 := 15#32
  let v1376 : BitVec 32 := Scalar.andi v1373 c15_i32_1094
  let v1391 : Index := Scalar.indexCast v1376
  let c16_1102 : Index := 16#32
  ![0, v1390.toNat, v1391.toNat, 16]
def k0_off128 (k0_t2 : Fin k0_t2_loop.trips) : Fin 3 → Nat :=
  let c0_i32_1105 : BitVec 32 := 0#32
  let v1396 : Index := Scalar.indexCast c0_i32_1105
  let c0_i32_475 : BitVec 32 := 0#32
  let c1_i32_477 : BitVec 32 := 1#32
  let arg13 : BitVec 32 := Scf.iv c0_i32_475 c1_i32_477 k0_t2
  let c16_i32_1103 : BitVec 32 := 16#32
  let v1394 : BitVec 32 := Scalar.muli arg13 c16_i32_1103
  let c10_i32_1104 : BitVec 32 := 10#32
  let v1395 : BitVec 32 := Scalar.addi v1394 c10_i32_1104
  let v1397 : Index := Scalar.indexCast v1395
  let c16_1106 : Index := 16#32
  ![0, v1397.toNat, 16]
def k0_off129 (v1373 : BitVec 32) : Fin 4 → Nat :=
  let c0_i32_1107 : BitVec 32 := 0#32
  let v1401 : Index := Scalar.indexCast c0_i32_1107
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1402 : Index := Scalar.indexCast v1375
  let c15_i32_1094 : BitVec 32 := 15#32
  let v1376 : BitVec 32 := Scalar.andi v1373 c15_i32_1094
  let v1403 : Index := Scalar.indexCast v1376
  let c32_1108 : Index := 32#32
  ![0, v1402.toNat, v1403.toNat, 32]
def k0_off130 (k0_t2 : Fin k0_t2_loop.trips) : Fin 3 → Nat :=
  let c0_i32_1111 : BitVec 32 := 0#32
  let v1408 : Index := Scalar.indexCast c0_i32_1111
  let c0_i32_475 : BitVec 32 := 0#32
  let c1_i32_477 : BitVec 32 := 1#32
  let arg13 : BitVec 32 := Scf.iv c0_i32_475 c1_i32_477 k0_t2
  let c16_i32_1109 : BitVec 32 := 16#32
  let v1406 : BitVec 32 := Scalar.muli arg13 c16_i32_1109
  let c10_i32_1110 : BitVec 32 := 10#32
  let v1407 : BitVec 32 := Scalar.addi v1406 c10_i32_1110
  let v1409 : Index := Scalar.indexCast v1407
  let c32_1112 : Index := 32#32
  ![0, v1409.toNat, 32]
def k0_off131 (v1373 : BitVec 32) : Fin 4 → Nat :=
  let c0_i32_1113 : BitVec 32 := 0#32
  let v1413 : Index := Scalar.indexCast c0_i32_1113
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1414 : Index := Scalar.indexCast v1375
  let c15_i32_1094 : BitVec 32 := 15#32
  let v1376 : BitVec 32 := Scalar.andi v1373 c15_i32_1094
  let v1415 : Index := Scalar.indexCast v1376
  let c48_1114 : Index := 48#32
  ![0, v1414.toNat, v1415.toNat, 48]
def k0_off132 (k0_t2 : Fin k0_t2_loop.trips) : Fin 3 → Nat :=
  let c0_i32_1117 : BitVec 32 := 0#32
  let v1420 : Index := Scalar.indexCast c0_i32_1117
  let c0_i32_475 : BitVec 32 := 0#32
  let c1_i32_477 : BitVec 32 := 1#32
  let arg13 : BitVec 32 := Scf.iv c0_i32_475 c1_i32_477 k0_t2
  let c16_i32_1115 : BitVec 32 := 16#32
  let v1418 : BitVec 32 := Scalar.muli arg13 c16_i32_1115
  let c10_i32_1116 : BitVec 32 := 10#32
  let v1419 : BitVec 32 := Scalar.addi v1418 c10_i32_1116
  let v1421 : Index := Scalar.indexCast v1419
  let c48_1118 : Index := 48#32
  ![0, v1421.toNat, 48]
def k0_off133 (v1373 : BitVec 32) : Fin 4 → Nat :=
  let c0_i32_1119 : BitVec 32 := 0#32
  let v1425 : Index := Scalar.indexCast c0_i32_1119
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1426 : Index := Scalar.indexCast v1375
  let c15_i32_1094 : BitVec 32 := 15#32
  let v1376 : BitVec 32 := Scalar.andi v1373 c15_i32_1094
  let v1427 : Index := Scalar.indexCast v1376
  let c64_1120 : Index := 64#32
  ![0, v1426.toNat, v1427.toNat, 64]
def k0_off134 (k0_t2 : Fin k0_t2_loop.trips) : Fin 3 → Nat :=
  let c0_i32_1123 : BitVec 32 := 0#32
  let v1432 : Index := Scalar.indexCast c0_i32_1123
  let c0_i32_475 : BitVec 32 := 0#32
  let c1_i32_477 : BitVec 32 := 1#32
  let arg13 : BitVec 32 := Scf.iv c0_i32_475 c1_i32_477 k0_t2
  let c16_i32_1121 : BitVec 32 := 16#32
  let v1430 : BitVec 32 := Scalar.muli arg13 c16_i32_1121
  let c10_i32_1122 : BitVec 32 := 10#32
  let v1431 : BitVec 32 := Scalar.addi v1430 c10_i32_1122
  let v1433 : Index := Scalar.indexCast v1431
  let c64_1124 : Index := 64#32
  ![0, v1433.toNat, 64]
def k0_off135 (v1373 : BitVec 32) : Fin 4 → Nat :=
  let c0_i32_1125 : BitVec 32 := 0#32
  let v1437 : Index := Scalar.indexCast c0_i32_1125
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1438 : Index := Scalar.indexCast v1375
  let c15_i32_1094 : BitVec 32 := 15#32
  let v1376 : BitVec 32 := Scalar.andi v1373 c15_i32_1094
  let v1439 : Index := Scalar.indexCast v1376
  let c80_1126 : Index := 80#32
  ![0, v1438.toNat, v1439.toNat, 80]

def k0_chk13 (v1373 : BitVec 32) : Prop :=
  (∀ a, (k0_off125 v1373) a + S1x1x1x16.size a ≤ S2x16x16x96.size a) ∧
  (∀ a, (k0_off127 v1373) a + S1x1x1x16.size a ≤ S2x16x16x96.size a) ∧
  (∀ a, (k0_off129 v1373) a + S1x1x1x16.size a ≤ S2x16x16x96.size a) ∧
  (∀ a, (k0_off131 v1373) a + S1x1x1x16.size a ≤ S2x16x16x96.size a) ∧
  (∀ a, (k0_off133 v1373) a + S1x1x1x16.size a ≤ S2x16x16x96.size a) ∧
  (∀ a, (k0_off135 v1373) a + S1x1x1x16.size a ≤ S2x16x16x96.size a)
theorem k0_off125_inb : ∀ (v1373 : BitVec 32) (k0_hw13 : k0_chk13 v1373), ∀ a, (k0_off125 v1373) a + S1x1x1x16.size a ≤ S2x16x16x96.size a := fun v1373 k0_hw13 => k0_hw13.1
theorem k0_off127_inb : ∀ (v1373 : BitVec 32) (k0_hw13 : k0_chk13 v1373), ∀ a, (k0_off127 v1373) a + S1x1x1x16.size a ≤ S2x16x16x96.size a := fun v1373 k0_hw13 => k0_hw13.2.1
theorem k0_off129_inb : ∀ (v1373 : BitVec 32) (k0_hw13 : k0_chk13 v1373), ∀ a, (k0_off129 v1373) a + S1x1x1x16.size a ≤ S2x16x16x96.size a := fun v1373 k0_hw13 => k0_hw13.2.2.1
theorem k0_off131_inb : ∀ (v1373 : BitVec 32) (k0_hw13 : k0_chk13 v1373), ∀ a, (k0_off131 v1373) a + S1x1x1x16.size a ≤ S2x16x16x96.size a := fun v1373 k0_hw13 => k0_hw13.2.2.2.1
theorem k0_off133_inb : ∀ (v1373 : BitVec 32) (k0_hw13 : k0_chk13 v1373), ∀ a, (k0_off133 v1373) a + S1x1x1x16.size a ≤ S2x16x16x96.size a := fun v1373 k0_hw13 => k0_hw13.2.2.2.2.1
theorem k0_off135_inb : ∀ (v1373 : BitVec 32) (k0_hw13 : k0_chk13 v1373), ∀ a, (k0_off135 v1373) a + S1x1x1x16.size a ≤ S2x16x16x96.size a := fun v1373 k0_hw13 => k0_hw13.2.2.2.2.2

def k0_off136 (k0_t2 : Fin k0_t2_loop.trips) : Fin 3 → Nat :=
  let c0_i32_1129 : BitVec 32 := 0#32
  let v1444 : Index := Scalar.indexCast c0_i32_1129
  let c0_i32_475 : BitVec 32 := 0#32
  let c1_i32_477 : BitVec 32 := 1#32
  let arg13 : BitVec 32 := Scf.iv c0_i32_475 c1_i32_477 k0_t2
  let c16_i32_1127 : BitVec 32 := 16#32
  let v1442 : BitVec 32 := Scalar.muli arg13 c16_i32_1127
  let c10_i32_1128 : BitVec 32 := 10#32
  let v1443 : BitVec 32 := Scalar.addi v1442 c10_i32_1128
  let v1445 : Index := Scalar.indexCast v1443
  let c80_1130 : Index := 80#32
  ![0, v1445.toNat, 80]
def k0_off137 (v1450 : BitVec 32) : Fin 4 → Nat :=
  let c0_i32_1134 : BitVec 32 := 0#32
  let v1454 : Index := Scalar.indexCast c0_i32_1134
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1455 : Index := Scalar.indexCast v1452
  let c15_i32_1133 : BitVec 32 := 15#32
  let v1453 : BitVec 32 := Scalar.andi v1450 c15_i32_1133
  let v1456 : Index := Scalar.indexCast v1453
  let c0_1135 : Index := 0#32
  ![0, v1455.toNat, v1456.toNat, 0]

def k0_off138 (k0_t2 : Fin k0_t2_loop.trips) : Fin 3 → Nat :=
  let c0_i32_1138 : BitVec 32 := 0#32
  let v1461 : Index := Scalar.indexCast c0_i32_1138
  let c0_i32_475 : BitVec 32 := 0#32
  let c1_i32_477 : BitVec 32 := 1#32
  let arg13 : BitVec 32 := Scf.iv c0_i32_475 c1_i32_477 k0_t2
  let c16_i32_1136 : BitVec 32 := 16#32
  let v1459 : BitVec 32 := Scalar.muli arg13 c16_i32_1136
  let c11_i32_1137 : BitVec 32 := 11#32
  let v1460 : BitVec 32 := Scalar.addi v1459 c11_i32_1137
  let v1462 : Index := Scalar.indexCast v1460
  let c0_1139 : Index := 0#32
  ![0, v1462.toNat, 0]
def k0_off139 (v1450 : BitVec 32) : Fin 4 → Nat :=
  let c0_i32_1140 : BitVec 32 := 0#32
  let v1466 : Index := Scalar.indexCast c0_i32_1140
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1467 : Index := Scalar.indexCast v1452
  let c15_i32_1133 : BitVec 32 := 15#32
  let v1453 : BitVec 32 := Scalar.andi v1450 c15_i32_1133
  let v1468 : Index := Scalar.indexCast v1453
  let c16_1141 : Index := 16#32
  ![0, v1467.toNat, v1468.toNat, 16]
def k0_off140 (k0_t2 : Fin k0_t2_loop.trips) : Fin 3 → Nat :=
  let c0_i32_1144 : BitVec 32 := 0#32
  let v1473 : Index := Scalar.indexCast c0_i32_1144
  let c0_i32_475 : BitVec 32 := 0#32
  let c1_i32_477 : BitVec 32 := 1#32
  let arg13 : BitVec 32 := Scf.iv c0_i32_475 c1_i32_477 k0_t2
  let c16_i32_1142 : BitVec 32 := 16#32
  let v1471 : BitVec 32 := Scalar.muli arg13 c16_i32_1142
  let c11_i32_1143 : BitVec 32 := 11#32
  let v1472 : BitVec 32 := Scalar.addi v1471 c11_i32_1143
  let v1474 : Index := Scalar.indexCast v1472
  let c16_1145 : Index := 16#32
  ![0, v1474.toNat, 16]
def k0_off141 (v1450 : BitVec 32) : Fin 4 → Nat :=
  let c0_i32_1146 : BitVec 32 := 0#32
  let v1478 : Index := Scalar.indexCast c0_i32_1146
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1479 : Index := Scalar.indexCast v1452
  let c15_i32_1133 : BitVec 32 := 15#32
  let v1453 : BitVec 32 := Scalar.andi v1450 c15_i32_1133
  let v1480 : Index := Scalar.indexCast v1453
  let c32_1147 : Index := 32#32
  ![0, v1479.toNat, v1480.toNat, 32]
def k0_off142 (k0_t2 : Fin k0_t2_loop.trips) : Fin 3 → Nat :=
  let c0_i32_1150 : BitVec 32 := 0#32
  let v1485 : Index := Scalar.indexCast c0_i32_1150
  let c0_i32_475 : BitVec 32 := 0#32
  let c1_i32_477 : BitVec 32 := 1#32
  let arg13 : BitVec 32 := Scf.iv c0_i32_475 c1_i32_477 k0_t2
  let c16_i32_1148 : BitVec 32 := 16#32
  let v1483 : BitVec 32 := Scalar.muli arg13 c16_i32_1148
  let c11_i32_1149 : BitVec 32 := 11#32
  let v1484 : BitVec 32 := Scalar.addi v1483 c11_i32_1149
  let v1486 : Index := Scalar.indexCast v1484
  let c32_1151 : Index := 32#32
  ![0, v1486.toNat, 32]
def k0_off143 (v1450 : BitVec 32) : Fin 4 → Nat :=
  let c0_i32_1152 : BitVec 32 := 0#32
  let v1490 : Index := Scalar.indexCast c0_i32_1152
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1491 : Index := Scalar.indexCast v1452
  let c15_i32_1133 : BitVec 32 := 15#32
  let v1453 : BitVec 32 := Scalar.andi v1450 c15_i32_1133
  let v1492 : Index := Scalar.indexCast v1453
  let c48_1153 : Index := 48#32
  ![0, v1491.toNat, v1492.toNat, 48]
def k0_off144 (k0_t2 : Fin k0_t2_loop.trips) : Fin 3 → Nat :=
  let c0_i32_1156 : BitVec 32 := 0#32
  let v1497 : Index := Scalar.indexCast c0_i32_1156
  let c0_i32_475 : BitVec 32 := 0#32
  let c1_i32_477 : BitVec 32 := 1#32
  let arg13 : BitVec 32 := Scf.iv c0_i32_475 c1_i32_477 k0_t2
  let c16_i32_1154 : BitVec 32 := 16#32
  let v1495 : BitVec 32 := Scalar.muli arg13 c16_i32_1154
  let c11_i32_1155 : BitVec 32 := 11#32
  let v1496 : BitVec 32 := Scalar.addi v1495 c11_i32_1155
  let v1498 : Index := Scalar.indexCast v1496
  let c48_1157 : Index := 48#32
  ![0, v1498.toNat, 48]
def k0_off145 (v1450 : BitVec 32) : Fin 4 → Nat :=
  let c0_i32_1158 : BitVec 32 := 0#32
  let v1502 : Index := Scalar.indexCast c0_i32_1158
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1503 : Index := Scalar.indexCast v1452
  let c15_i32_1133 : BitVec 32 := 15#32
  let v1453 : BitVec 32 := Scalar.andi v1450 c15_i32_1133
  let v1504 : Index := Scalar.indexCast v1453
  let c64_1159 : Index := 64#32
  ![0, v1503.toNat, v1504.toNat, 64]
def k0_off146 (k0_t2 : Fin k0_t2_loop.trips) : Fin 3 → Nat :=
  let c0_i32_1162 : BitVec 32 := 0#32
  let v1509 : Index := Scalar.indexCast c0_i32_1162
  let c0_i32_475 : BitVec 32 := 0#32
  let c1_i32_477 : BitVec 32 := 1#32
  let arg13 : BitVec 32 := Scf.iv c0_i32_475 c1_i32_477 k0_t2
  let c16_i32_1160 : BitVec 32 := 16#32
  let v1507 : BitVec 32 := Scalar.muli arg13 c16_i32_1160
  let c11_i32_1161 : BitVec 32 := 11#32
  let v1508 : BitVec 32 := Scalar.addi v1507 c11_i32_1161
  let v1510 : Index := Scalar.indexCast v1508
  let c64_1163 : Index := 64#32
  ![0, v1510.toNat, 64]
def k0_off147 (v1450 : BitVec 32) : Fin 4 → Nat :=
  let c0_i32_1164 : BitVec 32 := 0#32
  let v1514 : Index := Scalar.indexCast c0_i32_1164
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1515 : Index := Scalar.indexCast v1452
  let c15_i32_1133 : BitVec 32 := 15#32
  let v1453 : BitVec 32 := Scalar.andi v1450 c15_i32_1133
  let v1516 : Index := Scalar.indexCast v1453
  let c80_1165 : Index := 80#32
  ![0, v1515.toNat, v1516.toNat, 80]

def k0_chk14 (v1450 : BitVec 32) : Prop :=
  (∀ a, (k0_off137 v1450) a + S1x1x1x16.size a ≤ S2x16x16x96.size a) ∧
  (∀ a, (k0_off139 v1450) a + S1x1x1x16.size a ≤ S2x16x16x96.size a) ∧
  (∀ a, (k0_off141 v1450) a + S1x1x1x16.size a ≤ S2x16x16x96.size a) ∧
  (∀ a, (k0_off143 v1450) a + S1x1x1x16.size a ≤ S2x16x16x96.size a) ∧
  (∀ a, (k0_off145 v1450) a + S1x1x1x16.size a ≤ S2x16x16x96.size a) ∧
  (∀ a, (k0_off147 v1450) a + S1x1x1x16.size a ≤ S2x16x16x96.size a)
theorem k0_off137_inb : ∀ (v1450 : BitVec 32) (k0_hw14 : k0_chk14 v1450), ∀ a, (k0_off137 v1450) a + S1x1x1x16.size a ≤ S2x16x16x96.size a := fun v1450 k0_hw14 => k0_hw14.1
theorem k0_off139_inb : ∀ (v1450 : BitVec 32) (k0_hw14 : k0_chk14 v1450), ∀ a, (k0_off139 v1450) a + S1x1x1x16.size a ≤ S2x16x16x96.size a := fun v1450 k0_hw14 => k0_hw14.2.1
theorem k0_off141_inb : ∀ (v1450 : BitVec 32) (k0_hw14 : k0_chk14 v1450), ∀ a, (k0_off141 v1450) a + S1x1x1x16.size a ≤ S2x16x16x96.size a := fun v1450 k0_hw14 => k0_hw14.2.2.1
theorem k0_off143_inb : ∀ (v1450 : BitVec 32) (k0_hw14 : k0_chk14 v1450), ∀ a, (k0_off143 v1450) a + S1x1x1x16.size a ≤ S2x16x16x96.size a := fun v1450 k0_hw14 => k0_hw14.2.2.2.1
theorem k0_off145_inb : ∀ (v1450 : BitVec 32) (k0_hw14 : k0_chk14 v1450), ∀ a, (k0_off145 v1450) a + S1x1x1x16.size a ≤ S2x16x16x96.size a := fun v1450 k0_hw14 => k0_hw14.2.2.2.2.1
theorem k0_off147_inb : ∀ (v1450 : BitVec 32) (k0_hw14 : k0_chk14 v1450), ∀ a, (k0_off147 v1450) a + S1x1x1x16.size a ≤ S2x16x16x96.size a := fun v1450 k0_hw14 => k0_hw14.2.2.2.2.2

def k0_off148 (k0_t2 : Fin k0_t2_loop.trips) : Fin 3 → Nat :=
  let c0_i32_1168 : BitVec 32 := 0#32
  let v1521 : Index := Scalar.indexCast c0_i32_1168
  let c0_i32_475 : BitVec 32 := 0#32
  let c1_i32_477 : BitVec 32 := 1#32
  let arg13 : BitVec 32 := Scf.iv c0_i32_475 c1_i32_477 k0_t2
  let c16_i32_1166 : BitVec 32 := 16#32
  let v1519 : BitVec 32 := Scalar.muli arg13 c16_i32_1166
  let c11_i32_1167 : BitVec 32 := 11#32
  let v1520 : BitVec 32 := Scalar.addi v1519 c11_i32_1167
  let v1522 : Index := Scalar.indexCast v1520
  let c80_1169 : Index := 80#32
  ![0, v1522.toNat, 80]
def k0_off149 (v1527 : BitVec 32) : Fin 4 → Nat :=
  let c0_i32_1173 : BitVec 32 := 0#32
  let v1531 : Index := Scalar.indexCast c0_i32_1173
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1532 : Index := Scalar.indexCast v1529
  let c15_i32_1172 : BitVec 32 := 15#32
  let v1530 : BitVec 32 := Scalar.andi v1527 c15_i32_1172
  let v1533 : Index := Scalar.indexCast v1530
  let c0_1174 : Index := 0#32
  ![0, v1532.toNat, v1533.toNat, 0]

def k0_off150 (k0_t2 : Fin k0_t2_loop.trips) : Fin 3 → Nat :=
  let c0_i32_1177 : BitVec 32 := 0#32
  let v1538 : Index := Scalar.indexCast c0_i32_1177
  let c0_i32_475 : BitVec 32 := 0#32
  let c1_i32_477 : BitVec 32 := 1#32
  let arg13 : BitVec 32 := Scf.iv c0_i32_475 c1_i32_477 k0_t2
  let c16_i32_1175 : BitVec 32 := 16#32
  let v1536 : BitVec 32 := Scalar.muli arg13 c16_i32_1175
  let c12_i32_1176 : BitVec 32 := 12#32
  let v1537 : BitVec 32 := Scalar.addi v1536 c12_i32_1176
  let v1539 : Index := Scalar.indexCast v1537
  let c0_1178 : Index := 0#32
  ![0, v1539.toNat, 0]
def k0_off151 (v1527 : BitVec 32) : Fin 4 → Nat :=
  let c0_i32_1179 : BitVec 32 := 0#32
  let v1543 : Index := Scalar.indexCast c0_i32_1179
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1544 : Index := Scalar.indexCast v1529
  let c15_i32_1172 : BitVec 32 := 15#32
  let v1530 : BitVec 32 := Scalar.andi v1527 c15_i32_1172
  let v1545 : Index := Scalar.indexCast v1530
  let c16_1180 : Index := 16#32
  ![0, v1544.toNat, v1545.toNat, 16]
def k0_off152 (k0_t2 : Fin k0_t2_loop.trips) : Fin 3 → Nat :=
  let c0_i32_1183 : BitVec 32 := 0#32
  let v1550 : Index := Scalar.indexCast c0_i32_1183
  let c0_i32_475 : BitVec 32 := 0#32
  let c1_i32_477 : BitVec 32 := 1#32
  let arg13 : BitVec 32 := Scf.iv c0_i32_475 c1_i32_477 k0_t2
  let c16_i32_1181 : BitVec 32 := 16#32
  let v1548 : BitVec 32 := Scalar.muli arg13 c16_i32_1181
  let c12_i32_1182 : BitVec 32 := 12#32
  let v1549 : BitVec 32 := Scalar.addi v1548 c12_i32_1182
  let v1551 : Index := Scalar.indexCast v1549
  let c16_1184 : Index := 16#32
  ![0, v1551.toNat, 16]
def k0_off153 (v1527 : BitVec 32) : Fin 4 → Nat :=
  let c0_i32_1185 : BitVec 32 := 0#32
  let v1555 : Index := Scalar.indexCast c0_i32_1185
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1556 : Index := Scalar.indexCast v1529
  let c15_i32_1172 : BitVec 32 := 15#32
  let v1530 : BitVec 32 := Scalar.andi v1527 c15_i32_1172
  let v1557 : Index := Scalar.indexCast v1530
  let c32_1186 : Index := 32#32
  ![0, v1556.toNat, v1557.toNat, 32]
def k0_off154 (k0_t2 : Fin k0_t2_loop.trips) : Fin 3 → Nat :=
  let c0_i32_1189 : BitVec 32 := 0#32
  let v1562 : Index := Scalar.indexCast c0_i32_1189
  let c0_i32_475 : BitVec 32 := 0#32
  let c1_i32_477 : BitVec 32 := 1#32
  let arg13 : BitVec 32 := Scf.iv c0_i32_475 c1_i32_477 k0_t2
  let c16_i32_1187 : BitVec 32 := 16#32
  let v1560 : BitVec 32 := Scalar.muli arg13 c16_i32_1187
  let c12_i32_1188 : BitVec 32 := 12#32
  let v1561 : BitVec 32 := Scalar.addi v1560 c12_i32_1188
  let v1563 : Index := Scalar.indexCast v1561
  let c32_1190 : Index := 32#32
  ![0, v1563.toNat, 32]
def k0_off155 (v1527 : BitVec 32) : Fin 4 → Nat :=
  let c0_i32_1191 : BitVec 32 := 0#32
  let v1567 : Index := Scalar.indexCast c0_i32_1191
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1568 : Index := Scalar.indexCast v1529
  let c15_i32_1172 : BitVec 32 := 15#32
  let v1530 : BitVec 32 := Scalar.andi v1527 c15_i32_1172
  let v1569 : Index := Scalar.indexCast v1530
  let c48_1192 : Index := 48#32
  ![0, v1568.toNat, v1569.toNat, 48]
def k0_off156 (k0_t2 : Fin k0_t2_loop.trips) : Fin 3 → Nat :=
  let c0_i32_1195 : BitVec 32 := 0#32
  let v1574 : Index := Scalar.indexCast c0_i32_1195
  let c0_i32_475 : BitVec 32 := 0#32
  let c1_i32_477 : BitVec 32 := 1#32
  let arg13 : BitVec 32 := Scf.iv c0_i32_475 c1_i32_477 k0_t2
  let c16_i32_1193 : BitVec 32 := 16#32
  let v1572 : BitVec 32 := Scalar.muli arg13 c16_i32_1193
  let c12_i32_1194 : BitVec 32 := 12#32
  let v1573 : BitVec 32 := Scalar.addi v1572 c12_i32_1194
  let v1575 : Index := Scalar.indexCast v1573
  let c48_1196 : Index := 48#32
  ![0, v1575.toNat, 48]
def k0_off157 (v1527 : BitVec 32) : Fin 4 → Nat :=
  let c0_i32_1197 : BitVec 32 := 0#32
  let v1579 : Index := Scalar.indexCast c0_i32_1197
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1580 : Index := Scalar.indexCast v1529
  let c15_i32_1172 : BitVec 32 := 15#32
  let v1530 : BitVec 32 := Scalar.andi v1527 c15_i32_1172
  let v1581 : Index := Scalar.indexCast v1530
  let c64_1198 : Index := 64#32
  ![0, v1580.toNat, v1581.toNat, 64]
def k0_off158 (k0_t2 : Fin k0_t2_loop.trips) : Fin 3 → Nat :=
  let c0_i32_1201 : BitVec 32 := 0#32
  let v1586 : Index := Scalar.indexCast c0_i32_1201
  let c0_i32_475 : BitVec 32 := 0#32
  let c1_i32_477 : BitVec 32 := 1#32
  let arg13 : BitVec 32 := Scf.iv c0_i32_475 c1_i32_477 k0_t2
  let c16_i32_1199 : BitVec 32 := 16#32
  let v1584 : BitVec 32 := Scalar.muli arg13 c16_i32_1199
  let c12_i32_1200 : BitVec 32 := 12#32
  let v1585 : BitVec 32 := Scalar.addi v1584 c12_i32_1200
  let v1587 : Index := Scalar.indexCast v1585
  let c64_1202 : Index := 64#32
  ![0, v1587.toNat, 64]
def k0_off159 (v1527 : BitVec 32) : Fin 4 → Nat :=
  let c0_i32_1203 : BitVec 32 := 0#32
  let v1591 : Index := Scalar.indexCast c0_i32_1203
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1592 : Index := Scalar.indexCast v1529
  let c15_i32_1172 : BitVec 32 := 15#32
  let v1530 : BitVec 32 := Scalar.andi v1527 c15_i32_1172
  let v1593 : Index := Scalar.indexCast v1530
  let c80_1204 : Index := 80#32
  ![0, v1592.toNat, v1593.toNat, 80]

def k0_chk15 (v1527 : BitVec 32) : Prop :=
  (∀ a, (k0_off149 v1527) a + S1x1x1x16.size a ≤ S2x16x16x96.size a) ∧
  (∀ a, (k0_off151 v1527) a + S1x1x1x16.size a ≤ S2x16x16x96.size a) ∧
  (∀ a, (k0_off153 v1527) a + S1x1x1x16.size a ≤ S2x16x16x96.size a) ∧
  (∀ a, (k0_off155 v1527) a + S1x1x1x16.size a ≤ S2x16x16x96.size a) ∧
  (∀ a, (k0_off157 v1527) a + S1x1x1x16.size a ≤ S2x16x16x96.size a) ∧
  (∀ a, (k0_off159 v1527) a + S1x1x1x16.size a ≤ S2x16x16x96.size a)
theorem k0_off149_inb : ∀ (v1527 : BitVec 32) (k0_hw15 : k0_chk15 v1527), ∀ a, (k0_off149 v1527) a + S1x1x1x16.size a ≤ S2x16x16x96.size a := fun v1527 k0_hw15 => k0_hw15.1
theorem k0_off151_inb : ∀ (v1527 : BitVec 32) (k0_hw15 : k0_chk15 v1527), ∀ a, (k0_off151 v1527) a + S1x1x1x16.size a ≤ S2x16x16x96.size a := fun v1527 k0_hw15 => k0_hw15.2.1
theorem k0_off153_inb : ∀ (v1527 : BitVec 32) (k0_hw15 : k0_chk15 v1527), ∀ a, (k0_off153 v1527) a + S1x1x1x16.size a ≤ S2x16x16x96.size a := fun v1527 k0_hw15 => k0_hw15.2.2.1
theorem k0_off155_inb : ∀ (v1527 : BitVec 32) (k0_hw15 : k0_chk15 v1527), ∀ a, (k0_off155 v1527) a + S1x1x1x16.size a ≤ S2x16x16x96.size a := fun v1527 k0_hw15 => k0_hw15.2.2.2.1
theorem k0_off157_inb : ∀ (v1527 : BitVec 32) (k0_hw15 : k0_chk15 v1527), ∀ a, (k0_off157 v1527) a + S1x1x1x16.size a ≤ S2x16x16x96.size a := fun v1527 k0_hw15 => k0_hw15.2.2.2.2.1
theorem k0_off159_inb : ∀ (v1527 : BitVec 32) (k0_hw15 : k0_chk15 v1527), ∀ a, (k0_off159 v1527) a + S1x1x1x16.size a ≤ S2x16x16x96.size a := fun v1527 k0_hw15 => k0_hw15.2.2.2.2.2

def k0_off160 (k0_t2 : Fin k0_t2_loop.trips) : Fin 3 → Nat :=
  let c0_i32_1207 : BitVec 32 := 0#32
  let v1598 : Index := Scalar.indexCast c0_i32_1207
  let c0_i32_475 : BitVec 32 := 0#32
  let c1_i32_477 : BitVec 32 := 1#32
  let arg13 : BitVec 32 := Scf.iv c0_i32_475 c1_i32_477 k0_t2
  let c16_i32_1205 : BitVec 32 := 16#32
  let v1596 : BitVec 32 := Scalar.muli arg13 c16_i32_1205
  let c12_i32_1206 : BitVec 32 := 12#32
  let v1597 : BitVec 32 := Scalar.addi v1596 c12_i32_1206
  let v1599 : Index := Scalar.indexCast v1597
  let c80_1208 : Index := 80#32
  ![0, v1599.toNat, 80]
def k0_off161 (v1604 : BitVec 32) : Fin 4 → Nat :=
  let c0_i32_1212 : BitVec 32 := 0#32
  let v1608 : Index := Scalar.indexCast c0_i32_1212
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1609 : Index := Scalar.indexCast v1606
  let c15_i32_1211 : BitVec 32 := 15#32
  let v1607 : BitVec 32 := Scalar.andi v1604 c15_i32_1211
  let v1610 : Index := Scalar.indexCast v1607
  let c0_1213 : Index := 0#32
  ![0, v1609.toNat, v1610.toNat, 0]

def k0_off162 (k0_t2 : Fin k0_t2_loop.trips) : Fin 3 → Nat :=
  let c0_i32_1216 : BitVec 32 := 0#32
  let v1615 : Index := Scalar.indexCast c0_i32_1216
  let c0_i32_475 : BitVec 32 := 0#32
  let c1_i32_477 : BitVec 32 := 1#32
  let arg13 : BitVec 32 := Scf.iv c0_i32_475 c1_i32_477 k0_t2
  let c16_i32_1214 : BitVec 32 := 16#32
  let v1613 : BitVec 32 := Scalar.muli arg13 c16_i32_1214
  let c13_i32_1215 : BitVec 32 := 13#32
  let v1614 : BitVec 32 := Scalar.addi v1613 c13_i32_1215
  let v1616 : Index := Scalar.indexCast v1614
  let c0_1217 : Index := 0#32
  ![0, v1616.toNat, 0]
def k0_off163 (v1604 : BitVec 32) : Fin 4 → Nat :=
  let c0_i32_1218 : BitVec 32 := 0#32
  let v1620 : Index := Scalar.indexCast c0_i32_1218
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1621 : Index := Scalar.indexCast v1606
  let c15_i32_1211 : BitVec 32 := 15#32
  let v1607 : BitVec 32 := Scalar.andi v1604 c15_i32_1211
  let v1622 : Index := Scalar.indexCast v1607
  let c16_1219 : Index := 16#32
  ![0, v1621.toNat, v1622.toNat, 16]
def k0_off164 (k0_t2 : Fin k0_t2_loop.trips) : Fin 3 → Nat :=
  let c0_i32_1222 : BitVec 32 := 0#32
  let v1627 : Index := Scalar.indexCast c0_i32_1222
  let c0_i32_475 : BitVec 32 := 0#32
  let c1_i32_477 : BitVec 32 := 1#32
  let arg13 : BitVec 32 := Scf.iv c0_i32_475 c1_i32_477 k0_t2
  let c16_i32_1220 : BitVec 32 := 16#32
  let v1625 : BitVec 32 := Scalar.muli arg13 c16_i32_1220
  let c13_i32_1221 : BitVec 32 := 13#32
  let v1626 : BitVec 32 := Scalar.addi v1625 c13_i32_1221
  let v1628 : Index := Scalar.indexCast v1626
  let c16_1223 : Index := 16#32
  ![0, v1628.toNat, 16]
def k0_off165 (v1604 : BitVec 32) : Fin 4 → Nat :=
  let c0_i32_1224 : BitVec 32 := 0#32
  let v1632 : Index := Scalar.indexCast c0_i32_1224
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1633 : Index := Scalar.indexCast v1606
  let c15_i32_1211 : BitVec 32 := 15#32
  let v1607 : BitVec 32 := Scalar.andi v1604 c15_i32_1211
  let v1634 : Index := Scalar.indexCast v1607
  let c32_1225 : Index := 32#32
  ![0, v1633.toNat, v1634.toNat, 32]
def k0_off166 (k0_t2 : Fin k0_t2_loop.trips) : Fin 3 → Nat :=
  let c0_i32_1228 : BitVec 32 := 0#32
  let v1639 : Index := Scalar.indexCast c0_i32_1228
  let c0_i32_475 : BitVec 32 := 0#32
  let c1_i32_477 : BitVec 32 := 1#32
  let arg13 : BitVec 32 := Scf.iv c0_i32_475 c1_i32_477 k0_t2
  let c16_i32_1226 : BitVec 32 := 16#32
  let v1637 : BitVec 32 := Scalar.muli arg13 c16_i32_1226
  let c13_i32_1227 : BitVec 32 := 13#32
  let v1638 : BitVec 32 := Scalar.addi v1637 c13_i32_1227
  let v1640 : Index := Scalar.indexCast v1638
  let c32_1229 : Index := 32#32
  ![0, v1640.toNat, 32]
def k0_off167 (v1604 : BitVec 32) : Fin 4 → Nat :=
  let c0_i32_1230 : BitVec 32 := 0#32
  let v1644 : Index := Scalar.indexCast c0_i32_1230
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1645 : Index := Scalar.indexCast v1606
  let c15_i32_1211 : BitVec 32 := 15#32
  let v1607 : BitVec 32 := Scalar.andi v1604 c15_i32_1211
  let v1646 : Index := Scalar.indexCast v1607
  let c48_1231 : Index := 48#32
  ![0, v1645.toNat, v1646.toNat, 48]
def k0_off168 (k0_t2 : Fin k0_t2_loop.trips) : Fin 3 → Nat :=
  let c0_i32_1234 : BitVec 32 := 0#32
  let v1651 : Index := Scalar.indexCast c0_i32_1234
  let c0_i32_475 : BitVec 32 := 0#32
  let c1_i32_477 : BitVec 32 := 1#32
  let arg13 : BitVec 32 := Scf.iv c0_i32_475 c1_i32_477 k0_t2
  let c16_i32_1232 : BitVec 32 := 16#32
  let v1649 : BitVec 32 := Scalar.muli arg13 c16_i32_1232
  let c13_i32_1233 : BitVec 32 := 13#32
  let v1650 : BitVec 32 := Scalar.addi v1649 c13_i32_1233
  let v1652 : Index := Scalar.indexCast v1650
  let c48_1235 : Index := 48#32
  ![0, v1652.toNat, 48]
def k0_off169 (v1604 : BitVec 32) : Fin 4 → Nat :=
  let c0_i32_1236 : BitVec 32 := 0#32
  let v1656 : Index := Scalar.indexCast c0_i32_1236
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1657 : Index := Scalar.indexCast v1606
  let c15_i32_1211 : BitVec 32 := 15#32
  let v1607 : BitVec 32 := Scalar.andi v1604 c15_i32_1211
  let v1658 : Index := Scalar.indexCast v1607
  let c64_1237 : Index := 64#32
  ![0, v1657.toNat, v1658.toNat, 64]
def k0_off170 (k0_t2 : Fin k0_t2_loop.trips) : Fin 3 → Nat :=
  let c0_i32_1240 : BitVec 32 := 0#32
  let v1663 : Index := Scalar.indexCast c0_i32_1240
  let c0_i32_475 : BitVec 32 := 0#32
  let c1_i32_477 : BitVec 32 := 1#32
  let arg13 : BitVec 32 := Scf.iv c0_i32_475 c1_i32_477 k0_t2
  let c16_i32_1238 : BitVec 32 := 16#32
  let v1661 : BitVec 32 := Scalar.muli arg13 c16_i32_1238
  let c13_i32_1239 : BitVec 32 := 13#32
  let v1662 : BitVec 32 := Scalar.addi v1661 c13_i32_1239
  let v1664 : Index := Scalar.indexCast v1662
  let c64_1241 : Index := 64#32
  ![0, v1664.toNat, 64]
def k0_off171 (v1604 : BitVec 32) : Fin 4 → Nat :=
  let c0_i32_1242 : BitVec 32 := 0#32
  let v1668 : Index := Scalar.indexCast c0_i32_1242
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1669 : Index := Scalar.indexCast v1606
  let c15_i32_1211 : BitVec 32 := 15#32
  let v1607 : BitVec 32 := Scalar.andi v1604 c15_i32_1211
  let v1670 : Index := Scalar.indexCast v1607
  let c80_1243 : Index := 80#32
  ![0, v1669.toNat, v1670.toNat, 80]

def k0_chk16 (v1604 : BitVec 32) : Prop :=
  (∀ a, (k0_off161 v1604) a + S1x1x1x16.size a ≤ S2x16x16x96.size a) ∧
  (∀ a, (k0_off163 v1604) a + S1x1x1x16.size a ≤ S2x16x16x96.size a) ∧
  (∀ a, (k0_off165 v1604) a + S1x1x1x16.size a ≤ S2x16x16x96.size a) ∧
  (∀ a, (k0_off167 v1604) a + S1x1x1x16.size a ≤ S2x16x16x96.size a) ∧
  (∀ a, (k0_off169 v1604) a + S1x1x1x16.size a ≤ S2x16x16x96.size a) ∧
  (∀ a, (k0_off171 v1604) a + S1x1x1x16.size a ≤ S2x16x16x96.size a)
theorem k0_off161_inb : ∀ (v1604 : BitVec 32) (k0_hw16 : k0_chk16 v1604), ∀ a, (k0_off161 v1604) a + S1x1x1x16.size a ≤ S2x16x16x96.size a := fun v1604 k0_hw16 => k0_hw16.1
theorem k0_off163_inb : ∀ (v1604 : BitVec 32) (k0_hw16 : k0_chk16 v1604), ∀ a, (k0_off163 v1604) a + S1x1x1x16.size a ≤ S2x16x16x96.size a := fun v1604 k0_hw16 => k0_hw16.2.1
theorem k0_off165_inb : ∀ (v1604 : BitVec 32) (k0_hw16 : k0_chk16 v1604), ∀ a, (k0_off165 v1604) a + S1x1x1x16.size a ≤ S2x16x16x96.size a := fun v1604 k0_hw16 => k0_hw16.2.2.1
theorem k0_off167_inb : ∀ (v1604 : BitVec 32) (k0_hw16 : k0_chk16 v1604), ∀ a, (k0_off167 v1604) a + S1x1x1x16.size a ≤ S2x16x16x96.size a := fun v1604 k0_hw16 => k0_hw16.2.2.2.1
theorem k0_off169_inb : ∀ (v1604 : BitVec 32) (k0_hw16 : k0_chk16 v1604), ∀ a, (k0_off169 v1604) a + S1x1x1x16.size a ≤ S2x16x16x96.size a := fun v1604 k0_hw16 => k0_hw16.2.2.2.2.1
theorem k0_off171_inb : ∀ (v1604 : BitVec 32) (k0_hw16 : k0_chk16 v1604), ∀ a, (k0_off171 v1604) a + S1x1x1x16.size a ≤ S2x16x16x96.size a := fun v1604 k0_hw16 => k0_hw16.2.2.2.2.2

def k0_off172 (k0_t2 : Fin k0_t2_loop.trips) : Fin 3 → Nat :=
  let c0_i32_1246 : BitVec 32 := 0#32
  let v1675 : Index := Scalar.indexCast c0_i32_1246
  let c0_i32_475 : BitVec 32 := 0#32
  let c1_i32_477 : BitVec 32 := 1#32
  let arg13 : BitVec 32 := Scf.iv c0_i32_475 c1_i32_477 k0_t2
  let c16_i32_1244 : BitVec 32 := 16#32
  let v1673 : BitVec 32 := Scalar.muli arg13 c16_i32_1244
  let c13_i32_1245 : BitVec 32 := 13#32
  let v1674 : BitVec 32 := Scalar.addi v1673 c13_i32_1245
  let v1676 : Index := Scalar.indexCast v1674
  let c80_1247 : Index := 80#32
  ![0, v1676.toNat, 80]
def k0_off173 (v1681 : BitVec 32) : Fin 4 → Nat :=
  let c0_i32_1251 : BitVec 32 := 0#32
  let v1685 : Index := Scalar.indexCast c0_i32_1251
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1686 : Index := Scalar.indexCast v1683
  let c15_i32_1250 : BitVec 32 := 15#32
  let v1684 : BitVec 32 := Scalar.andi v1681 c15_i32_1250
  let v1687 : Index := Scalar.indexCast v1684
  let c0_1252 : Index := 0#32
  ![0, v1686.toNat, v1687.toNat, 0]

def k0_off174 (k0_t2 : Fin k0_t2_loop.trips) : Fin 3 → Nat :=
  let c0_i32_1255 : BitVec 32 := 0#32
  let v1692 : Index := Scalar.indexCast c0_i32_1255
  let c0_i32_475 : BitVec 32 := 0#32
  let c1_i32_477 : BitVec 32 := 1#32
  let arg13 : BitVec 32 := Scf.iv c0_i32_475 c1_i32_477 k0_t2
  let c16_i32_1253 : BitVec 32 := 16#32
  let v1690 : BitVec 32 := Scalar.muli arg13 c16_i32_1253
  let c14_i32_1254 : BitVec 32 := 14#32
  let v1691 : BitVec 32 := Scalar.addi v1690 c14_i32_1254
  let v1693 : Index := Scalar.indexCast v1691
  let c0_1256 : Index := 0#32
  ![0, v1693.toNat, 0]
def k0_off175 (v1681 : BitVec 32) : Fin 4 → Nat :=
  let c0_i32_1257 : BitVec 32 := 0#32
  let v1697 : Index := Scalar.indexCast c0_i32_1257
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1698 : Index := Scalar.indexCast v1683
  let c15_i32_1250 : BitVec 32 := 15#32
  let v1684 : BitVec 32 := Scalar.andi v1681 c15_i32_1250
  let v1699 : Index := Scalar.indexCast v1684
  let c16_1258 : Index := 16#32
  ![0, v1698.toNat, v1699.toNat, 16]
def k0_off176 (k0_t2 : Fin k0_t2_loop.trips) : Fin 3 → Nat :=
  let c0_i32_1261 : BitVec 32 := 0#32
  let v1704 : Index := Scalar.indexCast c0_i32_1261
  let c0_i32_475 : BitVec 32 := 0#32
  let c1_i32_477 : BitVec 32 := 1#32
  let arg13 : BitVec 32 := Scf.iv c0_i32_475 c1_i32_477 k0_t2
  let c16_i32_1259 : BitVec 32 := 16#32
  let v1702 : BitVec 32 := Scalar.muli arg13 c16_i32_1259
  let c14_i32_1260 : BitVec 32 := 14#32
  let v1703 : BitVec 32 := Scalar.addi v1702 c14_i32_1260
  let v1705 : Index := Scalar.indexCast v1703
  let c16_1262 : Index := 16#32
  ![0, v1705.toNat, 16]
def k0_off177 (v1681 : BitVec 32) : Fin 4 → Nat :=
  let c0_i32_1263 : BitVec 32 := 0#32
  let v1709 : Index := Scalar.indexCast c0_i32_1263
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1710 : Index := Scalar.indexCast v1683
  let c15_i32_1250 : BitVec 32 := 15#32
  let v1684 : BitVec 32 := Scalar.andi v1681 c15_i32_1250
  let v1711 : Index := Scalar.indexCast v1684
  let c32_1264 : Index := 32#32
  ![0, v1710.toNat, v1711.toNat, 32]
def k0_off178 (k0_t2 : Fin k0_t2_loop.trips) : Fin 3 → Nat :=
  let c0_i32_1267 : BitVec 32 := 0#32
  let v1716 : Index := Scalar.indexCast c0_i32_1267
  let c0_i32_475 : BitVec 32 := 0#32
  let c1_i32_477 : BitVec 32 := 1#32
  let arg13 : BitVec 32 := Scf.iv c0_i32_475 c1_i32_477 k0_t2
  let c16_i32_1265 : BitVec 32 := 16#32
  let v1714 : BitVec 32 := Scalar.muli arg13 c16_i32_1265
  let c14_i32_1266 : BitVec 32 := 14#32
  let v1715 : BitVec 32 := Scalar.addi v1714 c14_i32_1266
  let v1717 : Index := Scalar.indexCast v1715
  let c32_1268 : Index := 32#32
  ![0, v1717.toNat, 32]
def k0_off179 (v1681 : BitVec 32) : Fin 4 → Nat :=
  let c0_i32_1269 : BitVec 32 := 0#32
  let v1721 : Index := Scalar.indexCast c0_i32_1269
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1722 : Index := Scalar.indexCast v1683
  let c15_i32_1250 : BitVec 32 := 15#32
  let v1684 : BitVec 32 := Scalar.andi v1681 c15_i32_1250
  let v1723 : Index := Scalar.indexCast v1684
  let c48_1270 : Index := 48#32
  ![0, v1722.toNat, v1723.toNat, 48]
def k0_off180 (k0_t2 : Fin k0_t2_loop.trips) : Fin 3 → Nat :=
  let c0_i32_1273 : BitVec 32 := 0#32
  let v1728 : Index := Scalar.indexCast c0_i32_1273
  let c0_i32_475 : BitVec 32 := 0#32
  let c1_i32_477 : BitVec 32 := 1#32
  let arg13 : BitVec 32 := Scf.iv c0_i32_475 c1_i32_477 k0_t2
  let c16_i32_1271 : BitVec 32 := 16#32
  let v1726 : BitVec 32 := Scalar.muli arg13 c16_i32_1271
  let c14_i32_1272 : BitVec 32 := 14#32
  let v1727 : BitVec 32 := Scalar.addi v1726 c14_i32_1272
  let v1729 : Index := Scalar.indexCast v1727
  let c48_1274 : Index := 48#32
  ![0, v1729.toNat, 48]
def k0_off181 (v1681 : BitVec 32) : Fin 4 → Nat :=
  let c0_i32_1275 : BitVec 32 := 0#32
  let v1733 : Index := Scalar.indexCast c0_i32_1275
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1734 : Index := Scalar.indexCast v1683
  let c15_i32_1250 : BitVec 32 := 15#32
  let v1684 : BitVec 32 := Scalar.andi v1681 c15_i32_1250
  let v1735 : Index := Scalar.indexCast v1684
  let c64_1276 : Index := 64#32
  ![0, v1734.toNat, v1735.toNat, 64]
def k0_off182 (k0_t2 : Fin k0_t2_loop.trips) : Fin 3 → Nat :=
  let c0_i32_1279 : BitVec 32 := 0#32
  let v1740 : Index := Scalar.indexCast c0_i32_1279
  let c0_i32_475 : BitVec 32 := 0#32
  let c1_i32_477 : BitVec 32 := 1#32
  let arg13 : BitVec 32 := Scf.iv c0_i32_475 c1_i32_477 k0_t2
  let c16_i32_1277 : BitVec 32 := 16#32
  let v1738 : BitVec 32 := Scalar.muli arg13 c16_i32_1277
  let c14_i32_1278 : BitVec 32 := 14#32
  let v1739 : BitVec 32 := Scalar.addi v1738 c14_i32_1278
  let v1741 : Index := Scalar.indexCast v1739
  let c64_1280 : Index := 64#32
  ![0, v1741.toNat, 64]
def k0_off183 (v1681 : BitVec 32) : Fin 4 → Nat :=
  let c0_i32_1281 : BitVec 32 := 0#32
  let v1745 : Index := Scalar.indexCast c0_i32_1281
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1746 : Index := Scalar.indexCast v1683
  let c15_i32_1250 : BitVec 32 := 15#32
  let v1684 : BitVec 32 := Scalar.andi v1681 c15_i32_1250
  let v1747 : Index := Scalar.indexCast v1684
  let c80_1282 : Index := 80#32
  ![0, v1746.toNat, v1747.toNat, 80]

def k0_chk17 (v1681 : BitVec 32) : Prop :=
  (∀ a, (k0_off173 v1681) a + S1x1x1x16.size a ≤ S2x16x16x96.size a) ∧
  (∀ a, (k0_off175 v1681) a + S1x1x1x16.size a ≤ S2x16x16x96.size a) ∧
  (∀ a, (k0_off177 v1681) a + S1x1x1x16.size a ≤ S2x16x16x96.size a) ∧
  (∀ a, (k0_off179 v1681) a + S1x1x1x16.size a ≤ S2x16x16x96.size a) ∧
  (∀ a, (k0_off181 v1681) a + S1x1x1x16.size a ≤ S2x16x16x96.size a) ∧
  (∀ a, (k0_off183 v1681) a + S1x1x1x16.size a ≤ S2x16x16x96.size a)
theorem k0_off173_inb : ∀ (v1681 : BitVec 32) (k0_hw17 : k0_chk17 v1681), ∀ a, (k0_off173 v1681) a + S1x1x1x16.size a ≤ S2x16x16x96.size a := fun v1681 k0_hw17 => k0_hw17.1
theorem k0_off175_inb : ∀ (v1681 : BitVec 32) (k0_hw17 : k0_chk17 v1681), ∀ a, (k0_off175 v1681) a + S1x1x1x16.size a ≤ S2x16x16x96.size a := fun v1681 k0_hw17 => k0_hw17.2.1
theorem k0_off177_inb : ∀ (v1681 : BitVec 32) (k0_hw17 : k0_chk17 v1681), ∀ a, (k0_off177 v1681) a + S1x1x1x16.size a ≤ S2x16x16x96.size a := fun v1681 k0_hw17 => k0_hw17.2.2.1
theorem k0_off179_inb : ∀ (v1681 : BitVec 32) (k0_hw17 : k0_chk17 v1681), ∀ a, (k0_off179 v1681) a + S1x1x1x16.size a ≤ S2x16x16x96.size a := fun v1681 k0_hw17 => k0_hw17.2.2.2.1
theorem k0_off181_inb : ∀ (v1681 : BitVec 32) (k0_hw17 : k0_chk17 v1681), ∀ a, (k0_off181 v1681) a + S1x1x1x16.size a ≤ S2x16x16x96.size a := fun v1681 k0_hw17 => k0_hw17.2.2.2.2.1
theorem k0_off183_inb : ∀ (v1681 : BitVec 32) (k0_hw17 : k0_chk17 v1681), ∀ a, (k0_off183 v1681) a + S1x1x1x16.size a ≤ S2x16x16x96.size a := fun v1681 k0_hw17 => k0_hw17.2.2.2.2.2

def k0_off184 (k0_t2 : Fin k0_t2_loop.trips) : Fin 3 → Nat :=
  let c0_i32_1285 : BitVec 32 := 0#32
  let v1752 : Index := Scalar.indexCast c0_i32_1285
  let c0_i32_475 : BitVec 32 := 0#32
  let c1_i32_477 : BitVec 32 := 1#32
  let arg13 : BitVec 32 := Scf.iv c0_i32_475 c1_i32_477 k0_t2
  let c16_i32_1283 : BitVec 32 := 16#32
  let v1750 : BitVec 32 := Scalar.muli arg13 c16_i32_1283
  let c14_i32_1284 : BitVec 32 := 14#32
  let v1751 : BitVec 32 := Scalar.addi v1750 c14_i32_1284
  let v1753 : Index := Scalar.indexCast v1751
  let c80_1286 : Index := 80#32
  ![0, v1753.toNat, 80]
def k0_off185 (v1758 : BitVec 32) : Fin 4 → Nat :=
  let c0_i32_1290 : BitVec 32 := 0#32
  let v1762 : Index := Scalar.indexCast c0_i32_1290
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1763 : Index := Scalar.indexCast v1760
  let c15_i32_1289 : BitVec 32 := 15#32
  let v1761 : BitVec 32 := Scalar.andi v1758 c15_i32_1289
  let v1764 : Index := Scalar.indexCast v1761
  let c0_1291 : Index := 0#32
  ![0, v1763.toNat, v1764.toNat, 0]

def k0_off186 (k0_t2 : Fin k0_t2_loop.trips) : Fin 3 → Nat :=
  let c0_i32_1294 : BitVec 32 := 0#32
  let v1769 : Index := Scalar.indexCast c0_i32_1294
  let c0_i32_475 : BitVec 32 := 0#32
  let c1_i32_477 : BitVec 32 := 1#32
  let arg13 : BitVec 32 := Scf.iv c0_i32_475 c1_i32_477 k0_t2
  let c16_i32_1292 : BitVec 32 := 16#32
  let v1767 : BitVec 32 := Scalar.muli arg13 c16_i32_1292
  let c15_i32_1293 : BitVec 32 := 15#32
  let v1768 : BitVec 32 := Scalar.addi v1767 c15_i32_1293
  let v1770 : Index := Scalar.indexCast v1768
  let c0_1295 : Index := 0#32
  ![0, v1770.toNat, 0]
def k0_off187 (v1758 : BitVec 32) : Fin 4 → Nat :=
  let c0_i32_1296 : BitVec 32 := 0#32
  let v1774 : Index := Scalar.indexCast c0_i32_1296
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1775 : Index := Scalar.indexCast v1760
  let c15_i32_1289 : BitVec 32 := 15#32
  let v1761 : BitVec 32 := Scalar.andi v1758 c15_i32_1289
  let v1776 : Index := Scalar.indexCast v1761
  let c16_1297 : Index := 16#32
  ![0, v1775.toNat, v1776.toNat, 16]
def k0_off188 (k0_t2 : Fin k0_t2_loop.trips) : Fin 3 → Nat :=
  let c0_i32_1300 : BitVec 32 := 0#32
  let v1781 : Index := Scalar.indexCast c0_i32_1300
  let c0_i32_475 : BitVec 32 := 0#32
  let c1_i32_477 : BitVec 32 := 1#32
  let arg13 : BitVec 32 := Scf.iv c0_i32_475 c1_i32_477 k0_t2
  let c16_i32_1298 : BitVec 32 := 16#32
  let v1779 : BitVec 32 := Scalar.muli arg13 c16_i32_1298
  let c15_i32_1299 : BitVec 32 := 15#32
  let v1780 : BitVec 32 := Scalar.addi v1779 c15_i32_1299
  let v1782 : Index := Scalar.indexCast v1780
  let c16_1301 : Index := 16#32
  ![0, v1782.toNat, 16]
def k0_off189 (v1758 : BitVec 32) : Fin 4 → Nat :=
  let c0_i32_1302 : BitVec 32 := 0#32
  let v1786 : Index := Scalar.indexCast c0_i32_1302
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1787 : Index := Scalar.indexCast v1760
  let c15_i32_1289 : BitVec 32 := 15#32
  let v1761 : BitVec 32 := Scalar.andi v1758 c15_i32_1289
  let v1788 : Index := Scalar.indexCast v1761
  let c32_1303 : Index := 32#32
  ![0, v1787.toNat, v1788.toNat, 32]
def k0_off190 (k0_t2 : Fin k0_t2_loop.trips) : Fin 3 → Nat :=
  let c0_i32_1306 : BitVec 32 := 0#32
  let v1793 : Index := Scalar.indexCast c0_i32_1306
  let c0_i32_475 : BitVec 32 := 0#32
  let c1_i32_477 : BitVec 32 := 1#32
  let arg13 : BitVec 32 := Scf.iv c0_i32_475 c1_i32_477 k0_t2
  let c16_i32_1304 : BitVec 32 := 16#32
  let v1791 : BitVec 32 := Scalar.muli arg13 c16_i32_1304
  let c15_i32_1305 : BitVec 32 := 15#32
  let v1792 : BitVec 32 := Scalar.addi v1791 c15_i32_1305
  let v1794 : Index := Scalar.indexCast v1792
  let c32_1307 : Index := 32#32
  ![0, v1794.toNat, 32]
def k0_off191 (v1758 : BitVec 32) : Fin 4 → Nat :=
  let c0_i32_1308 : BitVec 32 := 0#32
  let v1798 : Index := Scalar.indexCast c0_i32_1308
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1799 : Index := Scalar.indexCast v1760
  let c15_i32_1289 : BitVec 32 := 15#32
  let v1761 : BitVec 32 := Scalar.andi v1758 c15_i32_1289
  let v1800 : Index := Scalar.indexCast v1761
  let c48_1309 : Index := 48#32
  ![0, v1799.toNat, v1800.toNat, 48]
def k0_off192 (k0_t2 : Fin k0_t2_loop.trips) : Fin 3 → Nat :=
  let c0_i32_1312 : BitVec 32 := 0#32
  let v1805 : Index := Scalar.indexCast c0_i32_1312
  let c0_i32_475 : BitVec 32 := 0#32
  let c1_i32_477 : BitVec 32 := 1#32
  let arg13 : BitVec 32 := Scf.iv c0_i32_475 c1_i32_477 k0_t2
  let c16_i32_1310 : BitVec 32 := 16#32
  let v1803 : BitVec 32 := Scalar.muli arg13 c16_i32_1310
  let c15_i32_1311 : BitVec 32 := 15#32
  let v1804 : BitVec 32 := Scalar.addi v1803 c15_i32_1311
  let v1806 : Index := Scalar.indexCast v1804
  let c48_1313 : Index := 48#32
  ![0, v1806.toNat, 48]
def k0_off193 (v1758 : BitVec 32) : Fin 4 → Nat :=
  let c0_i32_1314 : BitVec 32 := 0#32
  let v1810 : Index := Scalar.indexCast c0_i32_1314
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1811 : Index := Scalar.indexCast v1760
  let c15_i32_1289 : BitVec 32 := 15#32
  let v1761 : BitVec 32 := Scalar.andi v1758 c15_i32_1289
  let v1812 : Index := Scalar.indexCast v1761
  let c64_1315 : Index := 64#32
  ![0, v1811.toNat, v1812.toNat, 64]
def k0_off194 (k0_t2 : Fin k0_t2_loop.trips) : Fin 3 → Nat :=
  let c0_i32_1318 : BitVec 32 := 0#32
  let v1817 : Index := Scalar.indexCast c0_i32_1318
  let c0_i32_475 : BitVec 32 := 0#32
  let c1_i32_477 : BitVec 32 := 1#32
  let arg13 : BitVec 32 := Scf.iv c0_i32_475 c1_i32_477 k0_t2
  let c16_i32_1316 : BitVec 32 := 16#32
  let v1815 : BitVec 32 := Scalar.muli arg13 c16_i32_1316
  let c15_i32_1317 : BitVec 32 := 15#32
  let v1816 : BitVec 32 := Scalar.addi v1815 c15_i32_1317
  let v1818 : Index := Scalar.indexCast v1816
  let c64_1319 : Index := 64#32
  ![0, v1818.toNat, 64]
def k0_off195 (v1758 : BitVec 32) : Fin 4 → Nat :=
  let c0_i32_1320 : BitVec 32 := 0#32
  let v1822 : Index := Scalar.indexCast c0_i32_1320
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1823 : Index := Scalar.indexCast v1760
  let c15_i32_1289 : BitVec 32 := 15#32
  let v1761 : BitVec 32 := Scalar.andi v1758 c15_i32_1289
  let v1824 : Index := Scalar.indexCast v1761
  let c80_1321 : Index := 80#32
  ![0, v1823.toNat, v1824.toNat, 80]

def k0_chk18 (v1758 : BitVec 32) : Prop :=
  (∀ a, (k0_off185 v1758) a + S1x1x1x16.size a ≤ S2x16x16x96.size a) ∧
  (∀ a, (k0_off187 v1758) a + S1x1x1x16.size a ≤ S2x16x16x96.size a) ∧
  (∀ a, (k0_off189 v1758) a + S1x1x1x16.size a ≤ S2x16x16x96.size a) ∧
  (∀ a, (k0_off191 v1758) a + S1x1x1x16.size a ≤ S2x16x16x96.size a) ∧
  (∀ a, (k0_off193 v1758) a + S1x1x1x16.size a ≤ S2x16x16x96.size a) ∧
  (∀ a, (k0_off195 v1758) a + S1x1x1x16.size a ≤ S2x16x16x96.size a)
theorem k0_off185_inb : ∀ (v1758 : BitVec 32) (k0_hw18 : k0_chk18 v1758), ∀ a, (k0_off185 v1758) a + S1x1x1x16.size a ≤ S2x16x16x96.size a := fun v1758 k0_hw18 => k0_hw18.1
theorem k0_off187_inb : ∀ (v1758 : BitVec 32) (k0_hw18 : k0_chk18 v1758), ∀ a, (k0_off187 v1758) a + S1x1x1x16.size a ≤ S2x16x16x96.size a := fun v1758 k0_hw18 => k0_hw18.2.1
theorem k0_off189_inb : ∀ (v1758 : BitVec 32) (k0_hw18 : k0_chk18 v1758), ∀ a, (k0_off189 v1758) a + S1x1x1x16.size a ≤ S2x16x16x96.size a := fun v1758 k0_hw18 => k0_hw18.2.2.1
theorem k0_off191_inb : ∀ (v1758 : BitVec 32) (k0_hw18 : k0_chk18 v1758), ∀ a, (k0_off191 v1758) a + S1x1x1x16.size a ≤ S2x16x16x96.size a := fun v1758 k0_hw18 => k0_hw18.2.2.2.1
theorem k0_off193_inb : ∀ (v1758 : BitVec 32) (k0_hw18 : k0_chk18 v1758), ∀ a, (k0_off193 v1758) a + S1x1x1x16.size a ≤ S2x16x16x96.size a := fun v1758 k0_hw18 => k0_hw18.2.2.2.2.1
theorem k0_off195_inb : ∀ (v1758 : BitVec 32) (k0_hw18 : k0_chk18 v1758), ∀ a, (k0_off195 v1758) a + S1x1x1x16.size a ≤ S2x16x16x96.size a := fun v1758 k0_hw18 => k0_hw18.2.2.2.2.2

def k0_off196 (k0_t2 : Fin k0_t2_loop.trips) : Fin 3 → Nat :=
  let c0_i32_1324 : BitVec 32 := 0#32
  let v1829 : Index := Scalar.indexCast c0_i32_1324
  let c0_i32_475 : BitVec 32 := 0#32
  let c1_i32_477 : BitVec 32 := 1#32
  let arg13 : BitVec 32 := Scf.iv c0_i32_475 c1_i32_477 k0_t2
  let c16_i32_1322 : BitVec 32 := 16#32
  let v1827 : BitVec 32 := Scalar.muli arg13 c16_i32_1322
  let c15_i32_1323 : BitVec 32 := 15#32
  let v1828 : BitVec 32 := Scalar.addi v1827 c15_i32_1323
  let v1830 : Index := Scalar.indexCast v1828
  let c80_1325 : Index := 80#32
  ![0, v1830.toNat, 80]
def k0_mult35 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c2_i32_309 : BitVec 32 := 2#32
  let c0_i32_288 : BitVec 32 := 0#32
  let c1_i32_289 : BitVec 32 := 1#32
  let arg12 : BitVec 32 := Scf.iv c0_i32_288 c1_i32_289 k0_t1
  let v332 : BitVec 32 := Scalar.muli c2_i32_309 arg12
  let c256_i32 : BitVec 32 := 256#32
  let v435 : BitVec 32 := Scalar.muli v332 c256_i32
  let v436 : BitVec 32 := Scalar.addi v2 v435
  let c0_i32_479 : BitVec 32 := 0#32
  let v437 : BitVec 32 := Scalar.addi v436 c0_i32_479
  v437
def k0_off197 (i : grid0.Coords) (k0_t1 : Fin k0_t1_loop.trips) (c0_i32_479 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c2_i32_309 : BitVec 32 := 2#32
  let c0_i32_288 : BitVec 32 := 0#32
  let c1_i32_289 : BitVec 32 := 1#32
  let arg12 : BitVec 32 := Scf.iv c0_i32_288 c1_i32_289 k0_t1
  let v332 : BitVec 32 := Scalar.muli c2_i32_309 arg12
  let c256_i32 : BitVec 32 := 256#32
  let v435 : BitVec 32 := Scalar.muli v332 c256_i32
  let v436 : BitVec 32 := Scalar.addi v2 v435
  let v437 : BitVec 32 := Scalar.addi v436 c0_i32_479
  let v438 : BitVec 32 := v437
  let c0_i32_483 : BitVec 32 := 0#32
  ![v438.toNat, 0]
@[reducible] def k0_t3_loop : Scf.Loop 32 :=
  let c0_i32_492 : BitVec 32 := 0#32
  let c8_i32_493 : BitVec 32 := 8#32
  let v450 : BitVec 32 := Scalar.addi c0_i32_492 c8_i32_493
  let c1_i32_494 : BitVec 32 := 1#32
  ⟨c0_i32_492, v450, c1_i32_494⟩
def k0_off198 (k0_t1 : Fin k0_t1_loop.trips) (k0_t3 : Fin k0_t3_loop.trips) : Fin 2 → Nat :=
  let c2_i32_489 : BitVec 32 := 2#32
  let c2_i32_309 : BitVec 32 := 2#32
  let c0_i32_288 : BitVec 32 := 0#32
  let c1_i32_289 : BitVec 32 := 1#32
  let arg12 : BitVec 32 := Scf.iv c0_i32_288 c1_i32_289 k0_t1
  let v332 : BitVec 32 := Scalar.muli c2_i32_309 arg12
  let v448 : BitVec 32 := Scalar.muli c2_i32_489 v332
  let c1_i32_490 : BitVec 32 := 1#32
  let v449 : BitVec 32 := Scalar.addi v448 c1_i32_490
  let v598 : Index := Scalar.indexCast v449
  let c0_i32_492 : BitVec 32 := 0#32
  let c1_i32_494 : BitVec 32 := 1#32
  let arg13 : BitVec 32 := Scf.iv c0_i32_492 c1_i32_494 k0_t3
  let c16_i32_706 : BitVec 32 := 16#32
  let v597 : BitVec 32 := Scalar.muli arg13 c16_i32_706
  let v599 : Index := Scalar.indexCast v597
  ![v598.toNat, v599.toNat]
def k0_off199 (v603 : BitVec 32) : Fin 4 → Nat :=
  let c0_i32_710 : BitVec 32 := 0#32
  let v607 : Index := Scalar.indexCast c0_i32_710
  let c9_i32_707 : BitVec 32 := 9#32
  let v604 : BitVec 32 := Scalar.shrsi v603 c9_i32_707
  let c15_i32_708 : BitVec 32 := 15#32
  let v605 : BitVec 32 := Scalar.andi v604 c15_i32_708
  let v608 : Index := Scalar.indexCast v605
  let c15_i32_709 : BitVec 32 := 15#32
  let v606 : BitVec 32 := Scalar.andi v603 c15_i32_709
  let v609 : Index := Scalar.indexCast v606
  let c0_711 : Index := 0#32
  ![0, v608.toNat, v609.toNat, 0]

def k0_off200 (k0_t3 : Fin k0_t3_loop.trips) : Fin 3 → Nat :=
  let c1_i32_714 : BitVec 32 := 1#32
  let v614 : Index := Scalar.indexCast c1_i32_714
  let c0_i32_492 : BitVec 32 := 0#32
  let c1_i32_494 : BitVec 32 := 1#32
  let arg13 : BitVec 32 := Scf.iv c0_i32_492 c1_i32_494 k0_t3
  let c16_i32_712 : BitVec 32 := 16#32
  let v612 : BitVec 32 := Scalar.muli arg13 c16_i32_712
  let c0_i32_713 : BitVec 32 := 0#32
  let v613 : BitVec 32 := Scalar.addi v612 c0_i32_713
  let v615 : Index := Scalar.indexCast v613
  let c0_715 : Index := 0#32
  ![1, v615.toNat, 0]
def k0_off201 (v603 : BitVec 32) : Fin 4 → Nat :=
  let c0_i32_716 : BitVec 32 := 0#32
  let v619 : Index := Scalar.indexCast c0_i32_716
  let c9_i32_707 : BitVec 32 := 9#32
  let v604 : BitVec 32 := Scalar.shrsi v603 c9_i32_707
  let c15_i32_708 : BitVec 32 := 15#32
  let v605 : BitVec 32 := Scalar.andi v604 c15_i32_708
  let v620 : Index := Scalar.indexCast v605
  let c15_i32_709 : BitVec 32 := 15#32
  let v606 : BitVec 32 := Scalar.andi v603 c15_i32_709
  let v621 : Index := Scalar.indexCast v606
  let c16 : Index := 16#32
  ![0, v620.toNat, v621.toNat, 16]
def k0_off202 (k0_t3 : Fin k0_t3_loop.trips) : Fin 3 → Nat :=
  let c1_i32_719 : BitVec 32 := 1#32
  let v626 : Index := Scalar.indexCast c1_i32_719
  let c0_i32_492 : BitVec 32 := 0#32
  let c1_i32_494 : BitVec 32 := 1#32
  let arg13 : BitVec 32 := Scf.iv c0_i32_492 c1_i32_494 k0_t3
  let c16_i32_717 : BitVec 32 := 16#32
  let v624 : BitVec 32 := Scalar.muli arg13 c16_i32_717
  let c0_i32_718 : BitVec 32 := 0#32
  let v625 : BitVec 32 := Scalar.addi v624 c0_i32_718
  let v627 : Index := Scalar.indexCast v625
  let c16_720 : Index := 16#32
  ![1, v627.toNat, 16]
def k0_off203 (v603 : BitVec 32) : Fin 4 → Nat :=
  let c0_i32_721 : BitVec 32 := 0#32
  let v631 : Index := Scalar.indexCast c0_i32_721
  let c9_i32_707 : BitVec 32 := 9#32
  let v604 : BitVec 32 := Scalar.shrsi v603 c9_i32_707
  let c15_i32_708 : BitVec 32 := 15#32
  let v605 : BitVec 32 := Scalar.andi v604 c15_i32_708
  let v632 : Index := Scalar.indexCast v605
  let c15_i32_709 : BitVec 32 := 15#32
  let v606 : BitVec 32 := Scalar.andi v603 c15_i32_709
  let v633 : Index := Scalar.indexCast v606
  let c32 : Index := 32#32
  ![0, v632.toNat, v633.toNat, 32]
def k0_off204 (k0_t3 : Fin k0_t3_loop.trips) : Fin 3 → Nat :=
  let c1_i32_724 : BitVec 32 := 1#32
  let v638 : Index := Scalar.indexCast c1_i32_724
  let c0_i32_492 : BitVec 32 := 0#32
  let c1_i32_494 : BitVec 32 := 1#32
  let arg13 : BitVec 32 := Scf.iv c0_i32_492 c1_i32_494 k0_t3
  let c16_i32_722 : BitVec 32 := 16#32
  let v636 : BitVec 32 := Scalar.muli arg13 c16_i32_722
  let c0_i32_723 : BitVec 32 := 0#32
  let v637 : BitVec 32 := Scalar.addi v636 c0_i32_723
  let v639 : Index := Scalar.indexCast v637
  let c32_725 : Index := 32#32
  ![1, v639.toNat, 32]
def k0_off205 (v603 : BitVec 32) : Fin 4 → Nat :=
  let c0_i32_726 : BitVec 32 := 0#32
  let v643 : Index := Scalar.indexCast c0_i32_726
  let c9_i32_707 : BitVec 32 := 9#32
  let v604 : BitVec 32 := Scalar.shrsi v603 c9_i32_707
  let c15_i32_708 : BitVec 32 := 15#32
  let v605 : BitVec 32 := Scalar.andi v604 c15_i32_708
  let v644 : Index := Scalar.indexCast v605
  let c15_i32_709 : BitVec 32 := 15#32
  let v606 : BitVec 32 := Scalar.andi v603 c15_i32_709
  let v645 : Index := Scalar.indexCast v606
  let c48 : Index := 48#32
  ![0, v644.toNat, v645.toNat, 48]
def k0_off206 (k0_t3 : Fin k0_t3_loop.trips) : Fin 3 → Nat :=
  let c1_i32_729 : BitVec 32 := 1#32
  let v650 : Index := Scalar.indexCast c1_i32_729
  let c0_i32_492 : BitVec 32 := 0#32
  let c1_i32_494 : BitVec 32 := 1#32
  let arg13 : BitVec 32 := Scf.iv c0_i32_492 c1_i32_494 k0_t3
  let c16_i32_727 : BitVec 32 := 16#32
  let v648 : BitVec 32 := Scalar.muli arg13 c16_i32_727
  let c0_i32_728 : BitVec 32 := 0#32
  let v649 : BitVec 32 := Scalar.addi v648 c0_i32_728
  let v651 : Index := Scalar.indexCast v649
  let c48_730 : Index := 48#32
  ![1, v651.toNat, 48]
def k0_off207 (v603 : BitVec 32) : Fin 4 → Nat :=
  let c0_i32_731 : BitVec 32 := 0#32
  let v655 : Index := Scalar.indexCast c0_i32_731
  let c9_i32_707 : BitVec 32 := 9#32
  let v604 : BitVec 32 := Scalar.shrsi v603 c9_i32_707
  let c15_i32_708 : BitVec 32 := 15#32
  let v605 : BitVec 32 := Scalar.andi v604 c15_i32_708
  let v656 : Index := Scalar.indexCast v605
  let c15_i32_709 : BitVec 32 := 15#32
  let v606 : BitVec 32 := Scalar.andi v603 c15_i32_709
  let v657 : Index := Scalar.indexCast v606
  let c64 : Index := 64#32
  ![0, v656.toNat, v657.toNat, 64]
def k0_off208 (k0_t3 : Fin k0_t3_loop.trips) : Fin 3 → Nat :=
  let c1_i32_734 : BitVec 32 := 1#32
  let v662 : Index := Scalar.indexCast c1_i32_734
  let c0_i32_492 : BitVec 32 := 0#32
  let c1_i32_494 : BitVec 32 := 1#32
  let arg13 : BitVec 32 := Scf.iv c0_i32_492 c1_i32_494 k0_t3
  let c16_i32_732 : BitVec 32 := 16#32
  let v660 : BitVec 32 := Scalar.muli arg13 c16_i32_732
  let c0_i32_733 : BitVec 32 := 0#32
  let v661 : BitVec 32 := Scalar.addi v660 c0_i32_733
  let v663 : Index := Scalar.indexCast v661
  let c64_735 : Index := 64#32
  ![1, v663.toNat, 64]
def k0_off209 (v603 : BitVec 32) : Fin 4 → Nat :=
  let c0_i32_736 : BitVec 32 := 0#32
  let v667 : Index := Scalar.indexCast c0_i32_736
  let c9_i32_707 : BitVec 32 := 9#32
  let v604 : BitVec 32 := Scalar.shrsi v603 c9_i32_707
  let c15_i32_708 : BitVec 32 := 15#32
  let v605 : BitVec 32 := Scalar.andi v604 c15_i32_708
  let v668 : Index := Scalar.indexCast v605
  let c15_i32_709 : BitVec 32 := 15#32
  let v606 : BitVec 32 := Scalar.andi v603 c15_i32_709
  let v669 : Index := Scalar.indexCast v606
  let c80 : Index := 80#32
  ![0, v668.toNat, v669.toNat, 80]

def k0_chk19 (v603 : BitVec 32) : Prop :=
  (∀ a, (k0_off199 v603) a + S1x1x1x16.size a ≤ S2x16x16x96.size a) ∧
  (∀ a, (k0_off201 v603) a + S1x1x1x16.size a ≤ S2x16x16x96.size a) ∧
  (∀ a, (k0_off203 v603) a + S1x1x1x16.size a ≤ S2x16x16x96.size a) ∧
  (∀ a, (k0_off205 v603) a + S1x1x1x16.size a ≤ S2x16x16x96.size a) ∧
  (∀ a, (k0_off207 v603) a + S1x1x1x16.size a ≤ S2x16x16x96.size a) ∧
  (∀ a, (k0_off209 v603) a + S1x1x1x16.size a ≤ S2x16x16x96.size a)
theorem k0_off199_inb : ∀ (v603 : BitVec 32) (k0_hw19 : k0_chk19 v603), ∀ a, (k0_off199 v603) a + S1x1x1x16.size a ≤ S2x16x16x96.size a := fun v603 k0_hw19 => k0_hw19.1
theorem k0_off201_inb : ∀ (v603 : BitVec 32) (k0_hw19 : k0_chk19 v603), ∀ a, (k0_off201 v603) a + S1x1x1x16.size a ≤ S2x16x16x96.size a := fun v603 k0_hw19 => k0_hw19.2.1
theorem k0_off203_inb : ∀ (v603 : BitVec 32) (k0_hw19 : k0_chk19 v603), ∀ a, (k0_off203 v603) a + S1x1x1x16.size a ≤ S2x16x16x96.size a := fun v603 k0_hw19 => k0_hw19.2.2.1
theorem k0_off205_inb : ∀ (v603 : BitVec 32) (k0_hw19 : k0_chk19 v603), ∀ a, (k0_off205 v603) a + S1x1x1x16.size a ≤ S2x16x16x96.size a := fun v603 k0_hw19 => k0_hw19.2.2.2.1
theorem k0_off207_inb : ∀ (v603 : BitVec 32) (k0_hw19 : k0_chk19 v603), ∀ a, (k0_off207 v603) a + S1x1x1x16.size a ≤ S2x16x16x96.size a := fun v603 k0_hw19 => k0_hw19.2.2.2.2.1
theorem k0_off209_inb : ∀ (v603 : BitVec 32) (k0_hw19 : k0_chk19 v603), ∀ a, (k0_off209 v603) a + S1x1x1x16.size a ≤ S2x16x16x96.size a := fun v603 k0_hw19 => k0_hw19.2.2.2.2.2

def k0_off210 (k0_t3 : Fin k0_t3_loop.trips) : Fin 3 → Nat :=
  let c1_i32_739 : BitVec 32 := 1#32
  let v674 : Index := Scalar.indexCast c1_i32_739
  let c0_i32_492 : BitVec 32 := 0#32
  let c1_i32_494 : BitVec 32 := 1#32
  let arg13 : BitVec 32 := Scf.iv c0_i32_492 c1_i32_494 k0_t3
  let c16_i32_737 : BitVec 32 := 16#32
  let v672 : BitVec 32 := Scalar.muli arg13 c16_i32_737
  let c0_i32_738 : BitVec 32 := 0#32
  let v673 : BitVec 32 := Scalar.addi v672 c0_i32_738
  let v675 : Index := Scalar.indexCast v673
  let c80_740 : Index := 80#32
  ![1, v675.toNat, 80]
def k0_off211 (v680 : BitVec 32) : Fin 4 → Nat :=
  let c0_i32_744 : BitVec 32 := 0#32
  let v684 : Index := Scalar.indexCast c0_i32_744
  let c9_i32_741 : BitVec 32 := 9#32
  let v681 : BitVec 32 := Scalar.shrsi v680 c9_i32_741
  let c15_i32_742 : BitVec 32 := 15#32
  let v682 : BitVec 32 := Scalar.andi v681 c15_i32_742
  let v685 : Index := Scalar.indexCast v682
  let c15_i32_743 : BitVec 32 := 15#32
  let v683 : BitVec 32 := Scalar.andi v680 c15_i32_743
  let v686 : Index := Scalar.indexCast v683
  let c0_745 : Index := 0#32
  ![0, v685.toNat, v686.toNat, 0]

def k0_off212 (k0_t3 : Fin k0_t3_loop.trips) : Fin 3 → Nat :=
  let c1_i32_748 : BitVec 32 := 1#32
  let v691 : Index := Scalar.indexCast c1_i32_748
  let c0_i32_492 : BitVec 32 := 0#32
  let c1_i32_494 : BitVec 32 := 1#32
  let arg13 : BitVec 32 := Scf.iv c0_i32_492 c1_i32_494 k0_t3
  let c16_i32_746 : BitVec 32 := 16#32
  let v689 : BitVec 32 := Scalar.muli arg13 c16_i32_746
  let c1_i32_747 : BitVec 32 := 1#32
  let v690 : BitVec 32 := Scalar.addi v689 c1_i32_747
  let v692 : Index := Scalar.indexCast v690
  let c0_749 : Index := 0#32
  ![1, v692.toNat, 0]
def k0_off213 (v680 : BitVec 32) : Fin 4 → Nat :=
  let c0_i32_750 : BitVec 32 := 0#32
  let v696 : Index := Scalar.indexCast c0_i32_750
  let c9_i32_741 : BitVec 32 := 9#32
  let v681 : BitVec 32 := Scalar.shrsi v680 c9_i32_741
  let c15_i32_742 : BitVec 32 := 15#32
  let v682 : BitVec 32 := Scalar.andi v681 c15_i32_742
  let v697 : Index := Scalar.indexCast v682
  let c15_i32_743 : BitVec 32 := 15#32
  let v683 : BitVec 32 := Scalar.andi v680 c15_i32_743
  let v698 : Index := Scalar.indexCast v683
  let c16_751 : Index := 16#32
  ![0, v697.toNat, v698.toNat, 16]
def k0_off214 (k0_t3 : Fin k0_t3_loop.trips) : Fin 3 → Nat :=
  let c1_i32_754 : BitVec 32 := 1#32
  let v703 : Index := Scalar.indexCast c1_i32_754
  let c0_i32_492 : BitVec 32 := 0#32
  let c1_i32_494 : BitVec 32 := 1#32
  let arg13 : BitVec 32 := Scf.iv c0_i32_492 c1_i32_494 k0_t3
  let c16_i32_752 : BitVec 32 := 16#32
  let v701 : BitVec 32 := Scalar.muli arg13 c16_i32_752
  let c1_i32_753 : BitVec 32 := 1#32
  let v702 : BitVec 32 := Scalar.addi v701 c1_i32_753
  let v704 : Index := Scalar.indexCast v702
  let c16_755 : Index := 16#32
  ![1, v704.toNat, 16]
def k0_off215 (v680 : BitVec 32) : Fin 4 → Nat :=
  let c0_i32_756 : BitVec 32 := 0#32
  let v708 : Index := Scalar.indexCast c0_i32_756
  let c9_i32_741 : BitVec 32 := 9#32
  let v681 : BitVec 32 := Scalar.shrsi v680 c9_i32_741
  let c15_i32_742 : BitVec 32 := 15#32
  let v682 : BitVec 32 := Scalar.andi v681 c15_i32_742
  let v709 : Index := Scalar.indexCast v682
  let c15_i32_743 : BitVec 32 := 15#32
  let v683 : BitVec 32 := Scalar.andi v680 c15_i32_743
  let v710 : Index := Scalar.indexCast v683
  let c32_757 : Index := 32#32
  ![0, v709.toNat, v710.toNat, 32]
def k0_off216 (k0_t3 : Fin k0_t3_loop.trips) : Fin 3 → Nat :=
  let c1_i32_760 : BitVec 32 := 1#32
  let v715 : Index := Scalar.indexCast c1_i32_760
  let c0_i32_492 : BitVec 32 := 0#32
  let c1_i32_494 : BitVec 32 := 1#32
  let arg13 : BitVec 32 := Scf.iv c0_i32_492 c1_i32_494 k0_t3
  let c16_i32_758 : BitVec 32 := 16#32
  let v713 : BitVec 32 := Scalar.muli arg13 c16_i32_758
  let c1_i32_759 : BitVec 32 := 1#32
  let v714 : BitVec 32 := Scalar.addi v713 c1_i32_759
  let v716 : Index := Scalar.indexCast v714
  let c32_761 : Index := 32#32
  ![1, v716.toNat, 32]
def k0_off217 (v680 : BitVec 32) : Fin 4 → Nat :=
  let c0_i32_762 : BitVec 32 := 0#32
  let v720 : Index := Scalar.indexCast c0_i32_762
  let c9_i32_741 : BitVec 32 := 9#32
  let v681 : BitVec 32 := Scalar.shrsi v680 c9_i32_741
  let c15_i32_742 : BitVec 32 := 15#32
  let v682 : BitVec 32 := Scalar.andi v681 c15_i32_742
  let v721 : Index := Scalar.indexCast v682
  let c15_i32_743 : BitVec 32 := 15#32
  let v683 : BitVec 32 := Scalar.andi v680 c15_i32_743
  let v722 : Index := Scalar.indexCast v683
  let c48_763 : Index := 48#32
  ![0, v721.toNat, v722.toNat, 48]
def k0_off218 (k0_t3 : Fin k0_t3_loop.trips) : Fin 3 → Nat :=
  let c1_i32_766 : BitVec 32 := 1#32
  let v727 : Index := Scalar.indexCast c1_i32_766
  let c0_i32_492 : BitVec 32 := 0#32
  let c1_i32_494 : BitVec 32 := 1#32
  let arg13 : BitVec 32 := Scf.iv c0_i32_492 c1_i32_494 k0_t3
  let c16_i32_764 : BitVec 32 := 16#32
  let v725 : BitVec 32 := Scalar.muli arg13 c16_i32_764
  let c1_i32_765 : BitVec 32 := 1#32
  let v726 : BitVec 32 := Scalar.addi v725 c1_i32_765
  let v728 : Index := Scalar.indexCast v726
  let c48_767 : Index := 48#32
  ![1, v728.toNat, 48]
def k0_off219 (v680 : BitVec 32) : Fin 4 → Nat :=
  let c0_i32_768 : BitVec 32 := 0#32
  let v732 : Index := Scalar.indexCast c0_i32_768
  let c9_i32_741 : BitVec 32 := 9#32
  let v681 : BitVec 32 := Scalar.shrsi v680 c9_i32_741
  let c15_i32_742 : BitVec 32 := 15#32
  let v682 : BitVec 32 := Scalar.andi v681 c15_i32_742
  let v733 : Index := Scalar.indexCast v682
  let c15_i32_743 : BitVec 32 := 15#32
  let v683 : BitVec 32 := Scalar.andi v680 c15_i32_743
  let v734 : Index := Scalar.indexCast v683
  let c64_769 : Index := 64#32
  ![0, v733.toNat, v734.toNat, 64]
def k0_off220 (k0_t3 : Fin k0_t3_loop.trips) : Fin 3 → Nat :=
  let c1_i32_772 : BitVec 32 := 1#32
  let v739 : Index := Scalar.indexCast c1_i32_772
  let c0_i32_492 : BitVec 32 := 0#32
  let c1_i32_494 : BitVec 32 := 1#32
  let arg13 : BitVec 32 := Scf.iv c0_i32_492 c1_i32_494 k0_t3
  let c16_i32_770 : BitVec 32 := 16#32
  let v737 : BitVec 32 := Scalar.muli arg13 c16_i32_770
  let c1_i32_771 : BitVec 32 := 1#32
  let v738 : BitVec 32 := Scalar.addi v737 c1_i32_771
  let v740 : Index := Scalar.indexCast v738
  let c64_773 : Index := 64#32
  ![1, v740.toNat, 64]
def k0_off221 (v680 : BitVec 32) : Fin 4 → Nat :=
  let c0_i32_774 : BitVec 32 := 0#32
  let v744 : Index := Scalar.indexCast c0_i32_774
  let c9_i32_741 : BitVec 32 := 9#32
  let v681 : BitVec 32 := Scalar.shrsi v680 c9_i32_741
  let c15_i32_742 : BitVec 32 := 15#32
  let v682 : BitVec 32 := Scalar.andi v681 c15_i32_742
  let v745 : Index := Scalar.indexCast v682
  let c15_i32_743 : BitVec 32 := 15#32
  let v683 : BitVec 32 := Scalar.andi v680 c15_i32_743
  let v746 : Index := Scalar.indexCast v683
  let c80_775 : Index := 80#32
  ![0, v745.toNat, v746.toNat, 80]

def k0_chk20 (v680 : BitVec 32) : Prop :=
  (∀ a, (k0_off211 v680) a + S1x1x1x16.size a ≤ S2x16x16x96.size a) ∧
  (∀ a, (k0_off213 v680) a + S1x1x1x16.size a ≤ S2x16x16x96.size a) ∧
  (∀ a, (k0_off215 v680) a + S1x1x1x16.size a ≤ S2x16x16x96.size a) ∧
  (∀ a, (k0_off217 v680) a + S1x1x1x16.size a ≤ S2x16x16x96.size a) ∧
  (∀ a, (k0_off219 v680) a + S1x1x1x16.size a ≤ S2x16x16x96.size a) ∧
  (∀ a, (k0_off221 v680) a + S1x1x1x16.size a ≤ S2x16x16x96.size a)
theorem k0_off211_inb : ∀ (v680 : BitVec 32) (k0_hw20 : k0_chk20 v680), ∀ a, (k0_off211 v680) a + S1x1x1x16.size a ≤ S2x16x16x96.size a := fun v680 k0_hw20 => k0_hw20.1
theorem k0_off213_inb : ∀ (v680 : BitVec 32) (k0_hw20 : k0_chk20 v680), ∀ a, (k0_off213 v680) a + S1x1x1x16.size a ≤ S2x16x16x96.size a := fun v680 k0_hw20 => k0_hw20.2.1
theorem k0_off215_inb : ∀ (v680 : BitVec 32) (k0_hw20 : k0_chk20 v680), ∀ a, (k0_off215 v680) a + S1x1x1x16.size a ≤ S2x16x16x96.size a := fun v680 k0_hw20 => k0_hw20.2.2.1
theorem k0_off217_inb : ∀ (v680 : BitVec 32) (k0_hw20 : k0_chk20 v680), ∀ a, (k0_off217 v680) a + S1x1x1x16.size a ≤ S2x16x16x96.size a := fun v680 k0_hw20 => k0_hw20.2.2.2.1
theorem k0_off219_inb : ∀ (v680 : BitVec 32) (k0_hw20 : k0_chk20 v680), ∀ a, (k0_off219 v680) a + S1x1x1x16.size a ≤ S2x16x16x96.size a := fun v680 k0_hw20 => k0_hw20.2.2.2.2.1
theorem k0_off221_inb : ∀ (v680 : BitVec 32) (k0_hw20 : k0_chk20 v680), ∀ a, (k0_off221 v680) a + S1x1x1x16.size a ≤ S2x16x16x96.size a := fun v680 k0_hw20 => k0_hw20.2.2.2.2.2

def k0_off222 (k0_t3 : Fin k0_t3_loop.trips) : Fin 3 → Nat :=
  let c1_i32_778 : BitVec 32 := 1#32
  let v751 : Index := Scalar.indexCast c1_i32_778
  let c0_i32_492 : BitVec 32 := 0#32
  let c1_i32_494 : BitVec 32 := 1#32
  let arg13 : BitVec 32 := Scf.iv c0_i32_492 c1_i32_494 k0_t3
  let c16_i32_776 : BitVec 32 := 16#32
  let v749 : BitVec 32 := Scalar.muli arg13 c16_i32_776
  let c1_i32_777 : BitVec 32 := 1#32
  let v750 : BitVec 32 := Scalar.addi v749 c1_i32_777
  let v752 : Index := Scalar.indexCast v750
  let c80_779 : Index := 80#32
  ![1, v752.toNat, 80]
def k0_off223 (v757 : BitVec 32) : Fin 4 → Nat :=
  let c0_i32_783 : BitVec 32 := 0#32
  let v761 : Index := Scalar.indexCast c0_i32_783
  let c9_i32_780 : BitVec 32 := 9#32
  let v758 : BitVec 32 := Scalar.shrsi v757 c9_i32_780
  let c15_i32_781 : BitVec 32 := 15#32
  let v759 : BitVec 32 := Scalar.andi v758 c15_i32_781
  let v762 : Index := Scalar.indexCast v759
  let c15_i32_782 : BitVec 32 := 15#32
  let v760 : BitVec 32 := Scalar.andi v757 c15_i32_782
  let v763 : Index := Scalar.indexCast v760
  let c0_784 : Index := 0#32
  ![0, v762.toNat, v763.toNat, 0]

def k0_off224 (k0_t3 : Fin k0_t3_loop.trips) : Fin 3 → Nat :=
  let c1_i32_787 : BitVec 32 := 1#32
  let v768 : Index := Scalar.indexCast c1_i32_787
  let c0_i32_492 : BitVec 32 := 0#32
  let c1_i32_494 : BitVec 32 := 1#32
  let arg13 : BitVec 32 := Scf.iv c0_i32_492 c1_i32_494 k0_t3
  let c16_i32_785 : BitVec 32 := 16#32
  let v766 : BitVec 32 := Scalar.muli arg13 c16_i32_785
  let c2_i32_786 : BitVec 32 := 2#32
  let v767 : BitVec 32 := Scalar.addi v766 c2_i32_786
  let v769 : Index := Scalar.indexCast v767
  let c0_788 : Index := 0#32
  ![1, v769.toNat, 0]
def k0_off225 (v757 : BitVec 32) : Fin 4 → Nat :=
  let c0_i32_789 : BitVec 32 := 0#32
  let v773 : Index := Scalar.indexCast c0_i32_789
  let c9_i32_780 : BitVec 32 := 9#32
  let v758 : BitVec 32 := Scalar.shrsi v757 c9_i32_780
  let c15_i32_781 : BitVec 32 := 15#32
  let v759 : BitVec 32 := Scalar.andi v758 c15_i32_781
  let v774 : Index := Scalar.indexCast v759
  let c15_i32_782 : BitVec 32 := 15#32
  let v760 : BitVec 32 := Scalar.andi v757 c15_i32_782
  let v775 : Index := Scalar.indexCast v760
  let c16_790 : Index := 16#32
  ![0, v774.toNat, v775.toNat, 16]
def k0_off226 (k0_t3 : Fin k0_t3_loop.trips) : Fin 3 → Nat :=
  let c1_i32_793 : BitVec 32 := 1#32
  let v780 : Index := Scalar.indexCast c1_i32_793
  let c0_i32_492 : BitVec 32 := 0#32
  let c1_i32_494 : BitVec 32 := 1#32
  let arg13 : BitVec 32 := Scf.iv c0_i32_492 c1_i32_494 k0_t3
  let c16_i32_791 : BitVec 32 := 16#32
  let v778 : BitVec 32 := Scalar.muli arg13 c16_i32_791
  let c2_i32_792 : BitVec 32 := 2#32
  let v779 : BitVec 32 := Scalar.addi v778 c2_i32_792
  let v781 : Index := Scalar.indexCast v779
  let c16_794 : Index := 16#32
  ![1, v781.toNat, 16]
def k0_off227 (v757 : BitVec 32) : Fin 4 → Nat :=
  let c0_i32_795 : BitVec 32 := 0#32
  let v785 : Index := Scalar.indexCast c0_i32_795
  let c9_i32_780 : BitVec 32 := 9#32
  let v758 : BitVec 32 := Scalar.shrsi v757 c9_i32_780
  let c15_i32_781 : BitVec 32 := 15#32
  let v759 : BitVec 32 := Scalar.andi v758 c15_i32_781
  let v786 : Index := Scalar.indexCast v759
  let c15_i32_782 : BitVec 32 := 15#32
  let v760 : BitVec 32 := Scalar.andi v757 c15_i32_782
  let v787 : Index := Scalar.indexCast v760
  let c32_796 : Index := 32#32
  ![0, v786.toNat, v787.toNat, 32]
def k0_off228 (k0_t3 : Fin k0_t3_loop.trips) : Fin 3 → Nat :=
  let c1_i32_799 : BitVec 32 := 1#32
  let v792 : Index := Scalar.indexCast c1_i32_799
  let c0_i32_492 : BitVec 32 := 0#32
  let c1_i32_494 : BitVec 32 := 1#32
  let arg13 : BitVec 32 := Scf.iv c0_i32_492 c1_i32_494 k0_t3
  let c16_i32_797 : BitVec 32 := 16#32
  let v790 : BitVec 32 := Scalar.muli arg13 c16_i32_797
  let c2_i32_798 : BitVec 32 := 2#32
  let v791 : BitVec 32 := Scalar.addi v790 c2_i32_798
  let v793 : Index := Scalar.indexCast v791
  let c32_800 : Index := 32#32
  ![1, v793.toNat, 32]
def k0_off229 (v757 : BitVec 32) : Fin 4 → Nat :=
  let c0_i32_801 : BitVec 32 := 0#32
  let v797 : Index := Scalar.indexCast c0_i32_801
  let c9_i32_780 : BitVec 32 := 9#32
  let v758 : BitVec 32 := Scalar.shrsi v757 c9_i32_780
  let c15_i32_781 : BitVec 32 := 15#32
  let v759 : BitVec 32 := Scalar.andi v758 c15_i32_781
  let v798 : Index := Scalar.indexCast v759
  let c15_i32_782 : BitVec 32 := 15#32
  let v760 : BitVec 32 := Scalar.andi v757 c15_i32_782
  let v799 : Index := Scalar.indexCast v760
  let c48_802 : Index := 48#32
  ![0, v798.toNat, v799.toNat, 48]
def k0_off230 (k0_t3 : Fin k0_t3_loop.trips) : Fin 3 → Nat :=
  let c1_i32_805 : BitVec 32 := 1#32
  let v804 : Index := Scalar.indexCast c1_i32_805
  let c0_i32_492 : BitVec 32 := 0#32
  let c1_i32_494 : BitVec 32 := 1#32
  let arg13 : BitVec 32 := Scf.iv c0_i32_492 c1_i32_494 k0_t3
  let c16_i32_803 : BitVec 32 := 16#32
  let v802 : BitVec 32 := Scalar.muli arg13 c16_i32_803
  let c2_i32_804 : BitVec 32 := 2#32
  let v803 : BitVec 32 := Scalar.addi v802 c2_i32_804
  let v805 : Index := Scalar.indexCast v803
  let c48_806 : Index := 48#32
  ![1, v805.toNat, 48]
def k0_off231 (v757 : BitVec 32) : Fin 4 → Nat :=
  let c0_i32_807 : BitVec 32 := 0#32
  let v809 : Index := Scalar.indexCast c0_i32_807
  let c9_i32_780 : BitVec 32 := 9#32
  let v758 : BitVec 32 := Scalar.shrsi v757 c9_i32_780
  let c15_i32_781 : BitVec 32 := 15#32
  let v759 : BitVec 32 := Scalar.andi v758 c15_i32_781
  let v810 : Index := Scalar.indexCast v759
  let c15_i32_782 : BitVec 32 := 15#32
  let v760 : BitVec 32 := Scalar.andi v757 c15_i32_782
  let v811 : Index := Scalar.indexCast v760
  let c64_808 : Index := 64#32
  ![0, v810.toNat, v811.toNat, 64]
def k0_off232 (k0_t3 : Fin k0_t3_loop.trips) : Fin 3 → Nat :=
  let c1_i32_811 : BitVec 32 := 1#32
  let v816 : Index := Scalar.indexCast c1_i32_811
  let c0_i32_492 : BitVec 32 := 0#32
  let c1_i32_494 : BitVec 32 := 1#32
  let arg13 : BitVec 32 := Scf.iv c0_i32_492 c1_i32_494 k0_t3
  let c16_i32_809 : BitVec 32 := 16#32
  let v814 : BitVec 32 := Scalar.muli arg13 c16_i32_809
  let c2_i32_810 : BitVec 32 := 2#32
  let v815 : BitVec 32 := Scalar.addi v814 c2_i32_810
  let v817 : Index := Scalar.indexCast v815
  let c64_812 : Index := 64#32
  ![1, v817.toNat, 64]
def k0_off233 (v757 : BitVec 32) : Fin 4 → Nat :=
  let c0_i32_813 : BitVec 32 := 0#32
  let v821 : Index := Scalar.indexCast c0_i32_813
  let c9_i32_780 : BitVec 32 := 9#32
  let v758 : BitVec 32 := Scalar.shrsi v757 c9_i32_780
  let c15_i32_781 : BitVec 32 := 15#32
  let v759 : BitVec 32 := Scalar.andi v758 c15_i32_781
  let v822 : Index := Scalar.indexCast v759
  let c15_i32_782 : BitVec 32 := 15#32
  let v760 : BitVec 32 := Scalar.andi v757 c15_i32_782
  let v823 : Index := Scalar.indexCast v760
  let c80_814 : Index := 80#32
  ![0, v822.toNat, v823.toNat, 80]

def k0_chk21 (v757 : BitVec 32) : Prop :=
  (∀ a, (k0_off223 v757) a + S1x1x1x16.size a ≤ S2x16x16x96.size a) ∧
  (∀ a, (k0_off225 v757) a + S1x1x1x16.size a ≤ S2x16x16x96.size a) ∧
  (∀ a, (k0_off227 v757) a + S1x1x1x16.size a ≤ S2x16x16x96.size a) ∧
  (∀ a, (k0_off229 v757) a + S1x1x1x16.size a ≤ S2x16x16x96.size a) ∧
  (∀ a, (k0_off231 v757) a + S1x1x1x16.size a ≤ S2x16x16x96.size a) ∧
  (∀ a, (k0_off233 v757) a + S1x1x1x16.size a ≤ S2x16x16x96.size a)
theorem k0_off223_inb : ∀ (v757 : BitVec 32) (k0_hw21 : k0_chk21 v757), ∀ a, (k0_off223 v757) a + S1x1x1x16.size a ≤ S2x16x16x96.size a := fun v757 k0_hw21 => k0_hw21.1
theorem k0_off225_inb : ∀ (v757 : BitVec 32) (k0_hw21 : k0_chk21 v757), ∀ a, (k0_off225 v757) a + S1x1x1x16.size a ≤ S2x16x16x96.size a := fun v757 k0_hw21 => k0_hw21.2.1
theorem k0_off227_inb : ∀ (v757 : BitVec 32) (k0_hw21 : k0_chk21 v757), ∀ a, (k0_off227 v757) a + S1x1x1x16.size a ≤ S2x16x16x96.size a := fun v757 k0_hw21 => k0_hw21.2.2.1
theorem k0_off229_inb : ∀ (v757 : BitVec 32) (k0_hw21 : k0_chk21 v757), ∀ a, (k0_off229 v757) a + S1x1x1x16.size a ≤ S2x16x16x96.size a := fun v757 k0_hw21 => k0_hw21.2.2.2.1
theorem k0_off231_inb : ∀ (v757 : BitVec 32) (k0_hw21 : k0_chk21 v757), ∀ a, (k0_off231 v757) a + S1x1x1x16.size a ≤ S2x16x16x96.size a := fun v757 k0_hw21 => k0_hw21.2.2.2.2.1
theorem k0_off233_inb : ∀ (v757 : BitVec 32) (k0_hw21 : k0_chk21 v757), ∀ a, (k0_off233 v757) a + S1x1x1x16.size a ≤ S2x16x16x96.size a := fun v757 k0_hw21 => k0_hw21.2.2.2.2.2

def k0_off234 (k0_t3 : Fin k0_t3_loop.trips) : Fin 3 → Nat :=
  let c1_i32_817 : BitVec 32 := 1#32
  let v828 : Index := Scalar.indexCast c1_i32_817
  let c0_i32_492 : BitVec 32 := 0#32
  let c1_i32_494 : BitVec 32 := 1#32
  let arg13 : BitVec 32 := Scf.iv c0_i32_492 c1_i32_494 k0_t3
  let c16_i32_815 : BitVec 32 := 16#32
  let v826 : BitVec 32 := Scalar.muli arg13 c16_i32_815
  let c2_i32_816 : BitVec 32 := 2#32
  let v827 : BitVec 32 := Scalar.addi v826 c2_i32_816
  let v829 : Index := Scalar.indexCast v827
  let c80_818 : Index := 80#32
  ![1, v829.toNat, 80]
def k0_off235 (v834 : BitVec 32) : Fin 4 → Nat :=
  let c0_i32_822 : BitVec 32 := 0#32
  let v838 : Index := Scalar.indexCast c0_i32_822
  let c9_i32_819 : BitVec 32 := 9#32
  let v835 : BitVec 32 := Scalar.shrsi v834 c9_i32_819
  let c15_i32_820 : BitVec 32 := 15#32
  let v836 : BitVec 32 := Scalar.andi v835 c15_i32_820
  let v839 : Index := Scalar.indexCast v836
  let c15_i32_821 : BitVec 32 := 15#32
  let v837 : BitVec 32 := Scalar.andi v834 c15_i32_821
  let v840 : Index := Scalar.indexCast v837
  let c0_823 : Index := 0#32
  ![0, v839.toNat, v840.toNat, 0]

def k0_off236 (k0_t3 : Fin k0_t3_loop.trips) : Fin 3 → Nat :=
  let c1_i32_826 : BitVec 32 := 1#32
  let v845 : Index := Scalar.indexCast c1_i32_826
  let c0_i32_492 : BitVec 32 := 0#32
  let c1_i32_494 : BitVec 32 := 1#32
  let arg13 : BitVec 32 := Scf.iv c0_i32_492 c1_i32_494 k0_t3
  let c16_i32_824 : BitVec 32 := 16#32
  let v843 : BitVec 32 := Scalar.muli arg13 c16_i32_824
  let c3_i32_825 : BitVec 32 := 3#32
  let v844 : BitVec 32 := Scalar.addi v843 c3_i32_825
  let v846 : Index := Scalar.indexCast v844
  let c0_827 : Index := 0#32
  ![1, v846.toNat, 0]
def k0_off237 (v834 : BitVec 32) : Fin 4 → Nat :=
  let c0_i32_828 : BitVec 32 := 0#32
  let v850 : Index := Scalar.indexCast c0_i32_828
  let c9_i32_819 : BitVec 32 := 9#32
  let v835 : BitVec 32 := Scalar.shrsi v834 c9_i32_819
  let c15_i32_820 : BitVec 32 := 15#32
  let v836 : BitVec 32 := Scalar.andi v835 c15_i32_820
  let v851 : Index := Scalar.indexCast v836
  let c15_i32_821 : BitVec 32 := 15#32
  let v837 : BitVec 32 := Scalar.andi v834 c15_i32_821
  let v852 : Index := Scalar.indexCast v837
  let c16_829 : Index := 16#32
  ![0, v851.toNat, v852.toNat, 16]
def k0_off238 (k0_t3 : Fin k0_t3_loop.trips) : Fin 3 → Nat :=
  let c1_i32_832 : BitVec 32 := 1#32
  let v857 : Index := Scalar.indexCast c1_i32_832
  let c0_i32_492 : BitVec 32 := 0#32
  let c1_i32_494 : BitVec 32 := 1#32
  let arg13 : BitVec 32 := Scf.iv c0_i32_492 c1_i32_494 k0_t3
  let c16_i32_830 : BitVec 32 := 16#32
  let v855 : BitVec 32 := Scalar.muli arg13 c16_i32_830
  let c3_i32_831 : BitVec 32 := 3#32
  let v856 : BitVec 32 := Scalar.addi v855 c3_i32_831
  let v858 : Index := Scalar.indexCast v856
  let c16_833 : Index := 16#32
  ![1, v858.toNat, 16]
def k0_off239 (v834 : BitVec 32) : Fin 4 → Nat :=
  let c0_i32_834 : BitVec 32 := 0#32
  let v862 : Index := Scalar.indexCast c0_i32_834
  let c9_i32_819 : BitVec 32 := 9#32
  let v835 : BitVec 32 := Scalar.shrsi v834 c9_i32_819
  let c15_i32_820 : BitVec 32 := 15#32
  let v836 : BitVec 32 := Scalar.andi v835 c15_i32_820
  let v863 : Index := Scalar.indexCast v836
  let c15_i32_821 : BitVec 32 := 15#32
  let v837 : BitVec 32 := Scalar.andi v834 c15_i32_821
  let v864 : Index := Scalar.indexCast v837
  let c32_835 : Index := 32#32
  ![0, v863.toNat, v864.toNat, 32]
def k0_off240 (k0_t3 : Fin k0_t3_loop.trips) : Fin 3 → Nat :=
  let c1_i32_838 : BitVec 32 := 1#32
  let v869 : Index := Scalar.indexCast c1_i32_838
  let c0_i32_492 : BitVec 32 := 0#32
  let c1_i32_494 : BitVec 32 := 1#32
  let arg13 : BitVec 32 := Scf.iv c0_i32_492 c1_i32_494 k0_t3
  let c16_i32_836 : BitVec 32 := 16#32
  let v867 : BitVec 32 := Scalar.muli arg13 c16_i32_836
  let c3_i32_837 : BitVec 32 := 3#32
  let v868 : BitVec 32 := Scalar.addi v867 c3_i32_837
  let v870 : Index := Scalar.indexCast v868
  let c32_839 : Index := 32#32
  ![1, v870.toNat, 32]
def k0_off241 (v834 : BitVec 32) : Fin 4 → Nat :=
  let c0_i32_840 : BitVec 32 := 0#32
  let v874 : Index := Scalar.indexCast c0_i32_840
  let c9_i32_819 : BitVec 32 := 9#32
  let v835 : BitVec 32 := Scalar.shrsi v834 c9_i32_819
  let c15_i32_820 : BitVec 32 := 15#32
  let v836 : BitVec 32 := Scalar.andi v835 c15_i32_820
  let v875 : Index := Scalar.indexCast v836
  let c15_i32_821 : BitVec 32 := 15#32
  let v837 : BitVec 32 := Scalar.andi v834 c15_i32_821
  let v876 : Index := Scalar.indexCast v837
  let c48_841 : Index := 48#32
  ![0, v875.toNat, v876.toNat, 48]
def k0_off242 (k0_t3 : Fin k0_t3_loop.trips) : Fin 3 → Nat :=
  let c1_i32_844 : BitVec 32 := 1#32
  let v881 : Index := Scalar.indexCast c1_i32_844
  let c0_i32_492 : BitVec 32 := 0#32
  let c1_i32_494 : BitVec 32 := 1#32
  let arg13 : BitVec 32 := Scf.iv c0_i32_492 c1_i32_494 k0_t3
  let c16_i32_842 : BitVec 32 := 16#32
  let v879 : BitVec 32 := Scalar.muli arg13 c16_i32_842
  let c3_i32_843 : BitVec 32 := 3#32
  let v880 : BitVec 32 := Scalar.addi v879 c3_i32_843
  let v882 : Index := Scalar.indexCast v880
  let c48_845 : Index := 48#32
  ![1, v882.toNat, 48]
def k0_off243 (v834 : BitVec 32) : Fin 4 → Nat :=
  let c0_i32_846 : BitVec 32 := 0#32
  let v886 : Index := Scalar.indexCast c0_i32_846
  let c9_i32_819 : BitVec 32 := 9#32
  let v835 : BitVec 32 := Scalar.shrsi v834 c9_i32_819
  let c15_i32_820 : BitVec 32 := 15#32
  let v836 : BitVec 32 := Scalar.andi v835 c15_i32_820
  let v887 : Index := Scalar.indexCast v836
  let c15_i32_821 : BitVec 32 := 15#32
  let v837 : BitVec 32 := Scalar.andi v834 c15_i32_821
  let v888 : Index := Scalar.indexCast v837
  let c64_847 : Index := 64#32
  ![0, v887.toNat, v888.toNat, 64]
def k0_off244 (k0_t3 : Fin k0_t3_loop.trips) : Fin 3 → Nat :=
  let c1_i32_850 : BitVec 32 := 1#32
  let v893 : Index := Scalar.indexCast c1_i32_850
  let c0_i32_492 : BitVec 32 := 0#32
  let c1_i32_494 : BitVec 32 := 1#32
  let arg13 : BitVec 32 := Scf.iv c0_i32_492 c1_i32_494 k0_t3
  let c16_i32_848 : BitVec 32 := 16#32
  let v891 : BitVec 32 := Scalar.muli arg13 c16_i32_848
  let c3_i32_849 : BitVec 32 := 3#32
  let v892 : BitVec 32 := Scalar.addi v891 c3_i32_849
  let v894 : Index := Scalar.indexCast v892
  let c64_851 : Index := 64#32
  ![1, v894.toNat, 64]
def k0_off245 (v834 : BitVec 32) : Fin 4 → Nat :=
  let c0_i32_852 : BitVec 32 := 0#32
  let v898 : Index := Scalar.indexCast c0_i32_852
  let c9_i32_819 : BitVec 32 := 9#32
  let v835 : BitVec 32 := Scalar.shrsi v834 c9_i32_819
  let c15_i32_820 : BitVec 32 := 15#32
  let v836 : BitVec 32 := Scalar.andi v835 c15_i32_820
  let v899 : Index := Scalar.indexCast v836
  let c15_i32_821 : BitVec 32 := 15#32
  let v837 : BitVec 32 := Scalar.andi v834 c15_i32_821
  let v900 : Index := Scalar.indexCast v837
  let c80_853 : Index := 80#32
  ![0, v899.toNat, v900.toNat, 80]

def k0_chk22 (v834 : BitVec 32) : Prop :=
  (∀ a, (k0_off235 v834) a + S1x1x1x16.size a ≤ S2x16x16x96.size a) ∧
  (∀ a, (k0_off237 v834) a + S1x1x1x16.size a ≤ S2x16x16x96.size a) ∧
  (∀ a, (k0_off239 v834) a + S1x1x1x16.size a ≤ S2x16x16x96.size a) ∧
  (∀ a, (k0_off241 v834) a + S1x1x1x16.size a ≤ S2x16x16x96.size a) ∧
  (∀ a, (k0_off243 v834) a + S1x1x1x16.size a ≤ S2x16x16x96.size a) ∧
  (∀ a, (k0_off245 v834) a + S1x1x1x16.size a ≤ S2x16x16x96.size a)
theorem k0_off235_inb : ∀ (v834 : BitVec 32) (k0_hw22 : k0_chk22 v834), ∀ a, (k0_off235 v834) a + S1x1x1x16.size a ≤ S2x16x16x96.size a := fun v834 k0_hw22 => k0_hw22.1
theorem k0_off237_inb : ∀ (v834 : BitVec 32) (k0_hw22 : k0_chk22 v834), ∀ a, (k0_off237 v834) a + S1x1x1x16.size a ≤ S2x16x16x96.size a := fun v834 k0_hw22 => k0_hw22.2.1
theorem k0_off239_inb : ∀ (v834 : BitVec 32) (k0_hw22 : k0_chk22 v834), ∀ a, (k0_off239 v834) a + S1x1x1x16.size a ≤ S2x16x16x96.size a := fun v834 k0_hw22 => k0_hw22.2.2.1
theorem k0_off241_inb : ∀ (v834 : BitVec 32) (k0_hw22 : k0_chk22 v834), ∀ a, (k0_off241 v834) a + S1x1x1x16.size a ≤ S2x16x16x96.size a := fun v834 k0_hw22 => k0_hw22.2.2.2.1
theorem k0_off243_inb : ∀ (v834 : BitVec 32) (k0_hw22 : k0_chk22 v834), ∀ a, (k0_off243 v834) a + S1x1x1x16.size a ≤ S2x16x16x96.size a := fun v834 k0_hw22 => k0_hw22.2.2.2.2.1
theorem k0_off245_inb : ∀ (v834 : BitVec 32) (k0_hw22 : k0_chk22 v834), ∀ a, (k0_off245 v834) a + S1x1x1x16.size a ≤ S2x16x16x96.size a := fun v834 k0_hw22 => k0_hw22.2.2.2.2.2

def k0_off246 (k0_t3 : Fin k0_t3_loop.trips) : Fin 3 → Nat :=
  let c1_i32_856 : BitVec 32 := 1#32
  let v905 : Index := Scalar.indexCast c1_i32_856
  let c0_i32_492 : BitVec 32 := 0#32
  let c1_i32_494 : BitVec 32 := 1#32
  let arg13 : BitVec 32 := Scf.iv c0_i32_492 c1_i32_494 k0_t3
  let c16_i32_854 : BitVec 32 := 16#32
  let v903 : BitVec 32 := Scalar.muli arg13 c16_i32_854
  let c3_i32_855 : BitVec 32 := 3#32
  let v904 : BitVec 32 := Scalar.addi v903 c3_i32_855
  let v906 : Index := Scalar.indexCast v904
  let c80_857 : Index := 80#32
  ![1, v906.toNat, 80]
def k0_off247 (v911 : BitVec 32) : Fin 4 → Nat :=
  let c0_i32_861 : BitVec 32 := 0#32
  let v915 : Index := Scalar.indexCast c0_i32_861
  let c9_i32_858 : BitVec 32 := 9#32
  let v912 : BitVec 32 := Scalar.shrsi v911 c9_i32_858
  let c15_i32_859 : BitVec 32 := 15#32
  let v913 : BitVec 32 := Scalar.andi v912 c15_i32_859
  let v916 : Index := Scalar.indexCast v913
  let c15_i32_860 : BitVec 32 := 15#32
  let v914 : BitVec 32 := Scalar.andi v911 c15_i32_860
  let v917 : Index := Scalar.indexCast v914
  let c0_862 : Index := 0#32
  ![0, v916.toNat, v917.toNat, 0]

def k0_off248 (k0_t3 : Fin k0_t3_loop.trips) : Fin 3 → Nat :=
  let c1_i32_865 : BitVec 32 := 1#32
  let v922 : Index := Scalar.indexCast c1_i32_865
  let c0_i32_492 : BitVec 32 := 0#32
  let c1_i32_494 : BitVec 32 := 1#32
  let arg13 : BitVec 32 := Scf.iv c0_i32_492 c1_i32_494 k0_t3
  let c16_i32_863 : BitVec 32 := 16#32
  let v920 : BitVec 32 := Scalar.muli arg13 c16_i32_863
  let c4_i32_864 : BitVec 32 := 4#32
  let v921 : BitVec 32 := Scalar.addi v920 c4_i32_864
  let v923 : Index := Scalar.indexCast v921
  let c0_866 : Index := 0#32
  ![1, v923.toNat, 0]
def k0_off249 (v911 : BitVec 32) : Fin 4 → Nat :=
  let c0_i32_867 : BitVec 32 := 0#32
  let v927 : Index := Scalar.indexCast c0_i32_867
  let c9_i32_858 : BitVec 32 := 9#32
  let v912 : BitVec 32 := Scalar.shrsi v911 c9_i32_858
  let c15_i32_859 : BitVec 32 := 15#32
  let v913 : BitVec 32 := Scalar.andi v912 c15_i32_859
  let v928 : Index := Scalar.indexCast v913
  let c15_i32_860 : BitVec 32 := 15#32
  let v914 : BitVec 32 := Scalar.andi v911 c15_i32_860
  let v929 : Index := Scalar.indexCast v914
  let c16_868 : Index := 16#32
  ![0, v928.toNat, v929.toNat, 16]
def k0_off250 (k0_t3 : Fin k0_t3_loop.trips) : Fin 3 → Nat :=
  let c1_i32_871 : BitVec 32 := 1#32
  let v934 : Index := Scalar.indexCast c1_i32_871
  let c0_i32_492 : BitVec 32 := 0#32
  let c1_i32_494 : BitVec 32 := 1#32
  let arg13 : BitVec 32 := Scf.iv c0_i32_492 c1_i32_494 k0_t3
  let c16_i32_869 : BitVec 32 := 16#32
  let v932 : BitVec 32 := Scalar.muli arg13 c16_i32_869
  let c4_i32_870 : BitVec 32 := 4#32
  let v933 : BitVec 32 := Scalar.addi v932 c4_i32_870
  let v935 : Index := Scalar.indexCast v933
  let c16_872 : Index := 16#32
  ![1, v935.toNat, 16]
def k0_off251 (v911 : BitVec 32) : Fin 4 → Nat :=
  let c0_i32_873 : BitVec 32 := 0#32
  let v939 : Index := Scalar.indexCast c0_i32_873
  let c9_i32_858 : BitVec 32 := 9#32
  let v912 : BitVec 32 := Scalar.shrsi v911 c9_i32_858
  let c15_i32_859 : BitVec 32 := 15#32
  let v913 : BitVec 32 := Scalar.andi v912 c15_i32_859
  let v940 : Index := Scalar.indexCast v913
  let c15_i32_860 : BitVec 32 := 15#32
  let v914 : BitVec 32 := Scalar.andi v911 c15_i32_860
  let v941 : Index := Scalar.indexCast v914
  let c32_874 : Index := 32#32
  ![0, v940.toNat, v941.toNat, 32]
def k0_off252 (k0_t3 : Fin k0_t3_loop.trips) : Fin 3 → Nat :=
  let c1_i32_877 : BitVec 32 := 1#32
  let v946 : Index := Scalar.indexCast c1_i32_877
  let c0_i32_492 : BitVec 32 := 0#32
  let c1_i32_494 : BitVec 32 := 1#32
  let arg13 : BitVec 32 := Scf.iv c0_i32_492 c1_i32_494 k0_t3
  let c16_i32_875 : BitVec 32 := 16#32
  let v944 : BitVec 32 := Scalar.muli arg13 c16_i32_875
  let c4_i32_876 : BitVec 32 := 4#32
  let v945 : BitVec 32 := Scalar.addi v944 c4_i32_876
  let v947 : Index := Scalar.indexCast v945
  let c32_878 : Index := 32#32
  ![1, v947.toNat, 32]
def k0_off253 (v911 : BitVec 32) : Fin 4 → Nat :=
  let c0_i32_879 : BitVec 32 := 0#32
  let v951 : Index := Scalar.indexCast c0_i32_879
  let c9_i32_858 : BitVec 32 := 9#32
  let v912 : BitVec 32 := Scalar.shrsi v911 c9_i32_858
  let c15_i32_859 : BitVec 32 := 15#32
  let v913 : BitVec 32 := Scalar.andi v912 c15_i32_859
  let v952 : Index := Scalar.indexCast v913
  let c15_i32_860 : BitVec 32 := 15#32
  let v914 : BitVec 32 := Scalar.andi v911 c15_i32_860
  let v953 : Index := Scalar.indexCast v914
  let c48_880 : Index := 48#32
  ![0, v952.toNat, v953.toNat, 48]
def k0_off254 (k0_t3 : Fin k0_t3_loop.trips) : Fin 3 → Nat :=
  let c1_i32_883 : BitVec 32 := 1#32
  let v958 : Index := Scalar.indexCast c1_i32_883
  let c0_i32_492 : BitVec 32 := 0#32
  let c1_i32_494 : BitVec 32 := 1#32
  let arg13 : BitVec 32 := Scf.iv c0_i32_492 c1_i32_494 k0_t3
  let c16_i32_881 : BitVec 32 := 16#32
  let v956 : BitVec 32 := Scalar.muli arg13 c16_i32_881
  let c4_i32_882 : BitVec 32 := 4#32
  let v957 : BitVec 32 := Scalar.addi v956 c4_i32_882
  let v959 : Index := Scalar.indexCast v957
  let c48_884 : Index := 48#32
  ![1, v959.toNat, 48]
def k0_off255 (v911 : BitVec 32) : Fin 4 → Nat :=
  let c0_i32_885 : BitVec 32 := 0#32
  let v963 : Index := Scalar.indexCast c0_i32_885
  let c9_i32_858 : BitVec 32 := 9#32
  let v912 : BitVec 32 := Scalar.shrsi v911 c9_i32_858
  let c15_i32_859 : BitVec 32 := 15#32
  let v913 : BitVec 32 := Scalar.andi v912 c15_i32_859
  let v964 : Index := Scalar.indexCast v913
  let c15_i32_860 : BitVec 32 := 15#32
  let v914 : BitVec 32 := Scalar.andi v911 c15_i32_860
  let v965 : Index := Scalar.indexCast v914
  let c64_886 : Index := 64#32
  ![0, v964.toNat, v965.toNat, 64]
def k0_off256 (k0_t3 : Fin k0_t3_loop.trips) : Fin 3 → Nat :=
  let c1_i32_889 : BitVec 32 := 1#32
  let v970 : Index := Scalar.indexCast c1_i32_889
  let c0_i32_492 : BitVec 32 := 0#32
  let c1_i32_494 : BitVec 32 := 1#32
  let arg13 : BitVec 32 := Scf.iv c0_i32_492 c1_i32_494 k0_t3
  let c16_i32_887 : BitVec 32 := 16#32
  let v968 : BitVec 32 := Scalar.muli arg13 c16_i32_887
  let c4_i32_888 : BitVec 32 := 4#32
  let v969 : BitVec 32 := Scalar.addi v968 c4_i32_888
  let v971 : Index := Scalar.indexCast v969
  let c64_890 : Index := 64#32
  ![1, v971.toNat, 64]
def k0_off257 (v911 : BitVec 32) : Fin 4 → Nat :=
  let c0_i32_891 : BitVec 32 := 0#32
  let v975 : Index := Scalar.indexCast c0_i32_891
  let c9_i32_858 : BitVec 32 := 9#32
  let v912 : BitVec 32 := Scalar.shrsi v911 c9_i32_858
  let c15_i32_859 : BitVec 32 := 15#32
  let v913 : BitVec 32 := Scalar.andi v912 c15_i32_859
  let v976 : Index := Scalar.indexCast v913
  let c15_i32_860 : BitVec 32 := 15#32
  let v914 : BitVec 32 := Scalar.andi v911 c15_i32_860
  let v977 : Index := Scalar.indexCast v914
  let c80_892 : Index := 80#32
  ![0, v976.toNat, v977.toNat, 80]

def k0_chk23 (v911 : BitVec 32) : Prop :=
  (∀ a, (k0_off247 v911) a + S1x1x1x16.size a ≤ S2x16x16x96.size a) ∧
  (∀ a, (k0_off249 v911) a + S1x1x1x16.size a ≤ S2x16x16x96.size a) ∧
  (∀ a, (k0_off251 v911) a + S1x1x1x16.size a ≤ S2x16x16x96.size a) ∧
  (∀ a, (k0_off253 v911) a + S1x1x1x16.size a ≤ S2x16x16x96.size a) ∧
  (∀ a, (k0_off255 v911) a + S1x1x1x16.size a ≤ S2x16x16x96.size a) ∧
  (∀ a, (k0_off257 v911) a + S1x1x1x16.size a ≤ S2x16x16x96.size a)
theorem k0_off247_inb : ∀ (v911 : BitVec 32) (k0_hw23 : k0_chk23 v911), ∀ a, (k0_off247 v911) a + S1x1x1x16.size a ≤ S2x16x16x96.size a := fun v911 k0_hw23 => k0_hw23.1
theorem k0_off249_inb : ∀ (v911 : BitVec 32) (k0_hw23 : k0_chk23 v911), ∀ a, (k0_off249 v911) a + S1x1x1x16.size a ≤ S2x16x16x96.size a := fun v911 k0_hw23 => k0_hw23.2.1
theorem k0_off251_inb : ∀ (v911 : BitVec 32) (k0_hw23 : k0_chk23 v911), ∀ a, (k0_off251 v911) a + S1x1x1x16.size a ≤ S2x16x16x96.size a := fun v911 k0_hw23 => k0_hw23.2.2.1
theorem k0_off253_inb : ∀ (v911 : BitVec 32) (k0_hw23 : k0_chk23 v911), ∀ a, (k0_off253 v911) a + S1x1x1x16.size a ≤ S2x16x16x96.size a := fun v911 k0_hw23 => k0_hw23.2.2.2.1
theorem k0_off255_inb : ∀ (v911 : BitVec 32) (k0_hw23 : k0_chk23 v911), ∀ a, (k0_off255 v911) a + S1x1x1x16.size a ≤ S2x16x16x96.size a := fun v911 k0_hw23 => k0_hw23.2.2.2.2.1
theorem k0_off257_inb : ∀ (v911 : BitVec 32) (k0_hw23 : k0_chk23 v911), ∀ a, (k0_off257 v911) a + S1x1x1x16.size a ≤ S2x16x16x96.size a := fun v911 k0_hw23 => k0_hw23.2.2.2.2.2

def k0_off258 (k0_t3 : Fin k0_t3_loop.trips) : Fin 3 → Nat :=
  let c1_i32_895 : BitVec 32 := 1#32
  let v982 : Index := Scalar.indexCast c1_i32_895
  let c0_i32_492 : BitVec 32 := 0#32
  let c1_i32_494 : BitVec 32 := 1#32
  let arg13 : BitVec 32 := Scf.iv c0_i32_492 c1_i32_494 k0_t3
  let c16_i32_893 : BitVec 32 := 16#32
  let v980 : BitVec 32 := Scalar.muli arg13 c16_i32_893
  let c4_i32_894 : BitVec 32 := 4#32
  let v981 : BitVec 32 := Scalar.addi v980 c4_i32_894
  let v983 : Index := Scalar.indexCast v981
  let c80_896 : Index := 80#32
  ![1, v983.toNat, 80]
def k0_off259 (v988 : BitVec 32) : Fin 4 → Nat :=
  let c0_i32_900 : BitVec 32 := 0#32
  let v992 : Index := Scalar.indexCast c0_i32_900
  let c9_i32_897 : BitVec 32 := 9#32
  let v989 : BitVec 32 := Scalar.shrsi v988 c9_i32_897
  let c15_i32_898 : BitVec 32 := 15#32
  let v990 : BitVec 32 := Scalar.andi v989 c15_i32_898
  let v993 : Index := Scalar.indexCast v990
  let c15_i32_899 : BitVec 32 := 15#32
  let v991 : BitVec 32 := Scalar.andi v988 c15_i32_899
  let v994 : Index := Scalar.indexCast v991
  let c0_901 : Index := 0#32
  ![0, v993.toNat, v994.toNat, 0]

def k0_off260 (k0_t3 : Fin k0_t3_loop.trips) : Fin 3 → Nat :=
  let c1_i32_904 : BitVec 32 := 1#32
  let v999 : Index := Scalar.indexCast c1_i32_904
  let c0_i32_492 : BitVec 32 := 0#32
  let c1_i32_494 : BitVec 32 := 1#32
  let arg13 : BitVec 32 := Scf.iv c0_i32_492 c1_i32_494 k0_t3
  let c16_i32_902 : BitVec 32 := 16#32
  let v997 : BitVec 32 := Scalar.muli arg13 c16_i32_902
  let c5_i32_903 : BitVec 32 := 5#32
  let v998 : BitVec 32 := Scalar.addi v997 c5_i32_903
  let v1000 : Index := Scalar.indexCast v998
  let c0_905 : Index := 0#32
  ![1, v1000.toNat, 0]
def k0_off261 (v988 : BitVec 32) : Fin 4 → Nat :=
  let c0_i32_906 : BitVec 32 := 0#32
  let v1004 : Index := Scalar.indexCast c0_i32_906
  let c9_i32_897 : BitVec 32 := 9#32
  let v989 : BitVec 32 := Scalar.shrsi v988 c9_i32_897
  let c15_i32_898 : BitVec 32 := 15#32
  let v990 : BitVec 32 := Scalar.andi v989 c15_i32_898
  let v1005 : Index := Scalar.indexCast v990
  let c15_i32_899 : BitVec 32 := 15#32
  let v991 : BitVec 32 := Scalar.andi v988 c15_i32_899
  let v1006 : Index := Scalar.indexCast v991
  let c16_907 : Index := 16#32
  ![0, v1005.toNat, v1006.toNat, 16]
def k0_off262 (k0_t3 : Fin k0_t3_loop.trips) : Fin 3 → Nat :=
  let c1_i32_910 : BitVec 32 := 1#32
  let v1011 : Index := Scalar.indexCast c1_i32_910
  let c0_i32_492 : BitVec 32 := 0#32
  let c1_i32_494 : BitVec 32 := 1#32
  let arg13 : BitVec 32 := Scf.iv c0_i32_492 c1_i32_494 k0_t3
  let c16_i32_908 : BitVec 32 := 16#32
  let v1009 : BitVec 32 := Scalar.muli arg13 c16_i32_908
  let c5_i32_909 : BitVec 32 := 5#32
  let v1010 : BitVec 32 := Scalar.addi v1009 c5_i32_909
  let v1012 : Index := Scalar.indexCast v1010
  let c16_911 : Index := 16#32
  ![1, v1012.toNat, 16]
def k0_off263 (v988 : BitVec 32) : Fin 4 → Nat :=
  let c0_i32_912 : BitVec 32 := 0#32
  let v1016 : Index := Scalar.indexCast c0_i32_912
  let c9_i32_897 : BitVec 32 := 9#32
  let v989 : BitVec 32 := Scalar.shrsi v988 c9_i32_897
  let c15_i32_898 : BitVec 32 := 15#32
  let v990 : BitVec 32 := Scalar.andi v989 c15_i32_898
  let v1017 : Index := Scalar.indexCast v990
  let c15_i32_899 : BitVec 32 := 15#32
  let v991 : BitVec 32 := Scalar.andi v988 c15_i32_899
  let v1018 : Index := Scalar.indexCast v991
  let c32_913 : Index := 32#32
  ![0, v1017.toNat, v1018.toNat, 32]
def k0_off264 (k0_t3 : Fin k0_t3_loop.trips) : Fin 3 → Nat :=
  let c1_i32_916 : BitVec 32 := 1#32
  let v1023 : Index := Scalar.indexCast c1_i32_916
  let c0_i32_492 : BitVec 32 := 0#32
  let c1_i32_494 : BitVec 32 := 1#32
  let arg13 : BitVec 32 := Scf.iv c0_i32_492 c1_i32_494 k0_t3
  let c16_i32_914 : BitVec 32 := 16#32
  let v1021 : BitVec 32 := Scalar.muli arg13 c16_i32_914
  let c5_i32_915 : BitVec 32 := 5#32
  let v1022 : BitVec 32 := Scalar.addi v1021 c5_i32_915
  let v1024 : Index := Scalar.indexCast v1022
  let c32_917 : Index := 32#32
  ![1, v1024.toNat, 32]
def k0_off265 (v988 : BitVec 32) : Fin 4 → Nat :=
  let c0_i32_918 : BitVec 32 := 0#32
  let v1028 : Index := Scalar.indexCast c0_i32_918
  let c9_i32_897 : BitVec 32 := 9#32
  let v989 : BitVec 32 := Scalar.shrsi v988 c9_i32_897
  let c15_i32_898 : BitVec 32 := 15#32
  let v990 : BitVec 32 := Scalar.andi v989 c15_i32_898
  let v1029 : Index := Scalar.indexCast v990
  let c15_i32_899 : BitVec 32 := 15#32
  let v991 : BitVec 32 := Scalar.andi v988 c15_i32_899
  let v1030 : Index := Scalar.indexCast v991
  let c48_919 : Index := 48#32
  ![0, v1029.toNat, v1030.toNat, 48]
def k0_off266 (k0_t3 : Fin k0_t3_loop.trips) : Fin 3 → Nat :=
  let c1_i32_922 : BitVec 32 := 1#32
  let v1035 : Index := Scalar.indexCast c1_i32_922
  let c0_i32_492 : BitVec 32 := 0#32
  let c1_i32_494 : BitVec 32 := 1#32
  let arg13 : BitVec 32 := Scf.iv c0_i32_492 c1_i32_494 k0_t3
  let c16_i32_920 : BitVec 32 := 16#32
  let v1033 : BitVec 32 := Scalar.muli arg13 c16_i32_920
  let c5_i32_921 : BitVec 32 := 5#32
  let v1034 : BitVec 32 := Scalar.addi v1033 c5_i32_921
  let v1036 : Index := Scalar.indexCast v1034
  let c48_923 : Index := 48#32
  ![1, v1036.toNat, 48]
def k0_off267 (v988 : BitVec 32) : Fin 4 → Nat :=
  let c0_i32_924 : BitVec 32 := 0#32
  let v1040 : Index := Scalar.indexCast c0_i32_924
  let c9_i32_897 : BitVec 32 := 9#32
  let v989 : BitVec 32 := Scalar.shrsi v988 c9_i32_897
  let c15_i32_898 : BitVec 32 := 15#32
  let v990 : BitVec 32 := Scalar.andi v989 c15_i32_898
  let v1041 : Index := Scalar.indexCast v990
  let c15_i32_899 : BitVec 32 := 15#32
  let v991 : BitVec 32 := Scalar.andi v988 c15_i32_899
  let v1042 : Index := Scalar.indexCast v991
  let c64_925 : Index := 64#32
  ![0, v1041.toNat, v1042.toNat, 64]
def k0_off268 (k0_t3 : Fin k0_t3_loop.trips) : Fin 3 → Nat :=
  let c1_i32_928 : BitVec 32 := 1#32
  let v1047 : Index := Scalar.indexCast c1_i32_928
  let c0_i32_492 : BitVec 32 := 0#32
  let c1_i32_494 : BitVec 32 := 1#32
  let arg13 : BitVec 32 := Scf.iv c0_i32_492 c1_i32_494 k0_t3
  let c16_i32_926 : BitVec 32 := 16#32
  let v1045 : BitVec 32 := Scalar.muli arg13 c16_i32_926
  let c5_i32_927 : BitVec 32 := 5#32
  let v1046 : BitVec 32 := Scalar.addi v1045 c5_i32_927
  let v1048 : Index := Scalar.indexCast v1046
  let c64_929 : Index := 64#32
  ![1, v1048.toNat, 64]
def k0_off269 (v988 : BitVec 32) : Fin 4 → Nat :=
  let c0_i32_930 : BitVec 32 := 0#32
  let v1052 : Index := Scalar.indexCast c0_i32_930
  let c9_i32_897 : BitVec 32 := 9#32
  let v989 : BitVec 32 := Scalar.shrsi v988 c9_i32_897
  let c15_i32_898 : BitVec 32 := 15#32
  let v990 : BitVec 32 := Scalar.andi v989 c15_i32_898
  let v1053 : Index := Scalar.indexCast v990
  let c15_i32_899 : BitVec 32 := 15#32
  let v991 : BitVec 32 := Scalar.andi v988 c15_i32_899
  let v1054 : Index := Scalar.indexCast v991
  let c80_931 : Index := 80#32
  ![0, v1053.toNat, v1054.toNat, 80]

def k0_chk24 (v988 : BitVec 32) : Prop :=
  (∀ a, (k0_off259 v988) a + S1x1x1x16.size a ≤ S2x16x16x96.size a) ∧
  (∀ a, (k0_off261 v988) a + S1x1x1x16.size a ≤ S2x16x16x96.size a) ∧
  (∀ a, (k0_off263 v988) a + S1x1x1x16.size a ≤ S2x16x16x96.size a) ∧
  (∀ a, (k0_off265 v988) a + S1x1x1x16.size a ≤ S2x16x16x96.size a) ∧
  (∀ a, (k0_off267 v988) a + S1x1x1x16.size a ≤ S2x16x16x96.size a) ∧
  (∀ a, (k0_off269 v988) a + S1x1x1x16.size a ≤ S2x16x16x96.size a)
theorem k0_off259_inb : ∀ (v988 : BitVec 32) (k0_hw24 : k0_chk24 v988), ∀ a, (k0_off259 v988) a + S1x1x1x16.size a ≤ S2x16x16x96.size a := fun v988 k0_hw24 => k0_hw24.1
theorem k0_off261_inb : ∀ (v988 : BitVec 32) (k0_hw24 : k0_chk24 v988), ∀ a, (k0_off261 v988) a + S1x1x1x16.size a ≤ S2x16x16x96.size a := fun v988 k0_hw24 => k0_hw24.2.1
theorem k0_off263_inb : ∀ (v988 : BitVec 32) (k0_hw24 : k0_chk24 v988), ∀ a, (k0_off263 v988) a + S1x1x1x16.size a ≤ S2x16x16x96.size a := fun v988 k0_hw24 => k0_hw24.2.2.1
theorem k0_off265_inb : ∀ (v988 : BitVec 32) (k0_hw24 : k0_chk24 v988), ∀ a, (k0_off265 v988) a + S1x1x1x16.size a ≤ S2x16x16x96.size a := fun v988 k0_hw24 => k0_hw24.2.2.2.1
theorem k0_off267_inb : ∀ (v988 : BitVec 32) (k0_hw24 : k0_chk24 v988), ∀ a, (k0_off267 v988) a + S1x1x1x16.size a ≤ S2x16x16x96.size a := fun v988 k0_hw24 => k0_hw24.2.2.2.2.1
theorem k0_off269_inb : ∀ (v988 : BitVec 32) (k0_hw24 : k0_chk24 v988), ∀ a, (k0_off269 v988) a + S1x1x1x16.size a ≤ S2x16x16x96.size a := fun v988 k0_hw24 => k0_hw24.2.2.2.2.2

def k0_off270 (k0_t3 : Fin k0_t3_loop.trips) : Fin 3 → Nat :=
  let c1_i32_934 : BitVec 32 := 1#32
  let v1059 : Index := Scalar.indexCast c1_i32_934
  let c0_i32_492 : BitVec 32 := 0#32
  let c1_i32_494 : BitVec 32 := 1#32
  let arg13 : BitVec 32 := Scf.iv c0_i32_492 c1_i32_494 k0_t3
  let c16_i32_932 : BitVec 32 := 16#32
  let v1057 : BitVec 32 := Scalar.muli arg13 c16_i32_932
  let c5_i32_933 : BitVec 32 := 5#32
  let v1058 : BitVec 32 := Scalar.addi v1057 c5_i32_933
  let v1060 : Index := Scalar.indexCast v1058
  let c80_935 : Index := 80#32
  ![1, v1060.toNat, 80]
def k0_off271 (v1065 : BitVec 32) : Fin 4 → Nat :=
  let c0_i32_939 : BitVec 32 := 0#32
  let v1069 : Index := Scalar.indexCast c0_i32_939
  let c9_i32_936 : BitVec 32 := 9#32
  let v1066 : BitVec 32 := Scalar.shrsi v1065 c9_i32_936
  let c15_i32_937 : BitVec 32 := 15#32
  let v1067 : BitVec 32 := Scalar.andi v1066 c15_i32_937
  let v1070 : Index := Scalar.indexCast v1067
  let c15_i32_938 : BitVec 32 := 15#32
  let v1068 : BitVec 32 := Scalar.andi v1065 c15_i32_938
  let v1071 : Index := Scalar.indexCast v1068
  let c0_940 : Index := 0#32
  ![0, v1070.toNat, v1071.toNat, 0]

def k0_off272 (k0_t3 : Fin k0_t3_loop.trips) : Fin 3 → Nat :=
  let c1_i32_943 : BitVec 32 := 1#32
  let v1076 : Index := Scalar.indexCast c1_i32_943
  let c0_i32_492 : BitVec 32 := 0#32
  let c1_i32_494 : BitVec 32 := 1#32
  let arg13 : BitVec 32 := Scf.iv c0_i32_492 c1_i32_494 k0_t3
  let c16_i32_941 : BitVec 32 := 16#32
  let v1074 : BitVec 32 := Scalar.muli arg13 c16_i32_941
  let c6_i32_942 : BitVec 32 := 6#32
  let v1075 : BitVec 32 := Scalar.addi v1074 c6_i32_942
  let v1077 : Index := Scalar.indexCast v1075
  let c0_944 : Index := 0#32
  ![1, v1077.toNat, 0]
def k0_off273 (v1065 : BitVec 32) : Fin 4 → Nat :=
  let c0_i32_945 : BitVec 32 := 0#32
  let v1081 : Index := Scalar.indexCast c0_i32_945
  let c9_i32_936 : BitVec 32 := 9#32
  let v1066 : BitVec 32 := Scalar.shrsi v1065 c9_i32_936
  let c15_i32_937 : BitVec 32 := 15#32
  let v1067 : BitVec 32 := Scalar.andi v1066 c15_i32_937
  let v1082 : Index := Scalar.indexCast v1067
  let c15_i32_938 : BitVec 32 := 15#32
  let v1068 : BitVec 32 := Scalar.andi v1065 c15_i32_938
  let v1083 : Index := Scalar.indexCast v1068
  let c16_946 : Index := 16#32
  ![0, v1082.toNat, v1083.toNat, 16]
def k0_off274 (k0_t3 : Fin k0_t3_loop.trips) : Fin 3 → Nat :=
  let c1_i32_949 : BitVec 32 := 1#32
  let v1088 : Index := Scalar.indexCast c1_i32_949
  let c0_i32_492 : BitVec 32 := 0#32
  let c1_i32_494 : BitVec 32 := 1#32
  let arg13 : BitVec 32 := Scf.iv c0_i32_492 c1_i32_494 k0_t3
  let c16_i32_947 : BitVec 32 := 16#32
  let v1086 : BitVec 32 := Scalar.muli arg13 c16_i32_947
  let c6_i32_948 : BitVec 32 := 6#32
  let v1087 : BitVec 32 := Scalar.addi v1086 c6_i32_948
  let v1089 : Index := Scalar.indexCast v1087
  let c16_950 : Index := 16#32
  ![1, v1089.toNat, 16]
def k0_off275 (v1065 : BitVec 32) : Fin 4 → Nat :=
  let c0_i32_951 : BitVec 32 := 0#32
  let v1093 : Index := Scalar.indexCast c0_i32_951
  let c9_i32_936 : BitVec 32 := 9#32
  let v1066 : BitVec 32 := Scalar.shrsi v1065 c9_i32_936
  let c15_i32_937 : BitVec 32 := 15#32
  let v1067 : BitVec 32 := Scalar.andi v1066 c15_i32_937
  let v1094 : Index := Scalar.indexCast v1067
  let c15_i32_938 : BitVec 32 := 15#32
  let v1068 : BitVec 32 := Scalar.andi v1065 c15_i32_938
  let v1095 : Index := Scalar.indexCast v1068
  let c32_952 : Index := 32#32
  ![0, v1094.toNat, v1095.toNat, 32]
def k0_off276 (k0_t3 : Fin k0_t3_loop.trips) : Fin 3 → Nat :=
  let c1_i32_955 : BitVec 32 := 1#32
  let v1100 : Index := Scalar.indexCast c1_i32_955
  let c0_i32_492 : BitVec 32 := 0#32
  let c1_i32_494 : BitVec 32 := 1#32
  let arg13 : BitVec 32 := Scf.iv c0_i32_492 c1_i32_494 k0_t3
  let c16_i32_953 : BitVec 32 := 16#32
  let v1098 : BitVec 32 := Scalar.muli arg13 c16_i32_953
  let c6_i32_954 : BitVec 32 := 6#32
  let v1099 : BitVec 32 := Scalar.addi v1098 c6_i32_954
  let v1101 : Index := Scalar.indexCast v1099
  let c32_956 : Index := 32#32
  ![1, v1101.toNat, 32]
def k0_off277 (v1065 : BitVec 32) : Fin 4 → Nat :=
  let c0_i32_957 : BitVec 32 := 0#32
  let v1105 : Index := Scalar.indexCast c0_i32_957
  let c9_i32_936 : BitVec 32 := 9#32
  let v1066 : BitVec 32 := Scalar.shrsi v1065 c9_i32_936
  let c15_i32_937 : BitVec 32 := 15#32
  let v1067 : BitVec 32 := Scalar.andi v1066 c15_i32_937
  let v1106 : Index := Scalar.indexCast v1067
  let c15_i32_938 : BitVec 32 := 15#32
  let v1068 : BitVec 32 := Scalar.andi v1065 c15_i32_938
  let v1107 : Index := Scalar.indexCast v1068
  let c48_958 : Index := 48#32
  ![0, v1106.toNat, v1107.toNat, 48]
def k0_off278 (k0_t3 : Fin k0_t3_loop.trips) : Fin 3 → Nat :=
  let c1_i32_961 : BitVec 32 := 1#32
  let v1112 : Index := Scalar.indexCast c1_i32_961
  let c0_i32_492 : BitVec 32 := 0#32
  let c1_i32_494 : BitVec 32 := 1#32
  let arg13 : BitVec 32 := Scf.iv c0_i32_492 c1_i32_494 k0_t3
  let c16_i32_959 : BitVec 32 := 16#32
  let v1110 : BitVec 32 := Scalar.muli arg13 c16_i32_959
  let c6_i32_960 : BitVec 32 := 6#32
  let v1111 : BitVec 32 := Scalar.addi v1110 c6_i32_960
  let v1113 : Index := Scalar.indexCast v1111
  let c48_962 : Index := 48#32
  ![1, v1113.toNat, 48]
def k0_off279 (v1065 : BitVec 32) : Fin 4 → Nat :=
  let c0_i32_963 : BitVec 32 := 0#32
  let v1117 : Index := Scalar.indexCast c0_i32_963
  let c9_i32_936 : BitVec 32 := 9#32
  let v1066 : BitVec 32 := Scalar.shrsi v1065 c9_i32_936
  let c15_i32_937 : BitVec 32 := 15#32
  let v1067 : BitVec 32 := Scalar.andi v1066 c15_i32_937
  let v1118 : Index := Scalar.indexCast v1067
  let c15_i32_938 : BitVec 32 := 15#32
  let v1068 : BitVec 32 := Scalar.andi v1065 c15_i32_938
  let v1119 : Index := Scalar.indexCast v1068
  let c64_964 : Index := 64#32
  ![0, v1118.toNat, v1119.toNat, 64]
def k0_off280 (k0_t3 : Fin k0_t3_loop.trips) : Fin 3 → Nat :=
  let c1_i32_967 : BitVec 32 := 1#32
  let v1124 : Index := Scalar.indexCast c1_i32_967
  let c0_i32_492 : BitVec 32 := 0#32
  let c1_i32_494 : BitVec 32 := 1#32
  let arg13 : BitVec 32 := Scf.iv c0_i32_492 c1_i32_494 k0_t3
  let c16_i32_965 : BitVec 32 := 16#32
  let v1122 : BitVec 32 := Scalar.muli arg13 c16_i32_965
  let c6_i32_966 : BitVec 32 := 6#32
  let v1123 : BitVec 32 := Scalar.addi v1122 c6_i32_966
  let v1125 : Index := Scalar.indexCast v1123
  let c64_968 : Index := 64#32
  ![1, v1125.toNat, 64]
def k0_off281 (v1065 : BitVec 32) : Fin 4 → Nat :=
  let c0_i32_969 : BitVec 32 := 0#32
  let v1129 : Index := Scalar.indexCast c0_i32_969
  let c9_i32_936 : BitVec 32 := 9#32
  let v1066 : BitVec 32 := Scalar.shrsi v1065 c9_i32_936
  let c15_i32_937 : BitVec 32 := 15#32
  let v1067 : BitVec 32 := Scalar.andi v1066 c15_i32_937
  let v1130 : Index := Scalar.indexCast v1067
  let c15_i32_938 : BitVec 32 := 15#32
  let v1068 : BitVec 32 := Scalar.andi v1065 c15_i32_938
  let v1131 : Index := Scalar.indexCast v1068
  let c80_970 : Index := 80#32
  ![0, v1130.toNat, v1131.toNat, 80]

def k0_chk25 (v1065 : BitVec 32) : Prop :=
  (∀ a, (k0_off271 v1065) a + S1x1x1x16.size a ≤ S2x16x16x96.size a) ∧
  (∀ a, (k0_off273 v1065) a + S1x1x1x16.size a ≤ S2x16x16x96.size a) ∧
  (∀ a, (k0_off275 v1065) a + S1x1x1x16.size a ≤ S2x16x16x96.size a) ∧
  (∀ a, (k0_off277 v1065) a + S1x1x1x16.size a ≤ S2x16x16x96.size a) ∧
  (∀ a, (k0_off279 v1065) a + S1x1x1x16.size a ≤ S2x16x16x96.size a) ∧
  (∀ a, (k0_off281 v1065) a + S1x1x1x16.size a ≤ S2x16x16x96.size a)
theorem k0_off271_inb : ∀ (v1065 : BitVec 32) (k0_hw25 : k0_chk25 v1065), ∀ a, (k0_off271 v1065) a + S1x1x1x16.size a ≤ S2x16x16x96.size a := fun v1065 k0_hw25 => k0_hw25.1
theorem k0_off273_inb : ∀ (v1065 : BitVec 32) (k0_hw25 : k0_chk25 v1065), ∀ a, (k0_off273 v1065) a + S1x1x1x16.size a ≤ S2x16x16x96.size a := fun v1065 k0_hw25 => k0_hw25.2.1
theorem k0_off275_inb : ∀ (v1065 : BitVec 32) (k0_hw25 : k0_chk25 v1065), ∀ a, (k0_off275 v1065) a + S1x1x1x16.size a ≤ S2x16x16x96.size a := fun v1065 k0_hw25 => k0_hw25.2.2.1
theorem k0_off277_inb : ∀ (v1065 : BitVec 32) (k0_hw25 : k0_chk25 v1065), ∀ a, (k0_off277 v1065) a + S1x1x1x16.size a ≤ S2x16x16x96.size a := fun v1065 k0_hw25 => k0_hw25.2.2.2.1
theorem k0_off279_inb : ∀ (v1065 : BitVec 32) (k0_hw25 : k0_chk25 v1065), ∀ a, (k0_off279 v1065) a + S1x1x1x16.size a ≤ S2x16x16x96.size a := fun v1065 k0_hw25 => k0_hw25.2.2.2.2.1
theorem k0_off281_inb : ∀ (v1065 : BitVec 32) (k0_hw25 : k0_chk25 v1065), ∀ a, (k0_off281 v1065) a + S1x1x1x16.size a ≤ S2x16x16x96.size a := fun v1065 k0_hw25 => k0_hw25.2.2.2.2.2

def k0_off282 (k0_t3 : Fin k0_t3_loop.trips) : Fin 3 → Nat :=
  let c1_i32_973 : BitVec 32 := 1#32
  let v1136 : Index := Scalar.indexCast c1_i32_973
  let c0_i32_492 : BitVec 32 := 0#32
  let c1_i32_494 : BitVec 32 := 1#32
  let arg13 : BitVec 32 := Scf.iv c0_i32_492 c1_i32_494 k0_t3
  let c16_i32_971 : BitVec 32 := 16#32
  let v1134 : BitVec 32 := Scalar.muli arg13 c16_i32_971
  let c6_i32_972 : BitVec 32 := 6#32
  let v1135 : BitVec 32 := Scalar.addi v1134 c6_i32_972
  let v1137 : Index := Scalar.indexCast v1135
  let c80_974 : Index := 80#32
  ![1, v1137.toNat, 80]
def k0_off283 (v1142 : BitVec 32) : Fin 4 → Nat :=
  let c0_i32_978 : BitVec 32 := 0#32
  let v1146 : Index := Scalar.indexCast c0_i32_978
  let c9_i32_975 : BitVec 32 := 9#32
  let v1143 : BitVec 32 := Scalar.shrsi v1142 c9_i32_975
  let c15_i32_976 : BitVec 32 := 15#32
  let v1144 : BitVec 32 := Scalar.andi v1143 c15_i32_976
  let v1147 : Index := Scalar.indexCast v1144
  let c15_i32_977 : BitVec 32 := 15#32
  let v1145 : BitVec 32 := Scalar.andi v1142 c15_i32_977
  let v1148 : Index := Scalar.indexCast v1145
  let c0_979 : Index := 0#32
  ![0, v1147.toNat, v1148.toNat, 0]

def k0_off284 (k0_t3 : Fin k0_t3_loop.trips) : Fin 3 → Nat :=
  let c1_i32_982 : BitVec 32 := 1#32
  let v1153 : Index := Scalar.indexCast c1_i32_982
  let c0_i32_492 : BitVec 32 := 0#32
  let c1_i32_494 : BitVec 32 := 1#32
  let arg13 : BitVec 32 := Scf.iv c0_i32_492 c1_i32_494 k0_t3
  let c16_i32_980 : BitVec 32 := 16#32
  let v1151 : BitVec 32 := Scalar.muli arg13 c16_i32_980
  let c7_i32_981 : BitVec 32 := 7#32
  let v1152 : BitVec 32 := Scalar.addi v1151 c7_i32_981
  let v1154 : Index := Scalar.indexCast v1152
  let c0_983 : Index := 0#32
  ![1, v1154.toNat, 0]
def k0_off285 (v1142 : BitVec 32) : Fin 4 → Nat :=
  let c0_i32_984 : BitVec 32 := 0#32
  let v1158 : Index := Scalar.indexCast c0_i32_984
  let c9_i32_975 : BitVec 32 := 9#32
  let v1143 : BitVec 32 := Scalar.shrsi v1142 c9_i32_975
  let c15_i32_976 : BitVec 32 := 15#32
  let v1144 : BitVec 32 := Scalar.andi v1143 c15_i32_976
  let v1159 : Index := Scalar.indexCast v1144
  let c15_i32_977 : BitVec 32 := 15#32
  let v1145 : BitVec 32 := Scalar.andi v1142 c15_i32_977
  let v1160 : Index := Scalar.indexCast v1145
  let c16_985 : Index := 16#32
  ![0, v1159.toNat, v1160.toNat, 16]
def k0_off286 (k0_t3 : Fin k0_t3_loop.trips) : Fin 3 → Nat :=
  let c1_i32_988 : BitVec 32 := 1#32
  let v1165 : Index := Scalar.indexCast c1_i32_988
  let c0_i32_492 : BitVec 32 := 0#32
  let c1_i32_494 : BitVec 32 := 1#32
  let arg13 : BitVec 32 := Scf.iv c0_i32_492 c1_i32_494 k0_t3
  let c16_i32_986 : BitVec 32 := 16#32
  let v1163 : BitVec 32 := Scalar.muli arg13 c16_i32_986
  let c7_i32_987 : BitVec 32 := 7#32
  let v1164 : BitVec 32 := Scalar.addi v1163 c7_i32_987
  let v1166 : Index := Scalar.indexCast v1164
  let c16_989 : Index := 16#32
  ![1, v1166.toNat, 16]
def k0_off287 (v1142 : BitVec 32) : Fin 4 → Nat :=
  let c0_i32_990 : BitVec 32 := 0#32
  let v1170 : Index := Scalar.indexCast c0_i32_990
  let c9_i32_975 : BitVec 32 := 9#32
  let v1143 : BitVec 32 := Scalar.shrsi v1142 c9_i32_975
  let c15_i32_976 : BitVec 32 := 15#32
  let v1144 : BitVec 32 := Scalar.andi v1143 c15_i32_976
  let v1171 : Index := Scalar.indexCast v1144
  let c15_i32_977 : BitVec 32 := 15#32
  let v1145 : BitVec 32 := Scalar.andi v1142 c15_i32_977
  let v1172 : Index := Scalar.indexCast v1145
  let c32_991 : Index := 32#32
  ![0, v1171.toNat, v1172.toNat, 32]
def k0_off288 (k0_t3 : Fin k0_t3_loop.trips) : Fin 3 → Nat :=
  let c1_i32_994 : BitVec 32 := 1#32
  let v1177 : Index := Scalar.indexCast c1_i32_994
  let c0_i32_492 : BitVec 32 := 0#32
  let c1_i32_494 : BitVec 32 := 1#32
  let arg13 : BitVec 32 := Scf.iv c0_i32_492 c1_i32_494 k0_t3
  let c16_i32_992 : BitVec 32 := 16#32
  let v1175 : BitVec 32 := Scalar.muli arg13 c16_i32_992
  let c7_i32_993 : BitVec 32 := 7#32
  let v1176 : BitVec 32 := Scalar.addi v1175 c7_i32_993
  let v1178 : Index := Scalar.indexCast v1176
  let c32_995 : Index := 32#32
  ![1, v1178.toNat, 32]
def k0_off289 (v1142 : BitVec 32) : Fin 4 → Nat :=
  let c0_i32_996 : BitVec 32 := 0#32
  let v1182 : Index := Scalar.indexCast c0_i32_996
  let c9_i32_975 : BitVec 32 := 9#32
  let v1143 : BitVec 32 := Scalar.shrsi v1142 c9_i32_975
  let c15_i32_976 : BitVec 32 := 15#32
  let v1144 : BitVec 32 := Scalar.andi v1143 c15_i32_976
  let v1183 : Index := Scalar.indexCast v1144
  let c15_i32_977 : BitVec 32 := 15#32
  let v1145 : BitVec 32 := Scalar.andi v1142 c15_i32_977
  let v1184 : Index := Scalar.indexCast v1145
  let c48_997 : Index := 48#32
  ![0, v1183.toNat, v1184.toNat, 48]
def k0_off290 (k0_t3 : Fin k0_t3_loop.trips) : Fin 3 → Nat :=
  let c1_i32_1000 : BitVec 32 := 1#32
  let v1189 : Index := Scalar.indexCast c1_i32_1000
  let c0_i32_492 : BitVec 32 := 0#32
  let c1_i32_494 : BitVec 32 := 1#32
  let arg13 : BitVec 32 := Scf.iv c0_i32_492 c1_i32_494 k0_t3
  let c16_i32_998 : BitVec 32 := 16#32
  let v1187 : BitVec 32 := Scalar.muli arg13 c16_i32_998
  let c7_i32_999 : BitVec 32 := 7#32
  let v1188 : BitVec 32 := Scalar.addi v1187 c7_i32_999
  let v1190 : Index := Scalar.indexCast v1188
  let c48_1001 : Index := 48#32
  ![1, v1190.toNat, 48]
def k0_off291 (v1142 : BitVec 32) : Fin 4 → Nat :=
  let c0_i32_1002 : BitVec 32 := 0#32
  let v1194 : Index := Scalar.indexCast c0_i32_1002
  let c9_i32_975 : BitVec 32 := 9#32
  let v1143 : BitVec 32 := Scalar.shrsi v1142 c9_i32_975
  let c15_i32_976 : BitVec 32 := 15#32
  let v1144 : BitVec 32 := Scalar.andi v1143 c15_i32_976
  let v1195 : Index := Scalar.indexCast v1144
  let c15_i32_977 : BitVec 32 := 15#32
  let v1145 : BitVec 32 := Scalar.andi v1142 c15_i32_977
  let v1196 : Index := Scalar.indexCast v1145
  let c64_1003 : Index := 64#32
  ![0, v1195.toNat, v1196.toNat, 64]
def k0_off292 (k0_t3 : Fin k0_t3_loop.trips) : Fin 3 → Nat :=
  let c1_i32_1006 : BitVec 32 := 1#32
  let v1201 : Index := Scalar.indexCast c1_i32_1006
  let c0_i32_492 : BitVec 32 := 0#32
  let c1_i32_494 : BitVec 32 := 1#32
  let arg13 : BitVec 32 := Scf.iv c0_i32_492 c1_i32_494 k0_t3
  let c16_i32_1004 : BitVec 32 := 16#32
  let v1199 : BitVec 32 := Scalar.muli arg13 c16_i32_1004
  let c7_i32_1005 : BitVec 32 := 7#32
  let v1200 : BitVec 32 := Scalar.addi v1199 c7_i32_1005
  let v1202 : Index := Scalar.indexCast v1200
  let c64_1007 : Index := 64#32
  ![1, v1202.toNat, 64]
def k0_off293 (v1142 : BitVec 32) : Fin 4 → Nat :=
  let c0_i32_1008 : BitVec 32 := 0#32
  let v1206 : Index := Scalar.indexCast c0_i32_1008
  let c9_i32_975 : BitVec 32 := 9#32
  let v1143 : BitVec 32 := Scalar.shrsi v1142 c9_i32_975
  let c15_i32_976 : BitVec 32 := 15#32
  let v1144 : BitVec 32 := Scalar.andi v1143 c15_i32_976
  let v1207 : Index := Scalar.indexCast v1144
  let c15_i32_977 : BitVec 32 := 15#32
  let v1145 : BitVec 32 := Scalar.andi v1142 c15_i32_977
  let v1208 : Index := Scalar.indexCast v1145
  let c80_1009 : Index := 80#32
  ![0, v1207.toNat, v1208.toNat, 80]

def k0_chk26 (v1142 : BitVec 32) : Prop :=
  (∀ a, (k0_off283 v1142) a + S1x1x1x16.size a ≤ S2x16x16x96.size a) ∧
  (∀ a, (k0_off285 v1142) a + S1x1x1x16.size a ≤ S2x16x16x96.size a) ∧
  (∀ a, (k0_off287 v1142) a + S1x1x1x16.size a ≤ S2x16x16x96.size a) ∧
  (∀ a, (k0_off289 v1142) a + S1x1x1x16.size a ≤ S2x16x16x96.size a) ∧
  (∀ a, (k0_off291 v1142) a + S1x1x1x16.size a ≤ S2x16x16x96.size a) ∧
  (∀ a, (k0_off293 v1142) a + S1x1x1x16.size a ≤ S2x16x16x96.size a)
theorem k0_off283_inb : ∀ (v1142 : BitVec 32) (k0_hw26 : k0_chk26 v1142), ∀ a, (k0_off283 v1142) a + S1x1x1x16.size a ≤ S2x16x16x96.size a := fun v1142 k0_hw26 => k0_hw26.1
theorem k0_off285_inb : ∀ (v1142 : BitVec 32) (k0_hw26 : k0_chk26 v1142), ∀ a, (k0_off285 v1142) a + S1x1x1x16.size a ≤ S2x16x16x96.size a := fun v1142 k0_hw26 => k0_hw26.2.1
theorem k0_off287_inb : ∀ (v1142 : BitVec 32) (k0_hw26 : k0_chk26 v1142), ∀ a, (k0_off287 v1142) a + S1x1x1x16.size a ≤ S2x16x16x96.size a := fun v1142 k0_hw26 => k0_hw26.2.2.1
theorem k0_off289_inb : ∀ (v1142 : BitVec 32) (k0_hw26 : k0_chk26 v1142), ∀ a, (k0_off289 v1142) a + S1x1x1x16.size a ≤ S2x16x16x96.size a := fun v1142 k0_hw26 => k0_hw26.2.2.2.1
theorem k0_off291_inb : ∀ (v1142 : BitVec 32) (k0_hw26 : k0_chk26 v1142), ∀ a, (k0_off291 v1142) a + S1x1x1x16.size a ≤ S2x16x16x96.size a := fun v1142 k0_hw26 => k0_hw26.2.2.2.2.1
theorem k0_off293_inb : ∀ (v1142 : BitVec 32) (k0_hw26 : k0_chk26 v1142), ∀ a, (k0_off293 v1142) a + S1x1x1x16.size a ≤ S2x16x16x96.size a := fun v1142 k0_hw26 => k0_hw26.2.2.2.2.2

def k0_off294 (k0_t3 : Fin k0_t3_loop.trips) : Fin 3 → Nat :=
  let c1_i32_1012 : BitVec 32 := 1#32
  let v1213 : Index := Scalar.indexCast c1_i32_1012
  let c0_i32_492 : BitVec 32 := 0#32
  let c1_i32_494 : BitVec 32 := 1#32
  let arg13 : BitVec 32 := Scf.iv c0_i32_492 c1_i32_494 k0_t3
  let c16_i32_1010 : BitVec 32 := 16#32
  let v1211 : BitVec 32 := Scalar.muli arg13 c16_i32_1010
  let c7_i32_1011 : BitVec 32 := 7#32
  let v1212 : BitVec 32 := Scalar.addi v1211 c7_i32_1011
  let v1214 : Index := Scalar.indexCast v1212
  let c80_1013 : Index := 80#32
  ![1, v1214.toNat, 80]
def k0_off295 (v1219 : BitVec 32) : Fin 4 → Nat :=
  let c0_i32_1017 : BitVec 32 := 0#32
  let v1223 : Index := Scalar.indexCast c0_i32_1017
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1224 : Index := Scalar.indexCast v1221
  let c15_i32_1016 : BitVec 32 := 15#32
  let v1222 : BitVec 32 := Scalar.andi v1219 c15_i32_1016
  let v1225 : Index := Scalar.indexCast v1222
  let c0_1018 : Index := 0#32
  ![0, v1224.toNat, v1225.toNat, 0]

def k0_off296 (k0_t3 : Fin k0_t3_loop.trips) : Fin 3 → Nat :=
  let c1_i32_1021 : BitVec 32 := 1#32
  let v1230 : Index := Scalar.indexCast c1_i32_1021
  let c0_i32_492 : BitVec 32 := 0#32
  let c1_i32_494 : BitVec 32 := 1#32
  let arg13 : BitVec 32 := Scf.iv c0_i32_492 c1_i32_494 k0_t3
  let c16_i32_1019 : BitVec 32 := 16#32
  let v1228 : BitVec 32 := Scalar.muli arg13 c16_i32_1019
  let c8_i32_1020 : BitVec 32 := 8#32
  let v1229 : BitVec 32 := Scalar.addi v1228 c8_i32_1020
  let v1231 : Index := Scalar.indexCast v1229
  let c0_1022 : Index := 0#32
  ![1, v1231.toNat, 0]
def k0_off297 (v1219 : BitVec 32) : Fin 4 → Nat :=
  let c0_i32_1023 : BitVec 32 := 0#32
  let v1235 : Index := Scalar.indexCast c0_i32_1023
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1236 : Index := Scalar.indexCast v1221
  let c15_i32_1016 : BitVec 32 := 15#32
  let v1222 : BitVec 32 := Scalar.andi v1219 c15_i32_1016
  let v1237 : Index := Scalar.indexCast v1222
  let c16_1024 : Index := 16#32
  ![0, v1236.toNat, v1237.toNat, 16]
def k0_off298 (k0_t3 : Fin k0_t3_loop.trips) : Fin 3 → Nat :=
  let c1_i32_1027 : BitVec 32 := 1#32
  let v1242 : Index := Scalar.indexCast c1_i32_1027
  let c0_i32_492 : BitVec 32 := 0#32
  let c1_i32_494 : BitVec 32 := 1#32
  let arg13 : BitVec 32 := Scf.iv c0_i32_492 c1_i32_494 k0_t3
  let c16_i32_1025 : BitVec 32 := 16#32
  let v1240 : BitVec 32 := Scalar.muli arg13 c16_i32_1025
  let c8_i32_1026 : BitVec 32 := 8#32
  let v1241 : BitVec 32 := Scalar.addi v1240 c8_i32_1026
  let v1243 : Index := Scalar.indexCast v1241
  let c16_1028 : Index := 16#32
  ![1, v1243.toNat, 16]
def k0_off299 (v1219 : BitVec 32) : Fin 4 → Nat :=
  let c0_i32_1029 : BitVec 32 := 0#32
  let v1247 : Index := Scalar.indexCast c0_i32_1029
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1248 : Index := Scalar.indexCast v1221
  let c15_i32_1016 : BitVec 32 := 15#32
  let v1222 : BitVec 32 := Scalar.andi v1219 c15_i32_1016
  let v1249 : Index := Scalar.indexCast v1222
  let c32_1030 : Index := 32#32
  ![0, v1248.toNat, v1249.toNat, 32]
def k0_off300 (k0_t3 : Fin k0_t3_loop.trips) : Fin 3 → Nat :=
  let c1_i32_1033 : BitVec 32 := 1#32
  let v1254 : Index := Scalar.indexCast c1_i32_1033
  let c0_i32_492 : BitVec 32 := 0#32
  let c1_i32_494 : BitVec 32 := 1#32
  let arg13 : BitVec 32 := Scf.iv c0_i32_492 c1_i32_494 k0_t3
  let c16_i32_1031 : BitVec 32 := 16#32
  let v1252 : BitVec 32 := Scalar.muli arg13 c16_i32_1031
  let c8_i32_1032 : BitVec 32 := 8#32
  let v1253 : BitVec 32 := Scalar.addi v1252 c8_i32_1032
  let v1255 : Index := Scalar.indexCast v1253
  let c32_1034 : Index := 32#32
  ![1, v1255.toNat, 32]
def k0_off301 (v1219 : BitVec 32) : Fin 4 → Nat :=
  let c0_i32_1035 : BitVec 32 := 0#32
  let v1259 : Index := Scalar.indexCast c0_i32_1035
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1260 : Index := Scalar.indexCast v1221
  let c15_i32_1016 : BitVec 32 := 15#32
  let v1222 : BitVec 32 := Scalar.andi v1219 c15_i32_1016
  let v1261 : Index := Scalar.indexCast v1222
  let c48_1036 : Index := 48#32
  ![0, v1260.toNat, v1261.toNat, 48]
def k0_off302 (k0_t3 : Fin k0_t3_loop.trips) : Fin 3 → Nat :=
  let c1_i32_1039 : BitVec 32 := 1#32
  let v1266 : Index := Scalar.indexCast c1_i32_1039
  let c0_i32_492 : BitVec 32 := 0#32
  let c1_i32_494 : BitVec 32 := 1#32
  let arg13 : BitVec 32 := Scf.iv c0_i32_492 c1_i32_494 k0_t3
  let c16_i32_1037 : BitVec 32 := 16#32
  let v1264 : BitVec 32 := Scalar.muli arg13 c16_i32_1037
  let c8_i32_1038 : BitVec 32 := 8#32
  let v1265 : BitVec 32 := Scalar.addi v1264 c8_i32_1038
  let v1267 : Index := Scalar.indexCast v1265
  let c48_1040 : Index := 48#32
  ![1, v1267.toNat, 48]
def k0_off303 (v1219 : BitVec 32) : Fin 4 → Nat :=
  let c0_i32_1041 : BitVec 32 := 0#32
  let v1271 : Index := Scalar.indexCast c0_i32_1041
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1272 : Index := Scalar.indexCast v1221
  let c15_i32_1016 : BitVec 32 := 15#32
  let v1222 : BitVec 32 := Scalar.andi v1219 c15_i32_1016
  let v1273 : Index := Scalar.indexCast v1222
  let c64_1042 : Index := 64#32
  ![0, v1272.toNat, v1273.toNat, 64]
def k0_off304 (k0_t3 : Fin k0_t3_loop.trips) : Fin 3 → Nat :=
  let c1_i32_1045 : BitVec 32 := 1#32
  let v1278 : Index := Scalar.indexCast c1_i32_1045
  let c0_i32_492 : BitVec 32 := 0#32
  let c1_i32_494 : BitVec 32 := 1#32
  let arg13 : BitVec 32 := Scf.iv c0_i32_492 c1_i32_494 k0_t3
  let c16_i32_1043 : BitVec 32 := 16#32
  let v1276 : BitVec 32 := Scalar.muli arg13 c16_i32_1043
  let c8_i32_1044 : BitVec 32 := 8#32
  let v1277 : BitVec 32 := Scalar.addi v1276 c8_i32_1044
  let v1279 : Index := Scalar.indexCast v1277
  let c64_1046 : Index := 64#32
  ![1, v1279.toNat, 64]
def k0_off305 (v1219 : BitVec 32) : Fin 4 → Nat :=
  let c0_i32_1047 : BitVec 32 := 0#32
  let v1283 : Index := Scalar.indexCast c0_i32_1047
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1284 : Index := Scalar.indexCast v1221
  let c15_i32_1016 : BitVec 32 := 15#32
  let v1222 : BitVec 32 := Scalar.andi v1219 c15_i32_1016
  let v1285 : Index := Scalar.indexCast v1222
  let c80_1048 : Index := 80#32
  ![0, v1284.toNat, v1285.toNat, 80]

def k0_chk27 (v1219 : BitVec 32) : Prop :=
  (∀ a, (k0_off295 v1219) a + S1x1x1x16.size a ≤ S2x16x16x96.size a) ∧
  (∀ a, (k0_off297 v1219) a + S1x1x1x16.size a ≤ S2x16x16x96.size a) ∧
  (∀ a, (k0_off299 v1219) a + S1x1x1x16.size a ≤ S2x16x16x96.size a) ∧
  (∀ a, (k0_off301 v1219) a + S1x1x1x16.size a ≤ S2x16x16x96.size a) ∧
  (∀ a, (k0_off303 v1219) a + S1x1x1x16.size a ≤ S2x16x16x96.size a) ∧
  (∀ a, (k0_off305 v1219) a + S1x1x1x16.size a ≤ S2x16x16x96.size a)
theorem k0_off295_inb : ∀ (v1219 : BitVec 32) (k0_hw27 : k0_chk27 v1219), ∀ a, (k0_off295 v1219) a + S1x1x1x16.size a ≤ S2x16x16x96.size a := fun v1219 k0_hw27 => k0_hw27.1
theorem k0_off297_inb : ∀ (v1219 : BitVec 32) (k0_hw27 : k0_chk27 v1219), ∀ a, (k0_off297 v1219) a + S1x1x1x16.size a ≤ S2x16x16x96.size a := fun v1219 k0_hw27 => k0_hw27.2.1
theorem k0_off299_inb : ∀ (v1219 : BitVec 32) (k0_hw27 : k0_chk27 v1219), ∀ a, (k0_off299 v1219) a + S1x1x1x16.size a ≤ S2x16x16x96.size a := fun v1219 k0_hw27 => k0_hw27.2.2.1
theorem k0_off301_inb : ∀ (v1219 : BitVec 32) (k0_hw27 : k0_chk27 v1219), ∀ a, (k0_off301 v1219) a + S1x1x1x16.size a ≤ S2x16x16x96.size a := fun v1219 k0_hw27 => k0_hw27.2.2.2.1
theorem k0_off303_inb : ∀ (v1219 : BitVec 32) (k0_hw27 : k0_chk27 v1219), ∀ a, (k0_off303 v1219) a + S1x1x1x16.size a ≤ S2x16x16x96.size a := fun v1219 k0_hw27 => k0_hw27.2.2.2.2.1
theorem k0_off305_inb : ∀ (v1219 : BitVec 32) (k0_hw27 : k0_chk27 v1219), ∀ a, (k0_off305 v1219) a + S1x1x1x16.size a ≤ S2x16x16x96.size a := fun v1219 k0_hw27 => k0_hw27.2.2.2.2.2

def k0_off306 (k0_t3 : Fin k0_t3_loop.trips) : Fin 3 → Nat :=
  let c1_i32_1051 : BitVec 32 := 1#32
  let v1290 : Index := Scalar.indexCast c1_i32_1051
  let c0_i32_492 : BitVec 32 := 0#32
  let c1_i32_494 : BitVec 32 := 1#32
  let arg13 : BitVec 32 := Scf.iv c0_i32_492 c1_i32_494 k0_t3
  let c16_i32_1049 : BitVec 32 := 16#32
  let v1288 : BitVec 32 := Scalar.muli arg13 c16_i32_1049
  let c8_i32_1050 : BitVec 32 := 8#32
  let v1289 : BitVec 32 := Scalar.addi v1288 c8_i32_1050
  let v1291 : Index := Scalar.indexCast v1289
  let c80_1052 : Index := 80#32
  ![1, v1291.toNat, 80]
def k0_off307 (v1296 : BitVec 32) : Fin 4 → Nat :=
  let c0_i32_1056 : BitVec 32 := 0#32
  let v1300 : Index := Scalar.indexCast c0_i32_1056
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1301 : Index := Scalar.indexCast v1298
  let c15_i32_1055 : BitVec 32 := 15#32
  let v1299 : BitVec 32 := Scalar.andi v1296 c15_i32_1055
  let v1302 : Index := Scalar.indexCast v1299
  let c0_1057 : Index := 0#32
  ![0, v1301.toNat, v1302.toNat, 0]

def k0_off308 (k0_t3 : Fin k0_t3_loop.trips) : Fin 3 → Nat :=
  let c1_i32_1060 : BitVec 32 := 1#32
  let v1307 : Index := Scalar.indexCast c1_i32_1060
  let c0_i32_492 : BitVec 32 := 0#32
  let c1_i32_494 : BitVec 32 := 1#32
  let arg13 : BitVec 32 := Scf.iv c0_i32_492 c1_i32_494 k0_t3
  let c16_i32_1058 : BitVec 32 := 16#32
  let v1305 : BitVec 32 := Scalar.muli arg13 c16_i32_1058
  let c9_i32_1059 : BitVec 32 := 9#32
  let v1306 : BitVec 32 := Scalar.addi v1305 c9_i32_1059
  let v1308 : Index := Scalar.indexCast v1306
  let c0_1061 : Index := 0#32
  ![1, v1308.toNat, 0]
def k0_off309 (v1296 : BitVec 32) : Fin 4 → Nat :=
  let c0_i32_1062 : BitVec 32 := 0#32
  let v1312 : Index := Scalar.indexCast c0_i32_1062
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1313 : Index := Scalar.indexCast v1298
  let c15_i32_1055 : BitVec 32 := 15#32
  let v1299 : BitVec 32 := Scalar.andi v1296 c15_i32_1055
  let v1314 : Index := Scalar.indexCast v1299
  let c16_1063 : Index := 16#32
  ![0, v1313.toNat, v1314.toNat, 16]
def k0_off310 (k0_t3 : Fin k0_t3_loop.trips) : Fin 3 → Nat :=
  let c1_i32_1066 : BitVec 32 := 1#32
  let v1319 : Index := Scalar.indexCast c1_i32_1066
  let c0_i32_492 : BitVec 32 := 0#32
  let c1_i32_494 : BitVec 32 := 1#32
  let arg13 : BitVec 32 := Scf.iv c0_i32_492 c1_i32_494 k0_t3
  let c16_i32_1064 : BitVec 32 := 16#32
  let v1317 : BitVec 32 := Scalar.muli arg13 c16_i32_1064
  let c9_i32_1065 : BitVec 32 := 9#32
  let v1318 : BitVec 32 := Scalar.addi v1317 c9_i32_1065
  let v1320 : Index := Scalar.indexCast v1318
  let c16_1067 : Index := 16#32
  ![1, v1320.toNat, 16]
def k0_off311 (v1296 : BitVec 32) : Fin 4 → Nat :=
  let c0_i32_1068 : BitVec 32 := 0#32
  let v1324 : Index := Scalar.indexCast c0_i32_1068
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1325 : Index := Scalar.indexCast v1298
  let c15_i32_1055 : BitVec 32 := 15#32
  let v1299 : BitVec 32 := Scalar.andi v1296 c15_i32_1055
  let v1326 : Index := Scalar.indexCast v1299
  let c32_1069 : Index := 32#32
  ![0, v1325.toNat, v1326.toNat, 32]
def k0_off312 (k0_t3 : Fin k0_t3_loop.trips) : Fin 3 → Nat :=
  let c1_i32_1072 : BitVec 32 := 1#32
  let v1331 : Index := Scalar.indexCast c1_i32_1072
  let c0_i32_492 : BitVec 32 := 0#32
  let c1_i32_494 : BitVec 32 := 1#32
  let arg13 : BitVec 32 := Scf.iv c0_i32_492 c1_i32_494 k0_t3
  let c16_i32_1070 : BitVec 32 := 16#32
  let v1329 : BitVec 32 := Scalar.muli arg13 c16_i32_1070
  let c9_i32_1071 : BitVec 32 := 9#32
  let v1330 : BitVec 32 := Scalar.addi v1329 c9_i32_1071
  let v1332 : Index := Scalar.indexCast v1330
  let c32_1073 : Index := 32#32
  ![1, v1332.toNat, 32]
def k0_off313 (v1296 : BitVec 32) : Fin 4 → Nat :=
  let c0_i32_1074 : BitVec 32 := 0#32
  let v1336 : Index := Scalar.indexCast c0_i32_1074
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1337 : Index := Scalar.indexCast v1298
  let c15_i32_1055 : BitVec 32 := 15#32
  let v1299 : BitVec 32 := Scalar.andi v1296 c15_i32_1055
  let v1338 : Index := Scalar.indexCast v1299
  let c48_1075 : Index := 48#32
  ![0, v1337.toNat, v1338.toNat, 48]
def k0_off314 (k0_t3 : Fin k0_t3_loop.trips) : Fin 3 → Nat :=
  let c1_i32_1078 : BitVec 32 := 1#32
  let v1343 : Index := Scalar.indexCast c1_i32_1078
  let c0_i32_492 : BitVec 32 := 0#32
  let c1_i32_494 : BitVec 32 := 1#32
  let arg13 : BitVec 32 := Scf.iv c0_i32_492 c1_i32_494 k0_t3
  let c16_i32_1076 : BitVec 32 := 16#32
  let v1341 : BitVec 32 := Scalar.muli arg13 c16_i32_1076
  let c9_i32_1077 : BitVec 32 := 9#32
  let v1342 : BitVec 32 := Scalar.addi v1341 c9_i32_1077
  let v1344 : Index := Scalar.indexCast v1342
  let c48_1079 : Index := 48#32
  ![1, v1344.toNat, 48]
def k0_off315 (v1296 : BitVec 32) : Fin 4 → Nat :=
  let c0_i32_1080 : BitVec 32 := 0#32
  let v1348 : Index := Scalar.indexCast c0_i32_1080
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1349 : Index := Scalar.indexCast v1298
  let c15_i32_1055 : BitVec 32 := 15#32
  let v1299 : BitVec 32 := Scalar.andi v1296 c15_i32_1055
  let v1350 : Index := Scalar.indexCast v1299
  let c64_1081 : Index := 64#32
  ![0, v1349.toNat, v1350.toNat, 64]
def k0_off316 (k0_t3 : Fin k0_t3_loop.trips) : Fin 3 → Nat :=
  let c1_i32_1084 : BitVec 32 := 1#32
  let v1355 : Index := Scalar.indexCast c1_i32_1084
  let c0_i32_492 : BitVec 32 := 0#32
  let c1_i32_494 : BitVec 32 := 1#32
  let arg13 : BitVec 32 := Scf.iv c0_i32_492 c1_i32_494 k0_t3
  let c16_i32_1082 : BitVec 32 := 16#32
  let v1353 : BitVec 32 := Scalar.muli arg13 c16_i32_1082
  let c9_i32_1083 : BitVec 32 := 9#32
  let v1354 : BitVec 32 := Scalar.addi v1353 c9_i32_1083
  let v1356 : Index := Scalar.indexCast v1354
  let c64_1085 : Index := 64#32
  ![1, v1356.toNat, 64]
def k0_off317 (v1296 : BitVec 32) : Fin 4 → Nat :=
  let c0_i32_1086 : BitVec 32 := 0#32
  let v1360 : Index := Scalar.indexCast c0_i32_1086
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1361 : Index := Scalar.indexCast v1298
  let c15_i32_1055 : BitVec 32 := 15#32
  let v1299 : BitVec 32 := Scalar.andi v1296 c15_i32_1055
  let v1362 : Index := Scalar.indexCast v1299
  let c80_1087 : Index := 80#32
  ![0, v1361.toNat, v1362.toNat, 80]

def k0_chk28 (v1296 : BitVec 32) : Prop :=
  (∀ a, (k0_off307 v1296) a + S1x1x1x16.size a ≤ S2x16x16x96.size a) ∧
  (∀ a, (k0_off309 v1296) a + S1x1x1x16.size a ≤ S2x16x16x96.size a) ∧
  (∀ a, (k0_off311 v1296) a + S1x1x1x16.size a ≤ S2x16x16x96.size a) ∧
  (∀ a, (k0_off313 v1296) a + S1x1x1x16.size a ≤ S2x16x16x96.size a) ∧
  (∀ a, (k0_off315 v1296) a + S1x1x1x16.size a ≤ S2x16x16x96.size a) ∧
  (∀ a, (k0_off317 v1296) a + S1x1x1x16.size a ≤ S2x16x16x96.size a)
theorem k0_off307_inb : ∀ (v1296 : BitVec 32) (k0_hw28 : k0_chk28 v1296), ∀ a, (k0_off307 v1296) a + S1x1x1x16.size a ≤ S2x16x16x96.size a := fun v1296 k0_hw28 => k0_hw28.1
theorem k0_off309_inb : ∀ (v1296 : BitVec 32) (k0_hw28 : k0_chk28 v1296), ∀ a, (k0_off309 v1296) a + S1x1x1x16.size a ≤ S2x16x16x96.size a := fun v1296 k0_hw28 => k0_hw28.2.1
theorem k0_off311_inb : ∀ (v1296 : BitVec 32) (k0_hw28 : k0_chk28 v1296), ∀ a, (k0_off311 v1296) a + S1x1x1x16.size a ≤ S2x16x16x96.size a := fun v1296 k0_hw28 => k0_hw28.2.2.1
theorem k0_off313_inb : ∀ (v1296 : BitVec 32) (k0_hw28 : k0_chk28 v1296), ∀ a, (k0_off313 v1296) a + S1x1x1x16.size a ≤ S2x16x16x96.size a := fun v1296 k0_hw28 => k0_hw28.2.2.2.1
theorem k0_off315_inb : ∀ (v1296 : BitVec 32) (k0_hw28 : k0_chk28 v1296), ∀ a, (k0_off315 v1296) a + S1x1x1x16.size a ≤ S2x16x16x96.size a := fun v1296 k0_hw28 => k0_hw28.2.2.2.2.1
theorem k0_off317_inb : ∀ (v1296 : BitVec 32) (k0_hw28 : k0_chk28 v1296), ∀ a, (k0_off317 v1296) a + S1x1x1x16.size a ≤ S2x16x16x96.size a := fun v1296 k0_hw28 => k0_hw28.2.2.2.2.2

def k0_off318 (k0_t3 : Fin k0_t3_loop.trips) : Fin 3 → Nat :=
  let c1_i32_1090 : BitVec 32 := 1#32
  let v1367 : Index := Scalar.indexCast c1_i32_1090
  let c0_i32_492 : BitVec 32 := 0#32
  let c1_i32_494 : BitVec 32 := 1#32
  let arg13 : BitVec 32 := Scf.iv c0_i32_492 c1_i32_494 k0_t3
  let c16_i32_1088 : BitVec 32 := 16#32
  let v1365 : BitVec 32 := Scalar.muli arg13 c16_i32_1088
  let c9_i32_1089 : BitVec 32 := 9#32
  let v1366 : BitVec 32 := Scalar.addi v1365 c9_i32_1089
  let v1368 : Index := Scalar.indexCast v1366
  let c80_1091 : Index := 80#32
  ![1, v1368.toNat, 80]
def k0_off319 (v1373 : BitVec 32) : Fin 4 → Nat :=
  let c0_i32_1095 : BitVec 32 := 0#32
  let v1377 : Index := Scalar.indexCast c0_i32_1095
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1378 : Index := Scalar.indexCast v1375
  let c15_i32_1094 : BitVec 32 := 15#32
  let v1376 : BitVec 32 := Scalar.andi v1373 c15_i32_1094
  let v1379 : Index := Scalar.indexCast v1376
  let c0_1096 : Index := 0#32
  ![0, v1378.toNat, v1379.toNat, 0]

def k0_off320 (k0_t3 : Fin k0_t3_loop.trips) : Fin 3 → Nat :=
  let c1_i32_1099 : BitVec 32 := 1#32
  let v1384 : Index := Scalar.indexCast c1_i32_1099
  let c0_i32_492 : BitVec 32 := 0#32
  let c1_i32_494 : BitVec 32 := 1#32
  let arg13 : BitVec 32 := Scf.iv c0_i32_492 c1_i32_494 k0_t3
  let c16_i32_1097 : BitVec 32 := 16#32
  let v1382 : BitVec 32 := Scalar.muli arg13 c16_i32_1097
  let c10_i32_1098 : BitVec 32 := 10#32
  let v1383 : BitVec 32 := Scalar.addi v1382 c10_i32_1098
  let v1385 : Index := Scalar.indexCast v1383
  let c0_1100 : Index := 0#32
  ![1, v1385.toNat, 0]
def k0_off321 (v1373 : BitVec 32) : Fin 4 → Nat :=
  let c0_i32_1101 : BitVec 32 := 0#32
  let v1389 : Index := Scalar.indexCast c0_i32_1101
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1390 : Index := Scalar.indexCast v1375
  let c15_i32_1094 : BitVec 32 := 15#32
  let v1376 : BitVec 32 := Scalar.andi v1373 c15_i32_1094
  let v1391 : Index := Scalar.indexCast v1376
  let c16_1102 : Index := 16#32
  ![0, v1390.toNat, v1391.toNat, 16]
def k0_off322 (k0_t3 : Fin k0_t3_loop.trips) : Fin 3 → Nat :=
  let c1_i32_1105 : BitVec 32 := 1#32
  let v1396 : Index := Scalar.indexCast c1_i32_1105
  let c0_i32_492 : BitVec 32 := 0#32
  let c1_i32_494 : BitVec 32 := 1#32
  let arg13 : BitVec 32 := Scf.iv c0_i32_492 c1_i32_494 k0_t3
  let c16_i32_1103 : BitVec 32 := 16#32
  let v1394 : BitVec 32 := Scalar.muli arg13 c16_i32_1103
  let c10_i32_1104 : BitVec 32 := 10#32
  let v1395 : BitVec 32 := Scalar.addi v1394 c10_i32_1104
  let v1397 : Index := Scalar.indexCast v1395
  let c16_1106 : Index := 16#32
  ![1, v1397.toNat, 16]
def k0_off323 (v1373 : BitVec 32) : Fin 4 → Nat :=
  let c0_i32_1107 : BitVec 32 := 0#32
  let v1401 : Index := Scalar.indexCast c0_i32_1107
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1402 : Index := Scalar.indexCast v1375
  let c15_i32_1094 : BitVec 32 := 15#32
  let v1376 : BitVec 32 := Scalar.andi v1373 c15_i32_1094
  let v1403 : Index := Scalar.indexCast v1376
  let c32_1108 : Index := 32#32
  ![0, v1402.toNat, v1403.toNat, 32]
def k0_off324 (k0_t3 : Fin k0_t3_loop.trips) : Fin 3 → Nat :=
  let c1_i32_1111 : BitVec 32 := 1#32
  let v1408 : Index := Scalar.indexCast c1_i32_1111
  let c0_i32_492 : BitVec 32 := 0#32
  let c1_i32_494 : BitVec 32 := 1#32
  let arg13 : BitVec 32 := Scf.iv c0_i32_492 c1_i32_494 k0_t3
  let c16_i32_1109 : BitVec 32 := 16#32
  let v1406 : BitVec 32 := Scalar.muli arg13 c16_i32_1109
  let c10_i32_1110 : BitVec 32 := 10#32
  let v1407 : BitVec 32 := Scalar.addi v1406 c10_i32_1110
  let v1409 : Index := Scalar.indexCast v1407
  let c32_1112 : Index := 32#32
  ![1, v1409.toNat, 32]
def k0_off325 (v1373 : BitVec 32) : Fin 4 → Nat :=
  let c0_i32_1113 : BitVec 32 := 0#32
  let v1413 : Index := Scalar.indexCast c0_i32_1113
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1414 : Index := Scalar.indexCast v1375
  let c15_i32_1094 : BitVec 32 := 15#32
  let v1376 : BitVec 32 := Scalar.andi v1373 c15_i32_1094
  let v1415 : Index := Scalar.indexCast v1376
  let c48_1114 : Index := 48#32
  ![0, v1414.toNat, v1415.toNat, 48]
def k0_off326 (k0_t3 : Fin k0_t3_loop.trips) : Fin 3 → Nat :=
  let c1_i32_1117 : BitVec 32 := 1#32
  let v1420 : Index := Scalar.indexCast c1_i32_1117
  let c0_i32_492 : BitVec 32 := 0#32
  let c1_i32_494 : BitVec 32 := 1#32
  let arg13 : BitVec 32 := Scf.iv c0_i32_492 c1_i32_494 k0_t3
  let c16_i32_1115 : BitVec 32 := 16#32
  let v1418 : BitVec 32 := Scalar.muli arg13 c16_i32_1115
  let c10_i32_1116 : BitVec 32 := 10#32
  let v1419 : BitVec 32 := Scalar.addi v1418 c10_i32_1116
  let v1421 : Index := Scalar.indexCast v1419
  let c48_1118 : Index := 48#32
  ![1, v1421.toNat, 48]
def k0_off327 (v1373 : BitVec 32) : Fin 4 → Nat :=
  let c0_i32_1119 : BitVec 32 := 0#32
  let v1425 : Index := Scalar.indexCast c0_i32_1119
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1426 : Index := Scalar.indexCast v1375
  let c15_i32_1094 : BitVec 32 := 15#32
  let v1376 : BitVec 32 := Scalar.andi v1373 c15_i32_1094
  let v1427 : Index := Scalar.indexCast v1376
  let c64_1120 : Index := 64#32
  ![0, v1426.toNat, v1427.toNat, 64]
def k0_off328 (k0_t3 : Fin k0_t3_loop.trips) : Fin 3 → Nat :=
  let c1_i32_1123 : BitVec 32 := 1#32
  let v1432 : Index := Scalar.indexCast c1_i32_1123
  let c0_i32_492 : BitVec 32 := 0#32
  let c1_i32_494 : BitVec 32 := 1#32
  let arg13 : BitVec 32 := Scf.iv c0_i32_492 c1_i32_494 k0_t3
  let c16_i32_1121 : BitVec 32 := 16#32
  let v1430 : BitVec 32 := Scalar.muli arg13 c16_i32_1121
  let c10_i32_1122 : BitVec 32 := 10#32
  let v1431 : BitVec 32 := Scalar.addi v1430 c10_i32_1122
  let v1433 : Index := Scalar.indexCast v1431
  let c64_1124 : Index := 64#32
  ![1, v1433.toNat, 64]
def k0_off329 (v1373 : BitVec 32) : Fin 4 → Nat :=
  let c0_i32_1125 : BitVec 32 := 0#32
  let v1437 : Index := Scalar.indexCast c0_i32_1125
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1438 : Index := Scalar.indexCast v1375
  let c15_i32_1094 : BitVec 32 := 15#32
  let v1376 : BitVec 32 := Scalar.andi v1373 c15_i32_1094
  let v1439 : Index := Scalar.indexCast v1376
  let c80_1126 : Index := 80#32
  ![0, v1438.toNat, v1439.toNat, 80]

def k0_chk29 (v1373 : BitVec 32) : Prop :=
  (∀ a, (k0_off319 v1373) a + S1x1x1x16.size a ≤ S2x16x16x96.size a) ∧
  (∀ a, (k0_off321 v1373) a + S1x1x1x16.size a ≤ S2x16x16x96.size a) ∧
  (∀ a, (k0_off323 v1373) a + S1x1x1x16.size a ≤ S2x16x16x96.size a) ∧
  (∀ a, (k0_off325 v1373) a + S1x1x1x16.size a ≤ S2x16x16x96.size a) ∧
  (∀ a, (k0_off327 v1373) a + S1x1x1x16.size a ≤ S2x16x16x96.size a) ∧
  (∀ a, (k0_off329 v1373) a + S1x1x1x16.size a ≤ S2x16x16x96.size a)
theorem k0_off319_inb : ∀ (v1373 : BitVec 32) (k0_hw29 : k0_chk29 v1373), ∀ a, (k0_off319 v1373) a + S1x1x1x16.size a ≤ S2x16x16x96.size a := fun v1373 k0_hw29 => k0_hw29.1
theorem k0_off321_inb : ∀ (v1373 : BitVec 32) (k0_hw29 : k0_chk29 v1373), ∀ a, (k0_off321 v1373) a + S1x1x1x16.size a ≤ S2x16x16x96.size a := fun v1373 k0_hw29 => k0_hw29.2.1
theorem k0_off323_inb : ∀ (v1373 : BitVec 32) (k0_hw29 : k0_chk29 v1373), ∀ a, (k0_off323 v1373) a + S1x1x1x16.size a ≤ S2x16x16x96.size a := fun v1373 k0_hw29 => k0_hw29.2.2.1
theorem k0_off325_inb : ∀ (v1373 : BitVec 32) (k0_hw29 : k0_chk29 v1373), ∀ a, (k0_off325 v1373) a + S1x1x1x16.size a ≤ S2x16x16x96.size a := fun v1373 k0_hw29 => k0_hw29.2.2.2.1
theorem k0_off327_inb : ∀ (v1373 : BitVec 32) (k0_hw29 : k0_chk29 v1373), ∀ a, (k0_off327 v1373) a + S1x1x1x16.size a ≤ S2x16x16x96.size a := fun v1373 k0_hw29 => k0_hw29.2.2.2.2.1
theorem k0_off329_inb : ∀ (v1373 : BitVec 32) (k0_hw29 : k0_chk29 v1373), ∀ a, (k0_off329 v1373) a + S1x1x1x16.size a ≤ S2x16x16x96.size a := fun v1373 k0_hw29 => k0_hw29.2.2.2.2.2

def k0_off330 (k0_t3 : Fin k0_t3_loop.trips) : Fin 3 → Nat :=
  let c1_i32_1129 : BitVec 32 := 1#32
  let v1444 : Index := Scalar.indexCast c1_i32_1129
  let c0_i32_492 : BitVec 32 := 0#32
  let c1_i32_494 : BitVec 32 := 1#32
  let arg13 : BitVec 32 := Scf.iv c0_i32_492 c1_i32_494 k0_t3
  let c16_i32_1127 : BitVec 32 := 16#32
  let v1442 : BitVec 32 := Scalar.muli arg13 c16_i32_1127
  let c10_i32_1128 : BitVec 32 := 10#32
  let v1443 : BitVec 32 := Scalar.addi v1442 c10_i32_1128
  let v1445 : Index := Scalar.indexCast v1443
  let c80_1130 : Index := 80#32
  ![1, v1445.toNat, 80]
def k0_off331 (v1450 : BitVec 32) : Fin 4 → Nat :=
  let c0_i32_1134 : BitVec 32 := 0#32
  let v1454 : Index := Scalar.indexCast c0_i32_1134
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1455 : Index := Scalar.indexCast v1452
  let c15_i32_1133 : BitVec 32 := 15#32
  let v1453 : BitVec 32 := Scalar.andi v1450 c15_i32_1133
  let v1456 : Index := Scalar.indexCast v1453
  let c0_1135 : Index := 0#32
  ![0, v1455.toNat, v1456.toNat, 0]

def k0_off332 (k0_t3 : Fin k0_t3_loop.trips) : Fin 3 → Nat :=
  let c1_i32_1138 : BitVec 32 := 1#32
  let v1461 : Index := Scalar.indexCast c1_i32_1138
  let c0_i32_492 : BitVec 32 := 0#32
  let c1_i32_494 : BitVec 32 := 1#32
  let arg13 : BitVec 32 := Scf.iv c0_i32_492 c1_i32_494 k0_t3
  let c16_i32_1136 : BitVec 32 := 16#32
  let v1459 : BitVec 32 := Scalar.muli arg13 c16_i32_1136
  let c11_i32_1137 : BitVec 32 := 11#32
  let v1460 : BitVec 32 := Scalar.addi v1459 c11_i32_1137
  let v1462 : Index := Scalar.indexCast v1460
  let c0_1139 : Index := 0#32
  ![1, v1462.toNat, 0]
def k0_off333 (v1450 : BitVec 32) : Fin 4 → Nat :=
  let c0_i32_1140 : BitVec 32 := 0#32
  let v1466 : Index := Scalar.indexCast c0_i32_1140
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1467 : Index := Scalar.indexCast v1452
  let c15_i32_1133 : BitVec 32 := 15#32
  let v1453 : BitVec 32 := Scalar.andi v1450 c15_i32_1133
  let v1468 : Index := Scalar.indexCast v1453
  let c16_1141 : Index := 16#32
  ![0, v1467.toNat, v1468.toNat, 16]
def k0_off334 (k0_t3 : Fin k0_t3_loop.trips) : Fin 3 → Nat :=
  let c1_i32_1144 : BitVec 32 := 1#32
  let v1473 : Index := Scalar.indexCast c1_i32_1144
  let c0_i32_492 : BitVec 32 := 0#32
  let c1_i32_494 : BitVec 32 := 1#32
  let arg13 : BitVec 32 := Scf.iv c0_i32_492 c1_i32_494 k0_t3
  let c16_i32_1142 : BitVec 32 := 16#32
  let v1471 : BitVec 32 := Scalar.muli arg13 c16_i32_1142
  let c11_i32_1143 : BitVec 32 := 11#32
  let v1472 : BitVec 32 := Scalar.addi v1471 c11_i32_1143
  let v1474 : Index := Scalar.indexCast v1472
  let c16_1145 : Index := 16#32
  ![1, v1474.toNat, 16]
def k0_off335 (v1450 : BitVec 32) : Fin 4 → Nat :=
  let c0_i32_1146 : BitVec 32 := 0#32
  let v1478 : Index := Scalar.indexCast c0_i32_1146
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1479 : Index := Scalar.indexCast v1452
  let c15_i32_1133 : BitVec 32 := 15#32
  let v1453 : BitVec 32 := Scalar.andi v1450 c15_i32_1133
  let v1480 : Index := Scalar.indexCast v1453
  let c32_1147 : Index := 32#32
  ![0, v1479.toNat, v1480.toNat, 32]
def k0_off336 (k0_t3 : Fin k0_t3_loop.trips) : Fin 3 → Nat :=
  let c1_i32_1150 : BitVec 32 := 1#32
  let v1485 : Index := Scalar.indexCast c1_i32_1150
  let c0_i32_492 : BitVec 32 := 0#32
  let c1_i32_494 : BitVec 32 := 1#32
  let arg13 : BitVec 32 := Scf.iv c0_i32_492 c1_i32_494 k0_t3
  let c16_i32_1148 : BitVec 32 := 16#32
  let v1483 : BitVec 32 := Scalar.muli arg13 c16_i32_1148
  let c11_i32_1149 : BitVec 32 := 11#32
  let v1484 : BitVec 32 := Scalar.addi v1483 c11_i32_1149
  let v1486 : Index := Scalar.indexCast v1484
  let c32_1151 : Index := 32#32
  ![1, v1486.toNat, 32]
def k0_off337 (v1450 : BitVec 32) : Fin 4 → Nat :=
  let c0_i32_1152 : BitVec 32 := 0#32
  let v1490 : Index := Scalar.indexCast c0_i32_1152
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1491 : Index := Scalar.indexCast v1452
  let c15_i32_1133 : BitVec 32 := 15#32
  let v1453 : BitVec 32 := Scalar.andi v1450 c15_i32_1133
  let v1492 : Index := Scalar.indexCast v1453
  let c48_1153 : Index := 48#32
  ![0, v1491.toNat, v1492.toNat, 48]
def k0_off338 (k0_t3 : Fin k0_t3_loop.trips) : Fin 3 → Nat :=
  let c1_i32_1156 : BitVec 32 := 1#32
  let v1497 : Index := Scalar.indexCast c1_i32_1156
  let c0_i32_492 : BitVec 32 := 0#32
  let c1_i32_494 : BitVec 32 := 1#32
  let arg13 : BitVec 32 := Scf.iv c0_i32_492 c1_i32_494 k0_t3
  let c16_i32_1154 : BitVec 32 := 16#32
  let v1495 : BitVec 32 := Scalar.muli arg13 c16_i32_1154
  let c11_i32_1155 : BitVec 32 := 11#32
  let v1496 : BitVec 32 := Scalar.addi v1495 c11_i32_1155
  let v1498 : Index := Scalar.indexCast v1496
  let c48_1157 : Index := 48#32
  ![1, v1498.toNat, 48]
def k0_off339 (v1450 : BitVec 32) : Fin 4 → Nat :=
  let c0_i32_1158 : BitVec 32 := 0#32
  let v1502 : Index := Scalar.indexCast c0_i32_1158
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1503 : Index := Scalar.indexCast v1452
  let c15_i32_1133 : BitVec 32 := 15#32
  let v1453 : BitVec 32 := Scalar.andi v1450 c15_i32_1133
  let v1504 : Index := Scalar.indexCast v1453
  let c64_1159 : Index := 64#32
  ![0, v1503.toNat, v1504.toNat, 64]
def k0_off340 (k0_t3 : Fin k0_t3_loop.trips) : Fin 3 → Nat :=
  let c1_i32_1162 : BitVec 32 := 1#32
  let v1509 : Index := Scalar.indexCast c1_i32_1162
  let c0_i32_492 : BitVec 32 := 0#32
  let c1_i32_494 : BitVec 32 := 1#32
  let arg13 : BitVec 32 := Scf.iv c0_i32_492 c1_i32_494 k0_t3
  let c16_i32_1160 : BitVec 32 := 16#32
  let v1507 : BitVec 32 := Scalar.muli arg13 c16_i32_1160
  let c11_i32_1161 : BitVec 32 := 11#32
  let v1508 : BitVec 32 := Scalar.addi v1507 c11_i32_1161
  let v1510 : Index := Scalar.indexCast v1508
  let c64_1163 : Index := 64#32
  ![1, v1510.toNat, 64]
def k0_off341 (v1450 : BitVec 32) : Fin 4 → Nat :=
  let c0_i32_1164 : BitVec 32 := 0#32
  let v1514 : Index := Scalar.indexCast c0_i32_1164
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1515 : Index := Scalar.indexCast v1452
  let c15_i32_1133 : BitVec 32 := 15#32
  let v1453 : BitVec 32 := Scalar.andi v1450 c15_i32_1133
  let v1516 : Index := Scalar.indexCast v1453
  let c80_1165 : Index := 80#32
  ![0, v1515.toNat, v1516.toNat, 80]

def k0_chk30 (v1450 : BitVec 32) : Prop :=
  (∀ a, (k0_off331 v1450) a + S1x1x1x16.size a ≤ S2x16x16x96.size a) ∧
  (∀ a, (k0_off333 v1450) a + S1x1x1x16.size a ≤ S2x16x16x96.size a) ∧
  (∀ a, (k0_off335 v1450) a + S1x1x1x16.size a ≤ S2x16x16x96.size a) ∧
  (∀ a, (k0_off337 v1450) a + S1x1x1x16.size a ≤ S2x16x16x96.size a) ∧
  (∀ a, (k0_off339 v1450) a + S1x1x1x16.size a ≤ S2x16x16x96.size a) ∧
  (∀ a, (k0_off341 v1450) a + S1x1x1x16.size a ≤ S2x16x16x96.size a)
theorem k0_off331_inb : ∀ (v1450 : BitVec 32) (k0_hw30 : k0_chk30 v1450), ∀ a, (k0_off331 v1450) a + S1x1x1x16.size a ≤ S2x16x16x96.size a := fun v1450 k0_hw30 => k0_hw30.1
theorem k0_off333_inb : ∀ (v1450 : BitVec 32) (k0_hw30 : k0_chk30 v1450), ∀ a, (k0_off333 v1450) a + S1x1x1x16.size a ≤ S2x16x16x96.size a := fun v1450 k0_hw30 => k0_hw30.2.1
theorem k0_off335_inb : ∀ (v1450 : BitVec 32) (k0_hw30 : k0_chk30 v1450), ∀ a, (k0_off335 v1450) a + S1x1x1x16.size a ≤ S2x16x16x96.size a := fun v1450 k0_hw30 => k0_hw30.2.2.1
theorem k0_off337_inb : ∀ (v1450 : BitVec 32) (k0_hw30 : k0_chk30 v1450), ∀ a, (k0_off337 v1450) a + S1x1x1x16.size a ≤ S2x16x16x96.size a := fun v1450 k0_hw30 => k0_hw30.2.2.2.1
theorem k0_off339_inb : ∀ (v1450 : BitVec 32) (k0_hw30 : k0_chk30 v1450), ∀ a, (k0_off339 v1450) a + S1x1x1x16.size a ≤ S2x16x16x96.size a := fun v1450 k0_hw30 => k0_hw30.2.2.2.2.1
theorem k0_off341_inb : ∀ (v1450 : BitVec 32) (k0_hw30 : k0_chk30 v1450), ∀ a, (k0_off341 v1450) a + S1x1x1x16.size a ≤ S2x16x16x96.size a := fun v1450 k0_hw30 => k0_hw30.2.2.2.2.2

def k0_off342 (k0_t3 : Fin k0_t3_loop.trips) : Fin 3 → Nat :=
  let c1_i32_1168 : BitVec 32 := 1#32
  let v1521 : Index := Scalar.indexCast c1_i32_1168
  let c0_i32_492 : BitVec 32 := 0#32
  let c1_i32_494 : BitVec 32 := 1#32
  let arg13 : BitVec 32 := Scf.iv c0_i32_492 c1_i32_494 k0_t3
  let c16_i32_1166 : BitVec 32 := 16#32
  let v1519 : BitVec 32 := Scalar.muli arg13 c16_i32_1166
  let c11_i32_1167 : BitVec 32 := 11#32
  let v1520 : BitVec 32 := Scalar.addi v1519 c11_i32_1167
  let v1522 : Index := Scalar.indexCast v1520
  let c80_1169 : Index := 80#32
  ![1, v1522.toNat, 80]
def k0_off343 (v1527 : BitVec 32) : Fin 4 → Nat :=
  let c0_i32_1173 : BitVec 32 := 0#32
  let v1531 : Index := Scalar.indexCast c0_i32_1173
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1532 : Index := Scalar.indexCast v1529
  let c15_i32_1172 : BitVec 32 := 15#32
  let v1530 : BitVec 32 := Scalar.andi v1527 c15_i32_1172
  let v1533 : Index := Scalar.indexCast v1530
  let c0_1174 : Index := 0#32
  ![0, v1532.toNat, v1533.toNat, 0]

def k0_off344 (k0_t3 : Fin k0_t3_loop.trips) : Fin 3 → Nat :=
  let c1_i32_1177 : BitVec 32 := 1#32
  let v1538 : Index := Scalar.indexCast c1_i32_1177
  let c0_i32_492 : BitVec 32 := 0#32
  let c1_i32_494 : BitVec 32 := 1#32
  let arg13 : BitVec 32 := Scf.iv c0_i32_492 c1_i32_494 k0_t3
  let c16_i32_1175 : BitVec 32 := 16#32
  let v1536 : BitVec 32 := Scalar.muli arg13 c16_i32_1175
  let c12_i32_1176 : BitVec 32 := 12#32
  let v1537 : BitVec 32 := Scalar.addi v1536 c12_i32_1176
  let v1539 : Index := Scalar.indexCast v1537
  let c0_1178 : Index := 0#32
  ![1, v1539.toNat, 0]
def k0_off345 (v1527 : BitVec 32) : Fin 4 → Nat :=
  let c0_i32_1179 : BitVec 32 := 0#32
  let v1543 : Index := Scalar.indexCast c0_i32_1179
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1544 : Index := Scalar.indexCast v1529
  let c15_i32_1172 : BitVec 32 := 15#32
  let v1530 : BitVec 32 := Scalar.andi v1527 c15_i32_1172
  let v1545 : Index := Scalar.indexCast v1530
  let c16_1180 : Index := 16#32
  ![0, v1544.toNat, v1545.toNat, 16]
def k0_off346 (k0_t3 : Fin k0_t3_loop.trips) : Fin 3 → Nat :=
  let c1_i32_1183 : BitVec 32 := 1#32
  let v1550 : Index := Scalar.indexCast c1_i32_1183
  let c0_i32_492 : BitVec 32 := 0#32
  let c1_i32_494 : BitVec 32 := 1#32
  let arg13 : BitVec 32 := Scf.iv c0_i32_492 c1_i32_494 k0_t3
  let c16_i32_1181 : BitVec 32 := 16#32
  let v1548 : BitVec 32 := Scalar.muli arg13 c16_i32_1181
  let c12_i32_1182 : BitVec 32 := 12#32
  let v1549 : BitVec 32 := Scalar.addi v1548 c12_i32_1182
  let v1551 : Index := Scalar.indexCast v1549
  let c16_1184 : Index := 16#32
  ![1, v1551.toNat, 16]
def k0_off347 (v1527 : BitVec 32) : Fin 4 → Nat :=
  let c0_i32_1185 : BitVec 32 := 0#32
  let v1555 : Index := Scalar.indexCast c0_i32_1185
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1556 : Index := Scalar.indexCast v1529
  let c15_i32_1172 : BitVec 32 := 15#32
  let v1530 : BitVec 32 := Scalar.andi v1527 c15_i32_1172
  let v1557 : Index := Scalar.indexCast v1530
  let c32_1186 : Index := 32#32
  ![0, v1556.toNat, v1557.toNat, 32]
def k0_off348 (k0_t3 : Fin k0_t3_loop.trips) : Fin 3 → Nat :=
  let c1_i32_1189 : BitVec 32 := 1#32
  let v1562 : Index := Scalar.indexCast c1_i32_1189
  let c0_i32_492 : BitVec 32 := 0#32
  let c1_i32_494 : BitVec 32 := 1#32
  let arg13 : BitVec 32 := Scf.iv c0_i32_492 c1_i32_494 k0_t3
  let c16_i32_1187 : BitVec 32 := 16#32
  let v1560 : BitVec 32 := Scalar.muli arg13 c16_i32_1187
  let c12_i32_1188 : BitVec 32 := 12#32
  let v1561 : BitVec 32 := Scalar.addi v1560 c12_i32_1188
  let v1563 : Index := Scalar.indexCast v1561
  let c32_1190 : Index := 32#32
  ![1, v1563.toNat, 32]
def k0_off349 (v1527 : BitVec 32) : Fin 4 → Nat :=
  let c0_i32_1191 : BitVec 32 := 0#32
  let v1567 : Index := Scalar.indexCast c0_i32_1191
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1568 : Index := Scalar.indexCast v1529
  let c15_i32_1172 : BitVec 32 := 15#32
  let v1530 : BitVec 32 := Scalar.andi v1527 c15_i32_1172
  let v1569 : Index := Scalar.indexCast v1530
  let c48_1192 : Index := 48#32
  ![0, v1568.toNat, v1569.toNat, 48]
def k0_off350 (k0_t3 : Fin k0_t3_loop.trips) : Fin 3 → Nat :=
  let c1_i32_1195 : BitVec 32 := 1#32
  let v1574 : Index := Scalar.indexCast c1_i32_1195
  let c0_i32_492 : BitVec 32 := 0#32
  let c1_i32_494 : BitVec 32 := 1#32
  let arg13 : BitVec 32 := Scf.iv c0_i32_492 c1_i32_494 k0_t3
  let c16_i32_1193 : BitVec 32 := 16#32
  let v1572 : BitVec 32 := Scalar.muli arg13 c16_i32_1193
  let c12_i32_1194 : BitVec 32 := 12#32
  let v1573 : BitVec 32 := Scalar.addi v1572 c12_i32_1194
  let v1575 : Index := Scalar.indexCast v1573
  let c48_1196 : Index := 48#32
  ![1, v1575.toNat, 48]
def k0_off351 (v1527 : BitVec 32) : Fin 4 → Nat :=
  let c0_i32_1197 : BitVec 32 := 0#32
  let v1579 : Index := Scalar.indexCast c0_i32_1197
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1580 : Index := Scalar.indexCast v1529
  let c15_i32_1172 : BitVec 32 := 15#32
  let v1530 : BitVec 32 := Scalar.andi v1527 c15_i32_1172
  let v1581 : Index := Scalar.indexCast v1530
  let c64_1198 : Index := 64#32
  ![0, v1580.toNat, v1581.toNat, 64]
def k0_off352 (k0_t3 : Fin k0_t3_loop.trips) : Fin 3 → Nat :=
  let c1_i32_1201 : BitVec 32 := 1#32
  let v1586 : Index := Scalar.indexCast c1_i32_1201
  let c0_i32_492 : BitVec 32 := 0#32
  let c1_i32_494 : BitVec 32 := 1#32
  let arg13 : BitVec 32 := Scf.iv c0_i32_492 c1_i32_494 k0_t3
  let c16_i32_1199 : BitVec 32 := 16#32
  let v1584 : BitVec 32 := Scalar.muli arg13 c16_i32_1199
  let c12_i32_1200 : BitVec 32 := 12#32
  let v1585 : BitVec 32 := Scalar.addi v1584 c12_i32_1200
  let v1587 : Index := Scalar.indexCast v1585
  let c64_1202 : Index := 64#32
  ![1, v1587.toNat, 64]
def k0_off353 (v1527 : BitVec 32) : Fin 4 → Nat :=
  let c0_i32_1203 : BitVec 32 := 0#32
  let v1591 : Index := Scalar.indexCast c0_i32_1203
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1592 : Index := Scalar.indexCast v1529
  let c15_i32_1172 : BitVec 32 := 15#32
  let v1530 : BitVec 32 := Scalar.andi v1527 c15_i32_1172
  let v1593 : Index := Scalar.indexCast v1530
  let c80_1204 : Index := 80#32
  ![0, v1592.toNat, v1593.toNat, 80]

def k0_chk31 (v1527 : BitVec 32) : Prop :=
  (∀ a, (k0_off343 v1527) a + S1x1x1x16.size a ≤ S2x16x16x96.size a) ∧
  (∀ a, (k0_off345 v1527) a + S1x1x1x16.size a ≤ S2x16x16x96.size a) ∧
  (∀ a, (k0_off347 v1527) a + S1x1x1x16.size a ≤ S2x16x16x96.size a) ∧
  (∀ a, (k0_off349 v1527) a + S1x1x1x16.size a ≤ S2x16x16x96.size a) ∧
  (∀ a, (k0_off351 v1527) a + S1x1x1x16.size a ≤ S2x16x16x96.size a) ∧
  (∀ a, (k0_off353 v1527) a + S1x1x1x16.size a ≤ S2x16x16x96.size a)
theorem k0_off343_inb : ∀ (v1527 : BitVec 32) (k0_hw31 : k0_chk31 v1527), ∀ a, (k0_off343 v1527) a + S1x1x1x16.size a ≤ S2x16x16x96.size a := fun v1527 k0_hw31 => k0_hw31.1
theorem k0_off345_inb : ∀ (v1527 : BitVec 32) (k0_hw31 : k0_chk31 v1527), ∀ a, (k0_off345 v1527) a + S1x1x1x16.size a ≤ S2x16x16x96.size a := fun v1527 k0_hw31 => k0_hw31.2.1
theorem k0_off347_inb : ∀ (v1527 : BitVec 32) (k0_hw31 : k0_chk31 v1527), ∀ a, (k0_off347 v1527) a + S1x1x1x16.size a ≤ S2x16x16x96.size a := fun v1527 k0_hw31 => k0_hw31.2.2.1
theorem k0_off349_inb : ∀ (v1527 : BitVec 32) (k0_hw31 : k0_chk31 v1527), ∀ a, (k0_off349 v1527) a + S1x1x1x16.size a ≤ S2x16x16x96.size a := fun v1527 k0_hw31 => k0_hw31.2.2.2.1
theorem k0_off351_inb : ∀ (v1527 : BitVec 32) (k0_hw31 : k0_chk31 v1527), ∀ a, (k0_off351 v1527) a + S1x1x1x16.size a ≤ S2x16x16x96.size a := fun v1527 k0_hw31 => k0_hw31.2.2.2.2.1
theorem k0_off353_inb : ∀ (v1527 : BitVec 32) (k0_hw31 : k0_chk31 v1527), ∀ a, (k0_off353 v1527) a + S1x1x1x16.size a ≤ S2x16x16x96.size a := fun v1527 k0_hw31 => k0_hw31.2.2.2.2.2

def k0_off354 (k0_t3 : Fin k0_t3_loop.trips) : Fin 3 → Nat :=
  let c1_i32_1207 : BitVec 32 := 1#32
  let v1598 : Index := Scalar.indexCast c1_i32_1207
  let c0_i32_492 : BitVec 32 := 0#32
  let c1_i32_494 : BitVec 32 := 1#32
  let arg13 : BitVec 32 := Scf.iv c0_i32_492 c1_i32_494 k0_t3
  let c16_i32_1205 : BitVec 32 := 16#32
  let v1596 : BitVec 32 := Scalar.muli arg13 c16_i32_1205
  let c12_i32_1206 : BitVec 32 := 12#32
  let v1597 : BitVec 32 := Scalar.addi v1596 c12_i32_1206
  let v1599 : Index := Scalar.indexCast v1597
  let c80_1208 : Index := 80#32
  ![1, v1599.toNat, 80]
def k0_off355 (v1604 : BitVec 32) : Fin 4 → Nat :=
  let c0_i32_1212 : BitVec 32 := 0#32
  let v1608 : Index := Scalar.indexCast c0_i32_1212
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1609 : Index := Scalar.indexCast v1606
  let c15_i32_1211 : BitVec 32 := 15#32
  let v1607 : BitVec 32 := Scalar.andi v1604 c15_i32_1211
  let v1610 : Index := Scalar.indexCast v1607
  let c0_1213 : Index := 0#32
  ![0, v1609.toNat, v1610.toNat, 0]

def k0_off356 (k0_t3 : Fin k0_t3_loop.trips) : Fin 3 → Nat :=
  let c1_i32_1216 : BitVec 32 := 1#32
  let v1615 : Index := Scalar.indexCast c1_i32_1216
  let c0_i32_492 : BitVec 32 := 0#32
  let c1_i32_494 : BitVec 32 := 1#32
  let arg13 : BitVec 32 := Scf.iv c0_i32_492 c1_i32_494 k0_t3
  let c16_i32_1214 : BitVec 32 := 16#32
  let v1613 : BitVec 32 := Scalar.muli arg13 c16_i32_1214
  let c13_i32_1215 : BitVec 32 := 13#32
  let v1614 : BitVec 32 := Scalar.addi v1613 c13_i32_1215
  let v1616 : Index := Scalar.indexCast v1614
  let c0_1217 : Index := 0#32
  ![1, v1616.toNat, 0]
def k0_off357 (v1604 : BitVec 32) : Fin 4 → Nat :=
  let c0_i32_1218 : BitVec 32 := 0#32
  let v1620 : Index := Scalar.indexCast c0_i32_1218
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1621 : Index := Scalar.indexCast v1606
  let c15_i32_1211 : BitVec 32 := 15#32
  let v1607 : BitVec 32 := Scalar.andi v1604 c15_i32_1211
  let v1622 : Index := Scalar.indexCast v1607
  let c16_1219 : Index := 16#32
  ![0, v1621.toNat, v1622.toNat, 16]
def k0_off358 (k0_t3 : Fin k0_t3_loop.trips) : Fin 3 → Nat :=
  let c1_i32_1222 : BitVec 32 := 1#32
  let v1627 : Index := Scalar.indexCast c1_i32_1222
  let c0_i32_492 : BitVec 32 := 0#32
  let c1_i32_494 : BitVec 32 := 1#32
  let arg13 : BitVec 32 := Scf.iv c0_i32_492 c1_i32_494 k0_t3
  let c16_i32_1220 : BitVec 32 := 16#32
  let v1625 : BitVec 32 := Scalar.muli arg13 c16_i32_1220
  let c13_i32_1221 : BitVec 32 := 13#32
  let v1626 : BitVec 32 := Scalar.addi v1625 c13_i32_1221
  let v1628 : Index := Scalar.indexCast v1626
  let c16_1223 : Index := 16#32
  ![1, v1628.toNat, 16]
def k0_off359 (v1604 : BitVec 32) : Fin 4 → Nat :=
  let c0_i32_1224 : BitVec 32 := 0#32
  let v1632 : Index := Scalar.indexCast c0_i32_1224
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1633 : Index := Scalar.indexCast v1606
  let c15_i32_1211 : BitVec 32 := 15#32
  let v1607 : BitVec 32 := Scalar.andi v1604 c15_i32_1211
  let v1634 : Index := Scalar.indexCast v1607
  let c32_1225 : Index := 32#32
  ![0, v1633.toNat, v1634.toNat, 32]
def k0_off360 (k0_t3 : Fin k0_t3_loop.trips) : Fin 3 → Nat :=
  let c1_i32_1228 : BitVec 32 := 1#32
  let v1639 : Index := Scalar.indexCast c1_i32_1228
  let c0_i32_492 : BitVec 32 := 0#32
  let c1_i32_494 : BitVec 32 := 1#32
  let arg13 : BitVec 32 := Scf.iv c0_i32_492 c1_i32_494 k0_t3
  let c16_i32_1226 : BitVec 32 := 16#32
  let v1637 : BitVec 32 := Scalar.muli arg13 c16_i32_1226
  let c13_i32_1227 : BitVec 32 := 13#32
  let v1638 : BitVec 32 := Scalar.addi v1637 c13_i32_1227
  let v1640 : Index := Scalar.indexCast v1638
  let c32_1229 : Index := 32#32
  ![1, v1640.toNat, 32]
def k0_off361 (v1604 : BitVec 32) : Fin 4 → Nat :=
  let c0_i32_1230 : BitVec 32 := 0#32
  let v1644 : Index := Scalar.indexCast c0_i32_1230
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1645 : Index := Scalar.indexCast v1606
  let c15_i32_1211 : BitVec 32 := 15#32
  let v1607 : BitVec 32 := Scalar.andi v1604 c15_i32_1211
  let v1646 : Index := Scalar.indexCast v1607
  let c48_1231 : Index := 48#32
  ![0, v1645.toNat, v1646.toNat, 48]
def k0_off362 (k0_t3 : Fin k0_t3_loop.trips) : Fin 3 → Nat :=
  let c1_i32_1234 : BitVec 32 := 1#32
  let v1651 : Index := Scalar.indexCast c1_i32_1234
  let c0_i32_492 : BitVec 32 := 0#32
  let c1_i32_494 : BitVec 32 := 1#32
  let arg13 : BitVec 32 := Scf.iv c0_i32_492 c1_i32_494 k0_t3
  let c16_i32_1232 : BitVec 32 := 16#32
  let v1649 : BitVec 32 := Scalar.muli arg13 c16_i32_1232
  let c13_i32_1233 : BitVec 32 := 13#32
  let v1650 : BitVec 32 := Scalar.addi v1649 c13_i32_1233
  let v1652 : Index := Scalar.indexCast v1650
  let c48_1235 : Index := 48#32
  ![1, v1652.toNat, 48]
def k0_off363 (v1604 : BitVec 32) : Fin 4 → Nat :=
  let c0_i32_1236 : BitVec 32 := 0#32
  let v1656 : Index := Scalar.indexCast c0_i32_1236
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1657 : Index := Scalar.indexCast v1606
  let c15_i32_1211 : BitVec 32 := 15#32
  let v1607 : BitVec 32 := Scalar.andi v1604 c15_i32_1211
  let v1658 : Index := Scalar.indexCast v1607
  let c64_1237 : Index := 64#32
  ![0, v1657.toNat, v1658.toNat, 64]
def k0_off364 (k0_t3 : Fin k0_t3_loop.trips) : Fin 3 → Nat :=
  let c1_i32_1240 : BitVec 32 := 1#32
  let v1663 : Index := Scalar.indexCast c1_i32_1240
  let c0_i32_492 : BitVec 32 := 0#32
  let c1_i32_494 : BitVec 32 := 1#32
  let arg13 : BitVec 32 := Scf.iv c0_i32_492 c1_i32_494 k0_t3
  let c16_i32_1238 : BitVec 32 := 16#32
  let v1661 : BitVec 32 := Scalar.muli arg13 c16_i32_1238
  let c13_i32_1239 : BitVec 32 := 13#32
  let v1662 : BitVec 32 := Scalar.addi v1661 c13_i32_1239
  let v1664 : Index := Scalar.indexCast v1662
  let c64_1241 : Index := 64#32
  ![1, v1664.toNat, 64]
def k0_off365 (v1604 : BitVec 32) : Fin 4 → Nat :=
  let c0_i32_1242 : BitVec 32 := 0#32
  let v1668 : Index := Scalar.indexCast c0_i32_1242
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1669 : Index := Scalar.indexCast v1606
  let c15_i32_1211 : BitVec 32 := 15#32
  let v1607 : BitVec 32 := Scalar.andi v1604 c15_i32_1211
  let v1670 : Index := Scalar.indexCast v1607
  let c80_1243 : Index := 80#32
  ![0, v1669.toNat, v1670.toNat, 80]

def k0_chk32 (v1604 : BitVec 32) : Prop :=
  (∀ a, (k0_off355 v1604) a + S1x1x1x16.size a ≤ S2x16x16x96.size a) ∧
  (∀ a, (k0_off357 v1604) a + S1x1x1x16.size a ≤ S2x16x16x96.size a) ∧
  (∀ a, (k0_off359 v1604) a + S1x1x1x16.size a ≤ S2x16x16x96.size a) ∧
  (∀ a, (k0_off361 v1604) a + S1x1x1x16.size a ≤ S2x16x16x96.size a) ∧
  (∀ a, (k0_off363 v1604) a + S1x1x1x16.size a ≤ S2x16x16x96.size a) ∧
  (∀ a, (k0_off365 v1604) a + S1x1x1x16.size a ≤ S2x16x16x96.size a)
theorem k0_off355_inb : ∀ (v1604 : BitVec 32) (k0_hw32 : k0_chk32 v1604), ∀ a, (k0_off355 v1604) a + S1x1x1x16.size a ≤ S2x16x16x96.size a := fun v1604 k0_hw32 => k0_hw32.1
theorem k0_off357_inb : ∀ (v1604 : BitVec 32) (k0_hw32 : k0_chk32 v1604), ∀ a, (k0_off357 v1604) a + S1x1x1x16.size a ≤ S2x16x16x96.size a := fun v1604 k0_hw32 => k0_hw32.2.1
theorem k0_off359_inb : ∀ (v1604 : BitVec 32) (k0_hw32 : k0_chk32 v1604), ∀ a, (k0_off359 v1604) a + S1x1x1x16.size a ≤ S2x16x16x96.size a := fun v1604 k0_hw32 => k0_hw32.2.2.1
theorem k0_off361_inb : ∀ (v1604 : BitVec 32) (k0_hw32 : k0_chk32 v1604), ∀ a, (k0_off361 v1604) a + S1x1x1x16.size a ≤ S2x16x16x96.size a := fun v1604 k0_hw32 => k0_hw32.2.2.2.1
theorem k0_off363_inb : ∀ (v1604 : BitVec 32) (k0_hw32 : k0_chk32 v1604), ∀ a, (k0_off363 v1604) a + S1x1x1x16.size a ≤ S2x16x16x96.size a := fun v1604 k0_hw32 => k0_hw32.2.2.2.2.1
theorem k0_off365_inb : ∀ (v1604 : BitVec 32) (k0_hw32 : k0_chk32 v1604), ∀ a, (k0_off365 v1604) a + S1x1x1x16.size a ≤ S2x16x16x96.size a := fun v1604 k0_hw32 => k0_hw32.2.2.2.2.2

def k0_off366 (k0_t3 : Fin k0_t3_loop.trips) : Fin 3 → Nat :=
  let c1_i32_1246 : BitVec 32 := 1#32
  let v1675 : Index := Scalar.indexCast c1_i32_1246
  let c0_i32_492 : BitVec 32 := 0#32
  let c1_i32_494 : BitVec 32 := 1#32
  let arg13 : BitVec 32 := Scf.iv c0_i32_492 c1_i32_494 k0_t3
  let c16_i32_1244 : BitVec 32 := 16#32
  let v1673 : BitVec 32 := Scalar.muli arg13 c16_i32_1244
  let c13_i32_1245 : BitVec 32 := 13#32
  let v1674 : BitVec 32 := Scalar.addi v1673 c13_i32_1245
  let v1676 : Index := Scalar.indexCast v1674
  let c80_1247 : Index := 80#32
  ![1, v1676.toNat, 80]
def k0_off367 (v1681 : BitVec 32) : Fin 4 → Nat :=
  let c0_i32_1251 : BitVec 32 := 0#32
  let v1685 : Index := Scalar.indexCast c0_i32_1251
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1686 : Index := Scalar.indexCast v1683
  let c15_i32_1250 : BitVec 32 := 15#32
  let v1684 : BitVec 32 := Scalar.andi v1681 c15_i32_1250
  let v1687 : Index := Scalar.indexCast v1684
  let c0_1252 : Index := 0#32
  ![0, v1686.toNat, v1687.toNat, 0]

def k0_off368 (k0_t3 : Fin k0_t3_loop.trips) : Fin 3 → Nat :=
  let c1_i32_1255 : BitVec 32 := 1#32
  let v1692 : Index := Scalar.indexCast c1_i32_1255
  let c0_i32_492 : BitVec 32 := 0#32
  let c1_i32_494 : BitVec 32 := 1#32
  let arg13 : BitVec 32 := Scf.iv c0_i32_492 c1_i32_494 k0_t3
  let c16_i32_1253 : BitVec 32 := 16#32
  let v1690 : BitVec 32 := Scalar.muli arg13 c16_i32_1253
  let c14_i32_1254 : BitVec 32 := 14#32
  let v1691 : BitVec 32 := Scalar.addi v1690 c14_i32_1254
  let v1693 : Index := Scalar.indexCast v1691
  let c0_1256 : Index := 0#32
  ![1, v1693.toNat, 0]
def k0_off369 (v1681 : BitVec 32) : Fin 4 → Nat :=
  let c0_i32_1257 : BitVec 32 := 0#32
  let v1697 : Index := Scalar.indexCast c0_i32_1257
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1698 : Index := Scalar.indexCast v1683
  let c15_i32_1250 : BitVec 32 := 15#32
  let v1684 : BitVec 32 := Scalar.andi v1681 c15_i32_1250
  let v1699 : Index := Scalar.indexCast v1684
  let c16_1258 : Index := 16#32
  ![0, v1698.toNat, v1699.toNat, 16]
def k0_off370 (k0_t3 : Fin k0_t3_loop.trips) : Fin 3 → Nat :=
  let c1_i32_1261 : BitVec 32 := 1#32
  let v1704 : Index := Scalar.indexCast c1_i32_1261
  let c0_i32_492 : BitVec 32 := 0#32
  let c1_i32_494 : BitVec 32 := 1#32
  let arg13 : BitVec 32 := Scf.iv c0_i32_492 c1_i32_494 k0_t3
  let c16_i32_1259 : BitVec 32 := 16#32
  let v1702 : BitVec 32 := Scalar.muli arg13 c16_i32_1259
  let c14_i32_1260 : BitVec 32 := 14#32
  let v1703 : BitVec 32 := Scalar.addi v1702 c14_i32_1260
  let v1705 : Index := Scalar.indexCast v1703
  let c16_1262 : Index := 16#32
  ![1, v1705.toNat, 16]
def k0_off371 (v1681 : BitVec 32) : Fin 4 → Nat :=
  let c0_i32_1263 : BitVec 32 := 0#32
  let v1709 : Index := Scalar.indexCast c0_i32_1263
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1710 : Index := Scalar.indexCast v1683
  let c15_i32_1250 : BitVec 32 := 15#32
  let v1684 : BitVec 32 := Scalar.andi v1681 c15_i32_1250
  let v1711 : Index := Scalar.indexCast v1684
  let c32_1264 : Index := 32#32
  ![0, v1710.toNat, v1711.toNat, 32]
def k0_off372 (k0_t3 : Fin k0_t3_loop.trips) : Fin 3 → Nat :=
  let c1_i32_1267 : BitVec 32 := 1#32
  let v1716 : Index := Scalar.indexCast c1_i32_1267
  let c0_i32_492 : BitVec 32 := 0#32
  let c1_i32_494 : BitVec 32 := 1#32
  let arg13 : BitVec 32 := Scf.iv c0_i32_492 c1_i32_494 k0_t3
  let c16_i32_1265 : BitVec 32 := 16#32
  let v1714 : BitVec 32 := Scalar.muli arg13 c16_i32_1265
  let c14_i32_1266 : BitVec 32 := 14#32
  let v1715 : BitVec 32 := Scalar.addi v1714 c14_i32_1266
  let v1717 : Index := Scalar.indexCast v1715
  let c32_1268 : Index := 32#32
  ![1, v1717.toNat, 32]
def k0_off373 (v1681 : BitVec 32) : Fin 4 → Nat :=
  let c0_i32_1269 : BitVec 32 := 0#32
  let v1721 : Index := Scalar.indexCast c0_i32_1269
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1722 : Index := Scalar.indexCast v1683
  let c15_i32_1250 : BitVec 32 := 15#32
  let v1684 : BitVec 32 := Scalar.andi v1681 c15_i32_1250
  let v1723 : Index := Scalar.indexCast v1684
  let c48_1270 : Index := 48#32
  ![0, v1722.toNat, v1723.toNat, 48]
def k0_off374 (k0_t3 : Fin k0_t3_loop.trips) : Fin 3 → Nat :=
  let c1_i32_1273 : BitVec 32 := 1#32
  let v1728 : Index := Scalar.indexCast c1_i32_1273
  let c0_i32_492 : BitVec 32 := 0#32
  let c1_i32_494 : BitVec 32 := 1#32
  let arg13 : BitVec 32 := Scf.iv c0_i32_492 c1_i32_494 k0_t3
  let c16_i32_1271 : BitVec 32 := 16#32
  let v1726 : BitVec 32 := Scalar.muli arg13 c16_i32_1271
  let c14_i32_1272 : BitVec 32 := 14#32
  let v1727 : BitVec 32 := Scalar.addi v1726 c14_i32_1272
  let v1729 : Index := Scalar.indexCast v1727
  let c48_1274 : Index := 48#32
  ![1, v1729.toNat, 48]
def k0_off375 (v1681 : BitVec 32) : Fin 4 → Nat :=
  let c0_i32_1275 : BitVec 32 := 0#32
  let v1733 : Index := Scalar.indexCast c0_i32_1275
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1734 : Index := Scalar.indexCast v1683
  let c15_i32_1250 : BitVec 32 := 15#32
  let v1684 : BitVec 32 := Scalar.andi v1681 c15_i32_1250
  let v1735 : Index := Scalar.indexCast v1684
  let c64_1276 : Index := 64#32
  ![0, v1734.toNat, v1735.toNat, 64]
def k0_off376 (k0_t3 : Fin k0_t3_loop.trips) : Fin 3 → Nat :=
  let c1_i32_1279 : BitVec 32 := 1#32
  let v1740 : Index := Scalar.indexCast c1_i32_1279
  let c0_i32_492 : BitVec 32 := 0#32
  let c1_i32_494 : BitVec 32 := 1#32
  let arg13 : BitVec 32 := Scf.iv c0_i32_492 c1_i32_494 k0_t3
  let c16_i32_1277 : BitVec 32 := 16#32
  let v1738 : BitVec 32 := Scalar.muli arg13 c16_i32_1277
  let c14_i32_1278 : BitVec 32 := 14#32
  let v1739 : BitVec 32 := Scalar.addi v1738 c14_i32_1278
  let v1741 : Index := Scalar.indexCast v1739
  let c64_1280 : Index := 64#32
  ![1, v1741.toNat, 64]
def k0_off377 (v1681 : BitVec 32) : Fin 4 → Nat :=
  let c0_i32_1281 : BitVec 32 := 0#32
  let v1745 : Index := Scalar.indexCast c0_i32_1281
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1746 : Index := Scalar.indexCast v1683
  let c15_i32_1250 : BitVec 32 := 15#32
  let v1684 : BitVec 32 := Scalar.andi v1681 c15_i32_1250
  let v1747 : Index := Scalar.indexCast v1684
  let c80_1282 : Index := 80#32
  ![0, v1746.toNat, v1747.toNat, 80]

def k0_chk33 (v1681 : BitVec 32) : Prop :=
  (∀ a, (k0_off367 v1681) a + S1x1x1x16.size a ≤ S2x16x16x96.size a) ∧
  (∀ a, (k0_off369 v1681) a + S1x1x1x16.size a ≤ S2x16x16x96.size a) ∧
  (∀ a, (k0_off371 v1681) a + S1x1x1x16.size a ≤ S2x16x16x96.size a) ∧
  (∀ a, (k0_off373 v1681) a + S1x1x1x16.size a ≤ S2x16x16x96.size a) ∧
  (∀ a, (k0_off375 v1681) a + S1x1x1x16.size a ≤ S2x16x16x96.size a) ∧
  (∀ a, (k0_off377 v1681) a + S1x1x1x16.size a ≤ S2x16x16x96.size a)
theorem k0_off367_inb : ∀ (v1681 : BitVec 32) (k0_hw33 : k0_chk33 v1681), ∀ a, (k0_off367 v1681) a + S1x1x1x16.size a ≤ S2x16x16x96.size a := fun v1681 k0_hw33 => k0_hw33.1
theorem k0_off369_inb : ∀ (v1681 : BitVec 32) (k0_hw33 : k0_chk33 v1681), ∀ a, (k0_off369 v1681) a + S1x1x1x16.size a ≤ S2x16x16x96.size a := fun v1681 k0_hw33 => k0_hw33.2.1
theorem k0_off371_inb : ∀ (v1681 : BitVec 32) (k0_hw33 : k0_chk33 v1681), ∀ a, (k0_off371 v1681) a + S1x1x1x16.size a ≤ S2x16x16x96.size a := fun v1681 k0_hw33 => k0_hw33.2.2.1
theorem k0_off373_inb : ∀ (v1681 : BitVec 32) (k0_hw33 : k0_chk33 v1681), ∀ a, (k0_off373 v1681) a + S1x1x1x16.size a ≤ S2x16x16x96.size a := fun v1681 k0_hw33 => k0_hw33.2.2.2.1
theorem k0_off375_inb : ∀ (v1681 : BitVec 32) (k0_hw33 : k0_chk33 v1681), ∀ a, (k0_off375 v1681) a + S1x1x1x16.size a ≤ S2x16x16x96.size a := fun v1681 k0_hw33 => k0_hw33.2.2.2.2.1
theorem k0_off377_inb : ∀ (v1681 : BitVec 32) (k0_hw33 : k0_chk33 v1681), ∀ a, (k0_off377 v1681) a + S1x1x1x16.size a ≤ S2x16x16x96.size a := fun v1681 k0_hw33 => k0_hw33.2.2.2.2.2

def k0_off378 (k0_t3 : Fin k0_t3_loop.trips) : Fin 3 → Nat :=
  let c1_i32_1285 : BitVec 32 := 1#32
  let v1752 : Index := Scalar.indexCast c1_i32_1285
  let c0_i32_492 : BitVec 32 := 0#32
  let c1_i32_494 : BitVec 32 := 1#32
  let arg13 : BitVec 32 := Scf.iv c0_i32_492 c1_i32_494 k0_t3
  let c16_i32_1283 : BitVec 32 := 16#32
  let v1750 : BitVec 32 := Scalar.muli arg13 c16_i32_1283
  let c14_i32_1284 : BitVec 32 := 14#32
  let v1751 : BitVec 32 := Scalar.addi v1750 c14_i32_1284
  let v1753 : Index := Scalar.indexCast v1751
  let c80_1286 : Index := 80#32
  ![1, v1753.toNat, 80]
def k0_off379 (v1758 : BitVec 32) : Fin 4 → Nat :=
  let c0_i32_1290 : BitVec 32 := 0#32
  let v1762 : Index := Scalar.indexCast c0_i32_1290
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1763 : Index := Scalar.indexCast v1760
  let c15_i32_1289 : BitVec 32 := 15#32
  let v1761 : BitVec 32 := Scalar.andi v1758 c15_i32_1289
  let v1764 : Index := Scalar.indexCast v1761
  let c0_1291 : Index := 0#32
  ![0, v1763.toNat, v1764.toNat, 0]

def k0_off380 (k0_t3 : Fin k0_t3_loop.trips) : Fin 3 → Nat :=
  let c1_i32_1294 : BitVec 32 := 1#32
  let v1769 : Index := Scalar.indexCast c1_i32_1294
  let c0_i32_492 : BitVec 32 := 0#32
  let c1_i32_494 : BitVec 32 := 1#32
  let arg13 : BitVec 32 := Scf.iv c0_i32_492 c1_i32_494 k0_t3
  let c16_i32_1292 : BitVec 32 := 16#32
  let v1767 : BitVec 32 := Scalar.muli arg13 c16_i32_1292
  let c15_i32_1293 : BitVec 32 := 15#32
  let v1768 : BitVec 32 := Scalar.addi v1767 c15_i32_1293
  let v1770 : Index := Scalar.indexCast v1768
  let c0_1295 : Index := 0#32
  ![1, v1770.toNat, 0]
def k0_off381 (v1758 : BitVec 32) : Fin 4 → Nat :=
  let c0_i32_1296 : BitVec 32 := 0#32
  let v1774 : Index := Scalar.indexCast c0_i32_1296
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1775 : Index := Scalar.indexCast v1760
  let c15_i32_1289 : BitVec 32 := 15#32
  let v1761 : BitVec 32 := Scalar.andi v1758 c15_i32_1289
  let v1776 : Index := Scalar.indexCast v1761
  let c16_1297 : Index := 16#32
  ![0, v1775.toNat, v1776.toNat, 16]
def k0_off382 (k0_t3 : Fin k0_t3_loop.trips) : Fin 3 → Nat :=
  let c1_i32_1300 : BitVec 32 := 1#32
  let v1781 : Index := Scalar.indexCast c1_i32_1300
  let c0_i32_492 : BitVec 32 := 0#32
  let c1_i32_494 : BitVec 32 := 1#32
  let arg13 : BitVec 32 := Scf.iv c0_i32_492 c1_i32_494 k0_t3
  let c16_i32_1298 : BitVec 32 := 16#32
  let v1779 : BitVec 32 := Scalar.muli arg13 c16_i32_1298
  let c15_i32_1299 : BitVec 32 := 15#32
  let v1780 : BitVec 32 := Scalar.addi v1779 c15_i32_1299
  let v1782 : Index := Scalar.indexCast v1780
  let c16_1301 : Index := 16#32
  ![1, v1782.toNat, 16]
def k0_off383 (v1758 : BitVec 32) : Fin 4 → Nat :=
  let c0_i32_1302 : BitVec 32 := 0#32
  let v1786 : Index := Scalar.indexCast c0_i32_1302
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1787 : Index := Scalar.indexCast v1760
  let c15_i32_1289 : BitVec 32 := 15#32
  let v1761 : BitVec 32 := Scalar.andi v1758 c15_i32_1289
  let v1788 : Index := Scalar.indexCast v1761
  let c32_1303 : Index := 32#32
  ![0, v1787.toNat, v1788.toNat, 32]
def k0_off384 (k0_t3 : Fin k0_t3_loop.trips) : Fin 3 → Nat :=
  let c1_i32_1306 : BitVec 32 := 1#32
  let v1793 : Index := Scalar.indexCast c1_i32_1306
  let c0_i32_492 : BitVec 32 := 0#32
  let c1_i32_494 : BitVec 32 := 1#32
  let arg13 : BitVec 32 := Scf.iv c0_i32_492 c1_i32_494 k0_t3
  let c16_i32_1304 : BitVec 32 := 16#32
  let v1791 : BitVec 32 := Scalar.muli arg13 c16_i32_1304
  let c15_i32_1305 : BitVec 32 := 15#32
  let v1792 : BitVec 32 := Scalar.addi v1791 c15_i32_1305
  let v1794 : Index := Scalar.indexCast v1792
  let c32_1307 : Index := 32#32
  ![1, v1794.toNat, 32]
def k0_off385 (v1758 : BitVec 32) : Fin 4 → Nat :=
  let c0_i32_1308 : BitVec 32 := 0#32
  let v1798 : Index := Scalar.indexCast c0_i32_1308
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1799 : Index := Scalar.indexCast v1760
  let c15_i32_1289 : BitVec 32 := 15#32
  let v1761 : BitVec 32 := Scalar.andi v1758 c15_i32_1289
  let v1800 : Index := Scalar.indexCast v1761
  let c48_1309 : Index := 48#32
  ![0, v1799.toNat, v1800.toNat, 48]
def k0_off386 (k0_t3 : Fin k0_t3_loop.trips) : Fin 3 → Nat :=
  let c1_i32_1312 : BitVec 32 := 1#32
  let v1805 : Index := Scalar.indexCast c1_i32_1312
  let c0_i32_492 : BitVec 32 := 0#32
  let c1_i32_494 : BitVec 32 := 1#32
  let arg13 : BitVec 32 := Scf.iv c0_i32_492 c1_i32_494 k0_t3
  let c16_i32_1310 : BitVec 32 := 16#32
  let v1803 : BitVec 32 := Scalar.muli arg13 c16_i32_1310
  let c15_i32_1311 : BitVec 32 := 15#32
  let v1804 : BitVec 32 := Scalar.addi v1803 c15_i32_1311
  let v1806 : Index := Scalar.indexCast v1804
  let c48_1313 : Index := 48#32
  ![1, v1806.toNat, 48]
def k0_off387 (v1758 : BitVec 32) : Fin 4 → Nat :=
  let c0_i32_1314 : BitVec 32 := 0#32
  let v1810 : Index := Scalar.indexCast c0_i32_1314
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1811 : Index := Scalar.indexCast v1760
  let c15_i32_1289 : BitVec 32 := 15#32
  let v1761 : BitVec 32 := Scalar.andi v1758 c15_i32_1289
  let v1812 : Index := Scalar.indexCast v1761
  let c64_1315 : Index := 64#32
  ![0, v1811.toNat, v1812.toNat, 64]
def k0_off388 (k0_t3 : Fin k0_t3_loop.trips) : Fin 3 → Nat :=
  let c1_i32_1318 : BitVec 32 := 1#32
  let v1817 : Index := Scalar.indexCast c1_i32_1318
  let c0_i32_492 : BitVec 32 := 0#32
  let c1_i32_494 : BitVec 32 := 1#32
  let arg13 : BitVec 32 := Scf.iv c0_i32_492 c1_i32_494 k0_t3
  let c16_i32_1316 : BitVec 32 := 16#32
  let v1815 : BitVec 32 := Scalar.muli arg13 c16_i32_1316
  let c15_i32_1317 : BitVec 32 := 15#32
  let v1816 : BitVec 32 := Scalar.addi v1815 c15_i32_1317
  let v1818 : Index := Scalar.indexCast v1816
  let c64_1319 : Index := 64#32
  ![1, v1818.toNat, 64]
def k0_off389 (v1758 : BitVec 32) : Fin 4 → Nat :=
  let c0_i32_1320 : BitVec 32 := 0#32
  let v1822 : Index := Scalar.indexCast c0_i32_1320
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1823 : Index := Scalar.indexCast v1760
  let c15_i32_1289 : BitVec 32 := 15#32
  let v1761 : BitVec 32 := Scalar.andi v1758 c15_i32_1289
  let v1824 : Index := Scalar.indexCast v1761
  let c80_1321 : Index := 80#32
  ![0, v1823.toNat, v1824.toNat, 80]

def k0_chk34 (v1758 : BitVec 32) : Prop :=
  (∀ a, (k0_off379 v1758) a + S1x1x1x16.size a ≤ S2x16x16x96.size a) ∧
  (∀ a, (k0_off381 v1758) a + S1x1x1x16.size a ≤ S2x16x16x96.size a) ∧
  (∀ a, (k0_off383 v1758) a + S1x1x1x16.size a ≤ S2x16x16x96.size a) ∧
  (∀ a, (k0_off385 v1758) a + S1x1x1x16.size a ≤ S2x16x16x96.size a) ∧
  (∀ a, (k0_off387 v1758) a + S1x1x1x16.size a ≤ S2x16x16x96.size a) ∧
  (∀ a, (k0_off389 v1758) a + S1x1x1x16.size a ≤ S2x16x16x96.size a)
theorem k0_off379_inb : ∀ (v1758 : BitVec 32) (k0_hw34 : k0_chk34 v1758), ∀ a, (k0_off379 v1758) a + S1x1x1x16.size a ≤ S2x16x16x96.size a := fun v1758 k0_hw34 => k0_hw34.1
theorem k0_off381_inb : ∀ (v1758 : BitVec 32) (k0_hw34 : k0_chk34 v1758), ∀ a, (k0_off381 v1758) a + S1x1x1x16.size a ≤ S2x16x16x96.size a := fun v1758 k0_hw34 => k0_hw34.2.1
theorem k0_off383_inb : ∀ (v1758 : BitVec 32) (k0_hw34 : k0_chk34 v1758), ∀ a, (k0_off383 v1758) a + S1x1x1x16.size a ≤ S2x16x16x96.size a := fun v1758 k0_hw34 => k0_hw34.2.2.1
theorem k0_off385_inb : ∀ (v1758 : BitVec 32) (k0_hw34 : k0_chk34 v1758), ∀ a, (k0_off385 v1758) a + S1x1x1x16.size a ≤ S2x16x16x96.size a := fun v1758 k0_hw34 => k0_hw34.2.2.2.1
theorem k0_off387_inb : ∀ (v1758 : BitVec 32) (k0_hw34 : k0_chk34 v1758), ∀ a, (k0_off387 v1758) a + S1x1x1x16.size a ≤ S2x16x16x96.size a := fun v1758 k0_hw34 => k0_hw34.2.2.2.2.1
theorem k0_off389_inb : ∀ (v1758 : BitVec 32) (k0_hw34 : k0_chk34 v1758), ∀ a, (k0_off389 v1758) a + S1x1x1x16.size a ≤ S2x16x16x96.size a := fun v1758 k0_hw34 => k0_hw34.2.2.2.2.2

def k0_off390 (k0_t3 : Fin k0_t3_loop.trips) : Fin 3 → Nat :=
  let c1_i32_1324 : BitVec 32 := 1#32
  let v1829 : Index := Scalar.indexCast c1_i32_1324
  let c0_i32_492 : BitVec 32 := 0#32
  let c1_i32_494 : BitVec 32 := 1#32
  let arg13 : BitVec 32 := Scf.iv c0_i32_492 c1_i32_494 k0_t3
  let c16_i32_1322 : BitVec 32 := 16#32
  let v1827 : BitVec 32 := Scalar.muli arg13 c16_i32_1322
  let c15_i32_1323 : BitVec 32 := 15#32
  let v1828 : BitVec 32 := Scalar.addi v1827 c15_i32_1323
  let v1830 : Index := Scalar.indexCast v1828
  let c80_1325 : Index := 80#32
  ![1, v1830.toNat, 80]
def k0_mult36 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c2_i32_309 : BitVec 32 := 2#32
  let c0_i32_288 : BitVec 32 := 0#32
  let c1_i32_289 : BitVec 32 := 1#32
  let arg12 : BitVec 32 := Scf.iv c0_i32_288 c1_i32_289 k0_t1
  let v332 : BitVec 32 := Scalar.muli c2_i32_309 arg12
  let c256_i32_496 : BitVec 32 := 256#32
  let v451 : BitVec 32 := Scalar.muli v332 c256_i32_496
  let v452 : BitVec 32 := Scalar.addi v2 v451
  let c128_i32_497 : BitVec 32 := 128#32
  let v453 : BitVec 32 := Scalar.addi v452 c128_i32_497
  v453
def k0_cond3 (k0_t1 : Fin k0_t1_loop.trips) : BitVec 1 :=
  let c0_i32_288 : BitVec 32 := 0#32
  let c1_i32_289 : BitVec 32 := 1#32
  let arg12 : BitVec 32 := Scf.iv c0_i32_288 c1_i32_289 k0_t1
  let c31_i32 : BitVec 32 := 31#32
  let v461 : BitVec 1 := Scalar.cmpi .slt arg12 c31_i32
  let v462 : BitVec 32 := Scalar.extui v461
  let c0_i32_505 : BitVec 32 := 0#32
  let v463 : BitVec 1 := Scalar.cmpi .ne v462 c0_i32_505
  v463

def k0_off391 (k0_t1 : Fin k0_t1_loop.trips) : Fin 2 → Nat :=
  let c2_i32_707 : BitVec 32 := 2#32
  let c2_i32_309 : BitVec 32 := 2#32
  let c0_i32_288 : BitVec 32 := 0#32
  let c1_i32_289 : BitVec 32 := 1#32
  let arg12 : BitVec 32 := Scf.iv c0_i32_288 c1_i32_289 k0_t1
  let v332 : BitVec 32 := Scalar.muli c2_i32_309 arg12
  let c2_i32_706 : BitVec 32 := 2#32
  let v597 : BitVec 32 := Scalar.addi v332 c2_i32_706
  let v598 : BitVec 32 := Scalar.muli c2_i32_707 v597
  let v599 : Index := Scalar.indexCast v598
  let c0_708 : Index := 0#32
  ![v599.toNat, 0]
def k0_mult37 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  v613

def k0_mult38 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c0_i32_717 : BitVec 32 := 0#32
  let v615 : BitVec 32 := Scalar.addi v614 c0_i32_717
  v615
def k0_off392 (i : grid0.Coords) (v603 : BitVec 32) (c0_i32_717 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let v615 : BitVec 32 := Scalar.addi v614 c0_i32_717
  let v616 : BitVec 32 := v615
  let c0_i32_722 : BitVec 32 := 0#32
  ![v616.toNat, 0]
def k0_mult39 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c512_i32_726 : BitVec 32 := 512#32
  let v623 : BitVec 32 := Scalar.addi v614 c512_i32_726
  v623
def k0_mult40 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c1024_i32_735 : BitVec 32 := 1024#32
  let v631 : BitVec 32 := Scalar.addi v614 c1024_i32_735
  v631
def k0_mult41 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c1536_i32_744 : BitVec 32 := 1536#32
  let v639 : BitVec 32 := Scalar.addi v614 c1536_i32_744
  v639
def k0_mult42 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c2048_i32_753 : BitVec 32 := 2048#32
  let v647 : BitVec 32 := Scalar.addi v614 c2048_i32_753
  v647
def k0_mult43 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c2560_i32_762 : BitVec 32 := 2560#32
  let v655 : BitVec 32 := Scalar.addi v614 c2560_i32_762
  v655
def k0_mult44 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c3072_i32_771 : BitVec 32 := 3072#32
  let v663 : BitVec 32 := Scalar.addi v614 c3072_i32_771
  v663
def k0_mult45 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c3584_i32_780 : BitVec 32 := 3584#32
  let v671 : BitVec 32 := Scalar.addi v614 c3584_i32_780
  v671
def k0_mult46 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c4096_i32_789 : BitVec 32 := 4096#32
  let v679 : BitVec 32 := Scalar.addi v614 c4096_i32_789
  v679
def k0_mult47 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c4608_i32_798 : BitVec 32 := 4608#32
  let v687 : BitVec 32 := Scalar.addi v614 c4608_i32_798
  v687
def k0_mult48 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c5120_i32_807 : BitVec 32 := 5120#32
  let v695 : BitVec 32 := Scalar.addi v614 c5120_i32_807
  v695
def k0_mult49 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c5632_i32_816 : BitVec 32 := 5632#32
  let v703 : BitVec 32 := Scalar.addi v614 c5632_i32_816
  v703
def k0_mult50 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c6144_i32_825 : BitVec 32 := 6144#32
  let v711 : BitVec 32 := Scalar.addi v614 c6144_i32_825
  v711
def k0_mult51 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c6656_i32_834 : BitVec 32 := 6656#32
  let v719 : BitVec 32 := Scalar.addi v614 c6656_i32_834
  v719
def k0_mult52 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c7168_i32_843 : BitVec 32 := 7168#32
  let v727 : BitVec 32 := Scalar.addi v614 c7168_i32_843
  v727
def k0_mult53 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c7680_i32_852 : BitVec 32 := 7680#32
  let v735 : BitVec 32 := Scalar.addi v614 c7680_i32_852
  v735

def k0_chk35 (i : grid0.Coords) (k0_t1 : Fin k0_t1_loop.trips) (v603 : BitVec 32) : Prop :=
  (∀ (k0_h3 : k0_cond3 k0_t1 = 1#1), 16 ∣ (k0_mult37 i v603).toNat) ∧
  (∀ (k0_h3 : k0_cond3 k0_t1 = 1#1), 16 ∣ (k0_mult38 i v603).toNat) ∧
  (∀ (k0_h3 : k0_cond3 k0_t1 = 1#1), ∀ (r : Fin 16), ∀ a, (k0_off392 i v603 (BitVec.ofNat 32 (512 * r.val))) a + S16x96.size a ≤ S524288x96.size a) ∧
  (∀ (k0_h3 : k0_cond3 k0_t1 = 1#1), 16 ∣ (k0_mult39 i v603).toNat) ∧
  (∀ (k0_h3 : k0_cond3 k0_t1 = 1#1), 16 ∣ (k0_mult40 i v603).toNat) ∧
  (∀ (k0_h3 : k0_cond3 k0_t1 = 1#1), 16 ∣ (k0_mult41 i v603).toNat) ∧
  (∀ (k0_h3 : k0_cond3 k0_t1 = 1#1), 16 ∣ (k0_mult42 i v603).toNat) ∧
  (∀ (k0_h3 : k0_cond3 k0_t1 = 1#1), 16 ∣ (k0_mult43 i v603).toNat) ∧
  (∀ (k0_h3 : k0_cond3 k0_t1 = 1#1), 16 ∣ (k0_mult44 i v603).toNat) ∧
  (∀ (k0_h3 : k0_cond3 k0_t1 = 1#1), 16 ∣ (k0_mult45 i v603).toNat) ∧
  (∀ (k0_h3 : k0_cond3 k0_t1 = 1#1), 16 ∣ (k0_mult46 i v603).toNat) ∧
  (∀ (k0_h3 : k0_cond3 k0_t1 = 1#1), 16 ∣ (k0_mult47 i v603).toNat) ∧
  (∀ (k0_h3 : k0_cond3 k0_t1 = 1#1), 16 ∣ (k0_mult48 i v603).toNat) ∧
  (∀ (k0_h3 : k0_cond3 k0_t1 = 1#1), 16 ∣ (k0_mult49 i v603).toNat) ∧
  (∀ (k0_h3 : k0_cond3 k0_t1 = 1#1), 16 ∣ (k0_mult50 i v603).toNat) ∧
  (∀ (k0_h3 : k0_cond3 k0_t1 = 1#1), 16 ∣ (k0_mult51 i v603).toNat) ∧
  (∀ (k0_h3 : k0_cond3 k0_t1 = 1#1), 16 ∣ (k0_mult52 i v603).toNat) ∧
  (∀ (k0_h3 : k0_cond3 k0_t1 = 1#1), 16 ∣ (k0_mult53 i v603).toNat)
theorem k0_mult37_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult37 i v603).toNat := fun i k0_t1 v603 k0_hw35 k0_h3 => k0_hw35.1 k0_h3
theorem k0_mult38_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult38 i v603).toNat := fun i k0_t1 v603 k0_hw35 k0_h3 => k0_hw35.2.1 k0_h3
theorem k0_off392_inb : ∀ (i : grid0.Coords) (k0_t1 : Fin k0_t1_loop.trips) (v603 : BitVec 32) (k0_hw35 : k0_chk35 i k0_t1 v603), ∀ (k0_h3 : k0_cond3 k0_t1 = 1#1), ∀ (r : Fin 16), ∀ a, (k0_off392 i v603 (BitVec.ofNat 32 (512 * r.val))) a + S16x96.size a ≤ S524288x96.size a := fun i k0_t1 v603 k0_hw35 k0_h3 r => k0_hw35.2.2.1 k0_h3 r
theorem k0_mult39_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult39 i v603).toNat := fun i k0_t1 v603 k0_hw35 k0_h3 => k0_hw35.2.2.2.1 k0_h3
theorem k0_mult40_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult40 i v603).toNat := fun i k0_t1 v603 k0_hw35 k0_h3 => k0_hw35.2.2.2.2.1 k0_h3
theorem k0_mult41_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult41 i v603).toNat := fun i k0_t1 v603 k0_hw35 k0_h3 => k0_hw35.2.2.2.2.2.1 k0_h3
theorem k0_mult42_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult42 i v603).toNat := fun i k0_t1 v603 k0_hw35 k0_h3 => k0_hw35.2.2.2.2.2.2.1 k0_h3
theorem k0_mult43_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult43 i v603).toNat := fun i k0_t1 v603 k0_hw35 k0_h3 => k0_hw35.2.2.2.2.2.2.2.1 k0_h3
theorem k0_mult44_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult44 i v603).toNat := fun i k0_t1 v603 k0_hw35 k0_h3 => k0_hw35.2.2.2.2.2.2.2.2.1 k0_h3
theorem k0_mult45_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult45 i v603).toNat := fun i k0_t1 v603 k0_hw35 k0_h3 => k0_hw35.2.2.2.2.2.2.2.2.2.1 k0_h3
theorem k0_mult46_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult46 i v603).toNat := fun i k0_t1 v603 k0_hw35 k0_h3 => k0_hw35.2.2.2.2.2.2.2.2.2.2.1 k0_h3
theorem k0_mult47_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult47 i v603).toNat := fun i k0_t1 v603 k0_hw35 k0_h3 => k0_hw35.2.2.2.2.2.2.2.2.2.2.2.1 k0_h3
theorem k0_mult48_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult48 i v603).toNat := fun i k0_t1 v603 k0_hw35 k0_h3 => k0_hw35.2.2.2.2.2.2.2.2.2.2.2.2.1 k0_h3
theorem k0_mult49_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult49 i v603).toNat := fun i k0_t1 v603 k0_hw35 k0_h3 => k0_hw35.2.2.2.2.2.2.2.2.2.2.2.2.2.1 k0_h3
theorem k0_mult50_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult50 i v603).toNat := fun i k0_t1 v603 k0_hw35 k0_h3 => k0_hw35.2.2.2.2.2.2.2.2.2.2.2.2.2.2.1 k0_h3
theorem k0_mult51_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult51 i v603).toNat := fun i k0_t1 v603 k0_hw35 k0_h3 => k0_hw35.2.2.2.2.2.2.2.2.2.2.2.2.2.2.2.1 k0_h3
theorem k0_mult52_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult52 i v603).toNat := fun i k0_t1 v603 k0_hw35 k0_h3 => k0_hw35.2.2.2.2.2.2.2.2.2.2.2.2.2.2.2.2.1 k0_h3
theorem k0_mult53_dvd : ∀ (i : grid0.Coords) (k0_t1 : Fin k0_t1_loop.trips) (v603 : BitVec 32) (k0_hw35 : k0_chk35 i k0_t1 v603), ∀ (k0_h3 : k0_cond3 k0_t1 = 1#1), 16 ∣ (k0_mult53 i v603).toNat := fun i k0_t1 v603 k0_hw35 k0_h3 => k0_hw35.2.2.2.2.2.2.2.2.2.2.2.2.2.2.2.2.2 k0_h3

@[reducible] def k0_t4_loop : Scf.Loop 32 :=
  let c0_i32_673 : BitVec 32 := 0#32
  let c8_i32_674 : BitVec 32 := 8#32
  let v567 : BitVec 32 := Scalar.addi c0_i32_673 c8_i32_674
  let c1_i32_675 : BitVec 32 := 1#32
  ⟨c0_i32_673, v567, c1_i32_675⟩
def k0_off393 (k0_t1 : Fin k0_t1_loop.trips) (k0_t4 : Fin k0_t4_loop.trips) : Fin 2 → Nat :=
  let c2_i32_670 : BitVec 32 := 2#32
  let c2_i32_506 : BitVec 32 := 2#32
  let c0_i32_288 : BitVec 32 := 0#32
  let c1_i32_289 : BitVec 32 := 1#32
  let arg12 : BitVec 32 := Scf.iv c0_i32_288 c1_i32_289 k0_t1
  let v464 : BitVec 32 := Scalar.muli c2_i32_506 arg12
  let c1_i32_507 : BitVec 32 := 1#32
  let v465 : BitVec 32 := Scalar.addi v464 c1_i32_507
  let v565 : BitVec 32 := Scalar.muli c2_i32_670 v465
  let c0_i32_671 : BitVec 32 := 0#32
  let v566 : BitVec 32 := Scalar.addi v565 c0_i32_671
  let v598 : Index := Scalar.indexCast v566
  let c0_i32_673 : BitVec 32 := 0#32
  let c1_i32_675 : BitVec 32 := 1#32
  let arg13 : BitVec 32 := Scf.iv c0_i32_673 c1_i32_675 k0_t4
  let c16_i32_706 : BitVec 32 := 16#32
  let v597 : BitVec 32 := Scalar.muli arg13 c16_i32_706
  let v599 : Index := Scalar.indexCast v597
  ![v598.toNat, v599.toNat]
def k0_off394 (v603 : BitVec 32) : Fin 4 → Nat :=
  let c1_i32_710 : BitVec 32 := 1#32
  let v607 : Index := Scalar.indexCast c1_i32_710
  let c9_i32_707 : BitVec 32 := 9#32
  let v604 : BitVec 32 := Scalar.shrsi v603 c9_i32_707
  let c15_i32_708 : BitVec 32 := 15#32
  let v605 : BitVec 32 := Scalar.andi v604 c15_i32_708
  let v608 : Index := Scalar.indexCast v605
  let c15_i32_709 : BitVec 32 := 15#32
  let v606 : BitVec 32 := Scalar.andi v603 c15_i32_709
  let v609 : Index := Scalar.indexCast v606
  let c0_711 : Index := 0#32
  ![1, v608.toNat, v609.toNat, 0]

def k0_off395 (k0_t4 : Fin k0_t4_loop.trips) : Fin 3 → Nat :=
  let c0_i32_714 : BitVec 32 := 0#32
  let v614 : Index := Scalar.indexCast c0_i32_714
  let c0_i32_673 : BitVec 32 := 0#32
  let c1_i32_675 : BitVec 32 := 1#32
  let arg13 : BitVec 32 := Scf.iv c0_i32_673 c1_i32_675 k0_t4
  let c16_i32_712 : BitVec 32 := 16#32
  let v612 : BitVec 32 := Scalar.muli arg13 c16_i32_712
  let c0_i32_713 : BitVec 32 := 0#32
  let v613 : BitVec 32 := Scalar.addi v612 c0_i32_713
  let v615 : Index := Scalar.indexCast v613
  let c0_715 : Index := 0#32
  ![0, v615.toNat, 0]
def k0_off396 (v603 : BitVec 32) : Fin 4 → Nat :=
  let c1_i32_716 : BitVec 32 := 1#32
  let v619 : Index := Scalar.indexCast c1_i32_716
  let c9_i32_707 : BitVec 32 := 9#32
  let v604 : BitVec 32 := Scalar.shrsi v603 c9_i32_707
  let c15_i32_708 : BitVec 32 := 15#32
  let v605 : BitVec 32 := Scalar.andi v604 c15_i32_708
  let v620 : Index := Scalar.indexCast v605
  let c15_i32_709 : BitVec 32 := 15#32
  let v606 : BitVec 32 := Scalar.andi v603 c15_i32_709
  let v621 : Index := Scalar.indexCast v606
  let c16 : Index := 16#32
  ![1, v620.toNat, v621.toNat, 16]
def k0_off397 (k0_t4 : Fin k0_t4_loop.trips) : Fin 3 → Nat :=
  let c0_i32_719 : BitVec 32 := 0#32
  let v626 : Index := Scalar.indexCast c0_i32_719
  let c0_i32_673 : BitVec 32 := 0#32
  let c1_i32_675 : BitVec 32 := 1#32
  let arg13 : BitVec 32 := Scf.iv c0_i32_673 c1_i32_675 k0_t4
  let c16_i32_717 : BitVec 32 := 16#32
  let v624 : BitVec 32 := Scalar.muli arg13 c16_i32_717
  let c0_i32_718 : BitVec 32 := 0#32
  let v625 : BitVec 32 := Scalar.addi v624 c0_i32_718
  let v627 : Index := Scalar.indexCast v625
  let c16_720 : Index := 16#32
  ![0, v627.toNat, 16]
def k0_off398 (v603 : BitVec 32) : Fin 4 → Nat :=
  let c1_i32_721 : BitVec 32 := 1#32
  let v631 : Index := Scalar.indexCast c1_i32_721
  let c9_i32_707 : BitVec 32 := 9#32
  let v604 : BitVec 32 := Scalar.shrsi v603 c9_i32_707
  let c15_i32_708 : BitVec 32 := 15#32
  let v605 : BitVec 32 := Scalar.andi v604 c15_i32_708
  let v632 : Index := Scalar.indexCast v605
  let c15_i32_709 : BitVec 32 := 15#32
  let v606 : BitVec 32 := Scalar.andi v603 c15_i32_709
  let v633 : Index := Scalar.indexCast v606
  let c32 : Index := 32#32
  ![1, v632.toNat, v633.toNat, 32]
def k0_off399 (k0_t4 : Fin k0_t4_loop.trips) : Fin 3 → Nat :=
  let c0_i32_724 : BitVec 32 := 0#32
  let v638 : Index := Scalar.indexCast c0_i32_724
  let c0_i32_673 : BitVec 32 := 0#32
  let c1_i32_675 : BitVec 32 := 1#32
  let arg13 : BitVec 32 := Scf.iv c0_i32_673 c1_i32_675 k0_t4
  let c16_i32_722 : BitVec 32 := 16#32
  let v636 : BitVec 32 := Scalar.muli arg13 c16_i32_722
  let c0_i32_723 : BitVec 32 := 0#32
  let v637 : BitVec 32 := Scalar.addi v636 c0_i32_723
  let v639 : Index := Scalar.indexCast v637
  let c32_725 : Index := 32#32
  ![0, v639.toNat, 32]
def k0_off400 (v603 : BitVec 32) : Fin 4 → Nat :=
  let c1_i32_726 : BitVec 32 := 1#32
  let v643 : Index := Scalar.indexCast c1_i32_726
  let c9_i32_707 : BitVec 32 := 9#32
  let v604 : BitVec 32 := Scalar.shrsi v603 c9_i32_707
  let c15_i32_708 : BitVec 32 := 15#32
  let v605 : BitVec 32 := Scalar.andi v604 c15_i32_708
  let v644 : Index := Scalar.indexCast v605
  let c15_i32_709 : BitVec 32 := 15#32
  let v606 : BitVec 32 := Scalar.andi v603 c15_i32_709
  let v645 : Index := Scalar.indexCast v606
  let c48 : Index := 48#32
  ![1, v644.toNat, v645.toNat, 48]
def k0_off401 (k0_t4 : Fin k0_t4_loop.trips) : Fin 3 → Nat :=
  let c0_i32_729 : BitVec 32 := 0#32
  let v650 : Index := Scalar.indexCast c0_i32_729
  let c0_i32_673 : BitVec 32 := 0#32
  let c1_i32_675 : BitVec 32 := 1#32
  let arg13 : BitVec 32 := Scf.iv c0_i32_673 c1_i32_675 k0_t4
  let c16_i32_727 : BitVec 32 := 16#32
  let v648 : BitVec 32 := Scalar.muli arg13 c16_i32_727
  let c0_i32_728 : BitVec 32 := 0#32
  let v649 : BitVec 32 := Scalar.addi v648 c0_i32_728
  let v651 : Index := Scalar.indexCast v649
  let c48_730 : Index := 48#32
  ![0, v651.toNat, 48]
def k0_off402 (v603 : BitVec 32) : Fin 4 → Nat :=
  let c1_i32_731 : BitVec 32 := 1#32
  let v655 : Index := Scalar.indexCast c1_i32_731
  let c9_i32_707 : BitVec 32 := 9#32
  let v604 : BitVec 32 := Scalar.shrsi v603 c9_i32_707
  let c15_i32_708 : BitVec 32 := 15#32
  let v605 : BitVec 32 := Scalar.andi v604 c15_i32_708
  let v656 : Index := Scalar.indexCast v605
  let c15_i32_709 : BitVec 32 := 15#32
  let v606 : BitVec 32 := Scalar.andi v603 c15_i32_709
  let v657 : Index := Scalar.indexCast v606
  let c64 : Index := 64#32
  ![1, v656.toNat, v657.toNat, 64]
def k0_off403 (k0_t4 : Fin k0_t4_loop.trips) : Fin 3 → Nat :=
  let c0_i32_734 : BitVec 32 := 0#32
  let v662 : Index := Scalar.indexCast c0_i32_734
  let c0_i32_673 : BitVec 32 := 0#32
  let c1_i32_675 : BitVec 32 := 1#32
  let arg13 : BitVec 32 := Scf.iv c0_i32_673 c1_i32_675 k0_t4
  let c16_i32_732 : BitVec 32 := 16#32
  let v660 : BitVec 32 := Scalar.muli arg13 c16_i32_732
  let c0_i32_733 : BitVec 32 := 0#32
  let v661 : BitVec 32 := Scalar.addi v660 c0_i32_733
  let v663 : Index := Scalar.indexCast v661
  let c64_735 : Index := 64#32
  ![0, v663.toNat, 64]
def k0_off404 (v603 : BitVec 32) : Fin 4 → Nat :=
  let c1_i32_736 : BitVec 32 := 1#32
  let v667 : Index := Scalar.indexCast c1_i32_736
  let c9_i32_707 : BitVec 32 := 9#32
  let v604 : BitVec 32 := Scalar.shrsi v603 c9_i32_707
  let c15_i32_708 : BitVec 32 := 15#32
  let v605 : BitVec 32 := Scalar.andi v604 c15_i32_708
  let v668 : Index := Scalar.indexCast v605
  let c15_i32_709 : BitVec 32 := 15#32
  let v606 : BitVec 32 := Scalar.andi v603 c15_i32_709
  let v669 : Index := Scalar.indexCast v606
  let c80 : Index := 80#32
  ![1, v668.toNat, v669.toNat, 80]

def k0_chk36 (v603 : BitVec 32) : Prop :=
  (∀ a, (k0_off394 v603) a + S1x1x1x16.size a ≤ S2x16x16x96.size a) ∧
  (∀ a, (k0_off396 v603) a + S1x1x1x16.size a ≤ S2x16x16x96.size a) ∧
  (∀ a, (k0_off398 v603) a + S1x1x1x16.size a ≤ S2x16x16x96.size a) ∧
  (∀ a, (k0_off400 v603) a + S1x1x1x16.size a ≤ S2x16x16x96.size a) ∧
  (∀ a, (k0_off402 v603) a + S1x1x1x16.size a ≤ S2x16x16x96.size a) ∧
  (∀ a, (k0_off404 v603) a + S1x1x1x16.size a ≤ S2x16x16x96.size a)
theorem k0_off394_inb : ∀ (v603 : BitVec 32) (k0_hw36 : k0_chk36 v603), ∀ a, (k0_off394 v603) a + S1x1x1x16.size a ≤ S2x16x16x96.size a := fun v603 k0_hw36 => k0_hw36.1
theorem k0_off396_inb : ∀ (v603 : BitVec 32) (k0_hw36 : k0_chk36 v603), ∀ a, (k0_off396 v603) a + S1x1x1x16.size a ≤ S2x16x16x96.size a := fun v603 k0_hw36 => k0_hw36.2.1
theorem k0_off398_inb : ∀ (v603 : BitVec 32) (k0_hw36 : k0_chk36 v603), ∀ a, (k0_off398 v603) a + S1x1x1x16.size a ≤ S2x16x16x96.size a := fun v603 k0_hw36 => k0_hw36.2.2.1
theorem k0_off400_inb : ∀ (v603 : BitVec 32) (k0_hw36 : k0_chk36 v603), ∀ a, (k0_off400 v603) a + S1x1x1x16.size a ≤ S2x16x16x96.size a := fun v603 k0_hw36 => k0_hw36.2.2.2.1
theorem k0_off402_inb : ∀ (v603 : BitVec 32) (k0_hw36 : k0_chk36 v603), ∀ a, (k0_off402 v603) a + S1x1x1x16.size a ≤ S2x16x16x96.size a := fun v603 k0_hw36 => k0_hw36.2.2.2.2.1
theorem k0_off404_inb : ∀ (v603 : BitVec 32) (k0_hw36 : k0_chk36 v603), ∀ a, (k0_off404 v603) a + S1x1x1x16.size a ≤ S2x16x16x96.size a := fun v603 k0_hw36 => k0_hw36.2.2.2.2.2

def k0_off405 (k0_t4 : Fin k0_t4_loop.trips) : Fin 3 → Nat :=
  let c0_i32_739 : BitVec 32 := 0#32
  let v674 : Index := Scalar.indexCast c0_i32_739
  let c0_i32_673 : BitVec 32 := 0#32
  let c1_i32_675 : BitVec 32 := 1#32
  let arg13 : BitVec 32 := Scf.iv c0_i32_673 c1_i32_675 k0_t4
  let c16_i32_737 : BitVec 32 := 16#32
  let v672 : BitVec 32 := Scalar.muli arg13 c16_i32_737
  let c0_i32_738 : BitVec 32 := 0#32
  let v673 : BitVec 32 := Scalar.addi v672 c0_i32_738
  let v675 : Index := Scalar.indexCast v673
  let c80_740 : Index := 80#32
  ![0, v675.toNat, 80]
def k0_off406 (v680 : BitVec 32) : Fin 4 → Nat :=
  let c1_i32_744 : BitVec 32 := 1#32
  let v684 : Index := Scalar.indexCast c1_i32_744
  let c9_i32_741 : BitVec 32 := 9#32
  let v681 : BitVec 32 := Scalar.shrsi v680 c9_i32_741
  let c15_i32_742 : BitVec 32 := 15#32
  let v682 : BitVec 32 := Scalar.andi v681 c15_i32_742
  let v685 : Index := Scalar.indexCast v682
  let c15_i32_743 : BitVec 32 := 15#32
  let v683 : BitVec 32 := Scalar.andi v680 c15_i32_743
  let v686 : Index := Scalar.indexCast v683
  let c0_745 : Index := 0#32
  ![1, v685.toNat, v686.toNat, 0]

def k0_off407 (k0_t4 : Fin k0_t4_loop.trips) : Fin 3 → Nat :=
  let c0_i32_748 : BitVec 32 := 0#32
  let v691 : Index := Scalar.indexCast c0_i32_748
  let c0_i32_673 : BitVec 32 := 0#32
  let c1_i32_675 : BitVec 32 := 1#32
  let arg13 : BitVec 32 := Scf.iv c0_i32_673 c1_i32_675 k0_t4
  let c16_i32_746 : BitVec 32 := 16#32
  let v689 : BitVec 32 := Scalar.muli arg13 c16_i32_746
  let c1_i32_747 : BitVec 32 := 1#32
  let v690 : BitVec 32 := Scalar.addi v689 c1_i32_747
  let v692 : Index := Scalar.indexCast v690
  let c0_749 : Index := 0#32
  ![0, v692.toNat, 0]
def k0_off408 (v680 : BitVec 32) : Fin 4 → Nat :=
  let c1_i32_750 : BitVec 32 := 1#32
  let v696 : Index := Scalar.indexCast c1_i32_750
  let c9_i32_741 : BitVec 32 := 9#32
  let v681 : BitVec 32 := Scalar.shrsi v680 c9_i32_741
  let c15_i32_742 : BitVec 32 := 15#32
  let v682 : BitVec 32 := Scalar.andi v681 c15_i32_742
  let v697 : Index := Scalar.indexCast v682
  let c15_i32_743 : BitVec 32 := 15#32
  let v683 : BitVec 32 := Scalar.andi v680 c15_i32_743
  let v698 : Index := Scalar.indexCast v683
  let c16_751 : Index := 16#32
  ![1, v697.toNat, v698.toNat, 16]
def k0_off409 (k0_t4 : Fin k0_t4_loop.trips) : Fin 3 → Nat :=
  let c0_i32_754 : BitVec 32 := 0#32
  let v703 : Index := Scalar.indexCast c0_i32_754
  let c0_i32_673 : BitVec 32 := 0#32
  let c1_i32_675 : BitVec 32 := 1#32
  let arg13 : BitVec 32 := Scf.iv c0_i32_673 c1_i32_675 k0_t4
  let c16_i32_752 : BitVec 32 := 16#32
  let v701 : BitVec 32 := Scalar.muli arg13 c16_i32_752
  let c1_i32_753 : BitVec 32 := 1#32
  let v702 : BitVec 32 := Scalar.addi v701 c1_i32_753
  let v704 : Index := Scalar.indexCast v702
  let c16_755 : Index := 16#32
  ![0, v704.toNat, 16]
def k0_off410 (v680 : BitVec 32) : Fin 4 → Nat :=
  let c1_i32_756 : BitVec 32 := 1#32
  let v708 : Index := Scalar.indexCast c1_i32_756
  let c9_i32_741 : BitVec 32 := 9#32
  let v681 : BitVec 32 := Scalar.shrsi v680 c9_i32_741
  let c15_i32_742 : BitVec 32 := 15#32
  let v682 : BitVec 32 := Scalar.andi v681 c15_i32_742
  let v709 : Index := Scalar.indexCast v682
  let c15_i32_743 : BitVec 32 := 15#32
  let v683 : BitVec 32 := Scalar.andi v680 c15_i32_743
  let v710 : Index := Scalar.indexCast v683
  let c32_757 : Index := 32#32
  ![1, v709.toNat, v710.toNat, 32]
def k0_off411 (k0_t4 : Fin k0_t4_loop.trips) : Fin 3 → Nat :=
  let c0_i32_760 : BitVec 32 := 0#32
  let v715 : Index := Scalar.indexCast c0_i32_760
  let c0_i32_673 : BitVec 32 := 0#32
  let c1_i32_675 : BitVec 32 := 1#32
  let arg13 : BitVec 32 := Scf.iv c0_i32_673 c1_i32_675 k0_t4
  let c16_i32_758 : BitVec 32 := 16#32
  let v713 : BitVec 32 := Scalar.muli arg13 c16_i32_758
  let c1_i32_759 : BitVec 32 := 1#32
  let v714 : BitVec 32 := Scalar.addi v713 c1_i32_759
  let v716 : Index := Scalar.indexCast v714
  let c32_761 : Index := 32#32
  ![0, v716.toNat, 32]
def k0_off412 (v680 : BitVec 32) : Fin 4 → Nat :=
  let c1_i32_762 : BitVec 32 := 1#32
  let v720 : Index := Scalar.indexCast c1_i32_762
  let c9_i32_741 : BitVec 32 := 9#32
  let v681 : BitVec 32 := Scalar.shrsi v680 c9_i32_741
  let c15_i32_742 : BitVec 32 := 15#32
  let v682 : BitVec 32 := Scalar.andi v681 c15_i32_742
  let v721 : Index := Scalar.indexCast v682
  let c15_i32_743 : BitVec 32 := 15#32
  let v683 : BitVec 32 := Scalar.andi v680 c15_i32_743
  let v722 : Index := Scalar.indexCast v683
  let c48_763 : Index := 48#32
  ![1, v721.toNat, v722.toNat, 48]
def k0_off413 (k0_t4 : Fin k0_t4_loop.trips) : Fin 3 → Nat :=
  let c0_i32_766 : BitVec 32 := 0#32
  let v727 : Index := Scalar.indexCast c0_i32_766
  let c0_i32_673 : BitVec 32 := 0#32
  let c1_i32_675 : BitVec 32 := 1#32
  let arg13 : BitVec 32 := Scf.iv c0_i32_673 c1_i32_675 k0_t4
  let c16_i32_764 : BitVec 32 := 16#32
  let v725 : BitVec 32 := Scalar.muli arg13 c16_i32_764
  let c1_i32_765 : BitVec 32 := 1#32
  let v726 : BitVec 32 := Scalar.addi v725 c1_i32_765
  let v728 : Index := Scalar.indexCast v726
  let c48_767 : Index := 48#32
  ![0, v728.toNat, 48]
def k0_off414 (v680 : BitVec 32) : Fin 4 → Nat :=
  let c1_i32_768 : BitVec 32 := 1#32
  let v732 : Index := Scalar.indexCast c1_i32_768
  let c9_i32_741 : BitVec 32 := 9#32
  let v681 : BitVec 32 := Scalar.shrsi v680 c9_i32_741
  let c15_i32_742 : BitVec 32 := 15#32
  let v682 : BitVec 32 := Scalar.andi v681 c15_i32_742
  let v733 : Index := Scalar.indexCast v682
  let c15_i32_743 : BitVec 32 := 15#32
  let v683 : BitVec 32 := Scalar.andi v680 c15_i32_743
  let v734 : Index := Scalar.indexCast v683
  let c64_769 : Index := 64#32
  ![1, v733.toNat, v734.toNat, 64]
def k0_off415 (k0_t4 : Fin k0_t4_loop.trips) : Fin 3 → Nat :=
  let c0_i32_772 : BitVec 32 := 0#32
  let v739 : Index := Scalar.indexCast c0_i32_772
  let c0_i32_673 : BitVec 32 := 0#32
  let c1_i32_675 : BitVec 32 := 1#32
  let arg13 : BitVec 32 := Scf.iv c0_i32_673 c1_i32_675 k0_t4
  let c16_i32_770 : BitVec 32 := 16#32
  let v737 : BitVec 32 := Scalar.muli arg13 c16_i32_770
  let c1_i32_771 : BitVec 32 := 1#32
  let v738 : BitVec 32 := Scalar.addi v737 c1_i32_771
  let v740 : Index := Scalar.indexCast v738
  let c64_773 : Index := 64#32
  ![0, v740.toNat, 64]
def k0_off416 (v680 : BitVec 32) : Fin 4 → Nat :=
  let c1_i32_774 : BitVec 32 := 1#32
  let v744 : Index := Scalar.indexCast c1_i32_774
  let c9_i32_741 : BitVec 32 := 9#32
  let v681 : BitVec 32 := Scalar.shrsi v680 c9_i32_741
  let c15_i32_742 : BitVec 32 := 15#32
  let v682 : BitVec 32 := Scalar.andi v681 c15_i32_742
  let v745 : Index := Scalar.indexCast v682
  let c15_i32_743 : BitVec 32 := 15#32
  let v683 : BitVec 32 := Scalar.andi v680 c15_i32_743
  let v746 : Index := Scalar.indexCast v683
  let c80_775 : Index := 80#32
  ![1, v745.toNat, v746.toNat, 80]

def k0_chk37 (v680 : BitVec 32) : Prop :=
  (∀ a, (k0_off406 v680) a + S1x1x1x16.size a ≤ S2x16x16x96.size a) ∧
  (∀ a, (k0_off408 v680) a + S1x1x1x16.size a ≤ S2x16x16x96.size a) ∧
  (∀ a, (k0_off410 v680) a + S1x1x1x16.size a ≤ S2x16x16x96.size a) ∧
  (∀ a, (k0_off412 v680) a + S1x1x1x16.size a ≤ S2x16x16x96.size a) ∧
  (∀ a, (k0_off414 v680) a + S1x1x1x16.size a ≤ S2x16x16x96.size a) ∧
  (∀ a, (k0_off416 v680) a + S1x1x1x16.size a ≤ S2x16x16x96.size a)
theorem k0_off406_inb : ∀ (v680 : BitVec 32) (k0_hw37 : k0_chk37 v680), ∀ a, (k0_off406 v680) a + S1x1x1x16.size a ≤ S2x16x16x96.size a := fun v680 k0_hw37 => k0_hw37.1
theorem k0_off408_inb : ∀ (v680 : BitVec 32) (k0_hw37 : k0_chk37 v680), ∀ a, (k0_off408 v680) a + S1x1x1x16.size a ≤ S2x16x16x96.size a := fun v680 k0_hw37 => k0_hw37.2.1
theorem k0_off410_inb : ∀ (v680 : BitVec 32) (k0_hw37 : k0_chk37 v680), ∀ a, (k0_off410 v680) a + S1x1x1x16.size a ≤ S2x16x16x96.size a := fun v680 k0_hw37 => k0_hw37.2.2.1
theorem k0_off412_inb : ∀ (v680 : BitVec 32) (k0_hw37 : k0_chk37 v680), ∀ a, (k0_off412 v680) a + S1x1x1x16.size a ≤ S2x16x16x96.size a := fun v680 k0_hw37 => k0_hw37.2.2.2.1
theorem k0_off414_inb : ∀ (v680 : BitVec 32) (k0_hw37 : k0_chk37 v680), ∀ a, (k0_off414 v680) a + S1x1x1x16.size a ≤ S2x16x16x96.size a := fun v680 k0_hw37 => k0_hw37.2.2.2.2.1
theorem k0_off416_inb : ∀ (v680 : BitVec 32) (k0_hw37 : k0_chk37 v680), ∀ a, (k0_off416 v680) a + S1x1x1x16.size a ≤ S2x16x16x96.size a := fun v680 k0_hw37 => k0_hw37.2.2.2.2.2

def k0_off417 (k0_t4 : Fin k0_t4_loop.trips) : Fin 3 → Nat :=
  let c0_i32_778 : BitVec 32 := 0#32
  let v751 : Index := Scalar.indexCast c0_i32_778
  let c0_i32_673 : BitVec 32 := 0#32
  let c1_i32_675 : BitVec 32 := 1#32
  let arg13 : BitVec 32 := Scf.iv c0_i32_673 c1_i32_675 k0_t4
  let c16_i32_776 : BitVec 32 := 16#32
  let v749 : BitVec 32 := Scalar.muli arg13 c16_i32_776
  let c1_i32_777 : BitVec 32 := 1#32
  let v750 : BitVec 32 := Scalar.addi v749 c1_i32_777
  let v752 : Index := Scalar.indexCast v750
  let c80_779 : Index := 80#32
  ![0, v752.toNat, 80]
def k0_off418 (v757 : BitVec 32) : Fin 4 → Nat :=
  let c1_i32_783 : BitVec 32 := 1#32
  let v761 : Index := Scalar.indexCast c1_i32_783
  let c9_i32_780 : BitVec 32 := 9#32
  let v758 : BitVec 32 := Scalar.shrsi v757 c9_i32_780
  let c15_i32_781 : BitVec 32 := 15#32
  let v759 : BitVec 32 := Scalar.andi v758 c15_i32_781
  let v762 : Index := Scalar.indexCast v759
  let c15_i32_782 : BitVec 32 := 15#32
  let v760 : BitVec 32 := Scalar.andi v757 c15_i32_782
  let v763 : Index := Scalar.indexCast v760
  let c0_784 : Index := 0#32
  ![1, v762.toNat, v763.toNat, 0]

def k0_off419 (k0_t4 : Fin k0_t4_loop.trips) : Fin 3 → Nat :=
  let c0_i32_787 : BitVec 32 := 0#32
  let v768 : Index := Scalar.indexCast c0_i32_787
  let c0_i32_673 : BitVec 32 := 0#32
  let c1_i32_675 : BitVec 32 := 1#32
  let arg13 : BitVec 32 := Scf.iv c0_i32_673 c1_i32_675 k0_t4
  let c16_i32_785 : BitVec 32 := 16#32
  let v766 : BitVec 32 := Scalar.muli arg13 c16_i32_785
  let c2_i32_786 : BitVec 32 := 2#32
  let v767 : BitVec 32 := Scalar.addi v766 c2_i32_786
  let v769 : Index := Scalar.indexCast v767
  let c0_788 : Index := 0#32
  ![0, v769.toNat, 0]
def k0_off420 (v757 : BitVec 32) : Fin 4 → Nat :=
  let c1_i32_789 : BitVec 32 := 1#32
  let v773 : Index := Scalar.indexCast c1_i32_789
  let c9_i32_780 : BitVec 32 := 9#32
  let v758 : BitVec 32 := Scalar.shrsi v757 c9_i32_780
  let c15_i32_781 : BitVec 32 := 15#32
  let v759 : BitVec 32 := Scalar.andi v758 c15_i32_781
  let v774 : Index := Scalar.indexCast v759
  let c15_i32_782 : BitVec 32 := 15#32
  let v760 : BitVec 32 := Scalar.andi v757 c15_i32_782
  let v775 : Index := Scalar.indexCast v760
  let c16_790 : Index := 16#32
  ![1, v774.toNat, v775.toNat, 16]
def k0_off421 (k0_t4 : Fin k0_t4_loop.trips) : Fin 3 → Nat :=
  let c0_i32_793 : BitVec 32 := 0#32
  let v780 : Index := Scalar.indexCast c0_i32_793
  let c0_i32_673 : BitVec 32 := 0#32
  let c1_i32_675 : BitVec 32 := 1#32
  let arg13 : BitVec 32 := Scf.iv c0_i32_673 c1_i32_675 k0_t4
  let c16_i32_791 : BitVec 32 := 16#32
  let v778 : BitVec 32 := Scalar.muli arg13 c16_i32_791
  let c2_i32_792 : BitVec 32 := 2#32
  let v779 : BitVec 32 := Scalar.addi v778 c2_i32_792
  let v781 : Index := Scalar.indexCast v779
  let c16_794 : Index := 16#32
  ![0, v781.toNat, 16]
def k0_off422 (v757 : BitVec 32) : Fin 4 → Nat :=
  let c1_i32_795 : BitVec 32 := 1#32
  let v785 : Index := Scalar.indexCast c1_i32_795
  let c9_i32_780 : BitVec 32 := 9#32
  let v758 : BitVec 32 := Scalar.shrsi v757 c9_i32_780
  let c15_i32_781 : BitVec 32 := 15#32
  let v759 : BitVec 32 := Scalar.andi v758 c15_i32_781
  let v786 : Index := Scalar.indexCast v759
  let c15_i32_782 : BitVec 32 := 15#32
  let v760 : BitVec 32 := Scalar.andi v757 c15_i32_782
  let v787 : Index := Scalar.indexCast v760
  let c32_796 : Index := 32#32
  ![1, v786.toNat, v787.toNat, 32]
def k0_off423 (k0_t4 : Fin k0_t4_loop.trips) : Fin 3 → Nat :=
  let c0_i32_799 : BitVec 32 := 0#32
  let v792 : Index := Scalar.indexCast c0_i32_799
  let c0_i32_673 : BitVec 32 := 0#32
  let c1_i32_675 : BitVec 32 := 1#32
  let arg13 : BitVec 32 := Scf.iv c0_i32_673 c1_i32_675 k0_t4
  let c16_i32_797 : BitVec 32 := 16#32
  let v790 : BitVec 32 := Scalar.muli arg13 c16_i32_797
  let c2_i32_798 : BitVec 32 := 2#32
  let v791 : BitVec 32 := Scalar.addi v790 c2_i32_798
  let v793 : Index := Scalar.indexCast v791
  let c32_800 : Index := 32#32
  ![0, v793.toNat, 32]
def k0_off424 (v757 : BitVec 32) : Fin 4 → Nat :=
  let c1_i32_801 : BitVec 32 := 1#32
  let v797 : Index := Scalar.indexCast c1_i32_801
  let c9_i32_780 : BitVec 32 := 9#32
  let v758 : BitVec 32 := Scalar.shrsi v757 c9_i32_780
  let c15_i32_781 : BitVec 32 := 15#32
  let v759 : BitVec 32 := Scalar.andi v758 c15_i32_781
  let v798 : Index := Scalar.indexCast v759
  let c15_i32_782 : BitVec 32 := 15#32
  let v760 : BitVec 32 := Scalar.andi v757 c15_i32_782
  let v799 : Index := Scalar.indexCast v760
  let c48_802 : Index := 48#32
  ![1, v798.toNat, v799.toNat, 48]
def k0_off425 (k0_t4 : Fin k0_t4_loop.trips) : Fin 3 → Nat :=
  let c0_i32_805 : BitVec 32 := 0#32
  let v804 : Index := Scalar.indexCast c0_i32_805
  let c0_i32_673 : BitVec 32 := 0#32
  let c1_i32_675 : BitVec 32 := 1#32
  let arg13 : BitVec 32 := Scf.iv c0_i32_673 c1_i32_675 k0_t4
  let c16_i32_803 : BitVec 32 := 16#32
  let v802 : BitVec 32 := Scalar.muli arg13 c16_i32_803
  let c2_i32_804 : BitVec 32 := 2#32
  let v803 : BitVec 32 := Scalar.addi v802 c2_i32_804
  let v805 : Index := Scalar.indexCast v803
  let c48_806 : Index := 48#32
  ![0, v805.toNat, 48]
def k0_off426 (v757 : BitVec 32) : Fin 4 → Nat :=
  let c1_i32_807 : BitVec 32 := 1#32
  let v809 : Index := Scalar.indexCast c1_i32_807
  let c9_i32_780 : BitVec 32 := 9#32
  let v758 : BitVec 32 := Scalar.shrsi v757 c9_i32_780
  let c15_i32_781 : BitVec 32 := 15#32
  let v759 : BitVec 32 := Scalar.andi v758 c15_i32_781
  let v810 : Index := Scalar.indexCast v759
  let c15_i32_782 : BitVec 32 := 15#32
  let v760 : BitVec 32 := Scalar.andi v757 c15_i32_782
  let v811 : Index := Scalar.indexCast v760
  let c64_808 : Index := 64#32
  ![1, v810.toNat, v811.toNat, 64]
def k0_off427 (k0_t4 : Fin k0_t4_loop.trips) : Fin 3 → Nat :=
  let c0_i32_811 : BitVec 32 := 0#32
  let v816 : Index := Scalar.indexCast c0_i32_811
  let c0_i32_673 : BitVec 32 := 0#32
  let c1_i32_675 : BitVec 32 := 1#32
  let arg13 : BitVec 32 := Scf.iv c0_i32_673 c1_i32_675 k0_t4
  let c16_i32_809 : BitVec 32 := 16#32
  let v814 : BitVec 32 := Scalar.muli arg13 c16_i32_809
  let c2_i32_810 : BitVec 32 := 2#32
  let v815 : BitVec 32 := Scalar.addi v814 c2_i32_810
  let v817 : Index := Scalar.indexCast v815
  let c64_812 : Index := 64#32
  ![0, v817.toNat, 64]
def k0_off428 (v757 : BitVec 32) : Fin 4 → Nat :=
  let c1_i32_813 : BitVec 32 := 1#32
  let v821 : Index := Scalar.indexCast c1_i32_813
  let c9_i32_780 : BitVec 32 := 9#32
  let v758 : BitVec 32 := Scalar.shrsi v757 c9_i32_780
  let c15_i32_781 : BitVec 32 := 15#32
  let v759 : BitVec 32 := Scalar.andi v758 c15_i32_781
  let v822 : Index := Scalar.indexCast v759
  let c15_i32_782 : BitVec 32 := 15#32
  let v760 : BitVec 32 := Scalar.andi v757 c15_i32_782
  let v823 : Index := Scalar.indexCast v760
  let c80_814 : Index := 80#32
  ![1, v822.toNat, v823.toNat, 80]

def k0_chk38 (v757 : BitVec 32) : Prop :=
  (∀ a, (k0_off418 v757) a + S1x1x1x16.size a ≤ S2x16x16x96.size a) ∧
  (∀ a, (k0_off420 v757) a + S1x1x1x16.size a ≤ S2x16x16x96.size a) ∧
  (∀ a, (k0_off422 v757) a + S1x1x1x16.size a ≤ S2x16x16x96.size a) ∧
  (∀ a, (k0_off424 v757) a + S1x1x1x16.size a ≤ S2x16x16x96.size a) ∧
  (∀ a, (k0_off426 v757) a + S1x1x1x16.size a ≤ S2x16x16x96.size a) ∧
  (∀ a, (k0_off428 v757) a + S1x1x1x16.size a ≤ S2x16x16x96.size a)
theorem k0_off418_inb : ∀ (v757 : BitVec 32) (k0_hw38 : k0_chk38 v757), ∀ a, (k0_off418 v757) a + S1x1x1x16.size a ≤ S2x16x16x96.size a := fun v757 k0_hw38 => k0_hw38.1
theorem k0_off420_inb : ∀ (v757 : BitVec 32) (k0_hw38 : k0_chk38 v757), ∀ a, (k0_off420 v757) a + S1x1x1x16.size a ≤ S2x16x16x96.size a := fun v757 k0_hw38 => k0_hw38.2.1
theorem k0_off422_inb : ∀ (v757 : BitVec 32) (k0_hw38 : k0_chk38 v757), ∀ a, (k0_off422 v757) a + S1x1x1x16.size a ≤ S2x16x16x96.size a := fun v757 k0_hw38 => k0_hw38.2.2.1
theorem k0_off424_inb : ∀ (v757 : BitVec 32) (k0_hw38 : k0_chk38 v757), ∀ a, (k0_off424 v757) a + S1x1x1x16.size a ≤ S2x16x16x96.size a := fun v757 k0_hw38 => k0_hw38.2.2.2.1
theorem k0_off426_inb : ∀ (v757 : BitVec 32) (k0_hw38 : k0_chk38 v757), ∀ a, (k0_off426 v757) a + S1x1x1x16.size a ≤ S2x16x16x96.size a := fun v757 k0_hw38 => k0_hw38.2.2.2.2.1
theorem k0_off428_inb : ∀ (v757 : BitVec 32) (k0_hw38 : k0_chk38 v757), ∀ a, (k0_off428 v757) a + S1x1x1x16.size a ≤ S2x16x16x96.size a := fun v757 k0_hw38 => k0_hw38.2.2.2.2.2

def k0_off429 (k0_t4 : Fin k0_t4_loop.trips) : Fin 3 → Nat :=
  let c0_i32_817 : BitVec 32 := 0#32
  let v828 : Index := Scalar.indexCast c0_i32_817
  let c0_i32_673 : BitVec 32 := 0#32
  let c1_i32_675 : BitVec 32 := 1#32
  let arg13 : BitVec 32 := Scf.iv c0_i32_673 c1_i32_675 k0_t4
  let c16_i32_815 : BitVec 32 := 16#32
  let v826 : BitVec 32 := Scalar.muli arg13 c16_i32_815
  let c2_i32_816 : BitVec 32 := 2#32
  let v827 : BitVec 32 := Scalar.addi v826 c2_i32_816
  let v829 : Index := Scalar.indexCast v827
  let c80_818 : Index := 80#32
  ![0, v829.toNat, 80]
def k0_off430 (v834 : BitVec 32) : Fin 4 → Nat :=
  let c1_i32_822 : BitVec 32 := 1#32
  let v838 : Index := Scalar.indexCast c1_i32_822
  let c9_i32_819 : BitVec 32 := 9#32
  let v835 : BitVec 32 := Scalar.shrsi v834 c9_i32_819
  let c15_i32_820 : BitVec 32 := 15#32
  let v836 : BitVec 32 := Scalar.andi v835 c15_i32_820
  let v839 : Index := Scalar.indexCast v836
  let c15_i32_821 : BitVec 32 := 15#32
  let v837 : BitVec 32 := Scalar.andi v834 c15_i32_821
  let v840 : Index := Scalar.indexCast v837
  let c0_823 : Index := 0#32
  ![1, v839.toNat, v840.toNat, 0]

def k0_off431 (k0_t4 : Fin k0_t4_loop.trips) : Fin 3 → Nat :=
  let c0_i32_826 : BitVec 32 := 0#32
  let v845 : Index := Scalar.indexCast c0_i32_826
  let c0_i32_673 : BitVec 32 := 0#32
  let c1_i32_675 : BitVec 32 := 1#32
  let arg13 : BitVec 32 := Scf.iv c0_i32_673 c1_i32_675 k0_t4
  let c16_i32_824 : BitVec 32 := 16#32
  let v843 : BitVec 32 := Scalar.muli arg13 c16_i32_824
  let c3_i32_825 : BitVec 32 := 3#32
  let v844 : BitVec 32 := Scalar.addi v843 c3_i32_825
  let v846 : Index := Scalar.indexCast v844
  let c0_827 : Index := 0#32
  ![0, v846.toNat, 0]
def k0_off432 (v834 : BitVec 32) : Fin 4 → Nat :=
  let c1_i32_828 : BitVec 32 := 1#32
  let v850 : Index := Scalar.indexCast c1_i32_828
  let c9_i32_819 : BitVec 32 := 9#32
  let v835 : BitVec 32 := Scalar.shrsi v834 c9_i32_819
  let c15_i32_820 : BitVec 32 := 15#32
  let v836 : BitVec 32 := Scalar.andi v835 c15_i32_820
  let v851 : Index := Scalar.indexCast v836
  let c15_i32_821 : BitVec 32 := 15#32
  let v837 : BitVec 32 := Scalar.andi v834 c15_i32_821
  let v852 : Index := Scalar.indexCast v837
  let c16_829 : Index := 16#32
  ![1, v851.toNat, v852.toNat, 16]
def k0_off433 (k0_t4 : Fin k0_t4_loop.trips) : Fin 3 → Nat :=
  let c0_i32_832 : BitVec 32 := 0#32
  let v857 : Index := Scalar.indexCast c0_i32_832
  let c0_i32_673 : BitVec 32 := 0#32
  let c1_i32_675 : BitVec 32 := 1#32
  let arg13 : BitVec 32 := Scf.iv c0_i32_673 c1_i32_675 k0_t4
  let c16_i32_830 : BitVec 32 := 16#32
  let v855 : BitVec 32 := Scalar.muli arg13 c16_i32_830
  let c3_i32_831 : BitVec 32 := 3#32
  let v856 : BitVec 32 := Scalar.addi v855 c3_i32_831
  let v858 : Index := Scalar.indexCast v856
  let c16_833 : Index := 16#32
  ![0, v858.toNat, 16]
def k0_off434 (v834 : BitVec 32) : Fin 4 → Nat :=
  let c1_i32_834 : BitVec 32 := 1#32
  let v862 : Index := Scalar.indexCast c1_i32_834
  let c9_i32_819 : BitVec 32 := 9#32
  let v835 : BitVec 32 := Scalar.shrsi v834 c9_i32_819
  let c15_i32_820 : BitVec 32 := 15#32
  let v836 : BitVec 32 := Scalar.andi v835 c15_i32_820
  let v863 : Index := Scalar.indexCast v836
  let c15_i32_821 : BitVec 32 := 15#32
  let v837 : BitVec 32 := Scalar.andi v834 c15_i32_821
  let v864 : Index := Scalar.indexCast v837
  let c32_835 : Index := 32#32
  ![1, v863.toNat, v864.toNat, 32]
def k0_off435 (k0_t4 : Fin k0_t4_loop.trips) : Fin 3 → Nat :=
  let c0_i32_838 : BitVec 32 := 0#32
  let v869 : Index := Scalar.indexCast c0_i32_838
  let c0_i32_673 : BitVec 32 := 0#32
  let c1_i32_675 : BitVec 32 := 1#32
  let arg13 : BitVec 32 := Scf.iv c0_i32_673 c1_i32_675 k0_t4
  let c16_i32_836 : BitVec 32 := 16#32
  let v867 : BitVec 32 := Scalar.muli arg13 c16_i32_836
  let c3_i32_837 : BitVec 32 := 3#32
  let v868 : BitVec 32 := Scalar.addi v867 c3_i32_837
  let v870 : Index := Scalar.indexCast v868
  let c32_839 : Index := 32#32
  ![0, v870.toNat, 32]
def k0_off436 (v834 : BitVec 32) : Fin 4 → Nat :=
  let c1_i32_840 : BitVec 32 := 1#32
  let v874 : Index := Scalar.indexCast c1_i32_840
  let c9_i32_819 : BitVec 32 := 9#32
  let v835 : BitVec 32 := Scalar.shrsi v834 c9_i32_819
  let c15_i32_820 : BitVec 32 := 15#32
  let v836 : BitVec 32 := Scalar.andi v835 c15_i32_820
  let v875 : Index := Scalar.indexCast v836
  let c15_i32_821 : BitVec 32 := 15#32
  let v837 : BitVec 32 := Scalar.andi v834 c15_i32_821
  let v876 : Index := Scalar.indexCast v837
  let c48_841 : Index := 48#32
  ![1, v875.toNat, v876.toNat, 48]
def k0_off437 (k0_t4 : Fin k0_t4_loop.trips) : Fin 3 → Nat :=
  let c0_i32_844 : BitVec 32 := 0#32
  let v881 : Index := Scalar.indexCast c0_i32_844
  let c0_i32_673 : BitVec 32 := 0#32
  let c1_i32_675 : BitVec 32 := 1#32
  let arg13 : BitVec 32 := Scf.iv c0_i32_673 c1_i32_675 k0_t4
  let c16_i32_842 : BitVec 32 := 16#32
  let v879 : BitVec 32 := Scalar.muli arg13 c16_i32_842
  let c3_i32_843 : BitVec 32 := 3#32
  let v880 : BitVec 32 := Scalar.addi v879 c3_i32_843
  let v882 : Index := Scalar.indexCast v880
  let c48_845 : Index := 48#32
  ![0, v882.toNat, 48]
def k0_off438 (v834 : BitVec 32) : Fin 4 → Nat :=
  let c1_i32_846 : BitVec 32 := 1#32
  let v886 : Index := Scalar.indexCast c1_i32_846
  let c9_i32_819 : BitVec 32 := 9#32
  let v835 : BitVec 32 := Scalar.shrsi v834 c9_i32_819
  let c15_i32_820 : BitVec 32 := 15#32
  let v836 : BitVec 32 := Scalar.andi v835 c15_i32_820
  let v887 : Index := Scalar.indexCast v836
  let c15_i32_821 : BitVec 32 := 15#32
  let v837 : BitVec 32 := Scalar.andi v834 c15_i32_821
  let v888 : Index := Scalar.indexCast v837
  let c64_847 : Index := 64#32
  ![1, v887.toNat, v888.toNat, 64]
def k0_off439 (k0_t4 : Fin k0_t4_loop.trips) : Fin 3 → Nat :=
  let c0_i32_850 : BitVec 32 := 0#32
  let v893 : Index := Scalar.indexCast c0_i32_850
  let c0_i32_673 : BitVec 32 := 0#32
  let c1_i32_675 : BitVec 32 := 1#32
  let arg13 : BitVec 32 := Scf.iv c0_i32_673 c1_i32_675 k0_t4
  let c16_i32_848 : BitVec 32 := 16#32
  let v891 : BitVec 32 := Scalar.muli arg13 c16_i32_848
  let c3_i32_849 : BitVec 32 := 3#32
  let v892 : BitVec 32 := Scalar.addi v891 c3_i32_849
  let v894 : Index := Scalar.indexCast v892
  let c64_851 : Index := 64#32
  ![0, v894.toNat, 64]
def k0_off440 (v834 : BitVec 32) : Fin 4 → Nat :=
  let c1_i32_852 : BitVec 32 := 1#32
  let v898 : Index := Scalar.indexCast c1_i32_852
  let c9_i32_819 : BitVec 32 := 9#32
  let v835 : BitVec 32 := Scalar.shrsi v834 c9_i32_819
  let c15_i32_820 : BitVec 32 := 15#32
  let v836 : BitVec 32 := Scalar.andi v835 c15_i32_820
  let v899 : Index := Scalar.indexCast v836
  let c15_i32_821 : BitVec 32 := 15#32
  let v837 : BitVec 32 := Scalar.andi v834 c15_i32_821
  let v900 : Index := Scalar.indexCast v837
  let c80_853 : Index := 80#32
  ![1, v899.toNat, v900.toNat, 80]

def k0_chk39 (v834 : BitVec 32) : Prop :=
  (∀ a, (k0_off430 v834) a + S1x1x1x16.size a ≤ S2x16x16x96.size a) ∧
  (∀ a, (k0_off432 v834) a + S1x1x1x16.size a ≤ S2x16x16x96.size a) ∧
  (∀ a, (k0_off434 v834) a + S1x1x1x16.size a ≤ S2x16x16x96.size a) ∧
  (∀ a, (k0_off436 v834) a + S1x1x1x16.size a ≤ S2x16x16x96.size a) ∧
  (∀ a, (k0_off438 v834) a + S1x1x1x16.size a ≤ S2x16x16x96.size a) ∧
  (∀ a, (k0_off440 v834) a + S1x1x1x16.size a ≤ S2x16x16x96.size a)
theorem k0_off430_inb : ∀ (v834 : BitVec 32) (k0_hw39 : k0_chk39 v834), ∀ a, (k0_off430 v834) a + S1x1x1x16.size a ≤ S2x16x16x96.size a := fun v834 k0_hw39 => k0_hw39.1
theorem k0_off432_inb : ∀ (v834 : BitVec 32) (k0_hw39 : k0_chk39 v834), ∀ a, (k0_off432 v834) a + S1x1x1x16.size a ≤ S2x16x16x96.size a := fun v834 k0_hw39 => k0_hw39.2.1
theorem k0_off434_inb : ∀ (v834 : BitVec 32) (k0_hw39 : k0_chk39 v834), ∀ a, (k0_off434 v834) a + S1x1x1x16.size a ≤ S2x16x16x96.size a := fun v834 k0_hw39 => k0_hw39.2.2.1
theorem k0_off436_inb : ∀ (v834 : BitVec 32) (k0_hw39 : k0_chk39 v834), ∀ a, (k0_off436 v834) a + S1x1x1x16.size a ≤ S2x16x16x96.size a := fun v834 k0_hw39 => k0_hw39.2.2.2.1
theorem k0_off438_inb : ∀ (v834 : BitVec 32) (k0_hw39 : k0_chk39 v834), ∀ a, (k0_off438 v834) a + S1x1x1x16.size a ≤ S2x16x16x96.size a := fun v834 k0_hw39 => k0_hw39.2.2.2.2.1
theorem k0_off440_inb : ∀ (v834 : BitVec 32) (k0_hw39 : k0_chk39 v834), ∀ a, (k0_off440 v834) a + S1x1x1x16.size a ≤ S2x16x16x96.size a := fun v834 k0_hw39 => k0_hw39.2.2.2.2.2

def k0_off441 (k0_t4 : Fin k0_t4_loop.trips) : Fin 3 → Nat :=
  let c0_i32_856 : BitVec 32 := 0#32
  let v905 : Index := Scalar.indexCast c0_i32_856
  let c0_i32_673 : BitVec 32 := 0#32
  let c1_i32_675 : BitVec 32 := 1#32
  let arg13 : BitVec 32 := Scf.iv c0_i32_673 c1_i32_675 k0_t4
  let c16_i32_854 : BitVec 32 := 16#32
  let v903 : BitVec 32 := Scalar.muli arg13 c16_i32_854
  let c3_i32_855 : BitVec 32 := 3#32
  let v904 : BitVec 32 := Scalar.addi v903 c3_i32_855
  let v906 : Index := Scalar.indexCast v904
  let c80_857 : Index := 80#32
  ![0, v906.toNat, 80]
def k0_off442 (v911 : BitVec 32) : Fin 4 → Nat :=
  let c1_i32_861 : BitVec 32 := 1#32
  let v915 : Index := Scalar.indexCast c1_i32_861
  let c9_i32_858 : BitVec 32 := 9#32
  let v912 : BitVec 32 := Scalar.shrsi v911 c9_i32_858
  let c15_i32_859 : BitVec 32 := 15#32
  let v913 : BitVec 32 := Scalar.andi v912 c15_i32_859
  let v916 : Index := Scalar.indexCast v913
  let c15_i32_860 : BitVec 32 := 15#32
  let v914 : BitVec 32 := Scalar.andi v911 c15_i32_860
  let v917 : Index := Scalar.indexCast v914
  let c0_862 : Index := 0#32
  ![1, v916.toNat, v917.toNat, 0]

def k0_off443 (k0_t4 : Fin k0_t4_loop.trips) : Fin 3 → Nat :=
  let c0_i32_865 : BitVec 32 := 0#32
  let v922 : Index := Scalar.indexCast c0_i32_865
  let c0_i32_673 : BitVec 32 := 0#32
  let c1_i32_675 : BitVec 32 := 1#32
  let arg13 : BitVec 32 := Scf.iv c0_i32_673 c1_i32_675 k0_t4
  let c16_i32_863 : BitVec 32 := 16#32
  let v920 : BitVec 32 := Scalar.muli arg13 c16_i32_863
  let c4_i32_864 : BitVec 32 := 4#32
  let v921 : BitVec 32 := Scalar.addi v920 c4_i32_864
  let v923 : Index := Scalar.indexCast v921
  let c0_866 : Index := 0#32
  ![0, v923.toNat, 0]
def k0_off444 (v911 : BitVec 32) : Fin 4 → Nat :=
  let c1_i32_867 : BitVec 32 := 1#32
  let v927 : Index := Scalar.indexCast c1_i32_867
  let c9_i32_858 : BitVec 32 := 9#32
  let v912 : BitVec 32 := Scalar.shrsi v911 c9_i32_858
  let c15_i32_859 : BitVec 32 := 15#32
  let v913 : BitVec 32 := Scalar.andi v912 c15_i32_859
  let v928 : Index := Scalar.indexCast v913
  let c15_i32_860 : BitVec 32 := 15#32
  let v914 : BitVec 32 := Scalar.andi v911 c15_i32_860
  let v929 : Index := Scalar.indexCast v914
  let c16_868 : Index := 16#32
  ![1, v928.toNat, v929.toNat, 16]
def k0_off445 (k0_t4 : Fin k0_t4_loop.trips) : Fin 3 → Nat :=
  let c0_i32_871 : BitVec 32 := 0#32
  let v934 : Index := Scalar.indexCast c0_i32_871
  let c0_i32_673 : BitVec 32 := 0#32
  let c1_i32_675 : BitVec 32 := 1#32
  let arg13 : BitVec 32 := Scf.iv c0_i32_673 c1_i32_675 k0_t4
  let c16_i32_869 : BitVec 32 := 16#32
  let v932 : BitVec 32 := Scalar.muli arg13 c16_i32_869
  let c4_i32_870 : BitVec 32 := 4#32
  let v933 : BitVec 32 := Scalar.addi v932 c4_i32_870
  let v935 : Index := Scalar.indexCast v933
  let c16_872 : Index := 16#32
  ![0, v935.toNat, 16]
def k0_off446 (v911 : BitVec 32) : Fin 4 → Nat :=
  let c1_i32_873 : BitVec 32 := 1#32
  let v939 : Index := Scalar.indexCast c1_i32_873
  let c9_i32_858 : BitVec 32 := 9#32
  let v912 : BitVec 32 := Scalar.shrsi v911 c9_i32_858
  let c15_i32_859 : BitVec 32 := 15#32
  let v913 : BitVec 32 := Scalar.andi v912 c15_i32_859
  let v940 : Index := Scalar.indexCast v913
  let c15_i32_860 : BitVec 32 := 15#32
  let v914 : BitVec 32 := Scalar.andi v911 c15_i32_860
  let v941 : Index := Scalar.indexCast v914
  let c32_874 : Index := 32#32
  ![1, v940.toNat, v941.toNat, 32]
def k0_off447 (k0_t4 : Fin k0_t4_loop.trips) : Fin 3 → Nat :=
  let c0_i32_877 : BitVec 32 := 0#32
  let v946 : Index := Scalar.indexCast c0_i32_877
  let c0_i32_673 : BitVec 32 := 0#32
  let c1_i32_675 : BitVec 32 := 1#32
  let arg13 : BitVec 32 := Scf.iv c0_i32_673 c1_i32_675 k0_t4
  let c16_i32_875 : BitVec 32 := 16#32
  let v944 : BitVec 32 := Scalar.muli arg13 c16_i32_875
  let c4_i32_876 : BitVec 32 := 4#32
  let v945 : BitVec 32 := Scalar.addi v944 c4_i32_876
  let v947 : Index := Scalar.indexCast v945
  let c32_878 : Index := 32#32
  ![0, v947.toNat, 32]
def k0_off448 (v911 : BitVec 32) : Fin 4 → Nat :=
  let c1_i32_879 : BitVec 32 := 1#32
  let v951 : Index := Scalar.indexCast c1_i32_879
  let c9_i32_858 : BitVec 32 := 9#32
  let v912 : BitVec 32 := Scalar.shrsi v911 c9_i32_858
  let c15_i32_859 : BitVec 32 := 15#32
  let v913 : BitVec 32 := Scalar.andi v912 c15_i32_859
  let v952 : Index := Scalar.indexCast v913
  let c15_i32_860 : BitVec 32 := 15#32
  let v914 : BitVec 32 := Scalar.andi v911 c15_i32_860
  let v953 : Index := Scalar.indexCast v914
  let c48_880 : Index := 48#32
  ![1, v952.toNat, v953.toNat, 48]
def k0_off449 (k0_t4 : Fin k0_t4_loop.trips) : Fin 3 → Nat :=
  let c0_i32_883 : BitVec 32 := 0#32
  let v958 : Index := Scalar.indexCast c0_i32_883
  let c0_i32_673 : BitVec 32 := 0#32
  let c1_i32_675 : BitVec 32 := 1#32
  let arg13 : BitVec 32 := Scf.iv c0_i32_673 c1_i32_675 k0_t4
  let c16_i32_881 : BitVec 32 := 16#32
  let v956 : BitVec 32 := Scalar.muli arg13 c16_i32_881
  let c4_i32_882 : BitVec 32 := 4#32
  let v957 : BitVec 32 := Scalar.addi v956 c4_i32_882
  let v959 : Index := Scalar.indexCast v957
  let c48_884 : Index := 48#32
  ![0, v959.toNat, 48]
def k0_off450 (v911 : BitVec 32) : Fin 4 → Nat :=
  let c1_i32_885 : BitVec 32 := 1#32
  let v963 : Index := Scalar.indexCast c1_i32_885
  let c9_i32_858 : BitVec 32 := 9#32
  let v912 : BitVec 32 := Scalar.shrsi v911 c9_i32_858
  let c15_i32_859 : BitVec 32 := 15#32
  let v913 : BitVec 32 := Scalar.andi v912 c15_i32_859
  let v964 : Index := Scalar.indexCast v913
  let c15_i32_860 : BitVec 32 := 15#32
  let v914 : BitVec 32 := Scalar.andi v911 c15_i32_860
  let v965 : Index := Scalar.indexCast v914
  let c64_886 : Index := 64#32
  ![1, v964.toNat, v965.toNat, 64]
def k0_off451 (k0_t4 : Fin k0_t4_loop.trips) : Fin 3 → Nat :=
  let c0_i32_889 : BitVec 32 := 0#32
  let v970 : Index := Scalar.indexCast c0_i32_889
  let c0_i32_673 : BitVec 32 := 0#32
  let c1_i32_675 : BitVec 32 := 1#32
  let arg13 : BitVec 32 := Scf.iv c0_i32_673 c1_i32_675 k0_t4
  let c16_i32_887 : BitVec 32 := 16#32
  let v968 : BitVec 32 := Scalar.muli arg13 c16_i32_887
  let c4_i32_888 : BitVec 32 := 4#32
  let v969 : BitVec 32 := Scalar.addi v968 c4_i32_888
  let v971 : Index := Scalar.indexCast v969
  let c64_890 : Index := 64#32
  ![0, v971.toNat, 64]
def k0_off452 (v911 : BitVec 32) : Fin 4 → Nat :=
  let c1_i32_891 : BitVec 32 := 1#32
  let v975 : Index := Scalar.indexCast c1_i32_891
  let c9_i32_858 : BitVec 32 := 9#32
  let v912 : BitVec 32 := Scalar.shrsi v911 c9_i32_858
  let c15_i32_859 : BitVec 32 := 15#32
  let v913 : BitVec 32 := Scalar.andi v912 c15_i32_859
  let v976 : Index := Scalar.indexCast v913
  let c15_i32_860 : BitVec 32 := 15#32
  let v914 : BitVec 32 := Scalar.andi v911 c15_i32_860
  let v977 : Index := Scalar.indexCast v914
  let c80_892 : Index := 80#32
  ![1, v976.toNat, v977.toNat, 80]

def k0_chk40 (v911 : BitVec 32) : Prop :=
  (∀ a, (k0_off442 v911) a + S1x1x1x16.size a ≤ S2x16x16x96.size a) ∧
  (∀ a, (k0_off444 v911) a + S1x1x1x16.size a ≤ S2x16x16x96.size a) ∧
  (∀ a, (k0_off446 v911) a + S1x1x1x16.size a ≤ S2x16x16x96.size a) ∧
  (∀ a, (k0_off448 v911) a + S1x1x1x16.size a ≤ S2x16x16x96.size a) ∧
  (∀ a, (k0_off450 v911) a + S1x1x1x16.size a ≤ S2x16x16x96.size a) ∧
  (∀ a, (k0_off452 v911) a + S1x1x1x16.size a ≤ S2x16x16x96.size a)
theorem k0_off442_inb : ∀ (v911 : BitVec 32) (k0_hw40 : k0_chk40 v911), ∀ a, (k0_off442 v911) a + S1x1x1x16.size a ≤ S2x16x16x96.size a := fun v911 k0_hw40 => k0_hw40.1
theorem k0_off444_inb : ∀ (v911 : BitVec 32) (k0_hw40 : k0_chk40 v911), ∀ a, (k0_off444 v911) a + S1x1x1x16.size a ≤ S2x16x16x96.size a := fun v911 k0_hw40 => k0_hw40.2.1
theorem k0_off446_inb : ∀ (v911 : BitVec 32) (k0_hw40 : k0_chk40 v911), ∀ a, (k0_off446 v911) a + S1x1x1x16.size a ≤ S2x16x16x96.size a := fun v911 k0_hw40 => k0_hw40.2.2.1
theorem k0_off448_inb : ∀ (v911 : BitVec 32) (k0_hw40 : k0_chk40 v911), ∀ a, (k0_off448 v911) a + S1x1x1x16.size a ≤ S2x16x16x96.size a := fun v911 k0_hw40 => k0_hw40.2.2.2.1
theorem k0_off450_inb : ∀ (v911 : BitVec 32) (k0_hw40 : k0_chk40 v911), ∀ a, (k0_off450 v911) a + S1x1x1x16.size a ≤ S2x16x16x96.size a := fun v911 k0_hw40 => k0_hw40.2.2.2.2.1
theorem k0_off452_inb : ∀ (v911 : BitVec 32) (k0_hw40 : k0_chk40 v911), ∀ a, (k0_off452 v911) a + S1x1x1x16.size a ≤ S2x16x16x96.size a := fun v911 k0_hw40 => k0_hw40.2.2.2.2.2

def k0_off453 (k0_t4 : Fin k0_t4_loop.trips) : Fin 3 → Nat :=
  let c0_i32_895 : BitVec 32 := 0#32
  let v982 : Index := Scalar.indexCast c0_i32_895
  let c0_i32_673 : BitVec 32 := 0#32
  let c1_i32_675 : BitVec 32 := 1#32
  let arg13 : BitVec 32 := Scf.iv c0_i32_673 c1_i32_675 k0_t4
  let c16_i32_893 : BitVec 32 := 16#32
  let v980 : BitVec 32 := Scalar.muli arg13 c16_i32_893
  let c4_i32_894 : BitVec 32 := 4#32
  let v981 : BitVec 32 := Scalar.addi v980 c4_i32_894
  let v983 : Index := Scalar.indexCast v981
  let c80_896 : Index := 80#32
  ![0, v983.toNat, 80]
def k0_off454 (v988 : BitVec 32) : Fin 4 → Nat :=
  let c1_i32_900 : BitVec 32 := 1#32
  let v992 : Index := Scalar.indexCast c1_i32_900
  let c9_i32_897 : BitVec 32 := 9#32
  let v989 : BitVec 32 := Scalar.shrsi v988 c9_i32_897
  let c15_i32_898 : BitVec 32 := 15#32
  let v990 : BitVec 32 := Scalar.andi v989 c15_i32_898
  let v993 : Index := Scalar.indexCast v990
  let c15_i32_899 : BitVec 32 := 15#32
  let v991 : BitVec 32 := Scalar.andi v988 c15_i32_899
  let v994 : Index := Scalar.indexCast v991
  let c0_901 : Index := 0#32
  ![1, v993.toNat, v994.toNat, 0]

def k0_off455 (k0_t4 : Fin k0_t4_loop.trips) : Fin 3 → Nat :=
  let c0_i32_904 : BitVec 32 := 0#32
  let v999 : Index := Scalar.indexCast c0_i32_904
  let c0_i32_673 : BitVec 32 := 0#32
  let c1_i32_675 : BitVec 32 := 1#32
  let arg13 : BitVec 32 := Scf.iv c0_i32_673 c1_i32_675 k0_t4
  let c16_i32_902 : BitVec 32 := 16#32
  let v997 : BitVec 32 := Scalar.muli arg13 c16_i32_902
  let c5_i32_903 : BitVec 32 := 5#32
  let v998 : BitVec 32 := Scalar.addi v997 c5_i32_903
  let v1000 : Index := Scalar.indexCast v998
  let c0_905 : Index := 0#32
  ![0, v1000.toNat, 0]
def k0_off456 (v988 : BitVec 32) : Fin 4 → Nat :=
  let c1_i32_906 : BitVec 32 := 1#32
  let v1004 : Index := Scalar.indexCast c1_i32_906
  let c9_i32_897 : BitVec 32 := 9#32
  let v989 : BitVec 32 := Scalar.shrsi v988 c9_i32_897
  let c15_i32_898 : BitVec 32 := 15#32
  let v990 : BitVec 32 := Scalar.andi v989 c15_i32_898
  let v1005 : Index := Scalar.indexCast v990
  let c15_i32_899 : BitVec 32 := 15#32
  let v991 : BitVec 32 := Scalar.andi v988 c15_i32_899
  let v1006 : Index := Scalar.indexCast v991
  let c16_907 : Index := 16#32
  ![1, v1005.toNat, v1006.toNat, 16]
def k0_off457 (k0_t4 : Fin k0_t4_loop.trips) : Fin 3 → Nat :=
  let c0_i32_910 : BitVec 32 := 0#32
  let v1011 : Index := Scalar.indexCast c0_i32_910
  let c0_i32_673 : BitVec 32 := 0#32
  let c1_i32_675 : BitVec 32 := 1#32
  let arg13 : BitVec 32 := Scf.iv c0_i32_673 c1_i32_675 k0_t4
  let c16_i32_908 : BitVec 32 := 16#32
  let v1009 : BitVec 32 := Scalar.muli arg13 c16_i32_908
  let c5_i32_909 : BitVec 32 := 5#32
  let v1010 : BitVec 32 := Scalar.addi v1009 c5_i32_909
  let v1012 : Index := Scalar.indexCast v1010
  let c16_911 : Index := 16#32
  ![0, v1012.toNat, 16]
def k0_off458 (v988 : BitVec 32) : Fin 4 → Nat :=
  let c1_i32_912 : BitVec 32 := 1#32
  let v1016 : Index := Scalar.indexCast c1_i32_912
  let c9_i32_897 : BitVec 32 := 9#32
  let v989 : BitVec 32 := Scalar.shrsi v988 c9_i32_897
  let c15_i32_898 : BitVec 32 := 15#32
  let v990 : BitVec 32 := Scalar.andi v989 c15_i32_898
  let v1017 : Index := Scalar.indexCast v990
  let c15_i32_899 : BitVec 32 := 15#32
  let v991 : BitVec 32 := Scalar.andi v988 c15_i32_899
  let v1018 : Index := Scalar.indexCast v991
  let c32_913 : Index := 32#32
  ![1, v1017.toNat, v1018.toNat, 32]
def k0_off459 (k0_t4 : Fin k0_t4_loop.trips) : Fin 3 → Nat :=
  let c0_i32_916 : BitVec 32 := 0#32
  let v1023 : Index := Scalar.indexCast c0_i32_916
  let c0_i32_673 : BitVec 32 := 0#32
  let c1_i32_675 : BitVec 32 := 1#32
  let arg13 : BitVec 32 := Scf.iv c0_i32_673 c1_i32_675 k0_t4
  let c16_i32_914 : BitVec 32 := 16#32
  let v1021 : BitVec 32 := Scalar.muli arg13 c16_i32_914
  let c5_i32_915 : BitVec 32 := 5#32
  let v1022 : BitVec 32 := Scalar.addi v1021 c5_i32_915
  let v1024 : Index := Scalar.indexCast v1022
  let c32_917 : Index := 32#32
  ![0, v1024.toNat, 32]
def k0_off460 (v988 : BitVec 32) : Fin 4 → Nat :=
  let c1_i32_918 : BitVec 32 := 1#32
  let v1028 : Index := Scalar.indexCast c1_i32_918
  let c9_i32_897 : BitVec 32 := 9#32
  let v989 : BitVec 32 := Scalar.shrsi v988 c9_i32_897
  let c15_i32_898 : BitVec 32 := 15#32
  let v990 : BitVec 32 := Scalar.andi v989 c15_i32_898
  let v1029 : Index := Scalar.indexCast v990
  let c15_i32_899 : BitVec 32 := 15#32
  let v991 : BitVec 32 := Scalar.andi v988 c15_i32_899
  let v1030 : Index := Scalar.indexCast v991
  let c48_919 : Index := 48#32
  ![1, v1029.toNat, v1030.toNat, 48]
def k0_off461 (k0_t4 : Fin k0_t4_loop.trips) : Fin 3 → Nat :=
  let c0_i32_922 : BitVec 32 := 0#32
  let v1035 : Index := Scalar.indexCast c0_i32_922
  let c0_i32_673 : BitVec 32 := 0#32
  let c1_i32_675 : BitVec 32 := 1#32
  let arg13 : BitVec 32 := Scf.iv c0_i32_673 c1_i32_675 k0_t4
  let c16_i32_920 : BitVec 32 := 16#32
  let v1033 : BitVec 32 := Scalar.muli arg13 c16_i32_920
  let c5_i32_921 : BitVec 32 := 5#32
  let v1034 : BitVec 32 := Scalar.addi v1033 c5_i32_921
  let v1036 : Index := Scalar.indexCast v1034
  let c48_923 : Index := 48#32
  ![0, v1036.toNat, 48]
def k0_off462 (v988 : BitVec 32) : Fin 4 → Nat :=
  let c1_i32_924 : BitVec 32 := 1#32
  let v1040 : Index := Scalar.indexCast c1_i32_924
  let c9_i32_897 : BitVec 32 := 9#32
  let v989 : BitVec 32 := Scalar.shrsi v988 c9_i32_897
  let c15_i32_898 : BitVec 32 := 15#32
  let v990 : BitVec 32 := Scalar.andi v989 c15_i32_898
  let v1041 : Index := Scalar.indexCast v990
  let c15_i32_899 : BitVec 32 := 15#32
  let v991 : BitVec 32 := Scalar.andi v988 c15_i32_899
  let v1042 : Index := Scalar.indexCast v991
  let c64_925 : Index := 64#32
  ![1, v1041.toNat, v1042.toNat, 64]
def k0_off463 (k0_t4 : Fin k0_t4_loop.trips) : Fin 3 → Nat :=
  let c0_i32_928 : BitVec 32 := 0#32
  let v1047 : Index := Scalar.indexCast c0_i32_928
  let c0_i32_673 : BitVec 32 := 0#32
  let c1_i32_675 : BitVec 32 := 1#32
  let arg13 : BitVec 32 := Scf.iv c0_i32_673 c1_i32_675 k0_t4
  let c16_i32_926 : BitVec 32 := 16#32
  let v1045 : BitVec 32 := Scalar.muli arg13 c16_i32_926
  let c5_i32_927 : BitVec 32 := 5#32
  let v1046 : BitVec 32 := Scalar.addi v1045 c5_i32_927
  let v1048 : Index := Scalar.indexCast v1046
  let c64_929 : Index := 64#32
  ![0, v1048.toNat, 64]
def k0_off464 (v988 : BitVec 32) : Fin 4 → Nat :=
  let c1_i32_930 : BitVec 32 := 1#32
  let v1052 : Index := Scalar.indexCast c1_i32_930
  let c9_i32_897 : BitVec 32 := 9#32
  let v989 : BitVec 32 := Scalar.shrsi v988 c9_i32_897
  let c15_i32_898 : BitVec 32 := 15#32
  let v990 : BitVec 32 := Scalar.andi v989 c15_i32_898
  let v1053 : Index := Scalar.indexCast v990
  let c15_i32_899 : BitVec 32 := 15#32
  let v991 : BitVec 32 := Scalar.andi v988 c15_i32_899
  let v1054 : Index := Scalar.indexCast v991
  let c80_931 : Index := 80#32
  ![1, v1053.toNat, v1054.toNat, 80]

def k0_chk41 (v988 : BitVec 32) : Prop :=
  (∀ a, (k0_off454 v988) a + S1x1x1x16.size a ≤ S2x16x16x96.size a) ∧
  (∀ a, (k0_off456 v988) a + S1x1x1x16.size a ≤ S2x16x16x96.size a) ∧
  (∀ a, (k0_off458 v988) a + S1x1x1x16.size a ≤ S2x16x16x96.size a) ∧
  (∀ a, (k0_off460 v988) a + S1x1x1x16.size a ≤ S2x16x16x96.size a) ∧
  (∀ a, (k0_off462 v988) a + S1x1x1x16.size a ≤ S2x16x16x96.size a) ∧
  (∀ a, (k0_off464 v988) a + S1x1x1x16.size a ≤ S2x16x16x96.size a)
theorem k0_off454_inb : ∀ (v988 : BitVec 32) (k0_hw41 : k0_chk41 v988), ∀ a, (k0_off454 v988) a + S1x1x1x16.size a ≤ S2x16x16x96.size a := fun v988 k0_hw41 => k0_hw41.1
theorem k0_off456_inb : ∀ (v988 : BitVec 32) (k0_hw41 : k0_chk41 v988), ∀ a, (k0_off456 v988) a + S1x1x1x16.size a ≤ S2x16x16x96.size a := fun v988 k0_hw41 => k0_hw41.2.1
theorem k0_off458_inb : ∀ (v988 : BitVec 32) (k0_hw41 : k0_chk41 v988), ∀ a, (k0_off458 v988) a + S1x1x1x16.size a ≤ S2x16x16x96.size a := fun v988 k0_hw41 => k0_hw41.2.2.1
theorem k0_off460_inb : ∀ (v988 : BitVec 32) (k0_hw41 : k0_chk41 v988), ∀ a, (k0_off460 v988) a + S1x1x1x16.size a ≤ S2x16x16x96.size a := fun v988 k0_hw41 => k0_hw41.2.2.2.1
theorem k0_off462_inb : ∀ (v988 : BitVec 32) (k0_hw41 : k0_chk41 v988), ∀ a, (k0_off462 v988) a + S1x1x1x16.size a ≤ S2x16x16x96.size a := fun v988 k0_hw41 => k0_hw41.2.2.2.2.1
theorem k0_off464_inb : ∀ (v988 : BitVec 32) (k0_hw41 : k0_chk41 v988), ∀ a, (k0_off464 v988) a + S1x1x1x16.size a ≤ S2x16x16x96.size a := fun v988 k0_hw41 => k0_hw41.2.2.2.2.2

def k0_off465 (k0_t4 : Fin k0_t4_loop.trips) : Fin 3 → Nat :=
  let c0_i32_934 : BitVec 32 := 0#32
  let v1059 : Index := Scalar.indexCast c0_i32_934
  let c0_i32_673 : BitVec 32 := 0#32
  let c1_i32_675 : BitVec 32 := 1#32
  let arg13 : BitVec 32 := Scf.iv c0_i32_673 c1_i32_675 k0_t4
  let c16_i32_932 : BitVec 32 := 16#32
  let v1057 : BitVec 32 := Scalar.muli arg13 c16_i32_932
  let c5_i32_933 : BitVec 32 := 5#32
  let v1058 : BitVec 32 := Scalar.addi v1057 c5_i32_933
  let v1060 : Index := Scalar.indexCast v1058
  let c80_935 : Index := 80#32
  ![0, v1060.toNat, 80]
def k0_off466 (v1065 : BitVec 32) : Fin 4 → Nat :=
  let c1_i32_939 : BitVec 32 := 1#32
  let v1069 : Index := Scalar.indexCast c1_i32_939
  let c9_i32_936 : BitVec 32 := 9#32
  let v1066 : BitVec 32 := Scalar.shrsi v1065 c9_i32_936
  let c15_i32_937 : BitVec 32 := 15#32
  let v1067 : BitVec 32 := Scalar.andi v1066 c15_i32_937
  let v1070 : Index := Scalar.indexCast v1067
  let c15_i32_938 : BitVec 32 := 15#32
  let v1068 : BitVec 32 := Scalar.andi v1065 c15_i32_938
  let v1071 : Index := Scalar.indexCast v1068
  let c0_940 : Index := 0#32
  ![1, v1070.toNat, v1071.toNat, 0]

def k0_off467 (k0_t4 : Fin k0_t4_loop.trips) : Fin 3 → Nat :=
  let c0_i32_943 : BitVec 32 := 0#32
  let v1076 : Index := Scalar.indexCast c0_i32_943
  let c0_i32_673 : BitVec 32 := 0#32
  let c1_i32_675 : BitVec 32 := 1#32
  let arg13 : BitVec 32 := Scf.iv c0_i32_673 c1_i32_675 k0_t4
  let c16_i32_941 : BitVec 32 := 16#32
  let v1074 : BitVec 32 := Scalar.muli arg13 c16_i32_941
  let c6_i32_942 : BitVec 32 := 6#32
  let v1075 : BitVec 32 := Scalar.addi v1074 c6_i32_942
  let v1077 : Index := Scalar.indexCast v1075
  let c0_944 : Index := 0#32
  ![0, v1077.toNat, 0]
def k0_off468 (v1065 : BitVec 32) : Fin 4 → Nat :=
  let c1_i32_945 : BitVec 32 := 1#32
  let v1081 : Index := Scalar.indexCast c1_i32_945
  let c9_i32_936 : BitVec 32 := 9#32
  let v1066 : BitVec 32 := Scalar.shrsi v1065 c9_i32_936
  let c15_i32_937 : BitVec 32 := 15#32
  let v1067 : BitVec 32 := Scalar.andi v1066 c15_i32_937
  let v1082 : Index := Scalar.indexCast v1067
  let c15_i32_938 : BitVec 32 := 15#32
  let v1068 : BitVec 32 := Scalar.andi v1065 c15_i32_938
  let v1083 : Index := Scalar.indexCast v1068
  let c16_946 : Index := 16#32
  ![1, v1082.toNat, v1083.toNat, 16]
def k0_off469 (k0_t4 : Fin k0_t4_loop.trips) : Fin 3 → Nat :=
  let c0_i32_949 : BitVec 32 := 0#32
  let v1088 : Index := Scalar.indexCast c0_i32_949
  let c0_i32_673 : BitVec 32 := 0#32
  let c1_i32_675 : BitVec 32 := 1#32
  let arg13 : BitVec 32 := Scf.iv c0_i32_673 c1_i32_675 k0_t4
  let c16_i32_947 : BitVec 32 := 16#32
  let v1086 : BitVec 32 := Scalar.muli arg13 c16_i32_947
  let c6_i32_948 : BitVec 32 := 6#32
  let v1087 : BitVec 32 := Scalar.addi v1086 c6_i32_948
  let v1089 : Index := Scalar.indexCast v1087
  let c16_950 : Index := 16#32
  ![0, v1089.toNat, 16]
def k0_off470 (v1065 : BitVec 32) : Fin 4 → Nat :=
  let c1_i32_951 : BitVec 32 := 1#32
  let v1093 : Index := Scalar.indexCast c1_i32_951
  let c9_i32_936 : BitVec 32 := 9#32
  let v1066 : BitVec 32 := Scalar.shrsi v1065 c9_i32_936
  let c15_i32_937 : BitVec 32 := 15#32
  let v1067 : BitVec 32 := Scalar.andi v1066 c15_i32_937
  let v1094 : Index := Scalar.indexCast v1067
  let c15_i32_938 : BitVec 32 := 15#32
  let v1068 : BitVec 32 := Scalar.andi v1065 c15_i32_938
  let v1095 : Index := Scalar.indexCast v1068
  let c32_952 : Index := 32#32
  ![1, v1094.toNat, v1095.toNat, 32]
def k0_off471 (k0_t4 : Fin k0_t4_loop.trips) : Fin 3 → Nat :=
  let c0_i32_955 : BitVec 32 := 0#32
  let v1100 : Index := Scalar.indexCast c0_i32_955
  let c0_i32_673 : BitVec 32 := 0#32
  let c1_i32_675 : BitVec 32 := 1#32
  let arg13 : BitVec 32 := Scf.iv c0_i32_673 c1_i32_675 k0_t4
  let c16_i32_953 : BitVec 32 := 16#32
  let v1098 : BitVec 32 := Scalar.muli arg13 c16_i32_953
  let c6_i32_954 : BitVec 32 := 6#32
  let v1099 : BitVec 32 := Scalar.addi v1098 c6_i32_954
  let v1101 : Index := Scalar.indexCast v1099
  let c32_956 : Index := 32#32
  ![0, v1101.toNat, 32]
def k0_off472 (v1065 : BitVec 32) : Fin 4 → Nat :=
  let c1_i32_957 : BitVec 32 := 1#32
  let v1105 : Index := Scalar.indexCast c1_i32_957
  let c9_i32_936 : BitVec 32 := 9#32
  let v1066 : BitVec 32 := Scalar.shrsi v1065 c9_i32_936
  let c15_i32_937 : BitVec 32 := 15#32
  let v1067 : BitVec 32 := Scalar.andi v1066 c15_i32_937
  let v1106 : Index := Scalar.indexCast v1067
  let c15_i32_938 : BitVec 32 := 15#32
  let v1068 : BitVec 32 := Scalar.andi v1065 c15_i32_938
  let v1107 : Index := Scalar.indexCast v1068
  let c48_958 : Index := 48#32
  ![1, v1106.toNat, v1107.toNat, 48]
def k0_off473 (k0_t4 : Fin k0_t4_loop.trips) : Fin 3 → Nat :=
  let c0_i32_961 : BitVec 32 := 0#32
  let v1112 : Index := Scalar.indexCast c0_i32_961
  let c0_i32_673 : BitVec 32 := 0#32
  let c1_i32_675 : BitVec 32 := 1#32
  let arg13 : BitVec 32 := Scf.iv c0_i32_673 c1_i32_675 k0_t4
  let c16_i32_959 : BitVec 32 := 16#32
  let v1110 : BitVec 32 := Scalar.muli arg13 c16_i32_959
  let c6_i32_960 : BitVec 32 := 6#32
  let v1111 : BitVec 32 := Scalar.addi v1110 c6_i32_960
  let v1113 : Index := Scalar.indexCast v1111
  let c48_962 : Index := 48#32
  ![0, v1113.toNat, 48]
def k0_off474 (v1065 : BitVec 32) : Fin 4 → Nat :=
  let c1_i32_963 : BitVec 32 := 1#32
  let v1117 : Index := Scalar.indexCast c1_i32_963
  let c9_i32_936 : BitVec 32 := 9#32
  let v1066 : BitVec 32 := Scalar.shrsi v1065 c9_i32_936
  let c15_i32_937 : BitVec 32 := 15#32
  let v1067 : BitVec 32 := Scalar.andi v1066 c15_i32_937
  let v1118 : Index := Scalar.indexCast v1067
  let c15_i32_938 : BitVec 32 := 15#32
  let v1068 : BitVec 32 := Scalar.andi v1065 c15_i32_938
  let v1119 : Index := Scalar.indexCast v1068
  let c64_964 : Index := 64#32
  ![1, v1118.toNat, v1119.toNat, 64]
def k0_off475 (k0_t4 : Fin k0_t4_loop.trips) : Fin 3 → Nat :=
  let c0_i32_967 : BitVec 32 := 0#32
  let v1124 : Index := Scalar.indexCast c0_i32_967
  let c0_i32_673 : BitVec 32 := 0#32
  let c1_i32_675 : BitVec 32 := 1#32
  let arg13 : BitVec 32 := Scf.iv c0_i32_673 c1_i32_675 k0_t4
  let c16_i32_965 : BitVec 32 := 16#32
  let v1122 : BitVec 32 := Scalar.muli arg13 c16_i32_965
  let c6_i32_966 : BitVec 32 := 6#32
  let v1123 : BitVec 32 := Scalar.addi v1122 c6_i32_966
  let v1125 : Index := Scalar.indexCast v1123
  let c64_968 : Index := 64#32
  ![0, v1125.toNat, 64]
def k0_off476 (v1065 : BitVec 32) : Fin 4 → Nat :=
  let c1_i32_969 : BitVec 32 := 1#32
  let v1129 : Index := Scalar.indexCast c1_i32_969
  let c9_i32_936 : BitVec 32 := 9#32
  let v1066 : BitVec 32 := Scalar.shrsi v1065 c9_i32_936
  let c15_i32_937 : BitVec 32 := 15#32
  let v1067 : BitVec 32 := Scalar.andi v1066 c15_i32_937
  let v1130 : Index := Scalar.indexCast v1067
  let c15_i32_938 : BitVec 32 := 15#32
  let v1068 : BitVec 32 := Scalar.andi v1065 c15_i32_938
  let v1131 : Index := Scalar.indexCast v1068
  let c80_970 : Index := 80#32
  ![1, v1130.toNat, v1131.toNat, 80]

def k0_chk42 (v1065 : BitVec 32) : Prop :=
  (∀ a, (k0_off466 v1065) a + S1x1x1x16.size a ≤ S2x16x16x96.size a) ∧
  (∀ a, (k0_off468 v1065) a + S1x1x1x16.size a ≤ S2x16x16x96.size a) ∧
  (∀ a, (k0_off470 v1065) a + S1x1x1x16.size a ≤ S2x16x16x96.size a) ∧
  (∀ a, (k0_off472 v1065) a + S1x1x1x16.size a ≤ S2x16x16x96.size a) ∧
  (∀ a, (k0_off474 v1065) a + S1x1x1x16.size a ≤ S2x16x16x96.size a) ∧
  (∀ a, (k0_off476 v1065) a + S1x1x1x16.size a ≤ S2x16x16x96.size a)
theorem k0_off466_inb : ∀ (v1065 : BitVec 32) (k0_hw42 : k0_chk42 v1065), ∀ a, (k0_off466 v1065) a + S1x1x1x16.size a ≤ S2x16x16x96.size a := fun v1065 k0_hw42 => k0_hw42.1
theorem k0_off468_inb : ∀ (v1065 : BitVec 32) (k0_hw42 : k0_chk42 v1065), ∀ a, (k0_off468 v1065) a + S1x1x1x16.size a ≤ S2x16x16x96.size a := fun v1065 k0_hw42 => k0_hw42.2.1
theorem k0_off470_inb : ∀ (v1065 : BitVec 32) (k0_hw42 : k0_chk42 v1065), ∀ a, (k0_off470 v1065) a + S1x1x1x16.size a ≤ S2x16x16x96.size a := fun v1065 k0_hw42 => k0_hw42.2.2.1
theorem k0_off472_inb : ∀ (v1065 : BitVec 32) (k0_hw42 : k0_chk42 v1065), ∀ a, (k0_off472 v1065) a + S1x1x1x16.size a ≤ S2x16x16x96.size a := fun v1065 k0_hw42 => k0_hw42.2.2.2.1
theorem k0_off474_inb : ∀ (v1065 : BitVec 32) (k0_hw42 : k0_chk42 v1065), ∀ a, (k0_off474 v1065) a + S1x1x1x16.size a ≤ S2x16x16x96.size a := fun v1065 k0_hw42 => k0_hw42.2.2.2.2.1
theorem k0_off476_inb : ∀ (v1065 : BitVec 32) (k0_hw42 : k0_chk42 v1065), ∀ a, (k0_off476 v1065) a + S1x1x1x16.size a ≤ S2x16x16x96.size a := fun v1065 k0_hw42 => k0_hw42.2.2.2.2.2

def k0_off477 (k0_t4 : Fin k0_t4_loop.trips) : Fin 3 → Nat :=
  let c0_i32_973 : BitVec 32 := 0#32
  let v1136 : Index := Scalar.indexCast c0_i32_973
  let c0_i32_673 : BitVec 32 := 0#32
  let c1_i32_675 : BitVec 32 := 1#32
  let arg13 : BitVec 32 := Scf.iv c0_i32_673 c1_i32_675 k0_t4
  let c16_i32_971 : BitVec 32 := 16#32
  let v1134 : BitVec 32 := Scalar.muli arg13 c16_i32_971
  let c6_i32_972 : BitVec 32 := 6#32
  let v1135 : BitVec 32 := Scalar.addi v1134 c6_i32_972
  let v1137 : Index := Scalar.indexCast v1135
  let c80_974 : Index := 80#32
  ![0, v1137.toNat, 80]
def k0_off478 (v1142 : BitVec 32) : Fin 4 → Nat :=
  let c1_i32_978 : BitVec 32 := 1#32
  let v1146 : Index := Scalar.indexCast c1_i32_978
  let c9_i32_975 : BitVec 32 := 9#32
  let v1143 : BitVec 32 := Scalar.shrsi v1142 c9_i32_975
  let c15_i32_976 : BitVec 32 := 15#32
  let v1144 : BitVec 32 := Scalar.andi v1143 c15_i32_976
  let v1147 : Index := Scalar.indexCast v1144
  let c15_i32_977 : BitVec 32 := 15#32
  let v1145 : BitVec 32 := Scalar.andi v1142 c15_i32_977
  let v1148 : Index := Scalar.indexCast v1145
  let c0_979 : Index := 0#32
  ![1, v1147.toNat, v1148.toNat, 0]

def k0_off479 (k0_t4 : Fin k0_t4_loop.trips) : Fin 3 → Nat :=
  let c0_i32_982 : BitVec 32 := 0#32
  let v1153 : Index := Scalar.indexCast c0_i32_982
  let c0_i32_673 : BitVec 32 := 0#32
  let c1_i32_675 : BitVec 32 := 1#32
  let arg13 : BitVec 32 := Scf.iv c0_i32_673 c1_i32_675 k0_t4
  let c16_i32_980 : BitVec 32 := 16#32
  let v1151 : BitVec 32 := Scalar.muli arg13 c16_i32_980
  let c7_i32_981 : BitVec 32 := 7#32
  let v1152 : BitVec 32 := Scalar.addi v1151 c7_i32_981
  let v1154 : Index := Scalar.indexCast v1152
  let c0_983 : Index := 0#32
  ![0, v1154.toNat, 0]
def k0_off480 (v1142 : BitVec 32) : Fin 4 → Nat :=
  let c1_i32_984 : BitVec 32 := 1#32
  let v1158 : Index := Scalar.indexCast c1_i32_984
  let c9_i32_975 : BitVec 32 := 9#32
  let v1143 : BitVec 32 := Scalar.shrsi v1142 c9_i32_975
  let c15_i32_976 : BitVec 32 := 15#32
  let v1144 : BitVec 32 := Scalar.andi v1143 c15_i32_976
  let v1159 : Index := Scalar.indexCast v1144
  let c15_i32_977 : BitVec 32 := 15#32
  let v1145 : BitVec 32 := Scalar.andi v1142 c15_i32_977
  let v1160 : Index := Scalar.indexCast v1145
  let c16_985 : Index := 16#32
  ![1, v1159.toNat, v1160.toNat, 16]
def k0_off481 (k0_t4 : Fin k0_t4_loop.trips) : Fin 3 → Nat :=
  let c0_i32_988 : BitVec 32 := 0#32
  let v1165 : Index := Scalar.indexCast c0_i32_988
  let c0_i32_673 : BitVec 32 := 0#32
  let c1_i32_675 : BitVec 32 := 1#32
  let arg13 : BitVec 32 := Scf.iv c0_i32_673 c1_i32_675 k0_t4
  let c16_i32_986 : BitVec 32 := 16#32
  let v1163 : BitVec 32 := Scalar.muli arg13 c16_i32_986
  let c7_i32_987 : BitVec 32 := 7#32
  let v1164 : BitVec 32 := Scalar.addi v1163 c7_i32_987
  let v1166 : Index := Scalar.indexCast v1164
  let c16_989 : Index := 16#32
  ![0, v1166.toNat, 16]
def k0_off482 (v1142 : BitVec 32) : Fin 4 → Nat :=
  let c1_i32_990 : BitVec 32 := 1#32
  let v1170 : Index := Scalar.indexCast c1_i32_990
  let c9_i32_975 : BitVec 32 := 9#32
  let v1143 : BitVec 32 := Scalar.shrsi v1142 c9_i32_975
  let c15_i32_976 : BitVec 32 := 15#32
  let v1144 : BitVec 32 := Scalar.andi v1143 c15_i32_976
  let v1171 : Index := Scalar.indexCast v1144
  let c15_i32_977 : BitVec 32 := 15#32
  let v1145 : BitVec 32 := Scalar.andi v1142 c15_i32_977
  let v1172 : Index := Scalar.indexCast v1145
  let c32_991 : Index := 32#32
  ![1, v1171.toNat, v1172.toNat, 32]
def k0_off483 (k0_t4 : Fin k0_t4_loop.trips) : Fin 3 → Nat :=
  let c0_i32_994 : BitVec 32 := 0#32
  let v1177 : Index := Scalar.indexCast c0_i32_994
  let c0_i32_673 : BitVec 32 := 0#32
  let c1_i32_675 : BitVec 32 := 1#32
  let arg13 : BitVec 32 := Scf.iv c0_i32_673 c1_i32_675 k0_t4
  let c16_i32_992 : BitVec 32 := 16#32
  let v1175 : BitVec 32 := Scalar.muli arg13 c16_i32_992
  let c7_i32_993 : BitVec 32 := 7#32
  let v1176 : BitVec 32 := Scalar.addi v1175 c7_i32_993
  let v1178 : Index := Scalar.indexCast v1176
  let c32_995 : Index := 32#32
  ![0, v1178.toNat, 32]
def k0_off484 (v1142 : BitVec 32) : Fin 4 → Nat :=
  let c1_i32_996 : BitVec 32 := 1#32
  let v1182 : Index := Scalar.indexCast c1_i32_996
  let c9_i32_975 : BitVec 32 := 9#32
  let v1143 : BitVec 32 := Scalar.shrsi v1142 c9_i32_975
  let c15_i32_976 : BitVec 32 := 15#32
  let v1144 : BitVec 32 := Scalar.andi v1143 c15_i32_976
  let v1183 : Index := Scalar.indexCast v1144
  let c15_i32_977 : BitVec 32 := 15#32
  let v1145 : BitVec 32 := Scalar.andi v1142 c15_i32_977
  let v1184 : Index := Scalar.indexCast v1145
  let c48_997 : Index := 48#32
  ![1, v1183.toNat, v1184.toNat, 48]
def k0_off485 (k0_t4 : Fin k0_t4_loop.trips) : Fin 3 → Nat :=
  let c0_i32_1000 : BitVec 32 := 0#32
  let v1189 : Index := Scalar.indexCast c0_i32_1000
  let c0_i32_673 : BitVec 32 := 0#32
  let c1_i32_675 : BitVec 32 := 1#32
  let arg13 : BitVec 32 := Scf.iv c0_i32_673 c1_i32_675 k0_t4
  let c16_i32_998 : BitVec 32 := 16#32
  let v1187 : BitVec 32 := Scalar.muli arg13 c16_i32_998
  let c7_i32_999 : BitVec 32 := 7#32
  let v1188 : BitVec 32 := Scalar.addi v1187 c7_i32_999
  let v1190 : Index := Scalar.indexCast v1188
  let c48_1001 : Index := 48#32
  ![0, v1190.toNat, 48]
def k0_off486 (v1142 : BitVec 32) : Fin 4 → Nat :=
  let c1_i32_1002 : BitVec 32 := 1#32
  let v1194 : Index := Scalar.indexCast c1_i32_1002
  let c9_i32_975 : BitVec 32 := 9#32
  let v1143 : BitVec 32 := Scalar.shrsi v1142 c9_i32_975
  let c15_i32_976 : BitVec 32 := 15#32
  let v1144 : BitVec 32 := Scalar.andi v1143 c15_i32_976
  let v1195 : Index := Scalar.indexCast v1144
  let c15_i32_977 : BitVec 32 := 15#32
  let v1145 : BitVec 32 := Scalar.andi v1142 c15_i32_977
  let v1196 : Index := Scalar.indexCast v1145
  let c64_1003 : Index := 64#32
  ![1, v1195.toNat, v1196.toNat, 64]
def k0_off487 (k0_t4 : Fin k0_t4_loop.trips) : Fin 3 → Nat :=
  let c0_i32_1006 : BitVec 32 := 0#32
  let v1201 : Index := Scalar.indexCast c0_i32_1006
  let c0_i32_673 : BitVec 32 := 0#32
  let c1_i32_675 : BitVec 32 := 1#32
  let arg13 : BitVec 32 := Scf.iv c0_i32_673 c1_i32_675 k0_t4
  let c16_i32_1004 : BitVec 32 := 16#32
  let v1199 : BitVec 32 := Scalar.muli arg13 c16_i32_1004
  let c7_i32_1005 : BitVec 32 := 7#32
  let v1200 : BitVec 32 := Scalar.addi v1199 c7_i32_1005
  let v1202 : Index := Scalar.indexCast v1200
  let c64_1007 : Index := 64#32
  ![0, v1202.toNat, 64]
def k0_off488 (v1142 : BitVec 32) : Fin 4 → Nat :=
  let c1_i32_1008 : BitVec 32 := 1#32
  let v1206 : Index := Scalar.indexCast c1_i32_1008
  let c9_i32_975 : BitVec 32 := 9#32
  let v1143 : BitVec 32 := Scalar.shrsi v1142 c9_i32_975
  let c15_i32_976 : BitVec 32 := 15#32
  let v1144 : BitVec 32 := Scalar.andi v1143 c15_i32_976
  let v1207 : Index := Scalar.indexCast v1144
  let c15_i32_977 : BitVec 32 := 15#32
  let v1145 : BitVec 32 := Scalar.andi v1142 c15_i32_977
  let v1208 : Index := Scalar.indexCast v1145
  let c80_1009 : Index := 80#32
  ![1, v1207.toNat, v1208.toNat, 80]

def k0_chk43 (v1142 : BitVec 32) : Prop :=
  (∀ a, (k0_off478 v1142) a + S1x1x1x16.size a ≤ S2x16x16x96.size a) ∧
  (∀ a, (k0_off480 v1142) a + S1x1x1x16.size a ≤ S2x16x16x96.size a) ∧
  (∀ a, (k0_off482 v1142) a + S1x1x1x16.size a ≤ S2x16x16x96.size a) ∧
  (∀ a, (k0_off484 v1142) a + S1x1x1x16.size a ≤ S2x16x16x96.size a) ∧
  (∀ a, (k0_off486 v1142) a + S1x1x1x16.size a ≤ S2x16x16x96.size a) ∧
  (∀ a, (k0_off488 v1142) a + S1x1x1x16.size a ≤ S2x16x16x96.size a)
theorem k0_off478_inb : ∀ (v1142 : BitVec 32) (k0_hw43 : k0_chk43 v1142), ∀ a, (k0_off478 v1142) a + S1x1x1x16.size a ≤ S2x16x16x96.size a := fun v1142 k0_hw43 => k0_hw43.1
theorem k0_off480_inb : ∀ (v1142 : BitVec 32) (k0_hw43 : k0_chk43 v1142), ∀ a, (k0_off480 v1142) a + S1x1x1x16.size a ≤ S2x16x16x96.size a := fun v1142 k0_hw43 => k0_hw43.2.1
theorem k0_off482_inb : ∀ (v1142 : BitVec 32) (k0_hw43 : k0_chk43 v1142), ∀ a, (k0_off482 v1142) a + S1x1x1x16.size a ≤ S2x16x16x96.size a := fun v1142 k0_hw43 => k0_hw43.2.2.1
theorem k0_off484_inb : ∀ (v1142 : BitVec 32) (k0_hw43 : k0_chk43 v1142), ∀ a, (k0_off484 v1142) a + S1x1x1x16.size a ≤ S2x16x16x96.size a := fun v1142 k0_hw43 => k0_hw43.2.2.2.1
theorem k0_off486_inb : ∀ (v1142 : BitVec 32) (k0_hw43 : k0_chk43 v1142), ∀ a, (k0_off486 v1142) a + S1x1x1x16.size a ≤ S2x16x16x96.size a := fun v1142 k0_hw43 => k0_hw43.2.2.2.2.1
theorem k0_off488_inb : ∀ (v1142 : BitVec 32) (k0_hw43 : k0_chk43 v1142), ∀ a, (k0_off488 v1142) a + S1x1x1x16.size a ≤ S2x16x16x96.size a := fun v1142 k0_hw43 => k0_hw43.2.2.2.2.2

def k0_off489 (k0_t4 : Fin k0_t4_loop.trips) : Fin 3 → Nat :=
  let c0_i32_1012 : BitVec 32 := 0#32
  let v1213 : Index := Scalar.indexCast c0_i32_1012
  let c0_i32_673 : BitVec 32 := 0#32
  let c1_i32_675 : BitVec 32 := 1#32
  let arg13 : BitVec 32 := Scf.iv c0_i32_673 c1_i32_675 k0_t4
  let c16_i32_1010 : BitVec 32 := 16#32
  let v1211 : BitVec 32 := Scalar.muli arg13 c16_i32_1010
  let c7_i32_1011 : BitVec 32 := 7#32
  let v1212 : BitVec 32 := Scalar.addi v1211 c7_i32_1011
  let v1214 : Index := Scalar.indexCast v1212
  let c80_1013 : Index := 80#32
  ![0, v1214.toNat, 80]
def k0_off490 (v1219 : BitVec 32) : Fin 4 → Nat :=
  let c1_i32_1017 : BitVec 32 := 1#32
  let v1223 : Index := Scalar.indexCast c1_i32_1017
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1224 : Index := Scalar.indexCast v1221
  let c15_i32_1016 : BitVec 32 := 15#32
  let v1222 : BitVec 32 := Scalar.andi v1219 c15_i32_1016
  let v1225 : Index := Scalar.indexCast v1222
  let c0_1018 : Index := 0#32
  ![1, v1224.toNat, v1225.toNat, 0]

def k0_off491 (k0_t4 : Fin k0_t4_loop.trips) : Fin 3 → Nat :=
  let c0_i32_1021 : BitVec 32 := 0#32
  let v1230 : Index := Scalar.indexCast c0_i32_1021
  let c0_i32_673 : BitVec 32 := 0#32
  let c1_i32_675 : BitVec 32 := 1#32
  let arg13 : BitVec 32 := Scf.iv c0_i32_673 c1_i32_675 k0_t4
  let c16_i32_1019 : BitVec 32 := 16#32
  let v1228 : BitVec 32 := Scalar.muli arg13 c16_i32_1019
  let c8_i32_1020 : BitVec 32 := 8#32
  let v1229 : BitVec 32 := Scalar.addi v1228 c8_i32_1020
  let v1231 : Index := Scalar.indexCast v1229
  let c0_1022 : Index := 0#32
  ![0, v1231.toNat, 0]
def k0_off492 (v1219 : BitVec 32) : Fin 4 → Nat :=
  let c1_i32_1023 : BitVec 32 := 1#32
  let v1235 : Index := Scalar.indexCast c1_i32_1023
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1236 : Index := Scalar.indexCast v1221
  let c15_i32_1016 : BitVec 32 := 15#32
  let v1222 : BitVec 32 := Scalar.andi v1219 c15_i32_1016
  let v1237 : Index := Scalar.indexCast v1222
  let c16_1024 : Index := 16#32
  ![1, v1236.toNat, v1237.toNat, 16]
def k0_off493 (k0_t4 : Fin k0_t4_loop.trips) : Fin 3 → Nat :=
  let c0_i32_1027 : BitVec 32 := 0#32
  let v1242 : Index := Scalar.indexCast c0_i32_1027
  let c0_i32_673 : BitVec 32 := 0#32
  let c1_i32_675 : BitVec 32 := 1#32
  let arg13 : BitVec 32 := Scf.iv c0_i32_673 c1_i32_675 k0_t4
  let c16_i32_1025 : BitVec 32 := 16#32
  let v1240 : BitVec 32 := Scalar.muli arg13 c16_i32_1025
  let c8_i32_1026 : BitVec 32 := 8#32
  let v1241 : BitVec 32 := Scalar.addi v1240 c8_i32_1026
  let v1243 : Index := Scalar.indexCast v1241
  let c16_1028 : Index := 16#32
  ![0, v1243.toNat, 16]
def k0_off494 (v1219 : BitVec 32) : Fin 4 → Nat :=
  let c1_i32_1029 : BitVec 32 := 1#32
  let v1247 : Index := Scalar.indexCast c1_i32_1029
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1248 : Index := Scalar.indexCast v1221
  let c15_i32_1016 : BitVec 32 := 15#32
  let v1222 : BitVec 32 := Scalar.andi v1219 c15_i32_1016
  let v1249 : Index := Scalar.indexCast v1222
  let c32_1030 : Index := 32#32
  ![1, v1248.toNat, v1249.toNat, 32]
def k0_off495 (k0_t4 : Fin k0_t4_loop.trips) : Fin 3 → Nat :=
  let c0_i32_1033 : BitVec 32 := 0#32
  let v1254 : Index := Scalar.indexCast c0_i32_1033
  let c0_i32_673 : BitVec 32 := 0#32
  let c1_i32_675 : BitVec 32 := 1#32
  let arg13 : BitVec 32 := Scf.iv c0_i32_673 c1_i32_675 k0_t4
  let c16_i32_1031 : BitVec 32 := 16#32
  let v1252 : BitVec 32 := Scalar.muli arg13 c16_i32_1031
  let c8_i32_1032 : BitVec 32 := 8#32
  let v1253 : BitVec 32 := Scalar.addi v1252 c8_i32_1032
  let v1255 : Index := Scalar.indexCast v1253
  let c32_1034 : Index := 32#32
  ![0, v1255.toNat, 32]
def k0_off496 (v1219 : BitVec 32) : Fin 4 → Nat :=
  let c1_i32_1035 : BitVec 32 := 1#32
  let v1259 : Index := Scalar.indexCast c1_i32_1035
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1260 : Index := Scalar.indexCast v1221
  let c15_i32_1016 : BitVec 32 := 15#32
  let v1222 : BitVec 32 := Scalar.andi v1219 c15_i32_1016
  let v1261 : Index := Scalar.indexCast v1222
  let c48_1036 : Index := 48#32
  ![1, v1260.toNat, v1261.toNat, 48]
def k0_off497 (k0_t4 : Fin k0_t4_loop.trips) : Fin 3 → Nat :=
  let c0_i32_1039 : BitVec 32 := 0#32
  let v1266 : Index := Scalar.indexCast c0_i32_1039
  let c0_i32_673 : BitVec 32 := 0#32
  let c1_i32_675 : BitVec 32 := 1#32
  let arg13 : BitVec 32 := Scf.iv c0_i32_673 c1_i32_675 k0_t4
  let c16_i32_1037 : BitVec 32 := 16#32
  let v1264 : BitVec 32 := Scalar.muli arg13 c16_i32_1037
  let c8_i32_1038 : BitVec 32 := 8#32
  let v1265 : BitVec 32 := Scalar.addi v1264 c8_i32_1038
  let v1267 : Index := Scalar.indexCast v1265
  let c48_1040 : Index := 48#32
  ![0, v1267.toNat, 48]
def k0_off498 (v1219 : BitVec 32) : Fin 4 → Nat :=
  let c1_i32_1041 : BitVec 32 := 1#32
  let v1271 : Index := Scalar.indexCast c1_i32_1041
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1272 : Index := Scalar.indexCast v1221
  let c15_i32_1016 : BitVec 32 := 15#32
  let v1222 : BitVec 32 := Scalar.andi v1219 c15_i32_1016
  let v1273 : Index := Scalar.indexCast v1222
  let c64_1042 : Index := 64#32
  ![1, v1272.toNat, v1273.toNat, 64]
def k0_off499 (k0_t4 : Fin k0_t4_loop.trips) : Fin 3 → Nat :=
  let c0_i32_1045 : BitVec 32 := 0#32
  let v1278 : Index := Scalar.indexCast c0_i32_1045
  let c0_i32_673 : BitVec 32 := 0#32
  let c1_i32_675 : BitVec 32 := 1#32
  let arg13 : BitVec 32 := Scf.iv c0_i32_673 c1_i32_675 k0_t4
  let c16_i32_1043 : BitVec 32 := 16#32
  let v1276 : BitVec 32 := Scalar.muli arg13 c16_i32_1043
  let c8_i32_1044 : BitVec 32 := 8#32
  let v1277 : BitVec 32 := Scalar.addi v1276 c8_i32_1044
  let v1279 : Index := Scalar.indexCast v1277
  let c64_1046 : Index := 64#32
  ![0, v1279.toNat, 64]
def k0_off500 (v1219 : BitVec 32) : Fin 4 → Nat :=
  let c1_i32_1047 : BitVec 32 := 1#32
  let v1283 : Index := Scalar.indexCast c1_i32_1047
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1284 : Index := Scalar.indexCast v1221
  let c15_i32_1016 : BitVec 32 := 15#32
  let v1222 : BitVec 32 := Scalar.andi v1219 c15_i32_1016
  let v1285 : Index := Scalar.indexCast v1222
  let c80_1048 : Index := 80#32
  ![1, v1284.toNat, v1285.toNat, 80]

def k0_chk44 (v1219 : BitVec 32) : Prop :=
  (∀ a, (k0_off490 v1219) a + S1x1x1x16.size a ≤ S2x16x16x96.size a) ∧
  (∀ a, (k0_off492 v1219) a + S1x1x1x16.size a ≤ S2x16x16x96.size a) ∧
  (∀ a, (k0_off494 v1219) a + S1x1x1x16.size a ≤ S2x16x16x96.size a) ∧
  (∀ a, (k0_off496 v1219) a + S1x1x1x16.size a ≤ S2x16x16x96.size a) ∧
  (∀ a, (k0_off498 v1219) a + S1x1x1x16.size a ≤ S2x16x16x96.size a) ∧
  (∀ a, (k0_off500 v1219) a + S1x1x1x16.size a ≤ S2x16x16x96.size a)
theorem k0_off490_inb : ∀ (v1219 : BitVec 32) (k0_hw44 : k0_chk44 v1219), ∀ a, (k0_off490 v1219) a + S1x1x1x16.size a ≤ S2x16x16x96.size a := fun v1219 k0_hw44 => k0_hw44.1
theorem k0_off492_inb : ∀ (v1219 : BitVec 32) (k0_hw44 : k0_chk44 v1219), ∀ a, (k0_off492 v1219) a + S1x1x1x16.size a ≤ S2x16x16x96.size a := fun v1219 k0_hw44 => k0_hw44.2.1
theorem k0_off494_inb : ∀ (v1219 : BitVec 32) (k0_hw44 : k0_chk44 v1219), ∀ a, (k0_off494 v1219) a + S1x1x1x16.size a ≤ S2x16x16x96.size a := fun v1219 k0_hw44 => k0_hw44.2.2.1
theorem k0_off496_inb : ∀ (v1219 : BitVec 32) (k0_hw44 : k0_chk44 v1219), ∀ a, (k0_off496 v1219) a + S1x1x1x16.size a ≤ S2x16x16x96.size a := fun v1219 k0_hw44 => k0_hw44.2.2.2.1
theorem k0_off498_inb : ∀ (v1219 : BitVec 32) (k0_hw44 : k0_chk44 v1219), ∀ a, (k0_off498 v1219) a + S1x1x1x16.size a ≤ S2x16x16x96.size a := fun v1219 k0_hw44 => k0_hw44.2.2.2.2.1
theorem k0_off500_inb : ∀ (v1219 : BitVec 32) (k0_hw44 : k0_chk44 v1219), ∀ a, (k0_off500 v1219) a + S1x1x1x16.size a ≤ S2x16x16x96.size a := fun v1219 k0_hw44 => k0_hw44.2.2.2.2.2

def k0_off501 (k0_t4 : Fin k0_t4_loop.trips) : Fin 3 → Nat :=
  let c0_i32_1051 : BitVec 32 := 0#32
  let v1290 : Index := Scalar.indexCast c0_i32_1051
  let c0_i32_673 : BitVec 32 := 0#32
  let c1_i32_675 : BitVec 32 := 1#32
  let arg13 : BitVec 32 := Scf.iv c0_i32_673 c1_i32_675 k0_t4
  let c16_i32_1049 : BitVec 32 := 16#32
  let v1288 : BitVec 32 := Scalar.muli arg13 c16_i32_1049
  let c8_i32_1050 : BitVec 32 := 8#32
  let v1289 : BitVec 32 := Scalar.addi v1288 c8_i32_1050
  let v1291 : Index := Scalar.indexCast v1289
  let c80_1052 : Index := 80#32
  ![0, v1291.toNat, 80]
def k0_off502 (v1296 : BitVec 32) : Fin 4 → Nat :=
  let c1_i32_1056 : BitVec 32 := 1#32
  let v1300 : Index := Scalar.indexCast c1_i32_1056
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1301 : Index := Scalar.indexCast v1298
  let c15_i32_1055 : BitVec 32 := 15#32
  let v1299 : BitVec 32 := Scalar.andi v1296 c15_i32_1055
  let v1302 : Index := Scalar.indexCast v1299
  let c0_1057 : Index := 0#32
  ![1, v1301.toNat, v1302.toNat, 0]

def k0_off503 (k0_t4 : Fin k0_t4_loop.trips) : Fin 3 → Nat :=
  let c0_i32_1060 : BitVec 32 := 0#32
  let v1307 : Index := Scalar.indexCast c0_i32_1060
  let c0_i32_673 : BitVec 32 := 0#32
  let c1_i32_675 : BitVec 32 := 1#32
  let arg13 : BitVec 32 := Scf.iv c0_i32_673 c1_i32_675 k0_t4
  let c16_i32_1058 : BitVec 32 := 16#32
  let v1305 : BitVec 32 := Scalar.muli arg13 c16_i32_1058
  let c9_i32_1059 : BitVec 32 := 9#32
  let v1306 : BitVec 32 := Scalar.addi v1305 c9_i32_1059
  let v1308 : Index := Scalar.indexCast v1306
  let c0_1061 : Index := 0#32
  ![0, v1308.toNat, 0]
def k0_off504 (v1296 : BitVec 32) : Fin 4 → Nat :=
  let c1_i32_1062 : BitVec 32 := 1#32
  let v1312 : Index := Scalar.indexCast c1_i32_1062
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1313 : Index := Scalar.indexCast v1298
  let c15_i32_1055 : BitVec 32 := 15#32
  let v1299 : BitVec 32 := Scalar.andi v1296 c15_i32_1055
  let v1314 : Index := Scalar.indexCast v1299
  let c16_1063 : Index := 16#32
  ![1, v1313.toNat, v1314.toNat, 16]
def k0_off505 (k0_t4 : Fin k0_t4_loop.trips) : Fin 3 → Nat :=
  let c0_i32_1066 : BitVec 32 := 0#32
  let v1319 : Index := Scalar.indexCast c0_i32_1066
  let c0_i32_673 : BitVec 32 := 0#32
  let c1_i32_675 : BitVec 32 := 1#32
  let arg13 : BitVec 32 := Scf.iv c0_i32_673 c1_i32_675 k0_t4
  let c16_i32_1064 : BitVec 32 := 16#32
  let v1317 : BitVec 32 := Scalar.muli arg13 c16_i32_1064
  let c9_i32_1065 : BitVec 32 := 9#32
  let v1318 : BitVec 32 := Scalar.addi v1317 c9_i32_1065
  let v1320 : Index := Scalar.indexCast v1318
  let c16_1067 : Index := 16#32
  ![0, v1320.toNat, 16]
def k0_off506 (v1296 : BitVec 32) : Fin 4 → Nat :=
  let c1_i32_1068 : BitVec 32 := 1#32
  let v1324 : Index := Scalar.indexCast c1_i32_1068
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1325 : Index := Scalar.indexCast v1298
  let c15_i32_1055 : BitVec 32 := 15#32
  let v1299 : BitVec 32 := Scalar.andi v1296 c15_i32_1055
  let v1326 : Index := Scalar.indexCast v1299
  let c32_1069 : Index := 32#32
  ![1, v1325.toNat, v1326.toNat, 32]
def k0_off507 (k0_t4 : Fin k0_t4_loop.trips) : Fin 3 → Nat :=
  let c0_i32_1072 : BitVec 32 := 0#32
  let v1331 : Index := Scalar.indexCast c0_i32_1072
  let c0_i32_673 : BitVec 32 := 0#32
  let c1_i32_675 : BitVec 32 := 1#32
  let arg13 : BitVec 32 := Scf.iv c0_i32_673 c1_i32_675 k0_t4
  let c16_i32_1070 : BitVec 32 := 16#32
  let v1329 : BitVec 32 := Scalar.muli arg13 c16_i32_1070
  let c9_i32_1071 : BitVec 32 := 9#32
  let v1330 : BitVec 32 := Scalar.addi v1329 c9_i32_1071
  let v1332 : Index := Scalar.indexCast v1330
  let c32_1073 : Index := 32#32
  ![0, v1332.toNat, 32]
def k0_off508 (v1296 : BitVec 32) : Fin 4 → Nat :=
  let c1_i32_1074 : BitVec 32 := 1#32
  let v1336 : Index := Scalar.indexCast c1_i32_1074
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1337 : Index := Scalar.indexCast v1298
  let c15_i32_1055 : BitVec 32 := 15#32
  let v1299 : BitVec 32 := Scalar.andi v1296 c15_i32_1055
  let v1338 : Index := Scalar.indexCast v1299
  let c48_1075 : Index := 48#32
  ![1, v1337.toNat, v1338.toNat, 48]
def k0_off509 (k0_t4 : Fin k0_t4_loop.trips) : Fin 3 → Nat :=
  let c0_i32_1078 : BitVec 32 := 0#32
  let v1343 : Index := Scalar.indexCast c0_i32_1078
  let c0_i32_673 : BitVec 32 := 0#32
  let c1_i32_675 : BitVec 32 := 1#32
  let arg13 : BitVec 32 := Scf.iv c0_i32_673 c1_i32_675 k0_t4
  let c16_i32_1076 : BitVec 32 := 16#32
  let v1341 : BitVec 32 := Scalar.muli arg13 c16_i32_1076
  let c9_i32_1077 : BitVec 32 := 9#32
  let v1342 : BitVec 32 := Scalar.addi v1341 c9_i32_1077
  let v1344 : Index := Scalar.indexCast v1342
  let c48_1079 : Index := 48#32
  ![0, v1344.toNat, 48]
def k0_off510 (v1296 : BitVec 32) : Fin 4 → Nat :=
  let c1_i32_1080 : BitVec 32 := 1#32
  let v1348 : Index := Scalar.indexCast c1_i32_1080
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1349 : Index := Scalar.indexCast v1298
  let c15_i32_1055 : BitVec 32 := 15#32
  let v1299 : BitVec 32 := Scalar.andi v1296 c15_i32_1055
  let v1350 : Index := Scalar.indexCast v1299
  let c64_1081 : Index := 64#32
  ![1, v1349.toNat, v1350.toNat, 64]
def k0_off511 (k0_t4 : Fin k0_t4_loop.trips) : Fin 3 → Nat :=
  let c0_i32_1084 : BitVec 32 := 0#32
  let v1355 : Index := Scalar.indexCast c0_i32_1084
  let c0_i32_673 : BitVec 32 := 0#32
  let c1_i32_675 : BitVec 32 := 1#32
  let arg13 : BitVec 32 := Scf.iv c0_i32_673 c1_i32_675 k0_t4
  let c16_i32_1082 : BitVec 32 := 16#32
  let v1353 : BitVec 32 := Scalar.muli arg13 c16_i32_1082
  let c9_i32_1083 : BitVec 32 := 9#32
  let v1354 : BitVec 32 := Scalar.addi v1353 c9_i32_1083
  let v1356 : Index := Scalar.indexCast v1354
  let c64_1085 : Index := 64#32
  ![0, v1356.toNat, 64]
def k0_off512 (v1296 : BitVec 32) : Fin 4 → Nat :=
  let c1_i32_1086 : BitVec 32 := 1#32
  let v1360 : Index := Scalar.indexCast c1_i32_1086
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1361 : Index := Scalar.indexCast v1298
  let c15_i32_1055 : BitVec 32 := 15#32
  let v1299 : BitVec 32 := Scalar.andi v1296 c15_i32_1055
  let v1362 : Index := Scalar.indexCast v1299
  let c80_1087 : Index := 80#32
  ![1, v1361.toNat, v1362.toNat, 80]

def k0_chk45 (v1296 : BitVec 32) : Prop :=
  (∀ a, (k0_off502 v1296) a + S1x1x1x16.size a ≤ S2x16x16x96.size a) ∧
  (∀ a, (k0_off504 v1296) a + S1x1x1x16.size a ≤ S2x16x16x96.size a) ∧
  (∀ a, (k0_off506 v1296) a + S1x1x1x16.size a ≤ S2x16x16x96.size a) ∧
  (∀ a, (k0_off508 v1296) a + S1x1x1x16.size a ≤ S2x16x16x96.size a) ∧
  (∀ a, (k0_off510 v1296) a + S1x1x1x16.size a ≤ S2x16x16x96.size a) ∧
  (∀ a, (k0_off512 v1296) a + S1x1x1x16.size a ≤ S2x16x16x96.size a)
theorem k0_off502_inb : ∀ (v1296 : BitVec 32) (k0_hw45 : k0_chk45 v1296), ∀ a, (k0_off502 v1296) a + S1x1x1x16.size a ≤ S2x16x16x96.size a := fun v1296 k0_hw45 => k0_hw45.1
theorem k0_off504_inb : ∀ (v1296 : BitVec 32) (k0_hw45 : k0_chk45 v1296), ∀ a, (k0_off504 v1296) a + S1x1x1x16.size a ≤ S2x16x16x96.size a := fun v1296 k0_hw45 => k0_hw45.2.1
theorem k0_off506_inb : ∀ (v1296 : BitVec 32) (k0_hw45 : k0_chk45 v1296), ∀ a, (k0_off506 v1296) a + S1x1x1x16.size a ≤ S2x16x16x96.size a := fun v1296 k0_hw45 => k0_hw45.2.2.1
theorem k0_off508_inb : ∀ (v1296 : BitVec 32) (k0_hw45 : k0_chk45 v1296), ∀ a, (k0_off508 v1296) a + S1x1x1x16.size a ≤ S2x16x16x96.size a := fun v1296 k0_hw45 => k0_hw45.2.2.2.1
theorem k0_off510_inb : ∀ (v1296 : BitVec 32) (k0_hw45 : k0_chk45 v1296), ∀ a, (k0_off510 v1296) a + S1x1x1x16.size a ≤ S2x16x16x96.size a := fun v1296 k0_hw45 => k0_hw45.2.2.2.2.1
theorem k0_off512_inb : ∀ (v1296 : BitVec 32) (k0_hw45 : k0_chk45 v1296), ∀ a, (k0_off512 v1296) a + S1x1x1x16.size a ≤ S2x16x16x96.size a := fun v1296 k0_hw45 => k0_hw45.2.2.2.2.2

def k0_off513 (k0_t4 : Fin k0_t4_loop.trips) : Fin 3 → Nat :=
  let c0_i32_1090 : BitVec 32 := 0#32
  let v1367 : Index := Scalar.indexCast c0_i32_1090
  let c0_i32_673 : BitVec 32 := 0#32
  let c1_i32_675 : BitVec 32 := 1#32
  let arg13 : BitVec 32 := Scf.iv c0_i32_673 c1_i32_675 k0_t4
  let c16_i32_1088 : BitVec 32 := 16#32
  let v1365 : BitVec 32 := Scalar.muli arg13 c16_i32_1088
  let c9_i32_1089 : BitVec 32 := 9#32
  let v1366 : BitVec 32 := Scalar.addi v1365 c9_i32_1089
  let v1368 : Index := Scalar.indexCast v1366
  let c80_1091 : Index := 80#32
  ![0, v1368.toNat, 80]
def k0_off514 (v1373 : BitVec 32) : Fin 4 → Nat :=
  let c1_i32_1095 : BitVec 32 := 1#32
  let v1377 : Index := Scalar.indexCast c1_i32_1095
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1378 : Index := Scalar.indexCast v1375
  let c15_i32_1094 : BitVec 32 := 15#32
  let v1376 : BitVec 32 := Scalar.andi v1373 c15_i32_1094
  let v1379 : Index := Scalar.indexCast v1376
  let c0_1096 : Index := 0#32
  ![1, v1378.toNat, v1379.toNat, 0]

def k0_off515 (k0_t4 : Fin k0_t4_loop.trips) : Fin 3 → Nat :=
  let c0_i32_1099 : BitVec 32 := 0#32
  let v1384 : Index := Scalar.indexCast c0_i32_1099
  let c0_i32_673 : BitVec 32 := 0#32
  let c1_i32_675 : BitVec 32 := 1#32
  let arg13 : BitVec 32 := Scf.iv c0_i32_673 c1_i32_675 k0_t4
  let c16_i32_1097 : BitVec 32 := 16#32
  let v1382 : BitVec 32 := Scalar.muli arg13 c16_i32_1097
  let c10_i32_1098 : BitVec 32 := 10#32
  let v1383 : BitVec 32 := Scalar.addi v1382 c10_i32_1098
  let v1385 : Index := Scalar.indexCast v1383
  let c0_1100 : Index := 0#32
  ![0, v1385.toNat, 0]
def k0_off516 (v1373 : BitVec 32) : Fin 4 → Nat :=
  let c1_i32_1101 : BitVec 32 := 1#32
  let v1389 : Index := Scalar.indexCast c1_i32_1101
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1390 : Index := Scalar.indexCast v1375
  let c15_i32_1094 : BitVec 32 := 15#32
  let v1376 : BitVec 32 := Scalar.andi v1373 c15_i32_1094
  let v1391 : Index := Scalar.indexCast v1376
  let c16_1102 : Index := 16#32
  ![1, v1390.toNat, v1391.toNat, 16]
def k0_off517 (k0_t4 : Fin k0_t4_loop.trips) : Fin 3 → Nat :=
  let c0_i32_1105 : BitVec 32 := 0#32
  let v1396 : Index := Scalar.indexCast c0_i32_1105
  let c0_i32_673 : BitVec 32 := 0#32
  let c1_i32_675 : BitVec 32 := 1#32
  let arg13 : BitVec 32 := Scf.iv c0_i32_673 c1_i32_675 k0_t4
  let c16_i32_1103 : BitVec 32 := 16#32
  let v1394 : BitVec 32 := Scalar.muli arg13 c16_i32_1103
  let c10_i32_1104 : BitVec 32 := 10#32
  let v1395 : BitVec 32 := Scalar.addi v1394 c10_i32_1104
  let v1397 : Index := Scalar.indexCast v1395
  let c16_1106 : Index := 16#32
  ![0, v1397.toNat, 16]
def k0_off518 (v1373 : BitVec 32) : Fin 4 → Nat :=
  let c1_i32_1107 : BitVec 32 := 1#32
  let v1401 : Index := Scalar.indexCast c1_i32_1107
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1402 : Index := Scalar.indexCast v1375
  let c15_i32_1094 : BitVec 32 := 15#32
  let v1376 : BitVec 32 := Scalar.andi v1373 c15_i32_1094
  let v1403 : Index := Scalar.indexCast v1376
  let c32_1108 : Index := 32#32
  ![1, v1402.toNat, v1403.toNat, 32]
def k0_off519 (k0_t4 : Fin k0_t4_loop.trips) : Fin 3 → Nat :=
  let c0_i32_1111 : BitVec 32 := 0#32
  let v1408 : Index := Scalar.indexCast c0_i32_1111
  let c0_i32_673 : BitVec 32 := 0#32
  let c1_i32_675 : BitVec 32 := 1#32
  let arg13 : BitVec 32 := Scf.iv c0_i32_673 c1_i32_675 k0_t4
  let c16_i32_1109 : BitVec 32 := 16#32
  let v1406 : BitVec 32 := Scalar.muli arg13 c16_i32_1109
  let c10_i32_1110 : BitVec 32 := 10#32
  let v1407 : BitVec 32 := Scalar.addi v1406 c10_i32_1110
  let v1409 : Index := Scalar.indexCast v1407
  let c32_1112 : Index := 32#32
  ![0, v1409.toNat, 32]
def k0_off520 (v1373 : BitVec 32) : Fin 4 → Nat :=
  let c1_i32_1113 : BitVec 32 := 1#32
  let v1413 : Index := Scalar.indexCast c1_i32_1113
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1414 : Index := Scalar.indexCast v1375
  let c15_i32_1094 : BitVec 32 := 15#32
  let v1376 : BitVec 32 := Scalar.andi v1373 c15_i32_1094
  let v1415 : Index := Scalar.indexCast v1376
  let c48_1114 : Index := 48#32
  ![1, v1414.toNat, v1415.toNat, 48]
def k0_off521 (k0_t4 : Fin k0_t4_loop.trips) : Fin 3 → Nat :=
  let c0_i32_1117 : BitVec 32 := 0#32
  let v1420 : Index := Scalar.indexCast c0_i32_1117
  let c0_i32_673 : BitVec 32 := 0#32
  let c1_i32_675 : BitVec 32 := 1#32
  let arg13 : BitVec 32 := Scf.iv c0_i32_673 c1_i32_675 k0_t4
  let c16_i32_1115 : BitVec 32 := 16#32
  let v1418 : BitVec 32 := Scalar.muli arg13 c16_i32_1115
  let c10_i32_1116 : BitVec 32 := 10#32
  let v1419 : BitVec 32 := Scalar.addi v1418 c10_i32_1116
  let v1421 : Index := Scalar.indexCast v1419
  let c48_1118 : Index := 48#32
  ![0, v1421.toNat, 48]
def k0_off522 (v1373 : BitVec 32) : Fin 4 → Nat :=
  let c1_i32_1119 : BitVec 32 := 1#32
  let v1425 : Index := Scalar.indexCast c1_i32_1119
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1426 : Index := Scalar.indexCast v1375
  let c15_i32_1094 : BitVec 32 := 15#32
  let v1376 : BitVec 32 := Scalar.andi v1373 c15_i32_1094
  let v1427 : Index := Scalar.indexCast v1376
  let c64_1120 : Index := 64#32
  ![1, v1426.toNat, v1427.toNat, 64]
def k0_off523 (k0_t4 : Fin k0_t4_loop.trips) : Fin 3 → Nat :=
  let c0_i32_1123 : BitVec 32 := 0#32
  let v1432 : Index := Scalar.indexCast c0_i32_1123
  let c0_i32_673 : BitVec 32 := 0#32
  let c1_i32_675 : BitVec 32 := 1#32
  let arg13 : BitVec 32 := Scf.iv c0_i32_673 c1_i32_675 k0_t4
  let c16_i32_1121 : BitVec 32 := 16#32
  let v1430 : BitVec 32 := Scalar.muli arg13 c16_i32_1121
  let c10_i32_1122 : BitVec 32 := 10#32
  let v1431 : BitVec 32 := Scalar.addi v1430 c10_i32_1122
  let v1433 : Index := Scalar.indexCast v1431
  let c64_1124 : Index := 64#32
  ![0, v1433.toNat, 64]
def k0_off524 (v1373 : BitVec 32) : Fin 4 → Nat :=
  let c1_i32_1125 : BitVec 32 := 1#32
  let v1437 : Index := Scalar.indexCast c1_i32_1125
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1438 : Index := Scalar.indexCast v1375
  let c15_i32_1094 : BitVec 32 := 15#32
  let v1376 : BitVec 32 := Scalar.andi v1373 c15_i32_1094
  let v1439 : Index := Scalar.indexCast v1376
  let c80_1126 : Index := 80#32
  ![1, v1438.toNat, v1439.toNat, 80]

def k0_chk46 (v1373 : BitVec 32) : Prop :=
  (∀ a, (k0_off514 v1373) a + S1x1x1x16.size a ≤ S2x16x16x96.size a) ∧
  (∀ a, (k0_off516 v1373) a + S1x1x1x16.size a ≤ S2x16x16x96.size a) ∧
  (∀ a, (k0_off518 v1373) a + S1x1x1x16.size a ≤ S2x16x16x96.size a) ∧
  (∀ a, (k0_off520 v1373) a + S1x1x1x16.size a ≤ S2x16x16x96.size a) ∧
  (∀ a, (k0_off522 v1373) a + S1x1x1x16.size a ≤ S2x16x16x96.size a) ∧
  (∀ a, (k0_off524 v1373) a + S1x1x1x16.size a ≤ S2x16x16x96.size a)
theorem k0_off514_inb : ∀ (v1373 : BitVec 32) (k0_hw46 : k0_chk46 v1373), ∀ a, (k0_off514 v1373) a + S1x1x1x16.size a ≤ S2x16x16x96.size a := fun v1373 k0_hw46 => k0_hw46.1
theorem k0_off516_inb : ∀ (v1373 : BitVec 32) (k0_hw46 : k0_chk46 v1373), ∀ a, (k0_off516 v1373) a + S1x1x1x16.size a ≤ S2x16x16x96.size a := fun v1373 k0_hw46 => k0_hw46.2.1
theorem k0_off518_inb : ∀ (v1373 : BitVec 32) (k0_hw46 : k0_chk46 v1373), ∀ a, (k0_off518 v1373) a + S1x1x1x16.size a ≤ S2x16x16x96.size a := fun v1373 k0_hw46 => k0_hw46.2.2.1
theorem k0_off520_inb : ∀ (v1373 : BitVec 32) (k0_hw46 : k0_chk46 v1373), ∀ a, (k0_off520 v1373) a + S1x1x1x16.size a ≤ S2x16x16x96.size a := fun v1373 k0_hw46 => k0_hw46.2.2.2.1
theorem k0_off522_inb : ∀ (v1373 : BitVec 32) (k0_hw46 : k0_chk46 v1373), ∀ a, (k0_off522 v1373) a + S1x1x1x16.size a ≤ S2x16x16x96.size a := fun v1373 k0_hw46 => k0_hw46.2.2.2.2.1
theorem k0_off524_inb : ∀ (v1373 : BitVec 32) (k0_hw46 : k0_chk46 v1373), ∀ a, (k0_off524 v1373) a + S1x1x1x16.size a ≤ S2x16x16x96.size a := fun v1373 k0_hw46 => k0_hw46.2.2.2.2.2

def k0_off525 (k0_t4 : Fin k0_t4_loop.trips) : Fin 3 → Nat :=
  let c0_i32_1129 : BitVec 32 := 0#32
  let v1444 : Index := Scalar.indexCast c0_i32_1129
  let c0_i32_673 : BitVec 32 := 0#32
  let c1_i32_675 : BitVec 32 := 1#32
  let arg13 : BitVec 32 := Scf.iv c0_i32_673 c1_i32_675 k0_t4
  let c16_i32_1127 : BitVec 32 := 16#32
  let v1442 : BitVec 32 := Scalar.muli arg13 c16_i32_1127
  let c10_i32_1128 : BitVec 32 := 10#32
  let v1443 : BitVec 32 := Scalar.addi v1442 c10_i32_1128
  let v1445 : Index := Scalar.indexCast v1443
  let c80_1130 : Index := 80#32
  ![0, v1445.toNat, 80]
def k0_off526 (v1450 : BitVec 32) : Fin 4 → Nat :=
  let c1_i32_1134 : BitVec 32 := 1#32
  let v1454 : Index := Scalar.indexCast c1_i32_1134
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1455 : Index := Scalar.indexCast v1452
  let c15_i32_1133 : BitVec 32 := 15#32
  let v1453 : BitVec 32 := Scalar.andi v1450 c15_i32_1133
  let v1456 : Index := Scalar.indexCast v1453
  let c0_1135 : Index := 0#32
  ![1, v1455.toNat, v1456.toNat, 0]

def k0_off527 (k0_t4 : Fin k0_t4_loop.trips) : Fin 3 → Nat :=
  let c0_i32_1138 : BitVec 32 := 0#32
  let v1461 : Index := Scalar.indexCast c0_i32_1138
  let c0_i32_673 : BitVec 32 := 0#32
  let c1_i32_675 : BitVec 32 := 1#32
  let arg13 : BitVec 32 := Scf.iv c0_i32_673 c1_i32_675 k0_t4
  let c16_i32_1136 : BitVec 32 := 16#32
  let v1459 : BitVec 32 := Scalar.muli arg13 c16_i32_1136
  let c11_i32_1137 : BitVec 32 := 11#32
  let v1460 : BitVec 32 := Scalar.addi v1459 c11_i32_1137
  let v1462 : Index := Scalar.indexCast v1460
  let c0_1139 : Index := 0#32
  ![0, v1462.toNat, 0]
def k0_off528 (v1450 : BitVec 32) : Fin 4 → Nat :=
  let c1_i32_1140 : BitVec 32 := 1#32
  let v1466 : Index := Scalar.indexCast c1_i32_1140
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1467 : Index := Scalar.indexCast v1452
  let c15_i32_1133 : BitVec 32 := 15#32
  let v1453 : BitVec 32 := Scalar.andi v1450 c15_i32_1133
  let v1468 : Index := Scalar.indexCast v1453
  let c16_1141 : Index := 16#32
  ![1, v1467.toNat, v1468.toNat, 16]
def k0_off529 (k0_t4 : Fin k0_t4_loop.trips) : Fin 3 → Nat :=
  let c0_i32_1144 : BitVec 32 := 0#32
  let v1473 : Index := Scalar.indexCast c0_i32_1144
  let c0_i32_673 : BitVec 32 := 0#32
  let c1_i32_675 : BitVec 32 := 1#32
  let arg13 : BitVec 32 := Scf.iv c0_i32_673 c1_i32_675 k0_t4
  let c16_i32_1142 : BitVec 32 := 16#32
  let v1471 : BitVec 32 := Scalar.muli arg13 c16_i32_1142
  let c11_i32_1143 : BitVec 32 := 11#32
  let v1472 : BitVec 32 := Scalar.addi v1471 c11_i32_1143
  let v1474 : Index := Scalar.indexCast v1472
  let c16_1145 : Index := 16#32
  ![0, v1474.toNat, 16]
def k0_off530 (v1450 : BitVec 32) : Fin 4 → Nat :=
  let c1_i32_1146 : BitVec 32 := 1#32
  let v1478 : Index := Scalar.indexCast c1_i32_1146
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1479 : Index := Scalar.indexCast v1452
  let c15_i32_1133 : BitVec 32 := 15#32
  let v1453 : BitVec 32 := Scalar.andi v1450 c15_i32_1133
  let v1480 : Index := Scalar.indexCast v1453
  let c32_1147 : Index := 32#32
  ![1, v1479.toNat, v1480.toNat, 32]
def k0_off531 (k0_t4 : Fin k0_t4_loop.trips) : Fin 3 → Nat :=
  let c0_i32_1150 : BitVec 32 := 0#32
  let v1485 : Index := Scalar.indexCast c0_i32_1150
  let c0_i32_673 : BitVec 32 := 0#32
  let c1_i32_675 : BitVec 32 := 1#32
  let arg13 : BitVec 32 := Scf.iv c0_i32_673 c1_i32_675 k0_t4
  let c16_i32_1148 : BitVec 32 := 16#32
  let v1483 : BitVec 32 := Scalar.muli arg13 c16_i32_1148
  let c11_i32_1149 : BitVec 32 := 11#32
  let v1484 : BitVec 32 := Scalar.addi v1483 c11_i32_1149
  let v1486 : Index := Scalar.indexCast v1484
  let c32_1151 : Index := 32#32
  ![0, v1486.toNat, 32]
def k0_off532 (v1450 : BitVec 32) : Fin 4 → Nat :=
  let c1_i32_1152 : BitVec 32 := 1#32
  let v1490 : Index := Scalar.indexCast c1_i32_1152
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1491 : Index := Scalar.indexCast v1452
  let c15_i32_1133 : BitVec 32 := 15#32
  let v1453 : BitVec 32 := Scalar.andi v1450 c15_i32_1133
  let v1492 : Index := Scalar.indexCast v1453
  let c48_1153 : Index := 48#32
  ![1, v1491.toNat, v1492.toNat, 48]
def k0_off533 (k0_t4 : Fin k0_t4_loop.trips) : Fin 3 → Nat :=
  let c0_i32_1156 : BitVec 32 := 0#32
  let v1497 : Index := Scalar.indexCast c0_i32_1156
  let c0_i32_673 : BitVec 32 := 0#32
  let c1_i32_675 : BitVec 32 := 1#32
  let arg13 : BitVec 32 := Scf.iv c0_i32_673 c1_i32_675 k0_t4
  let c16_i32_1154 : BitVec 32 := 16#32
  let v1495 : BitVec 32 := Scalar.muli arg13 c16_i32_1154
  let c11_i32_1155 : BitVec 32 := 11#32
  let v1496 : BitVec 32 := Scalar.addi v1495 c11_i32_1155
  let v1498 : Index := Scalar.indexCast v1496
  let c48_1157 : Index := 48#32
  ![0, v1498.toNat, 48]
def k0_off534 (v1450 : BitVec 32) : Fin 4 → Nat :=
  let c1_i32_1158 : BitVec 32 := 1#32
  let v1502 : Index := Scalar.indexCast c1_i32_1158
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1503 : Index := Scalar.indexCast v1452
  let c15_i32_1133 : BitVec 32 := 15#32
  let v1453 : BitVec 32 := Scalar.andi v1450 c15_i32_1133
  let v1504 : Index := Scalar.indexCast v1453
  let c64_1159 : Index := 64#32
  ![1, v1503.toNat, v1504.toNat, 64]
def k0_off535 (k0_t4 : Fin k0_t4_loop.trips) : Fin 3 → Nat :=
  let c0_i32_1162 : BitVec 32 := 0#32
  let v1509 : Index := Scalar.indexCast c0_i32_1162
  let c0_i32_673 : BitVec 32 := 0#32
  let c1_i32_675 : BitVec 32 := 1#32
  let arg13 : BitVec 32 := Scf.iv c0_i32_673 c1_i32_675 k0_t4
  let c16_i32_1160 : BitVec 32 := 16#32
  let v1507 : BitVec 32 := Scalar.muli arg13 c16_i32_1160
  let c11_i32_1161 : BitVec 32 := 11#32
  let v1508 : BitVec 32 := Scalar.addi v1507 c11_i32_1161
  let v1510 : Index := Scalar.indexCast v1508
  let c64_1163 : Index := 64#32
  ![0, v1510.toNat, 64]
def k0_off536 (v1450 : BitVec 32) : Fin 4 → Nat :=
  let c1_i32_1164 : BitVec 32 := 1#32
  let v1514 : Index := Scalar.indexCast c1_i32_1164
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1515 : Index := Scalar.indexCast v1452
  let c15_i32_1133 : BitVec 32 := 15#32
  let v1453 : BitVec 32 := Scalar.andi v1450 c15_i32_1133
  let v1516 : Index := Scalar.indexCast v1453
  let c80_1165 : Index := 80#32
  ![1, v1515.toNat, v1516.toNat, 80]

def k0_chk47 (v1450 : BitVec 32) : Prop :=
  (∀ a, (k0_off526 v1450) a + S1x1x1x16.size a ≤ S2x16x16x96.size a) ∧
  (∀ a, (k0_off528 v1450) a + S1x1x1x16.size a ≤ S2x16x16x96.size a) ∧
  (∀ a, (k0_off530 v1450) a + S1x1x1x16.size a ≤ S2x16x16x96.size a) ∧
  (∀ a, (k0_off532 v1450) a + S1x1x1x16.size a ≤ S2x16x16x96.size a) ∧
  (∀ a, (k0_off534 v1450) a + S1x1x1x16.size a ≤ S2x16x16x96.size a) ∧
  (∀ a, (k0_off536 v1450) a + S1x1x1x16.size a ≤ S2x16x16x96.size a)
theorem k0_off526_inb : ∀ (v1450 : BitVec 32) (k0_hw47 : k0_chk47 v1450), ∀ a, (k0_off526 v1450) a + S1x1x1x16.size a ≤ S2x16x16x96.size a := fun v1450 k0_hw47 => k0_hw47.1
theorem k0_off528_inb : ∀ (v1450 : BitVec 32) (k0_hw47 : k0_chk47 v1450), ∀ a, (k0_off528 v1450) a + S1x1x1x16.size a ≤ S2x16x16x96.size a := fun v1450 k0_hw47 => k0_hw47.2.1
theorem k0_off530_inb : ∀ (v1450 : BitVec 32) (k0_hw47 : k0_chk47 v1450), ∀ a, (k0_off530 v1450) a + S1x1x1x16.size a ≤ S2x16x16x96.size a := fun v1450 k0_hw47 => k0_hw47.2.2.1
theorem k0_off532_inb : ∀ (v1450 : BitVec 32) (k0_hw47 : k0_chk47 v1450), ∀ a, (k0_off532 v1450) a + S1x1x1x16.size a ≤ S2x16x16x96.size a := fun v1450 k0_hw47 => k0_hw47.2.2.2.1
theorem k0_off534_inb : ∀ (v1450 : BitVec 32) (k0_hw47 : k0_chk47 v1450), ∀ a, (k0_off534 v1450) a + S1x1x1x16.size a ≤ S2x16x16x96.size a := fun v1450 k0_hw47 => k0_hw47.2.2.2.2.1
theorem k0_off536_inb : ∀ (v1450 : BitVec 32) (k0_hw47 : k0_chk47 v1450), ∀ a, (k0_off536 v1450) a + S1x1x1x16.size a ≤ S2x16x16x96.size a := fun v1450 k0_hw47 => k0_hw47.2.2.2.2.2

def k0_off537 (k0_t4 : Fin k0_t4_loop.trips) : Fin 3 → Nat :=
  let c0_i32_1168 : BitVec 32 := 0#32
  let v1521 : Index := Scalar.indexCast c0_i32_1168
  let c0_i32_673 : BitVec 32 := 0#32
  let c1_i32_675 : BitVec 32 := 1#32
  let arg13 : BitVec 32 := Scf.iv c0_i32_673 c1_i32_675 k0_t4
  let c16_i32_1166 : BitVec 32 := 16#32
  let v1519 : BitVec 32 := Scalar.muli arg13 c16_i32_1166
  let c11_i32_1167 : BitVec 32 := 11#32
  let v1520 : BitVec 32 := Scalar.addi v1519 c11_i32_1167
  let v1522 : Index := Scalar.indexCast v1520
  let c80_1169 : Index := 80#32
  ![0, v1522.toNat, 80]
def k0_off538 (v1527 : BitVec 32) : Fin 4 → Nat :=
  let c1_i32_1173 : BitVec 32 := 1#32
  let v1531 : Index := Scalar.indexCast c1_i32_1173
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1532 : Index := Scalar.indexCast v1529
  let c15_i32_1172 : BitVec 32 := 15#32
  let v1530 : BitVec 32 := Scalar.andi v1527 c15_i32_1172
  let v1533 : Index := Scalar.indexCast v1530
  let c0_1174 : Index := 0#32
  ![1, v1532.toNat, v1533.toNat, 0]

def k0_off539 (k0_t4 : Fin k0_t4_loop.trips) : Fin 3 → Nat :=
  let c0_i32_1177 : BitVec 32 := 0#32
  let v1538 : Index := Scalar.indexCast c0_i32_1177
  let c0_i32_673 : BitVec 32 := 0#32
  let c1_i32_675 : BitVec 32 := 1#32
  let arg13 : BitVec 32 := Scf.iv c0_i32_673 c1_i32_675 k0_t4
  let c16_i32_1175 : BitVec 32 := 16#32
  let v1536 : BitVec 32 := Scalar.muli arg13 c16_i32_1175
  let c12_i32_1176 : BitVec 32 := 12#32
  let v1537 : BitVec 32 := Scalar.addi v1536 c12_i32_1176
  let v1539 : Index := Scalar.indexCast v1537
  let c0_1178 : Index := 0#32
  ![0, v1539.toNat, 0]
def k0_off540 (v1527 : BitVec 32) : Fin 4 → Nat :=
  let c1_i32_1179 : BitVec 32 := 1#32
  let v1543 : Index := Scalar.indexCast c1_i32_1179
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1544 : Index := Scalar.indexCast v1529
  let c15_i32_1172 : BitVec 32 := 15#32
  let v1530 : BitVec 32 := Scalar.andi v1527 c15_i32_1172
  let v1545 : Index := Scalar.indexCast v1530
  let c16_1180 : Index := 16#32
  ![1, v1544.toNat, v1545.toNat, 16]
def k0_off541 (k0_t4 : Fin k0_t4_loop.trips) : Fin 3 → Nat :=
  let c0_i32_1183 : BitVec 32 := 0#32
  let v1550 : Index := Scalar.indexCast c0_i32_1183
  let c0_i32_673 : BitVec 32 := 0#32
  let c1_i32_675 : BitVec 32 := 1#32
  let arg13 : BitVec 32 := Scf.iv c0_i32_673 c1_i32_675 k0_t4
  let c16_i32_1181 : BitVec 32 := 16#32
  let v1548 : BitVec 32 := Scalar.muli arg13 c16_i32_1181
  let c12_i32_1182 : BitVec 32 := 12#32
  let v1549 : BitVec 32 := Scalar.addi v1548 c12_i32_1182
  let v1551 : Index := Scalar.indexCast v1549
  let c16_1184 : Index := 16#32
  ![0, v1551.toNat, 16]
def k0_off542 (v1527 : BitVec 32) : Fin 4 → Nat :=
  let c1_i32_1185 : BitVec 32 := 1#32
  let v1555 : Index := Scalar.indexCast c1_i32_1185
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1556 : Index := Scalar.indexCast v1529
  let c15_i32_1172 : BitVec 32 := 15#32
  let v1530 : BitVec 32 := Scalar.andi v1527 c15_i32_1172
  let v1557 : Index := Scalar.indexCast v1530
  let c32_1186 : Index := 32#32
  ![1, v1556.toNat, v1557.toNat, 32]
def k0_off543 (k0_t4 : Fin k0_t4_loop.trips) : Fin 3 → Nat :=
  let c0_i32_1189 : BitVec 32 := 0#32
  let v1562 : Index := Scalar.indexCast c0_i32_1189
  let c0_i32_673 : BitVec 32 := 0#32
  let c1_i32_675 : BitVec 32 := 1#32
  let arg13 : BitVec 32 := Scf.iv c0_i32_673 c1_i32_675 k0_t4
  let c16_i32_1187 : BitVec 32 := 16#32
  let v1560 : BitVec 32 := Scalar.muli arg13 c16_i32_1187
  let c12_i32_1188 : BitVec 32 := 12#32
  let v1561 : BitVec 32 := Scalar.addi v1560 c12_i32_1188
  let v1563 : Index := Scalar.indexCast v1561
  let c32_1190 : Index := 32#32
  ![0, v1563.toNat, 32]
def k0_off544 (v1527 : BitVec 32) : Fin 4 → Nat :=
  let c1_i32_1191 : BitVec 32 := 1#32
  let v1567 : Index := Scalar.indexCast c1_i32_1191
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1568 : Index := Scalar.indexCast v1529
  let c15_i32_1172 : BitVec 32 := 15#32
  let v1530 : BitVec 32 := Scalar.andi v1527 c15_i32_1172
  let v1569 : Index := Scalar.indexCast v1530
  let c48_1192 : Index := 48#32
  ![1, v1568.toNat, v1569.toNat, 48]
def k0_off545 (k0_t4 : Fin k0_t4_loop.trips) : Fin 3 → Nat :=
  let c0_i32_1195 : BitVec 32 := 0#32
  let v1574 : Index := Scalar.indexCast c0_i32_1195
  let c0_i32_673 : BitVec 32 := 0#32
  let c1_i32_675 : BitVec 32 := 1#32
  let arg13 : BitVec 32 := Scf.iv c0_i32_673 c1_i32_675 k0_t4
  let c16_i32_1193 : BitVec 32 := 16#32
  let v1572 : BitVec 32 := Scalar.muli arg13 c16_i32_1193
  let c12_i32_1194 : BitVec 32 := 12#32
  let v1573 : BitVec 32 := Scalar.addi v1572 c12_i32_1194
  let v1575 : Index := Scalar.indexCast v1573
  let c48_1196 : Index := 48#32
  ![0, v1575.toNat, 48]
def k0_off546 (v1527 : BitVec 32) : Fin 4 → Nat :=
  let c1_i32_1197 : BitVec 32 := 1#32
  let v1579 : Index := Scalar.indexCast c1_i32_1197
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1580 : Index := Scalar.indexCast v1529
  let c15_i32_1172 : BitVec 32 := 15#32
  let v1530 : BitVec 32 := Scalar.andi v1527 c15_i32_1172
  let v1581 : Index := Scalar.indexCast v1530
  let c64_1198 : Index := 64#32
  ![1, v1580.toNat, v1581.toNat, 64]
def k0_off547 (k0_t4 : Fin k0_t4_loop.trips) : Fin 3 → Nat :=
  let c0_i32_1201 : BitVec 32 := 0#32
  let v1586 : Index := Scalar.indexCast c0_i32_1201
  let c0_i32_673 : BitVec 32 := 0#32
  let c1_i32_675 : BitVec 32 := 1#32
  let arg13 : BitVec 32 := Scf.iv c0_i32_673 c1_i32_675 k0_t4
  let c16_i32_1199 : BitVec 32 := 16#32
  let v1584 : BitVec 32 := Scalar.muli arg13 c16_i32_1199
  let c12_i32_1200 : BitVec 32 := 12#32
  let v1585 : BitVec 32 := Scalar.addi v1584 c12_i32_1200
  let v1587 : Index := Scalar.indexCast v1585
  let c64_1202 : Index := 64#32
  ![0, v1587.toNat, 64]
def k0_off548 (v1527 : BitVec 32) : Fin 4 → Nat :=
  let c1_i32_1203 : BitVec 32 := 1#32
  let v1591 : Index := Scalar.indexCast c1_i32_1203
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1592 : Index := Scalar.indexCast v1529
  let c15_i32_1172 : BitVec 32 := 15#32
  let v1530 : BitVec 32 := Scalar.andi v1527 c15_i32_1172
  let v1593 : Index := Scalar.indexCast v1530
  let c80_1204 : Index := 80#32
  ![1, v1592.toNat, v1593.toNat, 80]

def k0_chk48 (v1527 : BitVec 32) : Prop :=
  (∀ a, (k0_off538 v1527) a + S1x1x1x16.size a ≤ S2x16x16x96.size a) ∧
  (∀ a, (k0_off540 v1527) a + S1x1x1x16.size a ≤ S2x16x16x96.size a) ∧
  (∀ a, (k0_off542 v1527) a + S1x1x1x16.size a ≤ S2x16x16x96.size a) ∧
  (∀ a, (k0_off544 v1527) a + S1x1x1x16.size a ≤ S2x16x16x96.size a) ∧
  (∀ a, (k0_off546 v1527) a + S1x1x1x16.size a ≤ S2x16x16x96.size a) ∧
  (∀ a, (k0_off548 v1527) a + S1x1x1x16.size a ≤ S2x16x16x96.size a)
theorem k0_off538_inb : ∀ (v1527 : BitVec 32) (k0_hw48 : k0_chk48 v1527), ∀ a, (k0_off538 v1527) a + S1x1x1x16.size a ≤ S2x16x16x96.size a := fun v1527 k0_hw48 => k0_hw48.1
theorem k0_off540_inb : ∀ (v1527 : BitVec 32) (k0_hw48 : k0_chk48 v1527), ∀ a, (k0_off540 v1527) a + S1x1x1x16.size a ≤ S2x16x16x96.size a := fun v1527 k0_hw48 => k0_hw48.2.1
theorem k0_off542_inb : ∀ (v1527 : BitVec 32) (k0_hw48 : k0_chk48 v1527), ∀ a, (k0_off542 v1527) a + S1x1x1x16.size a ≤ S2x16x16x96.size a := fun v1527 k0_hw48 => k0_hw48.2.2.1
theorem k0_off544_inb : ∀ (v1527 : BitVec 32) (k0_hw48 : k0_chk48 v1527), ∀ a, (k0_off544 v1527) a + S1x1x1x16.size a ≤ S2x16x16x96.size a := fun v1527 k0_hw48 => k0_hw48.2.2.2.1
theorem k0_off546_inb : ∀ (v1527 : BitVec 32) (k0_hw48 : k0_chk48 v1527), ∀ a, (k0_off546 v1527) a + S1x1x1x16.size a ≤ S2x16x16x96.size a := fun v1527 k0_hw48 => k0_hw48.2.2.2.2.1
theorem k0_off548_inb : ∀ (v1527 : BitVec 32) (k0_hw48 : k0_chk48 v1527), ∀ a, (k0_off548 v1527) a + S1x1x1x16.size a ≤ S2x16x16x96.size a := fun v1527 k0_hw48 => k0_hw48.2.2.2.2.2

def k0_off549 (k0_t4 : Fin k0_t4_loop.trips) : Fin 3 → Nat :=
  let c0_i32_1207 : BitVec 32 := 0#32
  let v1598 : Index := Scalar.indexCast c0_i32_1207
  let c0_i32_673 : BitVec 32 := 0#32
  let c1_i32_675 : BitVec 32 := 1#32
  let arg13 : BitVec 32 := Scf.iv c0_i32_673 c1_i32_675 k0_t4
  let c16_i32_1205 : BitVec 32 := 16#32
  let v1596 : BitVec 32 := Scalar.muli arg13 c16_i32_1205
  let c12_i32_1206 : BitVec 32 := 12#32
  let v1597 : BitVec 32 := Scalar.addi v1596 c12_i32_1206
  let v1599 : Index := Scalar.indexCast v1597
  let c80_1208 : Index := 80#32
  ![0, v1599.toNat, 80]
def k0_off550 (v1604 : BitVec 32) : Fin 4 → Nat :=
  let c1_i32_1212 : BitVec 32 := 1#32
  let v1608 : Index := Scalar.indexCast c1_i32_1212
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1609 : Index := Scalar.indexCast v1606
  let c15_i32_1211 : BitVec 32 := 15#32
  let v1607 : BitVec 32 := Scalar.andi v1604 c15_i32_1211
  let v1610 : Index := Scalar.indexCast v1607
  let c0_1213 : Index := 0#32
  ![1, v1609.toNat, v1610.toNat, 0]

def k0_off551 (k0_t4 : Fin k0_t4_loop.trips) : Fin 3 → Nat :=
  let c0_i32_1216 : BitVec 32 := 0#32
  let v1615 : Index := Scalar.indexCast c0_i32_1216
  let c0_i32_673 : BitVec 32 := 0#32
  let c1_i32_675 : BitVec 32 := 1#32
  let arg13 : BitVec 32 := Scf.iv c0_i32_673 c1_i32_675 k0_t4
  let c16_i32_1214 : BitVec 32 := 16#32
  let v1613 : BitVec 32 := Scalar.muli arg13 c16_i32_1214
  let c13_i32_1215 : BitVec 32 := 13#32
  let v1614 : BitVec 32 := Scalar.addi v1613 c13_i32_1215
  let v1616 : Index := Scalar.indexCast v1614
  let c0_1217 : Index := 0#32
  ![0, v1616.toNat, 0]
def k0_off552 (v1604 : BitVec 32) : Fin 4 → Nat :=
  let c1_i32_1218 : BitVec 32 := 1#32
  let v1620 : Index := Scalar.indexCast c1_i32_1218
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1621 : Index := Scalar.indexCast v1606
  let c15_i32_1211 : BitVec 32 := 15#32
  let v1607 : BitVec 32 := Scalar.andi v1604 c15_i32_1211
  let v1622 : Index := Scalar.indexCast v1607
  let c16_1219 : Index := 16#32
  ![1, v1621.toNat, v1622.toNat, 16]
def k0_off553 (k0_t4 : Fin k0_t4_loop.trips) : Fin 3 → Nat :=
  let c0_i32_1222 : BitVec 32 := 0#32
  let v1627 : Index := Scalar.indexCast c0_i32_1222
  let c0_i32_673 : BitVec 32 := 0#32
  let c1_i32_675 : BitVec 32 := 1#32
  let arg13 : BitVec 32 := Scf.iv c0_i32_673 c1_i32_675 k0_t4
  let c16_i32_1220 : BitVec 32 := 16#32
  let v1625 : BitVec 32 := Scalar.muli arg13 c16_i32_1220
  let c13_i32_1221 : BitVec 32 := 13#32
  let v1626 : BitVec 32 := Scalar.addi v1625 c13_i32_1221
  let v1628 : Index := Scalar.indexCast v1626
  let c16_1223 : Index := 16#32
  ![0, v1628.toNat, 16]
def k0_off554 (v1604 : BitVec 32) : Fin 4 → Nat :=
  let c1_i32_1224 : BitVec 32 := 1#32
  let v1632 : Index := Scalar.indexCast c1_i32_1224
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1633 : Index := Scalar.indexCast v1606
  let c15_i32_1211 : BitVec 32 := 15#32
  let v1607 : BitVec 32 := Scalar.andi v1604 c15_i32_1211
  let v1634 : Index := Scalar.indexCast v1607
  let c32_1225 : Index := 32#32
  ![1, v1633.toNat, v1634.toNat, 32]
def k0_off555 (k0_t4 : Fin k0_t4_loop.trips) : Fin 3 → Nat :=
  let c0_i32_1228 : BitVec 32 := 0#32
  let v1639 : Index := Scalar.indexCast c0_i32_1228
  let c0_i32_673 : BitVec 32 := 0#32
  let c1_i32_675 : BitVec 32 := 1#32
  let arg13 : BitVec 32 := Scf.iv c0_i32_673 c1_i32_675 k0_t4
  let c16_i32_1226 : BitVec 32 := 16#32
  let v1637 : BitVec 32 := Scalar.muli arg13 c16_i32_1226
  let c13_i32_1227 : BitVec 32 := 13#32
  let v1638 : BitVec 32 := Scalar.addi v1637 c13_i32_1227
  let v1640 : Index := Scalar.indexCast v1638
  let c32_1229 : Index := 32#32
  ![0, v1640.toNat, 32]
def k0_off556 (v1604 : BitVec 32) : Fin 4 → Nat :=
  let c1_i32_1230 : BitVec 32 := 1#32
  let v1644 : Index := Scalar.indexCast c1_i32_1230
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1645 : Index := Scalar.indexCast v1606
  let c15_i32_1211 : BitVec 32 := 15#32
  let v1607 : BitVec 32 := Scalar.andi v1604 c15_i32_1211
  let v1646 : Index := Scalar.indexCast v1607
  let c48_1231 : Index := 48#32
  ![1, v1645.toNat, v1646.toNat, 48]
def k0_off557 (k0_t4 : Fin k0_t4_loop.trips) : Fin 3 → Nat :=
  let c0_i32_1234 : BitVec 32 := 0#32
  let v1651 : Index := Scalar.indexCast c0_i32_1234
  let c0_i32_673 : BitVec 32 := 0#32
  let c1_i32_675 : BitVec 32 := 1#32
  let arg13 : BitVec 32 := Scf.iv c0_i32_673 c1_i32_675 k0_t4
  let c16_i32_1232 : BitVec 32 := 16#32
  let v1649 : BitVec 32 := Scalar.muli arg13 c16_i32_1232
  let c13_i32_1233 : BitVec 32 := 13#32
  let v1650 : BitVec 32 := Scalar.addi v1649 c13_i32_1233
  let v1652 : Index := Scalar.indexCast v1650
  let c48_1235 : Index := 48#32
  ![0, v1652.toNat, 48]
def k0_off558 (v1604 : BitVec 32) : Fin 4 → Nat :=
  let c1_i32_1236 : BitVec 32 := 1#32
  let v1656 : Index := Scalar.indexCast c1_i32_1236
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1657 : Index := Scalar.indexCast v1606
  let c15_i32_1211 : BitVec 32 := 15#32
  let v1607 : BitVec 32 := Scalar.andi v1604 c15_i32_1211
  let v1658 : Index := Scalar.indexCast v1607
  let c64_1237 : Index := 64#32
  ![1, v1657.toNat, v1658.toNat, 64]
def k0_off559 (k0_t4 : Fin k0_t4_loop.trips) : Fin 3 → Nat :=
  let c0_i32_1240 : BitVec 32 := 0#32
  let v1663 : Index := Scalar.indexCast c0_i32_1240
  let c0_i32_673 : BitVec 32 := 0#32
  let c1_i32_675 : BitVec 32 := 1#32
  let arg13 : BitVec 32 := Scf.iv c0_i32_673 c1_i32_675 k0_t4
  let c16_i32_1238 : BitVec 32 := 16#32
  let v1661 : BitVec 32 := Scalar.muli arg13 c16_i32_1238
  let c13_i32_1239 : BitVec 32 := 13#32
  let v1662 : BitVec 32 := Scalar.addi v1661 c13_i32_1239
  let v1664 : Index := Scalar.indexCast v1662
  let c64_1241 : Index := 64#32
  ![0, v1664.toNat, 64]
def k0_off560 (v1604 : BitVec 32) : Fin 4 → Nat :=
  let c1_i32_1242 : BitVec 32 := 1#32
  let v1668 : Index := Scalar.indexCast c1_i32_1242
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1669 : Index := Scalar.indexCast v1606
  let c15_i32_1211 : BitVec 32 := 15#32
  let v1607 : BitVec 32 := Scalar.andi v1604 c15_i32_1211
  let v1670 : Index := Scalar.indexCast v1607
  let c80_1243 : Index := 80#32
  ![1, v1669.toNat, v1670.toNat, 80]

def k0_chk49 (v1604 : BitVec 32) : Prop :=
  (∀ a, (k0_off550 v1604) a + S1x1x1x16.size a ≤ S2x16x16x96.size a) ∧
  (∀ a, (k0_off552 v1604) a + S1x1x1x16.size a ≤ S2x16x16x96.size a) ∧
  (∀ a, (k0_off554 v1604) a + S1x1x1x16.size a ≤ S2x16x16x96.size a) ∧
  (∀ a, (k0_off556 v1604) a + S1x1x1x16.size a ≤ S2x16x16x96.size a) ∧
  (∀ a, (k0_off558 v1604) a + S1x1x1x16.size a ≤ S2x16x16x96.size a) ∧
  (∀ a, (k0_off560 v1604) a + S1x1x1x16.size a ≤ S2x16x16x96.size a)
theorem k0_off550_inb : ∀ (v1604 : BitVec 32) (k0_hw49 : k0_chk49 v1604), ∀ a, (k0_off550 v1604) a + S1x1x1x16.size a ≤ S2x16x16x96.size a := fun v1604 k0_hw49 => k0_hw49.1
theorem k0_off552_inb : ∀ (v1604 : BitVec 32) (k0_hw49 : k0_chk49 v1604), ∀ a, (k0_off552 v1604) a + S1x1x1x16.size a ≤ S2x16x16x96.size a := fun v1604 k0_hw49 => k0_hw49.2.1
theorem k0_off554_inb : ∀ (v1604 : BitVec 32) (k0_hw49 : k0_chk49 v1604), ∀ a, (k0_off554 v1604) a + S1x1x1x16.size a ≤ S2x16x16x96.size a := fun v1604 k0_hw49 => k0_hw49.2.2.1
theorem k0_off556_inb : ∀ (v1604 : BitVec 32) (k0_hw49 : k0_chk49 v1604), ∀ a, (k0_off556 v1604) a + S1x1x1x16.size a ≤ S2x16x16x96.size a := fun v1604 k0_hw49 => k0_hw49.2.2.2.1
theorem k0_off558_inb : ∀ (v1604 : BitVec 32) (k0_hw49 : k0_chk49 v1604), ∀ a, (k0_off558 v1604) a + S1x1x1x16.size a ≤ S2x16x16x96.size a := fun v1604 k0_hw49 => k0_hw49.2.2.2.2.1
theorem k0_off560_inb : ∀ (v1604 : BitVec 32) (k0_hw49 : k0_chk49 v1604), ∀ a, (k0_off560 v1604) a + S1x1x1x16.size a ≤ S2x16x16x96.size a := fun v1604 k0_hw49 => k0_hw49.2.2.2.2.2

def k0_off561 (k0_t4 : Fin k0_t4_loop.trips) : Fin 3 → Nat :=
  let c0_i32_1246 : BitVec 32 := 0#32
  let v1675 : Index := Scalar.indexCast c0_i32_1246
  let c0_i32_673 : BitVec 32 := 0#32
  let c1_i32_675 : BitVec 32 := 1#32
  let arg13 : BitVec 32 := Scf.iv c0_i32_673 c1_i32_675 k0_t4
  let c16_i32_1244 : BitVec 32 := 16#32
  let v1673 : BitVec 32 := Scalar.muli arg13 c16_i32_1244
  let c13_i32_1245 : BitVec 32 := 13#32
  let v1674 : BitVec 32 := Scalar.addi v1673 c13_i32_1245
  let v1676 : Index := Scalar.indexCast v1674
  let c80_1247 : Index := 80#32
  ![0, v1676.toNat, 80]
def k0_off562 (v1681 : BitVec 32) : Fin 4 → Nat :=
  let c1_i32_1251 : BitVec 32 := 1#32
  let v1685 : Index := Scalar.indexCast c1_i32_1251
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1686 : Index := Scalar.indexCast v1683
  let c15_i32_1250 : BitVec 32 := 15#32
  let v1684 : BitVec 32 := Scalar.andi v1681 c15_i32_1250
  let v1687 : Index := Scalar.indexCast v1684
  let c0_1252 : Index := 0#32
  ![1, v1686.toNat, v1687.toNat, 0]

def k0_off563 (k0_t4 : Fin k0_t4_loop.trips) : Fin 3 → Nat :=
  let c0_i32_1255 : BitVec 32 := 0#32
  let v1692 : Index := Scalar.indexCast c0_i32_1255
  let c0_i32_673 : BitVec 32 := 0#32
  let c1_i32_675 : BitVec 32 := 1#32
  let arg13 : BitVec 32 := Scf.iv c0_i32_673 c1_i32_675 k0_t4
  let c16_i32_1253 : BitVec 32 := 16#32
  let v1690 : BitVec 32 := Scalar.muli arg13 c16_i32_1253
  let c14_i32_1254 : BitVec 32 := 14#32
  let v1691 : BitVec 32 := Scalar.addi v1690 c14_i32_1254
  let v1693 : Index := Scalar.indexCast v1691
  let c0_1256 : Index := 0#32
  ![0, v1693.toNat, 0]
def k0_off564 (v1681 : BitVec 32) : Fin 4 → Nat :=
  let c1_i32_1257 : BitVec 32 := 1#32
  let v1697 : Index := Scalar.indexCast c1_i32_1257
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1698 : Index := Scalar.indexCast v1683
  let c15_i32_1250 : BitVec 32 := 15#32
  let v1684 : BitVec 32 := Scalar.andi v1681 c15_i32_1250
  let v1699 : Index := Scalar.indexCast v1684
  let c16_1258 : Index := 16#32
  ![1, v1698.toNat, v1699.toNat, 16]
def k0_off565 (k0_t4 : Fin k0_t4_loop.trips) : Fin 3 → Nat :=
  let c0_i32_1261 : BitVec 32 := 0#32
  let v1704 : Index := Scalar.indexCast c0_i32_1261
  let c0_i32_673 : BitVec 32 := 0#32
  let c1_i32_675 : BitVec 32 := 1#32
  let arg13 : BitVec 32 := Scf.iv c0_i32_673 c1_i32_675 k0_t4
  let c16_i32_1259 : BitVec 32 := 16#32
  let v1702 : BitVec 32 := Scalar.muli arg13 c16_i32_1259
  let c14_i32_1260 : BitVec 32 := 14#32
  let v1703 : BitVec 32 := Scalar.addi v1702 c14_i32_1260
  let v1705 : Index := Scalar.indexCast v1703
  let c16_1262 : Index := 16#32
  ![0, v1705.toNat, 16]
def k0_off566 (v1681 : BitVec 32) : Fin 4 → Nat :=
  let c1_i32_1263 : BitVec 32 := 1#32
  let v1709 : Index := Scalar.indexCast c1_i32_1263
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1710 : Index := Scalar.indexCast v1683
  let c15_i32_1250 : BitVec 32 := 15#32
  let v1684 : BitVec 32 := Scalar.andi v1681 c15_i32_1250
  let v1711 : Index := Scalar.indexCast v1684
  let c32_1264 : Index := 32#32
  ![1, v1710.toNat, v1711.toNat, 32]
def k0_off567 (k0_t4 : Fin k0_t4_loop.trips) : Fin 3 → Nat :=
  let c0_i32_1267 : BitVec 32 := 0#32
  let v1716 : Index := Scalar.indexCast c0_i32_1267
  let c0_i32_673 : BitVec 32 := 0#32
  let c1_i32_675 : BitVec 32 := 1#32
  let arg13 : BitVec 32 := Scf.iv c0_i32_673 c1_i32_675 k0_t4
  let c16_i32_1265 : BitVec 32 := 16#32
  let v1714 : BitVec 32 := Scalar.muli arg13 c16_i32_1265
  let c14_i32_1266 : BitVec 32 := 14#32
  let v1715 : BitVec 32 := Scalar.addi v1714 c14_i32_1266
  let v1717 : Index := Scalar.indexCast v1715
  let c32_1268 : Index := 32#32
  ![0, v1717.toNat, 32]
def k0_off568 (v1681 : BitVec 32) : Fin 4 → Nat :=
  let c1_i32_1269 : BitVec 32 := 1#32
  let v1721 : Index := Scalar.indexCast c1_i32_1269
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1722 : Index := Scalar.indexCast v1683
  let c15_i32_1250 : BitVec 32 := 15#32
  let v1684 : BitVec 32 := Scalar.andi v1681 c15_i32_1250
  let v1723 : Index := Scalar.indexCast v1684
  let c48_1270 : Index := 48#32
  ![1, v1722.toNat, v1723.toNat, 48]
def k0_off569 (k0_t4 : Fin k0_t4_loop.trips) : Fin 3 → Nat :=
  let c0_i32_1273 : BitVec 32 := 0#32
  let v1728 : Index := Scalar.indexCast c0_i32_1273
  let c0_i32_673 : BitVec 32 := 0#32
  let c1_i32_675 : BitVec 32 := 1#32
  let arg13 : BitVec 32 := Scf.iv c0_i32_673 c1_i32_675 k0_t4
  let c16_i32_1271 : BitVec 32 := 16#32
  let v1726 : BitVec 32 := Scalar.muli arg13 c16_i32_1271
  let c14_i32_1272 : BitVec 32 := 14#32
  let v1727 : BitVec 32 := Scalar.addi v1726 c14_i32_1272
  let v1729 : Index := Scalar.indexCast v1727
  let c48_1274 : Index := 48#32
  ![0, v1729.toNat, 48]
def k0_off570 (v1681 : BitVec 32) : Fin 4 → Nat :=
  let c1_i32_1275 : BitVec 32 := 1#32
  let v1733 : Index := Scalar.indexCast c1_i32_1275
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1734 : Index := Scalar.indexCast v1683
  let c15_i32_1250 : BitVec 32 := 15#32
  let v1684 : BitVec 32 := Scalar.andi v1681 c15_i32_1250
  let v1735 : Index := Scalar.indexCast v1684
  let c64_1276 : Index := 64#32
  ![1, v1734.toNat, v1735.toNat, 64]
def k0_off571 (k0_t4 : Fin k0_t4_loop.trips) : Fin 3 → Nat :=
  let c0_i32_1279 : BitVec 32 := 0#32
  let v1740 : Index := Scalar.indexCast c0_i32_1279
  let c0_i32_673 : BitVec 32 := 0#32
  let c1_i32_675 : BitVec 32 := 1#32
  let arg13 : BitVec 32 := Scf.iv c0_i32_673 c1_i32_675 k0_t4
  let c16_i32_1277 : BitVec 32 := 16#32
  let v1738 : BitVec 32 := Scalar.muli arg13 c16_i32_1277
  let c14_i32_1278 : BitVec 32 := 14#32
  let v1739 : BitVec 32 := Scalar.addi v1738 c14_i32_1278
  let v1741 : Index := Scalar.indexCast v1739
  let c64_1280 : Index := 64#32
  ![0, v1741.toNat, 64]
def k0_off572 (v1681 : BitVec 32) : Fin 4 → Nat :=
  let c1_i32_1281 : BitVec 32 := 1#32
  let v1745 : Index := Scalar.indexCast c1_i32_1281
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1746 : Index := Scalar.indexCast v1683
  let c15_i32_1250 : BitVec 32 := 15#32
  let v1684 : BitVec 32 := Scalar.andi v1681 c15_i32_1250
  let v1747 : Index := Scalar.indexCast v1684
  let c80_1282 : Index := 80#32
  ![1, v1746.toNat, v1747.toNat, 80]

def k0_chk50 (v1681 : BitVec 32) : Prop :=
  (∀ a, (k0_off562 v1681) a + S1x1x1x16.size a ≤ S2x16x16x96.size a) ∧
  (∀ a, (k0_off564 v1681) a + S1x1x1x16.size a ≤ S2x16x16x96.size a) ∧
  (∀ a, (k0_off566 v1681) a + S1x1x1x16.size a ≤ S2x16x16x96.size a) ∧
  (∀ a, (k0_off568 v1681) a + S1x1x1x16.size a ≤ S2x16x16x96.size a) ∧
  (∀ a, (k0_off570 v1681) a + S1x1x1x16.size a ≤ S2x16x16x96.size a) ∧
  (∀ a, (k0_off572 v1681) a + S1x1x1x16.size a ≤ S2x16x16x96.size a)
theorem k0_off562_inb : ∀ (v1681 : BitVec 32) (k0_hw50 : k0_chk50 v1681), ∀ a, (k0_off562 v1681) a + S1x1x1x16.size a ≤ S2x16x16x96.size a := fun v1681 k0_hw50 => k0_hw50.1
theorem k0_off564_inb : ∀ (v1681 : BitVec 32) (k0_hw50 : k0_chk50 v1681), ∀ a, (k0_off564 v1681) a + S1x1x1x16.size a ≤ S2x16x16x96.size a := fun v1681 k0_hw50 => k0_hw50.2.1
theorem k0_off566_inb : ∀ (v1681 : BitVec 32) (k0_hw50 : k0_chk50 v1681), ∀ a, (k0_off566 v1681) a + S1x1x1x16.size a ≤ S2x16x16x96.size a := fun v1681 k0_hw50 => k0_hw50.2.2.1
theorem k0_off568_inb : ∀ (v1681 : BitVec 32) (k0_hw50 : k0_chk50 v1681), ∀ a, (k0_off568 v1681) a + S1x1x1x16.size a ≤ S2x16x16x96.size a := fun v1681 k0_hw50 => k0_hw50.2.2.2.1
theorem k0_off570_inb : ∀ (v1681 : BitVec 32) (k0_hw50 : k0_chk50 v1681), ∀ a, (k0_off570 v1681) a + S1x1x1x16.size a ≤ S2x16x16x96.size a := fun v1681 k0_hw50 => k0_hw50.2.2.2.2.1
theorem k0_off572_inb : ∀ (v1681 : BitVec 32) (k0_hw50 : k0_chk50 v1681), ∀ a, (k0_off572 v1681) a + S1x1x1x16.size a ≤ S2x16x16x96.size a := fun v1681 k0_hw50 => k0_hw50.2.2.2.2.2

def k0_off573 (k0_t4 : Fin k0_t4_loop.trips) : Fin 3 → Nat :=
  let c0_i32_1285 : BitVec 32 := 0#32
  let v1752 : Index := Scalar.indexCast c0_i32_1285
  let c0_i32_673 : BitVec 32 := 0#32
  let c1_i32_675 : BitVec 32 := 1#32
  let arg13 : BitVec 32 := Scf.iv c0_i32_673 c1_i32_675 k0_t4
  let c16_i32_1283 : BitVec 32 := 16#32
  let v1750 : BitVec 32 := Scalar.muli arg13 c16_i32_1283
  let c14_i32_1284 : BitVec 32 := 14#32
  let v1751 : BitVec 32 := Scalar.addi v1750 c14_i32_1284
  let v1753 : Index := Scalar.indexCast v1751
  let c80_1286 : Index := 80#32
  ![0, v1753.toNat, 80]
def k0_off574 (v1758 : BitVec 32) : Fin 4 → Nat :=
  let c1_i32_1290 : BitVec 32 := 1#32
  let v1762 : Index := Scalar.indexCast c1_i32_1290
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1763 : Index := Scalar.indexCast v1760
  let c15_i32_1289 : BitVec 32 := 15#32
  let v1761 : BitVec 32 := Scalar.andi v1758 c15_i32_1289
  let v1764 : Index := Scalar.indexCast v1761
  let c0_1291 : Index := 0#32
  ![1, v1763.toNat, v1764.toNat, 0]

def k0_off575 (k0_t4 : Fin k0_t4_loop.trips) : Fin 3 → Nat :=
  let c0_i32_1294 : BitVec 32 := 0#32
  let v1769 : Index := Scalar.indexCast c0_i32_1294
  let c0_i32_673 : BitVec 32 := 0#32
  let c1_i32_675 : BitVec 32 := 1#32
  let arg13 : BitVec 32 := Scf.iv c0_i32_673 c1_i32_675 k0_t4
  let c16_i32_1292 : BitVec 32 := 16#32
  let v1767 : BitVec 32 := Scalar.muli arg13 c16_i32_1292
  let c15_i32_1293 : BitVec 32 := 15#32
  let v1768 : BitVec 32 := Scalar.addi v1767 c15_i32_1293
  let v1770 : Index := Scalar.indexCast v1768
  let c0_1295 : Index := 0#32
  ![0, v1770.toNat, 0]
def k0_off576 (v1758 : BitVec 32) : Fin 4 → Nat :=
  let c1_i32_1296 : BitVec 32 := 1#32
  let v1774 : Index := Scalar.indexCast c1_i32_1296
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1775 : Index := Scalar.indexCast v1760
  let c15_i32_1289 : BitVec 32 := 15#32
  let v1761 : BitVec 32 := Scalar.andi v1758 c15_i32_1289
  let v1776 : Index := Scalar.indexCast v1761
  let c16_1297 : Index := 16#32
  ![1, v1775.toNat, v1776.toNat, 16]
def k0_off577 (k0_t4 : Fin k0_t4_loop.trips) : Fin 3 → Nat :=
  let c0_i32_1300 : BitVec 32 := 0#32
  let v1781 : Index := Scalar.indexCast c0_i32_1300
  let c0_i32_673 : BitVec 32 := 0#32
  let c1_i32_675 : BitVec 32 := 1#32
  let arg13 : BitVec 32 := Scf.iv c0_i32_673 c1_i32_675 k0_t4
  let c16_i32_1298 : BitVec 32 := 16#32
  let v1779 : BitVec 32 := Scalar.muli arg13 c16_i32_1298
  let c15_i32_1299 : BitVec 32 := 15#32
  let v1780 : BitVec 32 := Scalar.addi v1779 c15_i32_1299
  let v1782 : Index := Scalar.indexCast v1780
  let c16_1301 : Index := 16#32
  ![0, v1782.toNat, 16]
def k0_off578 (v1758 : BitVec 32) : Fin 4 → Nat :=
  let c1_i32_1302 : BitVec 32 := 1#32
  let v1786 : Index := Scalar.indexCast c1_i32_1302
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1787 : Index := Scalar.indexCast v1760
  let c15_i32_1289 : BitVec 32 := 15#32
  let v1761 : BitVec 32 := Scalar.andi v1758 c15_i32_1289
  let v1788 : Index := Scalar.indexCast v1761
  let c32_1303 : Index := 32#32
  ![1, v1787.toNat, v1788.toNat, 32]
def k0_off579 (k0_t4 : Fin k0_t4_loop.trips) : Fin 3 → Nat :=
  let c0_i32_1306 : BitVec 32 := 0#32
  let v1793 : Index := Scalar.indexCast c0_i32_1306
  let c0_i32_673 : BitVec 32 := 0#32
  let c1_i32_675 : BitVec 32 := 1#32
  let arg13 : BitVec 32 := Scf.iv c0_i32_673 c1_i32_675 k0_t4
  let c16_i32_1304 : BitVec 32 := 16#32
  let v1791 : BitVec 32 := Scalar.muli arg13 c16_i32_1304
  let c15_i32_1305 : BitVec 32 := 15#32
  let v1792 : BitVec 32 := Scalar.addi v1791 c15_i32_1305
  let v1794 : Index := Scalar.indexCast v1792
  let c32_1307 : Index := 32#32
  ![0, v1794.toNat, 32]
def k0_off580 (v1758 : BitVec 32) : Fin 4 → Nat :=
  let c1_i32_1308 : BitVec 32 := 1#32
  let v1798 : Index := Scalar.indexCast c1_i32_1308
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1799 : Index := Scalar.indexCast v1760
  let c15_i32_1289 : BitVec 32 := 15#32
  let v1761 : BitVec 32 := Scalar.andi v1758 c15_i32_1289
  let v1800 : Index := Scalar.indexCast v1761
  let c48_1309 : Index := 48#32
  ![1, v1799.toNat, v1800.toNat, 48]
def k0_off581 (k0_t4 : Fin k0_t4_loop.trips) : Fin 3 → Nat :=
  let c0_i32_1312 : BitVec 32 := 0#32
  let v1805 : Index := Scalar.indexCast c0_i32_1312
  let c0_i32_673 : BitVec 32 := 0#32
  let c1_i32_675 : BitVec 32 := 1#32
  let arg13 : BitVec 32 := Scf.iv c0_i32_673 c1_i32_675 k0_t4
  let c16_i32_1310 : BitVec 32 := 16#32
  let v1803 : BitVec 32 := Scalar.muli arg13 c16_i32_1310
  let c15_i32_1311 : BitVec 32 := 15#32
  let v1804 : BitVec 32 := Scalar.addi v1803 c15_i32_1311
  let v1806 : Index := Scalar.indexCast v1804
  let c48_1313 : Index := 48#32
  ![0, v1806.toNat, 48]
def k0_off582 (v1758 : BitVec 32) : Fin 4 → Nat :=
  let c1_i32_1314 : BitVec 32 := 1#32
  let v1810 : Index := Scalar.indexCast c1_i32_1314
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1811 : Index := Scalar.indexCast v1760
  let c15_i32_1289 : BitVec 32 := 15#32
  let v1761 : BitVec 32 := Scalar.andi v1758 c15_i32_1289
  let v1812 : Index := Scalar.indexCast v1761
  let c64_1315 : Index := 64#32
  ![1, v1811.toNat, v1812.toNat, 64]
def k0_off583 (k0_t4 : Fin k0_t4_loop.trips) : Fin 3 → Nat :=
  let c0_i32_1318 : BitVec 32 := 0#32
  let v1817 : Index := Scalar.indexCast c0_i32_1318
  let c0_i32_673 : BitVec 32 := 0#32
  let c1_i32_675 : BitVec 32 := 1#32
  let arg13 : BitVec 32 := Scf.iv c0_i32_673 c1_i32_675 k0_t4
  let c16_i32_1316 : BitVec 32 := 16#32
  let v1815 : BitVec 32 := Scalar.muli arg13 c16_i32_1316
  let c15_i32_1317 : BitVec 32 := 15#32
  let v1816 : BitVec 32 := Scalar.addi v1815 c15_i32_1317
  let v1818 : Index := Scalar.indexCast v1816
  let c64_1319 : Index := 64#32
  ![0, v1818.toNat, 64]
def k0_off584 (v1758 : BitVec 32) : Fin 4 → Nat :=
  let c1_i32_1320 : BitVec 32 := 1#32
  let v1822 : Index := Scalar.indexCast c1_i32_1320
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1823 : Index := Scalar.indexCast v1760
  let c15_i32_1289 : BitVec 32 := 15#32
  let v1761 : BitVec 32 := Scalar.andi v1758 c15_i32_1289
  let v1824 : Index := Scalar.indexCast v1761
  let c80_1321 : Index := 80#32
  ![1, v1823.toNat, v1824.toNat, 80]

def k0_chk51 (v1758 : BitVec 32) : Prop :=
  (∀ a, (k0_off574 v1758) a + S1x1x1x16.size a ≤ S2x16x16x96.size a) ∧
  (∀ a, (k0_off576 v1758) a + S1x1x1x16.size a ≤ S2x16x16x96.size a) ∧
  (∀ a, (k0_off578 v1758) a + S1x1x1x16.size a ≤ S2x16x16x96.size a) ∧
  (∀ a, (k0_off580 v1758) a + S1x1x1x16.size a ≤ S2x16x16x96.size a) ∧
  (∀ a, (k0_off582 v1758) a + S1x1x1x16.size a ≤ S2x16x16x96.size a) ∧
  (∀ a, (k0_off584 v1758) a + S1x1x1x16.size a ≤ S2x16x16x96.size a)
theorem k0_off574_inb : ∀ (v1758 : BitVec 32) (k0_hw51 : k0_chk51 v1758), ∀ a, (k0_off574 v1758) a + S1x1x1x16.size a ≤ S2x16x16x96.size a := fun v1758 k0_hw51 => k0_hw51.1
theorem k0_off576_inb : ∀ (v1758 : BitVec 32) (k0_hw51 : k0_chk51 v1758), ∀ a, (k0_off576 v1758) a + S1x1x1x16.size a ≤ S2x16x16x96.size a := fun v1758 k0_hw51 => k0_hw51.2.1
theorem k0_off578_inb : ∀ (v1758 : BitVec 32) (k0_hw51 : k0_chk51 v1758), ∀ a, (k0_off578 v1758) a + S1x1x1x16.size a ≤ S2x16x16x96.size a := fun v1758 k0_hw51 => k0_hw51.2.2.1
theorem k0_off580_inb : ∀ (v1758 : BitVec 32) (k0_hw51 : k0_chk51 v1758), ∀ a, (k0_off580 v1758) a + S1x1x1x16.size a ≤ S2x16x16x96.size a := fun v1758 k0_hw51 => k0_hw51.2.2.2.1
theorem k0_off582_inb : ∀ (v1758 : BitVec 32) (k0_hw51 : k0_chk51 v1758), ∀ a, (k0_off582 v1758) a + S1x1x1x16.size a ≤ S2x16x16x96.size a := fun v1758 k0_hw51 => k0_hw51.2.2.2.2.1
theorem k0_off584_inb : ∀ (v1758 : BitVec 32) (k0_hw51 : k0_chk51 v1758), ∀ a, (k0_off584 v1758) a + S1x1x1x16.size a ≤ S2x16x16x96.size a := fun v1758 k0_hw51 => k0_hw51.2.2.2.2.2

def k0_off585 (k0_t4 : Fin k0_t4_loop.trips) : Fin 3 → Nat :=
  let c0_i32_1324 : BitVec 32 := 0#32
  let v1829 : Index := Scalar.indexCast c0_i32_1324
  let c0_i32_673 : BitVec 32 := 0#32
  let c1_i32_675 : BitVec 32 := 1#32
  let arg13 : BitVec 32 := Scf.iv c0_i32_673 c1_i32_675 k0_t4
  let c16_i32_1322 : BitVec 32 := 16#32
  let v1827 : BitVec 32 := Scalar.muli arg13 c16_i32_1322
  let c15_i32_1323 : BitVec 32 := 15#32
  let v1828 : BitVec 32 := Scalar.addi v1827 c15_i32_1323
  let v1830 : Index := Scalar.indexCast v1828
  let c80_1325 : Index := 80#32
  ![0, v1830.toNat, 80]
def k0_mult54 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c2_i32_506 : BitVec 32 := 2#32
  let c0_i32_288 : BitVec 32 := 0#32
  let c1_i32_289 : BitVec 32 := 1#32
  let arg12 : BitVec 32 := Scf.iv c0_i32_288 c1_i32_289 k0_t1
  let v464 : BitVec 32 := Scalar.muli c2_i32_506 arg12
  let c1_i32_507 : BitVec 32 := 1#32
  let v465 : BitVec 32 := Scalar.addi v464 c1_i32_507
  let c256_i32_677 : BitVec 32 := 256#32
  let v568 : BitVec 32 := Scalar.muli v465 c256_i32_677
  let v569 : BitVec 32 := Scalar.addi v2 v568
  let c0_i32_678 : BitVec 32 := 0#32
  let v570 : BitVec 32 := Scalar.addi v569 c0_i32_678
  v570
def k0_off586 (i : grid0.Coords) (k0_t1 : Fin k0_t1_loop.trips) (c0_i32_678 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c2_i32_506 : BitVec 32 := 2#32
  let c0_i32_288 : BitVec 32 := 0#32
  let c1_i32_289 : BitVec 32 := 1#32
  let arg12 : BitVec 32 := Scf.iv c0_i32_288 c1_i32_289 k0_t1
  let v464 : BitVec 32 := Scalar.muli c2_i32_506 arg12
  let c1_i32_507 : BitVec 32 := 1#32
  let v465 : BitVec 32 := Scalar.addi v464 c1_i32_507
  let c256_i32_677 : BitVec 32 := 256#32
  let v568 : BitVec 32 := Scalar.muli v465 c256_i32_677
  let v569 : BitVec 32 := Scalar.addi v2 v568
  let v570 : BitVec 32 := Scalar.addi v569 c0_i32_678
  let v571 : BitVec 32 := v570
  let c0_i32_682 : BitVec 32 := 0#32
  ![v571.toNat, 0]
@[reducible] def k0_t5_loop : Scf.Loop 32 :=
  let c0_i32_691 : BitVec 32 := 0#32
  let c8_i32_692 : BitVec 32 := 8#32
  let v583 : BitVec 32 := Scalar.addi c0_i32_691 c8_i32_692
  let c1_i32_693 : BitVec 32 := 1#32
  ⟨c0_i32_691, v583, c1_i32_693⟩
def k0_off587 (k0_t1 : Fin k0_t1_loop.trips) (k0_t5 : Fin k0_t5_loop.trips) : Fin 2 → Nat :=
  let c2_i32_688 : BitVec 32 := 2#32
  let c2_i32_506 : BitVec 32 := 2#32
  let c0_i32_288 : BitVec 32 := 0#32
  let c1_i32_289 : BitVec 32 := 1#32
  let arg12 : BitVec 32 := Scf.iv c0_i32_288 c1_i32_289 k0_t1
  let v464 : BitVec 32 := Scalar.muli c2_i32_506 arg12
  let c1_i32_507 : BitVec 32 := 1#32
  let v465 : BitVec 32 := Scalar.addi v464 c1_i32_507
  let v581 : BitVec 32 := Scalar.muli c2_i32_688 v465
  let c1_i32_689 : BitVec 32 := 1#32
  let v582 : BitVec 32 := Scalar.addi v581 c1_i32_689
  let v598 : Index := Scalar.indexCast v582
  let c0_i32_691 : BitVec 32 := 0#32
  let c1_i32_693 : BitVec 32 := 1#32
  let arg13 : BitVec 32 := Scf.iv c0_i32_691 c1_i32_693 k0_t5
  let c16_i32_706 : BitVec 32 := 16#32
  let v597 : BitVec 32 := Scalar.muli arg13 c16_i32_706
  let v599 : Index := Scalar.indexCast v597
  ![v598.toNat, v599.toNat]
def k0_off588 (v603 : BitVec 32) : Fin 4 → Nat :=
  let c1_i32_710 : BitVec 32 := 1#32
  let v607 : Index := Scalar.indexCast c1_i32_710
  let c9_i32_707 : BitVec 32 := 9#32
  let v604 : BitVec 32 := Scalar.shrsi v603 c9_i32_707
  let c15_i32_708 : BitVec 32 := 15#32
  let v605 : BitVec 32 := Scalar.andi v604 c15_i32_708
  let v608 : Index := Scalar.indexCast v605
  let c15_i32_709 : BitVec 32 := 15#32
  let v606 : BitVec 32 := Scalar.andi v603 c15_i32_709
  let v609 : Index := Scalar.indexCast v606
  let c0_711 : Index := 0#32
  ![1, v608.toNat, v609.toNat, 0]

def k0_off589 (k0_t5 : Fin k0_t5_loop.trips) : Fin 3 → Nat :=
  let c1_i32_714 : BitVec 32 := 1#32
  let v614 : Index := Scalar.indexCast c1_i32_714
  let c0_i32_691 : BitVec 32 := 0#32
  let c1_i32_693 : BitVec 32 := 1#32
  let arg13 : BitVec 32 := Scf.iv c0_i32_691 c1_i32_693 k0_t5
  let c16_i32_712 : BitVec 32 := 16#32
  let v612 : BitVec 32 := Scalar.muli arg13 c16_i32_712
  let c0_i32_713 : BitVec 32 := 0#32
  let v613 : BitVec 32 := Scalar.addi v612 c0_i32_713
  let v615 : Index := Scalar.indexCast v613
  let c0_715 : Index := 0#32
  ![1, v615.toNat, 0]
def k0_off590 (v603 : BitVec 32) : Fin 4 → Nat :=
  let c1_i32_716 : BitVec 32 := 1#32
  let v619 : Index := Scalar.indexCast c1_i32_716
  let c9_i32_707 : BitVec 32 := 9#32
  let v604 : BitVec 32 := Scalar.shrsi v603 c9_i32_707
  let c15_i32_708 : BitVec 32 := 15#32
  let v605 : BitVec 32 := Scalar.andi v604 c15_i32_708
  let v620 : Index := Scalar.indexCast v605
  let c15_i32_709 : BitVec 32 := 15#32
  let v606 : BitVec 32 := Scalar.andi v603 c15_i32_709
  let v621 : Index := Scalar.indexCast v606
  let c16 : Index := 16#32
  ![1, v620.toNat, v621.toNat, 16]
def k0_off591 (k0_t5 : Fin k0_t5_loop.trips) : Fin 3 → Nat :=
  let c1_i32_719 : BitVec 32 := 1#32
  let v626 : Index := Scalar.indexCast c1_i32_719
  let c0_i32_691 : BitVec 32 := 0#32
  let c1_i32_693 : BitVec 32 := 1#32
  let arg13 : BitVec 32 := Scf.iv c0_i32_691 c1_i32_693 k0_t5
  let c16_i32_717 : BitVec 32 := 16#32
  let v624 : BitVec 32 := Scalar.muli arg13 c16_i32_717
  let c0_i32_718 : BitVec 32 := 0#32
  let v625 : BitVec 32 := Scalar.addi v624 c0_i32_718
  let v627 : Index := Scalar.indexCast v625
  let c16_720 : Index := 16#32
  ![1, v627.toNat, 16]
def k0_off592 (v603 : BitVec 32) : Fin 4 → Nat :=
  let c1_i32_721 : BitVec 32 := 1#32
  let v631 : Index := Scalar.indexCast c1_i32_721
  let c9_i32_707 : BitVec 32 := 9#32
  let v604 : BitVec 32 := Scalar.shrsi v603 c9_i32_707
  let c15_i32_708 : BitVec 32 := 15#32
  let v605 : BitVec 32 := Scalar.andi v604 c15_i32_708
  let v632 : Index := Scalar.indexCast v605
  let c15_i32_709 : BitVec 32 := 15#32
  let v606 : BitVec 32 := Scalar.andi v603 c15_i32_709
  let v633 : Index := Scalar.indexCast v606
  let c32 : Index := 32#32
  ![1, v632.toNat, v633.toNat, 32]
def k0_off593 (k0_t5 : Fin k0_t5_loop.trips) : Fin 3 → Nat :=
  let c1_i32_724 : BitVec 32 := 1#32
  let v638 : Index := Scalar.indexCast c1_i32_724
  let c0_i32_691 : BitVec 32 := 0#32
  let c1_i32_693 : BitVec 32 := 1#32
  let arg13 : BitVec 32 := Scf.iv c0_i32_691 c1_i32_693 k0_t5
  let c16_i32_722 : BitVec 32 := 16#32
  let v636 : BitVec 32 := Scalar.muli arg13 c16_i32_722
  let c0_i32_723 : BitVec 32 := 0#32
  let v637 : BitVec 32 := Scalar.addi v636 c0_i32_723
  let v639 : Index := Scalar.indexCast v637
  let c32_725 : Index := 32#32
  ![1, v639.toNat, 32]
def k0_off594 (v603 : BitVec 32) : Fin 4 → Nat :=
  let c1_i32_726 : BitVec 32 := 1#32
  let v643 : Index := Scalar.indexCast c1_i32_726
  let c9_i32_707 : BitVec 32 := 9#32
  let v604 : BitVec 32 := Scalar.shrsi v603 c9_i32_707
  let c15_i32_708 : BitVec 32 := 15#32
  let v605 : BitVec 32 := Scalar.andi v604 c15_i32_708
  let v644 : Index := Scalar.indexCast v605
  let c15_i32_709 : BitVec 32 := 15#32
  let v606 : BitVec 32 := Scalar.andi v603 c15_i32_709
  let v645 : Index := Scalar.indexCast v606
  let c48 : Index := 48#32
  ![1, v644.toNat, v645.toNat, 48]
def k0_off595 (k0_t5 : Fin k0_t5_loop.trips) : Fin 3 → Nat :=
  let c1_i32_729 : BitVec 32 := 1#32
  let v650 : Index := Scalar.indexCast c1_i32_729
  let c0_i32_691 : BitVec 32 := 0#32
  let c1_i32_693 : BitVec 32 := 1#32
  let arg13 : BitVec 32 := Scf.iv c0_i32_691 c1_i32_693 k0_t5
  let c16_i32_727 : BitVec 32 := 16#32
  let v648 : BitVec 32 := Scalar.muli arg13 c16_i32_727
  let c0_i32_728 : BitVec 32 := 0#32
  let v649 : BitVec 32 := Scalar.addi v648 c0_i32_728
  let v651 : Index := Scalar.indexCast v649
  let c48_730 : Index := 48#32
  ![1, v651.toNat, 48]
def k0_off596 (v603 : BitVec 32) : Fin 4 → Nat :=
  let c1_i32_731 : BitVec 32 := 1#32
  let v655 : Index := Scalar.indexCast c1_i32_731
  let c9_i32_707 : BitVec 32 := 9#32
  let v604 : BitVec 32 := Scalar.shrsi v603 c9_i32_707
  let c15_i32_708 : BitVec 32 := 15#32
  let v605 : BitVec 32 := Scalar.andi v604 c15_i32_708
  let v656 : Index := Scalar.indexCast v605
  let c15_i32_709 : BitVec 32 := 15#32
  let v606 : BitVec 32 := Scalar.andi v603 c15_i32_709
  let v657 : Index := Scalar.indexCast v606
  let c64 : Index := 64#32
  ![1, v656.toNat, v657.toNat, 64]
def k0_off597 (k0_t5 : Fin k0_t5_loop.trips) : Fin 3 → Nat :=
  let c1_i32_734 : BitVec 32 := 1#32
  let v662 : Index := Scalar.indexCast c1_i32_734
  let c0_i32_691 : BitVec 32 := 0#32
  let c1_i32_693 : BitVec 32 := 1#32
  let arg13 : BitVec 32 := Scf.iv c0_i32_691 c1_i32_693 k0_t5
  let c16_i32_732 : BitVec 32 := 16#32
  let v660 : BitVec 32 := Scalar.muli arg13 c16_i32_732
  let c0_i32_733 : BitVec 32 := 0#32
  let v661 : BitVec 32 := Scalar.addi v660 c0_i32_733
  let v663 : Index := Scalar.indexCast v661
  let c64_735 : Index := 64#32
  ![1, v663.toNat, 64]
def k0_off598 (v603 : BitVec 32) : Fin 4 → Nat :=
  let c1_i32_736 : BitVec 32 := 1#32
  let v667 : Index := Scalar.indexCast c1_i32_736
  let c9_i32_707 : BitVec 32 := 9#32
  let v604 : BitVec 32 := Scalar.shrsi v603 c9_i32_707
  let c15_i32_708 : BitVec 32 := 15#32
  let v605 : BitVec 32 := Scalar.andi v604 c15_i32_708
  let v668 : Index := Scalar.indexCast v605
  let c15_i32_709 : BitVec 32 := 15#32
  let v606 : BitVec 32 := Scalar.andi v603 c15_i32_709
  let v669 : Index := Scalar.indexCast v606
  let c80 : Index := 80#32
  ![1, v668.toNat, v669.toNat, 80]

def k0_chk52 (v603 : BitVec 32) : Prop :=
  (∀ a, (k0_off588 v603) a + S1x1x1x16.size a ≤ S2x16x16x96.size a) ∧
  (∀ a, (k0_off590 v603) a + S1x1x1x16.size a ≤ S2x16x16x96.size a) ∧
  (∀ a, (k0_off592 v603) a + S1x1x1x16.size a ≤ S2x16x16x96.size a) ∧
  (∀ a, (k0_off594 v603) a + S1x1x1x16.size a ≤ S2x16x16x96.size a) ∧
  (∀ a, (k0_off596 v603) a + S1x1x1x16.size a ≤ S2x16x16x96.size a) ∧
  (∀ a, (k0_off598 v603) a + S1x1x1x16.size a ≤ S2x16x16x96.size a)
theorem k0_off588_inb : ∀ (v603 : BitVec 32) (k0_hw52 : k0_chk52 v603), ∀ a, (k0_off588 v603) a + S1x1x1x16.size a ≤ S2x16x16x96.size a := fun v603 k0_hw52 => k0_hw52.1
theorem k0_off590_inb : ∀ (v603 : BitVec 32) (k0_hw52 : k0_chk52 v603), ∀ a, (k0_off590 v603) a + S1x1x1x16.size a ≤ S2x16x16x96.size a := fun v603 k0_hw52 => k0_hw52.2.1
theorem k0_off592_inb : ∀ (v603 : BitVec 32) (k0_hw52 : k0_chk52 v603), ∀ a, (k0_off592 v603) a + S1x1x1x16.size a ≤ S2x16x16x96.size a := fun v603 k0_hw52 => k0_hw52.2.2.1
theorem k0_off594_inb : ∀ (v603 : BitVec 32) (k0_hw52 : k0_chk52 v603), ∀ a, (k0_off594 v603) a + S1x1x1x16.size a ≤ S2x16x16x96.size a := fun v603 k0_hw52 => k0_hw52.2.2.2.1
theorem k0_off596_inb : ∀ (v603 : BitVec 32) (k0_hw52 : k0_chk52 v603), ∀ a, (k0_off596 v603) a + S1x1x1x16.size a ≤ S2x16x16x96.size a := fun v603 k0_hw52 => k0_hw52.2.2.2.2.1
theorem k0_off598_inb : ∀ (v603 : BitVec 32) (k0_hw52 : k0_chk52 v603), ∀ a, (k0_off598 v603) a + S1x1x1x16.size a ≤ S2x16x16x96.size a := fun v603 k0_hw52 => k0_hw52.2.2.2.2.2

def k0_off599 (k0_t5 : Fin k0_t5_loop.trips) : Fin 3 → Nat :=
  let c1_i32_739 : BitVec 32 := 1#32
  let v674 : Index := Scalar.indexCast c1_i32_739
  let c0_i32_691 : BitVec 32 := 0#32
  let c1_i32_693 : BitVec 32 := 1#32
  let arg13 : BitVec 32 := Scf.iv c0_i32_691 c1_i32_693 k0_t5
  let c16_i32_737 : BitVec 32 := 16#32
  let v672 : BitVec 32 := Scalar.muli arg13 c16_i32_737
  let c0_i32_738 : BitVec 32 := 0#32
  let v673 : BitVec 32 := Scalar.addi v672 c0_i32_738
  let v675 : Index := Scalar.indexCast v673
  let c80_740 : Index := 80#32
  ![1, v675.toNat, 80]
def k0_off600 (v680 : BitVec 32) : Fin 4 → Nat :=
  let c1_i32_744 : BitVec 32 := 1#32
  let v684 : Index := Scalar.indexCast c1_i32_744
  let c9_i32_741 : BitVec 32 := 9#32
  let v681 : BitVec 32 := Scalar.shrsi v680 c9_i32_741
  let c15_i32_742 : BitVec 32 := 15#32
  let v682 : BitVec 32 := Scalar.andi v681 c15_i32_742
  let v685 : Index := Scalar.indexCast v682
  let c15_i32_743 : BitVec 32 := 15#32
  let v683 : BitVec 32 := Scalar.andi v680 c15_i32_743
  let v686 : Index := Scalar.indexCast v683
  let c0_745 : Index := 0#32
  ![1, v685.toNat, v686.toNat, 0]

def k0_off601 (k0_t5 : Fin k0_t5_loop.trips) : Fin 3 → Nat :=
  let c1_i32_748 : BitVec 32 := 1#32
  let v691 : Index := Scalar.indexCast c1_i32_748
  let c0_i32_691 : BitVec 32 := 0#32
  let c1_i32_693 : BitVec 32 := 1#32
  let arg13 : BitVec 32 := Scf.iv c0_i32_691 c1_i32_693 k0_t5
  let c16_i32_746 : BitVec 32 := 16#32
  let v689 : BitVec 32 := Scalar.muli arg13 c16_i32_746
  let c1_i32_747 : BitVec 32 := 1#32
  let v690 : BitVec 32 := Scalar.addi v689 c1_i32_747
  let v692 : Index := Scalar.indexCast v690
  let c0_749 : Index := 0#32
  ![1, v692.toNat, 0]
def k0_off602 (v680 : BitVec 32) : Fin 4 → Nat :=
  let c1_i32_750 : BitVec 32 := 1#32
  let v696 : Index := Scalar.indexCast c1_i32_750
  let c9_i32_741 : BitVec 32 := 9#32
  let v681 : BitVec 32 := Scalar.shrsi v680 c9_i32_741
  let c15_i32_742 : BitVec 32 := 15#32
  let v682 : BitVec 32 := Scalar.andi v681 c15_i32_742
  let v697 : Index := Scalar.indexCast v682
  let c15_i32_743 : BitVec 32 := 15#32
  let v683 : BitVec 32 := Scalar.andi v680 c15_i32_743
  let v698 : Index := Scalar.indexCast v683
  let c16_751 : Index := 16#32
  ![1, v697.toNat, v698.toNat, 16]
def k0_off603 (k0_t5 : Fin k0_t5_loop.trips) : Fin 3 → Nat :=
  let c1_i32_754 : BitVec 32 := 1#32
  let v703 : Index := Scalar.indexCast c1_i32_754
  let c0_i32_691 : BitVec 32 := 0#32
  let c1_i32_693 : BitVec 32 := 1#32
  let arg13 : BitVec 32 := Scf.iv c0_i32_691 c1_i32_693 k0_t5
  let c16_i32_752 : BitVec 32 := 16#32
  let v701 : BitVec 32 := Scalar.muli arg13 c16_i32_752
  let c1_i32_753 : BitVec 32 := 1#32
  let v702 : BitVec 32 := Scalar.addi v701 c1_i32_753
  let v704 : Index := Scalar.indexCast v702
  let c16_755 : Index := 16#32
  ![1, v704.toNat, 16]
def k0_off604 (v680 : BitVec 32) : Fin 4 → Nat :=
  let c1_i32_756 : BitVec 32 := 1#32
  let v708 : Index := Scalar.indexCast c1_i32_756
  let c9_i32_741 : BitVec 32 := 9#32
  let v681 : BitVec 32 := Scalar.shrsi v680 c9_i32_741
  let c15_i32_742 : BitVec 32 := 15#32
  let v682 : BitVec 32 := Scalar.andi v681 c15_i32_742
  let v709 : Index := Scalar.indexCast v682
  let c15_i32_743 : BitVec 32 := 15#32
  let v683 : BitVec 32 := Scalar.andi v680 c15_i32_743
  let v710 : Index := Scalar.indexCast v683
  let c32_757 : Index := 32#32
  ![1, v709.toNat, v710.toNat, 32]
def k0_off605 (k0_t5 : Fin k0_t5_loop.trips) : Fin 3 → Nat :=
  let c1_i32_760 : BitVec 32 := 1#32
  let v715 : Index := Scalar.indexCast c1_i32_760
  let c0_i32_691 : BitVec 32 := 0#32
  let c1_i32_693 : BitVec 32 := 1#32
  let arg13 : BitVec 32 := Scf.iv c0_i32_691 c1_i32_693 k0_t5
  let c16_i32_758 : BitVec 32 := 16#32
  let v713 : BitVec 32 := Scalar.muli arg13 c16_i32_758
  let c1_i32_759 : BitVec 32 := 1#32
  let v714 : BitVec 32 := Scalar.addi v713 c1_i32_759
  let v716 : Index := Scalar.indexCast v714
  let c32_761 : Index := 32#32
  ![1, v716.toNat, 32]
def k0_off606 (v680 : BitVec 32) : Fin 4 → Nat :=
  let c1_i32_762 : BitVec 32 := 1#32
  let v720 : Index := Scalar.indexCast c1_i32_762
  let c9_i32_741 : BitVec 32 := 9#32
  let v681 : BitVec 32 := Scalar.shrsi v680 c9_i32_741
  let c15_i32_742 : BitVec 32 := 15#32
  let v682 : BitVec 32 := Scalar.andi v681 c15_i32_742
  let v721 : Index := Scalar.indexCast v682
  let c15_i32_743 : BitVec 32 := 15#32
  let v683 : BitVec 32 := Scalar.andi v680 c15_i32_743
  let v722 : Index := Scalar.indexCast v683
  let c48_763 : Index := 48#32
  ![1, v721.toNat, v722.toNat, 48]
def k0_off607 (k0_t5 : Fin k0_t5_loop.trips) : Fin 3 → Nat :=
  let c1_i32_766 : BitVec 32 := 1#32
  let v727 : Index := Scalar.indexCast c1_i32_766
  let c0_i32_691 : BitVec 32 := 0#32
  let c1_i32_693 : BitVec 32 := 1#32
  let arg13 : BitVec 32 := Scf.iv c0_i32_691 c1_i32_693 k0_t5
  let c16_i32_764 : BitVec 32 := 16#32
  let v725 : BitVec 32 := Scalar.muli arg13 c16_i32_764
  let c1_i32_765 : BitVec 32 := 1#32
  let v726 : BitVec 32 := Scalar.addi v725 c1_i32_765
  let v728 : Index := Scalar.indexCast v726
  let c48_767 : Index := 48#32
  ![1, v728.toNat, 48]
def k0_off608 (v680 : BitVec 32) : Fin 4 → Nat :=
  let c1_i32_768 : BitVec 32 := 1#32
  let v732 : Index := Scalar.indexCast c1_i32_768
  let c9_i32_741 : BitVec 32 := 9#32
  let v681 : BitVec 32 := Scalar.shrsi v680 c9_i32_741
  let c15_i32_742 : BitVec 32 := 15#32
  let v682 : BitVec 32 := Scalar.andi v681 c15_i32_742
  let v733 : Index := Scalar.indexCast v682
  let c15_i32_743 : BitVec 32 := 15#32
  let v683 : BitVec 32 := Scalar.andi v680 c15_i32_743
  let v734 : Index := Scalar.indexCast v683
  let c64_769 : Index := 64#32
  ![1, v733.toNat, v734.toNat, 64]
def k0_off609 (k0_t5 : Fin k0_t5_loop.trips) : Fin 3 → Nat :=
  let c1_i32_772 : BitVec 32 := 1#32
  let v739 : Index := Scalar.indexCast c1_i32_772
  let c0_i32_691 : BitVec 32 := 0#32
  let c1_i32_693 : BitVec 32 := 1#32
  let arg13 : BitVec 32 := Scf.iv c0_i32_691 c1_i32_693 k0_t5
  let c16_i32_770 : BitVec 32 := 16#32
  let v737 : BitVec 32 := Scalar.muli arg13 c16_i32_770
  let c1_i32_771 : BitVec 32 := 1#32
  let v738 : BitVec 32 := Scalar.addi v737 c1_i32_771
  let v740 : Index := Scalar.indexCast v738
  let c64_773 : Index := 64#32
  ![1, v740.toNat, 64]
def k0_off610 (v680 : BitVec 32) : Fin 4 → Nat :=
  let c1_i32_774 : BitVec 32 := 1#32
  let v744 : Index := Scalar.indexCast c1_i32_774
  let c9_i32_741 : BitVec 32 := 9#32
  let v681 : BitVec 32 := Scalar.shrsi v680 c9_i32_741
  let c15_i32_742 : BitVec 32 := 15#32
  let v682 : BitVec 32 := Scalar.andi v681 c15_i32_742
  let v745 : Index := Scalar.indexCast v682
  let c15_i32_743 : BitVec 32 := 15#32
  let v683 : BitVec 32 := Scalar.andi v680 c15_i32_743
  let v746 : Index := Scalar.indexCast v683
  let c80_775 : Index := 80#32
  ![1, v745.toNat, v746.toNat, 80]

def k0_chk53 (v680 : BitVec 32) : Prop :=
  (∀ a, (k0_off600 v680) a + S1x1x1x16.size a ≤ S2x16x16x96.size a) ∧
  (∀ a, (k0_off602 v680) a + S1x1x1x16.size a ≤ S2x16x16x96.size a) ∧
  (∀ a, (k0_off604 v680) a + S1x1x1x16.size a ≤ S2x16x16x96.size a) ∧
  (∀ a, (k0_off606 v680) a + S1x1x1x16.size a ≤ S2x16x16x96.size a) ∧
  (∀ a, (k0_off608 v680) a + S1x1x1x16.size a ≤ S2x16x16x96.size a) ∧
  (∀ a, (k0_off610 v680) a + S1x1x1x16.size a ≤ S2x16x16x96.size a)
theorem k0_off600_inb : ∀ (v680 : BitVec 32) (k0_hw53 : k0_chk53 v680), ∀ a, (k0_off600 v680) a + S1x1x1x16.size a ≤ S2x16x16x96.size a := fun v680 k0_hw53 => k0_hw53.1
theorem k0_off602_inb : ∀ (v680 : BitVec 32) (k0_hw53 : k0_chk53 v680), ∀ a, (k0_off602 v680) a + S1x1x1x16.size a ≤ S2x16x16x96.size a := fun v680 k0_hw53 => k0_hw53.2.1
theorem k0_off604_inb : ∀ (v680 : BitVec 32) (k0_hw53 : k0_chk53 v680), ∀ a, (k0_off604 v680) a + S1x1x1x16.size a ≤ S2x16x16x96.size a := fun v680 k0_hw53 => k0_hw53.2.2.1
theorem k0_off606_inb : ∀ (v680 : BitVec 32) (k0_hw53 : k0_chk53 v680), ∀ a, (k0_off606 v680) a + S1x1x1x16.size a ≤ S2x16x16x96.size a := fun v680 k0_hw53 => k0_hw53.2.2.2.1
theorem k0_off608_inb : ∀ (v680 : BitVec 32) (k0_hw53 : k0_chk53 v680), ∀ a, (k0_off608 v680) a + S1x1x1x16.size a ≤ S2x16x16x96.size a := fun v680 k0_hw53 => k0_hw53.2.2.2.2.1
theorem k0_off610_inb : ∀ (v680 : BitVec 32) (k0_hw53 : k0_chk53 v680), ∀ a, (k0_off610 v680) a + S1x1x1x16.size a ≤ S2x16x16x96.size a := fun v680 k0_hw53 => k0_hw53.2.2.2.2.2

def k0_off611 (k0_t5 : Fin k0_t5_loop.trips) : Fin 3 → Nat :=
  let c1_i32_778 : BitVec 32 := 1#32
  let v751 : Index := Scalar.indexCast c1_i32_778
  let c0_i32_691 : BitVec 32 := 0#32
  let c1_i32_693 : BitVec 32 := 1#32
  let arg13 : BitVec 32 := Scf.iv c0_i32_691 c1_i32_693 k0_t5
  let c16_i32_776 : BitVec 32 := 16#32
  let v749 : BitVec 32 := Scalar.muli arg13 c16_i32_776
  let c1_i32_777 : BitVec 32 := 1#32
  let v750 : BitVec 32 := Scalar.addi v749 c1_i32_777
  let v752 : Index := Scalar.indexCast v750
  let c80_779 : Index := 80#32
  ![1, v752.toNat, 80]
def k0_off612 (v757 : BitVec 32) : Fin 4 → Nat :=
  let c1_i32_783 : BitVec 32 := 1#32
  let v761 : Index := Scalar.indexCast c1_i32_783
  let c9_i32_780 : BitVec 32 := 9#32
  let v758 : BitVec 32 := Scalar.shrsi v757 c9_i32_780
  let c15_i32_781 : BitVec 32 := 15#32
  let v759 : BitVec 32 := Scalar.andi v758 c15_i32_781
  let v762 : Index := Scalar.indexCast v759
  let c15_i32_782 : BitVec 32 := 15#32
  let v760 : BitVec 32 := Scalar.andi v757 c15_i32_782
  let v763 : Index := Scalar.indexCast v760
  let c0_784 : Index := 0#32
  ![1, v762.toNat, v763.toNat, 0]

def k0_off613 (k0_t5 : Fin k0_t5_loop.trips) : Fin 3 → Nat :=
  let c1_i32_787 : BitVec 32 := 1#32
  let v768 : Index := Scalar.indexCast c1_i32_787
  let c0_i32_691 : BitVec 32 := 0#32
  let c1_i32_693 : BitVec 32 := 1#32
  let arg13 : BitVec 32 := Scf.iv c0_i32_691 c1_i32_693 k0_t5
  let c16_i32_785 : BitVec 32 := 16#32
  let v766 : BitVec 32 := Scalar.muli arg13 c16_i32_785
  let c2_i32_786 : BitVec 32 := 2#32
  let v767 : BitVec 32 := Scalar.addi v766 c2_i32_786
  let v769 : Index := Scalar.indexCast v767
  let c0_788 : Index := 0#32
  ![1, v769.toNat, 0]
def k0_off614 (v757 : BitVec 32) : Fin 4 → Nat :=
  let c1_i32_789 : BitVec 32 := 1#32
  let v773 : Index := Scalar.indexCast c1_i32_789
  let c9_i32_780 : BitVec 32 := 9#32
  let v758 : BitVec 32 := Scalar.shrsi v757 c9_i32_780
  let c15_i32_781 : BitVec 32 := 15#32
  let v759 : BitVec 32 := Scalar.andi v758 c15_i32_781
  let v774 : Index := Scalar.indexCast v759
  let c15_i32_782 : BitVec 32 := 15#32
  let v760 : BitVec 32 := Scalar.andi v757 c15_i32_782
  let v775 : Index := Scalar.indexCast v760
  let c16_790 : Index := 16#32
  ![1, v774.toNat, v775.toNat, 16]
def k0_off615 (k0_t5 : Fin k0_t5_loop.trips) : Fin 3 → Nat :=
  let c1_i32_793 : BitVec 32 := 1#32
  let v780 : Index := Scalar.indexCast c1_i32_793
  let c0_i32_691 : BitVec 32 := 0#32
  let c1_i32_693 : BitVec 32 := 1#32
  let arg13 : BitVec 32 := Scf.iv c0_i32_691 c1_i32_693 k0_t5
  let c16_i32_791 : BitVec 32 := 16#32
  let v778 : BitVec 32 := Scalar.muli arg13 c16_i32_791
  let c2_i32_792 : BitVec 32 := 2#32
  let v779 : BitVec 32 := Scalar.addi v778 c2_i32_792
  let v781 : Index := Scalar.indexCast v779
  let c16_794 : Index := 16#32
  ![1, v781.toNat, 16]
def k0_off616 (v757 : BitVec 32) : Fin 4 → Nat :=
  let c1_i32_795 : BitVec 32 := 1#32
  let v785 : Index := Scalar.indexCast c1_i32_795
  let c9_i32_780 : BitVec 32 := 9#32
  let v758 : BitVec 32 := Scalar.shrsi v757 c9_i32_780
  let c15_i32_781 : BitVec 32 := 15#32
  let v759 : BitVec 32 := Scalar.andi v758 c15_i32_781
  let v786 : Index := Scalar.indexCast v759
  let c15_i32_782 : BitVec 32 := 15#32
  let v760 : BitVec 32 := Scalar.andi v757 c15_i32_782
  let v787 : Index := Scalar.indexCast v760
  let c32_796 : Index := 32#32
  ![1, v786.toNat, v787.toNat, 32]
def k0_off617 (k0_t5 : Fin k0_t5_loop.trips) : Fin 3 → Nat :=
  let c1_i32_799 : BitVec 32 := 1#32
  let v792 : Index := Scalar.indexCast c1_i32_799
  let c0_i32_691 : BitVec 32 := 0#32
  let c1_i32_693 : BitVec 32 := 1#32
  let arg13 : BitVec 32 := Scf.iv c0_i32_691 c1_i32_693 k0_t5
  let c16_i32_797 : BitVec 32 := 16#32
  let v790 : BitVec 32 := Scalar.muli arg13 c16_i32_797
  let c2_i32_798 : BitVec 32 := 2#32
  let v791 : BitVec 32 := Scalar.addi v790 c2_i32_798
  let v793 : Index := Scalar.indexCast v791
  let c32_800 : Index := 32#32
  ![1, v793.toNat, 32]
def k0_off618 (v757 : BitVec 32) : Fin 4 → Nat :=
  let c1_i32_801 : BitVec 32 := 1#32
  let v797 : Index := Scalar.indexCast c1_i32_801
  let c9_i32_780 : BitVec 32 := 9#32
  let v758 : BitVec 32 := Scalar.shrsi v757 c9_i32_780
  let c15_i32_781 : BitVec 32 := 15#32
  let v759 : BitVec 32 := Scalar.andi v758 c15_i32_781
  let v798 : Index := Scalar.indexCast v759
  let c15_i32_782 : BitVec 32 := 15#32
  let v760 : BitVec 32 := Scalar.andi v757 c15_i32_782
  let v799 : Index := Scalar.indexCast v760
  let c48_802 : Index := 48#32
  ![1, v798.toNat, v799.toNat, 48]
def k0_off619 (k0_t5 : Fin k0_t5_loop.trips) : Fin 3 → Nat :=
  let c1_i32_805 : BitVec 32 := 1#32
  let v804 : Index := Scalar.indexCast c1_i32_805
  let c0_i32_691 : BitVec 32 := 0#32
  let c1_i32_693 : BitVec 32 := 1#32
  let arg13 : BitVec 32 := Scf.iv c0_i32_691 c1_i32_693 k0_t5
  let c16_i32_803 : BitVec 32 := 16#32
  let v802 : BitVec 32 := Scalar.muli arg13 c16_i32_803
  let c2_i32_804 : BitVec 32 := 2#32
  let v803 : BitVec 32 := Scalar.addi v802 c2_i32_804
  let v805 : Index := Scalar.indexCast v803
  let c48_806 : Index := 48#32
  ![1, v805.toNat, 48]
def k0_off620 (v757 : BitVec 32) : Fin 4 → Nat :=
  let c1_i32_807 : BitVec 32 := 1#32
  let v809 : Index := Scalar.indexCast c1_i32_807
  let c9_i32_780 : BitVec 32 := 9#32
  let v758 : BitVec 32 := Scalar.shrsi v757 c9_i32_780
  let c15_i32_781 : BitVec 32 := 15#32
  let v759 : BitVec 32 := Scalar.andi v758 c15_i32_781
  let v810 : Index := Scalar.indexCast v759
  let c15_i32_782 : BitVec 32 := 15#32
  let v760 : BitVec 32 := Scalar.andi v757 c15_i32_782
  let v811 : Index := Scalar.indexCast v760
  let c64_808 : Index := 64#32
  ![1, v810.toNat, v811.toNat, 64]
def k0_off621 (k0_t5 : Fin k0_t5_loop.trips) : Fin 3 → Nat :=
  let c1_i32_811 : BitVec 32 := 1#32
  let v816 : Index := Scalar.indexCast c1_i32_811
  let c0_i32_691 : BitVec 32 := 0#32
  let c1_i32_693 : BitVec 32 := 1#32
  let arg13 : BitVec 32 := Scf.iv c0_i32_691 c1_i32_693 k0_t5
  let c16_i32_809 : BitVec 32 := 16#32
  let v814 : BitVec 32 := Scalar.muli arg13 c16_i32_809
  let c2_i32_810 : BitVec 32 := 2#32
  let v815 : BitVec 32 := Scalar.addi v814 c2_i32_810
  let v817 : Index := Scalar.indexCast v815
  let c64_812 : Index := 64#32
  ![1, v817.toNat, 64]
def k0_off622 (v757 : BitVec 32) : Fin 4 → Nat :=
  let c1_i32_813 : BitVec 32 := 1#32
  let v821 : Index := Scalar.indexCast c1_i32_813
  let c9_i32_780 : BitVec 32 := 9#32
  let v758 : BitVec 32 := Scalar.shrsi v757 c9_i32_780
  let c15_i32_781 : BitVec 32 := 15#32
  let v759 : BitVec 32 := Scalar.andi v758 c15_i32_781
  let v822 : Index := Scalar.indexCast v759
  let c15_i32_782 : BitVec 32 := 15#32
  let v760 : BitVec 32 := Scalar.andi v757 c15_i32_782
  let v823 : Index := Scalar.indexCast v760
  let c80_814 : Index := 80#32
  ![1, v822.toNat, v823.toNat, 80]

def k0_chk54 (v757 : BitVec 32) : Prop :=
  (∀ a, (k0_off612 v757) a + S1x1x1x16.size a ≤ S2x16x16x96.size a) ∧
  (∀ a, (k0_off614 v757) a + S1x1x1x16.size a ≤ S2x16x16x96.size a) ∧
  (∀ a, (k0_off616 v757) a + S1x1x1x16.size a ≤ S2x16x16x96.size a) ∧
  (∀ a, (k0_off618 v757) a + S1x1x1x16.size a ≤ S2x16x16x96.size a) ∧
  (∀ a, (k0_off620 v757) a + S1x1x1x16.size a ≤ S2x16x16x96.size a) ∧
  (∀ a, (k0_off622 v757) a + S1x1x1x16.size a ≤ S2x16x16x96.size a)
theorem k0_off612_inb : ∀ (v757 : BitVec 32) (k0_hw54 : k0_chk54 v757), ∀ a, (k0_off612 v757) a + S1x1x1x16.size a ≤ S2x16x16x96.size a := fun v757 k0_hw54 => k0_hw54.1
theorem k0_off614_inb : ∀ (v757 : BitVec 32) (k0_hw54 : k0_chk54 v757), ∀ a, (k0_off614 v757) a + S1x1x1x16.size a ≤ S2x16x16x96.size a := fun v757 k0_hw54 => k0_hw54.2.1
theorem k0_off616_inb : ∀ (v757 : BitVec 32) (k0_hw54 : k0_chk54 v757), ∀ a, (k0_off616 v757) a + S1x1x1x16.size a ≤ S2x16x16x96.size a := fun v757 k0_hw54 => k0_hw54.2.2.1
theorem k0_off618_inb : ∀ (v757 : BitVec 32) (k0_hw54 : k0_chk54 v757), ∀ a, (k0_off618 v757) a + S1x1x1x16.size a ≤ S2x16x16x96.size a := fun v757 k0_hw54 => k0_hw54.2.2.2.1
theorem k0_off620_inb : ∀ (v757 : BitVec 32) (k0_hw54 : k0_chk54 v757), ∀ a, (k0_off620 v757) a + S1x1x1x16.size a ≤ S2x16x16x96.size a := fun v757 k0_hw54 => k0_hw54.2.2.2.2.1
theorem k0_off622_inb : ∀ (v757 : BitVec 32) (k0_hw54 : k0_chk54 v757), ∀ a, (k0_off622 v757) a + S1x1x1x16.size a ≤ S2x16x16x96.size a := fun v757 k0_hw54 => k0_hw54.2.2.2.2.2

def k0_off623 (k0_t5 : Fin k0_t5_loop.trips) : Fin 3 → Nat :=
  let c1_i32_817 : BitVec 32 := 1#32
  let v828 : Index := Scalar.indexCast c1_i32_817
  let c0_i32_691 : BitVec 32 := 0#32
  let c1_i32_693 : BitVec 32 := 1#32
  let arg13 : BitVec 32 := Scf.iv c0_i32_691 c1_i32_693 k0_t5
  let c16_i32_815 : BitVec 32 := 16#32
  let v826 : BitVec 32 := Scalar.muli arg13 c16_i32_815
  let c2_i32_816 : BitVec 32 := 2#32
  let v827 : BitVec 32 := Scalar.addi v826 c2_i32_816
  let v829 : Index := Scalar.indexCast v827
  let c80_818 : Index := 80#32
  ![1, v829.toNat, 80]
def k0_off624 (v834 : BitVec 32) : Fin 4 → Nat :=
  let c1_i32_822 : BitVec 32 := 1#32
  let v838 : Index := Scalar.indexCast c1_i32_822
  let c9_i32_819 : BitVec 32 := 9#32
  let v835 : BitVec 32 := Scalar.shrsi v834 c9_i32_819
  let c15_i32_820 : BitVec 32 := 15#32
  let v836 : BitVec 32 := Scalar.andi v835 c15_i32_820
  let v839 : Index := Scalar.indexCast v836
  let c15_i32_821 : BitVec 32 := 15#32
  let v837 : BitVec 32 := Scalar.andi v834 c15_i32_821
  let v840 : Index := Scalar.indexCast v837
  let c0_823 : Index := 0#32
  ![1, v839.toNat, v840.toNat, 0]

def k0_off625 (k0_t5 : Fin k0_t5_loop.trips) : Fin 3 → Nat :=
  let c1_i32_826 : BitVec 32 := 1#32
  let v845 : Index := Scalar.indexCast c1_i32_826
  let c0_i32_691 : BitVec 32 := 0#32
  let c1_i32_693 : BitVec 32 := 1#32
  let arg13 : BitVec 32 := Scf.iv c0_i32_691 c1_i32_693 k0_t5
  let c16_i32_824 : BitVec 32 := 16#32
  let v843 : BitVec 32 := Scalar.muli arg13 c16_i32_824
  let c3_i32_825 : BitVec 32 := 3#32
  let v844 : BitVec 32 := Scalar.addi v843 c3_i32_825
  let v846 : Index := Scalar.indexCast v844
  let c0_827 : Index := 0#32
  ![1, v846.toNat, 0]
def k0_off626 (v834 : BitVec 32) : Fin 4 → Nat :=
  let c1_i32_828 : BitVec 32 := 1#32
  let v850 : Index := Scalar.indexCast c1_i32_828
  let c9_i32_819 : BitVec 32 := 9#32
  let v835 : BitVec 32 := Scalar.shrsi v834 c9_i32_819
  let c15_i32_820 : BitVec 32 := 15#32
  let v836 : BitVec 32 := Scalar.andi v835 c15_i32_820
  let v851 : Index := Scalar.indexCast v836
  let c15_i32_821 : BitVec 32 := 15#32
  let v837 : BitVec 32 := Scalar.andi v834 c15_i32_821
  let v852 : Index := Scalar.indexCast v837
  let c16_829 : Index := 16#32
  ![1, v851.toNat, v852.toNat, 16]
def k0_off627 (k0_t5 : Fin k0_t5_loop.trips) : Fin 3 → Nat :=
  let c1_i32_832 : BitVec 32 := 1#32
  let v857 : Index := Scalar.indexCast c1_i32_832
  let c0_i32_691 : BitVec 32 := 0#32
  let c1_i32_693 : BitVec 32 := 1#32
  let arg13 : BitVec 32 := Scf.iv c0_i32_691 c1_i32_693 k0_t5
  let c16_i32_830 : BitVec 32 := 16#32
  let v855 : BitVec 32 := Scalar.muli arg13 c16_i32_830
  let c3_i32_831 : BitVec 32 := 3#32
  let v856 : BitVec 32 := Scalar.addi v855 c3_i32_831
  let v858 : Index := Scalar.indexCast v856
  let c16_833 : Index := 16#32
  ![1, v858.toNat, 16]
def k0_off628 (v834 : BitVec 32) : Fin 4 → Nat :=
  let c1_i32_834 : BitVec 32 := 1#32
  let v862 : Index := Scalar.indexCast c1_i32_834
  let c9_i32_819 : BitVec 32 := 9#32
  let v835 : BitVec 32 := Scalar.shrsi v834 c9_i32_819
  let c15_i32_820 : BitVec 32 := 15#32
  let v836 : BitVec 32 := Scalar.andi v835 c15_i32_820
  let v863 : Index := Scalar.indexCast v836
  let c15_i32_821 : BitVec 32 := 15#32
  let v837 : BitVec 32 := Scalar.andi v834 c15_i32_821
  let v864 : Index := Scalar.indexCast v837
  let c32_835 : Index := 32#32
  ![1, v863.toNat, v864.toNat, 32]
def k0_off629 (k0_t5 : Fin k0_t5_loop.trips) : Fin 3 → Nat :=
  let c1_i32_838 : BitVec 32 := 1#32
  let v869 : Index := Scalar.indexCast c1_i32_838
  let c0_i32_691 : BitVec 32 := 0#32
  let c1_i32_693 : BitVec 32 := 1#32
  let arg13 : BitVec 32 := Scf.iv c0_i32_691 c1_i32_693 k0_t5
  let c16_i32_836 : BitVec 32 := 16#32
  let v867 : BitVec 32 := Scalar.muli arg13 c16_i32_836
  let c3_i32_837 : BitVec 32 := 3#32
  let v868 : BitVec 32 := Scalar.addi v867 c3_i32_837
  let v870 : Index := Scalar.indexCast v868
  let c32_839 : Index := 32#32
  ![1, v870.toNat, 32]
def k0_off630 (v834 : BitVec 32) : Fin 4 → Nat :=
  let c1_i32_840 : BitVec 32 := 1#32
  let v874 : Index := Scalar.indexCast c1_i32_840
  let c9_i32_819 : BitVec 32 := 9#32
  let v835 : BitVec 32 := Scalar.shrsi v834 c9_i32_819
  let c15_i32_820 : BitVec 32 := 15#32
  let v836 : BitVec 32 := Scalar.andi v835 c15_i32_820
  let v875 : Index := Scalar.indexCast v836
  let c15_i32_821 : BitVec 32 := 15#32
  let v837 : BitVec 32 := Scalar.andi v834 c15_i32_821
  let v876 : Index := Scalar.indexCast v837
  let c48_841 : Index := 48#32
  ![1, v875.toNat, v876.toNat, 48]
def k0_off631 (k0_t5 : Fin k0_t5_loop.trips) : Fin 3 → Nat :=
  let c1_i32_844 : BitVec 32 := 1#32
  let v881 : Index := Scalar.indexCast c1_i32_844
  let c0_i32_691 : BitVec 32 := 0#32
  let c1_i32_693 : BitVec 32 := 1#32
  let arg13 : BitVec 32 := Scf.iv c0_i32_691 c1_i32_693 k0_t5
  let c16_i32_842 : BitVec 32 := 16#32
  let v879 : BitVec 32 := Scalar.muli arg13 c16_i32_842
  let c3_i32_843 : BitVec 32 := 3#32
  let v880 : BitVec 32 := Scalar.addi v879 c3_i32_843
  let v882 : Index := Scalar.indexCast v880
  let c48_845 : Index := 48#32
  ![1, v882.toNat, 48]
def k0_off632 (v834 : BitVec 32) : Fin 4 → Nat :=
  let c1_i32_846 : BitVec 32 := 1#32
  let v886 : Index := Scalar.indexCast c1_i32_846
  let c9_i32_819 : BitVec 32 := 9#32
  let v835 : BitVec 32 := Scalar.shrsi v834 c9_i32_819
  let c15_i32_820 : BitVec 32 := 15#32
  let v836 : BitVec 32 := Scalar.andi v835 c15_i32_820
  let v887 : Index := Scalar.indexCast v836
  let c15_i32_821 : BitVec 32 := 15#32
  let v837 : BitVec 32 := Scalar.andi v834 c15_i32_821
  let v888 : Index := Scalar.indexCast v837
  let c64_847 : Index := 64#32
  ![1, v887.toNat, v888.toNat, 64]
def k0_off633 (k0_t5 : Fin k0_t5_loop.trips) : Fin 3 → Nat :=
  let c1_i32_850 : BitVec 32 := 1#32
  let v893 : Index := Scalar.indexCast c1_i32_850
  let c0_i32_691 : BitVec 32 := 0#32
  let c1_i32_693 : BitVec 32 := 1#32
  let arg13 : BitVec 32 := Scf.iv c0_i32_691 c1_i32_693 k0_t5
  let c16_i32_848 : BitVec 32 := 16#32
  let v891 : BitVec 32 := Scalar.muli arg13 c16_i32_848
  let c3_i32_849 : BitVec 32 := 3#32
  let v892 : BitVec 32 := Scalar.addi v891 c3_i32_849
  let v894 : Index := Scalar.indexCast v892
  let c64_851 : Index := 64#32
  ![1, v894.toNat, 64]
def k0_off634 (v834 : BitVec 32) : Fin 4 → Nat :=
  let c1_i32_852 : BitVec 32 := 1#32
  let v898 : Index := Scalar.indexCast c1_i32_852
  let c9_i32_819 : BitVec 32 := 9#32
  let v835 : BitVec 32 := Scalar.shrsi v834 c9_i32_819
  let c15_i32_820 : BitVec 32 := 15#32
  let v836 : BitVec 32 := Scalar.andi v835 c15_i32_820
  let v899 : Index := Scalar.indexCast v836
  let c15_i32_821 : BitVec 32 := 15#32
  let v837 : BitVec 32 := Scalar.andi v834 c15_i32_821
  let v900 : Index := Scalar.indexCast v837
  let c80_853 : Index := 80#32
  ![1, v899.toNat, v900.toNat, 80]

def k0_chk55 (v834 : BitVec 32) : Prop :=
  (∀ a, (k0_off624 v834) a + S1x1x1x16.size a ≤ S2x16x16x96.size a) ∧
  (∀ a, (k0_off626 v834) a + S1x1x1x16.size a ≤ S2x16x16x96.size a) ∧
  (∀ a, (k0_off628 v834) a + S1x1x1x16.size a ≤ S2x16x16x96.size a) ∧
  (∀ a, (k0_off630 v834) a + S1x1x1x16.size a ≤ S2x16x16x96.size a) ∧
  (∀ a, (k0_off632 v834) a + S1x1x1x16.size a ≤ S2x16x16x96.size a) ∧
  (∀ a, (k0_off634 v834) a + S1x1x1x16.size a ≤ S2x16x16x96.size a)
theorem k0_off624_inb : ∀ (v834 : BitVec 32) (k0_hw55 : k0_chk55 v834), ∀ a, (k0_off624 v834) a + S1x1x1x16.size a ≤ S2x16x16x96.size a := fun v834 k0_hw55 => k0_hw55.1
theorem k0_off626_inb : ∀ (v834 : BitVec 32) (k0_hw55 : k0_chk55 v834), ∀ a, (k0_off626 v834) a + S1x1x1x16.size a ≤ S2x16x16x96.size a := fun v834 k0_hw55 => k0_hw55.2.1
theorem k0_off628_inb : ∀ (v834 : BitVec 32) (k0_hw55 : k0_chk55 v834), ∀ a, (k0_off628 v834) a + S1x1x1x16.size a ≤ S2x16x16x96.size a := fun v834 k0_hw55 => k0_hw55.2.2.1
theorem k0_off630_inb : ∀ (v834 : BitVec 32) (k0_hw55 : k0_chk55 v834), ∀ a, (k0_off630 v834) a + S1x1x1x16.size a ≤ S2x16x16x96.size a := fun v834 k0_hw55 => k0_hw55.2.2.2.1
theorem k0_off632_inb : ∀ (v834 : BitVec 32) (k0_hw55 : k0_chk55 v834), ∀ a, (k0_off632 v834) a + S1x1x1x16.size a ≤ S2x16x16x96.size a := fun v834 k0_hw55 => k0_hw55.2.2.2.2.1
theorem k0_off634_inb : ∀ (v834 : BitVec 32) (k0_hw55 : k0_chk55 v834), ∀ a, (k0_off634 v834) a + S1x1x1x16.size a ≤ S2x16x16x96.size a := fun v834 k0_hw55 => k0_hw55.2.2.2.2.2

def k0_off635 (k0_t5 : Fin k0_t5_loop.trips) : Fin 3 → Nat :=
  let c1_i32_856 : BitVec 32 := 1#32
  let v905 : Index := Scalar.indexCast c1_i32_856
  let c0_i32_691 : BitVec 32 := 0#32
  let c1_i32_693 : BitVec 32 := 1#32
  let arg13 : BitVec 32 := Scf.iv c0_i32_691 c1_i32_693 k0_t5
  let c16_i32_854 : BitVec 32 := 16#32
  let v903 : BitVec 32 := Scalar.muli arg13 c16_i32_854
  let c3_i32_855 : BitVec 32 := 3#32
  let v904 : BitVec 32 := Scalar.addi v903 c3_i32_855
  let v906 : Index := Scalar.indexCast v904
  let c80_857 : Index := 80#32
  ![1, v906.toNat, 80]
def k0_off636 (v911 : BitVec 32) : Fin 4 → Nat :=
  let c1_i32_861 : BitVec 32 := 1#32
  let v915 : Index := Scalar.indexCast c1_i32_861
  let c9_i32_858 : BitVec 32 := 9#32
  let v912 : BitVec 32 := Scalar.shrsi v911 c9_i32_858
  let c15_i32_859 : BitVec 32 := 15#32
  let v913 : BitVec 32 := Scalar.andi v912 c15_i32_859
  let v916 : Index := Scalar.indexCast v913
  let c15_i32_860 : BitVec 32 := 15#32
  let v914 : BitVec 32 := Scalar.andi v911 c15_i32_860
  let v917 : Index := Scalar.indexCast v914
  let c0_862 : Index := 0#32
  ![1, v916.toNat, v917.toNat, 0]

def k0_off637 (k0_t5 : Fin k0_t5_loop.trips) : Fin 3 → Nat :=
  let c1_i32_865 : BitVec 32 := 1#32
  let v922 : Index := Scalar.indexCast c1_i32_865
  let c0_i32_691 : BitVec 32 := 0#32
  let c1_i32_693 : BitVec 32 := 1#32
  let arg13 : BitVec 32 := Scf.iv c0_i32_691 c1_i32_693 k0_t5
  let c16_i32_863 : BitVec 32 := 16#32
  let v920 : BitVec 32 := Scalar.muli arg13 c16_i32_863
  let c4_i32_864 : BitVec 32 := 4#32
  let v921 : BitVec 32 := Scalar.addi v920 c4_i32_864
  let v923 : Index := Scalar.indexCast v921
  let c0_866 : Index := 0#32
  ![1, v923.toNat, 0]
def k0_off638 (v911 : BitVec 32) : Fin 4 → Nat :=
  let c1_i32_867 : BitVec 32 := 1#32
  let v927 : Index := Scalar.indexCast c1_i32_867
  let c9_i32_858 : BitVec 32 := 9#32
  let v912 : BitVec 32 := Scalar.shrsi v911 c9_i32_858
  let c15_i32_859 : BitVec 32 := 15#32
  let v913 : BitVec 32 := Scalar.andi v912 c15_i32_859
  let v928 : Index := Scalar.indexCast v913
  let c15_i32_860 : BitVec 32 := 15#32
  let v914 : BitVec 32 := Scalar.andi v911 c15_i32_860
  let v929 : Index := Scalar.indexCast v914
  let c16_868 : Index := 16#32
  ![1, v928.toNat, v929.toNat, 16]
def k0_off639 (k0_t5 : Fin k0_t5_loop.trips) : Fin 3 → Nat :=
  let c1_i32_871 : BitVec 32 := 1#32
  let v934 : Index := Scalar.indexCast c1_i32_871
  let c0_i32_691 : BitVec 32 := 0#32
  let c1_i32_693 : BitVec 32 := 1#32
  let arg13 : BitVec 32 := Scf.iv c0_i32_691 c1_i32_693 k0_t5
  let c16_i32_869 : BitVec 32 := 16#32
  let v932 : BitVec 32 := Scalar.muli arg13 c16_i32_869
  let c4_i32_870 : BitVec 32 := 4#32
  let v933 : BitVec 32 := Scalar.addi v932 c4_i32_870
  let v935 : Index := Scalar.indexCast v933
  let c16_872 : Index := 16#32
  ![1, v935.toNat, 16]
def k0_off640 (v911 : BitVec 32) : Fin 4 → Nat :=
  let c1_i32_873 : BitVec 32 := 1#32
  let v939 : Index := Scalar.indexCast c1_i32_873
  let c9_i32_858 : BitVec 32 := 9#32
  let v912 : BitVec 32 := Scalar.shrsi v911 c9_i32_858
  let c15_i32_859 : BitVec 32 := 15#32
  let v913 : BitVec 32 := Scalar.andi v912 c15_i32_859
  let v940 : Index := Scalar.indexCast v913
  let c15_i32_860 : BitVec 32 := 15#32
  let v914 : BitVec 32 := Scalar.andi v911 c15_i32_860
  let v941 : Index := Scalar.indexCast v914
  let c32_874 : Index := 32#32
  ![1, v940.toNat, v941.toNat, 32]
def k0_off641 (k0_t5 : Fin k0_t5_loop.trips) : Fin 3 → Nat :=
  let c1_i32_877 : BitVec 32 := 1#32
  let v946 : Index := Scalar.indexCast c1_i32_877
  let c0_i32_691 : BitVec 32 := 0#32
  let c1_i32_693 : BitVec 32 := 1#32
  let arg13 : BitVec 32 := Scf.iv c0_i32_691 c1_i32_693 k0_t5
  let c16_i32_875 : BitVec 32 := 16#32
  let v944 : BitVec 32 := Scalar.muli arg13 c16_i32_875
  let c4_i32_876 : BitVec 32 := 4#32
  let v945 : BitVec 32 := Scalar.addi v944 c4_i32_876
  let v947 : Index := Scalar.indexCast v945
  let c32_878 : Index := 32#32
  ![1, v947.toNat, 32]
def k0_off642 (v911 : BitVec 32) : Fin 4 → Nat :=
  let c1_i32_879 : BitVec 32 := 1#32
  let v951 : Index := Scalar.indexCast c1_i32_879
  let c9_i32_858 : BitVec 32 := 9#32
  let v912 : BitVec 32 := Scalar.shrsi v911 c9_i32_858
  let c15_i32_859 : BitVec 32 := 15#32
  let v913 : BitVec 32 := Scalar.andi v912 c15_i32_859
  let v952 : Index := Scalar.indexCast v913
  let c15_i32_860 : BitVec 32 := 15#32
  let v914 : BitVec 32 := Scalar.andi v911 c15_i32_860
  let v953 : Index := Scalar.indexCast v914
  let c48_880 : Index := 48#32
  ![1, v952.toNat, v953.toNat, 48]
def k0_off643 (k0_t5 : Fin k0_t5_loop.trips) : Fin 3 → Nat :=
  let c1_i32_883 : BitVec 32 := 1#32
  let v958 : Index := Scalar.indexCast c1_i32_883
  let c0_i32_691 : BitVec 32 := 0#32
  let c1_i32_693 : BitVec 32 := 1#32
  let arg13 : BitVec 32 := Scf.iv c0_i32_691 c1_i32_693 k0_t5
  let c16_i32_881 : BitVec 32 := 16#32
  let v956 : BitVec 32 := Scalar.muli arg13 c16_i32_881
  let c4_i32_882 : BitVec 32 := 4#32
  let v957 : BitVec 32 := Scalar.addi v956 c4_i32_882
  let v959 : Index := Scalar.indexCast v957
  let c48_884 : Index := 48#32
  ![1, v959.toNat, 48]
def k0_off644 (v911 : BitVec 32) : Fin 4 → Nat :=
  let c1_i32_885 : BitVec 32 := 1#32
  let v963 : Index := Scalar.indexCast c1_i32_885
  let c9_i32_858 : BitVec 32 := 9#32
  let v912 : BitVec 32 := Scalar.shrsi v911 c9_i32_858
  let c15_i32_859 : BitVec 32 := 15#32
  let v913 : BitVec 32 := Scalar.andi v912 c15_i32_859
  let v964 : Index := Scalar.indexCast v913
  let c15_i32_860 : BitVec 32 := 15#32
  let v914 : BitVec 32 := Scalar.andi v911 c15_i32_860
  let v965 : Index := Scalar.indexCast v914
  let c64_886 : Index := 64#32
  ![1, v964.toNat, v965.toNat, 64]
def k0_off645 (k0_t5 : Fin k0_t5_loop.trips) : Fin 3 → Nat :=
  let c1_i32_889 : BitVec 32 := 1#32
  let v970 : Index := Scalar.indexCast c1_i32_889
  let c0_i32_691 : BitVec 32 := 0#32
  let c1_i32_693 : BitVec 32 := 1#32
  let arg13 : BitVec 32 := Scf.iv c0_i32_691 c1_i32_693 k0_t5
  let c16_i32_887 : BitVec 32 := 16#32
  let v968 : BitVec 32 := Scalar.muli arg13 c16_i32_887
  let c4_i32_888 : BitVec 32 := 4#32
  let v969 : BitVec 32 := Scalar.addi v968 c4_i32_888
  let v971 : Index := Scalar.indexCast v969
  let c64_890 : Index := 64#32
  ![1, v971.toNat, 64]
def k0_off646 (v911 : BitVec 32) : Fin 4 → Nat :=
  let c1_i32_891 : BitVec 32 := 1#32
  let v975 : Index := Scalar.indexCast c1_i32_891
  let c9_i32_858 : BitVec 32 := 9#32
  let v912 : BitVec 32 := Scalar.shrsi v911 c9_i32_858
  let c15_i32_859 : BitVec 32 := 15#32
  let v913 : BitVec 32 := Scalar.andi v912 c15_i32_859
  let v976 : Index := Scalar.indexCast v913
  let c15_i32_860 : BitVec 32 := 15#32
  let v914 : BitVec 32 := Scalar.andi v911 c15_i32_860
  let v977 : Index := Scalar.indexCast v914
  let c80_892 : Index := 80#32
  ![1, v976.toNat, v977.toNat, 80]

def k0_chk56 (v911 : BitVec 32) : Prop :=
  (∀ a, (k0_off636 v911) a + S1x1x1x16.size a ≤ S2x16x16x96.size a) ∧
  (∀ a, (k0_off638 v911) a + S1x1x1x16.size a ≤ S2x16x16x96.size a) ∧
  (∀ a, (k0_off640 v911) a + S1x1x1x16.size a ≤ S2x16x16x96.size a) ∧
  (∀ a, (k0_off642 v911) a + S1x1x1x16.size a ≤ S2x16x16x96.size a) ∧
  (∀ a, (k0_off644 v911) a + S1x1x1x16.size a ≤ S2x16x16x96.size a) ∧
  (∀ a, (k0_off646 v911) a + S1x1x1x16.size a ≤ S2x16x16x96.size a)
theorem k0_off636_inb : ∀ (v911 : BitVec 32) (k0_hw56 : k0_chk56 v911), ∀ a, (k0_off636 v911) a + S1x1x1x16.size a ≤ S2x16x16x96.size a := fun v911 k0_hw56 => k0_hw56.1
theorem k0_off638_inb : ∀ (v911 : BitVec 32) (k0_hw56 : k0_chk56 v911), ∀ a, (k0_off638 v911) a + S1x1x1x16.size a ≤ S2x16x16x96.size a := fun v911 k0_hw56 => k0_hw56.2.1
theorem k0_off640_inb : ∀ (v911 : BitVec 32) (k0_hw56 : k0_chk56 v911), ∀ a, (k0_off640 v911) a + S1x1x1x16.size a ≤ S2x16x16x96.size a := fun v911 k0_hw56 => k0_hw56.2.2.1
theorem k0_off642_inb : ∀ (v911 : BitVec 32) (k0_hw56 : k0_chk56 v911), ∀ a, (k0_off642 v911) a + S1x1x1x16.size a ≤ S2x16x16x96.size a := fun v911 k0_hw56 => k0_hw56.2.2.2.1
theorem k0_off644_inb : ∀ (v911 : BitVec 32) (k0_hw56 : k0_chk56 v911), ∀ a, (k0_off644 v911) a + S1x1x1x16.size a ≤ S2x16x16x96.size a := fun v911 k0_hw56 => k0_hw56.2.2.2.2.1
theorem k0_off646_inb : ∀ (v911 : BitVec 32) (k0_hw56 : k0_chk56 v911), ∀ a, (k0_off646 v911) a + S1x1x1x16.size a ≤ S2x16x16x96.size a := fun v911 k0_hw56 => k0_hw56.2.2.2.2.2

def k0_off647 (k0_t5 : Fin k0_t5_loop.trips) : Fin 3 → Nat :=
  let c1_i32_895 : BitVec 32 := 1#32
  let v982 : Index := Scalar.indexCast c1_i32_895
  let c0_i32_691 : BitVec 32 := 0#32
  let c1_i32_693 : BitVec 32 := 1#32
  let arg13 : BitVec 32 := Scf.iv c0_i32_691 c1_i32_693 k0_t5
  let c16_i32_893 : BitVec 32 := 16#32
  let v980 : BitVec 32 := Scalar.muli arg13 c16_i32_893
  let c4_i32_894 : BitVec 32 := 4#32
  let v981 : BitVec 32 := Scalar.addi v980 c4_i32_894
  let v983 : Index := Scalar.indexCast v981
  let c80_896 : Index := 80#32
  ![1, v983.toNat, 80]
def k0_off648 (v988 : BitVec 32) : Fin 4 → Nat :=
  let c1_i32_900 : BitVec 32 := 1#32
  let v992 : Index := Scalar.indexCast c1_i32_900
  let c9_i32_897 : BitVec 32 := 9#32
  let v989 : BitVec 32 := Scalar.shrsi v988 c9_i32_897
  let c15_i32_898 : BitVec 32 := 15#32
  let v990 : BitVec 32 := Scalar.andi v989 c15_i32_898
  let v993 : Index := Scalar.indexCast v990
  let c15_i32_899 : BitVec 32 := 15#32
  let v991 : BitVec 32 := Scalar.andi v988 c15_i32_899
  let v994 : Index := Scalar.indexCast v991
  let c0_901 : Index := 0#32
  ![1, v993.toNat, v994.toNat, 0]

def k0_off649 (k0_t5 : Fin k0_t5_loop.trips) : Fin 3 → Nat :=
  let c1_i32_904 : BitVec 32 := 1#32
  let v999 : Index := Scalar.indexCast c1_i32_904
  let c0_i32_691 : BitVec 32 := 0#32
  let c1_i32_693 : BitVec 32 := 1#32
  let arg13 : BitVec 32 := Scf.iv c0_i32_691 c1_i32_693 k0_t5
  let c16_i32_902 : BitVec 32 := 16#32
  let v997 : BitVec 32 := Scalar.muli arg13 c16_i32_902
  let c5_i32_903 : BitVec 32 := 5#32
  let v998 : BitVec 32 := Scalar.addi v997 c5_i32_903
  let v1000 : Index := Scalar.indexCast v998
  let c0_905 : Index := 0#32
  ![1, v1000.toNat, 0]
def k0_off650 (v988 : BitVec 32) : Fin 4 → Nat :=
  let c1_i32_906 : BitVec 32 := 1#32
  let v1004 : Index := Scalar.indexCast c1_i32_906
  let c9_i32_897 : BitVec 32 := 9#32
  let v989 : BitVec 32 := Scalar.shrsi v988 c9_i32_897
  let c15_i32_898 : BitVec 32 := 15#32
  let v990 : BitVec 32 := Scalar.andi v989 c15_i32_898
  let v1005 : Index := Scalar.indexCast v990
  let c15_i32_899 : BitVec 32 := 15#32
  let v991 : BitVec 32 := Scalar.andi v988 c15_i32_899
  let v1006 : Index := Scalar.indexCast v991
  let c16_907 : Index := 16#32
  ![1, v1005.toNat, v1006.toNat, 16]
def k0_off651 (k0_t5 : Fin k0_t5_loop.trips) : Fin 3 → Nat :=
  let c1_i32_910 : BitVec 32 := 1#32
  let v1011 : Index := Scalar.indexCast c1_i32_910
  let c0_i32_691 : BitVec 32 := 0#32
  let c1_i32_693 : BitVec 32 := 1#32
  let arg13 : BitVec 32 := Scf.iv c0_i32_691 c1_i32_693 k0_t5
  let c16_i32_908 : BitVec 32 := 16#32
  let v1009 : BitVec 32 := Scalar.muli arg13 c16_i32_908
  let c5_i32_909 : BitVec 32 := 5#32
  let v1010 : BitVec 32 := Scalar.addi v1009 c5_i32_909
  let v1012 : Index := Scalar.indexCast v1010
  let c16_911 : Index := 16#32
  ![1, v1012.toNat, 16]
def k0_off652 (v988 : BitVec 32) : Fin 4 → Nat :=
  let c1_i32_912 : BitVec 32 := 1#32
  let v1016 : Index := Scalar.indexCast c1_i32_912
  let c9_i32_897 : BitVec 32 := 9#32
  let v989 : BitVec 32 := Scalar.shrsi v988 c9_i32_897
  let c15_i32_898 : BitVec 32 := 15#32
  let v990 : BitVec 32 := Scalar.andi v989 c15_i32_898
  let v1017 : Index := Scalar.indexCast v990
  let c15_i32_899 : BitVec 32 := 15#32
  let v991 : BitVec 32 := Scalar.andi v988 c15_i32_899
  let v1018 : Index := Scalar.indexCast v991
  let c32_913 : Index := 32#32
  ![1, v1017.toNat, v1018.toNat, 32]
def k0_off653 (k0_t5 : Fin k0_t5_loop.trips) : Fin 3 → Nat :=
  let c1_i32_916 : BitVec 32 := 1#32
  let v1023 : Index := Scalar.indexCast c1_i32_916
  let c0_i32_691 : BitVec 32 := 0#32
  let c1_i32_693 : BitVec 32 := 1#32
  let arg13 : BitVec 32 := Scf.iv c0_i32_691 c1_i32_693 k0_t5
  let c16_i32_914 : BitVec 32 := 16#32
  let v1021 : BitVec 32 := Scalar.muli arg13 c16_i32_914
  let c5_i32_915 : BitVec 32 := 5#32
  let v1022 : BitVec 32 := Scalar.addi v1021 c5_i32_915
  let v1024 : Index := Scalar.indexCast v1022
  let c32_917 : Index := 32#32
  ![1, v1024.toNat, 32]
def k0_off654 (v988 : BitVec 32) : Fin 4 → Nat :=
  let c1_i32_918 : BitVec 32 := 1#32
  let v1028 : Index := Scalar.indexCast c1_i32_918
  let c9_i32_897 : BitVec 32 := 9#32
  let v989 : BitVec 32 := Scalar.shrsi v988 c9_i32_897
  let c15_i32_898 : BitVec 32 := 15#32
  let v990 : BitVec 32 := Scalar.andi v989 c15_i32_898
  let v1029 : Index := Scalar.indexCast v990
  let c15_i32_899 : BitVec 32 := 15#32
  let v991 : BitVec 32 := Scalar.andi v988 c15_i32_899
  let v1030 : Index := Scalar.indexCast v991
  let c48_919 : Index := 48#32
  ![1, v1029.toNat, v1030.toNat, 48]
def k0_off655 (k0_t5 : Fin k0_t5_loop.trips) : Fin 3 → Nat :=
  let c1_i32_922 : BitVec 32 := 1#32
  let v1035 : Index := Scalar.indexCast c1_i32_922
  let c0_i32_691 : BitVec 32 := 0#32
  let c1_i32_693 : BitVec 32 := 1#32
  let arg13 : BitVec 32 := Scf.iv c0_i32_691 c1_i32_693 k0_t5
  let c16_i32_920 : BitVec 32 := 16#32
  let v1033 : BitVec 32 := Scalar.muli arg13 c16_i32_920
  let c5_i32_921 : BitVec 32 := 5#32
  let v1034 : BitVec 32 := Scalar.addi v1033 c5_i32_921
  let v1036 : Index := Scalar.indexCast v1034
  let c48_923 : Index := 48#32
  ![1, v1036.toNat, 48]
def k0_off656 (v988 : BitVec 32) : Fin 4 → Nat :=
  let c1_i32_924 : BitVec 32 := 1#32
  let v1040 : Index := Scalar.indexCast c1_i32_924
  let c9_i32_897 : BitVec 32 := 9#32
  let v989 : BitVec 32 := Scalar.shrsi v988 c9_i32_897
  let c15_i32_898 : BitVec 32 := 15#32
  let v990 : BitVec 32 := Scalar.andi v989 c15_i32_898
  let v1041 : Index := Scalar.indexCast v990
  let c15_i32_899 : BitVec 32 := 15#32
  let v991 : BitVec 32 := Scalar.andi v988 c15_i32_899
  let v1042 : Index := Scalar.indexCast v991
  let c64_925 : Index := 64#32
  ![1, v1041.toNat, v1042.toNat, 64]
def k0_off657 (k0_t5 : Fin k0_t5_loop.trips) : Fin 3 → Nat :=
  let c1_i32_928 : BitVec 32 := 1#32
  let v1047 : Index := Scalar.indexCast c1_i32_928
  let c0_i32_691 : BitVec 32 := 0#32
  let c1_i32_693 : BitVec 32 := 1#32
  let arg13 : BitVec 32 := Scf.iv c0_i32_691 c1_i32_693 k0_t5
  let c16_i32_926 : BitVec 32 := 16#32
  let v1045 : BitVec 32 := Scalar.muli arg13 c16_i32_926
  let c5_i32_927 : BitVec 32 := 5#32
  let v1046 : BitVec 32 := Scalar.addi v1045 c5_i32_927
  let v1048 : Index := Scalar.indexCast v1046
  let c64_929 : Index := 64#32
  ![1, v1048.toNat, 64]
def k0_off658 (v988 : BitVec 32) : Fin 4 → Nat :=
  let c1_i32_930 : BitVec 32 := 1#32
  let v1052 : Index := Scalar.indexCast c1_i32_930
  let c9_i32_897 : BitVec 32 := 9#32
  let v989 : BitVec 32 := Scalar.shrsi v988 c9_i32_897
  let c15_i32_898 : BitVec 32 := 15#32
  let v990 : BitVec 32 := Scalar.andi v989 c15_i32_898
  let v1053 : Index := Scalar.indexCast v990
  let c15_i32_899 : BitVec 32 := 15#32
  let v991 : BitVec 32 := Scalar.andi v988 c15_i32_899
  let v1054 : Index := Scalar.indexCast v991
  let c80_931 : Index := 80#32
  ![1, v1053.toNat, v1054.toNat, 80]

def k0_chk57 (v988 : BitVec 32) : Prop :=
  (∀ a, (k0_off648 v988) a + S1x1x1x16.size a ≤ S2x16x16x96.size a) ∧
  (∀ a, (k0_off650 v988) a + S1x1x1x16.size a ≤ S2x16x16x96.size a) ∧
  (∀ a, (k0_off652 v988) a + S1x1x1x16.size a ≤ S2x16x16x96.size a) ∧
  (∀ a, (k0_off654 v988) a + S1x1x1x16.size a ≤ S2x16x16x96.size a) ∧
  (∀ a, (k0_off656 v988) a + S1x1x1x16.size a ≤ S2x16x16x96.size a) ∧
  (∀ a, (k0_off658 v988) a + S1x1x1x16.size a ≤ S2x16x16x96.size a)
theorem k0_off648_inb : ∀ (v988 : BitVec 32) (k0_hw57 : k0_chk57 v988), ∀ a, (k0_off648 v988) a + S1x1x1x16.size a ≤ S2x16x16x96.size a := fun v988 k0_hw57 => k0_hw57.1
theorem k0_off650_inb : ∀ (v988 : BitVec 32) (k0_hw57 : k0_chk57 v988), ∀ a, (k0_off650 v988) a + S1x1x1x16.size a ≤ S2x16x16x96.size a := fun v988 k0_hw57 => k0_hw57.2.1
theorem k0_off652_inb : ∀ (v988 : BitVec 32) (k0_hw57 : k0_chk57 v988), ∀ a, (k0_off652 v988) a + S1x1x1x16.size a ≤ S2x16x16x96.size a := fun v988 k0_hw57 => k0_hw57.2.2.1
theorem k0_off654_inb : ∀ (v988 : BitVec 32) (k0_hw57 : k0_chk57 v988), ∀ a, (k0_off654 v988) a + S1x1x1x16.size a ≤ S2x16x16x96.size a := fun v988 k0_hw57 => k0_hw57.2.2.2.1
theorem k0_off656_inb : ∀ (v988 : BitVec 32) (k0_hw57 : k0_chk57 v988), ∀ a, (k0_off656 v988) a + S1x1x1x16.size a ≤ S2x16x16x96.size a := fun v988 k0_hw57 => k0_hw57.2.2.2.2.1
theorem k0_off658_inb : ∀ (v988 : BitVec 32) (k0_hw57 : k0_chk57 v988), ∀ a, (k0_off658 v988) a + S1x1x1x16.size a ≤ S2x16x16x96.size a := fun v988 k0_hw57 => k0_hw57.2.2.2.2.2

def k0_off659 (k0_t5 : Fin k0_t5_loop.trips) : Fin 3 → Nat :=
  let c1_i32_934 : BitVec 32 := 1#32
  let v1059 : Index := Scalar.indexCast c1_i32_934
  let c0_i32_691 : BitVec 32 := 0#32
  let c1_i32_693 : BitVec 32 := 1#32
  let arg13 : BitVec 32 := Scf.iv c0_i32_691 c1_i32_693 k0_t5
  let c16_i32_932 : BitVec 32 := 16#32
  let v1057 : BitVec 32 := Scalar.muli arg13 c16_i32_932
  let c5_i32_933 : BitVec 32 := 5#32
  let v1058 : BitVec 32 := Scalar.addi v1057 c5_i32_933
  let v1060 : Index := Scalar.indexCast v1058
  let c80_935 : Index := 80#32
  ![1, v1060.toNat, 80]
def k0_off660 (v1065 : BitVec 32) : Fin 4 → Nat :=
  let c1_i32_939 : BitVec 32 := 1#32
  let v1069 : Index := Scalar.indexCast c1_i32_939
  let c9_i32_936 : BitVec 32 := 9#32
  let v1066 : BitVec 32 := Scalar.shrsi v1065 c9_i32_936
  let c15_i32_937 : BitVec 32 := 15#32
  let v1067 : BitVec 32 := Scalar.andi v1066 c15_i32_937
  let v1070 : Index := Scalar.indexCast v1067
  let c15_i32_938 : BitVec 32 := 15#32
  let v1068 : BitVec 32 := Scalar.andi v1065 c15_i32_938
  let v1071 : Index := Scalar.indexCast v1068
  let c0_940 : Index := 0#32
  ![1, v1070.toNat, v1071.toNat, 0]

def k0_off661 (k0_t5 : Fin k0_t5_loop.trips) : Fin 3 → Nat :=
  let c1_i32_943 : BitVec 32 := 1#32
  let v1076 : Index := Scalar.indexCast c1_i32_943
  let c0_i32_691 : BitVec 32 := 0#32
  let c1_i32_693 : BitVec 32 := 1#32
  let arg13 : BitVec 32 := Scf.iv c0_i32_691 c1_i32_693 k0_t5
  let c16_i32_941 : BitVec 32 := 16#32
  let v1074 : BitVec 32 := Scalar.muli arg13 c16_i32_941
  let c6_i32_942 : BitVec 32 := 6#32
  let v1075 : BitVec 32 := Scalar.addi v1074 c6_i32_942
  let v1077 : Index := Scalar.indexCast v1075
  let c0_944 : Index := 0#32
  ![1, v1077.toNat, 0]
def k0_off662 (v1065 : BitVec 32) : Fin 4 → Nat :=
  let c1_i32_945 : BitVec 32 := 1#32
  let v1081 : Index := Scalar.indexCast c1_i32_945
  let c9_i32_936 : BitVec 32 := 9#32
  let v1066 : BitVec 32 := Scalar.shrsi v1065 c9_i32_936
  let c15_i32_937 : BitVec 32 := 15#32
  let v1067 : BitVec 32 := Scalar.andi v1066 c15_i32_937
  let v1082 : Index := Scalar.indexCast v1067
  let c15_i32_938 : BitVec 32 := 15#32
  let v1068 : BitVec 32 := Scalar.andi v1065 c15_i32_938
  let v1083 : Index := Scalar.indexCast v1068
  let c16_946 : Index := 16#32
  ![1, v1082.toNat, v1083.toNat, 16]
def k0_off663 (k0_t5 : Fin k0_t5_loop.trips) : Fin 3 → Nat :=
  let c1_i32_949 : BitVec 32 := 1#32
  let v1088 : Index := Scalar.indexCast c1_i32_949
  let c0_i32_691 : BitVec 32 := 0#32
  let c1_i32_693 : BitVec 32 := 1#32
  let arg13 : BitVec 32 := Scf.iv c0_i32_691 c1_i32_693 k0_t5
  let c16_i32_947 : BitVec 32 := 16#32
  let v1086 : BitVec 32 := Scalar.muli arg13 c16_i32_947
  let c6_i32_948 : BitVec 32 := 6#32
  let v1087 : BitVec 32 := Scalar.addi v1086 c6_i32_948
  let v1089 : Index := Scalar.indexCast v1087
  let c16_950 : Index := 16#32
  ![1, v1089.toNat, 16]
def k0_off664 (v1065 : BitVec 32) : Fin 4 → Nat :=
  let c1_i32_951 : BitVec 32 := 1#32
  let v1093 : Index := Scalar.indexCast c1_i32_951
  let c9_i32_936 : BitVec 32 := 9#32
  let v1066 : BitVec 32 := Scalar.shrsi v1065 c9_i32_936
  let c15_i32_937 : BitVec 32 := 15#32
  let v1067 : BitVec 32 := Scalar.andi v1066 c15_i32_937
  let v1094 : Index := Scalar.indexCast v1067
  let c15_i32_938 : BitVec 32 := 15#32
  let v1068 : BitVec 32 := Scalar.andi v1065 c15_i32_938
  let v1095 : Index := Scalar.indexCast v1068
  let c32_952 : Index := 32#32
  ![1, v1094.toNat, v1095.toNat, 32]
def k0_off665 (k0_t5 : Fin k0_t5_loop.trips) : Fin 3 → Nat :=
  let c1_i32_955 : BitVec 32 := 1#32
  let v1100 : Index := Scalar.indexCast c1_i32_955
  let c0_i32_691 : BitVec 32 := 0#32
  let c1_i32_693 : BitVec 32 := 1#32
  let arg13 : BitVec 32 := Scf.iv c0_i32_691 c1_i32_693 k0_t5
  let c16_i32_953 : BitVec 32 := 16#32
  let v1098 : BitVec 32 := Scalar.muli arg13 c16_i32_953
  let c6_i32_954 : BitVec 32 := 6#32
  let v1099 : BitVec 32 := Scalar.addi v1098 c6_i32_954
  let v1101 : Index := Scalar.indexCast v1099
  let c32_956 : Index := 32#32
  ![1, v1101.toNat, 32]
def k0_off666 (v1065 : BitVec 32) : Fin 4 → Nat :=
  let c1_i32_957 : BitVec 32 := 1#32
  let v1105 : Index := Scalar.indexCast c1_i32_957
  let c9_i32_936 : BitVec 32 := 9#32
  let v1066 : BitVec 32 := Scalar.shrsi v1065 c9_i32_936
  let c15_i32_937 : BitVec 32 := 15#32
  let v1067 : BitVec 32 := Scalar.andi v1066 c15_i32_937
  let v1106 : Index := Scalar.indexCast v1067
  let c15_i32_938 : BitVec 32 := 15#32
  let v1068 : BitVec 32 := Scalar.andi v1065 c15_i32_938
  let v1107 : Index := Scalar.indexCast v1068
  let c48_958 : Index := 48#32
  ![1, v1106.toNat, v1107.toNat, 48]
def k0_off667 (k0_t5 : Fin k0_t5_loop.trips) : Fin 3 → Nat :=
  let c1_i32_961 : BitVec 32 := 1#32
  let v1112 : Index := Scalar.indexCast c1_i32_961
  let c0_i32_691 : BitVec 32 := 0#32
  let c1_i32_693 : BitVec 32 := 1#32
  let arg13 : BitVec 32 := Scf.iv c0_i32_691 c1_i32_693 k0_t5
  let c16_i32_959 : BitVec 32 := 16#32
  let v1110 : BitVec 32 := Scalar.muli arg13 c16_i32_959
  let c6_i32_960 : BitVec 32 := 6#32
  let v1111 : BitVec 32 := Scalar.addi v1110 c6_i32_960
  let v1113 : Index := Scalar.indexCast v1111
  let c48_962 : Index := 48#32
  ![1, v1113.toNat, 48]
def k0_off668 (v1065 : BitVec 32) : Fin 4 → Nat :=
  let c1_i32_963 : BitVec 32 := 1#32
  let v1117 : Index := Scalar.indexCast c1_i32_963
  let c9_i32_936 : BitVec 32 := 9#32
  let v1066 : BitVec 32 := Scalar.shrsi v1065 c9_i32_936
  let c15_i32_937 : BitVec 32 := 15#32
  let v1067 : BitVec 32 := Scalar.andi v1066 c15_i32_937
  let v1118 : Index := Scalar.indexCast v1067
  let c15_i32_938 : BitVec 32 := 15#32
  let v1068 : BitVec 32 := Scalar.andi v1065 c15_i32_938
  let v1119 : Index := Scalar.indexCast v1068
  let c64_964 : Index := 64#32
  ![1, v1118.toNat, v1119.toNat, 64]
def k0_off669 (k0_t5 : Fin k0_t5_loop.trips) : Fin 3 → Nat :=
  let c1_i32_967 : BitVec 32 := 1#32
  let v1124 : Index := Scalar.indexCast c1_i32_967
  let c0_i32_691 : BitVec 32 := 0#32
  let c1_i32_693 : BitVec 32 := 1#32
  let arg13 : BitVec 32 := Scf.iv c0_i32_691 c1_i32_693 k0_t5
  let c16_i32_965 : BitVec 32 := 16#32
  let v1122 : BitVec 32 := Scalar.muli arg13 c16_i32_965
  let c6_i32_966 : BitVec 32 := 6#32
  let v1123 : BitVec 32 := Scalar.addi v1122 c6_i32_966
  let v1125 : Index := Scalar.indexCast v1123
  let c64_968 : Index := 64#32
  ![1, v1125.toNat, 64]
def k0_off670 (v1065 : BitVec 32) : Fin 4 → Nat :=
  let c1_i32_969 : BitVec 32 := 1#32
  let v1129 : Index := Scalar.indexCast c1_i32_969
  let c9_i32_936 : BitVec 32 := 9#32
  let v1066 : BitVec 32 := Scalar.shrsi v1065 c9_i32_936
  let c15_i32_937 : BitVec 32 := 15#32
  let v1067 : BitVec 32 := Scalar.andi v1066 c15_i32_937
  let v1130 : Index := Scalar.indexCast v1067
  let c15_i32_938 : BitVec 32 := 15#32
  let v1068 : BitVec 32 := Scalar.andi v1065 c15_i32_938
  let v1131 : Index := Scalar.indexCast v1068
  let c80_970 : Index := 80#32
  ![1, v1130.toNat, v1131.toNat, 80]

def k0_chk58 (v1065 : BitVec 32) : Prop :=
  (∀ a, (k0_off660 v1065) a + S1x1x1x16.size a ≤ S2x16x16x96.size a) ∧
  (∀ a, (k0_off662 v1065) a + S1x1x1x16.size a ≤ S2x16x16x96.size a) ∧
  (∀ a, (k0_off664 v1065) a + S1x1x1x16.size a ≤ S2x16x16x96.size a) ∧
  (∀ a, (k0_off666 v1065) a + S1x1x1x16.size a ≤ S2x16x16x96.size a) ∧
  (∀ a, (k0_off668 v1065) a + S1x1x1x16.size a ≤ S2x16x16x96.size a) ∧
  (∀ a, (k0_off670 v1065) a + S1x1x1x16.size a ≤ S2x16x16x96.size a)
theorem k0_off660_inb : ∀ (v1065 : BitVec 32) (k0_hw58 : k0_chk58 v1065), ∀ a, (k0_off660 v1065) a + S1x1x1x16.size a ≤ S2x16x16x96.size a := fun v1065 k0_hw58 => k0_hw58.1
theorem k0_off662_inb : ∀ (v1065 : BitVec 32) (k0_hw58 : k0_chk58 v1065), ∀ a, (k0_off662 v1065) a + S1x1x1x16.size a ≤ S2x16x16x96.size a := fun v1065 k0_hw58 => k0_hw58.2.1
theorem k0_off664_inb : ∀ (v1065 : BitVec 32) (k0_hw58 : k0_chk58 v1065), ∀ a, (k0_off664 v1065) a + S1x1x1x16.size a ≤ S2x16x16x96.size a := fun v1065 k0_hw58 => k0_hw58.2.2.1
theorem k0_off666_inb : ∀ (v1065 : BitVec 32) (k0_hw58 : k0_chk58 v1065), ∀ a, (k0_off666 v1065) a + S1x1x1x16.size a ≤ S2x16x16x96.size a := fun v1065 k0_hw58 => k0_hw58.2.2.2.1
theorem k0_off668_inb : ∀ (v1065 : BitVec 32) (k0_hw58 : k0_chk58 v1065), ∀ a, (k0_off668 v1065) a + S1x1x1x16.size a ≤ S2x16x16x96.size a := fun v1065 k0_hw58 => k0_hw58.2.2.2.2.1
theorem k0_off670_inb : ∀ (v1065 : BitVec 32) (k0_hw58 : k0_chk58 v1065), ∀ a, (k0_off670 v1065) a + S1x1x1x16.size a ≤ S2x16x16x96.size a := fun v1065 k0_hw58 => k0_hw58.2.2.2.2.2

def k0_off671 (k0_t5 : Fin k0_t5_loop.trips) : Fin 3 → Nat :=
  let c1_i32_973 : BitVec 32 := 1#32
  let v1136 : Index := Scalar.indexCast c1_i32_973
  let c0_i32_691 : BitVec 32 := 0#32
  let c1_i32_693 : BitVec 32 := 1#32
  let arg13 : BitVec 32 := Scf.iv c0_i32_691 c1_i32_693 k0_t5
  let c16_i32_971 : BitVec 32 := 16#32
  let v1134 : BitVec 32 := Scalar.muli arg13 c16_i32_971
  let c6_i32_972 : BitVec 32 := 6#32
  let v1135 : BitVec 32 := Scalar.addi v1134 c6_i32_972
  let v1137 : Index := Scalar.indexCast v1135
  let c80_974 : Index := 80#32
  ![1, v1137.toNat, 80]
def k0_off672 (v1142 : BitVec 32) : Fin 4 → Nat :=
  let c1_i32_978 : BitVec 32 := 1#32
  let v1146 : Index := Scalar.indexCast c1_i32_978
  let c9_i32_975 : BitVec 32 := 9#32
  let v1143 : BitVec 32 := Scalar.shrsi v1142 c9_i32_975
  let c15_i32_976 : BitVec 32 := 15#32
  let v1144 : BitVec 32 := Scalar.andi v1143 c15_i32_976
  let v1147 : Index := Scalar.indexCast v1144
  let c15_i32_977 : BitVec 32 := 15#32
  let v1145 : BitVec 32 := Scalar.andi v1142 c15_i32_977
  let v1148 : Index := Scalar.indexCast v1145
  let c0_979 : Index := 0#32
  ![1, v1147.toNat, v1148.toNat, 0]

def k0_off673 (k0_t5 : Fin k0_t5_loop.trips) : Fin 3 → Nat :=
  let c1_i32_982 : BitVec 32 := 1#32
  let v1153 : Index := Scalar.indexCast c1_i32_982
  let c0_i32_691 : BitVec 32 := 0#32
  let c1_i32_693 : BitVec 32 := 1#32
  let arg13 : BitVec 32 := Scf.iv c0_i32_691 c1_i32_693 k0_t5
  let c16_i32_980 : BitVec 32 := 16#32
  let v1151 : BitVec 32 := Scalar.muli arg13 c16_i32_980
  let c7_i32_981 : BitVec 32 := 7#32
  let v1152 : BitVec 32 := Scalar.addi v1151 c7_i32_981
  let v1154 : Index := Scalar.indexCast v1152
  let c0_983 : Index := 0#32
  ![1, v1154.toNat, 0]
def k0_off674 (v1142 : BitVec 32) : Fin 4 → Nat :=
  let c1_i32_984 : BitVec 32 := 1#32
  let v1158 : Index := Scalar.indexCast c1_i32_984
  let c9_i32_975 : BitVec 32 := 9#32
  let v1143 : BitVec 32 := Scalar.shrsi v1142 c9_i32_975
  let c15_i32_976 : BitVec 32 := 15#32
  let v1144 : BitVec 32 := Scalar.andi v1143 c15_i32_976
  let v1159 : Index := Scalar.indexCast v1144
  let c15_i32_977 : BitVec 32 := 15#32
  let v1145 : BitVec 32 := Scalar.andi v1142 c15_i32_977
  let v1160 : Index := Scalar.indexCast v1145
  let c16_985 : Index := 16#32
  ![1, v1159.toNat, v1160.toNat, 16]
def k0_off675 (k0_t5 : Fin k0_t5_loop.trips) : Fin 3 → Nat :=
  let c1_i32_988 : BitVec 32 := 1#32
  let v1165 : Index := Scalar.indexCast c1_i32_988
  let c0_i32_691 : BitVec 32 := 0#32
  let c1_i32_693 : BitVec 32 := 1#32
  let arg13 : BitVec 32 := Scf.iv c0_i32_691 c1_i32_693 k0_t5
  let c16_i32_986 : BitVec 32 := 16#32
  let v1163 : BitVec 32 := Scalar.muli arg13 c16_i32_986
  let c7_i32_987 : BitVec 32 := 7#32
  let v1164 : BitVec 32 := Scalar.addi v1163 c7_i32_987
  let v1166 : Index := Scalar.indexCast v1164
  let c16_989 : Index := 16#32
  ![1, v1166.toNat, 16]
def k0_off676 (v1142 : BitVec 32) : Fin 4 → Nat :=
  let c1_i32_990 : BitVec 32 := 1#32
  let v1170 : Index := Scalar.indexCast c1_i32_990
  let c9_i32_975 : BitVec 32 := 9#32
  let v1143 : BitVec 32 := Scalar.shrsi v1142 c9_i32_975
  let c15_i32_976 : BitVec 32 := 15#32
  let v1144 : BitVec 32 := Scalar.andi v1143 c15_i32_976
  let v1171 : Index := Scalar.indexCast v1144
  let c15_i32_977 : BitVec 32 := 15#32
  let v1145 : BitVec 32 := Scalar.andi v1142 c15_i32_977
  let v1172 : Index := Scalar.indexCast v1145
  let c32_991 : Index := 32#32
  ![1, v1171.toNat, v1172.toNat, 32]
def k0_off677 (k0_t5 : Fin k0_t5_loop.trips) : Fin 3 → Nat :=
  let c1_i32_994 : BitVec 32 := 1#32
  let v1177 : Index := Scalar.indexCast c1_i32_994
  let c0_i32_691 : BitVec 32 := 0#32
  let c1_i32_693 : BitVec 32 := 1#32
  let arg13 : BitVec 32 := Scf.iv c0_i32_691 c1_i32_693 k0_t5
  let c16_i32_992 : BitVec 32 := 16#32
  let v1175 : BitVec 32 := Scalar.muli arg13 c16_i32_992
  let c7_i32_993 : BitVec 32 := 7#32
  let v1176 : BitVec 32 := Scalar.addi v1175 c7_i32_993
  let v1178 : Index := Scalar.indexCast v1176
  let c32_995 : Index := 32#32
  ![1, v1178.toNat, 32]
def k0_off678 (v1142 : BitVec 32) : Fin 4 → Nat :=
  let c1_i32_996 : BitVec 32 := 1#32
  let v1182 : Index := Scalar.indexCast c1_i32_996
  let c9_i32_975 : BitVec 32 := 9#32
  let v1143 : BitVec 32 := Scalar.shrsi v1142 c9_i32_975
  let c15_i32_976 : BitVec 32 := 15#32
  let v1144 : BitVec 32 := Scalar.andi v1143 c15_i32_976
  let v1183 : Index := Scalar.indexCast v1144
  let c15_i32_977 : BitVec 32 := 15#32
  let v1145 : BitVec 32 := Scalar.andi v1142 c15_i32_977
  let v1184 : Index := Scalar.indexCast v1145
  let c48_997 : Index := 48#32
  ![1, v1183.toNat, v1184.toNat, 48]
def k0_off679 (k0_t5 : Fin k0_t5_loop.trips) : Fin 3 → Nat :=
  let c1_i32_1000 : BitVec 32 := 1#32
  let v1189 : Index := Scalar.indexCast c1_i32_1000
  let c0_i32_691 : BitVec 32 := 0#32
  let c1_i32_693 : BitVec 32 := 1#32
  let arg13 : BitVec 32 := Scf.iv c0_i32_691 c1_i32_693 k0_t5
  let c16_i32_998 : BitVec 32 := 16#32
  let v1187 : BitVec 32 := Scalar.muli arg13 c16_i32_998
  let c7_i32_999 : BitVec 32 := 7#32
  let v1188 : BitVec 32 := Scalar.addi v1187 c7_i32_999
  let v1190 : Index := Scalar.indexCast v1188
  let c48_1001 : Index := 48#32
  ![1, v1190.toNat, 48]
def k0_off680 (v1142 : BitVec 32) : Fin 4 → Nat :=
  let c1_i32_1002 : BitVec 32 := 1#32
  let v1194 : Index := Scalar.indexCast c1_i32_1002
  let c9_i32_975 : BitVec 32 := 9#32
  let v1143 : BitVec 32 := Scalar.shrsi v1142 c9_i32_975
  let c15_i32_976 : BitVec 32 := 15#32
  let v1144 : BitVec 32 := Scalar.andi v1143 c15_i32_976
  let v1195 : Index := Scalar.indexCast v1144
  let c15_i32_977 : BitVec 32 := 15#32
  let v1145 : BitVec 32 := Scalar.andi v1142 c15_i32_977
  let v1196 : Index := Scalar.indexCast v1145
  let c64_1003 : Index := 64#32
  ![1, v1195.toNat, v1196.toNat, 64]
def k0_off681 (k0_t5 : Fin k0_t5_loop.trips) : Fin 3 → Nat :=
  let c1_i32_1006 : BitVec 32 := 1#32
  let v1201 : Index := Scalar.indexCast c1_i32_1006
  let c0_i32_691 : BitVec 32 := 0#32
  let c1_i32_693 : BitVec 32 := 1#32
  let arg13 : BitVec 32 := Scf.iv c0_i32_691 c1_i32_693 k0_t5
  let c16_i32_1004 : BitVec 32 := 16#32
  let v1199 : BitVec 32 := Scalar.muli arg13 c16_i32_1004
  let c7_i32_1005 : BitVec 32 := 7#32
  let v1200 : BitVec 32 := Scalar.addi v1199 c7_i32_1005
  let v1202 : Index := Scalar.indexCast v1200
  let c64_1007 : Index := 64#32
  ![1, v1202.toNat, 64]
def k0_off682 (v1142 : BitVec 32) : Fin 4 → Nat :=
  let c1_i32_1008 : BitVec 32 := 1#32
  let v1206 : Index := Scalar.indexCast c1_i32_1008
  let c9_i32_975 : BitVec 32 := 9#32
  let v1143 : BitVec 32 := Scalar.shrsi v1142 c9_i32_975
  let c15_i32_976 : BitVec 32 := 15#32
  let v1144 : BitVec 32 := Scalar.andi v1143 c15_i32_976
  let v1207 : Index := Scalar.indexCast v1144
  let c15_i32_977 : BitVec 32 := 15#32
  let v1145 : BitVec 32 := Scalar.andi v1142 c15_i32_977
  let v1208 : Index := Scalar.indexCast v1145
  let c80_1009 : Index := 80#32
  ![1, v1207.toNat, v1208.toNat, 80]

def k0_chk59 (v1142 : BitVec 32) : Prop :=
  (∀ a, (k0_off672 v1142) a + S1x1x1x16.size a ≤ S2x16x16x96.size a) ∧
  (∀ a, (k0_off674 v1142) a + S1x1x1x16.size a ≤ S2x16x16x96.size a) ∧
  (∀ a, (k0_off676 v1142) a + S1x1x1x16.size a ≤ S2x16x16x96.size a) ∧
  (∀ a, (k0_off678 v1142) a + S1x1x1x16.size a ≤ S2x16x16x96.size a) ∧
  (∀ a, (k0_off680 v1142) a + S1x1x1x16.size a ≤ S2x16x16x96.size a) ∧
  (∀ a, (k0_off682 v1142) a + S1x1x1x16.size a ≤ S2x16x16x96.size a)
theorem k0_off672_inb : ∀ (v1142 : BitVec 32) (k0_hw59 : k0_chk59 v1142), ∀ a, (k0_off672 v1142) a + S1x1x1x16.size a ≤ S2x16x16x96.size a := fun v1142 k0_hw59 => k0_hw59.1
theorem k0_off674_inb : ∀ (v1142 : BitVec 32) (k0_hw59 : k0_chk59 v1142), ∀ a, (k0_off674 v1142) a + S1x1x1x16.size a ≤ S2x16x16x96.size a := fun v1142 k0_hw59 => k0_hw59.2.1
theorem k0_off676_inb : ∀ (v1142 : BitVec 32) (k0_hw59 : k0_chk59 v1142), ∀ a, (k0_off676 v1142) a + S1x1x1x16.size a ≤ S2x16x16x96.size a := fun v1142 k0_hw59 => k0_hw59.2.2.1
theorem k0_off678_inb : ∀ (v1142 : BitVec 32) (k0_hw59 : k0_chk59 v1142), ∀ a, (k0_off678 v1142) a + S1x1x1x16.size a ≤ S2x16x16x96.size a := fun v1142 k0_hw59 => k0_hw59.2.2.2.1
theorem k0_off680_inb : ∀ (v1142 : BitVec 32) (k0_hw59 : k0_chk59 v1142), ∀ a, (k0_off680 v1142) a + S1x1x1x16.size a ≤ S2x16x16x96.size a := fun v1142 k0_hw59 => k0_hw59.2.2.2.2.1
theorem k0_off682_inb : ∀ (v1142 : BitVec 32) (k0_hw59 : k0_chk59 v1142), ∀ a, (k0_off682 v1142) a + S1x1x1x16.size a ≤ S2x16x16x96.size a := fun v1142 k0_hw59 => k0_hw59.2.2.2.2.2

def k0_off683 (k0_t5 : Fin k0_t5_loop.trips) : Fin 3 → Nat :=
  let c1_i32_1012 : BitVec 32 := 1#32
  let v1213 : Index := Scalar.indexCast c1_i32_1012
  let c0_i32_691 : BitVec 32 := 0#32
  let c1_i32_693 : BitVec 32 := 1#32
  let arg13 : BitVec 32 := Scf.iv c0_i32_691 c1_i32_693 k0_t5
  let c16_i32_1010 : BitVec 32 := 16#32
  let v1211 : BitVec 32 := Scalar.muli arg13 c16_i32_1010
  let c7_i32_1011 : BitVec 32 := 7#32
  let v1212 : BitVec 32 := Scalar.addi v1211 c7_i32_1011
  let v1214 : Index := Scalar.indexCast v1212
  let c80_1013 : Index := 80#32
  ![1, v1214.toNat, 80]
def k0_off684 (v1219 : BitVec 32) : Fin 4 → Nat :=
  let c1_i32_1017 : BitVec 32 := 1#32
  let v1223 : Index := Scalar.indexCast c1_i32_1017
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1224 : Index := Scalar.indexCast v1221
  let c15_i32_1016 : BitVec 32 := 15#32
  let v1222 : BitVec 32 := Scalar.andi v1219 c15_i32_1016
  let v1225 : Index := Scalar.indexCast v1222
  let c0_1018 : Index := 0#32
  ![1, v1224.toNat, v1225.toNat, 0]

def k0_off685 (k0_t5 : Fin k0_t5_loop.trips) : Fin 3 → Nat :=
  let c1_i32_1021 : BitVec 32 := 1#32
  let v1230 : Index := Scalar.indexCast c1_i32_1021
  let c0_i32_691 : BitVec 32 := 0#32
  let c1_i32_693 : BitVec 32 := 1#32
  let arg13 : BitVec 32 := Scf.iv c0_i32_691 c1_i32_693 k0_t5
  let c16_i32_1019 : BitVec 32 := 16#32
  let v1228 : BitVec 32 := Scalar.muli arg13 c16_i32_1019
  let c8_i32_1020 : BitVec 32 := 8#32
  let v1229 : BitVec 32 := Scalar.addi v1228 c8_i32_1020
  let v1231 : Index := Scalar.indexCast v1229
  let c0_1022 : Index := 0#32
  ![1, v1231.toNat, 0]
def k0_off686 (v1219 : BitVec 32) : Fin 4 → Nat :=
  let c1_i32_1023 : BitVec 32 := 1#32
  let v1235 : Index := Scalar.indexCast c1_i32_1023
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1236 : Index := Scalar.indexCast v1221
  let c15_i32_1016 : BitVec 32 := 15#32
  let v1222 : BitVec 32 := Scalar.andi v1219 c15_i32_1016
  let v1237 : Index := Scalar.indexCast v1222
  let c16_1024 : Index := 16#32
  ![1, v1236.toNat, v1237.toNat, 16]
def k0_off687 (k0_t5 : Fin k0_t5_loop.trips) : Fin 3 → Nat :=
  let c1_i32_1027 : BitVec 32 := 1#32
  let v1242 : Index := Scalar.indexCast c1_i32_1027
  let c0_i32_691 : BitVec 32 := 0#32
  let c1_i32_693 : BitVec 32 := 1#32
  let arg13 : BitVec 32 := Scf.iv c0_i32_691 c1_i32_693 k0_t5
  let c16_i32_1025 : BitVec 32 := 16#32
  let v1240 : BitVec 32 := Scalar.muli arg13 c16_i32_1025
  let c8_i32_1026 : BitVec 32 := 8#32
  let v1241 : BitVec 32 := Scalar.addi v1240 c8_i32_1026
  let v1243 : Index := Scalar.indexCast v1241
  let c16_1028 : Index := 16#32
  ![1, v1243.toNat, 16]
def k0_off688 (v1219 : BitVec 32) : Fin 4 → Nat :=
  let c1_i32_1029 : BitVec 32 := 1#32
  let v1247 : Index := Scalar.indexCast c1_i32_1029
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1248 : Index := Scalar.indexCast v1221
  let c15_i32_1016 : BitVec 32 := 15#32
  let v1222 : BitVec 32 := Scalar.andi v1219 c15_i32_1016
  let v1249 : Index := Scalar.indexCast v1222
  let c32_1030 : Index := 32#32
  ![1, v1248.toNat, v1249.toNat, 32]
def k0_off689 (k0_t5 : Fin k0_t5_loop.trips) : Fin 3 → Nat :=
  let c1_i32_1033 : BitVec 32 := 1#32
  let v1254 : Index := Scalar.indexCast c1_i32_1033
  let c0_i32_691 : BitVec 32 := 0#32
  let c1_i32_693 : BitVec 32 := 1#32
  let arg13 : BitVec 32 := Scf.iv c0_i32_691 c1_i32_693 k0_t5
  let c16_i32_1031 : BitVec 32 := 16#32
  let v1252 : BitVec 32 := Scalar.muli arg13 c16_i32_1031
  let c8_i32_1032 : BitVec 32 := 8#32
  let v1253 : BitVec 32 := Scalar.addi v1252 c8_i32_1032
  let v1255 : Index := Scalar.indexCast v1253
  let c32_1034 : Index := 32#32
  ![1, v1255.toNat, 32]
def k0_off690 (v1219 : BitVec 32) : Fin 4 → Nat :=
  let c1_i32_1035 : BitVec 32 := 1#32
  let v1259 : Index := Scalar.indexCast c1_i32_1035
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1260 : Index := Scalar.indexCast v1221
  let c15_i32_1016 : BitVec 32 := 15#32
  let v1222 : BitVec 32 := Scalar.andi v1219 c15_i32_1016
  let v1261 : Index := Scalar.indexCast v1222
  let c48_1036 : Index := 48#32
  ![1, v1260.toNat, v1261.toNat, 48]
def k0_off691 (k0_t5 : Fin k0_t5_loop.trips) : Fin 3 → Nat :=
  let c1_i32_1039 : BitVec 32 := 1#32
  let v1266 : Index := Scalar.indexCast c1_i32_1039
  let c0_i32_691 : BitVec 32 := 0#32
  let c1_i32_693 : BitVec 32 := 1#32
  let arg13 : BitVec 32 := Scf.iv c0_i32_691 c1_i32_693 k0_t5
  let c16_i32_1037 : BitVec 32 := 16#32
  let v1264 : BitVec 32 := Scalar.muli arg13 c16_i32_1037
  let c8_i32_1038 : BitVec 32 := 8#32
  let v1265 : BitVec 32 := Scalar.addi v1264 c8_i32_1038
  let v1267 : Index := Scalar.indexCast v1265
  let c48_1040 : Index := 48#32
  ![1, v1267.toNat, 48]
def k0_off692 (v1219 : BitVec 32) : Fin 4 → Nat :=
  let c1_i32_1041 : BitVec 32 := 1#32
  let v1271 : Index := Scalar.indexCast c1_i32_1041
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1272 : Index := Scalar.indexCast v1221
  let c15_i32_1016 : BitVec 32 := 15#32
  let v1222 : BitVec 32 := Scalar.andi v1219 c15_i32_1016
  let v1273 : Index := Scalar.indexCast v1222
  let c64_1042 : Index := 64#32
  ![1, v1272.toNat, v1273.toNat, 64]
def k0_off693 (k0_t5 : Fin k0_t5_loop.trips) : Fin 3 → Nat :=
  let c1_i32_1045 : BitVec 32 := 1#32
  let v1278 : Index := Scalar.indexCast c1_i32_1045
  let c0_i32_691 : BitVec 32 := 0#32
  let c1_i32_693 : BitVec 32 := 1#32
  let arg13 : BitVec 32 := Scf.iv c0_i32_691 c1_i32_693 k0_t5
  let c16_i32_1043 : BitVec 32 := 16#32
  let v1276 : BitVec 32 := Scalar.muli arg13 c16_i32_1043
  let c8_i32_1044 : BitVec 32 := 8#32
  let v1277 : BitVec 32 := Scalar.addi v1276 c8_i32_1044
  let v1279 : Index := Scalar.indexCast v1277
  let c64_1046 : Index := 64#32
  ![1, v1279.toNat, 64]
def k0_off694 (v1219 : BitVec 32) : Fin 4 → Nat :=
  let c1_i32_1047 : BitVec 32 := 1#32
  let v1283 : Index := Scalar.indexCast c1_i32_1047
  let c9_i32_1014 : BitVec 32 := 9#32
  let v1220 : BitVec 32 := Scalar.shrsi v1219 c9_i32_1014
  let c15_i32_1015 : BitVec 32 := 15#32
  let v1221 : BitVec 32 := Scalar.andi v1220 c15_i32_1015
  let v1284 : Index := Scalar.indexCast v1221
  let c15_i32_1016 : BitVec 32 := 15#32
  let v1222 : BitVec 32 := Scalar.andi v1219 c15_i32_1016
  let v1285 : Index := Scalar.indexCast v1222
  let c80_1048 : Index := 80#32
  ![1, v1284.toNat, v1285.toNat, 80]

def k0_chk60 (v1219 : BitVec 32) : Prop :=
  (∀ a, (k0_off684 v1219) a + S1x1x1x16.size a ≤ S2x16x16x96.size a) ∧
  (∀ a, (k0_off686 v1219) a + S1x1x1x16.size a ≤ S2x16x16x96.size a) ∧
  (∀ a, (k0_off688 v1219) a + S1x1x1x16.size a ≤ S2x16x16x96.size a) ∧
  (∀ a, (k0_off690 v1219) a + S1x1x1x16.size a ≤ S2x16x16x96.size a) ∧
  (∀ a, (k0_off692 v1219) a + S1x1x1x16.size a ≤ S2x16x16x96.size a) ∧
  (∀ a, (k0_off694 v1219) a + S1x1x1x16.size a ≤ S2x16x16x96.size a)
theorem k0_off684_inb : ∀ (v1219 : BitVec 32) (k0_hw60 : k0_chk60 v1219), ∀ a, (k0_off684 v1219) a + S1x1x1x16.size a ≤ S2x16x16x96.size a := fun v1219 k0_hw60 => k0_hw60.1
theorem k0_off686_inb : ∀ (v1219 : BitVec 32) (k0_hw60 : k0_chk60 v1219), ∀ a, (k0_off686 v1219) a + S1x1x1x16.size a ≤ S2x16x16x96.size a := fun v1219 k0_hw60 => k0_hw60.2.1
theorem k0_off688_inb : ∀ (v1219 : BitVec 32) (k0_hw60 : k0_chk60 v1219), ∀ a, (k0_off688 v1219) a + S1x1x1x16.size a ≤ S2x16x16x96.size a := fun v1219 k0_hw60 => k0_hw60.2.2.1
theorem k0_off690_inb : ∀ (v1219 : BitVec 32) (k0_hw60 : k0_chk60 v1219), ∀ a, (k0_off690 v1219) a + S1x1x1x16.size a ≤ S2x16x16x96.size a := fun v1219 k0_hw60 => k0_hw60.2.2.2.1
theorem k0_off692_inb : ∀ (v1219 : BitVec 32) (k0_hw60 : k0_chk60 v1219), ∀ a, (k0_off692 v1219) a + S1x1x1x16.size a ≤ S2x16x16x96.size a := fun v1219 k0_hw60 => k0_hw60.2.2.2.2.1
theorem k0_off694_inb : ∀ (v1219 : BitVec 32) (k0_hw60 : k0_chk60 v1219), ∀ a, (k0_off694 v1219) a + S1x1x1x16.size a ≤ S2x16x16x96.size a := fun v1219 k0_hw60 => k0_hw60.2.2.2.2.2

def k0_off695 (k0_t5 : Fin k0_t5_loop.trips) : Fin 3 → Nat :=
  let c1_i32_1051 : BitVec 32 := 1#32
  let v1290 : Index := Scalar.indexCast c1_i32_1051
  let c0_i32_691 : BitVec 32 := 0#32
  let c1_i32_693 : BitVec 32 := 1#32
  let arg13 : BitVec 32 := Scf.iv c0_i32_691 c1_i32_693 k0_t5
  let c16_i32_1049 : BitVec 32 := 16#32
  let v1288 : BitVec 32 := Scalar.muli arg13 c16_i32_1049
  let c8_i32_1050 : BitVec 32 := 8#32
  let v1289 : BitVec 32 := Scalar.addi v1288 c8_i32_1050
  let v1291 : Index := Scalar.indexCast v1289
  let c80_1052 : Index := 80#32
  ![1, v1291.toNat, 80]
def k0_off696 (v1296 : BitVec 32) : Fin 4 → Nat :=
  let c1_i32_1056 : BitVec 32 := 1#32
  let v1300 : Index := Scalar.indexCast c1_i32_1056
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1301 : Index := Scalar.indexCast v1298
  let c15_i32_1055 : BitVec 32 := 15#32
  let v1299 : BitVec 32 := Scalar.andi v1296 c15_i32_1055
  let v1302 : Index := Scalar.indexCast v1299
  let c0_1057 : Index := 0#32
  ![1, v1301.toNat, v1302.toNat, 0]

def k0_off697 (k0_t5 : Fin k0_t5_loop.trips) : Fin 3 → Nat :=
  let c1_i32_1060 : BitVec 32 := 1#32
  let v1307 : Index := Scalar.indexCast c1_i32_1060
  let c0_i32_691 : BitVec 32 := 0#32
  let c1_i32_693 : BitVec 32 := 1#32
  let arg13 : BitVec 32 := Scf.iv c0_i32_691 c1_i32_693 k0_t5
  let c16_i32_1058 : BitVec 32 := 16#32
  let v1305 : BitVec 32 := Scalar.muli arg13 c16_i32_1058
  let c9_i32_1059 : BitVec 32 := 9#32
  let v1306 : BitVec 32 := Scalar.addi v1305 c9_i32_1059
  let v1308 : Index := Scalar.indexCast v1306
  let c0_1061 : Index := 0#32
  ![1, v1308.toNat, 0]
def k0_off698 (v1296 : BitVec 32) : Fin 4 → Nat :=
  let c1_i32_1062 : BitVec 32 := 1#32
  let v1312 : Index := Scalar.indexCast c1_i32_1062
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1313 : Index := Scalar.indexCast v1298
  let c15_i32_1055 : BitVec 32 := 15#32
  let v1299 : BitVec 32 := Scalar.andi v1296 c15_i32_1055
  let v1314 : Index := Scalar.indexCast v1299
  let c16_1063 : Index := 16#32
  ![1, v1313.toNat, v1314.toNat, 16]
def k0_off699 (k0_t5 : Fin k0_t5_loop.trips) : Fin 3 → Nat :=
  let c1_i32_1066 : BitVec 32 := 1#32
  let v1319 : Index := Scalar.indexCast c1_i32_1066
  let c0_i32_691 : BitVec 32 := 0#32
  let c1_i32_693 : BitVec 32 := 1#32
  let arg13 : BitVec 32 := Scf.iv c0_i32_691 c1_i32_693 k0_t5
  let c16_i32_1064 : BitVec 32 := 16#32
  let v1317 : BitVec 32 := Scalar.muli arg13 c16_i32_1064
  let c9_i32_1065 : BitVec 32 := 9#32
  let v1318 : BitVec 32 := Scalar.addi v1317 c9_i32_1065
  let v1320 : Index := Scalar.indexCast v1318
  let c16_1067 : Index := 16#32
  ![1, v1320.toNat, 16]
def k0_off700 (v1296 : BitVec 32) : Fin 4 → Nat :=
  let c1_i32_1068 : BitVec 32 := 1#32
  let v1324 : Index := Scalar.indexCast c1_i32_1068
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1325 : Index := Scalar.indexCast v1298
  let c15_i32_1055 : BitVec 32 := 15#32
  let v1299 : BitVec 32 := Scalar.andi v1296 c15_i32_1055
  let v1326 : Index := Scalar.indexCast v1299
  let c32_1069 : Index := 32#32
  ![1, v1325.toNat, v1326.toNat, 32]
def k0_off701 (k0_t5 : Fin k0_t5_loop.trips) : Fin 3 → Nat :=
  let c1_i32_1072 : BitVec 32 := 1#32
  let v1331 : Index := Scalar.indexCast c1_i32_1072
  let c0_i32_691 : BitVec 32 := 0#32
  let c1_i32_693 : BitVec 32 := 1#32
  let arg13 : BitVec 32 := Scf.iv c0_i32_691 c1_i32_693 k0_t5
  let c16_i32_1070 : BitVec 32 := 16#32
  let v1329 : BitVec 32 := Scalar.muli arg13 c16_i32_1070
  let c9_i32_1071 : BitVec 32 := 9#32
  let v1330 : BitVec 32 := Scalar.addi v1329 c9_i32_1071
  let v1332 : Index := Scalar.indexCast v1330
  let c32_1073 : Index := 32#32
  ![1, v1332.toNat, 32]
def k0_off702 (v1296 : BitVec 32) : Fin 4 → Nat :=
  let c1_i32_1074 : BitVec 32 := 1#32
  let v1336 : Index := Scalar.indexCast c1_i32_1074
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1337 : Index := Scalar.indexCast v1298
  let c15_i32_1055 : BitVec 32 := 15#32
  let v1299 : BitVec 32 := Scalar.andi v1296 c15_i32_1055
  let v1338 : Index := Scalar.indexCast v1299
  let c48_1075 : Index := 48#32
  ![1, v1337.toNat, v1338.toNat, 48]
def k0_off703 (k0_t5 : Fin k0_t5_loop.trips) : Fin 3 → Nat :=
  let c1_i32_1078 : BitVec 32 := 1#32
  let v1343 : Index := Scalar.indexCast c1_i32_1078
  let c0_i32_691 : BitVec 32 := 0#32
  let c1_i32_693 : BitVec 32 := 1#32
  let arg13 : BitVec 32 := Scf.iv c0_i32_691 c1_i32_693 k0_t5
  let c16_i32_1076 : BitVec 32 := 16#32
  let v1341 : BitVec 32 := Scalar.muli arg13 c16_i32_1076
  let c9_i32_1077 : BitVec 32 := 9#32
  let v1342 : BitVec 32 := Scalar.addi v1341 c9_i32_1077
  let v1344 : Index := Scalar.indexCast v1342
  let c48_1079 : Index := 48#32
  ![1, v1344.toNat, 48]
def k0_off704 (v1296 : BitVec 32) : Fin 4 → Nat :=
  let c1_i32_1080 : BitVec 32 := 1#32
  let v1348 : Index := Scalar.indexCast c1_i32_1080
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1349 : Index := Scalar.indexCast v1298
  let c15_i32_1055 : BitVec 32 := 15#32
  let v1299 : BitVec 32 := Scalar.andi v1296 c15_i32_1055
  let v1350 : Index := Scalar.indexCast v1299
  let c64_1081 : Index := 64#32
  ![1, v1349.toNat, v1350.toNat, 64]
def k0_off705 (k0_t5 : Fin k0_t5_loop.trips) : Fin 3 → Nat :=
  let c1_i32_1084 : BitVec 32 := 1#32
  let v1355 : Index := Scalar.indexCast c1_i32_1084
  let c0_i32_691 : BitVec 32 := 0#32
  let c1_i32_693 : BitVec 32 := 1#32
  let arg13 : BitVec 32 := Scf.iv c0_i32_691 c1_i32_693 k0_t5
  let c16_i32_1082 : BitVec 32 := 16#32
  let v1353 : BitVec 32 := Scalar.muli arg13 c16_i32_1082
  let c9_i32_1083 : BitVec 32 := 9#32
  let v1354 : BitVec 32 := Scalar.addi v1353 c9_i32_1083
  let v1356 : Index := Scalar.indexCast v1354
  let c64_1085 : Index := 64#32
  ![1, v1356.toNat, 64]
def k0_off706 (v1296 : BitVec 32) : Fin 4 → Nat :=
  let c1_i32_1086 : BitVec 32 := 1#32
  let v1360 : Index := Scalar.indexCast c1_i32_1086
  let c9_i32_1053 : BitVec 32 := 9#32
  let v1297 : BitVec 32 := Scalar.shrsi v1296 c9_i32_1053
  let c15_i32_1054 : BitVec 32 := 15#32
  let v1298 : BitVec 32 := Scalar.andi v1297 c15_i32_1054
  let v1361 : Index := Scalar.indexCast v1298
  let c15_i32_1055 : BitVec 32 := 15#32
  let v1299 : BitVec 32 := Scalar.andi v1296 c15_i32_1055
  let v1362 : Index := Scalar.indexCast v1299
  let c80_1087 : Index := 80#32
  ![1, v1361.toNat, v1362.toNat, 80]

def k0_chk61 (v1296 : BitVec 32) : Prop :=
  (∀ a, (k0_off696 v1296) a + S1x1x1x16.size a ≤ S2x16x16x96.size a) ∧
  (∀ a, (k0_off698 v1296) a + S1x1x1x16.size a ≤ S2x16x16x96.size a) ∧
  (∀ a, (k0_off700 v1296) a + S1x1x1x16.size a ≤ S2x16x16x96.size a) ∧
  (∀ a, (k0_off702 v1296) a + S1x1x1x16.size a ≤ S2x16x16x96.size a) ∧
  (∀ a, (k0_off704 v1296) a + S1x1x1x16.size a ≤ S2x16x16x96.size a) ∧
  (∀ a, (k0_off706 v1296) a + S1x1x1x16.size a ≤ S2x16x16x96.size a)
theorem k0_off696_inb : ∀ (v1296 : BitVec 32) (k0_hw61 : k0_chk61 v1296), ∀ a, (k0_off696 v1296) a + S1x1x1x16.size a ≤ S2x16x16x96.size a := fun v1296 k0_hw61 => k0_hw61.1
theorem k0_off698_inb : ∀ (v1296 : BitVec 32) (k0_hw61 : k0_chk61 v1296), ∀ a, (k0_off698 v1296) a + S1x1x1x16.size a ≤ S2x16x16x96.size a := fun v1296 k0_hw61 => k0_hw61.2.1
theorem k0_off700_inb : ∀ (v1296 : BitVec 32) (k0_hw61 : k0_chk61 v1296), ∀ a, (k0_off700 v1296) a + S1x1x1x16.size a ≤ S2x16x16x96.size a := fun v1296 k0_hw61 => k0_hw61.2.2.1
theorem k0_off702_inb : ∀ (v1296 : BitVec 32) (k0_hw61 : k0_chk61 v1296), ∀ a, (k0_off702 v1296) a + S1x1x1x16.size a ≤ S2x16x16x96.size a := fun v1296 k0_hw61 => k0_hw61.2.2.2.1
theorem k0_off704_inb : ∀ (v1296 : BitVec 32) (k0_hw61 : k0_chk61 v1296), ∀ a, (k0_off704 v1296) a + S1x1x1x16.size a ≤ S2x16x16x96.size a := fun v1296 k0_hw61 => k0_hw61.2.2.2.2.1
theorem k0_off706_inb : ∀ (v1296 : BitVec 32) (k0_hw61 : k0_chk61 v1296), ∀ a, (k0_off706 v1296) a + S1x1x1x16.size a ≤ S2x16x16x96.size a := fun v1296 k0_hw61 => k0_hw61.2.2.2.2.2

def k0_off707 (k0_t5 : Fin k0_t5_loop.trips) : Fin 3 → Nat :=
  let c1_i32_1090 : BitVec 32 := 1#32
  let v1367 : Index := Scalar.indexCast c1_i32_1090
  let c0_i32_691 : BitVec 32 := 0#32
  let c1_i32_693 : BitVec 32 := 1#32
  let arg13 : BitVec 32 := Scf.iv c0_i32_691 c1_i32_693 k0_t5
  let c16_i32_1088 : BitVec 32 := 16#32
  let v1365 : BitVec 32 := Scalar.muli arg13 c16_i32_1088
  let c9_i32_1089 : BitVec 32 := 9#32
  let v1366 : BitVec 32 := Scalar.addi v1365 c9_i32_1089
  let v1368 : Index := Scalar.indexCast v1366
  let c80_1091 : Index := 80#32
  ![1, v1368.toNat, 80]
def k0_off708 (v1373 : BitVec 32) : Fin 4 → Nat :=
  let c1_i32_1095 : BitVec 32 := 1#32
  let v1377 : Index := Scalar.indexCast c1_i32_1095
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1378 : Index := Scalar.indexCast v1375
  let c15_i32_1094 : BitVec 32 := 15#32
  let v1376 : BitVec 32 := Scalar.andi v1373 c15_i32_1094
  let v1379 : Index := Scalar.indexCast v1376
  let c0_1096 : Index := 0#32
  ![1, v1378.toNat, v1379.toNat, 0]

def k0_off709 (k0_t5 : Fin k0_t5_loop.trips) : Fin 3 → Nat :=
  let c1_i32_1099 : BitVec 32 := 1#32
  let v1384 : Index := Scalar.indexCast c1_i32_1099
  let c0_i32_691 : BitVec 32 := 0#32
  let c1_i32_693 : BitVec 32 := 1#32
  let arg13 : BitVec 32 := Scf.iv c0_i32_691 c1_i32_693 k0_t5
  let c16_i32_1097 : BitVec 32 := 16#32
  let v1382 : BitVec 32 := Scalar.muli arg13 c16_i32_1097
  let c10_i32_1098 : BitVec 32 := 10#32
  let v1383 : BitVec 32 := Scalar.addi v1382 c10_i32_1098
  let v1385 : Index := Scalar.indexCast v1383
  let c0_1100 : Index := 0#32
  ![1, v1385.toNat, 0]
def k0_off710 (v1373 : BitVec 32) : Fin 4 → Nat :=
  let c1_i32_1101 : BitVec 32 := 1#32
  let v1389 : Index := Scalar.indexCast c1_i32_1101
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1390 : Index := Scalar.indexCast v1375
  let c15_i32_1094 : BitVec 32 := 15#32
  let v1376 : BitVec 32 := Scalar.andi v1373 c15_i32_1094
  let v1391 : Index := Scalar.indexCast v1376
  let c16_1102 : Index := 16#32
  ![1, v1390.toNat, v1391.toNat, 16]
def k0_off711 (k0_t5 : Fin k0_t5_loop.trips) : Fin 3 → Nat :=
  let c1_i32_1105 : BitVec 32 := 1#32
  let v1396 : Index := Scalar.indexCast c1_i32_1105
  let c0_i32_691 : BitVec 32 := 0#32
  let c1_i32_693 : BitVec 32 := 1#32
  let arg13 : BitVec 32 := Scf.iv c0_i32_691 c1_i32_693 k0_t5
  let c16_i32_1103 : BitVec 32 := 16#32
  let v1394 : BitVec 32 := Scalar.muli arg13 c16_i32_1103
  let c10_i32_1104 : BitVec 32 := 10#32
  let v1395 : BitVec 32 := Scalar.addi v1394 c10_i32_1104
  let v1397 : Index := Scalar.indexCast v1395
  let c16_1106 : Index := 16#32
  ![1, v1397.toNat, 16]
def k0_off712 (v1373 : BitVec 32) : Fin 4 → Nat :=
  let c1_i32_1107 : BitVec 32 := 1#32
  let v1401 : Index := Scalar.indexCast c1_i32_1107
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1402 : Index := Scalar.indexCast v1375
  let c15_i32_1094 : BitVec 32 := 15#32
  let v1376 : BitVec 32 := Scalar.andi v1373 c15_i32_1094
  let v1403 : Index := Scalar.indexCast v1376
  let c32_1108 : Index := 32#32
  ![1, v1402.toNat, v1403.toNat, 32]
def k0_off713 (k0_t5 : Fin k0_t5_loop.trips) : Fin 3 → Nat :=
  let c1_i32_1111 : BitVec 32 := 1#32
  let v1408 : Index := Scalar.indexCast c1_i32_1111
  let c0_i32_691 : BitVec 32 := 0#32
  let c1_i32_693 : BitVec 32 := 1#32
  let arg13 : BitVec 32 := Scf.iv c0_i32_691 c1_i32_693 k0_t5
  let c16_i32_1109 : BitVec 32 := 16#32
  let v1406 : BitVec 32 := Scalar.muli arg13 c16_i32_1109
  let c10_i32_1110 : BitVec 32 := 10#32
  let v1407 : BitVec 32 := Scalar.addi v1406 c10_i32_1110
  let v1409 : Index := Scalar.indexCast v1407
  let c32_1112 : Index := 32#32
  ![1, v1409.toNat, 32]
def k0_off714 (v1373 : BitVec 32) : Fin 4 → Nat :=
  let c1_i32_1113 : BitVec 32 := 1#32
  let v1413 : Index := Scalar.indexCast c1_i32_1113
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1414 : Index := Scalar.indexCast v1375
  let c15_i32_1094 : BitVec 32 := 15#32
  let v1376 : BitVec 32 := Scalar.andi v1373 c15_i32_1094
  let v1415 : Index := Scalar.indexCast v1376
  let c48_1114 : Index := 48#32
  ![1, v1414.toNat, v1415.toNat, 48]
def k0_off715 (k0_t5 : Fin k0_t5_loop.trips) : Fin 3 → Nat :=
  let c1_i32_1117 : BitVec 32 := 1#32
  let v1420 : Index := Scalar.indexCast c1_i32_1117
  let c0_i32_691 : BitVec 32 := 0#32
  let c1_i32_693 : BitVec 32 := 1#32
  let arg13 : BitVec 32 := Scf.iv c0_i32_691 c1_i32_693 k0_t5
  let c16_i32_1115 : BitVec 32 := 16#32
  let v1418 : BitVec 32 := Scalar.muli arg13 c16_i32_1115
  let c10_i32_1116 : BitVec 32 := 10#32
  let v1419 : BitVec 32 := Scalar.addi v1418 c10_i32_1116
  let v1421 : Index := Scalar.indexCast v1419
  let c48_1118 : Index := 48#32
  ![1, v1421.toNat, 48]
def k0_off716 (v1373 : BitVec 32) : Fin 4 → Nat :=
  let c1_i32_1119 : BitVec 32 := 1#32
  let v1425 : Index := Scalar.indexCast c1_i32_1119
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1426 : Index := Scalar.indexCast v1375
  let c15_i32_1094 : BitVec 32 := 15#32
  let v1376 : BitVec 32 := Scalar.andi v1373 c15_i32_1094
  let v1427 : Index := Scalar.indexCast v1376
  let c64_1120 : Index := 64#32
  ![1, v1426.toNat, v1427.toNat, 64]
def k0_off717 (k0_t5 : Fin k0_t5_loop.trips) : Fin 3 → Nat :=
  let c1_i32_1123 : BitVec 32 := 1#32
  let v1432 : Index := Scalar.indexCast c1_i32_1123
  let c0_i32_691 : BitVec 32 := 0#32
  let c1_i32_693 : BitVec 32 := 1#32
  let arg13 : BitVec 32 := Scf.iv c0_i32_691 c1_i32_693 k0_t5
  let c16_i32_1121 : BitVec 32 := 16#32
  let v1430 : BitVec 32 := Scalar.muli arg13 c16_i32_1121
  let c10_i32_1122 : BitVec 32 := 10#32
  let v1431 : BitVec 32 := Scalar.addi v1430 c10_i32_1122
  let v1433 : Index := Scalar.indexCast v1431
  let c64_1124 : Index := 64#32
  ![1, v1433.toNat, 64]
def k0_off718 (v1373 : BitVec 32) : Fin 4 → Nat :=
  let c1_i32_1125 : BitVec 32 := 1#32
  let v1437 : Index := Scalar.indexCast c1_i32_1125
  let c9_i32_1092 : BitVec 32 := 9#32
  let v1374 : BitVec 32 := Scalar.shrsi v1373 c9_i32_1092
  let c15_i32_1093 : BitVec 32 := 15#32
  let v1375 : BitVec 32 := Scalar.andi v1374 c15_i32_1093
  let v1438 : Index := Scalar.indexCast v1375
  let c15_i32_1094 : BitVec 32 := 15#32
  let v1376 : BitVec 32 := Scalar.andi v1373 c15_i32_1094
  let v1439 : Index := Scalar.indexCast v1376
  let c80_1126 : Index := 80#32
  ![1, v1438.toNat, v1439.toNat, 80]

def k0_chk62 (v1373 : BitVec 32) : Prop :=
  (∀ a, (k0_off708 v1373) a + S1x1x1x16.size a ≤ S2x16x16x96.size a) ∧
  (∀ a, (k0_off710 v1373) a + S1x1x1x16.size a ≤ S2x16x16x96.size a) ∧
  (∀ a, (k0_off712 v1373) a + S1x1x1x16.size a ≤ S2x16x16x96.size a) ∧
  (∀ a, (k0_off714 v1373) a + S1x1x1x16.size a ≤ S2x16x16x96.size a) ∧
  (∀ a, (k0_off716 v1373) a + S1x1x1x16.size a ≤ S2x16x16x96.size a) ∧
  (∀ a, (k0_off718 v1373) a + S1x1x1x16.size a ≤ S2x16x16x96.size a)
theorem k0_off708_inb : ∀ (v1373 : BitVec 32) (k0_hw62 : k0_chk62 v1373), ∀ a, (k0_off708 v1373) a + S1x1x1x16.size a ≤ S2x16x16x96.size a := fun v1373 k0_hw62 => k0_hw62.1
theorem k0_off710_inb : ∀ (v1373 : BitVec 32) (k0_hw62 : k0_chk62 v1373), ∀ a, (k0_off710 v1373) a + S1x1x1x16.size a ≤ S2x16x16x96.size a := fun v1373 k0_hw62 => k0_hw62.2.1
theorem k0_off712_inb : ∀ (v1373 : BitVec 32) (k0_hw62 : k0_chk62 v1373), ∀ a, (k0_off712 v1373) a + S1x1x1x16.size a ≤ S2x16x16x96.size a := fun v1373 k0_hw62 => k0_hw62.2.2.1
theorem k0_off714_inb : ∀ (v1373 : BitVec 32) (k0_hw62 : k0_chk62 v1373), ∀ a, (k0_off714 v1373) a + S1x1x1x16.size a ≤ S2x16x16x96.size a := fun v1373 k0_hw62 => k0_hw62.2.2.2.1
theorem k0_off716_inb : ∀ (v1373 : BitVec 32) (k0_hw62 : k0_chk62 v1373), ∀ a, (k0_off716 v1373) a + S1x1x1x16.size a ≤ S2x16x16x96.size a := fun v1373 k0_hw62 => k0_hw62.2.2.2.2.1
theorem k0_off718_inb : ∀ (v1373 : BitVec 32) (k0_hw62 : k0_chk62 v1373), ∀ a, (k0_off718 v1373) a + S1x1x1x16.size a ≤ S2x16x16x96.size a := fun v1373 k0_hw62 => k0_hw62.2.2.2.2.2

def k0_off719 (k0_t5 : Fin k0_t5_loop.trips) : Fin 3 → Nat :=
  let c1_i32_1129 : BitVec 32 := 1#32
  let v1444 : Index := Scalar.indexCast c1_i32_1129
  let c0_i32_691 : BitVec 32 := 0#32
  let c1_i32_693 : BitVec 32 := 1#32
  let arg13 : BitVec 32 := Scf.iv c0_i32_691 c1_i32_693 k0_t5
  let c16_i32_1127 : BitVec 32 := 16#32
  let v1442 : BitVec 32 := Scalar.muli arg13 c16_i32_1127
  let c10_i32_1128 : BitVec 32 := 10#32
  let v1443 : BitVec 32 := Scalar.addi v1442 c10_i32_1128
  let v1445 : Index := Scalar.indexCast v1443
  let c80_1130 : Index := 80#32
  ![1, v1445.toNat, 80]
def k0_off720 (v1450 : BitVec 32) : Fin 4 → Nat :=
  let c1_i32_1134 : BitVec 32 := 1#32
  let v1454 : Index := Scalar.indexCast c1_i32_1134
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1455 : Index := Scalar.indexCast v1452
  let c15_i32_1133 : BitVec 32 := 15#32
  let v1453 : BitVec 32 := Scalar.andi v1450 c15_i32_1133
  let v1456 : Index := Scalar.indexCast v1453
  let c0_1135 : Index := 0#32
  ![1, v1455.toNat, v1456.toNat, 0]

def k0_off721 (k0_t5 : Fin k0_t5_loop.trips) : Fin 3 → Nat :=
  let c1_i32_1138 : BitVec 32 := 1#32
  let v1461 : Index := Scalar.indexCast c1_i32_1138
  let c0_i32_691 : BitVec 32 := 0#32
  let c1_i32_693 : BitVec 32 := 1#32
  let arg13 : BitVec 32 := Scf.iv c0_i32_691 c1_i32_693 k0_t5
  let c16_i32_1136 : BitVec 32 := 16#32
  let v1459 : BitVec 32 := Scalar.muli arg13 c16_i32_1136
  let c11_i32_1137 : BitVec 32 := 11#32
  let v1460 : BitVec 32 := Scalar.addi v1459 c11_i32_1137
  let v1462 : Index := Scalar.indexCast v1460
  let c0_1139 : Index := 0#32
  ![1, v1462.toNat, 0]
def k0_off722 (v1450 : BitVec 32) : Fin 4 → Nat :=
  let c1_i32_1140 : BitVec 32 := 1#32
  let v1466 : Index := Scalar.indexCast c1_i32_1140
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1467 : Index := Scalar.indexCast v1452
  let c15_i32_1133 : BitVec 32 := 15#32
  let v1453 : BitVec 32 := Scalar.andi v1450 c15_i32_1133
  let v1468 : Index := Scalar.indexCast v1453
  let c16_1141 : Index := 16#32
  ![1, v1467.toNat, v1468.toNat, 16]
def k0_off723 (k0_t5 : Fin k0_t5_loop.trips) : Fin 3 → Nat :=
  let c1_i32_1144 : BitVec 32 := 1#32
  let v1473 : Index := Scalar.indexCast c1_i32_1144
  let c0_i32_691 : BitVec 32 := 0#32
  let c1_i32_693 : BitVec 32 := 1#32
  let arg13 : BitVec 32 := Scf.iv c0_i32_691 c1_i32_693 k0_t5
  let c16_i32_1142 : BitVec 32 := 16#32
  let v1471 : BitVec 32 := Scalar.muli arg13 c16_i32_1142
  let c11_i32_1143 : BitVec 32 := 11#32
  let v1472 : BitVec 32 := Scalar.addi v1471 c11_i32_1143
  let v1474 : Index := Scalar.indexCast v1472
  let c16_1145 : Index := 16#32
  ![1, v1474.toNat, 16]
def k0_off724 (v1450 : BitVec 32) : Fin 4 → Nat :=
  let c1_i32_1146 : BitVec 32 := 1#32
  let v1478 : Index := Scalar.indexCast c1_i32_1146
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1479 : Index := Scalar.indexCast v1452
  let c15_i32_1133 : BitVec 32 := 15#32
  let v1453 : BitVec 32 := Scalar.andi v1450 c15_i32_1133
  let v1480 : Index := Scalar.indexCast v1453
  let c32_1147 : Index := 32#32
  ![1, v1479.toNat, v1480.toNat, 32]
def k0_off725 (k0_t5 : Fin k0_t5_loop.trips) : Fin 3 → Nat :=
  let c1_i32_1150 : BitVec 32 := 1#32
  let v1485 : Index := Scalar.indexCast c1_i32_1150
  let c0_i32_691 : BitVec 32 := 0#32
  let c1_i32_693 : BitVec 32 := 1#32
  let arg13 : BitVec 32 := Scf.iv c0_i32_691 c1_i32_693 k0_t5
  let c16_i32_1148 : BitVec 32 := 16#32
  let v1483 : BitVec 32 := Scalar.muli arg13 c16_i32_1148
  let c11_i32_1149 : BitVec 32 := 11#32
  let v1484 : BitVec 32 := Scalar.addi v1483 c11_i32_1149
  let v1486 : Index := Scalar.indexCast v1484
  let c32_1151 : Index := 32#32
  ![1, v1486.toNat, 32]
def k0_off726 (v1450 : BitVec 32) : Fin 4 → Nat :=
  let c1_i32_1152 : BitVec 32 := 1#32
  let v1490 : Index := Scalar.indexCast c1_i32_1152
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1491 : Index := Scalar.indexCast v1452
  let c15_i32_1133 : BitVec 32 := 15#32
  let v1453 : BitVec 32 := Scalar.andi v1450 c15_i32_1133
  let v1492 : Index := Scalar.indexCast v1453
  let c48_1153 : Index := 48#32
  ![1, v1491.toNat, v1492.toNat, 48]
def k0_off727 (k0_t5 : Fin k0_t5_loop.trips) : Fin 3 → Nat :=
  let c1_i32_1156 : BitVec 32 := 1#32
  let v1497 : Index := Scalar.indexCast c1_i32_1156
  let c0_i32_691 : BitVec 32 := 0#32
  let c1_i32_693 : BitVec 32 := 1#32
  let arg13 : BitVec 32 := Scf.iv c0_i32_691 c1_i32_693 k0_t5
  let c16_i32_1154 : BitVec 32 := 16#32
  let v1495 : BitVec 32 := Scalar.muli arg13 c16_i32_1154
  let c11_i32_1155 : BitVec 32 := 11#32
  let v1496 : BitVec 32 := Scalar.addi v1495 c11_i32_1155
  let v1498 : Index := Scalar.indexCast v1496
  let c48_1157 : Index := 48#32
  ![1, v1498.toNat, 48]
def k0_off728 (v1450 : BitVec 32) : Fin 4 → Nat :=
  let c1_i32_1158 : BitVec 32 := 1#32
  let v1502 : Index := Scalar.indexCast c1_i32_1158
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1503 : Index := Scalar.indexCast v1452
  let c15_i32_1133 : BitVec 32 := 15#32
  let v1453 : BitVec 32 := Scalar.andi v1450 c15_i32_1133
  let v1504 : Index := Scalar.indexCast v1453
  let c64_1159 : Index := 64#32
  ![1, v1503.toNat, v1504.toNat, 64]
def k0_off729 (k0_t5 : Fin k0_t5_loop.trips) : Fin 3 → Nat :=
  let c1_i32_1162 : BitVec 32 := 1#32
  let v1509 : Index := Scalar.indexCast c1_i32_1162
  let c0_i32_691 : BitVec 32 := 0#32
  let c1_i32_693 : BitVec 32 := 1#32
  let arg13 : BitVec 32 := Scf.iv c0_i32_691 c1_i32_693 k0_t5
  let c16_i32_1160 : BitVec 32 := 16#32
  let v1507 : BitVec 32 := Scalar.muli arg13 c16_i32_1160
  let c11_i32_1161 : BitVec 32 := 11#32
  let v1508 : BitVec 32 := Scalar.addi v1507 c11_i32_1161
  let v1510 : Index := Scalar.indexCast v1508
  let c64_1163 : Index := 64#32
  ![1, v1510.toNat, 64]
def k0_off730 (v1450 : BitVec 32) : Fin 4 → Nat :=
  let c1_i32_1164 : BitVec 32 := 1#32
  let v1514 : Index := Scalar.indexCast c1_i32_1164
  let c9_i32_1131 : BitVec 32 := 9#32
  let v1451 : BitVec 32 := Scalar.shrsi v1450 c9_i32_1131
  let c15_i32_1132 : BitVec 32 := 15#32
  let v1452 : BitVec 32 := Scalar.andi v1451 c15_i32_1132
  let v1515 : Index := Scalar.indexCast v1452
  let c15_i32_1133 : BitVec 32 := 15#32
  let v1453 : BitVec 32 := Scalar.andi v1450 c15_i32_1133
  let v1516 : Index := Scalar.indexCast v1453
  let c80_1165 : Index := 80#32
  ![1, v1515.toNat, v1516.toNat, 80]

def k0_chk63 (v1450 : BitVec 32) : Prop :=
  (∀ a, (k0_off720 v1450) a + S1x1x1x16.size a ≤ S2x16x16x96.size a) ∧
  (∀ a, (k0_off722 v1450) a + S1x1x1x16.size a ≤ S2x16x16x96.size a) ∧
  (∀ a, (k0_off724 v1450) a + S1x1x1x16.size a ≤ S2x16x16x96.size a) ∧
  (∀ a, (k0_off726 v1450) a + S1x1x1x16.size a ≤ S2x16x16x96.size a) ∧
  (∀ a, (k0_off728 v1450) a + S1x1x1x16.size a ≤ S2x16x16x96.size a) ∧
  (∀ a, (k0_off730 v1450) a + S1x1x1x16.size a ≤ S2x16x16x96.size a)
theorem k0_off720_inb : ∀ (v1450 : BitVec 32) (k0_hw63 : k0_chk63 v1450), ∀ a, (k0_off720 v1450) a + S1x1x1x16.size a ≤ S2x16x16x96.size a := fun v1450 k0_hw63 => k0_hw63.1
theorem k0_off722_inb : ∀ (v1450 : BitVec 32) (k0_hw63 : k0_chk63 v1450), ∀ a, (k0_off722 v1450) a + S1x1x1x16.size a ≤ S2x16x16x96.size a := fun v1450 k0_hw63 => k0_hw63.2.1
theorem k0_off724_inb : ∀ (v1450 : BitVec 32) (k0_hw63 : k0_chk63 v1450), ∀ a, (k0_off724 v1450) a + S1x1x1x16.size a ≤ S2x16x16x96.size a := fun v1450 k0_hw63 => k0_hw63.2.2.1
theorem k0_off726_inb : ∀ (v1450 : BitVec 32) (k0_hw63 : k0_chk63 v1450), ∀ a, (k0_off726 v1450) a + S1x1x1x16.size a ≤ S2x16x16x96.size a := fun v1450 k0_hw63 => k0_hw63.2.2.2.1
theorem k0_off728_inb : ∀ (v1450 : BitVec 32) (k0_hw63 : k0_chk63 v1450), ∀ a, (k0_off728 v1450) a + S1x1x1x16.size a ≤ S2x16x16x96.size a := fun v1450 k0_hw63 => k0_hw63.2.2.2.2.1
theorem k0_off730_inb : ∀ (v1450 : BitVec 32) (k0_hw63 : k0_chk63 v1450), ∀ a, (k0_off730 v1450) a + S1x1x1x16.size a ≤ S2x16x16x96.size a := fun v1450 k0_hw63 => k0_hw63.2.2.2.2.2

def k0_off731 (k0_t5 : Fin k0_t5_loop.trips) : Fin 3 → Nat :=
  let c1_i32_1168 : BitVec 32 := 1#32
  let v1521 : Index := Scalar.indexCast c1_i32_1168
  let c0_i32_691 : BitVec 32 := 0#32
  let c1_i32_693 : BitVec 32 := 1#32
  let arg13 : BitVec 32 := Scf.iv c0_i32_691 c1_i32_693 k0_t5
  let c16_i32_1166 : BitVec 32 := 16#32
  let v1519 : BitVec 32 := Scalar.muli arg13 c16_i32_1166
  let c11_i32_1167 : BitVec 32 := 11#32
  let v1520 : BitVec 32 := Scalar.addi v1519 c11_i32_1167
  let v1522 : Index := Scalar.indexCast v1520
  let c80_1169 : Index := 80#32
  ![1, v1522.toNat, 80]
def k0_off732 (v1527 : BitVec 32) : Fin 4 → Nat :=
  let c1_i32_1173 : BitVec 32 := 1#32
  let v1531 : Index := Scalar.indexCast c1_i32_1173
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1532 : Index := Scalar.indexCast v1529
  let c15_i32_1172 : BitVec 32 := 15#32
  let v1530 : BitVec 32 := Scalar.andi v1527 c15_i32_1172
  let v1533 : Index := Scalar.indexCast v1530
  let c0_1174 : Index := 0#32
  ![1, v1532.toNat, v1533.toNat, 0]

def k0_off733 (k0_t5 : Fin k0_t5_loop.trips) : Fin 3 → Nat :=
  let c1_i32_1177 : BitVec 32 := 1#32
  let v1538 : Index := Scalar.indexCast c1_i32_1177
  let c0_i32_691 : BitVec 32 := 0#32
  let c1_i32_693 : BitVec 32 := 1#32
  let arg13 : BitVec 32 := Scf.iv c0_i32_691 c1_i32_693 k0_t5
  let c16_i32_1175 : BitVec 32 := 16#32
  let v1536 : BitVec 32 := Scalar.muli arg13 c16_i32_1175
  let c12_i32_1176 : BitVec 32 := 12#32
  let v1537 : BitVec 32 := Scalar.addi v1536 c12_i32_1176
  let v1539 : Index := Scalar.indexCast v1537
  let c0_1178 : Index := 0#32
  ![1, v1539.toNat, 0]
def k0_off734 (v1527 : BitVec 32) : Fin 4 → Nat :=
  let c1_i32_1179 : BitVec 32 := 1#32
  let v1543 : Index := Scalar.indexCast c1_i32_1179
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1544 : Index := Scalar.indexCast v1529
  let c15_i32_1172 : BitVec 32 := 15#32
  let v1530 : BitVec 32 := Scalar.andi v1527 c15_i32_1172
  let v1545 : Index := Scalar.indexCast v1530
  let c16_1180 : Index := 16#32
  ![1, v1544.toNat, v1545.toNat, 16]
def k0_off735 (k0_t5 : Fin k0_t5_loop.trips) : Fin 3 → Nat :=
  let c1_i32_1183 : BitVec 32 := 1#32
  let v1550 : Index := Scalar.indexCast c1_i32_1183
  let c0_i32_691 : BitVec 32 := 0#32
  let c1_i32_693 : BitVec 32 := 1#32
  let arg13 : BitVec 32 := Scf.iv c0_i32_691 c1_i32_693 k0_t5
  let c16_i32_1181 : BitVec 32 := 16#32
  let v1548 : BitVec 32 := Scalar.muli arg13 c16_i32_1181
  let c12_i32_1182 : BitVec 32 := 12#32
  let v1549 : BitVec 32 := Scalar.addi v1548 c12_i32_1182
  let v1551 : Index := Scalar.indexCast v1549
  let c16_1184 : Index := 16#32
  ![1, v1551.toNat, 16]
def k0_off736 (v1527 : BitVec 32) : Fin 4 → Nat :=
  let c1_i32_1185 : BitVec 32 := 1#32
  let v1555 : Index := Scalar.indexCast c1_i32_1185
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1556 : Index := Scalar.indexCast v1529
  let c15_i32_1172 : BitVec 32 := 15#32
  let v1530 : BitVec 32 := Scalar.andi v1527 c15_i32_1172
  let v1557 : Index := Scalar.indexCast v1530
  let c32_1186 : Index := 32#32
  ![1, v1556.toNat, v1557.toNat, 32]
def k0_off737 (k0_t5 : Fin k0_t5_loop.trips) : Fin 3 → Nat :=
  let c1_i32_1189 : BitVec 32 := 1#32
  let v1562 : Index := Scalar.indexCast c1_i32_1189
  let c0_i32_691 : BitVec 32 := 0#32
  let c1_i32_693 : BitVec 32 := 1#32
  let arg13 : BitVec 32 := Scf.iv c0_i32_691 c1_i32_693 k0_t5
  let c16_i32_1187 : BitVec 32 := 16#32
  let v1560 : BitVec 32 := Scalar.muli arg13 c16_i32_1187
  let c12_i32_1188 : BitVec 32 := 12#32
  let v1561 : BitVec 32 := Scalar.addi v1560 c12_i32_1188
  let v1563 : Index := Scalar.indexCast v1561
  let c32_1190 : Index := 32#32
  ![1, v1563.toNat, 32]
def k0_off738 (v1527 : BitVec 32) : Fin 4 → Nat :=
  let c1_i32_1191 : BitVec 32 := 1#32
  let v1567 : Index := Scalar.indexCast c1_i32_1191
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1568 : Index := Scalar.indexCast v1529
  let c15_i32_1172 : BitVec 32 := 15#32
  let v1530 : BitVec 32 := Scalar.andi v1527 c15_i32_1172
  let v1569 : Index := Scalar.indexCast v1530
  let c48_1192 : Index := 48#32
  ![1, v1568.toNat, v1569.toNat, 48]
def k0_off739 (k0_t5 : Fin k0_t5_loop.trips) : Fin 3 → Nat :=
  let c1_i32_1195 : BitVec 32 := 1#32
  let v1574 : Index := Scalar.indexCast c1_i32_1195
  let c0_i32_691 : BitVec 32 := 0#32
  let c1_i32_693 : BitVec 32 := 1#32
  let arg13 : BitVec 32 := Scf.iv c0_i32_691 c1_i32_693 k0_t5
  let c16_i32_1193 : BitVec 32 := 16#32
  let v1572 : BitVec 32 := Scalar.muli arg13 c16_i32_1193
  let c12_i32_1194 : BitVec 32 := 12#32
  let v1573 : BitVec 32 := Scalar.addi v1572 c12_i32_1194
  let v1575 : Index := Scalar.indexCast v1573
  let c48_1196 : Index := 48#32
  ![1, v1575.toNat, 48]
def k0_off740 (v1527 : BitVec 32) : Fin 4 → Nat :=
  let c1_i32_1197 : BitVec 32 := 1#32
  let v1579 : Index := Scalar.indexCast c1_i32_1197
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1580 : Index := Scalar.indexCast v1529
  let c15_i32_1172 : BitVec 32 := 15#32
  let v1530 : BitVec 32 := Scalar.andi v1527 c15_i32_1172
  let v1581 : Index := Scalar.indexCast v1530
  let c64_1198 : Index := 64#32
  ![1, v1580.toNat, v1581.toNat, 64]
def k0_off741 (k0_t5 : Fin k0_t5_loop.trips) : Fin 3 → Nat :=
  let c1_i32_1201 : BitVec 32 := 1#32
  let v1586 : Index := Scalar.indexCast c1_i32_1201
  let c0_i32_691 : BitVec 32 := 0#32
  let c1_i32_693 : BitVec 32 := 1#32
  let arg13 : BitVec 32 := Scf.iv c0_i32_691 c1_i32_693 k0_t5
  let c16_i32_1199 : BitVec 32 := 16#32
  let v1584 : BitVec 32 := Scalar.muli arg13 c16_i32_1199
  let c12_i32_1200 : BitVec 32 := 12#32
  let v1585 : BitVec 32 := Scalar.addi v1584 c12_i32_1200
  let v1587 : Index := Scalar.indexCast v1585
  let c64_1202 : Index := 64#32
  ![1, v1587.toNat, 64]
def k0_off742 (v1527 : BitVec 32) : Fin 4 → Nat :=
  let c1_i32_1203 : BitVec 32 := 1#32
  let v1591 : Index := Scalar.indexCast c1_i32_1203
  let c9_i32_1170 : BitVec 32 := 9#32
  let v1528 : BitVec 32 := Scalar.shrsi v1527 c9_i32_1170
  let c15_i32_1171 : BitVec 32 := 15#32
  let v1529 : BitVec 32 := Scalar.andi v1528 c15_i32_1171
  let v1592 : Index := Scalar.indexCast v1529
  let c15_i32_1172 : BitVec 32 := 15#32
  let v1530 : BitVec 32 := Scalar.andi v1527 c15_i32_1172
  let v1593 : Index := Scalar.indexCast v1530
  let c80_1204 : Index := 80#32
  ![1, v1592.toNat, v1593.toNat, 80]

def k0_chk64 (v1527 : BitVec 32) : Prop :=
  (∀ a, (k0_off732 v1527) a + S1x1x1x16.size a ≤ S2x16x16x96.size a) ∧
  (∀ a, (k0_off734 v1527) a + S1x1x1x16.size a ≤ S2x16x16x96.size a) ∧
  (∀ a, (k0_off736 v1527) a + S1x1x1x16.size a ≤ S2x16x16x96.size a) ∧
  (∀ a, (k0_off738 v1527) a + S1x1x1x16.size a ≤ S2x16x16x96.size a) ∧
  (∀ a, (k0_off740 v1527) a + S1x1x1x16.size a ≤ S2x16x16x96.size a) ∧
  (∀ a, (k0_off742 v1527) a + S1x1x1x16.size a ≤ S2x16x16x96.size a)
theorem k0_off732_inb : ∀ (v1527 : BitVec 32) (k0_hw64 : k0_chk64 v1527), ∀ a, (k0_off732 v1527) a + S1x1x1x16.size a ≤ S2x16x16x96.size a := fun v1527 k0_hw64 => k0_hw64.1
theorem k0_off734_inb : ∀ (v1527 : BitVec 32) (k0_hw64 : k0_chk64 v1527), ∀ a, (k0_off734 v1527) a + S1x1x1x16.size a ≤ S2x16x16x96.size a := fun v1527 k0_hw64 => k0_hw64.2.1
theorem k0_off736_inb : ∀ (v1527 : BitVec 32) (k0_hw64 : k0_chk64 v1527), ∀ a, (k0_off736 v1527) a + S1x1x1x16.size a ≤ S2x16x16x96.size a := fun v1527 k0_hw64 => k0_hw64.2.2.1
theorem k0_off738_inb : ∀ (v1527 : BitVec 32) (k0_hw64 : k0_chk64 v1527), ∀ a, (k0_off738 v1527) a + S1x1x1x16.size a ≤ S2x16x16x96.size a := fun v1527 k0_hw64 => k0_hw64.2.2.2.1
theorem k0_off740_inb : ∀ (v1527 : BitVec 32) (k0_hw64 : k0_chk64 v1527), ∀ a, (k0_off740 v1527) a + S1x1x1x16.size a ≤ S2x16x16x96.size a := fun v1527 k0_hw64 => k0_hw64.2.2.2.2.1
theorem k0_off742_inb : ∀ (v1527 : BitVec 32) (k0_hw64 : k0_chk64 v1527), ∀ a, (k0_off742 v1527) a + S1x1x1x16.size a ≤ S2x16x16x96.size a := fun v1527 k0_hw64 => k0_hw64.2.2.2.2.2

def k0_off743 (k0_t5 : Fin k0_t5_loop.trips) : Fin 3 → Nat :=
  let c1_i32_1207 : BitVec 32 := 1#32
  let v1598 : Index := Scalar.indexCast c1_i32_1207
  let c0_i32_691 : BitVec 32 := 0#32
  let c1_i32_693 : BitVec 32 := 1#32
  let arg13 : BitVec 32 := Scf.iv c0_i32_691 c1_i32_693 k0_t5
  let c16_i32_1205 : BitVec 32 := 16#32
  let v1596 : BitVec 32 := Scalar.muli arg13 c16_i32_1205
  let c12_i32_1206 : BitVec 32 := 12#32
  let v1597 : BitVec 32 := Scalar.addi v1596 c12_i32_1206
  let v1599 : Index := Scalar.indexCast v1597
  let c80_1208 : Index := 80#32
  ![1, v1599.toNat, 80]
def k0_off744 (v1604 : BitVec 32) : Fin 4 → Nat :=
  let c1_i32_1212 : BitVec 32 := 1#32
  let v1608 : Index := Scalar.indexCast c1_i32_1212
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1609 : Index := Scalar.indexCast v1606
  let c15_i32_1211 : BitVec 32 := 15#32
  let v1607 : BitVec 32 := Scalar.andi v1604 c15_i32_1211
  let v1610 : Index := Scalar.indexCast v1607
  let c0_1213 : Index := 0#32
  ![1, v1609.toNat, v1610.toNat, 0]

def k0_off745 (k0_t5 : Fin k0_t5_loop.trips) : Fin 3 → Nat :=
  let c1_i32_1216 : BitVec 32 := 1#32
  let v1615 : Index := Scalar.indexCast c1_i32_1216
  let c0_i32_691 : BitVec 32 := 0#32
  let c1_i32_693 : BitVec 32 := 1#32
  let arg13 : BitVec 32 := Scf.iv c0_i32_691 c1_i32_693 k0_t5
  let c16_i32_1214 : BitVec 32 := 16#32
  let v1613 : BitVec 32 := Scalar.muli arg13 c16_i32_1214
  let c13_i32_1215 : BitVec 32 := 13#32
  let v1614 : BitVec 32 := Scalar.addi v1613 c13_i32_1215
  let v1616 : Index := Scalar.indexCast v1614
  let c0_1217 : Index := 0#32
  ![1, v1616.toNat, 0]
def k0_off746 (v1604 : BitVec 32) : Fin 4 → Nat :=
  let c1_i32_1218 : BitVec 32 := 1#32
  let v1620 : Index := Scalar.indexCast c1_i32_1218
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1621 : Index := Scalar.indexCast v1606
  let c15_i32_1211 : BitVec 32 := 15#32
  let v1607 : BitVec 32 := Scalar.andi v1604 c15_i32_1211
  let v1622 : Index := Scalar.indexCast v1607
  let c16_1219 : Index := 16#32
  ![1, v1621.toNat, v1622.toNat, 16]
def k0_off747 (k0_t5 : Fin k0_t5_loop.trips) : Fin 3 → Nat :=
  let c1_i32_1222 : BitVec 32 := 1#32
  let v1627 : Index := Scalar.indexCast c1_i32_1222
  let c0_i32_691 : BitVec 32 := 0#32
  let c1_i32_693 : BitVec 32 := 1#32
  let arg13 : BitVec 32 := Scf.iv c0_i32_691 c1_i32_693 k0_t5
  let c16_i32_1220 : BitVec 32 := 16#32
  let v1625 : BitVec 32 := Scalar.muli arg13 c16_i32_1220
  let c13_i32_1221 : BitVec 32 := 13#32
  let v1626 : BitVec 32 := Scalar.addi v1625 c13_i32_1221
  let v1628 : Index := Scalar.indexCast v1626
  let c16_1223 : Index := 16#32
  ![1, v1628.toNat, 16]
def k0_off748 (v1604 : BitVec 32) : Fin 4 → Nat :=
  let c1_i32_1224 : BitVec 32 := 1#32
  let v1632 : Index := Scalar.indexCast c1_i32_1224
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1633 : Index := Scalar.indexCast v1606
  let c15_i32_1211 : BitVec 32 := 15#32
  let v1607 : BitVec 32 := Scalar.andi v1604 c15_i32_1211
  let v1634 : Index := Scalar.indexCast v1607
  let c32_1225 : Index := 32#32
  ![1, v1633.toNat, v1634.toNat, 32]
def k0_off749 (k0_t5 : Fin k0_t5_loop.trips) : Fin 3 → Nat :=
  let c1_i32_1228 : BitVec 32 := 1#32
  let v1639 : Index := Scalar.indexCast c1_i32_1228
  let c0_i32_691 : BitVec 32 := 0#32
  let c1_i32_693 : BitVec 32 := 1#32
  let arg13 : BitVec 32 := Scf.iv c0_i32_691 c1_i32_693 k0_t5
  let c16_i32_1226 : BitVec 32 := 16#32
  let v1637 : BitVec 32 := Scalar.muli arg13 c16_i32_1226
  let c13_i32_1227 : BitVec 32 := 13#32
  let v1638 : BitVec 32 := Scalar.addi v1637 c13_i32_1227
  let v1640 : Index := Scalar.indexCast v1638
  let c32_1229 : Index := 32#32
  ![1, v1640.toNat, 32]
def k0_off750 (v1604 : BitVec 32) : Fin 4 → Nat :=
  let c1_i32_1230 : BitVec 32 := 1#32
  let v1644 : Index := Scalar.indexCast c1_i32_1230
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1645 : Index := Scalar.indexCast v1606
  let c15_i32_1211 : BitVec 32 := 15#32
  let v1607 : BitVec 32 := Scalar.andi v1604 c15_i32_1211
  let v1646 : Index := Scalar.indexCast v1607
  let c48_1231 : Index := 48#32
  ![1, v1645.toNat, v1646.toNat, 48]
def k0_off751 (k0_t5 : Fin k0_t5_loop.trips) : Fin 3 → Nat :=
  let c1_i32_1234 : BitVec 32 := 1#32
  let v1651 : Index := Scalar.indexCast c1_i32_1234
  let c0_i32_691 : BitVec 32 := 0#32
  let c1_i32_693 : BitVec 32 := 1#32
  let arg13 : BitVec 32 := Scf.iv c0_i32_691 c1_i32_693 k0_t5
  let c16_i32_1232 : BitVec 32 := 16#32
  let v1649 : BitVec 32 := Scalar.muli arg13 c16_i32_1232
  let c13_i32_1233 : BitVec 32 := 13#32
  let v1650 : BitVec 32 := Scalar.addi v1649 c13_i32_1233
  let v1652 : Index := Scalar.indexCast v1650
  let c48_1235 : Index := 48#32
  ![1, v1652.toNat, 48]
def k0_off752 (v1604 : BitVec 32) : Fin 4 → Nat :=
  let c1_i32_1236 : BitVec 32 := 1#32
  let v1656 : Index := Scalar.indexCast c1_i32_1236
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1657 : Index := Scalar.indexCast v1606
  let c15_i32_1211 : BitVec 32 := 15#32
  let v1607 : BitVec 32 := Scalar.andi v1604 c15_i32_1211
  let v1658 : Index := Scalar.indexCast v1607
  let c64_1237 : Index := 64#32
  ![1, v1657.toNat, v1658.toNat, 64]
def k0_off753 (k0_t5 : Fin k0_t5_loop.trips) : Fin 3 → Nat :=
  let c1_i32_1240 : BitVec 32 := 1#32
  let v1663 : Index := Scalar.indexCast c1_i32_1240
  let c0_i32_691 : BitVec 32 := 0#32
  let c1_i32_693 : BitVec 32 := 1#32
  let arg13 : BitVec 32 := Scf.iv c0_i32_691 c1_i32_693 k0_t5
  let c16_i32_1238 : BitVec 32 := 16#32
  let v1661 : BitVec 32 := Scalar.muli arg13 c16_i32_1238
  let c13_i32_1239 : BitVec 32 := 13#32
  let v1662 : BitVec 32 := Scalar.addi v1661 c13_i32_1239
  let v1664 : Index := Scalar.indexCast v1662
  let c64_1241 : Index := 64#32
  ![1, v1664.toNat, 64]
def k0_off754 (v1604 : BitVec 32) : Fin 4 → Nat :=
  let c1_i32_1242 : BitVec 32 := 1#32
  let v1668 : Index := Scalar.indexCast c1_i32_1242
  let c9_i32_1209 : BitVec 32 := 9#32
  let v1605 : BitVec 32 := Scalar.shrsi v1604 c9_i32_1209
  let c15_i32_1210 : BitVec 32 := 15#32
  let v1606 : BitVec 32 := Scalar.andi v1605 c15_i32_1210
  let v1669 : Index := Scalar.indexCast v1606
  let c15_i32_1211 : BitVec 32 := 15#32
  let v1607 : BitVec 32 := Scalar.andi v1604 c15_i32_1211
  let v1670 : Index := Scalar.indexCast v1607
  let c80_1243 : Index := 80#32
  ![1, v1669.toNat, v1670.toNat, 80]

def k0_chk65 (v1604 : BitVec 32) : Prop :=
  (∀ a, (k0_off744 v1604) a + S1x1x1x16.size a ≤ S2x16x16x96.size a) ∧
  (∀ a, (k0_off746 v1604) a + S1x1x1x16.size a ≤ S2x16x16x96.size a) ∧
  (∀ a, (k0_off748 v1604) a + S1x1x1x16.size a ≤ S2x16x16x96.size a) ∧
  (∀ a, (k0_off750 v1604) a + S1x1x1x16.size a ≤ S2x16x16x96.size a) ∧
  (∀ a, (k0_off752 v1604) a + S1x1x1x16.size a ≤ S2x16x16x96.size a) ∧
  (∀ a, (k0_off754 v1604) a + S1x1x1x16.size a ≤ S2x16x16x96.size a)
theorem k0_off744_inb : ∀ (v1604 : BitVec 32) (k0_hw65 : k0_chk65 v1604), ∀ a, (k0_off744 v1604) a + S1x1x1x16.size a ≤ S2x16x16x96.size a := fun v1604 k0_hw65 => k0_hw65.1
theorem k0_off746_inb : ∀ (v1604 : BitVec 32) (k0_hw65 : k0_chk65 v1604), ∀ a, (k0_off746 v1604) a + S1x1x1x16.size a ≤ S2x16x16x96.size a := fun v1604 k0_hw65 => k0_hw65.2.1
theorem k0_off748_inb : ∀ (v1604 : BitVec 32) (k0_hw65 : k0_chk65 v1604), ∀ a, (k0_off748 v1604) a + S1x1x1x16.size a ≤ S2x16x16x96.size a := fun v1604 k0_hw65 => k0_hw65.2.2.1
theorem k0_off750_inb : ∀ (v1604 : BitVec 32) (k0_hw65 : k0_chk65 v1604), ∀ a, (k0_off750 v1604) a + S1x1x1x16.size a ≤ S2x16x16x96.size a := fun v1604 k0_hw65 => k0_hw65.2.2.2.1
theorem k0_off752_inb : ∀ (v1604 : BitVec 32) (k0_hw65 : k0_chk65 v1604), ∀ a, (k0_off752 v1604) a + S1x1x1x16.size a ≤ S2x16x16x96.size a := fun v1604 k0_hw65 => k0_hw65.2.2.2.2.1
theorem k0_off754_inb : ∀ (v1604 : BitVec 32) (k0_hw65 : k0_chk65 v1604), ∀ a, (k0_off754 v1604) a + S1x1x1x16.size a ≤ S2x16x16x96.size a := fun v1604 k0_hw65 => k0_hw65.2.2.2.2.2

def k0_off755 (k0_t5 : Fin k0_t5_loop.trips) : Fin 3 → Nat :=
  let c1_i32_1246 : BitVec 32 := 1#32
  let v1675 : Index := Scalar.indexCast c1_i32_1246
  let c0_i32_691 : BitVec 32 := 0#32
  let c1_i32_693 : BitVec 32 := 1#32
  let arg13 : BitVec 32 := Scf.iv c0_i32_691 c1_i32_693 k0_t5
  let c16_i32_1244 : BitVec 32 := 16#32
  let v1673 : BitVec 32 := Scalar.muli arg13 c16_i32_1244
  let c13_i32_1245 : BitVec 32 := 13#32
  let v1674 : BitVec 32 := Scalar.addi v1673 c13_i32_1245
  let v1676 : Index := Scalar.indexCast v1674
  let c80_1247 : Index := 80#32
  ![1, v1676.toNat, 80]
def k0_off756 (v1681 : BitVec 32) : Fin 4 → Nat :=
  let c1_i32_1251 : BitVec 32 := 1#32
  let v1685 : Index := Scalar.indexCast c1_i32_1251
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1686 : Index := Scalar.indexCast v1683
  let c15_i32_1250 : BitVec 32 := 15#32
  let v1684 : BitVec 32 := Scalar.andi v1681 c15_i32_1250
  let v1687 : Index := Scalar.indexCast v1684
  let c0_1252 : Index := 0#32
  ![1, v1686.toNat, v1687.toNat, 0]

def k0_off757 (k0_t5 : Fin k0_t5_loop.trips) : Fin 3 → Nat :=
  let c1_i32_1255 : BitVec 32 := 1#32
  let v1692 : Index := Scalar.indexCast c1_i32_1255
  let c0_i32_691 : BitVec 32 := 0#32
  let c1_i32_693 : BitVec 32 := 1#32
  let arg13 : BitVec 32 := Scf.iv c0_i32_691 c1_i32_693 k0_t5
  let c16_i32_1253 : BitVec 32 := 16#32
  let v1690 : BitVec 32 := Scalar.muli arg13 c16_i32_1253
  let c14_i32_1254 : BitVec 32 := 14#32
  let v1691 : BitVec 32 := Scalar.addi v1690 c14_i32_1254
  let v1693 : Index := Scalar.indexCast v1691
  let c0_1256 : Index := 0#32
  ![1, v1693.toNat, 0]
def k0_off758 (v1681 : BitVec 32) : Fin 4 → Nat :=
  let c1_i32_1257 : BitVec 32 := 1#32
  let v1697 : Index := Scalar.indexCast c1_i32_1257
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1698 : Index := Scalar.indexCast v1683
  let c15_i32_1250 : BitVec 32 := 15#32
  let v1684 : BitVec 32 := Scalar.andi v1681 c15_i32_1250
  let v1699 : Index := Scalar.indexCast v1684
  let c16_1258 : Index := 16#32
  ![1, v1698.toNat, v1699.toNat, 16]
def k0_off759 (k0_t5 : Fin k0_t5_loop.trips) : Fin 3 → Nat :=
  let c1_i32_1261 : BitVec 32 := 1#32
  let v1704 : Index := Scalar.indexCast c1_i32_1261
  let c0_i32_691 : BitVec 32 := 0#32
  let c1_i32_693 : BitVec 32 := 1#32
  let arg13 : BitVec 32 := Scf.iv c0_i32_691 c1_i32_693 k0_t5
  let c16_i32_1259 : BitVec 32 := 16#32
  let v1702 : BitVec 32 := Scalar.muli arg13 c16_i32_1259
  let c14_i32_1260 : BitVec 32 := 14#32
  let v1703 : BitVec 32 := Scalar.addi v1702 c14_i32_1260
  let v1705 : Index := Scalar.indexCast v1703
  let c16_1262 : Index := 16#32
  ![1, v1705.toNat, 16]
def k0_off760 (v1681 : BitVec 32) : Fin 4 → Nat :=
  let c1_i32_1263 : BitVec 32 := 1#32
  let v1709 : Index := Scalar.indexCast c1_i32_1263
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1710 : Index := Scalar.indexCast v1683
  let c15_i32_1250 : BitVec 32 := 15#32
  let v1684 : BitVec 32 := Scalar.andi v1681 c15_i32_1250
  let v1711 : Index := Scalar.indexCast v1684
  let c32_1264 : Index := 32#32
  ![1, v1710.toNat, v1711.toNat, 32]
def k0_off761 (k0_t5 : Fin k0_t5_loop.trips) : Fin 3 → Nat :=
  let c1_i32_1267 : BitVec 32 := 1#32
  let v1716 : Index := Scalar.indexCast c1_i32_1267
  let c0_i32_691 : BitVec 32 := 0#32
  let c1_i32_693 : BitVec 32 := 1#32
  let arg13 : BitVec 32 := Scf.iv c0_i32_691 c1_i32_693 k0_t5
  let c16_i32_1265 : BitVec 32 := 16#32
  let v1714 : BitVec 32 := Scalar.muli arg13 c16_i32_1265
  let c14_i32_1266 : BitVec 32 := 14#32
  let v1715 : BitVec 32 := Scalar.addi v1714 c14_i32_1266
  let v1717 : Index := Scalar.indexCast v1715
  let c32_1268 : Index := 32#32
  ![1, v1717.toNat, 32]
def k0_off762 (v1681 : BitVec 32) : Fin 4 → Nat :=
  let c1_i32_1269 : BitVec 32 := 1#32
  let v1721 : Index := Scalar.indexCast c1_i32_1269
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1722 : Index := Scalar.indexCast v1683
  let c15_i32_1250 : BitVec 32 := 15#32
  let v1684 : BitVec 32 := Scalar.andi v1681 c15_i32_1250
  let v1723 : Index := Scalar.indexCast v1684
  let c48_1270 : Index := 48#32
  ![1, v1722.toNat, v1723.toNat, 48]
def k0_off763 (k0_t5 : Fin k0_t5_loop.trips) : Fin 3 → Nat :=
  let c1_i32_1273 : BitVec 32 := 1#32
  let v1728 : Index := Scalar.indexCast c1_i32_1273
  let c0_i32_691 : BitVec 32 := 0#32
  let c1_i32_693 : BitVec 32 := 1#32
  let arg13 : BitVec 32 := Scf.iv c0_i32_691 c1_i32_693 k0_t5
  let c16_i32_1271 : BitVec 32 := 16#32
  let v1726 : BitVec 32 := Scalar.muli arg13 c16_i32_1271
  let c14_i32_1272 : BitVec 32 := 14#32
  let v1727 : BitVec 32 := Scalar.addi v1726 c14_i32_1272
  let v1729 : Index := Scalar.indexCast v1727
  let c48_1274 : Index := 48#32
  ![1, v1729.toNat, 48]
def k0_off764 (v1681 : BitVec 32) : Fin 4 → Nat :=
  let c1_i32_1275 : BitVec 32 := 1#32
  let v1733 : Index := Scalar.indexCast c1_i32_1275
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1734 : Index := Scalar.indexCast v1683
  let c15_i32_1250 : BitVec 32 := 15#32
  let v1684 : BitVec 32 := Scalar.andi v1681 c15_i32_1250
  let v1735 : Index := Scalar.indexCast v1684
  let c64_1276 : Index := 64#32
  ![1, v1734.toNat, v1735.toNat, 64]
def k0_off765 (k0_t5 : Fin k0_t5_loop.trips) : Fin 3 → Nat :=
  let c1_i32_1279 : BitVec 32 := 1#32
  let v1740 : Index := Scalar.indexCast c1_i32_1279
  let c0_i32_691 : BitVec 32 := 0#32
  let c1_i32_693 : BitVec 32 := 1#32
  let arg13 : BitVec 32 := Scf.iv c0_i32_691 c1_i32_693 k0_t5
  let c16_i32_1277 : BitVec 32 := 16#32
  let v1738 : BitVec 32 := Scalar.muli arg13 c16_i32_1277
  let c14_i32_1278 : BitVec 32 := 14#32
  let v1739 : BitVec 32 := Scalar.addi v1738 c14_i32_1278
  let v1741 : Index := Scalar.indexCast v1739
  let c64_1280 : Index := 64#32
  ![1, v1741.toNat, 64]
def k0_off766 (v1681 : BitVec 32) : Fin 4 → Nat :=
  let c1_i32_1281 : BitVec 32 := 1#32
  let v1745 : Index := Scalar.indexCast c1_i32_1281
  let c9_i32_1248 : BitVec 32 := 9#32
  let v1682 : BitVec 32 := Scalar.shrsi v1681 c9_i32_1248
  let c15_i32_1249 : BitVec 32 := 15#32
  let v1683 : BitVec 32 := Scalar.andi v1682 c15_i32_1249
  let v1746 : Index := Scalar.indexCast v1683
  let c15_i32_1250 : BitVec 32 := 15#32
  let v1684 : BitVec 32 := Scalar.andi v1681 c15_i32_1250
  let v1747 : Index := Scalar.indexCast v1684
  let c80_1282 : Index := 80#32
  ![1, v1746.toNat, v1747.toNat, 80]

def k0_chk66 (v1681 : BitVec 32) : Prop :=
  (∀ a, (k0_off756 v1681) a + S1x1x1x16.size a ≤ S2x16x16x96.size a) ∧
  (∀ a, (k0_off758 v1681) a + S1x1x1x16.size a ≤ S2x16x16x96.size a) ∧
  (∀ a, (k0_off760 v1681) a + S1x1x1x16.size a ≤ S2x16x16x96.size a) ∧
  (∀ a, (k0_off762 v1681) a + S1x1x1x16.size a ≤ S2x16x16x96.size a) ∧
  (∀ a, (k0_off764 v1681) a + S1x1x1x16.size a ≤ S2x16x16x96.size a) ∧
  (∀ a, (k0_off766 v1681) a + S1x1x1x16.size a ≤ S2x16x16x96.size a)
theorem k0_off756_inb : ∀ (v1681 : BitVec 32) (k0_hw66 : k0_chk66 v1681), ∀ a, (k0_off756 v1681) a + S1x1x1x16.size a ≤ S2x16x16x96.size a := fun v1681 k0_hw66 => k0_hw66.1
theorem k0_off758_inb : ∀ (v1681 : BitVec 32) (k0_hw66 : k0_chk66 v1681), ∀ a, (k0_off758 v1681) a + S1x1x1x16.size a ≤ S2x16x16x96.size a := fun v1681 k0_hw66 => k0_hw66.2.1
theorem k0_off760_inb : ∀ (v1681 : BitVec 32) (k0_hw66 : k0_chk66 v1681), ∀ a, (k0_off760 v1681) a + S1x1x1x16.size a ≤ S2x16x16x96.size a := fun v1681 k0_hw66 => k0_hw66.2.2.1
theorem k0_off762_inb : ∀ (v1681 : BitVec 32) (k0_hw66 : k0_chk66 v1681), ∀ a, (k0_off762 v1681) a + S1x1x1x16.size a ≤ S2x16x16x96.size a := fun v1681 k0_hw66 => k0_hw66.2.2.2.1
theorem k0_off764_inb : ∀ (v1681 : BitVec 32) (k0_hw66 : k0_chk66 v1681), ∀ a, (k0_off764 v1681) a + S1x1x1x16.size a ≤ S2x16x16x96.size a := fun v1681 k0_hw66 => k0_hw66.2.2.2.2.1
theorem k0_off766_inb : ∀ (v1681 : BitVec 32) (k0_hw66 : k0_chk66 v1681), ∀ a, (k0_off766 v1681) a + S1x1x1x16.size a ≤ S2x16x16x96.size a := fun v1681 k0_hw66 => k0_hw66.2.2.2.2.2

def k0_off767 (k0_t5 : Fin k0_t5_loop.trips) : Fin 3 → Nat :=
  let c1_i32_1285 : BitVec 32 := 1#32
  let v1752 : Index := Scalar.indexCast c1_i32_1285
  let c0_i32_691 : BitVec 32 := 0#32
  let c1_i32_693 : BitVec 32 := 1#32
  let arg13 : BitVec 32 := Scf.iv c0_i32_691 c1_i32_693 k0_t5
  let c16_i32_1283 : BitVec 32 := 16#32
  let v1750 : BitVec 32 := Scalar.muli arg13 c16_i32_1283
  let c14_i32_1284 : BitVec 32 := 14#32
  let v1751 : BitVec 32 := Scalar.addi v1750 c14_i32_1284
  let v1753 : Index := Scalar.indexCast v1751
  let c80_1286 : Index := 80#32
  ![1, v1753.toNat, 80]
def k0_off768 (v1758 : BitVec 32) : Fin 4 → Nat :=
  let c1_i32_1290 : BitVec 32 := 1#32
  let v1762 : Index := Scalar.indexCast c1_i32_1290
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1763 : Index := Scalar.indexCast v1760
  let c15_i32_1289 : BitVec 32 := 15#32
  let v1761 : BitVec 32 := Scalar.andi v1758 c15_i32_1289
  let v1764 : Index := Scalar.indexCast v1761
  let c0_1291 : Index := 0#32
  ![1, v1763.toNat, v1764.toNat, 0]

def k0_off769 (k0_t5 : Fin k0_t5_loop.trips) : Fin 3 → Nat :=
  let c1_i32_1294 : BitVec 32 := 1#32
  let v1769 : Index := Scalar.indexCast c1_i32_1294
  let c0_i32_691 : BitVec 32 := 0#32
  let c1_i32_693 : BitVec 32 := 1#32
  let arg13 : BitVec 32 := Scf.iv c0_i32_691 c1_i32_693 k0_t5
  let c16_i32_1292 : BitVec 32 := 16#32
  let v1767 : BitVec 32 := Scalar.muli arg13 c16_i32_1292
  let c15_i32_1293 : BitVec 32 := 15#32
  let v1768 : BitVec 32 := Scalar.addi v1767 c15_i32_1293
  let v1770 : Index := Scalar.indexCast v1768
  let c0_1295 : Index := 0#32
  ![1, v1770.toNat, 0]
def k0_off770 (v1758 : BitVec 32) : Fin 4 → Nat :=
  let c1_i32_1296 : BitVec 32 := 1#32
  let v1774 : Index := Scalar.indexCast c1_i32_1296
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1775 : Index := Scalar.indexCast v1760
  let c15_i32_1289 : BitVec 32 := 15#32
  let v1761 : BitVec 32 := Scalar.andi v1758 c15_i32_1289
  let v1776 : Index := Scalar.indexCast v1761
  let c16_1297 : Index := 16#32
  ![1, v1775.toNat, v1776.toNat, 16]
def k0_off771 (k0_t5 : Fin k0_t5_loop.trips) : Fin 3 → Nat :=
  let c1_i32_1300 : BitVec 32 := 1#32
  let v1781 : Index := Scalar.indexCast c1_i32_1300
  let c0_i32_691 : BitVec 32 := 0#32
  let c1_i32_693 : BitVec 32 := 1#32
  let arg13 : BitVec 32 := Scf.iv c0_i32_691 c1_i32_693 k0_t5
  let c16_i32_1298 : BitVec 32 := 16#32
  let v1779 : BitVec 32 := Scalar.muli arg13 c16_i32_1298
  let c15_i32_1299 : BitVec 32 := 15#32
  let v1780 : BitVec 32 := Scalar.addi v1779 c15_i32_1299
  let v1782 : Index := Scalar.indexCast v1780
  let c16_1301 : Index := 16#32
  ![1, v1782.toNat, 16]
def k0_off772 (v1758 : BitVec 32) : Fin 4 → Nat :=
  let c1_i32_1302 : BitVec 32 := 1#32
  let v1786 : Index := Scalar.indexCast c1_i32_1302
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1787 : Index := Scalar.indexCast v1760
  let c15_i32_1289 : BitVec 32 := 15#32
  let v1761 : BitVec 32 := Scalar.andi v1758 c15_i32_1289
  let v1788 : Index := Scalar.indexCast v1761
  let c32_1303 : Index := 32#32
  ![1, v1787.toNat, v1788.toNat, 32]
def k0_off773 (k0_t5 : Fin k0_t5_loop.trips) : Fin 3 → Nat :=
  let c1_i32_1306 : BitVec 32 := 1#32
  let v1793 : Index := Scalar.indexCast c1_i32_1306
  let c0_i32_691 : BitVec 32 := 0#32
  let c1_i32_693 : BitVec 32 := 1#32
  let arg13 : BitVec 32 := Scf.iv c0_i32_691 c1_i32_693 k0_t5
  let c16_i32_1304 : BitVec 32 := 16#32
  let v1791 : BitVec 32 := Scalar.muli arg13 c16_i32_1304
  let c15_i32_1305 : BitVec 32 := 15#32
  let v1792 : BitVec 32 := Scalar.addi v1791 c15_i32_1305
  let v1794 : Index := Scalar.indexCast v1792
  let c32_1307 : Index := 32#32
  ![1, v1794.toNat, 32]
def k0_off774 (v1758 : BitVec 32) : Fin 4 → Nat :=
  let c1_i32_1308 : BitVec 32 := 1#32
  let v1798 : Index := Scalar.indexCast c1_i32_1308
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1799 : Index := Scalar.indexCast v1760
  let c15_i32_1289 : BitVec 32 := 15#32
  let v1761 : BitVec 32 := Scalar.andi v1758 c15_i32_1289
  let v1800 : Index := Scalar.indexCast v1761
  let c48_1309 : Index := 48#32
  ![1, v1799.toNat, v1800.toNat, 48]
def k0_off775 (k0_t5 : Fin k0_t5_loop.trips) : Fin 3 → Nat :=
  let c1_i32_1312 : BitVec 32 := 1#32
  let v1805 : Index := Scalar.indexCast c1_i32_1312
  let c0_i32_691 : BitVec 32 := 0#32
  let c1_i32_693 : BitVec 32 := 1#32
  let arg13 : BitVec 32 := Scf.iv c0_i32_691 c1_i32_693 k0_t5
  let c16_i32_1310 : BitVec 32 := 16#32
  let v1803 : BitVec 32 := Scalar.muli arg13 c16_i32_1310
  let c15_i32_1311 : BitVec 32 := 15#32
  let v1804 : BitVec 32 := Scalar.addi v1803 c15_i32_1311
  let v1806 : Index := Scalar.indexCast v1804
  let c48_1313 : Index := 48#32
  ![1, v1806.toNat, 48]
def k0_off776 (v1758 : BitVec 32) : Fin 4 → Nat :=
  let c1_i32_1314 : BitVec 32 := 1#32
  let v1810 : Index := Scalar.indexCast c1_i32_1314
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1811 : Index := Scalar.indexCast v1760
  let c15_i32_1289 : BitVec 32 := 15#32
  let v1761 : BitVec 32 := Scalar.andi v1758 c15_i32_1289
  let v1812 : Index := Scalar.indexCast v1761
  let c64_1315 : Index := 64#32
  ![1, v1811.toNat, v1812.toNat, 64]
def k0_off777 (k0_t5 : Fin k0_t5_loop.trips) : Fin 3 → Nat :=
  let c1_i32_1318 : BitVec 32 := 1#32
  let v1817 : Index := Scalar.indexCast c1_i32_1318
  let c0_i32_691 : BitVec 32 := 0#32
  let c1_i32_693 : BitVec 32 := 1#32
  let arg13 : BitVec 32 := Scf.iv c0_i32_691 c1_i32_693 k0_t5
  let c16_i32_1316 : BitVec 32 := 16#32
  let v1815 : BitVec 32 := Scalar.muli arg13 c16_i32_1316
  let c15_i32_1317 : BitVec 32 := 15#32
  let v1816 : BitVec 32 := Scalar.addi v1815 c15_i32_1317
  let v1818 : Index := Scalar.indexCast v1816
  let c64_1319 : Index := 64#32
  ![1, v1818.toNat, 64]
def k0_off778 (v1758 : BitVec 32) : Fin 4 → Nat :=
  let c1_i32_1320 : BitVec 32 := 1#32
  let v1822 : Index := Scalar.indexCast c1_i32_1320
  let c9_i32_1287 : BitVec 32 := 9#32
  let v1759 : BitVec 32 := Scalar.shrsi v1758 c9_i32_1287
  let c15_i32_1288 : BitVec 32 := 15#32
  let v1760 : BitVec 32 := Scalar.andi v1759 c15_i32_1288
  let v1823 : Index := Scalar.indexCast v1760
  let c15_i32_1289 : BitVec 32 := 15#32
  let v1761 : BitVec 32 := Scalar.andi v1758 c15_i32_1289
  let v1824 : Index := Scalar.indexCast v1761
  let c80_1321 : Index := 80#32
  ![1, v1823.toNat, v1824.toNat, 80]

def k0_chk67 (v1758 : BitVec 32) : Prop :=
  (∀ a, (k0_off768 v1758) a + S1x1x1x16.size a ≤ S2x16x16x96.size a) ∧
  (∀ a, (k0_off770 v1758) a + S1x1x1x16.size a ≤ S2x16x16x96.size a) ∧
  (∀ a, (k0_off772 v1758) a + S1x1x1x16.size a ≤ S2x16x16x96.size a) ∧
  (∀ a, (k0_off774 v1758) a + S1x1x1x16.size a ≤ S2x16x16x96.size a) ∧
  (∀ a, (k0_off776 v1758) a + S1x1x1x16.size a ≤ S2x16x16x96.size a) ∧
  (∀ a, (k0_off778 v1758) a + S1x1x1x16.size a ≤ S2x16x16x96.size a)
theorem k0_off768_inb : ∀ (v1758 : BitVec 32) (k0_hw67 : k0_chk67 v1758), ∀ a, (k0_off768 v1758) a + S1x1x1x16.size a ≤ S2x16x16x96.size a := fun v1758 k0_hw67 => k0_hw67.1
theorem k0_off770_inb : ∀ (v1758 : BitVec 32) (k0_hw67 : k0_chk67 v1758), ∀ a, (k0_off770 v1758) a + S1x1x1x16.size a ≤ S2x16x16x96.size a := fun v1758 k0_hw67 => k0_hw67.2.1
theorem k0_off772_inb : ∀ (v1758 : BitVec 32) (k0_hw67 : k0_chk67 v1758), ∀ a, (k0_off772 v1758) a + S1x1x1x16.size a ≤ S2x16x16x96.size a := fun v1758 k0_hw67 => k0_hw67.2.2.1
theorem k0_off774_inb : ∀ (v1758 : BitVec 32) (k0_hw67 : k0_chk67 v1758), ∀ a, (k0_off774 v1758) a + S1x1x1x16.size a ≤ S2x16x16x96.size a := fun v1758 k0_hw67 => k0_hw67.2.2.2.1
theorem k0_off776_inb : ∀ (v1758 : BitVec 32) (k0_hw67 : k0_chk67 v1758), ∀ a, (k0_off776 v1758) a + S1x1x1x16.size a ≤ S2x16x16x96.size a := fun v1758 k0_hw67 => k0_hw67.2.2.2.2.1
theorem k0_off778_inb : ∀ (v1758 : BitVec 32) (k0_hw67 : k0_chk67 v1758), ∀ a, (k0_off778 v1758) a + S1x1x1x16.size a ≤ S2x16x16x96.size a := fun v1758 k0_hw67 => k0_hw67.2.2.2.2.2

def k0_off779 (k0_t5 : Fin k0_t5_loop.trips) : Fin 3 → Nat :=
  let c1_i32_1324 : BitVec 32 := 1#32
  let v1829 : Index := Scalar.indexCast c1_i32_1324
  let c0_i32_691 : BitVec 32 := 0#32
  let c1_i32_693 : BitVec 32 := 1#32
  let arg13 : BitVec 32 := Scf.iv c0_i32_691 c1_i32_693 k0_t5
  let c16_i32_1322 : BitVec 32 := 16#32
  let v1827 : BitVec 32 := Scalar.muli arg13 c16_i32_1322
  let c15_i32_1323 : BitVec 32 := 15#32
  let v1828 : BitVec 32 := Scalar.addi v1827 c15_i32_1323
  let v1830 : Index := Scalar.indexCast v1828
  let c80_1325 : Index := 80#32
  ![1, v1830.toNat, 80]
def k0_mult55 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c2_i32_506 : BitVec 32 := 2#32
  let c0_i32_288 : BitVec 32 := 0#32
  let c1_i32_289 : BitVec 32 := 1#32
  let arg12 : BitVec 32 := Scf.iv c0_i32_288 c1_i32_289 k0_t1
  let v464 : BitVec 32 := Scalar.muli c2_i32_506 arg12
  let c1_i32_507 : BitVec 32 := 1#32
  let v465 : BitVec 32 := Scalar.addi v464 c1_i32_507
  let c256_i32_695 : BitVec 32 := 256#32
  let v584 : BitVec 32 := Scalar.muli v465 c256_i32_695
  let v585 : BitVec 32 := Scalar.addi v2 v584
  let c128_i32_696 : BitVec 32 := 128#32
  let v586 : BitVec 32 := Scalar.addi v585 c128_i32_696
  v586
def k0_cond6 (k0_t1 : Fin k0_t1_loop.trips) : BitVec 1 :=
  let c0_i32_288 : BitVec 32 := 0#32
  let c1_i32_289 : BitVec 32 := 1#32
  let arg12 : BitVec 32 := Scf.iv c0_i32_288 c1_i32_289 k0_t1
  let c31_i32_704 : BitVec 32 := 31#32
  let v594 : BitVec 1 := Scalar.cmpi .slt arg12 c31_i32_704
  let v595 : BitVec 32 := Scalar.extui v594
  let c0_i32_705 : BitVec 32 := 0#32
  let v596 : BitVec 1 := Scalar.cmpi .ne v595 c0_i32_705
  v596

def k0_off780 (k0_t1 : Fin k0_t1_loop.trips) : Fin 2 → Nat :=
  let c2_i32_707 : BitVec 32 := 2#32
  let c2_i32_506 : BitVec 32 := 2#32
  let c0_i32_288 : BitVec 32 := 0#32
  let c1_i32_289 : BitVec 32 := 1#32
  let arg12 : BitVec 32 := Scf.iv c0_i32_288 c1_i32_289 k0_t1
  let v464 : BitVec 32 := Scalar.muli c2_i32_506 arg12
  let c1_i32_507 : BitVec 32 := 1#32
  let v465 : BitVec 32 := Scalar.addi v464 c1_i32_507
  let c2_i32_706 : BitVec 32 := 2#32
  let v597 : BitVec 32 := Scalar.addi v465 c2_i32_706
  let v598 : BitVec 32 := Scalar.muli c2_i32_707 v597
  let v599 : Index := Scalar.indexCast v598
  let c0_708 : Index := 0#32
  ![v599.toNat, 0]
def k0_mult56 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  v613

def k0_mult57 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c0_i32_717 : BitVec 32 := 0#32
  let v615 : BitVec 32 := Scalar.addi v614 c0_i32_717
  v615
def k0_off781 (i : grid0.Coords) (v603 : BitVec 32) (c0_i32_717 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let v615 : BitVec 32 := Scalar.addi v614 c0_i32_717
  let v616 : BitVec 32 := v615
  let c0_i32_722 : BitVec 32 := 0#32
  ![v616.toNat, 0]
def k0_mult58 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c512_i32_726 : BitVec 32 := 512#32
  let v623 : BitVec 32 := Scalar.addi v614 c512_i32_726
  v623
def k0_mult59 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c1024_i32_735 : BitVec 32 := 1024#32
  let v631 : BitVec 32 := Scalar.addi v614 c1024_i32_735
  v631
def k0_mult60 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c1536_i32_744 : BitVec 32 := 1536#32
  let v639 : BitVec 32 := Scalar.addi v614 c1536_i32_744
  v639
def k0_mult61 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c2048_i32_753 : BitVec 32 := 2048#32
  let v647 : BitVec 32 := Scalar.addi v614 c2048_i32_753
  v647
def k0_mult62 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c2560_i32_762 : BitVec 32 := 2560#32
  let v655 : BitVec 32 := Scalar.addi v614 c2560_i32_762
  v655
def k0_mult63 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c3072_i32_771 : BitVec 32 := 3072#32
  let v663 : BitVec 32 := Scalar.addi v614 c3072_i32_771
  v663
def k0_mult64 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c3584_i32_780 : BitVec 32 := 3584#32
  let v671 : BitVec 32 := Scalar.addi v614 c3584_i32_780
  v671
def k0_mult65 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c4096_i32_789 : BitVec 32 := 4096#32
  let v679 : BitVec 32 := Scalar.addi v614 c4096_i32_789
  v679
def k0_mult66 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c4608_i32_798 : BitVec 32 := 4608#32
  let v687 : BitVec 32 := Scalar.addi v614 c4608_i32_798
  v687
def k0_mult67 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c5120_i32_807 : BitVec 32 := 5120#32
  let v695 : BitVec 32 := Scalar.addi v614 c5120_i32_807
  v695
def k0_mult68 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c5632_i32_816 : BitVec 32 := 5632#32
  let v703 : BitVec 32 := Scalar.addi v614 c5632_i32_816
  v703
def k0_mult69 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c6144_i32_825 : BitVec 32 := 6144#32
  let v711 : BitVec 32 := Scalar.addi v614 c6144_i32_825
  v711
def k0_mult70 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c6656_i32_834 : BitVec 32 := 6656#32
  let v719 : BitVec 32 := Scalar.addi v614 c6656_i32_834
  v719
def k0_mult71 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c7168_i32_843 : BitVec 32 := 7168#32
  let v727 : BitVec 32 := Scalar.addi v614 c7168_i32_843
  v727
def k0_mult72 (i : grid0.Coords) (v603 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c262144_i32_715 : BitVec 32 := 262144#32
  let v610 : BitVec 32 := Scalar.muli v19 c262144_i32_715
  let c9_i32_709 : BitVec 32 := 9#32
  let v604 : BitVec 32 := Scalar.shrsi v603 c9_i32_709
  let c4_i32_710 : BitVec 32 := 4#32
  let v605 : BitVec 32 := Scalar.shrsi v604 c4_i32_710
  let c4_i32_711 : BitVec 32 := 4#32
  let v606 : BitVec 32 := Scalar.shli v605 c4_i32_711
  let c512_i32_716 : BitVec 32 := 512#32
  let v611 : BitVec 32 := Scalar.muli v606 c512_i32_716
  let v612 : BitVec 32 := Scalar.addi v610 v611
  let c511_i32_712 : BitVec 32 := 511#32
  let v607 : BitVec 32 := Scalar.andi v603 c511_i32_712
  let c4_i32_713 : BitVec 32 := 4#32
  let v608 : BitVec 32 := Scalar.shrsi v607 c4_i32_713
  let c4_i32_714 : BitVec 32 := 4#32
  let v609 : BitVec 32 := Scalar.shli v608 c4_i32_714
  let v613 : BitVec 32 := Scalar.addi v612 v609
  let v614 : BitVec 32 := v613
  let c7680_i32_852 : BitVec 32 := 7680#32
  let v735 : BitVec 32 := Scalar.addi v614 c7680_i32_852
  v735

def k0_chk68 (i : grid0.Coords) (k0_t1 : Fin k0_t1_loop.trips) (v603 : BitVec 32) : Prop :=
  (∀ (k0_h6 : k0_cond6 k0_t1 = 1#1), 16 ∣ (k0_mult56 i v603).toNat) ∧
  (∀ (k0_h6 : k0_cond6 k0_t1 = 1#1), 16 ∣ (k0_mult57 i v603).toNat) ∧
  (∀ (k0_h6 : k0_cond6 k0_t1 = 1#1), ∀ (r : Fin 16), ∀ a, (k0_off781 i v603 (BitVec.ofNat 32 (512 * r.val))) a + S16x96.size a ≤ S524288x96.size a) ∧
  (∀ (k0_h6 : k0_cond6 k0_t1 = 1#1), 16 ∣ (k0_mult58 i v603).toNat) ∧
  (∀ (k0_h6 : k0_cond6 k0_t1 = 1#1), 16 ∣ (k0_mult59 i v603).toNat) ∧
  (∀ (k0_h6 : k0_cond6 k0_t1 = 1#1), 16 ∣ (k0_mult60 i v603).toNat) ∧
  (∀ (k0_h6 : k0_cond6 k0_t1 = 1#1), 16 ∣ (k0_mult61 i v603).toNat) ∧
  (∀ (k0_h6 : k0_cond6 k0_t1 = 1#1), 16 ∣ (k0_mult62 i v603).toNat) ∧
  (∀ (k0_h6 : k0_cond6 k0_t1 = 1#1), 16 ∣ (k0_mult63 i v603).toNat) ∧
  (∀ (k0_h6 : k0_cond6 k0_t1 = 1#1), 16 ∣ (k0_mult64 i v603).toNat) ∧
  (∀ (k0_h6 : k0_cond6 k0_t1 = 1#1), 16 ∣ (k0_mult65 i v603).toNat) ∧
  (∀ (k0_h6 : k0_cond6 k0_t1 = 1#1), 16 ∣ (k0_mult66 i v603).toNat) ∧
  (∀ (k0_h6 : k0_cond6 k0_t1 = 1#1), 16 ∣ (k0_mult67 i v603).toNat) ∧
  (∀ (k0_h6 : k0_cond6 k0_t1 = 1#1), 16 ∣ (k0_mult68 i v603).toNat) ∧
  (∀ (k0_h6 : k0_cond6 k0_t1 = 1#1), 16 ∣ (k0_mult69 i v603).toNat) ∧
  (∀ (k0_h6 : k0_cond6 k0_t1 = 1#1), 16 ∣ (k0_mult70 i v603).toNat) ∧
  (∀ (k0_h6 : k0_cond6 k0_t1 = 1#1), 16 ∣ (k0_mult71 i v603).toNat) ∧
  (∀ (k0_h6 : k0_cond6 k0_t1 = 1#1), 16 ∣ (k0_mult72 i v603).toNat)
theorem k0_mult56_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult56 i v603).toNat := fun i k0_t1 v603 k0_hw68 k0_h6 => k0_hw68.1 k0_h6
theorem k0_mult57_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult57 i v603).toNat := fun i k0_t1 v603 k0_hw68 k0_h6 => k0_hw68.2.1 k0_h6
theorem k0_off781_inb : ∀ (i : grid0.Coords) (k0_t1 : Fin k0_t1_loop.trips) (v603 : BitVec 32) (k0_hw68 : k0_chk68 i k0_t1 v603), ∀ (k0_h6 : k0_cond6 k0_t1 = 1#1), ∀ (r : Fin 16), ∀ a, (k0_off781 i v603 (BitVec.ofNat 32 (512 * r.val))) a + S16x96.size a ≤ S524288x96.size a := fun i k0_t1 v603 k0_hw68 k0_h6 r => k0_hw68.2.2.1 k0_h6 r
theorem k0_mult58_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult58 i v603).toNat := fun i k0_t1 v603 k0_hw68 k0_h6 => k0_hw68.2.2.2.1 k0_h6
theorem k0_mult59_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult59 i v603).toNat := fun i k0_t1 v603 k0_hw68 k0_h6 => k0_hw68.2.2.2.2.1 k0_h6
theorem k0_mult60_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult60 i v603).toNat := fun i k0_t1 v603 k0_hw68 k0_h6 => k0_hw68.2.2.2.2.2.1 k0_h6
theorem k0_mult61_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult61 i v603).toNat := fun i k0_t1 v603 k0_hw68 k0_h6 => k0_hw68.2.2.2.2.2.2.1 k0_h6
theorem k0_mult62_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult62 i v603).toNat := fun i k0_t1 v603 k0_hw68 k0_h6 => k0_hw68.2.2.2.2.2.2.2.1 k0_h6
theorem k0_mult63_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult63 i v603).toNat := fun i k0_t1 v603 k0_hw68 k0_h6 => k0_hw68.2.2.2.2.2.2.2.2.1 k0_h6
theorem k0_mult64_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult64 i v603).toNat := fun i k0_t1 v603 k0_hw68 k0_h6 => k0_hw68.2.2.2.2.2.2.2.2.2.1 k0_h6
theorem k0_mult65_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult65 i v603).toNat := fun i k0_t1 v603 k0_hw68 k0_h6 => k0_hw68.2.2.2.2.2.2.2.2.2.2.1 k0_h6
theorem k0_mult66_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult66 i v603).toNat := fun i k0_t1 v603 k0_hw68 k0_h6 => k0_hw68.2.2.2.2.2.2.2.2.2.2.2.1 k0_h6
theorem k0_mult67_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult67 i v603).toNat := fun i k0_t1 v603 k0_hw68 k0_h6 => k0_hw68.2.2.2.2.2.2.2.2.2.2.2.2.1 k0_h6
theorem k0_mult68_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult68 i v603).toNat := fun i k0_t1 v603 k0_hw68 k0_h6 => k0_hw68.2.2.2.2.2.2.2.2.2.2.2.2.2.1 k0_h6
theorem k0_mult69_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult69 i v603).toNat := fun i k0_t1 v603 k0_hw68 k0_h6 => k0_hw68.2.2.2.2.2.2.2.2.2.2.2.2.2.2.1 k0_h6
theorem k0_mult70_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult70 i v603).toNat := fun i k0_t1 v603 k0_hw68 k0_h6 => k0_hw68.2.2.2.2.2.2.2.2.2.2.2.2.2.2.2.1 k0_h6
theorem k0_mult71_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult71 i v603).toNat := fun i k0_t1 v603 k0_hw68 k0_h6 => k0_hw68.2.2.2.2.2.2.2.2.2.2.2.2.2.2.2.2.1 k0_h6
theorem k0_mult72_dvd : ∀ (i : grid0.Coords) (k0_t1 : Fin k0_t1_loop.trips) (v603 : BitVec 32) (k0_hw68 : k0_chk68 i k0_t1 v603), ∀ (k0_h6 : k0_cond6 k0_t1 = 1#1), 16 ∣ (k0_mult72 i v603).toNat := fun i k0_t1 v603 k0_hw68 k0_h6 => k0_hw68.2.2.2.2.2.2.2.2.2.2.2.2.2.2.2.2.2 k0_h6

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x512x512x96 : Shape := ⟨4, ![2, 512, 512, 96]⟩
abbrev S262144 : Shape := ⟨1, ![262144]⟩
abbrev S2x262144x96 : Shape := ⟨3, ![2, 262144, 96]⟩
abbrev S_ : Shape := ⟨0, ![]⟩
abbrev S262144x1 : Shape := ⟨2, ![262144, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x512x512x96, .f32⟩
  | .hbm, ⟨1, _⟩ => ⟨S262144, .i32⟩
  | .hbm, ⟨2, _⟩ => ⟨S2x262144x96, .f32⟩
  | .hbm, ⟨3, _⟩ => ⟨S_, .i32⟩
  | .hbm, ⟨4, _⟩ => ⟨S262144, .i32⟩
  | .hbm, ⟨5, _⟩ => ⟨S262144, .i1⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S1, .i32⟩
  | .hbm, ⟨12, _⟩ => ⟨S_, .i32⟩
  | .hbm, ⟨13, _⟩ => ⟨S262144x1, .i32⟩
  | .hbm, ⟨14, _⟩ => ⟨S262144x1, .i1⟩
  | .hbm, ⟨15, _⟩ => ⟨S1x1, .i32⟩
  | .hbm, ⟨16, _⟩ => ⟨S262144x1, .i32⟩
  | .hbm, ⟨17, _⟩ => ⟨S262144x1, .i1⟩
  | .hbm, ⟨18, _⟩ => ⟨S262144x1, .i1⟩
  | .hbm, ⟨19, _⟩ => ⟨S_, .i1⟩
  | .hbm, ⟨20, _⟩ => ⟨S262144, .i1⟩
  | .hbm, ⟨21, _⟩ => ⟨S2x262144x96, .f32⟩
  | .hbm, ⟨22, _⟩ => ⟨S2x262144x96, .i1⟩
  | .hbm, ⟨23, _⟩ => ⟨S_, .f32⟩
  | .hbm, ⟨24, _⟩ => ⟨S2x262144x96, .f32⟩
  | .hbm, ⟨25, _⟩ => ⟨S2x262144x96, .f32⟩
  | _, _ => ⟨S2x512x512x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Words.lean ====
/-
  What the preconditions say of the index array: every word is a position of the image; and the words of each block
  of 256 lie in one square of 16 by 16.
-/
module

public import proofs.«01_k».proof.Defs
public import Idealize.ShloMosaic.Lib.ReduceAll
public import Idealize.ShloMosaic.Lib.Pipeline.Value
public import Idealize.ShloMosaic.Lib.ValueIdxCore
public import Idealize.ShloMosaic.Lib.ValueIdxRank1
public import proofs.«01_k».proof.Proof.Gen.Pre_pixels
public import proofs.«01_k».proof.Proof.Gen.Pre_square_blocks

@[expose] public section

noncomputable section

namespace Cert.Proof

open Idealize.ShloMosaic
open Idealize.ShloMosaic.ValueIdx
open Cert.Pre_square_blocks Cert.Pre_square_blocks.Gen

variable {F : FTy → Type} [FloatOps F]

/-- Word `n` of the index array. -/
def wordAt (a : S262144.Idx → BitVec 32) (n : ℕ) : BitVec 32 := if h : n < 262144 then a (ix1 ⟨n, h⟩) else 0

/-- Every word is a position of the image. -/
def InImage (a : S262144.Idx → BitVec 32) : Prop := ∀ n, (wordAt a n).toNat < 262144

/-- Besides, the words of a block of 256 lie in the square, of 16 by 16, of its first. -/
structure Squares (a : S262144.Idx → BitVec 32) : Prop where
  lt : InImage a
  row : ∀ b c, b < 1024 → c < 256 → (wordAt a (256 * b + c)).toNat / 8192 = (wordAt a (256 * b)).toNat / 8192
  col : ∀ b c, b < 1024 → c < 256 → (wordAt a (256 * b + c)).toNat % 512 / 16 = (wordAt a (256 * b)).toNat % 512 / 16

theorem andi_one {x y : BitVec 1} (h : IntOp.andi x y = 1#1) : x = 1#1 ∧ y = 1#1 := by
  revert h; revert x y; decide

theorem range_word (v : BitVec 32) (e : IntOp.andi (IntOp.cmpi .sge v 0#32) (IntOp.cmpi .slt v 262144#32) = 1#1) : v.toNat < 262144 := by
  have ofBool_eq_one (p : Bool) : (BitVec.ofBool p = 1#1) ↔ p = true := by cases p <;> decide
  obtain ⟨e1, e2⟩ := andi_one e
  simp only [IntOp.cmpi, ofBool_eq_one, BitVec.sle_eq_decide, BitVec.slt_eq_decide,
    decide_eq_true_eq, BitVec.toInt_eq_toNat_cond, BitVec.toNat_ofNat, Nat.reducePow, Nat.reduceMod] at e1 e2
  omega

theorem eq_word {v w : BitVec 32} (e : IntOp.cmpi .eq v w = 1#1) : v = w := by
  have ofBool_eq_one (p : Bool) : (BitVec.ofBool p = 1#1) ↔ p = true := by cases p <;> decide
  simpa only [IntOp.cmpi, ofBool_eq_one, beq_iff_eq] using e

/-- Shifting a word of the range right by `k` divides it by `2 ^ k`. -/
theorem shift_word (v : BitVec 32) (k : ℕ) (hk : k < 32) (hv : v.toNat < 262144) : (IntOp.shrsi .host v (BitVec.ofNat 32 k)).toNat = v.toNat / 2 ^ k := by
  have e : (BitVec.ofNat 32 k).toNat = k := by rw [BitVec.toNat_ofNat]; omega
  have hm : v.msb = false := by rw [BitVec.msb_eq_decide]; simp only [decide_eq_false_iff_not]; omega
  unfold IntOp.shrsi
  rw [if_pos (by rw [e]; exact hk), BitVec.sshiftRight', e, BitVec.sshiftRight_eq_of_msb_false hm, BitVec.toNat_ushiftRight, Nat.shiftRight_eq_div_pow]

/-- The low nine bits of a word are its remainder by 512. -/
theorem mask_word (v : BitVec 32) : (IntOp.andi v 511#32).toNat = v.toNat % 512 := by
  show (v &&& 511#32).toNat = _
  rw [BitVec.toNat_and]
  exact Nat.and_two_pow_sub_one_eq_mod v.toNat 9

/-- Word `c` of block `b`, where the precondition reads it. -/
theorem block_word (a : S262144.Idx → BitVec 32) (b c : ℕ) (hb : b < 1024) (hc : c < 256) :
    shapeCast S1024x256 a shapeCasts_S262144_S1024x256 (ix2 ⟨b, hb⟩ ⟨c, hc⟩) = wordAt a (256 * b + c) := by
  have h : 256 * b + c < 262144 := by omega
  rw [wordAt, dif_pos h]
  refine shapeCast_apply _ _ _ _ ?_
  rw [Shape.rowMajor_val_one, Shape.rowMajor_val_two]
  show 256 * b + c = b * 256 + c
  omega

/-- The first word of block `b`, where the precondition reads it. -/
theorem first_word (a : S262144.Idx → BitVec 32) (b : ℕ) (hb : b < 1024) :
    extractStridedSlice S1024x1 ![0, 0] (shapeCast S1024x256 a shapeCasts_S262144_S1024x256) slices_S1024x256_S1024x1_0_0 (ix2 ⟨b, hb⟩ 0) = wordAt a (256 * b) := by
  refine (extractStridedSlice_apply _ _ _ _ (ix2 ⟨b, hb⟩ ⟨0, by decide⟩) ?_).trans (block_word a b 0 hb (by decide))
  intro k
  match k with
  | 0 => exact (Nat.zero_add b).symm
  | 1 => rfl

/-- A column spread over the rows' 256 places is read at the row. -/
theorem spread {α : Type} (x : S1024x1.Idx → α) (b c : ℕ) (hb : b < 1024) (hc : c < 256) :
    broadcastInDim S1024x256 ![0, 1] bcast_S1024x1_S1024x256_0_1 x (ix2 ⟨b, hb⟩ ⟨c, hc⟩) = x (ix2 ⟨b, hb⟩ 0) := by
  refine broadcastInDim_apply _ _ _ _ _ ?_
  intro k
  match k with
  | 0 => rfl
  | 1 => rfl

instance : Subsingleton S_.Idx := ⟨fun _ _ => funext fun k => k.elim0⟩

theorem image_of_all {a : S262144.Idx → BitVec 32} (h : ∀ i : S262144.Idx, (a i).toNat < 262144) : InImage a := by
  intro n
  by_cases hn : n < 262144
  · rw [wordAt, dif_pos hn]; exact h _
  · rw [wordAt, dif_neg hn]; decide

theorem image_of_pre (x : S2x512x512x96.Idx → Elt F .f32) (a : S262144.Idx → BitVec 32) (e : Cert.Pre_pixels.fn x a = fun _ => 1#1) : InImage a :=
  image_of_all fun i => range_word _ (Host.reduce_andi_all _ _ _ _ _ (congrFun e ix0) i)

theorem squares_of_pre (x : S2x512x512x96.Idx → Elt F .f32) (a : S262144.Idx → BitVec 32) (e : Cert.Pre_square_blocks.fn x a = fun _ => 1#1) : Squares a := by
  have e0 := congrFun e ix0
  simp only [Cert.Pre_square_blocks.fn, fn_part1] at e0
  obtain ⟨e12, e3⟩ := andi_one e0
  obtain ⟨e1, e2⟩ := andi_one e12
  have lt : InImage a := image_of_all fun i => range_word _ (Host.reduce_andi_all _ _ _ _ _ e1 i)
  refine ⟨lt, fun b c hb hc => ?_, fun b c hb hc => ?_⟩
  · have h := Host.reduce_andi_all _ _ _ _ _ e2 (ix2 ⟨b, hb⟩ ⟨c, hc⟩)
    have h := eq_word h
    rw [spread] at h
    have h : IntOp.shrsi .host (shapeCast S1024x256 a shapeCasts_S262144_S1024x256 (ix2 ⟨b, hb⟩ ⟨c, hc⟩)) (BitVec.ofNat 32 13)
      = IntOp.shrsi .host (extractStridedSlice S1024x1 ![0, 0] (shapeCast S1024x256 a shapeCasts_S262144_S1024x256) slices_S1024x256_S1024x1_0_0 (ix2 ⟨b, hb⟩ 0)) (BitVec.ofNat 32 13) := h
    rw [block_word, first_word] at h
    have h := congrArg BitVec.toNat h
    rw [shift_word _ 13 (by decide) (lt _), shift_word _ 13 (by decide) (lt _)] at h
    exact h
  · have h := Host.reduce_andi_all _ _ _ _ _ e3 (ix2 ⟨b, hb⟩ ⟨c, hc⟩)
    have h := eq_word h
    rw [spread] at h
    have h : IntOp.shrsi .host (IntOp.andi (shapeCast S1024x256 a shapeCasts_S262144_S1024x256 (ix2 ⟨b, hb⟩ ⟨c, hc⟩)) 511#32) (BitVec.ofNat 32 4)
      = IntOp.shrsi .host (IntOp.andi (extractStridedSlice S1024x1 ![0, 0] (shapeCast S1024x256 a shapeCasts_S262144_S1024x256) slices_S1024x256_S1024x1_0_0 (ix2 ⟨b, hb⟩ 0)) 511#32) (BitVec.ofNat 32 4) := h
    rw [block_word, first_word] at h
    have h := congrArg BitVec.toNat h
    rw [shift_word _ 4 (by decide) (by rw [mask_word]; omega), shift_word _ 4 (by decide) (by rw [mask_word]; omega), mask_word, mask_word] at h
    exact h

end Cert.Proof
-- ==== Proof.SetupKI.lean ====
/-
  What the proofs about the kernel share: the program as the launch theorem sees it, the resource algebra, the
  buffers' names, and the element sets the tile's copies and stores touch.
-/
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.Batch
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds library, the transfers' counters -/

abbrev UH : Type := URounds (GSem nD τ sig) ℕ
abbrev UU : Type := UH × Counters

abbrev MM (F : FTy → Type) : Type := MT nD τ sig (HIx 1) (Elt F) ℕ UU ℕ
abbrev EH : Emb UH (MT nD τ sig (HIx 1) (Elt F) ℕ UU ℕ) := embL

/-! ## The buffers a task addresses -/

abbrev xV : Memref sig .scVector .hbm S524288x96 .f32 := Memref.whole main_v0_scv
abbrev iV : Memref sig .scVector .hbm S2048x128 .i32 := Memref.whole main_v1_scv
abbrev oV : Memref sig .scVector .hbm S524288x96 .f32 := Memref.whole main_v2_scv
abbrev sV : Memref sig .scVector .vmem S128x128 .i32 := Memref.whole cc0_scratch0
abbrev tV : Memref sig .scVector .vmem S2x16x16x96 .f32 := Memref.whole cc0_scratch1
abbrev bV : Memref sig .scVector .vmem S2x128x96 .f32 := Memref.whole cc0_scratch2

abbrev cV (L : grid0.Coords) : Fin τ.nSC := (L 0).castLE hcore0
abbrev jV (L : grid0.Coords) : Fin τ.nSub := (L 1).castLE hsub0
/-- The tile of device `d` at SparseCore `L 0`, subcore `L 1`. -/
abbrev thr (d : Dev nD) (L : grid0.Coords) : Thread nD τ := V d (cV L) (jV L)

/-- Half `tb` of the staging buffer for the squares of rows. -/
def tSet (tb : ℕ) : Finset S2x16x16x96.Idx := Finset.univ.filter fun p => (p 0).val = tb
/-- Row `r` of that half. -/
def tRow (tb r : ℕ) : Finset S2x16x16x96.Idx := Finset.univ.filter fun p => (p 0).val = tb ∧ (p 1).val = r
/-- Half `h` of the buffer the result's blocks are assembled in. -/
def bSet (h : ℕ) : Finset S2x128x96.Idx := Finset.univ.filter fun p => (p 0).val = h
/-- Sixteen rows of `x` from row `b` on. -/
def xSet (b : ℕ) : Finset S524288x96.Idx := Finset.univ.filter fun p => b ≤ (p 0).val ∧ (p 0).val < b + 16
/-- The result's rows from `a` up to `b`. -/
def oSet (a b : ℕ) : Finset S524288x96.Idx := Finset.univ.filter fun p => a ≤ (p 0).val ∧ (p 0).val < b

theorem mem_tSet {tb : ℕ} {p : S2x16x16x96.Idx} : p ∈ tSet tb ↔ (p 0).val = tb := by simp [tSet]
theorem mem_tRow {tb r : ℕ} {p : S2x16x16x96.Idx} : p ∈ tRow tb r ↔ (p 0).val = tb ∧ (p 1).val = r := by simp [tRow]
theorem mem_bSet {h : ℕ} {p : S2x128x96.Idx} : p ∈ bSet h ↔ (p 0).val = h := by simp [bSet]
theorem mem_xSet {b : ℕ} {p : S524288x96.Idx} : p ∈ xSet b ↔ b ≤ (p 0).val ∧ (p 0).val < b + 16 := by simp [xSet]
theorem mem_oSet {a b : ℕ} {p : S524288x96.Idx} : p ∈ oSet a b ↔ a ≤ (p 0).val ∧ (p 0).val < b := by simp [oSet]

/-- A piece of the tile's task. -/
abbrev PT (F : FTy → Type) (L : grid0.Coords) (α : Type) : Type 1 :=
  Prog (TpuEff nD τ sig (Elt F) Λ₀ (.scVector ((L 0).castLE hcore0) ((L 1).castLE hsub0))) α
/-- The weakest precondition of a piece of the tile's task. -/
abbrev tw [FloatOps F] (d : Dev nD) (L : grid0.Coords) {α : Type}
    (p : PT F L α) (Q : α → sProp (MM F)) : sProp (MM F) :=
  wp frame (wpE (defs₀ (F := F)) 𝒱₀ (thr d L) none) Set.univ p Q

/-- A piece of the task takes what is held before to what is held after. -/
structure Tri [FloatOps F] (d : Dev nD) (L : grid0.Coords) {α : Type} (R : sProp (MM F)) (p : PT F L α) (Q : α → sProp (MM F)) : Prop where
  out : R ⊢ tw d L p Q

section Rules
variable [FloatOps F] {d : Dev nD} {L : grid0.Coords} {α β : Type} {R : sProp (MM F)}

/-- A piece run before a continuation. -/
theorem tri_bind {p : PT F L β} {k : β → PT F L α} {P : β → sProp (MM F)} {Q : α → sProp (MM F)} (h : Tri d L R p P)
    (hk : ∀ x, Tri d L (P x) (k x) Q) : Tri d L R (p >>= k) Q :=
  ⟨(h.out.trans (wp_mono _ _ _ fun x => (hk x).out)).trans (Entails.of_eq (wp_bind _ _ _ p k Q).symm)⟩
/-- A piece run before a continuation, the continuation's need the piece's end. -/
theorem tri_seq {p : PT F L β} {k : β → PT F L α} {Q : α → sProp (MM F)} (h : Tri d L R p fun x => tw d L (k x) Q) : Tri d L R (p >>= k) Q :=
  ⟨h.out.trans (Entails.of_eq (wp_bind _ _ _ p k Q).symm)⟩
/-- A piece that returns. -/
theorem tri_pure {a : α} {Q : α → sProp (MM F)} (h : R ⊢ Q a) : Tri d L R (pure a) Q :=
  ⟨h.trans (le_wp_ret _ _ _ a Q)⟩
/-- A last operation is one with nothing after it. -/
theorem tri_last {p : PT F L α} {Q : α → sProp (MM F)} (h : Tri d L R (p >>= fun x => pure x) Q) : Tri d L R p Q := by
  rwa [show (p >>= fun x => pure x) = p from bind_pure p] at h
/-- A check that holds. -/
theorem tri_assume {P : Prop} {dP : Decidable P} {k : PLift P → PT F L α} {Q : α → sProp (MM F)} (h : P) (hk : Tri d L R (k ⟨h⟩) Q) :
    Tri d L R (Prog.lift (TpuEff.assume P dP) >>= k) Q :=
  ⟨hk.out.trans (wp_assume 𝒱₀ (thr d L) none Set.univ h)⟩
/-- Less held before, more after. -/
theorem tri_mono {R' : sProp (MM F)} {p : PT F L α} {Q Q' : α → sProp (MM F)} (h : Tri d L R' p Q') (h0 : R ⊢ R') (h1 : ∀ a, Q' a ⊢ Q a) : Tri d L R p Q :=
  ⟨h0.trans (h.out.trans (wp_mono _ _ _ h1))⟩
/-- What a piece does not touch stays. -/
theorem tri_frame {X : sProp (MM F)} {p : PT F L α} {Q : α → sProp (MM F)} (h : Tri d L R p Q) : Tri d L iprop(R ∗ X) p fun a => iprop(Q a ∗ X) :=
  ⟨(sep_mono_left h.out).trans (wp_frame_r _ _ _)⟩

end Rules

end Cert.Proof.KI
-- ==== Proof.PermuteKI.lean ====
/-
  The permutation of a staged square of rows into a block of the result: what one of its loops holds, the rule of
  each of its loads and stores, and its four loops' trips.
-/
module

public import proofs.«01_k».proof.Proof.SetupKI

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-! ## A word's place in its square of rows -/

/-- The row of the square a word names. -/
abbrev wa (w : BitVec 32) : ℕ := (Scalar.indexCast (Scalar.andi (Scalar.shrsi w 9#32) 15#32)).toNat
/-- The column of the square a word names. -/
abbrev wb (w : BitVec 32) : ℕ := (Scalar.indexCast (Scalar.andi w 15#32)).toNat

theorem wa_lt (w : BitVec 32) : wa w < 16 :=
  Nat.lt_succ_of_le (show ((Scalar.shrsi w 9#32).toNat &&& 15) ≤ 15 from Nat.and_le_right)
theorem wb_lt (w : BitVec 32) : wb w < 16 :=
  Nat.lt_succ_of_le (show (w.toNat &&& 15) ≤ 15 from Nat.and_le_right)

/-- The sixteen lanes a word names lie in the staging buffer. -/
theorem lanes_inb {w : BitVec 32} {off : Fin 4 → ℕ} {tb : ℕ} (c : ℕ) (h : off = ![tb, wa w, wb w, 16 * c]) (htb : tb < 2) (hc : c < 6) :
    ∀ a, off a + S1x1x1x16.size a ≤ S2x16x16x96.size a := by
  subst h; have := wa_lt w; have := wb_lt w
  intro a; fin_cases a
  · show tb + 1 ≤ 2; omega
  · show wa w + 1 ≤ 16; omega
  · show wb w + 1 ≤ 16; omega
  · show 16 * c + 16 ≤ 96; omega

/-- The word at row `row` and column `r` of the words. -/
def gOf (I : S128x128.Idx → Elt F .i32) (row r : ℕ) : BitVec 32 :=
  if h : row < 128 ∧ r < 128 then I (fun | ⟨0, _⟩ => ⟨row, h.1⟩ | ⟨1, _⟩ => ⟨r, h.2⟩) else 0

/-- A word taken out of the sixteen loaded from row `row` at column `16 * t`. -/
theorem word_eq {I : S128x128.Idx → Elt F .i32} {off : Fin 2 → ℕ} {inb : ∀ a, off a + S1x16.size a ≤ S128x128.size a} {row t k n : ℕ}
    {h1 : S1x16.ShapeCasts S16} {h2 : S16.Slices ![k] S1} {h3 : ∀ a, (![0] : Fin 1 → ℕ) a < S1.size a}
    (ho : off = ![row, 16 * t]) (hn : n = k) :
    extractAt ![0] (extractStridedSlice S1 ![k] (shapeCast S16 ((sV).view.readAt (Elt F) (Rect.unit (s := S128x128) off S1x16.size inb).toLoadRect I) h1) h2) h3
      = gOf I row (16 * t + n) := by
  have hk : k < 16 := by
    have := h2.2 0; exact this
  subst ho hn
  have i0 : row + 1 ≤ 128 := inb 0
  have i1 : 16 * t + 16 ≤ 128 := inb 1
  unfold gOf
  rw [dif_pos ⟨by omega, by omega⟩]
  refine (extractStridedSlice_apply _ _ h2 _ (fun | ⟨0, _⟩ => ⟨n, hk⟩) (fun | ⟨0, _⟩ => rfl)).trans ?_
  refine (shapeCast_apply _ h1 _ (fun | ⟨0, _⟩ => ⟨0, Nat.one_pos⟩ | ⟨1, _⟩ => ⟨n, hk⟩) ?_).trans ?_
  · rw [Shape.rowMajor_val_one, Shape.rowMajor_val_two]
    show 0 * 16 + n = n
    omega
  · show I _ = I _
    refine congrArg I (funext fun a => Fin.ext ?_)
    match a with
    | ⟨0, _⟩ => show row + 1 * 0 = row; omega
    | ⟨1, _⟩ => show 16 * t + 1 * n = 16 * t + n; omega

/-! ## What a loop holds -/

/-- Blocks 0 … `j - 1` of sixteen elements of half `ob` hold the rows of half `tb` of `T` their words name. -/
def Filled (tb ob : ℕ) (T : S2x16x16x96.Idx → Elt F .f32) (g : ℕ → BitVec 32) (j : ℕ) (f : S2x128x96.Idx → Elt F .f32) : Prop :=
  ∀ (p : S2x128x96.Idx) (q : S2x16x16x96.Idx), (p 0).val = ob → (q 0).val = tb → (q 1).val = wa (g (p 1).val) →
    (q 2).val = wb (g (p 1).val) → (q 3).val = (p 2).val → 6 * (p 1).val + (p 2).val / 16 < j → f p = T q

section Loop
variable (d : Dev nD) (L : grid0.Coords) (tb ob : ℕ) (I : S128x128.Idx → Elt F .i32) (T : S2x16x16x96.Idx → Elt F .f32) (g : ℕ → BitVec 32)

/-- The words, a half of the staging buffer, and the half being assembled, `j` blocks of it done. -/
def Perm (j : ℕ) : sProp (MM F) :=
  iprop(((sV).view.loc (thr d L) ↦{fullShare} I) ∗ ((tV).view.loc (thr d L) ↦[tSet tb]{fullShare} T)
    ∗ ∃ f, ⌜Filled tb ob T g j f⌝ ∗ ((bV).view.loc (thr d L) ↦[bSet ob]{fullShare} f))
end Loop

/-! ## The rules of its operations -/

section Rules
variable [FloatOps F] {d : Dev nD} {L : grid0.Coords} {α : Type} {tb ob j : ℕ} {I : S128x128.Idx → Elt F .i32} {T : S2x16x16x96.Idx → Elt F .f32} {g : ℕ → BitVec 32}
  {Q : α → sProp (MM F)}

/-- The sixteen words of a trip. -/
theorem perm_loadI {r : LoadRect S128x128} {hl : (sV).view.LoadsAt r} {k : (r.shape.Idx → Elt F .i32) → PT F L α}
    (hk : Tri d L (Perm d L tb ob I T g j) (k ((sV).view.readAt (Elt F) r I)) Q) :
    Tri d L (Perm d L tb ob I T g j) (Prog.lift (.load sV r hl) >>= k) Q := by
  replace hk := hk.out
  refine ⟨?_⟩
  unfold Perm at hk ⊢
  iintro ⟨HI, HT, Hb⟩
  iapply (wp_load 𝒱₀ (thr d L) none Set.univ (m := sV) (r := r) (hl := hl) (S := Finset.univ) (f := I) (Finset.subset_univ _)) $$ HI
  iintro HI
  iapply hk
  isplitl [HI]; · iexact HI
  isplitl [HT]; · iexact HT
  iexact Hb

/-- Sixteen lanes of the staged square. -/
theorem perm_loadT {off : Fin 4 → ℕ} {inb : ∀ a, off a + S1x1x1x16.size a ≤ S2x16x16x96.size a}
    {hl : (tV).view.LoadsAt (Rect.unit (s := S2x16x16x96) off S1x1x1x16.size inb).toLoadRect} {k : (S1x1x1x16.Idx → Elt F .f32) → PT F L α}
    (h0 : off 0 = tb)
    (hk : Tri d L (Perm d L tb ob I T g j) (k ((tV).view.readAt (Elt F) (Rect.unit (s := S2x16x16x96) off S1x1x1x16.size inb).toLoadRect T)) Q) :
    Tri d L (Perm d L tb ob I T g j) (Prog.lift (.load tV (Rect.unit (s := S2x16x16x96) off S1x1x1x16.size inb).toLoadRect hl) >>= k) Q := by
  replace hk := hk.out
  refine ⟨?_⟩
  unfold Perm at hk ⊢
  iintro ⟨HI, HT, Hb⟩
  iapply (wp_load 𝒱₀ (thr d L) none Set.univ (m := tV) (r := (Rect.unit (s := S2x16x16x96) off S1x1x1x16.size inb).toLoadRect) (hl := hl) (S := tSet tb) (f := T) ?_) $$ HT
  · intro p hp
    have hp' : p ∈ (Rect.unit (s := S2x16x16x96) off S1x1x1x16.size inb).set := by
      rw [View.setOn, Finset.mem_map] at hp
      obtain ⟨x, hx, rfl⟩ := hp
      exact hx
    rw [Rect.mem_set_unit] at hp'
    have := hp' 0
    rw [mem_tSet]
    have h1 : S1x1x1x16.size 0 = 1 := rfl
    omega
  iintro HT
  iapply hk
  isplitl [HI]; · iexact HI
  isplitl [HT]; · iexact HT
  iexact Hb

/-- A load whose result is not used. -/
theorem perm_loadB {off : Fin 3 → ℕ} {inb : ∀ a, off a + S1x1x16.size a ≤ S2x128x96.size a}
    {hl : (bV).view.LoadsAt (Rect.unit (s := S2x128x96) off S1x1x16.size inb).toLoadRect} {k : (S1x1x16.Idx → Elt F .f32) → PT F L α}
    (h0 : off 0 = ob)
    (hk : ∀ w, Tri d L (Perm d L tb ob I T g j) (k w) Q) :
    Tri d L (Perm d L tb ob I T g j) (Prog.lift (.load bV (Rect.unit (s := S2x128x96) off S1x1x16.size inb).toLoadRect hl) >>= k) Q := by
  replace hk := fun w => (hk w).out
  refine ⟨?_⟩
  unfold Perm at hk ⊢
  iintro ⟨HI, HT, %f, %hf, Hb⟩
  iapply (wp_load 𝒱₀ (thr d L) none Set.univ (m := bV) (r := (Rect.unit (s := S2x128x96) off S1x1x16.size inb).toLoadRect) (hl := hl) (S := bSet ob) (f := f) ?_) $$ Hb
  · intro p hp
    have hp' : p ∈ (Rect.unit (s := S2x128x96) off S1x1x16.size inb).set := by
      rw [View.setOn, Finset.mem_map] at hp
      obtain ⟨x, hx, rfl⟩ := hp
      exact hx
    rw [Rect.mem_set_unit] at hp'
    have := hp' 0
    rw [mem_bSet]
    have h1 : S1x1x16.size 0 = 1 := rfl
    omega
  iintro Hb
  iapply (hk _)
  isplitl [HI]; · iexact HI
  isplitl [HT]; · iexact HT
  iexists f; isplitr; · ipureintro; exact hf
  iexact Hb

/-- The lanes a store writes are the loaded ones. -/
theorem lanes_apply (v : S1x1x1x16.Idx → Elt F .f32) (h1 : S1x1x1x16.ShapeCasts S16) (h2 : S16.ShapeCasts S1x1x16) (x : S1x1x16.Idx) (y : S1x1x1x16.Idx)
    (h : (y 3).val = (x 2).val) : shapeCast S1x1x16 (shapeCast S16 v h1) h2 x = v y := by
  have hx0 : (x 0).val = 0 := Nat.lt_one_iff.mp (x 0).isLt
  have hx1 : (x 1).val = 0 := Nat.lt_one_iff.mp (x 1).isLt
  have hy0 : (y 0).val = 0 := Nat.lt_one_iff.mp (y 0).isLt
  have hy1 : (y 1).val = 0 := Nat.lt_one_iff.mp (y 1).isLt
  have hy2 : (y 2).val = 0 := Nat.lt_one_iff.mp (y 2).isLt
  refine (shapeCast_apply _ h2 x (fun | ⟨0, _⟩ => ⟨(x 2).val, (x 2).isLt⟩) ?_).trans (shapeCast_apply _ h1 _ y ?_)
  · rw [Shape.rowMajor_val_one, Shape.rowMajor_val_three]
    show (x 2).val = ((x 0).val * 1 + (x 1).val) * 16 + (x 2).val
    omega
  · rw [Shape.rowMajor_val_one, Shape.rowMajor_val_four]
    show (((y 0).val * 1 + (y 1).val) * 1 + (y 2).val) * 16 + (y 3).val = (x 2).val
    omega

/-- A store of the next block. -/
theorem perm_store {off : Fin 3 → ℕ} {inb : ∀ a, off a + S1x1x16.size a ≤ S2x128x96.size a}
    {w : S1x1x16.Idx → Elt F .f32} {Mk : Finset S1x1x16.Idx} {hx : ((bV).access (Rect.unit (s := S2x128x96) off S1x1x16.size inb)).Stores Mk}
    {hm : Mk = Finset.univ ∨ ∀ a, (Rect.unit (s := S2x128x96) off S1x1x16.size inb).stride a = 1} {k : PUnit → PT F L α}
    {offT : Fin 4 → ℕ} {inbT : ∀ a, offT a + S1x1x1x16.size a ≤ S2x16x16x96.size a} {h1 : S1x1x1x16.ShapeCasts S16} {h2 : S16.ShapeCasts S1x1x16}
    {t jj j' : ℕ} {word : BitVec 32}
    (hM : Mk = Finset.univ)
    (ho : off = ![ob, 16 * t + jj / 6, 16 * (jj % 6)])
    (hw : w = shapeCast S1x1x16 (shapeCast S16 ((tV).view.readAt (Elt F) (Rect.unit (s := S2x16x16x96) offT S1x1x1x16.size inbT).toLoadRect T) h1) h2)
    (hoT : offT = ![tb, wa word, wb word, 16 * (jj % 6)])
    (hword : word = g (16 * t + jj / 6))
    (hj : jj + 1 = j')
    (hk : Tri d L (Perm d L tb ob I T g (96 * t + j')) (k ⟨⟩) Q) :
    Tri d L (Perm d L tb ob I T g (96 * t + jj)) (Prog.lift (.store bV (Rect.unit (s := S2x128x96) off S1x1x16.size inb) w Mk hx hm) >>= k) Q := by
  subst hM hw hword hj
  replace hk := hk.out
  refine ⟨?_⟩
  unfold Perm at hk ⊢
  iintro ⟨HI, HT, %f, %hf, Hb⟩
  iapply (wp_store 𝒱₀ (thr d L) none Set.univ (m := bV) (r := Rect.unit (s := S2x128x96) off S1x1x16.size inb) (hx := hx) (hm := hm) (S := bSet ob) (f := f) ?_) $$ Hb
  · intro p hp
    have hp' : p ∈ (Rect.unit (s := S2x128x96) off S1x1x16.size inb).set := by
      rw [View.setOn, Finset.mem_map] at hp
      obtain ⟨x, hx, rfl⟩ := hp
      exact Finset.mem_of_subset (Finset.subset_of_eq (Rect.map_emb_univ _)) (Finset.mem_map_of_mem _ hx)
    rw [Rect.mem_set_unit] at hp'
    have := hp' 0
    rw [mem_bSet]
    have h1 : S1x1x16.size 0 = 1 := rfl
    have h2 : off 0 = ob := by rw [ho]; rfl
    omega
  iintro Hb
  iapply hk
  isplitl [HI]; · iexact HI
  isplitl [HT]; · iexact HT
  iexists _; isplitr
  swap; · iexact Hb
  ipureintro
  intro p q hp0 hq0 hq1 hq2 hq3 hlt
  by_cases hp : p ∈ (Rect.unit (s := S2x128x96) off S1x1x16.size inb).set
  · rw [← Rect.map_emb_univ, Finset.mem_map] at hp
    obtain ⟨x, -, rfl⟩ := hp
    have hx0 : (x 0).val = 0 := Nat.lt_one_iff.mp (x 0).isLt
    have hx1 : (x 1).val = 0 := Nat.lt_one_iff.mp (x 1).isLt
    have e1 : ((Rect.unit (s := S2x128x96) off S1x1x16.size inb).emb x 1).val = 16 * t + jj / 6 := by
      rw [Rect.emb_apply]; subst ho; show 16 * t + jj / 6 + 1 * (x 1).val = _; omega
    have e2 : ((Rect.unit (s := S2x128x96) off S1x1x16.size inb).emb x 2).val = 16 * (jj % 6) + (x 2).val := by
      rw [Rect.emb_apply]; subst ho; show 16 * (jj % 6) + 1 * (x 2).val = _; omega
    refine (View.write_emb_of_mem (v := (bV).access (Rect.unit (s := S2x128x96) off S1x1x16.size inb)) _ _ (Finset.mem_univ x)).trans ?_
    refine (cast_eq _ _).trans ?_
    refine (lanes_apply _ _ _ x (fun | ⟨0, _⟩ => ⟨0, Nat.one_pos⟩ | ⟨1, _⟩ => ⟨0, Nat.one_pos⟩ | ⟨2, _⟩ => ⟨0, Nat.one_pos⟩ | ⟨3, _⟩ => ⟨(x 2).val, (x 2).isLt⟩) rfl).trans ?_
    show T _ = T q
    refine congrArg T (funext fun a => Fin.ext ?_)
    rw [e1] at hq1 hq2
    rw [e2] at hq3
    subst hoT
    match a with
    | ⟨0, _⟩ => exact hq0.symm
    | ⟨1, _⟩ => exact hq1.symm
    | ⟨2, _⟩ => exact hq2.symm
    | ⟨3, _⟩ => show 16 * (jj % 6) + 1 * (x 2).val = (q 3).val; omega
  · refine (View.write_of_not_mem (v := (bV).access (Rect.unit (s := S2x128x96) off S1x1x16.size inb)) _ _ _ ?_).trans ?_
    · intro h
      rw [View.setOn, Finset.mem_map] at h
      obtain ⟨x, hx, rfl⟩ := h
      exact hp (Finset.mem_of_subset (Finset.subset_of_eq (Rect.map_emb_univ _)) (Finset.mem_map_of_mem _ hx))
    · refine hf p q hp0 hq0 hq1 hq2 hq3 ?_
      by_contra hge
      refine hp (Rect.mem_set_unit.mpr fun a => ?_)
      have h2 : (p 2).val < 96 := (p 2).isLt
      subst ho
      match a with
      | ⟨0, _⟩ => show ob ≤ (p 0).val ∧ (p 0).val < ob + 1; omega
      | ⟨1, _⟩ => show 16 * t + jj / 6 ≤ (p 1).val ∧ (p 1).val < 16 * t + jj / 6 + 1; omega
      | ⟨2, _⟩ => show 16 * (jj % 6) ≤ (p 2).val ∧ (p 2).val < 16 * (jj % 6) + 16; omega

end Rules

end Cert.Proof.KI
-- ==== Proof.ArithKI.lean ====
/-
  The arithmetic of the addresses the tile computes: which rows of `x` a square's fetches read.
-/
module

public import proofs.«01_k».proof.Proof.PermuteKI

@[expose] public section

noncomputable section

namespace Cert.Proof.KI

open Cert.KernelIdeal Cert.KernelIdeal.Gen

open Idealize.ShloMosaic

variable {F : FTy → Type}

/-- The tile's number, and the half of `x` it reads. -/
abbrev wid (L : grid0.Coords) : ℕ := 2 * (L 1).val + (L 0).val
abbrev half (L : grid0.Coords) : ℕ := wid L / 16

/-- The first row of the square the position `w` of half `b` lies in. -/
def bs (b w : ℕ) : ℕ := b * 262144 + w / 8192 * 8192 + w % 512 / 16 * 16

theorem bs_le {b w r : ℕ} (hb : b < 2) (hw : w < 262144) (hr : r < 16) : bs b w + 512 * r + 16 ≤ 524288 := by
  unfold bs; omega

theorem shr_toNat {v : BitVec 32} (hv : v.toNat < 262144) (n : BitVec 32) (hn : n.toNat < 32) : (Scalar.shrsi v n).toNat = v.toNat >>> n.toNat := by
  have hm : v.msb = false := by
    rw [BitVec.msb_eq_false_iff_two_mul_lt]; omega
  show (if n.toNat < 32 then v.sshiftRight' n else _ : BitVec 32).toNat = _
  rw [if_pos hn]
  show (v.sshiftRight n.toNat).toNat = _
  rw [BitVec.toNat_sshiftRight_of_msb_false hm]

theorem wa_toNat {w : BitVec 32} (hw : w.toNat < 262144) : wa w = w.toNat / 512 % 16 := by
  show ((Scalar.shrsi w 9#32).toNat &&& 15) = _
  rw [shr_toNat hw 9#32 (by decide), show (9#32 : BitVec 32).toNat = 9 from rfl, Nat.shiftRight_eq_div_pow]
  exact Nat.and_two_pow_sub_one_eq_mod _ 4

theorem wb_toNat (w : BitVec 32) : wb w = w.toNat % 16 := by
  show (w.toNat &&& 15) = _
  exact Nat.and_two_pow_sub_one_eq_mod _ 4

/-- A position in the square of another is that square's row and column its own digits name. -/
theorem in_square {b w w0 : ℕ} (h1 : w / 8192 = w0 / 8192) (h2 : w % 512 / 16 = w0 % 512 / 16) :
    bs b w0 + 512 * (w / 512 % 16) + w % 16 = b * 262144 + w := by
  unfold bs; omega

/-- The half of `x` as the kernel divides it out. -/
theorem half_word : ∀ i : grid0.Coords,
    (let v1 : BitVec 32 := Scalar.addi (Scalar.muli (BitVec.ofNat 32 (i 1).val) 2#32) (BitVec.ofNat 32 (i 0).val)
     let v8 : BitVec 32 := Scalar.subi (Scalar.extui (Scalar.cmpi .sgt v1 0#32)) (Scalar.extui (Scalar.cmpi .slt v1 0#32))
     let v13 : BitVec 32 := Scalar.subi (Scalar.extui (Scalar.cmpi .sgt 16#32 0#32)) (Scalar.extui (Scalar.cmpi .slt 16#32 0#32))
     let v17 : BitVec 1 := Scalar.andi (Scalar.cmpi .ne v8 v13) (Scalar.cmpi .ne (Scalar.remsi v1 16#32) 0#32)
     let v3 : BitVec 32 := Scalar.divsi v1 16#32
     (Scalar.select v17 (Scalar.subi v3 1#32) v3 : BitVec 32)) = BitVec.ofNat 32 (half i) := by
  decide +kernel

/-- A row address out of the half, a word and the row of its square. -/
theorem row_word {b : ℕ} (hb : b < 2) {v : BitVec 32} (hv : v.toNat < 262144) {c : BitVec 32} (hc : c.toNat < 8192) :
    (Scalar.addi (Scalar.addi (Scalar.addi (Scalar.muli (BitVec.ofNat 32 b) 262144#32)
        (Scalar.muli (Scalar.shli (Scalar.shrsi (Scalar.shrsi v 9#32) 4#32) 4#32) 512#32))
        (Scalar.shli (Scalar.shrsi (Scalar.andi v 511#32) 4#32) 4#32)) c : BitVec 32).toNat = bs b v.toNat + c.toNat := by
  have e1 : (Scalar.shrsi v 9#32).toNat = v.toNat / 512 := by
    rw [shr_toNat hv 9#32 (by decide)]; exact Nat.shiftRight_eq_div_pow _ 9
  have e2 : (Scalar.shrsi (Scalar.shrsi v 9#32) 4#32).toNat = v.toNat / 8192 := by
    rw [shr_toNat (by rw [e1]; omega) 4#32 (by decide), e1]; exact (Nat.shiftRight_eq_div_pow _ 4).trans (by omega)
  have e3 : (Scalar.andi v 511#32).toNat = v.toNat % 512 := Nat.and_two_pow_sub_one_eq_mod _ 9
  have e4 : (Scalar.shrsi (Scalar.andi v 511#32) 4#32).toNat = v.toNat % 512 / 16 := by
    rw [shr_toNat (by rw [e3]; omega) 4#32 (by decide), e3]; exact Nat.shiftRight_eq_div_pow _ 4
  have sl : ∀ x : BitVec 32, x.toNat < 512 → (Scalar.shli x 4#32).toNat = x.toNat * 16 := fun x hx => by
    show (x <<< (4#32 : BitVec 32)).toNat = _
    rw [BitVec.shiftLeft_eq', BitVec.toNat_shiftLeft]
    show x.toNat <<< 4 % 2 ^ 32 = _
    rw [Nat.shiftLeft_eq]; omega
  have e5 : (Scalar.shli (Scalar.shrsi (Scalar.shrsi v 9#32) 4#32) 4#32).toNat = v.toNat / 8192 * 16 := by rw [sl _ (by rw [e2]; omega), e2]
  have e6 : (Scalar.shli (Scalar.shrsi (Scalar.andi v 511#32) 4#32) 4#32).toNat = v.toNat % 512 / 16 * 16 := by rw [sl _ (by rw [e4]; omega), e4]
  have e7 : (Scalar.muli (Scalar.shli (Scalar.shrsi (Scalar.shrsi v 9#32) 4#32) 4#32) 512#32).toNat = v.toNat / 8192 * 8192 := by
    show (_ * _ : BitVec 32).toNat = _
    rw [BitVec.toNat_mul, e5]; show _ * 512 % 2 ^ 32 = _; omega
  have e8 : (Scalar.muli (BitVec.ofNat 32 b) 262144#32).toNat = b * 262144 := by
    show (_ * _ : BitVec 32).toNat = _
    rw [BitVec.toNat_mul, BitVec.toNat_ofNat]; show b % 2 ^ 32 * 262144 % 2 ^ 32 = _; omega
  show (((_ + _ : BitVec 32) + _ : BitVec 32) + c : BitVec 32).toNat = _
  rw [BitVec.toNat_add, BitVec.toNat_add, BitVec.toNat_add, e6, e7, e8]
  unfold bs; omega

theorem half_lt (L : grid0.Coords) : half L < 2 := by
  have h1 : (L 1).val < 16 := (L 1).isLt
  have h0 : (L 0).val < 2 := (L 0).isLt
  unfold half wid; omega

/-- Where a fetch of a square reads, for a word in range. -/
theorem off2_eq {L : grid0.Coords} {v : BitVec 32} (hv : v.toNat < 262144) (r : Fin 16) :
    k0_off2 L v (BitVec.ofNat 32 (512 * r.val)) = ![bs (half L) v.toNat + 512 * r.val, 0] := by
  have e : (BitVec.ofNat 32 (512 * r.val)).toNat = 512 * r.val := by rw [BitVec.toNat_ofNat]; have := r.isLt; omega
  have h := row_word (half_lt L) hv (c := BitVec.ofNat 32 (512 * r.val)) (by rw [e]; have := r.isLt; omega)
  rw [← half_word L, e] at h
  exact congrArg (fun n => (![n, 0] : Fin 2 → ℕ)) h
theorem off3_eq {L : grid0.Coords} {v : BitVec 32} (hv : v.toNat < 262144) (r : Fin 16) :
    k0_off3 L v (BitVec.ofNat 32 (512 * r.val)) = ![bs (half L) v.toNat + 512 * r.val, 0] := off2_eq hv r
theorem off392_eq {L : grid0.Coords} {v : BitVec 32} (hv : v.toNat < 262144) (r : Fin 16) :
    k0_off392 L v (BitVec.ofNat 32 (512 * r.val)) = ![bs (half L) v.toNat + 512 * r.val, 0] := off2_eq hv r
theorem off781_eq {L : grid0.Coords} {v : BitVec 32} (hv : v.toNat < 262144) (r : Fin 16) :
    k0_off781 L v (BitVec.ofNat 32 (512 * r.val)) = ![bs (half L) v.toNat + 512 * r.val, 0] := off2_eq hv r

theorem off_inb {L : grid0.Coords} {off : Fin 2 → ℕ} {w : ℕ} (hw : w < 262144) (r : Fin 16) (h : off = ![bs (half L) w + 512 * r.val, 0]) :
    ∀ a, off a + S16x96.size a ≤ S524288x96.size a := by
  subst h
  intro a; fin_cases a
  · exact bs_le (half_lt L) hw r.isLt
  · show 0 + 96 ≤ 96; omega

/-- The multiples the kernel states of the rows it computes: the operand is a multiple of sixteen plus a multiple of sixteen. -/
theorem mult_dvd {L : grid0.Coords} {v : BitVec 32} (hv : v.toNat < 262144) (c : BitVec 32) (hc : c.toNat < 8192) (hd : 16 ∣ c.toNat) :
    16 ∣ (Scalar.addi (Scalar.addi (Scalar.addi (Scalar.muli (BitVec.ofNat 32 (half L)) 262144#32)
        (Scalar.muli (Scalar.shli (Scalar.shrsi (Scalar.shrsi v 9#32) 4#32) 4#32) 512#32))
        (Scalar.shli (Scalar.shrsi (Scalar.andi v 511#32) 4#32) 4#32)) c : BitVec 32).toNat := by
  rw [row_word (half_lt L) hv hc]; unfold bs; omega
theorem mult_dvd0 {L : grid0.Coords} {v : BitVec 32} (hv : v.toNat < 262144) :
    16 ∣ (Scalar.addi (Scalar.addi (Scalar.muli (BitVec.ofNat 32 (half L)) 262144#32)
        (Scalar.muli (Scalar.shli (Scalar.shrsi (Scalar.shrsi v 9#32) 4#32) 4#32) 512#32))
        (Scalar.shli (Scalar.shrsi (Scalar.andi v 511#32) 4#32) 4#32) : BitVec 32).toNat := by
  have h := mult_dvd (L := L) hv 0#32 (by decide) (by decide)
  rwa [show ∀ x : BitVec 32, Scalar.addi x 0#32 = x from fun x => BitVec.add_zero x] at h

theorem chk1_of {L : grid0.Coords} {v : BitVec 32} (hv : v.toNat < 262144) : k0_chk1 L v := by
  have h0 := mult_dvd0 (L := L) hv
  have h := fun c hc hd => mult_dvd (L := L) hv c hc hd
  rw [← half_word L] at h0 h
  unfold k0_chk1
  refine ⟨h0, h _ (by decide) (by decide), fun r => off_inb hv r (off2_eq hv r), ?_⟩
  repeat' (first | exact h _ (by decide) (by decide) | refine ⟨h _ (by decide) (by decide), ?_⟩)
theorem chk2_of {L : grid0.Coords} {v : BitVec 32} (hv : v.toNat < 262144) : k0_chk2 L v := chk1_of hv
theorem chk35_of {L : grid0.Coords} {t : Fin k0_t1_loop.trips} {v : BitVec 32} (hv : v.toNat < 262144) : k0_chk35 L t v := by
  have h := chk1_of (L := L) hv
  unfold k0_chk35
  obtain ⟨h1, h⟩ := h
  refine ⟨fun _ => h1, ?_⟩
  repeat' (first | exact fun _ => h | (obtain ⟨h1, h⟩ := h; refine ⟨fun _ => h1, ?_⟩))
theorem chk68_of {L : grid0.Coords} {t : Fin k0_t1_loop.trips} {v : BitVec 32} (hv : v.toNat < 262144) : k0_chk68 L t v := by
  have h := chk1_of (L := L) hv
  unfold k0_chk68
  obtain ⟨h1, h⟩ := h
  refine ⟨fun _ => h1, ?_⟩
  repeat' (first | exact fun _ => h | (obtain ⟨h1, h⟩ := h; refine ⟨fun _ => h1, ?_⟩))

/-- The rows of the words the tile reads. -/
theorem off1_eq : ∀ i : grid0.Coords, k0_off1 i = ![128 * (wid i % 16), 0] := by decide +kernel

/-- The loop's conditions. -/
theorem cond3_iff : ∀ t : Fin k0_t1_loop.trips, k0_cond3 t = 1#1 ↔ t.val < 31 := by decide +kernel
theorem cond6_iff : ∀ t : Fin k0_t1_loop.trips, k0_cond6 t = 1#1 ↔ t.val < 31 := by decide +kernel

end Cert.Proof.KI
-- ==== Proof.FetchKI.lean ====
/-
  The fetches of a square of rows into a half of the staging buffer: sixteen transfers outstanding on one semaphore, each
  of sixteen rows of `x` into a row of the square, started together and awaited together.
-/
module

public import proofs.«01_k».proof.Proof.ArithKI
public import Idealize.ShloMosaic.Lib.ValueLayout

@[expose] public section

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type}

/-- A square of rows of `x`, at the places its fetches put them. -/
def Sq (vx : S524288x96.Idx → Elt F .f32) (base : ℕ) : S2x16x16x96.Idx → Elt F .f32 := fun p =>
  vx (ix2 ⟨(base + 512 * (p 1).val + (p 2).val) % 524288, Nat.mod_lt _ (by decide)⟩ (p 3))

/-- The units a fetch's completion is counted in. -/
abbrev NF : ℕ := (((tV).slice (Rect.unit (s := S2x16x16x96) ![0, 0, 0, 0] S1x1x16x96.size inb_S2x16x16x96_S1x1x16x96_0_0_0_0) (fun _ => rfl)).squeeze S16x96 squeezes_S1x1x16x96_S16x96).view.dmaCredit

theorem NF_pos : 0 < NF := View.dmaCredit_pos _ (by decide)

section State
variable (d : Dev nD) (L : grid0.Coords) (vx : S524288x96.Idx → Elt F .f32) (sm : DmaSem sig) (tb base : ℕ) (q : PosShare TreeShare)

/-- What fetch `r` delivers: its row of the square filled, and the rows it read. -/
def Dl (r : Fin 16) : sProp (MM F) :=
  iprop(((tV).view.loc (thr d L) ↦[tRow tb r.val]{fullShare} Sq vx base) ∗ ((xV).view.loc (thr d L) ↦[xSet (base + 512 * r.val)]{q} vx))

instance Dl_storable (r : Fin 16) : Storable (upEmb : UEmb _ (MM F)) (Dl d L vx tb base q r) := by unfold Dl; infer_instance

/-- The rows a square's fetches read. -/
def sqSet : Finset S524288x96.Idx := (Finset.univ : Finset (Fin 16)).biUnion fun r => xSet (base + 512 * r.val)

/-- Fetches `0 … j - 1` of a square started. -/
def Fire (f : S2x16x16x96.Idx → Elt F .f32) (j : ℕ) : sProp (MM F) :=
  iprop(bigSep (pending (n := 16) j) (fun r => iprop(((tV).view.loc (thr d L) ↦[tRow tb r.val]{fullShare} f) ∗ ((xV).view.loc (thr d L) ↦[xSet (base + 512 * r.val)]{q} vx)))
    ∗ Batch countersEmb (thr d L) (.dma sm) (default : HIx 1) NF (Dl d L vx tb base q) j 0
    ∗ ((xV).view.loc (thr d L) ↦[Finset.univ \ sqSet base]{q} vx))

/-- All sixteen started, `j` waits made. -/
def Fl (j : ℕ) : sProp (MM F) :=
  iprop(Batch countersEmb (thr d L) (.dma sm) (default : HIx 1) NF (Dl d L vx tb base q) 16 (j * NF)
    ∗ ((xV).view.loc (thr d L) ↦[Finset.univ \ sqSet base]{q} vx))

/-- No fetch outstanding: a half of the staging buffer, a share of `x`, and the semaphore at zero. -/
def Idle (f : S2x16x16x96.Idx → Elt F .f32) : sProp (MM F) :=
  iprop(((tV).view.loc (thr d L) ↦[tSet tb]{fullShare} f) ∗ ((xV).view.loc (thr d L) ↦{q} vx) ∗ semVal (thr d L, .dma sm) 0)

/-- What the tile owes, through its waits. -/
def Ow (O : CellTallies nD τ sig (HIx 1)) (W : Waits sig (HIx 1)) : sProp (MM F) :=
  iprop(MayWaits (thr d L) (default : HIx 1) O ∗ ∃ W', ⌜∀ p ∈ W', p ∈ W ∨ p.2 = none⌝ ∗ owes (thr d L) O W')

end State

/-! ## The sets -/

theorem tRow_disj (tb : ℕ) : ∀ r ∈ (Finset.univ : Finset (Fin 16)), ∀ r' ∈ (Finset.univ : Finset (Fin 16)), r ≠ r' → Disjoint (tRow tb r.val) (tRow tb r'.val) := by
  intro r _ r' _ h
  rw [Finset.disjoint_left]
  intro p hp hp'
  rw [mem_tRow] at hp hp'
  exact h (Fin.ext (hp.2.symm.trans hp'.2))
theorem tRow_union (tb : ℕ) : (Finset.univ : Finset (Fin 16)).biUnion (fun r => tRow tb r.val) = tSet tb := by
  ext p
  simp only [Finset.mem_biUnion, Finset.mem_univ, true_and, mem_tRow, mem_tSet]
  exact ⟨fun ⟨_, h, _⟩ => h, fun h => ⟨⟨(p 1).val, (p 1).isLt⟩, h, rfl⟩⟩
theorem xSet_disj (base : ℕ) : ∀ r ∈ (Finset.univ : Finset (Fin 16)), ∀ r' ∈ (Finset.univ : Finset (Fin 16)), r ≠ r' →
    Disjoint (xSet (base + 512 * r.val)) (xSet (base + 512 * r'.val)) := by
  intro r _ r' _ h
  rw [Finset.disjoint_left]
  intro p hp hp'
  rw [mem_xSet] at hp hp'
  exact h (Fin.ext (by omega))

/-! ## Starting and ending -/

section Ends
variable {d : Dev nD} {L : grid0.Coords} {vx : S524288x96.Idx → Elt F .f32} {sm : DmaSem sig} {tb base : ℕ} {q : PosShare TreeShare}

theorem fire_start (base : ℕ) {f : S2x16x16x96.Idx → Elt F .f32} : Idle d L vx sm tb q f ⊢ |={Set.univ}=> Fire d L vx sm tb base q f 0 := by
  unfold Idle Fire
  iintro ⟨Ht, Hx, Hv⟩
  imod (batch_alloc' countersEmb (thr d L) (default : HIx 1) NF (Dl d L vx tb base q) (sm := .dma sm) (E := Set.univ)) $$ Hv with HB
  imodintro
  ihave Hx' := (pointsTo_split_subset (f := vx) (q := q) (Finset.subset_univ (sqSet base))).1 $$ Hx
  icases Hx' with ⟨Hx, Hr⟩
  isplitl [Ht Hx]
  · iapply (show iprop(((tV).view.loc (thr d L) ↦[tSet tb]{fullShare} f) ∗ ((xV).view.loc (thr d L) ↦[sqSet base]{q} vx)) ⊢ _ from by
      rw [← tRow_union tb, pointsTo_biUnion _ _ (tRow_disj tb), sqSet, pointsTo_biUnion _ _ (xSet_disj base), pending_zero, ← bigSep_sep'])
    isplitl [Ht]; · iexact Ht
    iexact Hx
  isplitl [HB]; · iexact HB
  iexact Hr

theorem fire_end {f : S2x16x16x96.Idx → Elt F .f32} : Fire d L vx sm tb base q f 16 ⊢ Fl d L vx sm tb base q 0 := by
  unfold Fire Fl
  rw [Nat.zero_mul]
  iintro ⟨-, HB, Hr⟩
  isplitl [HB]; · iexact HB
  iexact Hr

theorem fl_end : iprop(bigSep Finset.univ (Dl d L vx tb base q) ∗ ((xV).view.loc (thr d L) ↦[Finset.univ \ sqSet base]{q} vx) ∗ semVal (thr d L, .dma sm) 0)
    ⊢ Idle d L vx sm tb q (Sq vx base) := by
  unfold Idle
  iintro ⟨HD, Hr, Hv⟩
  ihave HD' := (show bigSep Finset.univ (Dl d L vx tb base q) ⊢ iprop(((tV).view.loc (thr d L) ↦[tSet tb]{fullShare} Sq vx base) ∗ ((xV).view.loc (thr d L) ↦[sqSet base]{q} vx)) from by
    rw [← tRow_union tb, pointsTo_biUnion _ _ (tRow_disj tb), sqSet, pointsTo_biUnion _ _ (xSet_disj base), ← bigSep_sep']
    exact Entails.of_eq rfl) $$ HD
  icases HD' with ⟨Ht, Hx⟩
  isplitl [Ht]; · iexact Ht
  isplitl [Hx Hr]
  · iapply (pointsTo_split_subset (f := vx) (q := q) (Finset.subset_univ (sqSet base))).2
    isplitl [Hx]; · iexact Hx
    iexact Hr
  iexact Hv
end Ends

/-! ## The rules -/

section Rules
variable [FloatOps F] {d : Dev nD} {L : grid0.Coords} {α : Type} {vx : S524288x96.Idx → Elt F .f32} {sm : DmaSem sig} {tb base : ℕ} {q : PosShare TreeShare}
  {f : S2x16x16x96.Idx → Elt F .f32} {X : sProp (MM F)} {Q : α → sProp (MM F)}

theorem tri_fupd {R R' : sProp (MM F)} {p : PT F L α} (h : R ⊢ |={Set.univ}=> R') (hk : Tri d L R' p Q) : Tri d L R p Q :=
  ⟨h.trans ((fupd_mono hk.out).trans (fupd_wp _ _ _ p Q))⟩

/-- Where an element of the row of a square lies in the staging buffer. -/
theorem row_emb {off : Fin 4 → ℕ} {inb : ∀ a, off a + S1x1x16x96.size a ≤ S2x16x16x96.size a} {sq : S1x1x16x96.Squeezes S16x96} {tb j : ℕ}
    (ho : off = ![tb, j, 0, 0]) (a : Fin 16) (b : Fin 96) (p : S2x16x16x96.Idx) (h0 : (p 0).val = tb) (h1 : (p 1).val = j) (h2 : (p 2).val = a.val) (h3 : (p 3).val = b.val) :
    (((tV).slice (Rect.unit (s := S2x16x16x96) off S1x1x16x96.size inb) (fun _ => rfl)).squeeze S16x96 sq).view.emb (ix2 a b) = p := by
  show (Rect.unit (s := S2x16x16x96) off S1x1x16x96.size inb).emb (Shape.reshapeEquiv sq.numel_eq (ix2 a b)) = p
  rw [show Shape.reshapeEquiv sq.numel_eq (ix2 a b) = _ from reshapeEquiv_ix2_11ab sq.numel_eq a b]
  subst ho
  funext x
  refine Fin.ext ?_
  match x with
  | ⟨0, _⟩ => show tb + 1 * 0 = (p 0).val; omega
  | ⟨1, _⟩ => show j + 1 * 0 = (p 1).val; omega
  | ⟨2, _⟩ => show 0 + 1 * a.val = (p 2).val; omega
  | ⟨3, _⟩ => show 0 + 1 * b.val = (p 3).val; omega

/-- The next fetch of a square. -/
theorem fire_step {off : Fin 2 → ℕ} {inb : ∀ a, off a + S16x96.size a ≤ S524288x96.size a}
    {off2 : Fin 4 → ℕ} {inb2 : ∀ a, off2 a + S1x1x16x96.size a ≤ S2x16x16x96.size a} {sq : S1x1x16x96.Squeezes S16x96}
    {h1 : ((xV).slice (Rect.unit (s := S524288x96) off S16x96.size inb) (fun _ => rfl)).view.WordExact}
    {h2 : (((tV).slice (Rect.unit (s := S2x16x16x96) off2 S1x1x16x96.size inb2) (fun _ => rfl)).squeeze S16x96 sq).view.WordExact}
    {h3 : DmaTarget.Typed (nD := nD) (τ := τ) (p := (.scVector (cV L) (jV L) : Proc τ)) .hbm (.dma sm) (.here (((tV).slice (Rect.unit (s := S2x16x16x96) off2 S1x1x16x96.size inb2) (fun _ => rfl)).squeeze S16x96 sq))}
    {k : PUnit → PT F L α} {j j' : ℕ} (hj : j < 16)
    (ho : off = ![base + 512 * j, 0]) (ho2 : off2 = ![tb, j, 0, 0]) (hj' : j + 1 = j')
    (hk : Tri d L iprop(Fire d L vx sm tb base q f j' ∗ X) (k ⟨⟩) Q) :
    Tri d L iprop(Fire d L vx sm tb base q f j ∗ X)
      (Prog.lift (.enqueueDma ((xV).slice (Rect.unit (s := S524288x96) off S16x96.size inb) (fun _ => rfl))
        (.here (((tV).slice (Rect.unit (s := S2x16x16x96) off2 S1x1x16x96.size inb2) (fun _ => rfl)).squeeze S16x96 sq)) (.dma sm) h1 h2 h3) >>= k) Q := by
  subst hj'
  have hb : base + 512 * j + 16 ≤ 524288 := by have := inb 0; rw [ho] at this; exact this
  have hset : ((xV).slice (Rect.unit (s := S524288x96) off S16x96.size inb) (fun _ => rfl)).view.set = xSet (base + 512 * j) := by
    refine (View.set_slice_whole _ _).trans ?_
    ext p
    rw [Rect.mem_set_unit, mem_xSet]
    subst ho
    refine ⟨fun h => h 0, fun h a => ?_⟩
    match a with
    | ⟨0, _⟩ => exact h
    | ⟨1, _⟩ => exact ⟨Nat.zero_le _, (Nat.zero_add 96).symm ▸ (p 1).isLt⟩
  replace hk := hk.out
  refine ⟨?_⟩
  unfold Fire at hk ⊢
  rw [bigSep_pending_step _ j hj]
  iintro ⟨⟨⟨⟨Ht, Hx⟩, Hp⟩, HB, Hr⟩, HX⟩
  iapply (wp_dmaBatch countersEmb 𝒱₀ (thr d L) none (src := (xV).slice (Rect.unit (s := S524288x96) off S16x96.size inb) (fun _ => rfl))
    (dst := ((tV).slice (Rect.unit (s := S2x16x16x96) off2 S1x1x16x96.size inb2) (fun _ => rfl)).squeeze S16x96 sq) (sm := .dma sm)
    (q := q) (fs := vx) (Sd := tRow tb j) (fd := f) (D := Dl d L vx tb base q)
    (default : HIx 1) NF rfl ?_ hj (Nat.zero_le _) ?_) $$ [Ht Hx HB]
  · intro p hp
    obtain ⟨y, -, rfl⟩ := Finset.mem_map.mp hp
    obtain ⟨a, b, rfl⟩ : ∃ a b, y = ix2 a b := ⟨y 0, y 1, by funext x; match x with | ⟨0, _⟩ => rfl | ⟨1, _⟩ => rfl⟩
    have hj2 : tb < 2 := by have := inb2 0; rw [ho2] at this; exact this
    rw [row_emb ho2 a b (ix4 ⟨tb, hj2⟩ ⟨j, hj⟩ a b) rfl rfl rfl rfl]
    rw [mem_tRow]; exact ⟨rfl, rfl⟩
  · unfold Dl
    rw [hset]
    refine Entails.of_eq (congrArg (fun z => iprop(z ∗ _)) (pointsTo_congr fun p hp => ?_))
    rw [mem_tRow] at hp
    have e := row_emb (inb := inb2) (sq := sq) ho2 (p 2) (p 3) p hp.1 hp.2 rfl rfl
    rw [← e]
    refine (View.write_emb_of_mem _ _ (Finset.mem_univ _)).trans ?_
    rw [e]
    show vx _ = vx _
    refine congrArg vx (funext fun x => Fin.ext ?_)
    have h2 : (p 2).val < 16 := (p 2).isLt
    subst ho
    match x with
    | ⟨0, _⟩ => show base + 512 * j + 1 * (p 2).val = (base + 512 * (p 1).val + (p 2).val) % 524288; rw [hp.2]; omega
    | ⟨1, _⟩ => show 0 + 1 * (p 3).val = (p 3).val; omega
  · rw [hset]
    isplitl [Hx]; · iexact Hx
    isplitl [Ht]; · iexact Ht
    iexact HB
  iintro HB
  iapply hk
  isplitr [HX]
  · isplitl [Hp]; · iexact Hp
    isplitl [HB]; · iexact HB
    iexact Hr
  iexact HX

variable {O : CellTallies nD τ sig (HIx 1)} {W : Waits sig (HIx 1)}

theorem ow_insert {sm : SemLoc sig} {W' : Waits sig (HIx 1)} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-- A wait before the last. -/
theorem wait_step {s' : Shape} {e' : EltTy} {sp' : Space} {srcw : Memref sig .scVector sp' s' e'} {hsrc : srcw.view.WordExact}
    {off2 : Fin 4 → ℕ} {inb2 : ∀ a, off2 a + S1x1x16x96.size a ≤ S2x16x16x96.size a} {sq : S1x1x16x96.Squeezes S16x96}
    {h2 : (((tV).slice (Rect.unit (s := S2x16x16x96) off2 S1x1x16x96.size inb2) (fun _ => rfl)).squeeze S16x96 sq).view.WordExact}
    {k : PUnit → PT F L α} {j j' : ℕ} (hj : j + 1 < 16) (hj' : j + 1 = j')
    (hk : Tri d L iprop(Fl d L vx sm tb base q j' ∗ Ow d L O W ∗ X) (k ⟨⟩) Q) :
    Tri d L iprop(Fl d L vx sm tb base q j ∗ Ow d L O W ∗ X)
      (Prog.lift (.waitDma2 sm srcw (((tV).slice (Rect.unit (s := S2x16x16x96) off2 S1x1x16x96.size inb2) (fun _ => rfl)).squeeze S16x96 sq) hsrc h2) >>= k) Q := by
  subst hj'
  replace hk := hk.out
  refine ⟨?_⟩
  unfold Fl Ow at hk ⊢
  iintro ⟨⟨HB, Hr⟩, ⟨#HM, %W', %hW, HO⟩, HX⟩
  ihave HM' := (MayWaits.elim (SemLoc.dma sm)) $$ HM
  iapply (wp_waitBatchO countersEmb 𝒱₀ (thr d L) none (srcw := srcw) (dstw := ((tV).slice (Rect.unit (s := S2x16x16x96) off2 S1x1x16x96.size inb2) (fun _ => rfl)).squeeze S16x96 sq) (hsrc := hsrc) (hdst := h2) (default : HIx 1) (N := NF) rfl
    (show j * NF + NF < NF * 16 by have := NF_pos; nlinarith)) $$ [HB HO HM']
  · isplitl [HB]; · iexact HB
    isplitl [HO]; · iexact HO
    iexact HM'
  iintro ⟨HB, HO⟩
  iapply hk
  isplitl [HB Hr]
  · isplitl [HB]
    · rw [Nat.succ_mul]; iexact HB
    iexact Hr
  isplitl [HO]
  · isplitr; · iexact HM
    iexists _; isplitr
    swap; · iexact HO
    ipureintro; exact ow_insert hW
  iexact HX

/-- The last wait. -/
theorem wait_last {s' : Shape} {e' : EltTy} {sp' : Space} {srcw : Memref sig .scVector sp' s' e'} {hsrc : srcw.view.WordExact}
    {off2 : Fin 4 → ℕ} {inb2 : ∀ a, off2 a + S1x1x16x96.size a ≤ S2x16x16x96.size a} {sq : S1x1x16x96.Squeezes S16x96}
    {h2 : (((tV).slice (Rect.unit (s := S2x16x16x96) off2 S1x1x16x96.size inb2) (fun _ => rfl)).squeeze S16x96 sq).view.WordExact}
    {k : PUnit → PT F L α} {j : ℕ} (hj : j + 1 = 16)
    (hk : Tri d L iprop(Idle d L vx sm tb q (Sq vx base) ∗ Ow d L O W ∗ X) (k ⟨⟩) Q) :
    Tri d L iprop(Fl d L vx sm tb base q j ∗ Ow d L O W ∗ X)
      (Prog.lift (.waitDma2 sm srcw (((tV).slice (Rect.unit (s := S2x16x16x96) off2 S1x1x16x96.size inb2) (fun _ => rfl)).squeeze S16x96 sq) hsrc h2) >>= k) Q := by
  obtain rfl : j = 15 := by omega
  replace hk := hk.out
  refine ⟨?_⟩
  unfold Ow at hk ⊢
  unfold Fl
  iintro ⟨⟨HB, Hr⟩, ⟨#HM, %W', %hW, HO⟩, HX⟩
  ihave HM' := (MayWaits.elim (SemLoc.dma sm)) $$ HM
  iapply (wp_waitBatchLastO countersEmb 𝒱₀ (thr d L) none (srcw := srcw) (dstw := ((tV).slice (Rect.unit (s := S2x16x16x96) off2 S1x1x16x96.size inb2) (fun _ => rfl)).squeeze S16x96 sq) (hsrc := hsrc) (hdst := h2) (default : HIx 1) (N := NF) rfl NF_pos
    (show 15 * NF + NF = NF * 16 by omega)) $$ [HB HO HM']
  · isplitl [HB]; · iexact HB
    isplitl [HO]; · iexact HO
    iexact HM'
  iintro ⟨HD, Hv, HO⟩
  iapply hk
  isplitl [HD Hv Hr]
  · iapply fl_end
    isplitl [HD]; · iexact HD
    isplitl [Hr]; · iexact Hr
    iexact Hv
  isplitl [HO]
  · isplitr; · iexact HM
    iexists _; isplitr
    swap; · iexact HO
    ipureintro; exact ow_insert hW
  iexact HX

end Rules

end Cert.Proof.KI
-- ==== Proof.HalvesKI.lean ====
/-
  The two halves of the buffer the result's blocks are assembled in: each is assembled, written out by one transfer on
  its own semaphore, and awaited before it is assembled again.
-/
module

public import proofs.«01_k».proof.Proof.FetchKI

@[expose] public section

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type}

/-- Block `k` of the tile's rows of the result. -/
def blk (L : grid0.Coords) (k : ℕ) : Finset S524288x96.Idx := oSet (16384 * wid L + 128 * k) (16384 * wid L + 128 * k + 128)

/-- The units a write-out's completion is counted in. -/
abbrev NO : ℕ := ((oV).slice (Rect.unit (s := S524288x96) ![0, 0] S128x96.size inb_S524288x96_S128x96_0_0) (fun _ => rfl)).view.dmaCredit

theorem NO_pos : 0 < NO := View.dmaCredit_pos _ (by decide)

/-- The blocks of a half written before its `t`-th. -/
def done (t : ℕ) : Finset (Fin 64) := Finset.univ.filter fun j => j.val < t

theorem done_zero : done 0 = ∅ := by
  ext j; simp [done]
theorem done_succ {t : ℕ} (ht : t < 64) : done (t + 1) = insert ⟨t, ht⟩ (done t) := by
  ext j; simp only [done, Finset.mem_filter, Finset.mem_univ, true_and, Finset.mem_insert, Fin.ext_iff]; omega
theorem not_mem_done {t : ℕ} (ht : t < 64) : (⟨t, ht⟩ : Fin 64) ∉ done t := by simp [done]
theorem done_all : done 64 = Finset.univ := by
  ext j; simp only [done, Finset.mem_filter, Finset.mem_univ, true_and, iff_true]; exact j.isLt

section State
variable (d : Dev nD) (L : grid0.Coords) (res g0 : S524288x96.Idx → Elt F .f32) (h : ℕ) (sm : DmaSem sig)

/-- The blocks of half `h` written before its `t`-th, at their values. -/
def DoneS (t : ℕ) : sProp (MM F) := bigSep (done t) fun j => (oV).view.loc (thr d L) ↦[blk L (2 * j.val + h)]{fullShare} res
/-- Those from its `t`-th on, as they were. -/
def TodoS (t : ℕ) : sProp (MM F) := bigSep (pending (n := 64) t) fun j => (oV).view.loc (thr d L) ↦[blk L (2 * j.val + h)]{fullShare} g0

/-- No write-out outstanding, `t` made; the half holds `f`. -/
def HW (t : ℕ) (f : S2x128x96.Idx → Elt F .f32) : sProp (MM F) :=
  iprop(((bV).view.loc (thr d L) ↦[bSet h]{fullShare} f) ∗ semVal (thr d L, .dma sm) 0 ∗ DoneS d L res h t ∗ TodoS d L g0 h t)

/-- `t` write-outs started, the last not awaited. -/
def HS : ℕ → sProp (MM F)
  | 0 => iprop(∃ f, HW d L res g0 h sm 0 f)
  | t + 1 => iprop(Flight countersEmb (thr d L) (.dma sm) (default : HIx 1) NO
        iprop(((oV).view.loc (thr d L) ↦[blk L (2 * t + h)]{fullShare} res) ∗ ∃ f, ((bV).view.loc (thr d L) ↦[bSet h]{fullShare} f))
      ∗ DoneS d L res h t ∗ TodoS d L g0 h (t + 1))

/-- A half holds block `k` of the result. -/
def Good (k : ℕ) (f : S2x128x96.Idx → Elt F .f32) : Prop :=
  ∀ (p : S2x128x96.Idx) (r : S524288x96.Idx), (p 0).val = h → (r 0).val = 16384 * wid L + 128 * k + (p 1).val → (r 1).val = (p 2).val → f p = res r

end State

section Rules
variable [FloatOps F] {d : Dev nD} {L : grid0.Coords} {α : Type} {res g0 : S524288x96.Idx → Elt F .f32} {h : ℕ} {sm : DmaSem sig}
  {O : CellTallies nD τ sig (HIx 1)} {W : Waits sig (HIx 1)} {X : sProp (MM F)} {Q : α → sProp (MM F)}

theorem doneS_succ {t : ℕ} (ht : t < 64) :
    DoneS d L res h (t + 1) = iprop(((oV).view.loc (thr d L) ↦[blk L (2 * t + h)]{fullShare} res) ∗ DoneS d L res h t) := by
  unfold DoneS; rw [done_succ ht, bigSep_insert (not_mem_done ht)]; rfl

theorem todoS_succ {t : ℕ} (ht : t < 64) :
    TodoS d L g0 h t = iprop(((oV).view.loc (thr d L) ↦[blk L (2 * t + h)]{fullShare} g0) ∗ TodoS d L g0 h (t + 1)) := by
  unfold TodoS; exact bigSep_pending_step _ t ht

/-- The wait for a half's last write-out. -/
theorem hs_wait {t : ℕ} {srcw : Memref sig .scVector .vmem S128x96 .f32} {hsrc : srcw.view.WordExact}
    {off : Fin 2 → ℕ} {inb : ∀ a, off a + S128x96.size a ≤ S524288x96.size a}
    {hdst : ((oV).slice (Rect.unit (s := S524288x96) off S128x96.size inb) (fun _ => rfl)).view.WordExact}
    {k : PUnit → PT F L α} (ht : t < 64)
    (hk : Tri d L iprop((∃ f, HW d L res g0 h sm (t + 1) f) ∗ Ow d L O W ∗ X) (k ⟨⟩) Q) :
    Tri d L iprop(HS d L res g0 h sm (t + 1) ∗ Ow d L O W ∗ X)
      (Prog.lift (.waitDma2 sm srcw ((oV).slice (Rect.unit (s := S524288x96) off S128x96.size inb) (fun _ => rfl)) hsrc hdst) >>= k) Q := by
  replace hk := hk.out
  refine ⟨?_⟩
  unfold HW Ow at hk
  rw [doneS_succ ht] at hk
  unfold HS Ow
  iintro ⟨⟨HF, HD, HT⟩, ⟨#HM, %W', %hW, HO⟩, HX⟩
  ihave HM' := (MayWaits.elim (SemLoc.dma sm)) $$ HM
  iapply (wp_waitLocalO countersEmb 𝒱₀ (thr d L) none (srcw := srcw) (dstw := (oV).slice (Rect.unit (s := S524288x96) off S128x96.size inb) (fun _ => rfl))
    (hsrc := hsrc) (hdst := hdst) (default : HIx 1) (N := NO) rfl) $$ [HF HO HM']
  · isplitl [HF]; · iexact HF
    isplitl [HO]; · iexact HO
    iexact HM'
  iintro ⟨⟨Hb, %f, Hf⟩, Hv, HO⟩
  iapply hk
  isplitl [Hb Hf Hv HD HT]
  · iexists f
    isplitl [Hf]; · iexact Hf
    isplitl [Hv]; · iexact Hv
    isplitr [HT]
    · isplitl [Hb]; · iexact Hb
      iexact HD
    iexact HT
  isplitl [HO]
  · isplitr; · iexact HM
    iexists _; isplitr
    swap; · iexact HO
    ipureintro; exact ow_insert hW
  iexact HX

/-- The wait before a half is assembled again: there is none the first time. -/
theorem hs_if {t : ℕ} {c : Prop} {dc : Decidable c} {srcw : Memref sig .scVector .vmem S128x96 .f32} {hsrc : srcw.view.WordExact}
    {off : Fin 2 → ℕ} {inb : ∀ a, off a + S128x96.size a ≤ S524288x96.size a}
    {hdst : ((oV).slice (Rect.unit (s := S524288x96) off S128x96.size inb) (fun _ => rfl)).view.WordExact}
    {k : PT F L α} (hc : c ↔ t ≠ 0) (ht : t < 64)
    (hk : Tri d L iprop((∃ f, HW d L res g0 h sm t f) ∗ Ow d L O W ∗ X) k Q) :
    Tri d L iprop(HS d L res g0 h sm t ∗ Ow d L O W ∗ X)
      (if _ : c then Prog.lift (.waitDma2 sm srcw ((oV).slice (Rect.unit (s := S524288x96) off S128x96.size inb) (fun _ => rfl)) hsrc hdst) >>= fun _ => k else k) Q := by
  split
  · next h1 =>
    obtain ⟨u, rfl⟩ := Nat.exists_eq_succ_of_ne_zero (hc.mp h1)
    exact hs_wait (by omega) hk
  · next h1 =>
    obtain rfl : t = 0 := by by_contra h2; exact h1 (hc.mpr h2)
    exact hk

/-- Where an element of a half lies. -/
theorem half_emb {off : Fin 3 → ℕ} {inb : ∀ a, off a + S1x128x96.size a ≤ S2x128x96.size a} {sq : S1x128x96.Squeezes S128x96}
    (ho : off = ![h, 0, 0]) (a : Fin 128) (b : Fin 96) (p : S2x128x96.Idx) (h0 : (p 0).val = h) (h1 : (p 1).val = a.val) (h2 : (p 2).val = b.val) :
    (((bV).slice (Rect.unit (s := S2x128x96) off S1x128x96.size inb) (fun _ => rfl)).squeeze S128x96 sq).view.emb (ix2 a b) = p := by
  show (Rect.unit (s := S2x128x96) off S1x128x96.size inb).emb (Shape.reshapeEquiv sq.numel_eq (ix2 a b)) = p
  rw [show Shape.reshapeEquiv sq.numel_eq (ix2 a b) = _ from reshapeEquiv_ix2_1ab sq.numel_eq a b]
  subst ho
  funext x
  refine Fin.ext ?_
  match x with
  | ⟨0, _⟩ => show h + 1 * 0 = (p 0).val; omega
  | ⟨1, _⟩ => show 0 + 1 * a.val = (p 1).val; omega
  | ⟨2, _⟩ => show 0 + 1 * b.val = (p 2).val; omega

/-- The start of a half's write-out. -/
theorem hs_start {t : ℕ} {P : (S2x128x96.Idx → Elt F .f32) → Prop}
    {off : Fin 3 → ℕ} {inb : ∀ a, off a + S1x128x96.size a ≤ S2x128x96.size a} {sq : S1x128x96.Squeezes S128x96}
    {off2 : Fin 2 → ℕ} {inb2 : ∀ a, off2 a + S128x96.size a ≤ S524288x96.size a}
    {h1 : (((bV).slice (Rect.unit (s := S2x128x96) off S1x128x96.size inb) (fun _ => rfl)).squeeze S128x96 sq).view.WordExact}
    {h2 : ((oV).slice (Rect.unit (s := S524288x96) off2 S128x96.size inb2) (fun _ => rfl)).view.WordExact}
    {h3 : DmaTarget.Typed (nD := nD) (τ := τ) (p := (.scVector (cV L) (jV L) : Proc τ)) .vmem (.dma sm) (.here ((oV).slice (Rect.unit (s := S524288x96) off2 S128x96.size inb2) (fun _ => rfl)))}
    {k : PUnit → PT F L α} (ht : t < 64)
    (ho : off = ![h, 0, 0]) (ho2 : off2 = ![16384 * wid L + 128 * (2 * t + h), 0]) (hP : ∀ f, P f → Good L res h (2 * t + h) f)
    (hk : Tri d L iprop(HS d L res g0 h sm (t + 1) ∗ Ow d L O W ∗ X) (k ⟨⟩) Q) :
    Tri d L iprop((∃ f, ⌜P f⌝ ∗ HW d L res g0 h sm t f) ∗ Ow d L O W ∗ X)
      (Prog.lift (.enqueueDma (((bV).slice (Rect.unit (s := S2x128x96) off S1x128x96.size inb) (fun _ => rfl)).squeeze S128x96 sq)
        (.here ((oV).slice (Rect.unit (s := S524288x96) off2 S128x96.size inb2) (fun _ => rfl))) (.dma sm) h1 h2 h3) >>= k) Q := by
  have hh : h < 2 := by have := inb 0; rw [ho] at this; exact this
  have hsrc : (((bV).slice (Rect.unit (s := S2x128x96) off S1x128x96.size inb) (fun _ => rfl)).squeeze S128x96 sq).view.set = bSet h := by
    ext p
    rw [mem_bSet]
    refine ⟨fun hp => ?_, fun hp => ?_⟩
    · obtain ⟨y, -, rfl⟩ := Finset.mem_map.mp hp
      obtain ⟨a, b, rfl⟩ : ∃ a b, y = ix2 a b := ⟨y 0, y 1, by funext x; match x with | ⟨0, _⟩ => rfl | ⟨1, _⟩ => rfl⟩
      rw [half_emb ho a b (ix3 ⟨h, hh⟩ a b) rfl rfl rfl]
    · rw [← half_emb (inb := inb) (sq := sq) ho (p 1) (p 2) p hp rfl rfl]
      exact Finset.mem_map_of_mem _ (Finset.mem_univ _)
  have hdst : ∀ p, p ∈ blk L (2 * t + h) → ∃ y : S128x96.Idx, ((oV).slice (Rect.unit (s := S524288x96) off2 S128x96.size inb2) (fun _ => rfl)).view.emb y = p
      ∧ (p 0).val = 16384 * wid L + 128 * (2 * t + h) + (y 0).val ∧ (p 1).val = (y 1).val := by
    intro p hp
    unfold blk at hp
    rw [mem_oSet] at hp
    refine ⟨ix2 ⟨(p 0).val - (16384 * wid L + 128 * (2 * t + h)), by omega⟩ (p 1), ?_, ?_, rfl⟩
    · subst ho2
      funext x
      refine Fin.ext ?_
      match x with
      | ⟨0, _⟩ => show 16384 * wid L + 128 * (2 * t + h) + 1 * ((p 0).val - (16384 * wid L + 128 * (2 * t + h))) = (p 0).val; omega
      | ⟨1, _⟩ => show 0 + 1 * (p 1).val = (p 1).val; omega
    · show (p 0).val = 16384 * wid L + 128 * (2 * t + h) + ((p 0).val - (16384 * wid L + 128 * (2 * t + h))); omega
  replace hk := hk.out
  refine ⟨?_⟩
  unfold HS at hk
  unfold HW
  rw [todoS_succ ht]
  iintro ⟨⟨%f, %hf, Hb, Hv, HD, Ho, HT⟩, HO, HX⟩
  iapply (wp_dmaLocal countersEmb 𝒱₀ (thr d L) none (src := ((bV).slice (Rect.unit (s := S2x128x96) off S1x128x96.size inb) (fun _ => rfl)).squeeze S128x96 sq)
    (dst := (oV).slice (Rect.unit (s := S524288x96) off2 S128x96.size inb2) (fun _ => rfl)) (sm := .dma sm)
    (q := fullShare) (fs := f) (Sd := blk L (2 * t + h)) (fd := g0) (default : HIx 1) NO rfl NO_pos ?_) $$ [Hb Ho Hv]
  · intro p hp
    obtain ⟨y, -, rfl⟩ := Finset.mem_map.mp hp
    unfold blk
    rw [mem_oSet]
    have hy : (y 0).val < 128 := (y 0).isLt
    subst ho2
    show _ ≤ 16384 * wid L + 128 * (2 * t + h) + 1 * (y 0).val ∧ 16384 * wid L + 128 * (2 * t + h) + 1 * (y 0).val < _
    omega
  · rw [hsrc]
    isplitl [Hb]; · iexact Hb
    isplitl [Ho]; · iexact Ho
    iexact Hv
  iintro HF
  iapply hk
  isplitr [HO HX]
  · isplitl [HF]
    · iapply (Flight_mono countersEmb (thr d L) (?_ : _ ⊢ _)) $$ HF
      rw [hsrc]
      iintro ⟨Ho, Hb⟩
      isplitl [Ho]
      · iapply (Entails.of_eq (pointsTo_congr (g := res) fun p hp => ?_)) $$ Ho
        obtain ⟨y, e, e0, e1⟩ := hdst p hp
        rw [← e]
        refine (View.write_emb_of_mem _ _ (Finset.mem_univ _)).trans ?_
        rw [e]
        obtain ⟨a, b, rfl⟩ : ∃ a b, y = ix2 a b := ⟨y 0, y 1, by funext x; match x with | ⟨0, _⟩ => rfl | ⟨1, _⟩ => rfl⟩
        show f ((((bV).slice (Rect.unit (s := S2x128x96) off S1x128x96.size inb) (fun _ => rfl)).squeeze S128x96 sq).view.emb (ix2 a b)) = res p
        rw [half_emb ho a b (ix3 ⟨h, hh⟩ a b) rfl rfl rfl]
        exact hP f hf _ _ rfl e0 e1
      · iexists f; iexact Hb
    isplitl [HD]; · iexact HD
    iexact HT
  isplitl [HO]; · iexact HO
  iexact HX

/-- The loop that assembles a half. -/
theorem hs_loop {t tb : ℕ} {smf : DmaSem sig} {q : PosShare TreeShare} {vx : S524288x96.Idx → Elt F .f32} {I : S128x128.Idx → Elt F .i32} {T : S2x16x16x96.Idx → Elt F .f32}
    {g : ℕ → BitVec 32} {lp : Scf.Loop 32} {ok : lp.OK} {body : Fin lp.trips → PUnit → PT F L PUnit} {k : PUnit → PT F L α}
    (hl : lp.trips = 8)
    (hb : ∀ (u : Fin lp.trips) (a : PUnit), Tri d L (Perm d L tb h I T g (96 * u.val)) (body u a) fun _ => Perm d L tb h I T g (96 * (u.val + 1)))
    (hk : Tri d L iprop((∃ f, ⌜Filled tb h T g 768 f⌝ ∗ HW d L res g0 h sm t f) ∗ Ow d L O W ∗ (((sV).view.loc (thr d L) ↦{fullShare} I) ∗ Idle d L vx smf tb q T ∗ X)) (k ⟨⟩) Q) :
    Tri d L iprop((∃ f, HW d L res g0 h sm t f) ∗ Ow d L O W ∗ (((sV).view.loc (thr d L) ↦{fullShare} I) ∗ Idle d L vx smf tb q T ∗ X))
      (Scf.Loop.for lp ok ⟨⟩ body >>= k) Q := by
  replace hk := hk.out
  replace hb := fun u a => (hb u a).out
  refine ⟨?_⟩
  unfold HW Idle at hk ⊢
  iintro ⟨⟨%f, Hb, Hv, HD, HT⟩, HO, HI, ⟨Ht, Hx, Hvf⟩, HX⟩
  iapply (Scf.wp_for_bind frame (wpE (defs₀ (F := F)) 𝒱₀ (thr d L) none) Set.univ lp.lb lp.ub lp.st ok ⟨⟩ body (fun n _ => Perm d L tb h I T g (96 * n)) hb) $$ [HI Ht Hb]
  · unfold Perm
    isplitl [HI]; · iexact HI
    isplitl [Ht]; · iexact Ht
    iexists f; isplitr
    · ipureintro; intro p q _ _ _ _ _ hlt; omega
    iexact Hb
  iintro %a HP
  iapply hk
  have e : Scf.trips lp.lb lp.ub lp.st = 8 := hl
  rw [e]
  unfold Perm
  icases HP with ⟨HI, Ht, %f', %hf', Hb⟩
  isplitl [Hb Hv HD HT]
  · iexists f'
    isplitr; · ipureintro; exact hf'
    isplitl [Hb]; · iexact Hb
    isplitl [Hv]; · iexact Hv
    isplitl [HD]; · iexact HD
    iexact HT
  isplitl [HO]; · iexact HO
  isplitl [HI]; · iexact HI
  isplitr [HX]
  · isplitl [Ht]; · iexact Ht
    isplitl [Hx]; · iexact Hx
    iexact Hvf
  iexact HX

end Rules

end Cert.Proof.KI
-- ==== Proof.TripsKI.lean ====
/-
  The permutation's loops, whole: each of the four, trip after trip, assembles its block of the result.
-/
module

public import proofs.«01_k».proof.Proof.PermuteKI

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords) (I : S128x128.Idx → Elt F .i32) (T : S2x16x16x96.Idx → Elt F .f32)

/-- A called part: it may assume of its end only what the rest of the caller needs. -/
theorem tri_call {α β : Type} {d : Dev nD} {L : grid0.Coords} {R : sProp (MM F)} {p : PT F L β} {k : β → PT F L α} {Q : α → sProp (MM F)}
    (h : ∀ Q' : β → sProp (MM F), (∀ R' x, Tri d L R' (k x) Q → R' ⊢ Q' x) → Tri d L R p Q') : Tri d L R (p >>= k) Q :=
  tri_seq (h _ fun _ _ hk => hk.out)

/-- A last operation is one with nothing after it. -/
theorem tri_lastop {α : Type} {d : Dev nD} {L : grid0.Coords} {R : sProp (MM F)} {e : TpuEff nD τ sig (Elt F) Λ₀ (.scVector ((L 0).castLE hcore0) ((L 1).castLE hsub0)) α} {Q : α → sProp (MM F)}
    (h : Tri d L R (Prog.lift e >>= fun x => pure x) Q) : Tri d L R (Prog.lift e) Q := tri_last h

set_option maxHeartbeats 4000000 in
/-- One trip of each of the four loops that gather a half block: sixteen words, six runs of sixteen lanes each.
The loops differ in the row of indices that they read, in the half of the fetched squares and in the half of the
rows going out. -/
theorem trips :
    (∀ (v2 v332 v433 : BitVec 32) (t1 : Fin k0_t1_loop.trips) (t : Fin k0_t2_loop.trips) (u : Unit),
      Tri d L (Perm d L 0 0 I T (gOf I (4 * t1.val)) (96 * t.val)) (k0_t2_body L xV (Memref.isWhole_whole _) iV (Memref.isWhole_whole _) oV (Memref.isWhole_whole _) sV (Memref.isWhole_whole _) tV (Memref.isWhole_whole _) bV (Memref.isWhole_whole _) cc0_scratch3 cc0_scratch4 cc0_scratch5 cc0_scratch6 cc0_scoped0 v2 t1 v332 v433 t u)
        fun _ => Perm d L 0 0 I T (gOf I (4 * t1.val)) (96 * (t.val + 1))) ∧
    (∀ (v2 v19 a12 v332 v449 : BitVec 32) (t1 : Fin k0_t1_loop.trips) (t : Fin k0_t3_loop.trips) (u : Unit),
      Tri d L (Perm d L 0 1 I T (gOf I (4 * t1.val + 1)) (96 * t.val)) (k0_t3_body L xV (Memref.isWhole_whole _) iV (Memref.isWhole_whole _) oV (Memref.isWhole_whole _) sV (Memref.isWhole_whole _) tV (Memref.isWhole_whole _) bV (Memref.isWhole_whole _) cc0_scratch3 cc0_scratch4 cc0_scratch5 cc0_scratch6 cc0_scoped0 v2 v19 t1 a12 v332 v449 t u)
        fun _ => Perm d L 0 1 I T (gOf I (4 * t1.val + 1)) (96 * (t.val + 1))) ∧
    (∀ (v2 v465 v566 : BitVec 32) (t1 : Fin k0_t1_loop.trips) (t : Fin k0_t4_loop.trips) (u : Unit),
      Tri d L (Perm d L 1 0 I T (gOf I (4 * t1.val + 2)) (96 * t.val)) (k0_t4_body L xV (Memref.isWhole_whole _) iV (Memref.isWhole_whole _) oV (Memref.isWhole_whole _) sV (Memref.isWhole_whole _) tV (Memref.isWhole_whole _) bV (Memref.isWhole_whole _) cc0_scratch3 cc0_scratch4 cc0_scratch5 cc0_scratch6 cc0_scoped0 v2 t1 v465 v566 t u)
        fun _ => Perm d L 1 0 I T (gOf I (4 * t1.val + 2)) (96 * (t.val + 1))) ∧
    (∀ (v2 v19 c0 c1 v582 : BitVec 32) (t1 : Fin k0_t1_loop.trips) (t : Fin k0_t5_loop.trips) (u : Unit),
      Tri d L (Perm d L 1 1 I T (gOf I (4 * t1.val + 3)) (96 * t.val)) (k0_t5_body L xV (Memref.isWhole_whole _) iV (Memref.isWhole_whole _) oV (Memref.isWhole_whole _) sV (Memref.isWhole_whole _) tV (Memref.isWhole_whole _) bV (Memref.isWhole_whole _) cc0_scratch3 cc0_scratch4 cc0_scratch5 cc0_scratch6 cc0_scoped0 v2 v19 c0 c1 t1 v582 t u)
        fun _ => Perm d L 1 1 I T (gOf I (4 * t1.val + 3)) (96 * (t.val + 1))) := by
  refine ⟨?_, ?_, ?_, ?_⟩ <;> (
    intros
    refine tri_mono (Q' := _) (R' := Perm _ _ _ _ _ _ _ (96 * _ + 0)) ?_ (Entails.of_eq rfl) fun _ => Entails.refl _
    (first | unfold k0_t2_body | unfold k0_t3_body | unfold k0_t4_body | unfold k0_t5_body)
    dsimp only
    with_reducible refine tri_call ?_
    intro Q' hQ
    dsimp only [k0_part33_eq_skeleton, k0_part33_skel, k0_part66_eq_skeleton, k0_part66_skel, k0_part104_eq_skeleton, k0_part104_skel, k0_part137_eq_skeleton, k0_part137_skel]
    repeat' (first
      | ((with_reducible refine perm_loadT ?_ ?_); exact rfl)
      | ((with_reducible refine perm_loadB ?_ fun _ => ?_); exact congrFun ClosedOff.eq 0)
      | ((with_reducible apply perm_store)
         case hM => exact rfl
         case hw => exact rfl
         case ho => exact ClosedOff.eq
         case hoT => exact rfl
         case hword => refine word_eq (F := F) (I := I) (h2 := ?_) ?_ ?_; exacts [by decide, ClosedOff.eq, rfl]
         case hj => (simp only [Nat.reduceAdd]; exact rfl))
      | ((with_reducible refine tri_assume ?_ ?_)
         (refine ⟨lanes_inb 0 rfl ?_ ?_, lanes_inb 1 rfl ?_ ?_, lanes_inb 2 rfl ?_ ?_, lanes_inb 3 rfl ?_ ?_, lanes_inb 4 rfl ?_ ?_, lanes_inb 5 rfl ?_ ?_⟩ <;> decide))
      | (with_reducible refine perm_loadI ?_)
      | ((with_reducible refine tri_call ?_)
         intro Q' hQ
         dsimp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel, k0_part102_eq_skeleton, k0_part102_skel, k0_part103_eq_skeleton, k0_part103_skel, k0_part105_eq_skeleton, k0_part105_skel, k0_part106_eq_skeleton, k0_part106_skel, k0_part107_eq_skeleton, k0_part107_skel, k0_part108_eq_skeleton, k0_part108_skel, k0_part109_eq_skeleton, k0_part109_skel, k0_part110_eq_skeleton, k0_part110_skel, k0_part111_eq_skeleton, k0_part111_skel, k0_part112_eq_skeleton, k0_part112_skel, k0_part113_eq_skeleton, k0_part113_skel, k0_part114_eq_skeleton, k0_part114_skel, k0_part115_eq_skeleton, k0_part115_skel, k0_part116_eq_skeleton, k0_part116_skel, k0_part117_eq_skeleton, k0_part117_skel, k0_part118_eq_skeleton, k0_part118_skel, k0_part119_eq_skeleton, k0_part119_skel, k0_part120_eq_skeleton, k0_part120_skel, k0_part121_eq_skeleton, k0_part121_skel, k0_part122_eq_skeleton, k0_part122_skel, k0_part123_eq_skeleton, k0_part123_skel, k0_part124_eq_skeleton, k0_part124_skel, k0_part125_eq_skeleton, k0_part125_skel, k0_part126_eq_skeleton, k0_part126_skel, k0_part127_eq_skeleton, k0_part127_skel, k0_part128_eq_skeleton, k0_part128_skel, k0_part129_eq_skeleton, k0_part129_skel, k0_part130_eq_skeleton, k0_part130_skel, k0_part131_eq_skeleton, k0_part131_skel, k0_part132_eq_skeleton, k0_part132_skel, k0_part133_eq_skeleton, k0_part133_skel, k0_part134_eq_skeleton, k0_part134_skel, k0_part135_eq_skeleton, k0_part135_skel, k0_part136_eq_skeleton, k0_part136_skel])
      | ((with_reducible refine tri_pure ?_); (with_reducible refine hQ _ _ ?_); clear hQ Q'; (try dsimp only))
      | (with_reducible refine tri_lastop ?_))
    exact tri_pure (Entails.of_eq rfl))

end Cert.Proof.KI
-- ==== Proof.BodyKI.lean ====
/-
  One trip of the tile's loop: two squares of rows, each awaited, permuted into two blocks of the result, and replaced by
  the fetches of the square two on.
-/
module

public import proofs.«01_k».proof.Proof.HalvesKI
public import proofs.«01_k».proof.Proof.TripsKI

@[expose] public section

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type}

/-! ## What is known of the words -/

/-- The words are positions in the image. -/
structure Words (I : S128x128.Idx → Elt F .i32) : Prop where
  lt : ∀ r c, (gOf I r c).toNat < 262144

/-- The result's rows the tile writes: for each word, the row of the square its block starts in that the word's place
    within a square names. -/
def Result (L : grid0.Coords) (vx : S524288x96.Idx → Elt F .f32) (I : S128x128.Idx → Elt F .i32) (res : S524288x96.Idx → Elt F .f32) : Prop :=
  ∀ (k c : ℕ) (r : S524288x96.Idx), k < 128 → c < 128 → (r 0).val = 16384 * wid L + 128 * k + c →
    res r = vx (ix2 ⟨(bs (half L) (gOf I (k / 2 * 2) 0).toNat + 512 * ((gOf I k c).toNat / 512 % 16) + (gOf I k c).toNat % 16) % 524288, Nat.mod_lt _ (by decide)⟩ (r 1))

/-- The first row of the square fetched for the words of rows `2 * t` and `2 * t + 1`. -/
abbrev bsq (L : grid0.Coords) (I : S128x128.Idx → Elt F .i32) (t : ℕ) : ℕ := bs (half L) (gOf I (2 * t) 0).toNat

/-- A half the loop has filled holds its block. -/
theorem good_of {L : grid0.Coords} {vx : S524288x96.Idx → Elt F .f32} {I : S128x128.Idx → Elt F .i32} {res : S524288x96.Idx → Elt F .f32}
    (hI : Words I) (hres : Result L vx I res) {t h tb : ℕ} (ht : t < 64) (hh : h < 2) (htb : tb < 2) (f : S2x128x96.Idx → Elt F .f32)
    (hf : Filled tb h (Sq vx (bsq L I t)) (gOf I (2 * t + h)) 768 f) : Good L res h (2 * t + h) f := by
  intro p r hp h0 h1
  have hp1 : (p 1).val < 128 := (p 1).isLt
  have hp2 : (p 2).val < 96 := (p 2).isLt
  rw [hf p (ix4 ⟨tb, htb⟩ ⟨wa (gOf I (2 * t + h) (p 1).val), wa_lt _⟩ ⟨wb (gOf I (2 * t + h) (p 1).val), wb_lt _⟩ (p 2)) hp rfl rfl rfl rfl (by omega),
    hres (2 * t + h) (p 1).val r (by omega) hp1 h0]
  unfold Sq
  have e : (2 * t + h) / 2 * 2 = 2 * t := by omega
  refine congrArg vx (funext fun x => Fin.ext ?_)
  match x with
  | ⟨0, _⟩ =>
    show (bsq L I t + 512 * wa (gOf I (2 * t + h) (p 1).val) + wb (gOf I (2 * t + h) (p 1).val)) % 524288
      = (bs (half L) (gOf I ((2 * t + h) / 2 * 2) 0).toNat + 512 * ((gOf I (2 * t + h) (p 1).val).toNat / 512 % 16) + (gOf I (2 * t + h) (p 1).val).toNat % 16) % 524288
    rw [wa_toNat (hI.lt _ _), wb_toNat, e]
  | ⟨1, _⟩ => exact h1.symm

/-! ## The word a square's fetches start from -/

section Word
variable {L : grid0.Coords} {I : S128x128.Idx → Elt F .i32} {v : BitVec 32} {w : BitVec 32}

theorem chk_of {P : BitVec 32 → Prop} (hP : ∀ v : BitVec 32, v.toNat < 262144 → P v) (hw : w.toNat < 262144) (h : v = w) : P v := by
  subst h; exact hP _ hw

theorem off_of {off : grid0.Coords → BitVec 32 → BitVec 32 → Fin 2 → ℕ}
    (hoff : ∀ {L : grid0.Coords} {v : BitVec 32}, v.toNat < 262144 → ∀ r : Fin 16, off L v (BitVec.ofNat 32 (512 * r.val)) = ![bs (half L) v.toNat + 512 * r.val, 0])
    (hw : w.toNat < 262144) (h : v = w) (j : ℕ) (hj : j < 16) {c : BitVec 32} (hc : c = BitVec.ofNat 32 (512 * j)) :
    off L v c = ![bs (half L) w.toNat + 512 * j, 0] := by
  subst h hc; exact hoff hw ⟨j, hj⟩
end Word

theorem word3 {I : S128x128.Idx → Elt F .i32} (t : Fin k0_t1_loop.trips) {inb : ∀ a, k0_off391 t a + S1x16.size a ≤ S128x128.size a} {h3 : ∀ a, (![0] : Fin 1 → ℕ) a < S1.size a} :
    extractAt ![0] (k0_pay259 ((sV).view.readAt (Elt F) (Rect.unit (s := S128x128) (k0_off391 t) S1x16.size inb).toLoadRect I)) h3 = gOf I (2 * (2 * t.val + 2)) 0 := by
  refine word_eq (F := F) (I := I) (h2 := ?_) (t := 0) (n := 0) ?_ ?_
  exacts [by decide, by rw [k0_off391_eq, show 2 * (2 * t.val + 2) = 4 * t.val + 4 by omega], rfl]

theorem word6 {I : S128x128.Idx → Elt F .i32} (t : Fin k0_t1_loop.trips) {inb : ∀ a, k0_off780 t a + S1x16.size a ≤ S128x128.size a} {h3 : ∀ a, (![0] : Fin 1 → ℕ) a < S1.size a} :
    extractAt ![0] (k0_pay518 ((sV).view.readAt (Elt F) (Rect.unit (s := S128x128) (k0_off780 t) S1x16.size inb).toLoadRect I)) h3 = gOf I (2 * (2 * t.val + 1 + 2)) 0 := by
  refine word_eq (F := F) (I := I) (h2 := ?_) (t := 0) (n := 0) ?_ ?_
  exacts [by decide, by rw [k0_off780_eq, show 2 * (2 * t.val + 1 + 2) = 4 * t.val + 6 by omega], rfl]

theorem off_trans {off : Fin 2 → ℕ} {a b : ℕ} (h : off = ![a, 0]) (e : a = b) : off = ![b, 0] := by rw [h, e]

/-- Where the write-outs of a trip go. -/
theorem start_even (L : grid0.Coords) (t : Fin k0_t1_loop.trips) (r : Fin 2) :
    k0_off197 L t (BitVec.ofNat 32 (128 * r.val)) = ![16384 * wid L + 128 * (2 * (2 * t.val) + r.val), 0] :=
  off_trans (k0_off197_eq L t r) (by unfold wid; omega)
theorem start_odd (L : grid0.Coords) (t : Fin k0_t1_loop.trips) (r : Fin 2) :
    k0_off586 L t (BitVec.ofNat 32 (128 * r.val)) = ![16384 * wid L + 128 * (2 * (2 * t.val + 1) + r.val), 0] :=
  off_trans (k0_off586_eq L t r) (by unfold wid; omega)

theorem start_even0 (L : grid0.Coords) (t : Fin k0_t1_loop.trips) : k0_off197 L t 0#32 = ![16384 * wid L + 128 * (2 * (2 * t.val) + 0), 0] := start_even L t 0
theorem start_even1 (L : grid0.Coords) (t : Fin k0_t1_loop.trips) : k0_off197 L t 128#32 = ![16384 * wid L + 128 * (2 * (2 * t.val) + 1), 0] := start_even L t 1
theorem start_odd0 (L : grid0.Coords) (t : Fin k0_t1_loop.trips) : k0_off586 L t 0#32 = ![16384 * wid L + 128 * (2 * (2 * t.val + 1) + 0), 0] := start_odd L t 0
theorem start_odd1 (L : grid0.Coords) (t : Fin k0_t1_loop.trips) : k0_off586 L t 128#32 = ![16384 * wid L + 128 * (2 * (2 * t.val + 1) + 1), 0] := start_odd L t 1

/-! ## Between the pieces -/

section State
variable (d : Dev nD) (L : grid0.Coords) (vx : S524288x96.Idx → Elt F .f32) (I : S128x128.Idx → Elt F .i32) (sm : DmaSem sig) (tb : ℕ) (q : PosShare TreeShare) (t : ℕ)

/-- A half of the staging buffer with the fetches of square `t` outstanding, if there is such a square. -/
def LS : sProp (MM F) := if t < 64 then Fl d L vx sm tb (bsq L I t) q 0 else iprop(∃ f, Idle d L vx sm tb q f)
end State

section Rules
variable [FloatOps F] {d : Dev nD} {L : grid0.Coords} {α : Type} {vx res g0 : S524288x96.Idx → Elt F .f32} {I : S128x128.Idx → Elt F .i32} {sm : DmaSem sig} {tb base t : ℕ} {q : PosShare TreeShare}
  {O : CellTallies nD τ sig (HIx 1)} {W : Waits sig (HIx 1)} {R R' X Y Z A B C : sProp (MM F)} {Q : α → sProp (MM F)}

theorem tri_pre {p : PT F L α} (h : R ⊢ R') (hk : Tri d L R' p Q) : Tri d L R p Q := ⟨h.trans hk.out⟩

theorem tri_dite {f : S2x16x16x96.Idx → Elt F .f32} {c : Prop} {dc : Decidable c} {a : c → PT F L α} {b : ¬c → PT F L α}
    (h : Tri d L iprop(A ∗ B ∗ (X ∗ Idle d L vx sm tb q f ∗ Z)) (dite c a b) Q) : Tri d L iprop(A ∗ B ∗ (X ∗ Idle d L vx sm tb q f ∗ Z)) (dite c a b) Q := h
theorem tri_lifted {β : Type} {e : TpuEff nD τ sig (Elt F) Λ₀ (.scVector (cV L) (jV L)) β} {k : β → PT F L α} (h : Tri d L R (Prog.lift e >>= k) Q) : Tri d L R (Prog.lift e >>= k) Q := h
theorem tri_dite_hs {h : ℕ} {c : Prop} {dc : Decidable c} {a : c → PT F L α} {b : ¬c → PT F L α} (hh : Tri d L iprop(HS d L res g0 h sm t ∗ X) (dite c a b) Q) :
    Tri d L iprop(HS d L res g0 h sm t ∗ X) (dite c a b) Q := hh

/-- The load of a square's first word, with its fetches about to start. -/
theorem fire_load {f : S2x16x16x96.Idx → Elt F .f32} {r : LoadRect S128x128} {hl : (sV).view.LoadsAt r} {k : (r.shape.Idx → Elt F .i32) → PT F L α} (base : ℕ)
    (hk : Tri d L iprop(Fire d L vx sm tb base q f 0 ∗ (((sV).view.loc (thr d L) ↦{fullShare} I) ∗ X)) (k ((sV).view.readAt (Elt F) r I)) Q) :
    Tri d L iprop(Idle d L vx sm tb q f ∗ (((sV).view.loc (thr d L) ↦{fullShare} I) ∗ X)) (Prog.lift (.load sV r hl) >>= k) Q := by
  replace hk := hk.out
  refine tri_fupd (R' := iprop(Fire d L vx sm tb base q f 0 ∗ (((sV).view.loc (thr d L) ↦{fullShare} I) ∗ X))) ?_ ⟨?_⟩
  · iintro ⟨HI, HX⟩
    imod (fire_start base) $$ HI with HF
    imodintro
    isplitl [HF]; · iexact HF
    iexact HX
  iintro ⟨HF, HI, HX⟩
  iapply (wp_load 𝒱₀ (thr d L) none Set.univ (m := sV) (r := r) (hl := hl) (S := Finset.univ) (f := I) (Finset.subset_univ _)) $$ HI
  iintro HI
  iapply hk
  isplitl [HF]; · iexact HF
  isplitl [HI]; · iexact HI
  iexact HX

/-- The fetches of the square two on, where there is one. -/
theorem next_if {f : S2x16x16x96.Idx → Elt F .f32} {c : Prop} {dc : Decidable c} {a : c → PT F L α} {k : PT F L α} (t' : ℕ)
    (hc : c ↔ t' < 64)
    (ha : ∀ h : c, Tri d L iprop(Fire d L vx sm tb (bsq L I t') q f 16 ∗ (((sV).view.loc (thr d L) ↦{fullShare} I) ∗ iprop(A ∗ B ∗ C ∗ Z))) k Q →
      Tri d L iprop(Idle d L vx sm tb q f ∗ (((sV).view.loc (thr d L) ↦{fullShare} I) ∗ iprop(A ∗ B ∗ C ∗ Z))) (a h) Q)
    (hk : Tri d L iprop(LS d L vx I sm tb q t' ∗ B ∗ (((sV).view.loc (thr d L) ↦{fullShare} I) ∗ C ∗ A ∗ Z)) k Q) :
    Tri d L iprop(A ∗ B ∗ (((sV).view.loc (thr d L) ↦{fullShare} I) ∗ Idle d L vx sm tb q f ∗ C ∗ Z))
      (if h : c then a h else k) Q := by
  unfold LS at hk
  split
  · next h =>
    rw [if_pos (hc.mp h)] at hk
    refine tri_pre ?_ (ha h (tri_pre ?_ hk))
    · iintro ⟨HA, HB, HI, Hf, HC, HZ⟩
      isplitl [Hf]; · iexact Hf
      isplitl [HI]; · iexact HI
      isplitl [HA]; · iexact HA
      isplitl [HB]; · iexact HB
      isplitl [HC]; · iexact HC
      iexact HZ
    · iintro ⟨Hf, HI, HA, HB, HC, HZ⟩
      isplitl [Hf]; · iapply fire_end; iexact Hf
      isplitl [HB]; · iexact HB
      isplitl [HI]; · iexact HI
      isplitl [HC]; · iexact HC
      isplitl [HA]; · iexact HA
      iexact HZ
  · next h =>
    rw [if_neg (fun h' => h (hc.mpr h'))] at hk
    refine tri_pre ?_ hk
    iintro ⟨HA, HB, HI, Hf, HC, HZ⟩
    isplitl [Hf]; · iexists f; iexact Hf
    isplitl [HB]; · iexact HB
    isplitl [HI]; · iexact HI
    isplitl [HC]; · iexact HC
    isplitl [HA]; · iexact HA
    iexact HZ

/-- The square awaited next is brought to the front. -/
theorem turn (ht : t < 64) : iprop(A ∗ Ow d L O W ∗ (X ∗ C ∗ Y ∗ LS d L vx I sm tb q t)) ⊢ iprop(Fl d L vx sm tb (bsq L I t) q 0 ∗ Ow d L O W ∗ (X ∗ C ∗ Y ∗ A)) := by
  unfold LS; rw [if_pos ht]
  iintro ⟨HA, HB, HX, HC, HY, HL⟩
  isplitl [HL]; · iexact HL
  isplitl [HB]; · iexact HB
  isplitl [HX]; · iexact HX
  isplitl [HC]; · iexact HC
  isplitl [HY]; · iexact HY
  iexact HA
/-- A staged square gives way to the first half. -/
theorem staged : iprop(A ∗ B ∗ (X ∗ C ∗ Y ∗ Z)) ⊢ iprop(C ∗ B ∗ (X ∗ A ∗ Y ∗ Z)) := by
  iintro ⟨HA, HB, HX, HC, HY, HZ⟩
  isplitl [HC]; · iexact HC
  isplitl [HB]; · iexact HB
  isplitl [HX]; · iexact HX
  isplitl [HA]; · iexact HA
  isplitl [HY]; · iexact HY
  iexact HZ
/-- The first half gives way to the second. -/
theorem other : iprop(A ∗ B ∗ (X ∗ C ∗ Y ∗ Z)) ⊢ iprop(Y ∗ B ∗ (X ∗ C ∗ A ∗ Z)) := by
  iintro ⟨HA, HB, HX, HC, HY, HZ⟩
  isplitl [HY]; · iexact HY
  isplitl [HB]; · iexact HB
  isplitl [HX]; · iexact HX
  isplitl [HC]; · iexact HC
  isplitl [HA]; · iexact HA
  iexact HZ
end Rules

/-! ## The conditions -/

theorem wait_even : ∀ t : Fin k0_t1_loop.trips, Scalar.cmpi .ne (Scalar.extui (Scalar.cmpi .sge (Scalar.muli 2#32 (Scf.iv 0#32 1#32 t.val)) 1#32) : BitVec 32) 0#32 = 1#1 ↔ 2 * t.val ≠ 0 := by
  decide +kernel
theorem wait_odd : ∀ t : Fin k0_t1_loop.trips, Scalar.cmpi .ne (Scalar.extui (Scalar.cmpi .sge (Scalar.addi (Scalar.muli 2#32 (Scf.iv 0#32 1#32 t.val)) 1#32) 1#32) : BitVec 32) 0#32 = 1#1 ↔ 2 * t.val + 1 ≠ 0 := by
  decide +kernel

/-! ## A trip -/

section Trip
variable [FloatOps F] (d : Dev nD) (L : grid0.Coords) (vx res g0 : S524288x96.Idx → Elt F .f32) (I : S128x128.Idx → Elt F .i32) (q0 q1 : PosShare TreeShare)
  (O : CellTallies nD τ sig (HIx 1)) (W : Waits sig (HIx 1))

/-- What the tile holds before a trip. -/
def Inv (i : ℕ) : sProp (MM F) :=
  iprop(LS d L vx I cc0_scratch3.sem 0 q0 (2 * i) ∗ Ow d L O W ∗ (((sV).view.loc (thr d L) ↦{fullShare} I)
    ∗ HS d L res g0 0 cc0_scratch5.sem (2 * i) ∗ HS d L res g0 1 cc0_scratch6.sem (2 * i) ∗ LS d L vx I cc0_scratch4.sem 1 q1 (2 * i + 1)))

theorem inv_fl {i : ℕ} (hi : i < 32) : Inv d L vx res g0 I q0 q1 O W i ⊢
    iprop(Fl d L vx cc0_scratch3.sem 0 (bsq L I (2 * i)) q0 0 ∗ Ow d L O W ∗ (((sV).view.loc (thr d L) ↦{fullShare} I)
    ∗ HS d L res g0 0 cc0_scratch5.sem (2 * i) ∗ HS d L res g0 1 cc0_scratch6.sem (2 * i) ∗ LS d L vx I cc0_scratch4.sem 1 q1 (2 * i + 1))) := by
  unfold Inv LS; rw [if_pos (show 2 * i < 64 by omega)]

theorem inv_next {i : ℕ} : iprop(LS d L vx I cc0_scratch4.sem 1 q1 (2 * i + 1 + 2) ∗ Ow d L O W ∗ (((sV).view.loc (thr d L) ↦{fullShare} I)
    ∗ HS d L res g0 0 cc0_scratch5.sem (2 * i + 1 + 1) ∗ HS d L res g0 1 cc0_scratch6.sem (2 * i + 1 + 1) ∗ LS d L vx I cc0_scratch3.sem 0 q0 (2 * i + 2)))
    ⊢ Inv d L vx res g0 I q0 q1 O W (i + 1) := by
  unfold Inv
  rw [show 2 * (i + 1) = 2 * i + 2 by omega]
  iintro ⟨HA, HB, HX, HC, HY, HZ⟩
  isplitl [HZ]; · iexact HZ
  isplitl [HB]; · iexact HB
  isplitl [HX]; · iexact HX
  isplitl [HC]; · iexact HC
  isplitl [HY]; · iexact HY
  iexact HA

variable {vx res I}

set_option maxRecDepth 16384 in
set_option maxHeartbeats 4000000 in
/-- A trip takes what is held before it to what is held before the next. -/
theorem trip (hI : Words I) (hres : Result L vx I res) (v2 v19 v179 : BitVec 32) (hw2 : k0_chk2 L v179) (v190 : BitVec 32) (t1 : Fin k0_t1_loop.trips) (u : PUnit) :
    Tri d L (Inv d L vx res g0 I q0 q1 O W t1.val) (k0_t1_body L xV (Memref.isWhole_whole _) iV (Memref.isWhole_whole _) oV (Memref.isWhole_whole _) sV (Memref.isWhole_whole _) tV (Memref.isWhole_whole _) bV (Memref.isWhole_whole _) cc0_scratch3 cc0_scratch4 cc0_scratch5 cc0_scratch6 cc0_scoped0 v2 v19 v179 hw2 v190 t1 u) fun _ => Inv d L vx res g0 I q0 q1 O W (t1.val + 1) := by
  have ht1 : t1.val < 32 := t1.isLt
  refine tri_pre (inv_fl d L vx res g0 I q0 q1 O W ht1) ?_
  unfold k0_t1_body
  dsimp only
  with_reducible refine tri_call ?_
  intro Q' hQ
  dsimp only [k0_part154_eq_skeleton, k0_part154_skel]
  repeat' (first
    | (with_reducible exact hK)
    | ((with_reducible apply wait_step)
       case hj => decide
       case hj' => (simp only [Nat.reduceAdd]; exact rfl))
    | ((with_reducible refine wait_last ?_ ?_); exact rfl)
    | ((with_reducible refine tri_pre staged (tri_dite_hs ?_))
       refine hs_if ?_ ?_ ?_
       · (first | (with_reducible exact wait_even _) | (with_reducible exact wait_odd _))
       · omega)
    | ((with_reducible refine tri_pre other (tri_dite_hs ?_))
       refine hs_if ?_ ?_ ?_
       · (first | (with_reducible exact wait_even _) | (with_reducible exact wait_odd _))
       · omega)
    | ((with_reducible refine tri_dite (c := k0_cond3 t1 = 1#1) ?_)
       refine next_if (2 * t1.val + 2) ((cond3_iff _).trans (by omega)) ?_ ?_
       intro hc hK)
    | ((with_reducible refine tri_dite (c := k0_cond6 t1 = 1#1) ?_)
       refine next_if (2 * t1.val + 1 + 2) ((cond6_iff _).trans (by omega)) ?_ ?_
       intro hc hK)
    | ((with_reducible refine hs_loop (h := 0) (tb := 0) (g := gOf I (2 * (2 * t1.val) + 0)) rfl ?_ ?_)
       refine fun t a => ?_
       rw [show 2 * (2 * t1.val) + 0 = 4 * t1.val by omega]
       exact (trips d L I _).1 v2 _ _ t1 t a)
    | ((with_reducible refine hs_loop (h := 1) (tb := 0) (g := gOf I (2 * (2 * t1.val) + 1)) rfl ?_ ?_)
       refine fun t a => ?_
       rw [show 2 * (2 * t1.val) + 1 = 4 * t1.val + 1 by omega]
       exact (trips d L I _).2.1 v2 v19 _ _ _ t1 t a)
    | ((with_reducible refine hs_loop (h := 0) (tb := 1) (g := gOf I (2 * (2 * t1.val + 1) + 0)) rfl ?_ ?_)
       refine fun t a => ?_
       rw [show 2 * (2 * t1.val + 1) + 0 = 4 * t1.val + 2 by omega]
       exact (trips d L I _).2.2.1 v2 _ _ t1 t a)
    | ((with_reducible refine hs_loop (h := 1) (tb := 1) (g := gOf I (2 * (2 * t1.val + 1) + 1)) rfl ?_ ?_)
       refine fun t a => ?_
       rw [show 2 * (2 * t1.val + 1) + 1 = 4 * t1.val + 3 by omega]
       exact (trips d L I _).2.2.2 v2 v19 _ _ _ t1 t a)
    | ((with_reducible refine hs_start ?_ ?_ ?_ ?_ ?_)
       · omega
       · rfl
       · first | (with_reducible exact start_even0 L t1) | (with_reducible exact start_even1 L t1) | (with_reducible exact start_odd0 L t1) | (with_reducible exact start_odd1 L t1)
       · exact fun f hf => good_of hI hres (by omega) (by decide) (by decide) f hf)
    | ((with_reducible refine fire_load (tb := 0) (bsq L I (2 * t1.val + 2)) ?_))
    | ((with_reducible refine fire_load (tb := 1) (bsq L I (2 * t1.val + 1 + 2)) ?_))
    | ((with_reducible refine tri_assume ?_ ?_)
       first
         | ((with_reducible refine chk_of (P := k0_chk35 L t1) (w := gOf I (2 * (2 * t1.val + 2)) 0) (fun _ => chk35_of) (hI.lt _ _) ?_); exact word3 t1)
         | ((with_reducible refine chk_of (P := k0_chk68 L t1) (w := gOf I (2 * (2 * t1.val + 1 + 2)) 0) (fun _ => chk68_of) (hI.lt _ _) ?_); exact word6 t1))
    | ((with_reducible apply fire_step)
       case hj => decide
       case ho =>
         first
         | ((with_reducible refine off_of (off := k0_off392) off392_eq (hI.lt _ _) ?_ _ ?_ ?_); exacts [word3 t1, by decide, rfl])
         | ((with_reducible refine off_of (off := k0_off781) off781_eq (hI.lt _ _) ?_ _ ?_ ?_); exacts [word6 t1, by decide, rfl])
       case ho2 => rfl
       case hj' => (simp only [Nat.reduceAdd]; exact rfl))
    | ((with_reducible refine tri_call ?_)
       intro Q' hQ
       first
         | (dsimp only [k0_part143_eq_skeleton, k0_part143_skel, k0_part144_eq_skeleton, k0_part144_skel, k0_part145_eq_skeleton, k0_part145_skel, k0_part146_eq_skeleton, k0_part146_skel, k0_part147_eq_skeleton, k0_part147_skel, k0_part148_eq_skeleton, k0_part148_skel, k0_part149_eq_skeleton, k0_part149_skel, k0_part150_eq_skeleton, k0_part150_skel, k0_part151_eq_skeleton, k0_part151_skel, k0_part152_eq_skeleton, k0_part152_skel, k0_part153_eq_skeleton, k0_part153_skel]; (with_reducible refine tri_lifted ?_))
         | (dsimp only [k0_part67_eq_skeleton, k0_part67_skel, k0_part68_eq_skeleton, k0_part68_skel, k0_part69_eq_skeleton, k0_part69_skel, k0_part70_eq_skeleton, k0_part70_skel, k0_part71_eq_skeleton, k0_part71_skel, k0_part138_eq_skeleton, k0_part138_skel, k0_part139_eq_skeleton, k0_part139_skel, k0_part140_eq_skeleton, k0_part140_skel, k0_part141_eq_skeleton, k0_part141_skel, k0_part142_eq_skeleton, k0_part142_skel]; (with_reducible refine tri_lifted ?_)))
    | ((with_reducible refine tri_pure ?_); (with_reducible refine hQ _ _ ?_); clear hQ Q'; (try dsimp only))
    | ((with_reducible refine tri_pure ?_); exact inv_next d L vx res g0 I q0 q1 O W)
    | ((with_reducible refine tri_pre (turn ?_) ?_); omega))
end Trip

end Cert.Proof.KI
-- ==== Proof.TileKI.lean ====
/-
  The tile's task: the words fetched, the first two squares' fetches started, the thirty-two trips, and the last two
  write-outs awaited.
-/
module

public import proofs.«01_k».proof.Proof.BodyKI

@[expose] public section

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type}

/-- The words the tile fetches: its 128 rows of the index array. -/
def tI (L : grid0.Coords) (vi : S2048x128.Idx → Elt F .i32) : S128x128.Idx → Elt F .i32 :=
  fun p => vi (ix2 ⟨(128 * (wid L % 16) + (p 0).val) % 2048, Nat.mod_lt _ (by decide)⟩ (p 1))

abbrev NI : ℕ := (sV).view.dmaCredit
theorem NI_pos : 0 < NI := View.dmaCredit_pos _ (by decide)

section Rules
variable [FloatOps F] {d : Dev nD} {L : grid0.Coords} {α : Type} {vx res g0 : S524288x96.Idx → Elt F .f32} {I : S128x128.Idx → Elt F .i32} {sm : DmaSem sig} {tb base t : ℕ} {q q0 q1 : PosShare TreeShare}
  {vi : S2048x128.Idx → Elt F .i32} {O : CellTallies nD τ sig (HIx 1)} {W : Waits sig (HIx 1)} {R R' X Y Z A B C : sProp (MM F)} {Q : α → sProp (MM F)}

/-- The words' fetch and its wait. -/
theorem idx_copy {off : Fin 2 → ℕ} {inb : ∀ a, off a + S128x128.size a ≤ S2048x128.size a}
    {h1 : ((iV).slice (Rect.unit (s := S2048x128) off S128x128.size inb) (fun _ => rfl)).view.WordExact}
    {h2 : (sV).view.WordExact}
    {h3 : DmaTarget.Typed (nD := nD) (τ := τ) (p := (.scVector (cV L) (jV L) : Proc τ)) .hbm (.dma sm) (.here sV)}
    {srcw : Memref sig .scVector .hbm S128x128 .i32} {hs : srcw.view.WordExact} {hd : (sV).view.WordExact}
    {k : PUnit → PT F L α} (ho : off = ![128 * (wid L % 16), 0]) (hI : tI L vi = I)
    (hk : Tri d L iprop(A ∗ (((sV).view.loc (thr d L) ↦{fullShare} I) ∗ (B ∗ (Ow d L O W ∗ C ∗ ((iV).view.loc (thr d L) ↦{q} vi) ∗ semVal (thr d L, .dma sm) 0)))) (k ⟨⟩) Q) :
    Tri d L iprop(((iV).view.loc (thr d L) ↦{q} vi) ∗ (∃ f, ((sV).view.loc (thr d L) ↦{fullShare} f)) ∗ semVal (thr d L, .dma sm) 0 ∗ Ow d L O W ∗ (A ∗ B ∗ C))
      (Prog.lift (.enqueueDma ((iV).slice (Rect.unit (s := S2048x128) off S128x128.size inb) (fun _ => rfl)) (.here sV) (.dma sm) h1 h2 h3) >>= fun _ =>
        Prog.lift (.waitDma2 sm srcw sV hs hd) >>= k) Q := by
  have hwid : wid L % 16 < 16 := Nat.mod_lt _ (by decide)
  subst hI
  replace hk := hk.out
  refine ⟨?_⟩
  unfold Ow at hk ⊢
  iintro ⟨Hi, ⟨%f, Hs⟩, Hv, ⟨#HM, %W', %hW, HO⟩, HA, HB, HC⟩
  ihave Hi' := (pointsTo_split_subset (f := vi) (q := q) (Finset.subset_univ ((iV).slice (Rect.unit (s := S2048x128) off S128x128.size inb) (fun _ => rfl)).view.set)).1 $$ Hi
  icases Hi' with ⟨Hi, Hir⟩
  iapply (wp_dmaLocal countersEmb 𝒱₀ (thr d L) none (src := (iV).slice (Rect.unit (s := S2048x128) off S128x128.size inb) (fun _ => rfl)) (dst := sV) (sm := .dma sm)
    (q := q) (fs := vi) (Sd := Finset.univ) (fd := f) (default : HIx 1) NI rfl NI_pos (Finset.subset_univ _)) $$ [Hi Hs Hv]
  · isplitl [Hi]; · iexact Hi
    isplitl [Hs]; · iexact Hs
    iexact Hv
  iintro HF
  ihave HM' := (MayWaits.elim (SemLoc.dma sm)) $$ HM
  iapply (wp_waitLocalO countersEmb 𝒱₀ (thr d L) none (srcw := srcw) (dstw := sV) (hsrc := hs) (hdst := hd) (default : HIx 1) (N := NI) rfl) $$ [HF HO HM']
  · isplitl [HF]; · iexact HF
    isplitl [HO]; · iexact HO
    iexact HM'
  iintro ⟨⟨Hs, Hi⟩, Hv, HO⟩
  iapply hk
  isplitl [HA]; · iexact HA
  isplitl [Hs]
  · iapply (Entails.of_eq (pointsTo_congr (g := tI L vi) fun p _ => ?_)) $$ Hs
    subst ho
    refine (View.write_emb_of_mem (v := (sV).view) _ _ (Finset.mem_univ p)).trans ?_
    refine congrArg vi (funext fun x => Fin.ext ?_)
    have hp0 : (p 0).val < 128 := (p 0).isLt
    match x with
    | ⟨0, _⟩ => show 128 * (wid L % 16) + 1 * (p 0).val = (128 * (wid L % 16) + (p 0).val) % 2048; omega
    | ⟨1, _⟩ => show 0 + 1 * (p 1).val = (p 1).val; omega
  isplitl [HB]; · iexact HB
  isplitl [HO]
  · isplitr; · iexact HM
    iexists _; isplitr
    swap; · iexact HO
    ipureintro; exact ow_insert hW
  isplitl [HC]; · iexact HC
  isplitl [Hi Hir]
  · iapply (pointsTo_split_subset (f := vi) (q := q) (Finset.subset_univ ((iV).slice (Rect.unit (s := S2048x128) off S128x128.size inb) (fun _ => rfl)).view.set)).2
    isplitl [Hi]; · iexact Hi
    iexact Hir
  iexact Hv

/-- A square's fetches all started, the other half's come next. -/
theorem fired {n : ℕ} {f : S2x16x16x96.Idx → Elt F .f32} (hn : n = 16) : iprop(Fire d L vx sm tb base q f n ∗ (X ∗ (A ∗ Y))) ⊢ iprop(A ∗ (X ∗ (Fl d L vx sm tb base q 0 ∗ Y))) := by
  subst hn
  iintro ⟨HF, HX, HA, HY⟩
  isplitl [HA]; · iexact HA
  isplitl [HX]; · iexact HX
  isplitr [HY]; · iapply fire_end; iexact HF
  iexact HY

/-- The loop. -/
theorem task_loop {b0 b1 : ℕ} {f : S2x16x16x96.Idx → Elt F .f32} {lp : Scf.Loop 32} {ok : lp.OK} {body : Fin lp.trips → PUnit → PT F L PUnit} {k : PUnit → PT F L α}
    (hl : lp.trips = 32) (hb0 : bsq L I 0 = b0) (hb1 : bsq L I 1 = b1)
    (hb : ∀ (u : Fin lp.trips) (a : PUnit), Tri d L (Inv d L vx res g0 I q0 q1 O W u.val) (body u a) fun _ => Inv d L vx res g0 I q0 q1 O W (u.val + 1))
    (hk : Tri d L iprop(HS d L res g0 0 cc0_scratch5.sem 64 ∗ Ow d L O W ∗ (HS d L res g0 1 cc0_scratch6.sem 64 ∗ ((sV).view.loc (thr d L) ↦{fullShare} I)
      ∗ (∃ f, Idle d L vx cc0_scratch3.sem 0 q0 f) ∗ (∃ f, Idle d L vx cc0_scratch4.sem 1 q1 f) ∗ Z)) (k ⟨⟩) Q) :
    Tri d L iprop(Fire d L vx cc0_scratch4.sem 1 b1 q1 f 16 ∗ (((sV).view.loc (thr d L) ↦{fullShare} I) ∗ (Fl d L vx cc0_scratch3.sem 0 b0 q0 0
      ∗ (Ow d L O W ∗ (HS d L res g0 0 cc0_scratch5.sem 0 ∗ HS d L res g0 1 cc0_scratch6.sem 0) ∗ Z))))
      (Scf.Loop.for lp ok ⟨⟩ body >>= k) Q := by
  subst hb0 hb1
  replace hk := hk.out
  replace hb := fun u a => (tri_frame (X := Z) (hb u a)).out
  refine ⟨?_⟩
  iintro ⟨HF, HI, H0, HO, ⟨Ha, Hb⟩, HZ⟩
  iapply (Scf.wp_for_bind frame (wpE (defs₀ (F := F)) 𝒱₀ (thr d L) none) Set.univ lp.lb lp.ub lp.st ok ⟨⟩ body (fun n _ => iprop(Inv d L vx res g0 I q0 q1 O W n ∗ Z)) hb) $$ [HF HI H0 HO Ha Hb HZ]
  · isplitr [HZ]
    · unfold Inv LS
      rw [if_pos (show 2 * 0 < 64 by decide), if_pos (show 2 * 0 + 1 < 64 by decide)]
      isplitl [H0]; · iexact H0
      isplitl [HO]; · iexact HO
      isplitl [HI]; · iexact HI
      isplitl [Ha]; · iexact Ha
      isplitl [Hb]; · iexact Hb
      iapply fire_end; iexact HF
    iexact HZ
  iintro %a HP
  iapply hk
  have e : Scf.trips lp.lb lp.ub lp.st = 32 := hl
  rw [e]
  unfold Inv LS
  rw [if_neg (show ¬ 2 * 32 < 64 by decide), if_neg (show ¬ 2 * 32 + 1 < 64 by decide)]
  icases HP with ⟨⟨H0, HO, HI, Ha, Hb, H1⟩, HZ⟩
  isplitl [Ha]; · iexact Ha
  isplitl [HO]; · iexact HO
  isplitl [Hb]; · iexact Hb
  isplitl [HI]; · iexact HI
  isplitl [H0]; · iexact H0
  isplitl [H1]; · iexact H1
  iexact HZ

/-- The first half's last write-out awaited, the second half's comes next. -/
theorem swap_halves {h n : ℕ} : iprop((∃ f, HW d L res g0 h sm n f) ∗ B ∗ (C ∗ Z)) ⊢ iprop(C ∗ B ∗ ((∃ f, HW d L res g0 h sm n f) ∗ Z)) := by
  iintro ⟨HA, HB, HC, HZ⟩
  isplitl [HC]; · iexact HC
  isplitl [HB]; · iexact HB
  isplitl [HA]; · iexact HA
  iexact HZ
/-- The wait for a half's very last write-out. -/
theorem hs_end {h n : ℕ} {srcw : Memref sig .scVector .vmem S128x96 .f32} {hsrc : srcw.view.WordExact}
    {off : Fin 2 → ℕ} {inb : ∀ a, off a + (![128, 96] : Fin 2 → ℕ) a ≤ S524288x96.size a}
    {hdst : ((oV).slice (Rect.unit (s := S524288x96) off ![128, 96] inb) (fun _ => rfl)).view.WordExact}
    {k : PUnit → PT F L α} (hn : n = 64)
    (hk : Tri d L iprop((∃ f, HW d L res g0 h sm 64 f) ∗ Ow d L O W ∗ X) (k ⟨⟩) Q) :
    Tri d L iprop(HS d L res g0 h sm n ∗ Ow d L O W ∗ X)
      (Prog.lift (.waitDma2 sm srcw ((oV).slice (Rect.unit (s := S524288x96) off ![128, 96] inb) (fun _ => rfl)) hsrc hdst) >>= k) Q := by
  subst hn
  exact hs_wait (t := 63) (by decide) hk

/-- A wait comes next. -/
theorem at_wait {srcw : Memref sig .scVector .vmem S128x96 .f32} {dstw : Memref sig .scVector .hbm S128x96 .f32} {hsrc : srcw.view.WordExact} {hdst : dstw.view.WordExact}
    {k : PUnit → PT F L α} (hk : Tri d L R (Prog.lift (.waitDma2 sm srcw dstw hsrc hdst) >>= k) Q) :
    Tri d L R (Prog.lift (.waitDma2 sm srcw dstw hsrc hdst) >>= k) Q := hk

/-- A part's numbers that no one reads: any others would do. -/
theorem out_any {x0 y0 z0 : BitVec 32} {T : (Σ' (_ : BitVec 32) (_ : BitVec 32), BitVec 32) → sProp (MM F)} (h : ∀ x y z, R ⊢ T ⟨x, y, z⟩) : R ⊢ T ⟨x0, y0, z0⟩ := h _ _ _

/-- The same of a part that also gives a checked word. -/
theorem out_last {P : BitVec 32 → Prop} {x : BitVec 32} {hx : P x} {z0 : BitVec 32} {T : (Σ' (x : BitVec 32) (_ : P x), BitVec 32) → sProp (MM F)} (h : ∀ z, R ⊢ T ⟨x, hx, z⟩) : R ⊢ T ⟨x, hx, z0⟩ := h _
end Rules

theorem word1 {I : S128x128.Idx → Elt F .i32} {inb : ∀ a, (![0, 0] : Fin 2 → ℕ) a + S1x16.size a ≤ S128x128.size a} {h3 : ∀ a, (![0] : Fin 1 → ℕ) a < S1.size a} :
    extractAt ![0] (k0_pay527 ((sV).view.readAt (Elt F) (Rect.unit (s := S128x128) ![0, 0] S1x16.size inb).toLoadRect I)) h3 = gOf I (2 * 0) 0 := by
  refine word_eq (F := F) (I := I) (h2 := ?_) (t := 0) (n := 0) ?_ ?_
  exacts [by decide, rfl, rfl]
theorem word2 {I : S128x128.Idx → Elt F .i32} {inb : ∀ a, (![2, 0] : Fin 2 → ℕ) a + S1x16.size a ≤ S128x128.size a} {h3 : ∀ a, (![0] : Fin 1 → ℕ) a < S1.size a} :
    extractAt ![0] (k0_pay528 ((sV).view.readAt (Elt F) (Rect.unit (s := S128x128) ![2, 0] S1x16.size inb).toLoadRect I)) h3 = gOf I (2 * 1) 0 := by
  refine word_eq (F := F) (I := I) (h2 := ?_) (t := 0) (n := 0) ?_ ?_
  exacts [by decide, rfl, rfl]

section Task
variable [FloatOps F] (d : Dev nD) (L : grid0.Coords) (vx res g0 : S524288x96.Idx → Elt F .f32) (vi : S2048x128.Idx → Elt F .i32) (I : S128x128.Idx → Elt F .i32) (q q0 q1 : PosShare TreeShare)
  (O : CellTallies nD τ sig (HIx 1)) (W : Waits sig (HIx 1))

set_option maxRecDepth 16384 in
set_option maxHeartbeats 4000000 in
/-- The task: every block of the tile's rows of the result written, everything else back. -/
theorem task (hv : tI L vi = I) (hI : Words I) (hres : Result L vx I res) (f0 f1 : S2x16x16x96.Idx → Elt F .f32) :
    Tri d L iprop(((iV).view.loc (thr d L) ↦{q} vi) ∗ (∃ f, ((sV).view.loc (thr d L) ↦{fullShare} f)) ∗ semVal (thr d L, .dma cc0_scoped0.sem) 0 ∗ Ow d L O W
        ∗ (Idle d L vx cc0_scratch3.sem 0 q0 f0 ∗ Idle d L vx cc0_scratch4.sem 1 q1 f1 ∗ (HS d L res g0 0 cc0_scratch5.sem 0 ∗ HS d L res g0 1 cc0_scratch6.sem 0)))
      (cc0_k L xV (Memref.isWhole_whole _) iV (Memref.isWhole_whole _) oV (Memref.isWhole_whole _) sV (Memref.isWhole_whole _) tV (Memref.isWhole_whole _) bV (Memref.isWhole_whole _) cc0_scratch3 cc0_scratch4 cc0_scratch5 cc0_scratch6 cc0_scoped0) fun _ =>
      iprop((∃ f, HW d L res g0 1 cc0_scratch6.sem 64 f) ∗ Ow d L O W ∗ ((∃ f, HW d L res g0 0 cc0_scratch5.sem 64 f) ∗ ((sV).view.loc (thr d L) ↦{fullShare} I)
        ∗ (∃ f, Idle d L vx cc0_scratch3.sem 0 q0 f) ∗ (∃ f, Idle d L vx cc0_scratch4.sem 1 q1 f) ∗ ((iV).view.loc (thr d L) ↦{q} vi) ∗ semVal (thr d L, .dma cc0_scoped0.sem) 0)) := by
  obtain ⟨w0, e0⟩ : ∃ w, gOf I (2 * 0) 0 = w := ⟨_, rfl⟩
  obtain ⟨w1, e1⟩ : ∃ w, gOf I (2 * 1) 0 = w := ⟨_, rfl⟩
  have l0 : w0.toNat < 262144 := e0 ▸ hI.lt _ _
  have l1 : w1.toNat < 262144 := e1 ▸ hI.lt _ _
  have hb0 : bsq L I 0 = bs (half L) w0.toNat := congrArg (fun w : BitVec 32 => bs (half L) w.toNat) e0
  have hb1 : bsq L I 1 = bs (half L) w1.toNat := congrArg (fun w : BitVec 32 => bs (half L) w.toNat) e1
  dsimp only [cc0_k_eq_skeleton, cc0_k_skel]
  repeat' (first
    | ((with_reducible refine idx_copy ?_ hv ?_); exact off1_eq L)
    | ((with_reducible refine fire_load (tb := 0) (bs (half L) w0.toNat) ?_))
    | ((with_reducible refine tri_pre (fired ?_) (fire_load (tb := 1) (bs (half L) w1.toNat) ?_)); rfl)
    | ((with_reducible refine tri_assume ?_ ?_)
       first
         | ((with_reducible refine chk_of (P := k0_chk1 L) (w := w0) (fun _ => chk1_of) l0 ?_); exact word1.trans e0)
         | ((with_reducible refine chk_of (P := k0_chk2 L) (w := w1) (fun _ => chk2_of) l1 ?_); exact word2.trans e1))
    | ((with_reducible apply fire_step)
       case hj => decide
       case ho =>
         first
         | ((with_reducible refine off_of (off := k0_off2) off2_eq l0 ?_ _ ?_ ?_); exacts [word1.trans e0, by decide, rfl])
         | ((with_reducible refine off_of (off := k0_off3) off3_eq l1 ?_ _ ?_ ?_); exacts [word2.trans e1, by decide, rfl])
       case ho2 => rfl
       case hj' => (simp only [Nat.reduceAdd]; exact rfl))
    | ((with_reducible refine task_loop rfl hb0 hb1 ?_ ?_); exact fun u a => trip d L g0 q0 q1 O W hI hres _ _ _ _ _ u a)
    | ((with_reducible refine at_wait ?_)
       first
         | ((with_reducible refine tri_pre swap_halves ?_); refine hs_end rfl ?_)
         | (refine hs_end rfl ?_))
    | ((with_reducible refine tri_call ?_)
       intro Q' hQ
       dsimp only [k0_part155_eq_skeleton, k0_part155_skel, k0_part156_eq_skeleton, k0_part156_skel, k0_part157_eq_skeleton, k0_part157_skel, k0_part158_eq_skeleton, k0_part158_skel, k0_part159_eq_skeleton, k0_part159_skel, k0_part160_eq_skeleton, k0_part160_skel, k0_part161_eq_skeleton, k0_part161_skel, k0_part162_eq_skeleton, k0_part162_skel, k0_part163_eq_skeleton, k0_part163_skel, k0_part164_eq_skeleton, k0_part164_skel, k0_part165_eq_skeleton, k0_part165_skel, k0_part166_eq_skeleton, k0_part166_skel])
    | ((with_reducible refine tri_pure (out_any ?_)); intro x y z; (with_reducible refine hQ _ _ ?_); clear hQ Q'; (try dsimp only))
    | ((with_reducible refine tri_pure (out_last ?_)); intro z; (with_reducible refine hQ _ _ ?_); clear hQ Q'; (try dsimp only))
    | ((with_reducible refine tri_pure ?_); (with_reducible refine hQ _ _ ?_); clear hQ Q'; (try dsimp only))
    | ((with_reducible refine tri_pure ?_); exact Entails.refl _))
end Task

end Cert.Proof.KI
-- ==== Proof.ObligationKI.lean ====
/-
  What a tile is handed and what it hands back, and the task's run from the one to the other.
-/
module

public import proofs.«01_k».proof.Proof.TileKI

@[expose] public section

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the handshakes carry -/

abbrev xLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-- Tile `i` of SparseCore `c`'s share of the two arrays every tile reads. -/
def sh (c i : ℕ) : PosShare TreeShare := ShareLeaves.leaf 4 (ShareLeaves.leaf 1 fullShare ⟨c % 2, Nat.mod_lt _ (by decide)⟩) ⟨i % 16, Nat.mod_lt _ (by decide)⟩
/-- The rows of the result it writes. -/
def rows (c i : ℕ) : Finset S524288x96.Idx := oSet (16384 * (2 * i + c)) (16384 * (2 * i + c) + 16384)

/-- What the tile is handed, the result's rows at `o`; it hands back the same at another `o`. -/
abbrev Tile (vx : S524288x96.Idx → Elt F .f32) (vi : S2048x128.Idx → Elt F .i32) (o : S524288x96.Idx → Elt F .f32) (d : Dev nD) (c i : ℕ) : sProp (MM F) :=
  iprop((xLoc d ↦{sh c i} vx) ∗ (iLoc d ↦{sh c i} vi) ∗ oLoc d ↦[rows c i]{fullShare} o)

/-- A SparseCore is handed its sixteen tiles' parts, and hands them back at the result's values. -/
def P (vx : Dev nD → S524288x96.Idx → Elt F .f32) (vi : Dev nD → S2048x128.Idx → Elt F .i32) (g0 res : Dev nD → S524288x96.Idx → Elt F .f32) :
    (K (F := F)).Pay (nD := nD) (Val := Elt F) (Name := ℕ) (U := UU) where
  st := fun q d c => match q with | 0 => bigSep Finset.univ fun i : Fin ((K (F := F)).nSub 0) => Tile (vx d) (vi d) (g0 d) d c.val i.val
  dn := fun q d c => match q with | 0 => bigSep Finset.univ fun i : Fin ((K (F := F)).nSub 0) => Tile (vx d) (vi d) (res d) d c.val i.val
  go := fun q d c i => match q with | 0 => Tile (vx d) (vi d) (g0 d) d c.val i.val
  td := fun q d c i => match q with | 0 => Tile (vx d) (vi d) (res d) d c.val i.val
  x := fun _ _ => iprop(emp)

section Pay
variable {vx : Dev nD → S524288x96.Idx → Elt F .f32} {vi : Dev nD → S2048x128.Idx → Elt F .i32} {g0 res : Dev nD → S524288x96.Idx → Elt F .f32}

instance P_storable : (P vx vi g0 res).IsStorable where
  st q d c := match q with
    | 0 => (inferInstance : BI.Storable (upEmb : UEmb _ (MM F)) (bigSep Finset.univ fun i : Fin ((K (F := F)).nSub 0) => Tile (vx d) (vi d) (g0 d) d c.val i.val))
  dn q d c := match q with
    | 0 => (inferInstance : BI.Storable (upEmb : UEmb _ (MM F)) (bigSep Finset.univ fun i : Fin ((K (F := F)).nSub 0) => Tile (vx d) (vi d) (res d) d c.val i.val))
  go q d c i := match q with | 0 => (inferInstance : BI.Storable (upEmb : UEmb _ (MM F)) (Tile (vx d) (vi d) (g0 d) d c.val i.val))
  td q d c i := match q with | 0 => (inferInstance : BI.Storable (upEmb : UEmb _ (MM F)) (Tile (vx d) (vi d) (res d) d c.val i.val))

theorem vecSplit : (K (F := F)).VecSplit' (P vx vi g0 res) 0 := by
  intro d c
  show (bigSep Finset.univ fun i : Fin ((K (F := F)).nSub 0) => Tile (vx d) (vi d) (g0 d) d c.val i.val) ⊢ |={Set.univ}=> iprop(
      (bigSep Finset.univ fun i : Fin ((K (F := F)).nSub 0) => Tile (vx d) (vi d) (g0 d) d c.val i.val)
      ∗ ((bigSep Finset.univ fun i : Fin ((K (F := F)).nSub 0) => Tile (vx d) (vi d) (res d) d c.val i.val)
        -∗ bigSep Finset.univ fun i : Fin ((K (F := F)).nSub 0) => Tile (vx d) (vi d) (res d) d c.val i.val))
  iintro H; imodintro
  isplitl [H]; · iexact H
  iintro H; iexact H
end Pay

/-! ## The buffers in halves, the rows in blocks -/

section Split
variable (d : Dev nD) (L : grid0.Coords)

theorem sdiff_tSet : (Finset.univ : Finset S2x16x16x96.Idx) \ tSet 0 = tSet 1 := by
  ext p
  have : (p 0).val < 2 := (p 0).isLt
  simp only [Finset.mem_sdiff, Finset.mem_univ, true_and, mem_tSet]; omega
theorem sdiff_bSet : (Finset.univ : Finset S2x128x96.Idx) \ bSet 0 = bSet 1 := by
  ext p
  have : (p 0).val < 2 := (p 0).isLt
  simp only [Finset.mem_sdiff, Finset.mem_univ, true_and, mem_bSet]; omega

theorem tV_halves (f : S2x16x16x96.Idx → Elt F .f32) :
    ((tV).view.loc (thr d L) ↦{fullShare} f : sProp (MM F)) ⊢ iprop(((tV).view.loc (thr d L) ↦[tSet 0]{fullShare} f) ∗ (tV).view.loc (thr d L) ↦[tSet 1]{fullShare} f) := by
  refine (pointsTo_split_subset (Finset.subset_univ (tSet 0))).1.trans (Entails.of_eq ?_)
  rw [sdiff_tSet]
theorem tV_whole (f g : S2x16x16x96.Idx → Elt F .f32) :
    iprop(((tV).view.loc (thr d L) ↦[tSet 0]{fullShare} f) ∗ (tV).view.loc (thr d L) ↦[tSet 1]{fullShare} g) ⊢ (iprop(∃ f, (tV).view.loc (thr d L) ↦{fullShare} f) : sProp (MM F)) := by
  rw [← sdiff_tSet]
  iintro H
  iexists _
  iapply (pointsTo_join_subset (Finset.subset_univ (tSet 0))) $$ H
theorem bV_halves (f : S2x128x96.Idx → Elt F .f32) :
    ((bV).view.loc (thr d L) ↦{fullShare} f : sProp (MM F)) ⊢ iprop(((bV).view.loc (thr d L) ↦[bSet 0]{fullShare} f) ∗ (bV).view.loc (thr d L) ↦[bSet 1]{fullShare} f) := by
  refine (pointsTo_split_subset (Finset.subset_univ (bSet 0))).1.trans (Entails.of_eq ?_)
  rw [sdiff_bSet]
theorem bV_whole (f g : S2x128x96.Idx → Elt F .f32) :
    iprop(((bV).view.loc (thr d L) ↦[bSet 0]{fullShare} f) ∗ (bV).view.loc (thr d L) ↦[bSet 1]{fullShare} g) ⊢ (iprop(∃ f, (bV).view.loc (thr d L) ↦{fullShare} f) : sProp (MM F)) := by
  rw [← sdiff_bSet]
  iintro H
  iexists _
  iapply (pointsTo_join_subset (Finset.subset_univ (bSet 0))) $$ H

/-- Every other block of the tile's rows, from block `h` on. -/
def alternate (h : ℕ) : Finset S524288x96.Idx := Finset.univ.biUnion fun j : Fin 64 => blk L (2 * j.val + h)

theorem alternate_pts (h : ℕ) (f : S524288x96.Idx → Elt F .f32) :
    ((oV).view.loc (thr d L) ↦[alternate L h]{fullShare} f : sProp (MM F)) = bigSep Finset.univ fun j : Fin 64 => (oV).view.loc (thr d L) ↦[blk L (2 * j.val + h)]{fullShare} f := by
  have h0 : ∀ j ∈ (Finset.univ : Finset (Fin 64)), ∀ j' ∈ (Finset.univ : Finset (Fin 64)), j ≠ j' → Disjoint (blk L (2 * j.val + h)) (blk L (2 * j'.val + h)) :=
    fun j _ j' _ hj => Finset.disjoint_left.mpr fun p hp hp' => hj (Fin.ext (by rw [blk, mem_oSet] at hp hp'; omega))
  exact pointsTo_biUnion (ℓ := (oV).view.loc (thr d L)) (f := f) Finset.univ (fun j : Fin 64 => blk L (2 * j.val + h)) h0

theorem mem_alternate {h : ℕ} {p : S524288x96.Idx} :
    p ∈ alternate L h ↔ ∃ j : Fin 64, 16384 * wid L + 128 * (2 * j.val + h) ≤ (p 0).val ∧ (p 0).val < 16384 * wid L + 128 * (2 * j.val + h) + 128 := by
  simp only [alternate, Finset.mem_biUnion, Finset.mem_univ, true_and, blk, mem_oSet]

theorem alternate_disjoint : Disjoint (alternate L 0) (alternate L 1) := by
  refine Finset.disjoint_left.mpr fun p hp hp' => ?_
  obtain ⟨j, hj⟩ := (mem_alternate L).mp hp
  obtain ⟨j', hj'⟩ := (mem_alternate L).mp hp'
  omega

theorem alternate_union : alternate L 0 ∪ alternate L 1 = rows (L 0).val (L 1).val := by
  ext p
  rw [Finset.mem_union, mem_alternate, mem_alternate, rows, mem_oSet]
  constructor
  · rintro (⟨j, hj⟩ | ⟨j, hj⟩) <;> (have := j.isLt; unfold wid at hj; omega)
  · intro hp
    have hq : ((p 0).val - 16384 * wid L) / 256 < 64 := by unfold wid; omega
    by_cases hh : ((p 0).val - 16384 * wid L) / 128 % 2 = 0
    · left; refine ⟨⟨((p 0).val - 16384 * wid L) / 256, hq⟩, ?_⟩
      unfold wid at hh ⊢; simp only; omega
    · right; refine ⟨⟨((p 0).val - 16384 * wid L) / 256, hq⟩, ?_⟩
      unfold wid at hh ⊢; simp only; omega

theorem rows_pts (f : S524288x96.Idx → Elt F .f32) :
    ((oV).view.loc (thr d L) ↦[rows (L 0).val (L 1).val]{fullShare} f : sProp (MM F))
      ⊣⊢ iprop(((oV).view.loc (thr d L) ↦[alternate L 0]{fullShare} f) ∗ (oV).view.loc (thr d L) ↦[alternate L 1]{fullShare} f) := by
  rw [← alternate_union]; exact pointsTo_union (alternate_disjoint L)

theorem todo_all (g0 : S524288x96.Idx → Elt F .f32) (h : ℕ) : TodoS d L g0 h 0 = ((oV).view.loc (thr d L) ↦[alternate L h]{fullShare} g0 : sProp (MM F)) := by
  unfold TodoS; rw [pending_zero, alternate_pts]
theorem done_every (res : S524288x96.Idx → Elt F .f32) (h : ℕ) : DoneS d L res h 64 = ((oV).view.loc (thr d L) ↦[alternate L h]{fullShare} res : sProp (MM F)) := by
  unfold DoneS; rw [done_all, alternate_pts]
theorem done_none (res : S524288x96.Idx → Elt F .f32) (h : ℕ) : DoneS d L res h 0 = (iprop(emp) : sProp (MM F)) := by
  unfold DoneS; rw [done_zero, bigSep_empty]; rfl

/-- A half's state before its first write-out. -/
theorem half_start (res g0 : S524288x96.Idx → Elt F .f32) (h : ℕ) (sm : DmaSem sig) (f : S2x128x96.Idx → Elt F .f32) :
    iprop(((bV).view.loc (thr d L) ↦[bSet h]{fullShare} f) ∗ semVal (thr d L, .dma sm) 0 ∗ ((oV).view.loc (thr d L) ↦[alternate L h]{fullShare} g0)) ⊢ HS d L res g0 h sm 0 := by
  unfold HS HW
  rw [done_none, todo_all]
  iintro ⟨Hb, Hv, Ho⟩
  iexists f
  isplitl [Hb]; · iexact Hb
  isplitl [Hv]; · iexact Hv
  isplitr; · iempintro
  iexact Ho
/-- And after its last. -/
theorem half_end (res g0 : S524288x96.Idx → Elt F .f32) (h : ℕ) (sm : DmaSem sig) (f : S2x128x96.Idx → Elt F .f32) :
    HW d L res g0 h sm 64 f ⊢ iprop(((bV).view.loc (thr d L) ↦[bSet h]{fullShare} f) ∗ semVal (thr d L, .dma sm) 0 ∗ ((oV).view.loc (thr d L) ↦[alternate L h]{fullShare} res)) := by
  unfold HW
  rw [done_every]
  iintro ⟨Hb, Hv, Ho, -⟩
  isplitl [Hb]; · iexact Hb
  isplitl [Hv]; · iexact Hv
  iexact Ho
end Split

/-! ## The subcore's own semaphores and buffers -/

section Own
variable (d : Dev nD) (L : grid0.Coords)

abbrev cell (sm : DmaSem sig) : GSem nD τ sig := (thr d L, .dma sm)
abbrev cells : Finset (GSem nD τ sig) :=
  (((((ownCells (thr d L)).erase (cell d L cc0_scratch3.sem)).erase (cell d L cc0_scratch4.sem)).erase (cell d L cc0_scratch5.sem)).erase (cell d L cc0_scratch6.sem)).erase (cell d L cc0_scoped0.sem)

theorem cell_ne {s s' : DmaSem sig} (h : (SemLoc.dma s : SemLoc sig) ≠ .dma s') : cell d L s ≠ cell d L s' := fun e => h (congrArg Prod.snd e)
theorem mem_cell {s : DmaSem sig} (h : (SemLoc.dma s : SemLoc sig).isScoped .scVector = true) : cell d L s ∈ ownCells (thr d L) := mem_ownCells.mpr ⟨rfl, h⟩

theorem ownSems0_V :
    (ownSems0 (thr d L) : sProp (MM F))
      = iprop(semVal (cell d L cc0_scratch3.sem) 0 ∗ semVal (cell d L cc0_scratch4.sem) 0 ∗ semVal (cell d L cc0_scratch5.sem) 0 ∗ semVal (cell d L cc0_scratch6.sem) 0
          ∗ semVal (cell d L cc0_scoped0.sem) 0 ∗ bigSep (cells d L) fun g => semVal g 0) := by
  have h3 : (SemLoc.dma cc0_scratch3.sem : SemLoc sig).isScoped .scVector = true := by decide
  have h4 : (SemLoc.dma cc0_scratch4.sem : SemLoc sig).isScoped .scVector = true := by decide
  have h5 : (SemLoc.dma cc0_scratch5.sem : SemLoc sig).isScoped .scVector = true := by decide
  have h6 : (SemLoc.dma cc0_scratch6.sem : SemLoc sig).isScoped .scVector = true := by decide
  have h0 : (SemLoc.dma cc0_scoped0.sem : SemLoc sig).isScoped .scVector = true := by decide
  unfold SparseCore.Cfg.ownSems0
  rw [SparseCore.bigSep_erase' (mem_cell d L h3),
    SparseCore.bigSep_erase' (Finset.mem_erase.mpr ⟨cell_ne d L (by decide), mem_cell d L h4⟩),
    SparseCore.bigSep_erase' (Finset.mem_erase.mpr ⟨cell_ne d L (by decide), Finset.mem_erase.mpr ⟨cell_ne d L (by decide), mem_cell d L h5⟩⟩),
    SparseCore.bigSep_erase' (Finset.mem_erase.mpr ⟨cell_ne d L (by decide), Finset.mem_erase.mpr ⟨cell_ne d L (by decide),
      Finset.mem_erase.mpr ⟨cell_ne d L (by decide), mem_cell d L h6⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), mem_cell d L h0⟩⟩⟩⟩)]

abbrev bref (b : Ref sig .scVector) : DevRef τ sig := (Proc.scVector (cV L) (jV L)).devRef b
abbrev brefs : Finset (DevRef τ sig) := (((ownRefs (τ := τ) (.scVector (cV L) (jV L))).erase (bref L cc0_scratch0)).erase (bref L cc0_scratch1)).erase (bref L cc0_scratch2)

theorem ownBufs_V :
    (ownBufs (thr d L) : sProp (MM F))
      = iprop((∃ f, (sV).view.loc (thr d L) ↦{fullShare} f) ∗ (∃ f, (tV).view.loc (thr d L) ↦{fullShare} f) ∗ (∃ f, (bV).view.loc (thr d L) ↦{fullShare} f)
          ∗ bigSep (brefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bref L cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := bref L cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := bref L cc0_scratch2) rfl⟩⟩)]
end Own

/-! ## The task, as the launch states it -/

section Tile
variable [FloatOps F] (d : Dev nD) (L : grid0.Coords) (vx res g0 : S524288x96.Idx → Elt F .f32) (vi : S2048x128.Idx → Elt F .i32)

/-- What a subcore owns besides what the task names. -/
abbrev Rest : sProp (MM F) := iprop((bigSep (brefs L) fun b => iprop(∃ f, ((d, b) : Loc nD τ sig) ↦{fullShare} f)) ∗ bigSep (cells d L) fun g => semVal g 0)

/-- What the task leaves is what the tile hands back and the subcore's own things. -/
theorem tile_post (q : PosShare TreeShare) (O : CellTallies nD τ sig (HIx 1)) (W : Waits sig (HIx 1)) (I : S128x128.Idx → Elt F .i32) :
    iprop(((∃ f, HW d L res g0 1 cc0_scratch6.sem 64 f) ∗ Ow d L O W ∗ ((∃ f, HW d L res g0 0 cc0_scratch5.sem 64 f) ∗ ((sV).view.loc (thr d L) ↦{fullShare} I)
        ∗ (∃ f, Idle d L vx cc0_scratch3.sem 0 q.left f) ∗ (∃ f, Idle d L vx cc0_scratch4.sem 1 q.right f) ∗ ((iV).view.loc (thr d L) ↦{q} vi) ∗ semVal (thr d L, .dma cc0_scoped0.sem) 0)) ∗ Rest d L)
      ⊢ iprop((((xV).view.loc (thr d L) ↦{q} vx) ∗ ((iV).view.loc (thr d L) ↦{q} vi) ∗ (oV).view.loc (thr d L) ↦[rows (L 0).val (L 1).val]{fullShare} res)
        ∗ ownBufs (thr d L) ∗ ownSems0 (thr d L) ∗ ∃ W', ⌜∀ p ∈ W', p ∈ W ∨ p.2 = none⌝ ∗ owes (thr d L) O W') := by
  rw [ownSems0_V, ownBufs_V]
  unfold Ow Idle
  iintro ⟨⟨⟨%g1, HW1⟩, ⟨-, HO⟩, ⟨%g2, HW0⟩, Hs, ⟨%f0, Ht0, Hx0, H3⟩, ⟨%f1, Ht1, Hx1, H4⟩, Hi, H0⟩, Hbufs, Hsems⟩
  ihave HW1 := (half_end d L res g0 1 cc0_scratch6.sem g1) $$ HW1
  icases HW1 with ⟨Hb1, H6, Ho1⟩
  ihave HW0 := (half_end d L res g0 0 cc0_scratch5.sem g2) $$ HW0
  icases HW0 with ⟨Hb0, H5, Ho0⟩
  isplitl [Hx0 Hx1 Hi Ho0 Ho1]
  · isplitl [Hx0 Hx1]
    · iapply (pointsTo_share (PosShare.mem_left_op_right q)).2
      isplitl [Hx0]; · iexact Hx0
      iexact Hx1
    isplitl [Hi]; · iexact Hi
    iapply (rows_pts d L res).2
    isplitl [Ho0]; · iexact Ho0
    iexact Ho1
  isplitl [Hs Ht0 Ht1 Hb0 Hb1 Hbufs]
  · isplitl [Hs]; · iexists _; iexact Hs
    isplitl [Ht0 Ht1]
    · iapply (tV_whole d L f0 f1)
      isplitl [Ht0]; · iexact Ht0
      iexact Ht1
    isplitl [Hb0 Hb1]
    · iapply (bV_whole d L g2 g1)
      isplitl [Hb0]; · iexact Hb0
      iexact Hb1
    iexact Hbufs
  isplitr [HO]
  · isplitl [H3]; · iexact H3
    isplitl [H4]; · iexact H4
    isplitl [H5]; · iexact H5
    isplitl [H6]; · iexact H6
    isplitl [H0]; · iexact H0
    iexact Hsems
  iexact HO

/-- What the task starts with. -/
def Start (q : PosShare TreeShare) (O : CellTallies nD τ sig (HIx 1)) (W : Waits sig (HIx 1)) (ft : S2x16x16x96.Idx → Elt F .f32) : sProp (MM F) :=
  iprop(((iV).view.loc (thr d L) ↦{q} vi) ∗ (∃ f, (sV).view.loc (thr d L) ↦{fullShare} f) ∗ semVal (thr d L, .dma cc0_scoped0.sem) 0 ∗ Ow d L O W
    ∗ (Idle d L vx cc0_scratch3.sem 0 q.left ft ∗ Idle d L vx cc0_scratch4.sem 1 q.right ft ∗ (HS d L res g0 0 cc0_scratch5.sem 0 ∗ HS d L res g0 1 cc0_scratch6.sem 0)))

/-- What the launch gives the tile is what the task starts with and the subcore's own things. -/
theorem tile_pre (O : CellTallies nD τ sig (HIx 1)) (W : Waits sig (HIx 1)) (hO : ∀ g, O g none = 0) :
    iprop(levAts (K (F := F)).L (K (F := F)).lev ∗ emp ∗ Tile vx vi g0 d (L 0).val (L 1).val ∗ ownBufs (thr d L) ∗ ownSems0 (thr d L) ∗ owes (thr d L) O W)
      ⊢ iprop(∃ ft : S2x16x16x96.Idx → Elt F .f32, Start d L vx res g0 vi (sh (L 0).val (L 1).val) O W ft ∗ Rest d L) := by
  rw [ownSems0_V, ownBufs_V]
  iintro ⟨#Hlv, -, ⟨Hx, Hi, Ho⟩, ⟨Hs, ⟨%ft, Ht⟩, ⟨%fb, Hb⟩, Hbufs⟩, ⟨H3, H4, H5, H6, H0, Hsems⟩, HO⟩
  ihave Hmw := (show levAts (K (F := F)).L (K (F := F)).lev ⊢ MayWaits (thr d L) (default : HIx 1) O from
    (K (F := F)).mayWaits_none (thr := thr d L) hO) $$ Hlv
  ihave Hx := (pointsTo_share (PosShare.mem_left_op_right (sh (L 0).val (L 1).val))).1 $$ Hx
  icases Hx with ⟨Hx0, Hx1⟩
  ihave Ht := (tV_halves d L ft) $$ Ht
  icases Ht with ⟨Ht0, Ht1⟩
  ihave Hb := (bV_halves d L fb) $$ Hb
  icases Hb with ⟨Hb0, Hb1⟩
  ihave Ho := (rows_pts d L g0).1 $$ Ho
  icases Ho with ⟨Ho0, Ho1⟩
  iexists ft
  unfold Start
  isplitr [Hbufs Hsems]
  · isplitl [Hi]; · iexact Hi
    isplitl [Hs]; · iexact Hs
    isplitl [H0]; · iexact H0
    isplitl [HO Hmw]
    · unfold Ow
      isplitl [Hmw]; · iexact Hmw
      iexists W; isplitr; · ipureintro; exact fun p hp => .inl hp
      iexact HO
    unfold Idle
    isplitl [Ht0 Hx0 H3]
    · isplitl [Ht0]; · iexact Ht0
      isplitl [Hx0]; · iexact Hx0
      iexact H3
    isplitl [Ht1 Hx1 H4]
    · isplitl [Ht1]; · iexact Ht1
      isplitl [Hx1]; · iexact Hx1
      iexact H4
    isplitl [Hb0 H5 Ho0]
    · iapply (half_start d L res g0 0 cc0_scratch5.sem fb)
      isplitl [Hb0]; · iexact Hb0
      isplitl [H5]; · iexact H5
      iexact Ho0
    iapply (half_start d L res g0 1 cc0_scratch6.sem fb)
    isplitl [Hb1]; · iexact Hb1
    isplitl [H6]; · iexact H6
    iexact Ho1
  isplitl [Hbufs]; · iexact Hbufs
  iexact Hsems

theorem tile_body (hF : (K (F := F)).Facts) (hI : Words (tI L vi)) (hres : Result L vx (tI L vi) res)
    (O : CellTallies nD τ sig (HIx 1)) (W : Waits sig (HIx 1)) (hO : ∀ g, O g none = 0) :
    iprop(levAts (K (F := F)).L (K (F := F)).lev ∗ emp ∗ Tile vx vi g0 d (L 0).val (L 1).val
        ∗ scopedBufs (thr d L) ∗ scopedSems0 (thr d L) ∗ owes (thr d L) O W)
      ⊢ tw d L (cc0_k L xV (Memref.isWhole_whole _) iV (Memref.isWhole_whole _) oV (Memref.isWhole_whole _) sV (Memref.isWhole_whole _) tV (Memref.isWhole_whole _) bV (Memref.isWhole_whole _) cc0_scratch3 cc0_scratch4 cc0_scratch5 cc0_scratch6 cc0_scoped0)
          fun _ => iprop(Tile vx vi res d (L 0).val (L 1).val ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  refine (tile_pre d L vx res g0 vi O W hO).trans (exists_elim fun ft => ?_)
  exact (tri_mono (tri_frame (X := Rest d L) (task d L vx res g0 vi (tI L vi) _ _ _ O W rfl hI hres ft ft)) (BIBase.Entails.rfl) fun _ => tile_post d L vx res g0 vi _ O W _).out

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) xV (Memref.isWhole_whole _) iV (Memref.isWhole_whole _) oV (Memref.isWhole_whole _) sV (Memref.isWhole_whole _) tV (Memref.isWhole_whole _) bV (Memref.isWhole_whole _) cc0_scratch3 cc0_scratch4 cc0_scratch5 cc0_scratch6 cc0_scoped0) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO
end Tile

section Obl
variable [FloatOps F] {vx : Dev nD → S524288x96.Idx → Elt F .f32} {vi : Dev nD → S2048x128.Idx → Elt F .i32} {g0 res : Dev nD → S524288x96.Idx → Elt F .f32}

set_option maxRecDepth 16384 in
theorem tileObl (hF : (K (F := F)).Facts) (hI : ∀ d L, Words (tI L (vi d))) (hres : ∀ d L, Result L (vx d) (tI L (vi d)) (res d)) :
    (K (F := F)).TileObl (D (F := F)) 𝒱 (P vx vi g0 res) v₀ 0 := by
  intro d c i O W hO _ _
  simp only [show (P vx vi g0 res).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (vx d) (res d) (g0 d) (vi d) hF (hI d _) (hres d _) O W hO).trans (wp_mono frame _ _ fun _ => obl_post)
end Obl

end Cert.Proof.KI
-- ==== Proof.LaunchKI.lean ====
/-
  The whole program: the two re-shapings before the call, the call, the one after it; and its run, with the values
  the result's array is left at.
-/
module

public import proofs.«01_k».proof.Proof.ObligationKI
public import Idealize.ShloMosaic.Lib.StableHlo.Run

@[expose] public section

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

/-! ## The value -/

/-- The gather: row `p 0` of the result, in its half, is a row of the same half. It lies in the square that the first
    index of the row's block lies in, at the place within a square that the row's own index has. -/
def gathered (x : S524288x96.Idx → Elt F .f32) (v : S2048x128.Idx → Elt F .i32) : S524288x96.Idx → Elt F .f32 := fun p =>
  x (ix2 ⟨(bs ((p 0).val / 262144) (v (ix2 ⟨(p 0).val % 262144 / 256 * 2, by omega⟩ 0)).toNat
      + 512 * ((v (ix2 ⟨(p 0).val % 262144 / 128, by omega⟩ ⟨(p 0).val % 128, Nat.mod_lt _ (by decide)⟩)).toNat / 512 % 16)
      + (v (ix2 ⟨(p 0).val % 262144 / 128, by omega⟩ ⟨(p 0).val % 128, Nat.mod_lt _ (by decide)⟩)).toNat % 16) % 524288, Nat.mod_lt _ (by decide)⟩ (p 1))

theorem gathered_result (L : grid0.Coords) (x : S524288x96.Idx → Elt F .f32) (v : S2048x128.Idx → Elt F .i32) : Result L x (tI L v) (gathered x v) := by
  intro k c r hk hc hr
  have h0 : (L 0).val < 2 := (L 0).isLt
  have h1 : (L 1).val < 16 := (L 1).isLt
  have e1 : (r 0).val / 262144 = half L := by simp only [half, wid] at *; omega
  have eg : ∀ (k c : ℕ) (n : Fin 2048) (j : Fin 128), k < 128 → c < 128 → n.val = 128 * (wid L % 16) + k → j.val = c → v (ix2 n j) = gOf (tI L v) k c := by
    intro k c n j hk hc hn hj
    rw [gOf, dif_pos ⟨hk, hc⟩]
    unfold tI
    refine congrArg v (congrArg₂ ix2 (Fin.ext ?_) (Fin.ext hj))
    show n.val = (128 * (wid L % 16) + k) % 2048
    omega
  refine congrArg (fun n : Fin 524288 => x (ix2 n (r 1))) (Fin.ext ?_)
  show (bs (_ / 262144) _ + 512 * (_ / 512 % 16) + _ % 16) % 524288 = (bs (half L) _ + 512 * (_ / 512 % 16) + _ % 16) % 524288
  rw [e1, eg (k / 2 * 2) 0 _ _ (by omega) (by decide) (by show (r 0).val % 262144 / 256 * 2 = _; simp only [wid] at *; omega) rfl,
    eg k c _ _ hk hc (by show (r 0).val % 262144 / 128 = _; simp only [wid] at *; omega) (by show (r 0).val % 128 = c; omega)]

/-! ## The tiles' parts are the arrays -/

section Whole
variable (d : Dev nD)

theorem shares {ℓ : Loc nD τ sig} (f : Buf (Elt F) ℓ) :
    (ℓ ↦{fullShare} f : sProp (MM F)) = bigSep Finset.univ fun c : Fin 2 => bigSep Finset.univ fun i : Fin 16 => ℓ ↦{sh c.val i.val} f := by
  rw [ShareLeaves.pointsTo_leaves Finset.univ f 1 fullShare]
  refine bigSep_congr fun c _ => ?_
  rw [ShareLeaves.pointsTo_leaves Finset.univ f 4]
  refine bigSep_congr fun i _ => ?_
  have hc : (⟨c.val % 2, Nat.mod_lt _ (by decide)⟩ : Fin (2 ^ 1)) = c := Fin.ext (Nat.mod_eq_of_lt c.isLt)
  have hi : (⟨i.val % 16, Nat.mod_lt _ (by decide)⟩ : Fin (2 ^ 4)) = i := Fin.ext (Nat.mod_eq_of_lt i.isLt)
  unfold sh
  rw [hc, hi]

/-- The rows SparseCore `c`'s tiles write. -/
def coreRows (c : Fin 2) : Finset S524288x96.Idx := Finset.univ.biUnion fun i : Fin 16 => rows c.val i.val

theorem mem_coreRows (c : Fin 2) (p : S524288x96.Idx) : p ∈ coreRows c ↔ (p 0).val / 16384 % 2 = c.val := by
  have : (p 0).val < 524288 := (p 0).isLt
  simp only [coreRows, Finset.mem_biUnion, Finset.mem_univ, true_and, rows, mem_oSet]
  constructor
  · rintro ⟨i, hi⟩; have := c.isLt; omega
  · intro h; exact ⟨⟨(p 0).val / 32768, by omega⟩, by dsimp only; omega⟩

theorem coreRows_univ : (Finset.univ : Finset (Fin 2)).biUnion coreRows = Finset.univ := by
  ext p
  simp only [Finset.mem_biUnion, Finset.mem_univ, true_and, iff_true, mem_coreRows]
  exact ⟨⟨(p 0).val / 16384 % 2, Nat.mod_lt _ (by decide)⟩, rfl⟩

theorem coreRows_disjoint : ∀ c ∈ (Finset.univ : Finset (Fin 2)), ∀ c' ∈ (Finset.univ : Finset (Fin 2)), c ≠ c' → Disjoint (coreRows c) (coreRows c') :=
  fun c _ c' _ h => Finset.disjoint_left.mpr fun p hp hp' => h (Fin.ext (((mem_coreRows c p).mp hp).symm.trans ((mem_coreRows c' p).mp hp')))

theorem rows_disjoint (c : Fin 2) : ∀ i ∈ (Finset.univ : Finset (Fin 16)), ∀ j ∈ (Finset.univ : Finset (Fin 16)), i ≠ j → Disjoint (rows c.val i.val) (rows c.val j.val) :=
  fun i _ j _ h => Finset.disjoint_left.mpr fun p hp hp' => h (Fin.ext (by rw [rows, mem_oSet] at hp hp'; omega))

theorem all_rows (f : S524288x96.Idx → Elt F .f32) :
    (oLoc d ↦{fullShare} f : sProp (MM F)) = bigSep Finset.univ fun c : Fin 2 => bigSep Finset.univ fun i : Fin 16 => oLoc d ↦[rows c.val i.val]{fullShare} f := by
  have e := pointsTo_biUnion (Ix := HIx 1) (Val := Elt F) (Name := ℕ) (U := UU) (Lvl := ℕ) (ℓ := oLoc d) (q := fullShare) (f := f) Finset.univ coreRows coreRows_disjoint
  rw [coreRows_univ] at e
  refine e.trans (bigSep_congr fun c _ => ?_)
  exact pointsTo_biUnion (ℓ := oLoc d) (f := f) Finset.univ (fun i : Fin 16 => rows c.val i.val) (rows_disjoint c)

theorem tiles (vx : S524288x96.Idx → Elt F .f32) (vi : S2048x128.Idx → Elt F .i32) (o : S524288x96.Idx → Elt F .f32) :
    (bigSep Finset.univ fun c : Fin 2 => bigSep Finset.univ fun i : Fin 16 => Tile vx vi o d c.val i.val : sProp (MM F))
      = iprop((xLoc d ↦{fullShare} vx) ∗ (iLoc d ↦{fullShare} vi) ∗ oLoc d ↦{fullShare} o) := by
  rw [shares (ℓ := xLoc d) vx, shares (ℓ := iLoc d) vi, all_rows d o]
  simp only [bigSep_sep']

end Whole

/-! ## The launch element of the ghost state -/

section Ghost
variable {vx : Dev nD → S524288x96.Idx → Elt F .f32} {vi : Dev nD → S2048x128.Idx → Elt F .i32} {g0 res : Dev nD → S524288x96.Idx → Elt F .f32}

def u₀ : UU := (initOf (K (F := F)).hsCells (K (F := F)).hsToks, 1)

theorem emp_all {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P vx vi g0 res).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P vx vi g0 res).x q thr) = bigSep Finset.univ fun _ => iprop(emp) from
    bigSep_congr fun _ _ => bigSep_univ_of_subsingleton (0 : Fin 1), emp_all]
  iempintro
end Ghost

/-! ## The program on the TensorCore -/

abbrev r0 : DevRef τ sig := Proc.devRef .tc (main_arg0 : Ref sig .tc)
abbrev r1 : DevRef τ sig := Proc.devRef .tc (main_arg1 : Ref sig .tc)
abbrev rx : DevRef τ sig := Proc.devRef .tc (main_v0 : Ref sig .tc)
abbrev ri : DevRef τ sig := Proc.devRef .tc (main_v1 : Ref sig .tc)
abbrev ro : DevRef τ sig := Proc.devRef .tc (main_v2 : Ref sig .tc)
abbrev rr : DevRef τ sig := Proc.devRef .tc (main_v3 : Ref sig .tc)
abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v3

abbrev opX : HloOp τ sig (Elt F) := StableHlo.reshape main_arg0 main_v0 (rfl : (.f32 : EltTy) = .f32) shapeCasts_S2x512x512x96_S524288x96
abbrev opI : HloOp τ sig (Elt F) := StableHlo.reshape main_arg1 main_v1 (rfl : (.i32 : EltTy) = .i32) shapeCasts_S262144_S2048x128
abbrev opR : HloOp τ sig (Elt F) := StableHlo.reshape main_v2 main_v3 (rfl : (.f32 : EltTy) = .f32) shapeCasts_S524288x96_S2x262144x96

/-- The TensorCore's arrays. -/
abbrev SS : Finset (DevRef τ sig) := {r0, r1, rx, ri, ro, rr}

theorem held_SS (d : Dev nD) (W : Valuation τ sig (Elt F)) :
    (held (T d) SS W : sProp (MM F))
      = iprop((aLoc d ↦{fullShare} W r0) ∗ (bLoc d ↦{fullShare} W r1) ∗ (xLoc d ↦{fullShare} W rx) ∗ (iLoc d ↦{fullShare} W ri)
          ∗ (oLoc d ↦{fullShare} W ro) ∗ rLoc d ↦{fullShare} W rr) := by
  unfold held SS
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp (MM F))
      = iprop((aLoc d ↦{fullShare} W main_arg0) ∗ (bLoc d ↦{fullShare} W main_arg1) ∗ (xLoc d ↦{fullShare} W main_v0) ∗ (iLoc d ↦{fullShare} W main_v1)
          ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

section Main
variable (m : (ℓ : Loc nD τ sig) → Buf (Elt F) ℓ) (ρ : Dev nD → PrngReg)

/-- The rows and the index words as the call takes them, the result as it leaves it, and as the program returns it. -/
def vxOf (d : Dev nD) : S524288x96.Idx → Elt F .f32 := shapeCast S524288x96 (m (aLoc d)) shapeCasts_S2x512x512x96_S524288x96
def viOf (d : Dev nD) : S2048x128.Idx → Elt F .i32 := shapeCast S2048x128 (m (bLoc d)) shapeCasts_S262144_S2048x128
def goOf (d : Dev nD) : S524288x96.Idx → Elt F .f32 := m (oLoc d)
def resOf (d : Dev nD) : S524288x96.Idx → Elt F .f32 := gathered (vxOf m d) (viOf m d)
def outOf (d : Dev nD) : S2x262144x96.Idx → Elt F .f32 := shapeCast S2x262144x96 (resOf m d) shapeCasts_S524288x96_S2x262144x96

abbrev PP : (K (F := F)).Pay (nD := nD) (Val := Elt F) (Name := ℕ) (U := UU) := P (vxOf m) (viOf m) (goOf m) (resOf m)

def V0 (d : Dev nD) : Valuation τ sig (Elt F) := fun b => m (d, b)
def V2 (d : Dev nD) : Valuation τ sig (Elt F) := (opI (F := F)).result ((opX (F := F)).result (V0 m d))
def V3 (d : Dev nD) : Valuation τ sig (Elt F) := Function.update (V2 m d) ro (resOf m d)

theorem unscoped_held (d : Dev nD) : (unscopedBufs d (fun b => m ((SparseCore.T d).loc b)) : sProp (MM F)) = held (T d) SS (V0 m d) := by
  rw [unscopedBufs_eq, held_SS]; rfl

theorem V2_0 (d : Dev nD) : V2 m d r0 = m (aLoc d) := by
  unfold V2
  rw [(opI (F := F)).result_of_not_mem _ (show r0 ∉ ({ri} : Finset (DevRef τ sig)) by decide), (opX (F := F)).result_of_not_mem _ (show r0 ∉ ({rx} : Finset (DevRef τ sig)) by decide)]
  rfl
theorem V2_1 (d : Dev nD) : V2 m d r1 = m (bLoc d) := by
  unfold V2
  rw [(opI (F := F)).result_of_not_mem _ (show r1 ∉ ({ri} : Finset (DevRef τ sig)) by decide), (opX (F := F)).result_of_not_mem _ (show r1 ∉ ({rx} : Finset (DevRef τ sig)) by decide)]
  rfl
theorem V2_x (d : Dev nD) : V2 m d rx = vxOf m d := by
  unfold V2
  rw [(opI (F := F)).result_of_not_mem _ (show rx ∉ ({ri} : Finset (DevRef τ sig)) by decide)]
  exact StableHlo.reshape_result _ _ _ _ _ _ _
theorem V2_i (d : Dev nD) : V2 m d ri = viOf m d := by
  unfold V2
  refine (StableHlo.reshape_result _ _ _ _ _ _ _).trans ?_
  rw [(opX (F := F)).result_of_not_mem _ (show r1 ∉ ({rx} : Finset (DevRef τ sig)) by decide)]
  rfl
theorem V2_o (d : Dev nD) : V2 m d ro = goOf m d := by
  unfold V2
  rw [(opI (F := F)).result_of_not_mem _ (show ro ∉ ({ri} : Finset (DevRef τ sig)) by decide), (opX (F := F)).result_of_not_mem _ (show ro ∉ ({rx} : Finset (DevRef τ sig)) by decide)]
  rfl
theorem V3_ne (d : Dev nD) {b : DevRef τ sig} (h : b ≠ ro) : V3 m d b = V2 m d b := Function.update_of_ne h _ _
theorem V3_o (d : Dev nD) : V3 m d ro = resOf m d := Function.update_self _ _ _

theorem held_V2 (d : Dev nD) :
    (held (T d) SS ((opI (F := F)).result ((opX (F := F)).result (V0 m d))) : sProp (MM F))
      = iprop((aLoc d ↦{fullShare} m (aLoc d)) ∗ (bLoc d ↦{fullShare} m (bLoc d)) ∗ (xLoc d ↦{fullShare} vxOf m d) ∗ (iLoc d ↦{fullShare} viOf m d)
          ∗ (oLoc d ↦{fullShare} goOf m d) ∗ rLoc d ↦{fullShare} V2 m d rr) := by
  show held (SparseCore.T d) SS (V2 m d) = _
  rw [held_SS, V2_0, V2_1, V2_x, V2_i, V2_o]
theorem held_V3 (d : Dev nD) :
    (held (T d) SS (V3 m d) : sProp (MM F))
      = iprop((aLoc d ↦{fullShare} m (aLoc d)) ∗ (bLoc d ↦{fullShare} m (bLoc d)) ∗ (xLoc d ↦{fullShare} vxOf m d) ∗ (iLoc d ↦{fullShare} viOf m d)
          ∗ (oLoc d ↦{fullShare} resOf m d) ∗ rLoc d ↦{fullShare} V2 m d rr) := by
  rw [held_SS, V3_ne m d (show r0 ≠ ro by decide), V3_ne m d (show r1 ≠ ro by decide), V3_ne m d (show rx ≠ ro by decide), V3_ne m d (show ri ≠ ro by decide),
    V3_ne m d (show rr ≠ ro by decide), V3_o, V2_0, V2_1, V2_x, V2_i]
theorem held_V4 (d : Dev nD) :
    (held (T d) SS ((opR (F := F)).result (V3 m d)) : sProp (MM F))
      = iprop((aLoc d ↦{fullShare} m (aLoc d)) ∗ (bLoc d ↦{fullShare} m (bLoc d)) ∗ (xLoc d ↦{fullShare} (opR (F := F)).result (V3 m d) rx)
          ∗ (iLoc d ↦{fullShare} (opR (F := F)).result (V3 m d) ri) ∗ (oLoc d ↦{fullShare} (opR (F := F)).result (V3 m d) ro) ∗ rLoc d ↦{fullShare} outOf m d) := by
  rw [held_SS, (opR (F := F)).result_of_not_mem (V3 m d) (b := r0) (show r0 ∉ ({rr} : Finset (DevRef τ sig)) by decide),
    (opR (F := F)).result_of_not_mem (V3 m d) (b := r1) (show r1 ∉ ({rr} : Finset (DevRef τ sig)) by decide),
    V3_ne m d (show r0 ≠ ro by decide), V3_ne m d (show r1 ≠ ro by decide), V2_0, V2_1,
    show (opR (F := F)).result (V3 m d) rr = outOf m d from (StableHlo.reshape_result _ _ _ _ _ _ _).trans (by rw [V3_o]; rfl)]

theorem hX : (opX (F := F)).bufs ⊆ SS := show ({r0, rx} : Finset (DevRef τ sig)) ⊆ SS by decide
theorem hIx : (opI (F := F)).bufs ⊆ SS := show ({r1, ri} : Finset (DevRef τ sig)) ⊆ SS by decide
theorem hR : (opR (F := F)).bufs ⊆ SS := show ({ro, rr} : Finset (DevRef τ sig)) ⊆ SS by decide

theorem st0_eq (d : Dev nD) : (bigSep Finset.univ fun c : Fin ((K (F := F)).nCore 0) => (PP m).st 0 d c)
    = iprop((xLoc d ↦{fullShare} vxOf m d) ∗ (iLoc d ↦{fullShare} viOf m d) ∗ oLoc d ↦{fullShare} goOf m d) :=
  tiles d (vxOf m d) (viOf m d) (goOf m d)
theorem dn0_eq (d : Dev nD) : (bigSep Finset.univ fun c : Fin ((K (F := F)).nCore 0) => (PP m).dn 0 d c)
    = iprop((xLoc d ↦{fullShare} vxOf m d) ∗ (iLoc d ↦{fullShare} viOf m d) ∗ oLoc d ↦{fullShare} resOf m d) :=
  tiles d (vxOf m d) (viOf m d) (resOf m d)

/-- What the program leaves: its two arguments as they were, the result at the gather. -/
abbrev FIN (d : Dev nD) : sProp (MM F) := iprop((aLoc d ↦{fullShare} m (aLoc d)) ∗ (bLoc d ↦{fullShare} m (bLoc d)) ∗ rLoc d ↦{fullShare} outOf m d)

variable [FloatOps F]

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := SS) hX (V := V0 m d)) $$ [Hb Hheld]
  · isplitl [Hb] <;> iassumption
  iintro ⟨Hb, Hheld⟩
  rw [wp_ret]; imodintro
  iapply (wp_hlo_within 𝒱 (SparseCore.T d) none Set.univ (op := opI) (S := SS) hIx (V := (opX (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hi0, Hx, Hi, Ho, Hr⟩
  iapply ((K (F := F)).wp_run (D (F := F)) 𝒱 (EH := EH) (P := PP m) κ d 0) $$ [Hst Ha Hi0 Hx Hi Ho Hr Hb Hts]
  isplitr; · iexact Hctx
  isplitl [Hst]; · iexact Hst
  isplitl [Hx Hi Ho]
  · rw [st0_eq]
    isplitl [Hx]; · iexact Hx
    isplitl [Hi]; · iexact Hi
    iexact Ho
  iintro ⟨Hst, Hdn⟩
  ihave Hdn' := (Entails.of_eq (dn0_eq m d)) $$ Hdn
  icases Hdn' with ⟨Hx, Hi, Ho⟩
  iapply (wp_hlo_within 𝒱 (SparseCore.T d) none Set.univ (op := opR) (S := SS) hR (V := V3 m d)) $$ [Hb Ha Hi0 Hx Hi Ho Hr]
  · isplitl [Hb]; · iexact Hb
    rw [held_V3]
    isplitl [Ha]; · iexact Ha
    isplitl [Hi0]; · iexact Hi0
    isplitl [Hx]; · iexact Hx
    isplitl [Hi]; · iexact Hi
    isplitl [Ho]; · iexact Ho
    iexact Hr
  iintro ⟨Hb, Hheld⟩
  ihave Hh := (Entails.of_eq (held_V4 (F := F) m d)) $$ Hheld
  icases Hh with ⟨Ha, Hi0, -, -, -, Hr⟩
  rw [wp_ret]; imodintro; imodintro
  isplitl [Hst]; · iexact Hst
  isplitr [Hb Hts]
  · isplitl [Ha]; · iexact Ha
    isplitl [Hi0]; · iexact Hi0
    iexact Hr
  isplitl [Hb] <;> iassumption

def fq (d : Dev nD) (s' : Phys nD τ sig (Elt F)) : Prop := s'.mem.mem (rLoc d) = outOf m d ∧ s'.mem.mem (aLoc d) = m (aLoc d) ∧ s'.mem.mem (bLoc d) = m (bLoc d)

set_option maxRecDepth 16384 in
theorem hfin (d : Dev nD) (s' : Phys nD τ sig (Elt F)) : iprop(FIN m d ∗ SI s') ⊢ (⌜fq m d s'⌝ : sProp (MM F)) := by
  iintro ⟨⟨Ha, Hi, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hi]
  · isplitl [HSI] <;> iassumption
  icases H with ⟨%h2, HSI, -⟩
  ihave H := (SI_pointsTo_agree (st := s') (ℓ := rLoc d) (I := Finset.univ) (q := fullShare) (f := outOf m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The run -/

def QC : PUnit × MemSt nD τ sig (Elt F) → Prop := fun r =>
  (∀ c : Dev nD, r.2.mem (rLoc c) = outOf m c ∧ r.2.mem (aLoc c) = m (aLoc c) ∧ r.2.mem (bLoc c) = m (bLoc c)) ∧ r.2.sem = fun _ => 0

theorem run_main [∀ e, Nonempty (Elt F e)] (hI : ∀ d L, Words (tI L (viOf m d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl facts hI fun d L => gathered_result L _ _)
    (fun q _ => match q with | 0 => SparseCore.Cfg.VecSplit.of_plain vecSplit)
    m ρ main (fun _ => iprop(emp)) (FIN m) (u₀ (F := F)) (sep_elim_left.trans hu₀) (hmain m ρ) (fq m) (hfin m) (QC m) (fun _ h hz => ⟨h, hz⟩)

end Main

end Cert.Proof.KI
-- ==== Proof.FrameKI.lean ====
/-
  The run, where the indices name positions of the image: the words every tile fetches are as its task asks.
-/
module

public import proofs.«01_k».proof.Proof.LaunchKI
public import proofs.«01_k».proof.Proof.Words

@[expose] public section

noncomputable section

namespace Cert.Proof.KI

open Cert.KernelIdeal Cert.KernelIdeal.Gen

open Idealize.ShloMosaic
open Idealize.ShloMosaic.ValueIdx
open Idealize.SL.Sem

variable {F : FTy → Type} (m : (ℓ : Loc nD τ sig) → Buf (Elt F) ℓ)

/-- Word `n` of the index array, where the call's array of 2048 rows holds it. -/
theorem vi_word (d : Dev nD) (r : Fin 2048) (c : Fin 128) : viOf m d (ix2 r c) = wordAt (m (bLoc d)) (128 * r.val + c.val) := by
  have h : 128 * r.val + c.val < 262144 := by omega
  rw [wordAt, dif_pos h]
  refine shapeCast_apply _ _ _ _ ?_
  show (S262144.rowMajor _).val = (S2048x128.rowMajor _).val
  rw [Shape.rowMajor_val_one, Shape.rowMajor_val_two]
  show 128 * r.val + c.val = r.val * 128 + c.val
  omega

/-- Word `c` of row `k` of a tile's 128 rows. -/
theorem tile_word (d : Dev nD) (L : grid0.Coords) (k c : ℕ) (hk : k < 128) (hc : c < 128) :
    gOf (tI L (viOf m d)) k c = wordAt (m (bLoc d)) (128 * (128 * (wid L % 16) + k) + c) := by
  rw [gOf, dif_pos ⟨hk, hc⟩]
  refine (vi_word m d ⟨(128 * (wid L % 16) + k) % 2048, Nat.mod_lt _ (by decide)⟩ ⟨c, hc⟩).trans (congrArg (wordAt (m (bLoc d))) ?_)
  show 128 * ((128 * (wid L % 16) + k) % 2048) + c = _
  omega

theorem words_of_image (d : Dev nD) (h : InImage (m (bLoc d))) (L : grid0.Coords) : Words (tI L (viOf m d)) := ⟨fun r c => by
  by_cases hrc : r < 128 ∧ c < 128
  · rw [tile_word m d L _ _ hrc.1 hrc.2]; exact h _
  · rw [gOf, dif_neg hrc]; decide⟩

variable [FloatOps F] [∀ e, Nonempty (Elt F e)]

/-- From a memory whose index array names positions of the image, the program ends with its arguments unchanged, its
    counters at zero and the result at the gather. -/
theorem run_image (ρ : Dev nD → PrngReg) (h : ∀ d, InImage (m (bLoc d))) :
    θ_run (Cert.KernelIdeal.defs (F := F)) (Cert.KernelIdeal.threads (F := F)) ⟨m, fun _ => 0, ρ⟩ (QC m) :=
  run_main m ρ fun d L => words_of_image m d (h d) L

end Cert.Proof.KI
-- ==== Proof.Take.lean ====
/-
  The reference's value: at an index array of positions of the image, its take of the rows is the rows the array names.
-/
module

public import proofs.«01_k».proof.Proof.Words
public import Idealize.ShloMosaic.Lib.ValueIdxCore
public import proofs.«01_k».proof.Proof.Gen.ReferenceIdeal
public import proofs.«01_k».proof.Proof.Gen.ReferenceIdeal.Run

@[expose] public section

noncomputable section

namespace Cert.Proof.Ref

open Idealize.ShloMosaic
open Idealize.ShloMosaic.ValueIdx
open Cert.ReferenceIdeal Cert.ReferenceIdeal.Gen

variable {F : FTy → Type} [FloatOps F]

/-! ## A word of the range, signed -/

section Word
variable {v : BitVec 32} (h : v.toNat < 262144)
include h

theorem toInt_word : v.toInt = v.toNat := by
  rw [BitVec.toInt_eq_toNat_cond, if_pos (by omega)]
theorem not_neg : IntOp.cmpi .slt v 0#32 = 0#1 := by
  have e := toInt_word h
  simp only [IntOp.cmpi, BitVec.slt_eq_decide, e]
  rw [decide_eq_false (by simp)]; rfl
theorem ge_zero : IntOp.cmpi .sge v 0#32 = 1#1 := by
  have e := toInt_word h
  simp only [IntOp.cmpi, BitVec.sle_eq_decide, e]
  rw [decide_eq_true (by simp)]; rfl
theorem le_last : IntOp.cmpi .sle v 262143#32 = 1#1 := by
  have e := toInt_word h
  simp only [IntOp.cmpi, BitVec.sle_eq_decide, e]
  rw [decide_eq_true (by show (v.toNat : Int) ≤ 262143; omega)]; rfl
end Word

/-! ## The gather -/

abbrev GD : GatherDims S2x262144x96 S262144x1 S2x262144x96 := gather_S2x262144x96_S262144x1_S2x262144x96_02_1_n_n_1_1_2196

/-- The take along the middle axis, read at an index: the start index clamped to the axis. -/
theorem gather_apply {α : Type} (x : S2x262144x96.Idx → α) (idx : IVec S262144x1 32) (y : S2x262144x96.Idx) :
    Host.gather GD x idx y = x (ix3 (y 0) ⟨min (idx (ix2 (y 1) 0)).toInt.toNat 262143, by omega⟩ (y 2)) := by
  unfold Host.gather
  congr 1
  funext k
  refine Fin.ext ?_
  show GD.start y idx k + GD.batchCoord y k + GD.offCoord y k = _
  rw [GatherDims.batchCoord_eq_zero _ _ _ List.not_mem_nil]
  match k with
  | 0 =>
    unfold GatherDims.start
    rw [dif_neg (by decide)]
    simp only [Nat.zero_add, Nat.add_zero]
    unfold GatherDims.offCoord
    rw [dif_pos (by decide)]
    rfl
  | 1 =>
    rw [GatherDims.offCoord_eq_zero _ _ _ (by decide)]
    simp only [Nat.add_zero]
    unfold GatherDims.start
    rw [dif_pos (show (1 : Fin 3) ∈ GD.startIndexMap from List.mem_singleton.mpr rfl)]
    have hsi : GD.siIdx y ⟨List.idxOf (1 : Fin 3) GD.startIndexMap, List.idxOf_lt_length_iff.2 (List.mem_singleton.mpr rfl)⟩ = ix2 (y 1) 0 := by
      funext b; refine Fin.ext ?_
      match b with
      | 0 => rfl
      | 1 => rfl
    rw [hsi]
    rfl
  | 2 =>
    unfold GatherDims.start
    rw [dif_neg (by decide)]
    simp only [Nat.zero_add, Nat.add_zero]
    unfold GatherDims.offCoord
    rw [dif_pos (by decide)]
    rfl

/-! ## The reference's term -/

/-- The array of start indices: a negative word counted from the end. -/
abbrev starts (a : S262144.Idx → BitVec 32) : S262144x1.Idx → BitVec 32 :=
  broadcastInDim S262144x1 ![0] bcast_S262144_S262144x1_0 (select (cmpi .slt a (broadcastInDim S262144 ![] bcast_S_S262144 (constantI S_ 32 0#32))) (addi a (broadcastInDim S262144 ![] bcast_S_S262144 (constantI S_ 32 262144#32))) a)

/-- A word of the range is its own start index. -/
theorem starts_apply (a : S262144.Idx → BitVec 32) (h : ∀ n, (a n).toNat < 262144) (k : Fin 262144) : starts a (ix2 k 0) = a (ix1 k) := by
  refine (broadcastInDim_apply _ _ _ _ (ix1 k) ?_).trans ?_
  · intro b
    match b with
    | 0 => rfl
  · rw [select_apply]
    show Scalar.select (IntOp.cmpi .slt (a (ix1 k)) 0#32) _ _ = _
    rw [not_neg (h _), select_zero]

/-- Every start index is within the axis. -/
abbrev within (a : S262144.Idx → BitVec 32) : S262144.Idx → BitVec 1 :=
  Host.reduce IntOp.andi (andi (cmpi .sge (starts a) (broadcastInDim S262144x1 ![] bcast_S_S262144x1 (constantI S_ 32 0#32)))
    (cmpi .sle (starts a) (broadcastInDim S262144x1 ![0, 1] bcast_S1x1_S262144x1_0_1 (broadcastInDim S1x1 ![1] bcast_S1_S1x1_1 (constantI S1 32 262143#32)))))
    (constantI S_ 1 1#1) reducesTo_S262144x1_S262144_d1 h_S_

theorem within_one (a : S262144.Idx → BitVec 32) (h : ∀ n, (a n).toNat < 262144) (k : S262144.Idx) : within a k = 1#1 := by
  refine Host.reduce_andi_one _ _ _ _ _ rfl fun i => ?_
  have hi : i = ix2 (i 0) 0 := by
    rw [eq_ix2 i]
    exact congrArg (ix2 (i 0)) (Subsingleton.elim (α := Fin 1) _ _)
  have e : starts a i = a (ix1 (i 0)) := (congrArg (starts a) hi).trans (starts_apply a h (i 0))
  show IntOp.andi (IntOp.cmpi .sge (starts a i) 0#32) (IntOp.cmpi .sle (starts a i) 262143#32) = 1#1
  rw [e, ge_zero (h _), le_last (h _)]
  rfl

/-- The reference's result, read at an index. -/
theorem take_value (x : S2x262144x96.Idx → Elt F .f32) (a : S262144.Idx → BitVec 32) (h : ∀ n, (a n).toNat < 262144) (y : S2x262144x96.Idx) :
    select (broadcastInDim S2x262144x96 ![1] bcast_S262144_S2x262144x96_1 (within a)) (Host.gather GD x (starts a))
        (broadcastInDim S2x262144x96 ![] bcast_S_S2x262144x96 (constant S_ .f32 0x7FC00000#32 : S_.Idx → Elt F .f32)) y
      = x (ix3 (y 0) ⟨(a (ix1 (y 1))).toNat, h _⟩ (y 2)) := by
  have hm : broadcastInDim S2x262144x96 ![1] bcast_S262144_S2x262144x96_1 (within a) y = 1#1 := by
    refine (broadcastInDim_apply _ _ _ _ (ix1 (y 1)) ?_).trans (within_one a h _)
    intro b
    match b with
    | 0 => rfl
  rw [select_apply, hm, select_one, gather_apply]
  refine congrArg (fun n : Fin 262144 => x (ix3 (y 0) n (y 2))) (Fin.ext ?_)
  refine (congrArg (fun v : BitVec 32 => min v.toInt.toNat 262143) (starts_apply a h (y 1))).trans ?_
  show min (a (ix1 (y 1))).toInt.toNat 262143 = (a (ix1 (y 1))).toNat
  rw [toInt_word (h _), Int.toNat_natCast]
  have := h (ix1 (y 1))
  omega

end Cert.Proof.Ref
-- ==== Proof.Value.lean ====
/-
  The two programs' results are one: the kernel's gather, shaped as the program returns it, is the reference's take.
-/
module

public import proofs.«01_k».proof.Proof.FrameKI
public import proofs.«01_k».proof.Proof.Take

@[expose] public section

noncomputable section

namespace Cert.Proof

open Idealize.ShloMosaic
open Idealize.ShloMosaic.ValueIdx
open Idealize.SL.Sem
open Cert.KernelIdeal (nD τ sig S2x512x512x96 S524288x96 S262144 S2x262144x96)

variable {F : FTy → Type} (m : (ℓ : Loc nD τ sig) → Buf (Elt F) ℓ)

/-- The image's rows, as the reference takes from them. -/
abbrev rowsOf (d : Dev nD) : S2x262144x96.Idx → Elt F .f32 :=
  shapeCast S2x262144x96 (m (KI.aLoc d)) Cert.ReferenceIdeal.Gen.shapeCasts_S2x512x512x96_S2x262144x96

/-- A row of the array the call takes is a row of a half. -/
theorem vx_row (d : Dev nD) (b : Fin 2) (n : Fin 262144) (c : Fin 96) (r : Fin 524288) (hr : r.val = b.val * 262144 + n.val) :
    KI.vxOf m d (ix2 r c) = rowsOf m d (ix3 b n c) := by
  refine shapeCast_apply _ _ _ _ ?_
  rw [Shape.rowMajor_reshapeEquiv]
  show (S2x262144x96.rowMajor _).val = (S524288x96.rowMajor _).val
  rw [Shape.rowMajor_val_three, Shape.rowMajor_val_two]
  show (b.val * 262144 + n.val) * 96 + c.val = r.val * 96 + c.val
  rw [hr]

/-- Every entry of a list of squares names a pixel. -/
theorem Squares.lt_entry {a : S262144.Idx → BitVec 32} (h : Squares a) (n : S262144.Idx) : (a n).toNat < 262144 := by
  have hn : (n 0).val < 262144 := (n 0).isLt
  have e : wordAt a (n 0).val = a n := by
    rw [wordAt, dif_pos hn]
    exact congrArg a (eq_ix1 n).symm
  exact e ▸ h.lt _

/-- The call's result, element by element, where the indices of each block lie in one square: the element of the row
    that the index itself names. -/
theorem out_value (d : Dev nD) (hs : Squares (m (KI.bLoc d))) (hlt : ∀ n, ((m (KI.bLoc d) : S262144.Idx → BitVec 32) n).toNat < 262144) (y : S2x262144x96.Idx) :
    KI.outOf m d y = rowsOf m d (ix3 (y 0) ⟨((m (KI.bLoc d) : S262144.Idx → BitVec 32) (ix1 (y 1))).toNat, hlt _⟩ (y 2)) := by
  have h0 : (y 0).val < 2 := (y 0).isLt
  have h1 : (y 1).val < 262144 := (y 1).isLt
  have hr : (y 0).val * 262144 + (y 1).val < 524288 := by omega
  have e : KI.outOf m d y = KI.resOf m d (ix2 ⟨(y 0).val * 262144 + (y 1).val, hr⟩ (y 2)) := by
    refine shapeCast_apply _ _ _ _ ?_
    rw [Shape.rowMajor_val_two, Shape.rowMajor_val_three]
    rfl
  have hw : KI.viOf m d (ix2 ⟨((y 0).val * 262144 + (y 1).val) % 262144 / 128, by omega⟩ ⟨((y 0).val * 262144 + (y 1).val) % 128, Nat.mod_lt _ (by decide)⟩)
      = wordAt (m (KI.bLoc d)) (y 1).val := by
    rw [KI.vi_word]
    exact congrArg (wordAt (m (KI.bLoc d))) (by show 128 * (((y 0).val * 262144 + (y 1).val) % 262144 / 128) + ((y 0).val * 262144 + (y 1).val) % 128 = (y 1).val; omega)
  have hf : KI.viOf m d (ix2 ⟨((y 0).val * 262144 + (y 1).val) % 262144 / 256 * 2, by omega⟩ 0)
      = wordAt (m (KI.bLoc d)) (256 * ((y 1).val / 256)) := by
    rw [KI.vi_word]
    exact congrArg (wordAt (m (KI.bLoc d))) (by show 128 * (((y 0).val * 262144 + (y 1).val) % 262144 / 256 * 2) + 0 = 256 * ((y 1).val / 256); omega)
  have h2 : 256 * ((y 1).val / 256) + (y 1).val % 256 = (y 1).val := by omega
  have hrow := hs.row ((y 1).val / 256) ((y 1).val % 256) (by omega) (by omega)
  have hcol := hs.col ((y 1).val / 256) ((y 1).val % 256) (by omega) (by omega)
  rw [h2] at hrow hcol
  have ew : wordAt (m (KI.bLoc d)) (y 1).val = (m (KI.bLoc d) : S262144.Idx → BitVec 32) (ix1 (y 1)) := by
    rw [wordAt, dif_pos h1]
    rfl
  rw [e]
  refine vx_row m d (y 0) _ (y 2) _ ?_
  show (KI.bs (((y 0).val * 262144 + (y 1).val) / 262144) (KI.viOf m d (ix2 ⟨((y 0).val * 262144 + (y 1).val) % 262144 / 256 * 2, by omega⟩ 0)).toNat
      + 512 * ((KI.viOf m d (ix2 ⟨((y 0).val * 262144 + (y 1).val) % 262144 / 128, by omega⟩ ⟨((y 0).val * 262144 + (y 1).val) % 128, Nat.mod_lt _ (by decide)⟩)).toNat / 512 % 16)
      + (KI.viOf m d (ix2 ⟨((y 0).val * 262144 + (y 1).val) % 262144 / 128, by omega⟩ ⟨((y 0).val * 262144 + (y 1).val) % 128, Nat.mod_lt _ (by decide)⟩)).toNat % 16) % 524288
    = (y 0).val * 262144 + ((m (KI.bLoc d) : S262144.Idx → BitVec 32) (ix1 (y 1))).toNat
  rw [hw, hf, KI.in_square hrow hcol, ew]
  have := hlt (ix1 (y 1))
  omega

end Cert.Proof
-- ==== Proof.lean ====
/-
  The certificate's claims: the frames of the kernel and of the reference, and that the two compute one function.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_pixels
public import proofs.«01_k».proof.Proof.Gen.Pre_square_blocks
public import proofs.«01_k».proof.Proof.FrameK
public import proofs.«01_k».proof.Proof.FrameKI
public import proofs.«01_k».proof.Proof.Value
public import Idealize.ShloMosaic.Adequacy
public import Idealize.ShloMosaic.Init

@[expose] public section

noncomputable section

namespace Cert.Proof

open Idealize.ShloMosaic Idealize.ShloMosaic.ValueIdx Idealize.SL.Sem

theorem frame_kernel : Cert.quiescent_Kernel := fun m g hp =>
  (θ_run Cert.Kernel.defs _ _).mono (fun _ h => ⟨fun c => (h.1 c).2, h.2⟩)
    (K.run_image (F := Bits) m g fun c => image_of_pre _ _ (hp c))

theorem frame_kernelIdeal : Cert.quiescent_KernelIdeal := fun m g hp =>
  (θ_run Cert.KernelIdeal.defs _ _).mono (fun _ h => ⟨fun c => (h.1 c).2, h.2⟩)
    (KI.run_image (F := Ideal) m g fun c => image_of_pre _ _ (hp c))

theorem frame_kernelIdeal_squares : Cert.quiescent_KernelIdeal_pre_square_blocks := fun m g hp =>
  (θ_run Cert.KernelIdeal.defs _ _).mono (fun _ h => ⟨fun c => (h.1 c).2, h.2⟩)
    (KI.run_image (F := Ideal) m g fun c => (squares_of_pre _ _ (hp c)).lt)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_squares : Cert.quiescent_ReferenceIdeal_pre_square_blocks := fun m g _ =>
  (θ_run Cert.ReferenceIdeal.defs _ _).mono (fun r h => ⟨fun c => (h c).2, sem_eq_zero_of_no_sems (by decide) r.2⟩)
    (Cert.ReferenceIdeal.Value.run (F := Ideal) m g)

/-- Both programs leave the reference's take of the rows. -/
theorem values : Cert.algebraic_KernelIdeal_ReferenceIdeal_pre_square_blocks := by
  intro m g m' g' hp hargs
  have hs : ∀ c, Squares (m (KI.bLoc c)) := fun c => squares_of_pre _ _ (hp c)
  refine ⟨KI.outOf m, (θ_run Cert.KernelIdeal.defs _ _).mono (fun _ h c => h.1 c) (KI.run_image (F := Ideal) m g fun c => (hs c).lt), ?_⟩
  refine (θ_run Cert.ReferenceIdeal.defs _ _).mono (fun _ h c => ⟨(h c).1.trans ?_, (h c).2⟩) (Cert.ReferenceIdeal.Value.run (F := Ideal) m' g')
  rw [(hargs c).1, (hargs c).2]
  have hlt := (hs c).lt_entry
  funext y
  exact (Ref.take_value (rowsOf m c) (m (KI.bLoc c)) hlt y).trans (out_value m c (hs c) hlt y).symm

theorem claim : Cert.Claim := ⟨Cert.Kernel.Gen.facts, Cert.KernelIdeal.Gen.facts, Cert.ReferenceIdeal.Gen.facts, Cert.Pre_pixels.Gen.facts, Cert.Pre_square_blocks.Gen.facts,
  frame_kernel, frame_kernelIdeal, frame_kernelIdeal_squares, frame_reference, frame_reference_squares, trivial, values⟩

end Cert.Proof

end
